-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamWMod (m : (ℓ : Loc Cert.AdamWMod.nD Cert.AdamWMod.τ Cert.AdamWMod.sig) → Buf (Elt Bits) ℓ) : Prop :=
  True

def Pre_AdamWModIdeal (m : (ℓ : Loc Cert.AdamWModIdeal.nD Cert.AdamWModIdeal.τ Cert.AdamWModIdeal.sig) → Buf (Elt Ideal) ℓ) : Prop :=
  True

def Pre_AdamWModRefIdeal (m : (ℓ : Loc Cert.AdamWModRefIdeal.nD Cert.AdamWModRefIdeal.τ Cert.AdamWModRefIdeal.sig) → Buf (Elt Ideal) ℓ) : Prop :=
  True

def Pre_ModNorm (m : (ℓ : Loc Cert.ModNorm.nD Cert.ModNorm.τ Cert.ModNorm.sig) → Buf (Elt Bits) ℓ) : Prop :=
  True

def Pre_ModNormIdeal (m : (ℓ : Loc Cert.ModNormIdeal.nD Cert.ModNormIdeal.τ Cert.ModNormIdeal.sig) → Buf (Elt Ideal) ℓ) : Prop :=
  True

def Pre_ModNormRefIdeal (m : (ℓ : Loc Cert.ModNormRefIdeal.nD Cert.ModNormRefIdeal.τ Cert.ModNormRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_SwiGlu (m : (ℓ : Loc Cert.SwiGlu.nD Cert.SwiGlu.τ Cert.SwiGlu.sig) → Buf (Elt Bits) ℓ) : Prop :=
  True

def Pre_SwiGluIdeal (m : (ℓ : Loc Cert.SwiGluIdeal.nD Cert.SwiGluIdeal.τ Cert.SwiGluIdeal.sig) → Buf (Elt Ideal) ℓ) : Prop :=
  True

def Pre_SwiGluRefIdeal (m : (ℓ : Loc Cert.SwiGluRefIdeal.nD Cert.SwiGluRefIdeal.τ Cert.SwiGluRefIdeal.sig) → Buf (Elt Ideal) ℓ) : Prop :=
  True

def Pre_DnOut (m : (ℓ : Loc Cert.DnOut.nD Cert.DnOut.τ Cert.DnOut.sig) → Buf (Elt Bits) ℓ) : Prop :=
  True

def Pre_DnOutIdeal (m : (ℓ : Loc Cert.DnOutIdeal.nD Cert.DnOutIdeal.τ Cert.DnOutIdeal.sig) → Buf (Elt Ideal) ℓ) : Prop :=
  True

def Pre_DnOutRefIdeal (m : (ℓ : Loc Cert.DnOutRefIdeal.nD Cert.DnOutRefIdeal.τ Cert.DnOutRefIdeal.sig) → Buf (Elt Ideal) ℓ) : Prop :=
  True

def Pre_WModGrad (m : (ℓ : Loc Cert.WModGrad.nD Cert.WModGrad.τ Cert.WModGrad.sig) → Buf (Elt Bits) ℓ) : Prop :=
  True

def Pre_WModGradIdeal (m : (ℓ : Loc Cert.WModGradIdeal.nD Cert.WModGradIdeal.τ Cert.WModGradIdeal.sig) → Buf (Elt Ideal) ℓ) : Prop :=
  True

def Pre_WModGradRefIdeal (m : (ℓ : Loc Cert.WModGradRefIdeal.nD Cert.WModGradRefIdeal.τ Cert.WModGradRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamWMod [hAdamWMod : Cert.AdamWMod.Facts] : Prop :=
  ∀ (m : (ℓ : Loc Cert.AdamWMod.nD Cert.AdamWMod.τ Cert.AdamWMod.sig) → Buf (Elt Bits) ℓ) (g : Dev Cert.AdamWMod.nD → PrngReg), Pre_AdamWMod m →
    θ_run (Cert.AdamWMod.defs (F := Bits)) (onTc (τ := Cert.AdamWMod.τ) (Cert.AdamWMod.main (F := Bits))) ⟨m, fun _ => 0, g⟩ (fun r => (∀ c : Dev Cert.AdamWMod.nD,
      r.2.mem ((c.tc : Thread Cert.AdamWMod.nD Cert.AdamWMod.τ).loc Cert.AdamWMod.main_arg0) = m ((c.tc : Thread Cert.AdamWMod.nD Cert.AdamWMod.τ).loc Cert.AdamWMod.main_arg0)
      ∧ r.2.mem ((c.tc : Thread Cert.AdamWMod.nD Cert.AdamWMod.τ).loc Cert.AdamWMod.main_arg1) = m ((c.tc : Thread Cert.AdamWMod.nD Cert.AdamWMod.τ).loc Cert.AdamWMod.main_arg1)
      ∧ r.2.mem ((c.tc : Thread Cert.AdamWMod.nD Cert.AdamWMod.τ).loc Cert.AdamWMod.main_arg2) = m ((c.tc : Thread Cert.AdamWMod.nD Cert.AdamWMod.τ).loc Cert.AdamWMod.main_arg2)
      ∧ r.2.mem ((c.tc : Thread Cert.AdamWMod.nD Cert.AdamWMod.τ).loc Cert.AdamWMod.main_arg3) = m ((c.tc : Thread Cert.AdamWMod.nD Cert.AdamWMod.τ).loc Cert.AdamWMod.main_arg3))
      ∧ r.2.sem = fun _ => 0)

def quiescent_AdamWModIdeal [hAdamWModIdeal : Cert.AdamWModIdeal.Facts] : Prop :=
  ∀ (m : (ℓ : Loc Cert.AdamWModIdeal.nD Cert.AdamWModIdeal.τ Cert.AdamWModIdeal.sig) → Buf (Elt Ideal) ℓ) (g : Dev Cert.AdamWModIdeal.nD → PrngReg), Pre_AdamWModIdeal m →
    θ_run (Cert.AdamWModIdeal.defs (F := Ideal)) (onTc (τ := Cert.AdamWModIdeal.τ) (Cert.AdamWModIdeal.main (F := Ideal))) ⟨m, fun _ => 0, g⟩ (fun r => (∀ c : Dev Cert.AdamWModIdeal.nD,
      r.2.mem ((c.tc : Thread Cert.AdamWModIdeal.nD Cert.AdamWModIdeal.τ).loc Cert.AdamWModIdeal.main_arg0) = m ((c.tc : Thread Cert.AdamWModIdeal.nD Cert.AdamWModIdeal.τ).loc Cert.AdamWModIdeal.main_arg0)
      ∧ r.2.mem ((c.tc : Thread Cert.AdamWModIdeal.nD Cert.AdamWModIdeal.τ).loc Cert.AdamWModIdeal.main_arg1) = m ((c.tc : Thread Cert.AdamWModIdeal.nD Cert.AdamWModIdeal.τ).loc Cert.AdamWModIdeal.main_arg1)
      ∧ r.2.mem ((c.tc : Thread Cert.AdamWModIdeal.nD Cert.AdamWModIdeal.τ).loc Cert.AdamWModIdeal.main_arg2) = m ((c.tc : Thread Cert.AdamWModIdeal.nD Cert.AdamWModIdeal.τ).loc Cert.AdamWModIdeal.main_arg2)
      ∧ r.2.mem ((c.tc : Thread Cert.AdamWModIdeal.nD Cert.AdamWModIdeal.τ).loc Cert.AdamWModIdeal.main_arg3) = m ((c.tc : Thread Cert.AdamWModIdeal.nD Cert.AdamWModIdeal.τ).loc Cert.AdamWModIdeal.main_arg3))
      ∧ r.2.sem = fun _ => 0)

def quiescent_AdamWModRefIdeal [hAdamWModRefIdeal : Cert.AdamWModRefIdeal.Facts] : Prop :=
  ∀ (m : (ℓ : Loc Cert.AdamWModRefIdeal.nD Cert.AdamWModRefIdeal.τ Cert.AdamWModRefIdeal.sig) → Buf (Elt Ideal) ℓ) (g : Dev Cert.AdamWModRefIdeal.nD → PrngReg), Pre_AdamWModRefIdeal m →
    θ_run (Cert.AdamWModRefIdeal.defs (F := Ideal)) (onTc (τ := Cert.AdamWModRefIdeal.τ) (Cert.AdamWModRefIdeal.main (F := Ideal))) ⟨m, fun _ => 0, g⟩ (fun r => (∀ c : Dev Cert.AdamWModRefIdeal.nD,
      r.2.mem ((c.tc : Thread Cert.AdamWModRefIdeal.nD Cert.AdamWModRefIdeal.τ).loc Cert.AdamWModRefIdeal.main_arg0) = m ((c.tc : Thread Cert.AdamWModRefIdeal.nD Cert.AdamWModRefIdeal.τ).loc Cert.AdamWModRefIdeal.main_arg0)
      ∧ r.2.mem ((c.tc : Thread Cert.AdamWModRefIdeal.nD Cert.AdamWModRefIdeal.τ).loc Cert.AdamWModRefIdeal.main_arg1) = m ((c.tc : Thread Cert.AdamWModRefIdeal.nD Cert.AdamWModRefIdeal.τ).loc Cert.AdamWModRefIdeal.main_arg1)
      ∧ r.2.mem ((c.tc : Thread Cert.AdamWModRefIdeal.nD Cert.AdamWModRefIdeal.τ).loc Cert.AdamWModRefIdeal.main_arg2) = m ((c.tc : Thread Cert.AdamWModRefIdeal.nD Cert.AdamWModRefIdeal.τ).loc Cert.AdamWModRefIdeal.main_arg2)
      ∧ r.2.mem ((c.tc : Thread Cert.AdamWModRefIdeal.nD Cert.AdamWModRefIdeal.τ).loc Cert.AdamWModRefIdeal.main_arg3) = m ((c.tc : Thread Cert.AdamWModRefIdeal.nD Cert.AdamWModRefIdeal.τ).loc Cert.AdamWModRefIdeal.main_arg3))
      ∧ r.2.sem = fun _ => 0)

def quiescent_ModNorm [hModNorm : Cert.ModNorm.Facts] : Prop :=
  ∀ (m : (ℓ : Loc Cert.ModNorm.nD Cert.ModNorm.τ Cert.ModNorm.sig) → Buf (Elt Bits) ℓ) (g : Dev Cert.ModNorm.nD → PrngReg), Pre_ModNorm m →
    θ_run (Cert.ModNorm.defs (F := Bits)) (onTc (τ := Cert.ModNorm.τ) (Cert.ModNorm.main (F := Bits))) ⟨m, fun _ => 0, g⟩ (fun r => (∀ c : Dev Cert.ModNorm.nD,
      r.2.mem ((c.tc : Thread Cert.ModNorm.nD Cert.ModNorm.τ).loc Cert.ModNorm.main_arg0) = m ((c.tc : Thread Cert.ModNorm.nD Cert.ModNorm.τ).loc Cert.ModNorm.main_arg0)
      ∧ r.2.mem ((c.tc : Thread Cert.ModNorm.nD Cert.ModNorm.τ).loc Cert.ModNorm.main_arg1) = m ((c.tc : Thread Cert.ModNorm.nD Cert.ModNorm.τ).loc Cert.ModNorm.main_arg1)
      ∧ r.2.mem ((c.tc : Thread Cert.ModNorm.nD Cert.ModNorm.τ).loc Cert.ModNorm.main_arg2) = m ((c.tc : Thread Cert.ModNorm.nD Cert.ModNorm.τ).loc Cert.ModNorm.main_arg2)
      ∧ r.2.mem ((c.tc : Thread Cert.ModNorm.nD Cert.ModNorm.τ).loc Cert.ModNorm.main_arg3) = m ((c.tc : Thread Cert.ModNorm.nD Cert.ModNorm.τ).loc Cert.ModNorm.main_arg3)
      ∧ r.2.mem ((c.tc : Thread Cert.ModNorm.nD Cert.ModNorm.τ).loc Cert.ModNorm.main_arg4) = m ((c.tc : Thread Cert.ModNorm.nD Cert.ModNorm.τ).loc Cert.ModNorm.main_arg4)
      ∧ r.2.mem ((c.tc : Thread Cert.ModNorm.nD Cert.ModNorm.τ).loc Cert.ModNorm.main_arg5) = m ((c.tc : Thread Cert.ModNorm.nD Cert.ModNorm.τ).loc Cert.ModNorm.main_arg5))
      ∧ r.2.sem = fun _ => 0)

def quiescent_ModNormIdeal [hModNormIdeal : Cert.ModNormIdeal.Facts] : Prop :=
  ∀ (m : (ℓ : Loc Cert.ModNormIdeal.nD Cert.ModNormIdeal.τ Cert.ModNormIdeal.sig) → Buf (Elt Ideal) ℓ) (g : Dev Cert.ModNormIdeal.nD → PrngReg), Pre_ModNormIdeal m →
    θ_run (Cert.ModNormIdeal.defs (F := Ideal)) (onTc (τ := Cert.ModNormIdeal.τ) (Cert.ModNormIdeal.main (F := Ideal))) ⟨m, fun _ => 0, g⟩ (fun r => (∀ c : Dev Cert.ModNormIdeal.nD,
      r.2.mem ((c.tc : Thread Cert.ModNormIdeal.nD Cert.ModNormIdeal.τ).loc Cert.ModNormIdeal.main_arg0) = m ((c.tc : Thread Cert.ModNormIdeal.nD Cert.ModNormIdeal.τ).loc Cert.ModNormIdeal.main_arg0)
      ∧ r.2.mem ((c.tc : Thread Cert.ModNormIdeal.nD Cert.ModNormIdeal.τ).loc Cert.ModNormIdeal.main_arg1) = m ((c.tc : Thread Cert.ModNormIdeal.nD Cert.ModNormIdeal.τ).loc Cert.ModNormIdeal.main_arg1)
      ∧ r.2.mem ((c.tc : Thread Cert.ModNormIdeal.nD Cert.ModNormIdeal.τ).loc Cert.ModNormIdeal.main_arg2) = m ((c.tc : Thread Cert.ModNormIdeal.nD Cert.ModNormIdeal.τ).loc Cert.ModNormIdeal.main_arg2)
      ∧ r.2.mem ((c.tc : Thread Cert.ModNormIdeal.nD Cert.ModNormIdeal.τ).loc Cert.ModNormIdeal.main_arg3) = m ((c.tc : Thread Cert.ModNormIdeal.nD Cert.ModNormIdeal.τ).loc Cert.ModNormIdeal.main_arg3)
      ∧ r.2.mem ((c.tc : Thread Cert.ModNormIdeal.nD Cert.ModNormIdeal.τ).loc Cert.ModNormIdeal.main_arg4) = m ((c.tc : Thread Cert.ModNormIdeal.nD Cert.ModNormIdeal.τ).loc Cert.ModNormIdeal.main_arg4)
      ∧ r.2.mem ((c.tc : Thread Cert.ModNormIdeal.nD Cert.ModNormIdeal.τ).loc Cert.ModNormIdeal.main_arg5) = m ((c.tc : Thread Cert.ModNormIdeal.nD Cert.ModNormIdeal.τ).loc Cert.ModNormIdeal.main_arg5))
      ∧ r.2.sem = fun _ => 0)

def quiescent_ModNormRefIdeal [hModNormRefIdeal : Cert.ModNormRefIdeal.Facts] : Prop :=
  ∀ (m : (ℓ : Loc Cert.ModNormRefIdeal.nD Cert.ModNormRefIdeal.τ Cert.ModNormRefIdeal.sig) → Buf (Elt Ideal) ℓ) (g : Dev Cert.ModNormRefIdeal.nD → PrngReg), Pre_ModNormRefIdeal m →
    θ_run (Cert.ModNormRefIdeal.defs (F := Ideal)) (onTc (τ := Cert.ModNormRefIdeal.τ) (Cert.ModNormRefIdeal.main (F := Ideal))) ⟨m, fun _ => 0, g⟩ (fun r => (∀ c : Dev Cert.ModNormRefIdeal.nD,
      r.2.mem ((c.tc : Thread Cert.ModNormRefIdeal.nD Cert.ModNormRefIdeal.τ).loc Cert.ModNormRefIdeal.main_arg0) = m ((c.tc : Thread Cert.ModNormRefIdeal.nD Cert.ModNormRefIdeal.τ).loc Cert.ModNormRefIdeal.main_arg0)
      ∧ r.2.mem ((c.tc : Thread Cert.ModNormRefIdeal.nD Cert.ModNormRefIdeal.τ).loc Cert.ModNormRefIdeal.main_arg1) = m ((c.tc : Thread Cert.ModNormRefIdeal.nD Cert.ModNormRefIdeal.τ).loc Cert.ModNormRefIdeal.main_arg1)
      ∧ r.2.mem ((c.tc : Thread Cert.ModNormRefIdeal.nD Cert.ModNormRefIdeal.τ).loc Cert.ModNormRefIdeal.main_arg2) = m ((c.tc : Thread Cert.ModNormRefIdeal.nD Cert.ModNormRefIdeal.τ).loc Cert.ModNormRefIdeal.main_arg2)
      ∧ r.2.mem ((c.tc : Thread Cert.ModNormRefIdeal.nD Cert.ModNormRefIdeal.τ).loc Cert.ModNormRefIdeal.main_arg3) = m ((c.tc : Thread Cert.ModNormRefIdeal.nD Cert.ModNormRefIdeal.τ).loc Cert.ModNormRefIdeal.main_arg3)
      ∧ r.2.mem ((c.tc : Thread Cert.ModNormRefIdeal.nD Cert.ModNormRefIdeal.τ).loc Cert.ModNormRefIdeal.main_arg4) = m ((c.tc : Thread Cert.ModNormRefIdeal.nD Cert.ModNormRefIdeal.τ).loc Cert.ModNormRefIdeal.main_arg4)
      ∧ r.2.mem ((c.tc : Thread Cert.ModNormRefIdeal.nD Cert.ModNormRefIdeal.τ).loc Cert.ModNormRefIdeal.main_arg5) = m ((c.tc : Thread Cert.ModNormRefIdeal.nD Cert.ModNormRefIdeal.τ).loc Cert.ModNormRefIdeal.main_arg5))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def quiescent_SwiGlu [hSwiGlu : Cert.SwiGlu.Facts] : Prop :=
  ∀ (m : (ℓ : Loc Cert.SwiGlu.nD Cert.SwiGlu.τ Cert.SwiGlu.sig) → Buf (Elt Bits) ℓ) (g : Dev Cert.SwiGlu.nD → PrngReg), Pre_SwiGlu m →
    θ_run (Cert.SwiGlu.defs (F := Bits)) (onTc (τ := Cert.SwiGlu.τ) (Cert.SwiGlu.main (F := Bits))) ⟨m, fun _ => 0, g⟩ (fun r => (∀ c : Dev Cert.SwiGlu.nD,
      r.2.mem ((c.tc : Thread Cert.SwiGlu.nD Cert.SwiGlu.τ).loc Cert.SwiGlu.main_arg0) = m ((c.tc : Thread Cert.SwiGlu.nD Cert.SwiGlu.τ).loc Cert.SwiGlu.main_arg0)
      ∧ r.2.mem ((c.tc : Thread Cert.SwiGlu.nD Cert.SwiGlu.τ).loc Cert.SwiGlu.main_arg1) = m ((c.tc : Thread Cert.SwiGlu.nD Cert.SwiGlu.τ).loc Cert.SwiGlu.main_arg1))
      ∧ r.2.sem = fun _ => 0)

def quiescent_SwiGluIdeal [hSwiGluIdeal : Cert.SwiGluIdeal.Facts] : Prop :=
  ∀ (m : (ℓ : Loc Cert.SwiGluIdeal.nD Cert.SwiGluIdeal.τ Cert.SwiGluIdeal.sig) → Buf (Elt Ideal) ℓ) (g : Dev Cert.SwiGluIdeal.nD → PrngReg), Pre_SwiGluIdeal m →
    θ_run (Cert.SwiGluIdeal.defs (F := Ideal)) (onTc (τ := Cert.SwiGluIdeal.τ) (Cert.SwiGluIdeal.main (F := Ideal))) ⟨m, fun _ => 0, g⟩ (fun r => (∀ c : Dev Cert.SwiGluIdeal.nD,
      r.2.mem ((c.tc : Thread Cert.SwiGluIdeal.nD Cert.SwiGluIdeal.τ).loc Cert.SwiGluIdeal.main_arg0) = m ((c.tc : Thread Cert.SwiGluIdeal.nD Cert.SwiGluIdeal.τ).loc Cert.SwiGluIdeal.main_arg0)
      ∧ r.2.mem ((c.tc : Thread Cert.SwiGluIdeal.nD Cert.SwiGluIdeal.τ).loc Cert.SwiGluIdeal.main_arg1) = m ((c.tc : Thread Cert.SwiGluIdeal.nD Cert.SwiGluIdeal.τ).loc Cert.SwiGluIdeal.main_arg1))
      ∧ r.2.sem = fun _ => 0)

def quiescent_SwiGluRefIdeal [hSwiGluRefIdeal : Cert.SwiGluRefIdeal.Facts] : Prop :=
  ∀ (m : (ℓ : Loc Cert.SwiGluRefIdeal.nD Cert.SwiGluRefIdeal.τ Cert.SwiGluRefIdeal.sig) → Buf (Elt Ideal) ℓ) (g : Dev Cert.SwiGluRefIdeal.nD → PrngReg), Pre_SwiGluRefIdeal m →
    θ_run (Cert.SwiGluRefIdeal.defs (F := Ideal)) (onTc (τ := Cert.SwiGluRefIdeal.τ) (Cert.SwiGluRefIdeal.main (F := Ideal))) ⟨m, fun _ => 0, g⟩ (fun r => (∀ c : Dev Cert.SwiGluRefIdeal.nD,
      r.2.mem ((c.tc : Thread Cert.SwiGluRefIdeal.nD Cert.SwiGluRefIdeal.τ).loc Cert.SwiGluRefIdeal.main_arg0) = m ((c.tc : Thread Cert.SwiGluRefIdeal.nD Cert.SwiGluRefIdeal.τ).loc Cert.SwiGluRefIdeal.main_arg0)
      ∧ r.2.mem ((c.tc : Thread Cert.SwiGluRefIdeal.nD Cert.SwiGluRefIdeal.τ).loc Cert.SwiGluRefIdeal.main_arg1) = m ((c.tc : Thread Cert.SwiGluRefIdeal.nD Cert.SwiGluRefIdeal.τ).loc Cert.SwiGluRefIdeal.main_arg1))
      ∧ r.2.sem = fun _ => 0)

def quiescent_DnOut [hDnOut : Cert.DnOut.Facts] : Prop :=
  ∀ (m : (ℓ : Loc Cert.DnOut.nD Cert.DnOut.τ Cert.DnOut.sig) → Buf (Elt Bits) ℓ) (g : Dev Cert.DnOut.nD → PrngReg), Pre_DnOut m →
    θ_run (Cert.DnOut.defs (F := Bits)) (onTc (τ := Cert.DnOut.τ) (Cert.DnOut.main (F := Bits))) ⟨m, fun _ => 0, g⟩ (fun r => (∀ c : Dev Cert.DnOut.nD,
      r.2.mem ((c.tc : Thread Cert.DnOut.nD Cert.DnOut.τ).loc Cert.DnOut.main_arg0) = m ((c.tc : Thread Cert.DnOut.nD Cert.DnOut.τ).loc Cert.DnOut.main_arg0)
      ∧ r.2.mem ((c.tc : Thread Cert.DnOut.nD Cert.DnOut.τ).loc Cert.DnOut.main_arg1) = m ((c.tc : Thread Cert.DnOut.nD Cert.DnOut.τ).loc Cert.DnOut.main_arg1)
      ∧ r.2.mem ((c.tc : Thread Cert.DnOut.nD Cert.DnOut.τ).loc Cert.DnOut.main_arg2) = m ((c.tc : Thread Cert.DnOut.nD Cert.DnOut.τ).loc Cert.DnOut.main_arg2)
      ∧ r.2.mem ((c.tc : Thread Cert.DnOut.nD Cert.DnOut.τ).loc Cert.DnOut.main_arg3) = m ((c.tc : Thread Cert.DnOut.nD Cert.DnOut.τ).loc Cert.DnOut.main_arg3))
      ∧ r.2.sem = fun _ => 0)

def quiescent_DnOutIdeal [hDnOutIdeal : Cert.DnOutIdeal.Facts] : Prop :=
  ∀ (m : (ℓ : Loc Cert.DnOutIdeal.nD Cert.DnOutIdeal.τ Cert.DnOutIdeal.sig) → Buf (Elt Ideal) ℓ) (g : Dev Cert.DnOutIdeal.nD → PrngReg), Pre_DnOutIdeal m →
    θ_run (Cert.DnOutIdeal.defs (F := Ideal)) (onTc (τ := Cert.DnOutIdeal.τ) (Cert.DnOutIdeal.main (F := Ideal))) ⟨m, fun _ => 0, g⟩ (fun r => (∀ c : Dev Cert.DnOutIdeal.nD,
      r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
      ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
      ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
      ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3))
      ∧ r.2.sem = fun _ => 0)

def quiescent_DnOutRefIdeal [hDnOutRefIdeal : Cert.DnOutRefIdeal.Facts] : Prop :=
  ∀ (m : (ℓ : Loc Cert.DnOutRefIdeal.nD Cert.DnOutRefIdeal.τ Cert.DnOutRefIdeal.sig) → Buf (Elt Ideal) ℓ) (g : Dev Cert.DnOutRefIdeal.nD → PrngReg), Pre_DnOutRefIdeal m →
    θ_run (Cert.DnOutRefIdeal.defs (F := Ideal)) (onTc (τ := Cert.DnOutRefIdeal.τ) (Cert.DnOutRefIdeal.main (F := Ideal))) ⟨m, fun _ => 0, g⟩ (fun r => (∀ c : Dev Cert.DnOutRefIdeal.nD,
      r.2.mem ((c.tc : Thread Cert.DnOutRefIdeal.nD Cert.DnOutRefIdeal.τ).loc Cert.DnOutRefIdeal.main_arg0) = m ((c.tc : Thread Cert.DnOutRefIdeal.nD Cert.DnOutRefIdeal.τ).loc Cert.DnOutRefIdeal.main_arg0)
      ∧ r.2.mem ((c.tc : Thread Cert.DnOutRefIdeal.nD Cert.DnOutRefIdeal.τ).loc Cert.DnOutRefIdeal.main_arg1) = m ((c.tc : Thread Cert.DnOutRefIdeal.nD Cert.DnOutRefIdeal.τ).loc Cert.DnOutRefIdeal.main_arg1)
      ∧ r.2.mem ((c.tc : Thread Cert.DnOutRefIdeal.nD Cert.DnOutRefIdeal.τ).loc Cert.DnOutRefIdeal.main_arg2) = m ((c.tc : Thread Cert.DnOutRefIdeal.nD Cert.DnOutRefIdeal.τ).loc Cert.DnOutRefIdeal.main_arg2)
      ∧ r.2.mem ((c.tc : Thread Cert.DnOutRefIdeal.nD Cert.DnOutRefIdeal.τ).loc Cert.DnOutRefIdeal.main_arg3) = m ((c.tc : Thread Cert.DnOutRefIdeal.nD Cert.DnOutRefIdeal.τ).loc Cert.DnOutRefIdeal.main_arg3))
      ∧ r.2.sem = fun _ => 0)

def quiescent_WModGrad [hWModGrad : Cert.WModGrad.Facts] : Prop :=
  ∀ (m : (ℓ : Loc Cert.WModGrad.nD Cert.WModGrad.τ Cert.WModGrad.sig) → Buf (Elt Bits) ℓ) (g : Dev Cert.WModGrad.nD → PrngReg), Pre_WModGrad m →
    θ_run (Cert.WModGrad.defs (F := Bits)) (onTc (τ := Cert.WModGrad.τ) (Cert.WModGrad.main (F := Bits))) ⟨m, fun _ => 0, g⟩ (fun r => (∀ c : Dev Cert.WModGrad.nD,
      r.2.mem ((c.tc : Thread Cert.WModGrad.nD Cert.WModGrad.τ).loc Cert.WModGrad.main_arg0) = m ((c.tc : Thread Cert.WModGrad.nD Cert.WModGrad.τ).loc Cert.WModGrad.main_arg0)
      ∧ r.2.mem ((c.tc : Thread Cert.WModGrad.nD Cert.WModGrad.τ).loc Cert.WModGrad.main_arg1) = m ((c.tc : Thread Cert.WModGrad.nD Cert.WModGrad.τ).loc Cert.WModGrad.main_arg1))
      ∧ r.2.sem = fun _ => 0)

def quiescent_WModGradIdeal [hWModGradIdeal : Cert.WModGradIdeal.Facts] : Prop :=
  ∀ (m : (ℓ : Loc Cert.WModGradIdeal.nD Cert.WModGradIdeal.τ Cert.WModGradIdeal.sig) → Buf (Elt Ideal) ℓ) (g : Dev Cert.WModGradIdeal.nD → PrngReg), Pre_WModGradIdeal m →
    θ_run (Cert.WModGradIdeal.defs (F := Ideal)) (onTc (τ := Cert.WModGradIdeal.τ) (Cert.WModGradIdeal.main (F := Ideal))) ⟨m, fun _ => 0, g⟩ (fun r => (∀ c : Dev Cert.WModGradIdeal.nD,
      r.2.mem ((c.tc : Thread Cert.WModGradIdeal.nD Cert.WModGradIdeal.τ).loc Cert.WModGradIdeal.main_arg0) = m ((c.tc : Thread Cert.WModGradIdeal.nD Cert.WModGradIdeal.τ).loc Cert.WModGradIdeal.main_arg0)
      ∧ r.2.mem ((c.tc : Thread Cert.WModGradIdeal.nD Cert.WModGradIdeal.τ).loc Cert.WModGradIdeal.main_arg1) = m ((c.tc : Thread Cert.WModGradIdeal.nD Cert.WModGradIdeal.τ).loc Cert.WModGradIdeal.main_arg1))
      ∧ r.2.sem = fun _ => 0)

def quiescent_WModGradRefIdeal [hWModGradRefIdeal : Cert.WModGradRefIdeal.Facts] : Prop :=
  ∀ (m : (ℓ : Loc Cert.WModGradRefIdeal.nD Cert.WModGradRefIdeal.τ Cert.WModGradRefIdeal.sig) → Buf (Elt Ideal) ℓ) (g : Dev Cert.WModGradRefIdeal.nD → PrngReg), Pre_WModGradRefIdeal m →
    θ_run (Cert.WModGradRefIdeal.defs (F := Ideal)) (onTc (τ := Cert.WModGradRefIdeal.τ) (Cert.WModGradRefIdeal.main (F := Ideal))) ⟨m, fun _ => 0, g⟩ (fun r => (∀ c : Dev Cert.WModGradRefIdeal.nD,
      r.2.mem ((c.tc : Thread Cert.WModGradRefIdeal.nD Cert.WModGradRefIdeal.τ).loc Cert.WModGradRefIdeal.main_arg0) = m ((c.tc : Thread Cert.WModGradRefIdeal.nD Cert.WModGradRefIdeal.τ).loc Cert.WModGradRefIdeal.main_arg0)
      ∧ r.2.mem ((c.tc : Thread Cert.WModGradRefIdeal.nD Cert.WModGradRefIdeal.τ).loc Cert.WModGradRefIdeal.main_arg1) = m ((c.tc : Thread Cert.WModGradRefIdeal.nD Cert.WModGradRefIdeal.τ).loc Cert.WModGradRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_v113) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v2)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v2) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v1) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v2)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v2) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v2) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v2)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v2) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v0) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v2)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v2) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v2) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v2)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v2) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v0) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v2)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v2) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v2) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)) →
    ∃ (v0 : (c : Dev Cert.InProjDxIdeal.nD) → Buf (Elt Ideal) ((c.tc : Thread Cert.InProjDxIdeal.nD Cert.InProjDxIdeal.τ).loc Cert.InProjDxIdeal.main_v12)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v12) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v0) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v7)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v7) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v7) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v2) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v1) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v0) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v9_0)) (v1 : (c : Dev Cert.AdamWInIdeal.nD) → Buf (Elt Ideal) ((c.tc : Thread Cert.AdamWInIdeal.nD Cert.AdamWInIdeal.τ).loc Cert.AdamWInIdeal.main_v9_1)) (v2 : (c : Dev Cert.AdamWInIdeal.nD) → Buf (Elt Ideal) ((c.tc : Thread Cert.AdamWInIdeal.nD Cert.AdamWInIdeal.τ).loc Cert.AdamWInIdeal.main_v9_2)) (v3 : (c : Dev Cert.AdamWInIdeal.nD) → Buf (Elt Ideal) ((c.tc : Thread Cert.AdamWInIdeal.nD Cert.AdamWInIdeal.τ).loc Cert.AdamWInIdeal.main_v9_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v9_0) = v0 c
          ∧ r.2.mem ((c.tc : Thread Cert.AdamWInIdeal.nD Cert.AdamWInIdeal.τ).loc Cert.AdamWInIdeal.main_v9_1) = v1 c
          ∧ r.2.mem ((c.tc : Thread Cert.AdamWInIdeal.nD Cert.AdamWInIdeal.τ).loc Cert.AdamWInIdeal.main_v9_2) = v2 c
          ∧ r.2.mem ((c.tc : Thread Cert.AdamWInIdeal.nD Cert.AdamWInIdeal.τ).loc Cert.AdamWInIdeal.main_v9_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v29) = v0 c
          ∧ r.2.mem ((c.tc : Thread Cert.AdamWInRefIdeal.nD Cert.AdamWInRefIdeal.τ).loc Cert.AdamWInRefIdeal.main_v30) = v1 c
          ∧ r.2.mem ((c.tc : Thread Cert.AdamWInRefIdeal.nD Cert.AdamWInRefIdeal.τ).loc Cert.AdamWInRefIdeal.main_v31) = v2 c
          ∧ r.2.mem ((c.tc : Thread Cert.AdamWInRefIdeal.nD Cert.AdamWInRefIdeal.τ).loc Cert.AdamWInRefIdeal.main_v32) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v8_0)) (v1 : (c : Dev Cert.AdamWOutIdeal.nD) → Buf (Elt Ideal) ((c.tc : Thread Cert.AdamWOutIdeal.nD Cert.AdamWOutIdeal.τ).loc Cert.AdamWOutIdeal.main_v8_1)) (v2 : (c : Dev Cert.AdamWOutIdeal.nD) → Buf (Elt Ideal) ((c.tc : Thread Cert.AdamWOutIdeal.nD Cert.AdamWOutIdeal.τ).loc Cert.AdamWOutIdeal.main_v8_2)) (v3 : (c : Dev Cert.AdamWOutIdeal.nD) → Buf (Elt Ideal) ((c.tc : Thread Cert.AdamWOutIdeal.nD Cert.AdamWOutIdeal.τ).loc Cert.AdamWOutIdeal.main_v8_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v8_0) = v0 c
          ∧ r.2.mem ((c.tc : Thread Cert.AdamWOutIdeal.nD Cert.AdamWOutIdeal.τ).loc Cert.AdamWOutIdeal.main_v8_1) = v1 c
          ∧ r.2.mem ((c.tc : Thread Cert.AdamWOutIdeal.nD Cert.AdamWOutIdeal.τ).loc Cert.AdamWOutIdeal.main_v8_2) = v2 c
          ∧ r.2.mem ((c.tc : Thread Cert.AdamWOutIdeal.nD Cert.AdamWOutIdeal.τ).loc Cert.AdamWOutIdeal.main_v8_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v25) = v0 c
          ∧ r.2.mem ((c.tc : Thread Cert.AdamWOutRefIdeal.nD Cert.AdamWOutRefIdeal.τ).loc Cert.AdamWOutRefIdeal.main_v26) = v1 c
          ∧ r.2.mem ((c.tc : Thread Cert.AdamWOutRefIdeal.nD Cert.AdamWOutRefIdeal.τ).loc Cert.AdamWOutRefIdeal.main_v27) = v2 c
          ∧ r.2.mem ((c.tc : Thread Cert.AdamWOutRefIdeal.nD Cert.AdamWOutRefIdeal.τ).loc Cert.AdamWOutRefIdeal.main_v28) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v9_0)) (v1 : (c : Dev Cert.AdamFfnInIdeal.nD) → Buf (Elt Ideal) ((c.tc : Thread Cert.AdamFfnInIdeal.nD Cert.AdamFfnInIdeal.τ).loc Cert.AdamFfnInIdeal.main_v9_1)) (v2 : (c : Dev Cert.AdamFfnInIdeal.nD) → Buf (Elt Ideal) ((c.tc : Thread Cert.AdamFfnInIdeal.nD Cert.AdamFfnInIdeal.τ).loc Cert.AdamFfnInIdeal.main_v9_2)) (v3 : (c : Dev Cert.AdamFfnInIdeal.nD) → Buf (Elt Ideal) ((c.tc : Thread Cert.AdamFfnInIdeal.nD Cert.AdamFfnInIdeal.τ).loc Cert.AdamFfnInIdeal.main_v9_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v9_0) = v0 c
          ∧ r.2.mem ((c.tc : Thread Cert.AdamFfnInIdeal.nD Cert.AdamFfnInIdeal.τ).loc Cert.AdamFfnInIdeal.main_v9_1) = v1 c
          ∧ r.2.mem ((c.tc : Thread Cert.AdamFfnInIdeal.nD Cert.AdamFfnInIdeal.τ).loc Cert.AdamFfnInIdeal.main_v9_2) = v2 c
          ∧ r.2.mem ((c.tc : Thread Cert.AdamFfnInIdeal.nD Cert.AdamFfnInIdeal.τ).loc Cert.AdamFfnInIdeal.main_v9_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v29) = v0 c
          ∧ r.2.mem ((c.tc : Thread Cert.AdamFfnInRefIdeal.nD Cert.AdamFfnInRefIdeal.τ).loc Cert.AdamFfnInRefIdeal.main_v30) = v1 c
          ∧ r.2.mem ((c.tc : Thread Cert.AdamFfnInRefIdeal.nD Cert.AdamFfnInRefIdeal.τ).loc Cert.AdamFfnInRefIdeal.main_v31) = v2 c
          ∧ r.2.mem ((c.tc : Thread Cert.AdamFfnInRefIdeal.nD Cert.AdamFfnInRefIdeal.τ).loc Cert.AdamFfnInRefIdeal.main_v32) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v8_0)) (v1 : (c : Dev Cert.AdamFfnOutIdeal.nD) → Buf (Elt Ideal) ((c.tc : Thread Cert.AdamFfnOutIdeal.nD Cert.AdamFfnOutIdeal.τ).loc Cert.AdamFfnOutIdeal.main_v8_1)) (v2 : (c : Dev Cert.AdamFfnOutIdeal.nD) → Buf (Elt Ideal) ((c.tc : Thread Cert.AdamFfnOutIdeal.nD Cert.AdamFfnOutIdeal.τ).loc Cert.AdamFfnOutIdeal.main_v8_2)) (v3 : (c : Dev Cert.AdamFfnOutIdeal.nD) → Buf (Elt Ideal) ((c.tc : Thread Cert.AdamFfnOutIdeal.nD Cert.AdamFfnOutIdeal.τ).loc Cert.AdamFfnOutIdeal.main_v8_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v8_0) = v0 c
          ∧ r.2.mem ((c.tc : Thread Cert.AdamFfnOutIdeal.nD Cert.AdamFfnOutIdeal.τ).loc Cert.AdamFfnOutIdeal.main_v8_1) = v1 c
          ∧ r.2.mem ((c.tc : Thread Cert.AdamFfnOutIdeal.nD Cert.AdamFfnOutIdeal.τ).loc Cert.AdamFfnOutIdeal.main_v8_2) = v2 c
          ∧ r.2.mem ((c.tc : Thread Cert.AdamFfnOutIdeal.nD Cert.AdamFfnOutIdeal.τ).loc Cert.AdamFfnOutIdeal.main_v8_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v25) = v0 c
          ∧ r.2.mem ((c.tc : Thread Cert.AdamFfnOutRefIdeal.nD Cert.AdamFfnOutRefIdeal.τ).loc Cert.AdamFfnOutRefIdeal.main_v26) = v1 c
          ∧ r.2.mem ((c.tc : Thread Cert.AdamFfnOutRefIdeal.nD Cert.AdamFfnOutRefIdeal.τ).loc Cert.AdamFfnOutRefIdeal.main_v27) = v2 c
          ∧ r.2.mem ((c.tc : Thread Cert.AdamFfnOutRefIdeal.nD Cert.AdamFfnOutRefIdeal.τ).loc Cert.AdamFfnOutRefIdeal.main_v28) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v8_0)) (v1 : (c : Dev Cert.AdamConvIdeal.nD) → Buf (Elt Ideal) ((c.tc : Thread Cert.AdamConvIdeal.nD Cert.AdamConvIdeal.τ).loc Cert.AdamConvIdeal.main_v8_1)) (v2 : (c : Dev Cert.AdamConvIdeal.nD) → Buf (Elt Ideal) ((c.tc : Thread Cert.AdamConvIdeal.nD Cert.AdamConvIdeal.τ).loc Cert.AdamConvIdeal.main_v8_2)) (v3 : (c : Dev Cert.AdamConvIdeal.nD) → Buf (Elt Ideal) ((c.tc : Thread Cert.AdamConvIdeal.nD Cert.AdamConvIdeal.τ).loc Cert.AdamConvIdeal.main_v8_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v8_0) = v0 c
          ∧ r.2.mem ((c.tc : Thread Cert.AdamConvIdeal.nD Cert.AdamConvIdeal.τ).loc Cert.AdamConvIdeal.main_v8_1) = v1 c
          ∧ r.2.mem ((c.tc : Thread Cert.AdamConvIdeal.nD Cert.AdamConvIdeal.τ).loc Cert.AdamConvIdeal.main_v8_2) = v2 c
          ∧ r.2.mem ((c.tc : Thread Cert.AdamConvIdeal.nD Cert.AdamConvIdeal.τ).loc Cert.AdamConvIdeal.main_v8_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v29) = v0 c
          ∧ r.2.mem ((c.tc : Thread Cert.AdamConvRefIdeal.nD Cert.AdamConvRefIdeal.τ).loc Cert.AdamConvRefIdeal.main_v30) = v1 c
          ∧ r.2.mem ((c.tc : Thread Cert.AdamConvRefIdeal.nD Cert.AdamConvRefIdeal.τ).loc Cert.AdamConvRefIdeal.main_v31) = v2 c
          ∧ r.2.mem ((c.tc : Thread Cert.AdamConvRefIdeal.nD Cert.AdamConvRefIdeal.τ).loc Cert.AdamConvRefIdeal.main_v32) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamWMod_AdamWModIdeal : Prop :=
  True

def algebraic_AdamWModIdeal_AdamWModRefIdeal [hAdamWModIdeal : Cert.AdamWModIdeal.Facts] [hAdamWModRefIdeal : Cert.AdamWModRefIdeal.Facts] : Prop :=
  ∀ (m : (ℓ : Loc Cert.AdamWModIdeal.nD Cert.AdamWModIdeal.τ Cert.AdamWModIdeal.sig) → Buf (Elt Ideal) ℓ) (g : Dev Cert.AdamWModIdeal.nD → PrngReg)
    (m' : (ℓ : Loc Cert.AdamWModRefIdeal.nD Cert.AdamWModRefIdeal.τ Cert.AdamWModRefIdeal.sig) → Buf (Elt Ideal) ℓ) (g' : Dev Cert.AdamWModRefIdeal.nD → PrngReg), Pre_AdamWModIdeal m →
    (∀ c : Dev Cert.AdamWModIdeal.nD,
      m' ((c.tc : Thread Cert.AdamWModRefIdeal.nD Cert.AdamWModRefIdeal.τ).loc Cert.AdamWModRefIdeal.main_arg0) = m ((c.tc : Thread Cert.AdamWModIdeal.nD Cert.AdamWModIdeal.τ).loc Cert.AdamWModIdeal.main_arg0)
      ∧ m' ((c.tc : Thread Cert.AdamWModRefIdeal.nD Cert.AdamWModRefIdeal.τ).loc Cert.AdamWModRefIdeal.main_arg1) = m ((c.tc : Thread Cert.AdamWModIdeal.nD Cert.AdamWModIdeal.τ).loc Cert.AdamWModIdeal.main_arg1)
      ∧ m' ((c.tc : Thread Cert.AdamWModRefIdeal.nD Cert.AdamWModRefIdeal.τ).loc Cert.AdamWModRefIdeal.main_arg2) = m ((c.tc : Thread Cert.AdamWModIdeal.nD Cert.AdamWModIdeal.τ).loc Cert.AdamWModIdeal.main_arg2)
      ∧ m' ((c.tc : Thread Cert.AdamWModRefIdeal.nD Cert.AdamWModRefIdeal.τ).loc Cert.AdamWModRefIdeal.main_arg3) = m ((c.tc : Thread Cert.AdamWModIdeal.nD Cert.AdamWModIdeal.τ).loc Cert.AdamWModIdeal.main_arg3)) →
    ∃ (v0 : (c : Dev Cert.AdamWModIdeal.nD) → Buf (Elt Ideal) ((c.tc : Thread Cert.AdamWModIdeal.nD Cert.AdamWModIdeal.τ).loc Cert.AdamWModIdeal.main_v7_0)) (v1 : (c : Dev Cert.AdamWModIdeal.nD) → Buf (Elt Ideal) ((c.tc : Thread Cert.AdamWModIdeal.nD Cert.AdamWModIdeal.τ).loc Cert.AdamWModIdeal.main_v7_1)) (v2 : (c : Dev Cert.AdamWModIdeal.nD) → Buf (Elt Ideal) ((c.tc : Thread Cert.AdamWModIdeal.nD Cert.AdamWModIdeal.τ).loc Cert.AdamWModIdeal.main_v7_2)) (v3 : (c : Dev Cert.AdamWModIdeal.nD) → Buf (Elt Ideal) ((c.tc : Thread Cert.AdamWModIdeal.nD Cert.AdamWModIdeal.τ).loc Cert.AdamWModIdeal.main_v7_3)),
      θ_run (Cert.AdamWModIdeal.defs (F := Ideal)) (onTc (τ := Cert.AdamWModIdeal.τ) (Cert.AdamWModIdeal.main (F := Ideal))) ⟨m, fun _ => 0, g⟩ (fun r => ∀ c : Dev Cert.AdamWModIdeal.nD,
          r.2.mem ((c.tc : Thread Cert.AdamWModIdeal.nD Cert.AdamWModIdeal.τ).loc Cert.AdamWModIdeal.main_v7_0) = v0 c
          ∧ r.2.mem ((c.tc : Thread Cert.AdamWModIdeal.nD Cert.AdamWModIdeal.τ).loc Cert.AdamWModIdeal.main_v7_1) = v1 c
          ∧ r.2.mem ((c.tc : Thread Cert.AdamWModIdeal.nD Cert.AdamWModIdeal.τ).loc Cert.AdamWModIdeal.main_v7_2) = v2 c
          ∧ r.2.mem ((c.tc : Thread Cert.AdamWModIdeal.nD Cert.AdamWModIdeal.τ).loc Cert.AdamWModIdeal.main_v7_3) = v3 c
          ∧ r.2.mem ((c.tc : Thread Cert.AdamWModIdeal.nD Cert.AdamWModIdeal.τ).loc Cert.AdamWModIdeal.main_arg0) = m ((c.tc : Thread Cert.AdamWModIdeal.nD Cert.AdamWModIdeal.τ).loc Cert.AdamWModIdeal.main_arg0)
          ∧ r.2.mem ((c.tc : Thread Cert.AdamWModIdeal.nD Cert.AdamWModIdeal.τ).loc Cert.AdamWModIdeal.main_arg1) = m ((c.tc : Thread Cert.AdamWModIdeal.nD Cert.AdamWModIdeal.τ).loc Cert.AdamWModIdeal.main_arg1)
          ∧ r.2.mem ((c.tc : Thread Cert.AdamWModIdeal.nD Cert.AdamWModIdeal.τ).loc Cert.AdamWModIdeal.main_arg2) = m ((c.tc : Thread Cert.AdamWModIdeal.nD Cert.AdamWModIdeal.τ).loc Cert.AdamWModIdeal.main_arg2)
          ∧ r.2.mem ((c.tc : Thread Cert.AdamWModIdeal.nD Cert.AdamWModIdeal.τ).loc Cert.AdamWModIdeal.main_arg3) = m ((c.tc : Thread Cert.AdamWModIdeal.nD Cert.AdamWModIdeal.τ).loc Cert.AdamWModIdeal.main_arg3))
      ∧ θ_run (Cert.AdamWModRefIdeal.defs (F := Ideal)) (onTc (τ := Cert.AdamWModRefIdeal.τ) (Cert.AdamWModRefIdeal.main (F := Ideal))) ⟨m', fun _ => 0, g'⟩ (fun r => ∀ c : Dev Cert.AdamWModRefIdeal.nD,
          r.2.mem ((c.tc : Thread Cert.AdamWModRefIdeal.nD Cert.AdamWModRefIdeal.τ).loc Cert.AdamWModRefIdeal.main_v25) = v0 c
          ∧ r.2.mem ((c.tc : Thread Cert.AdamWModRefIdeal.nD Cert.AdamWModRefIdeal.τ).loc Cert.AdamWModRefIdeal.main_v26) = v1 c
          ∧ r.2.mem ((c.tc : Thread Cert.AdamWModRefIdeal.nD Cert.AdamWModRefIdeal.τ).loc Cert.AdamWModRefIdeal.main_v27) = v2 c
          ∧ r.2.mem ((c.tc : Thread Cert.AdamWModRefIdeal.nD Cert.AdamWModRefIdeal.τ).loc Cert.AdamWModRefIdeal.main_v28) = v3 c
          ∧ r.2.mem ((c.tc : Thread Cert.AdamWModRefIdeal.nD Cert.AdamWModRefIdeal.τ).loc Cert.AdamWModRefIdeal.main_arg0) = m' ((c.tc : Thread Cert.AdamWModRefIdeal.nD Cert.AdamWModRefIdeal.τ).loc Cert.AdamWModRefIdeal.main_arg0)
          ∧ r.2.mem ((c.tc : Thread Cert.AdamWModRefIdeal.nD Cert.AdamWModRefIdeal.τ).loc Cert.AdamWModRefIdeal.main_arg1) = m' ((c.tc : Thread Cert.AdamWModRefIdeal.nD Cert.AdamWModRefIdeal.τ).loc Cert.AdamWModRefIdeal.main_arg1)
          ∧ r.2.mem ((c.tc : Thread Cert.AdamWModRefIdeal.nD Cert.AdamWModRefIdeal.τ).loc Cert.AdamWModRefIdeal.main_arg2) = m' ((c.tc : Thread Cert.AdamWModRefIdeal.nD Cert.AdamWModRefIdeal.τ).loc Cert.AdamWModRefIdeal.main_arg2)
          ∧ r.2.mem ((c.tc : Thread Cert.AdamWModRefIdeal.nD Cert.AdamWModRefIdeal.τ).loc Cert.AdamWModRefIdeal.main_arg3) = m' ((c.tc : Thread Cert.AdamWModRefIdeal.nD Cert.AdamWModRefIdeal.τ).loc Cert.AdamWModRefIdeal.main_arg3))

def preserves_ModNorm_ModNormIdeal : Prop :=
  True

def algebraic_ModNormIdeal_ModNormRefIdeal [hModNormIdeal : Cert.ModNormIdeal.Facts] [hModNormRefIdeal : Cert.ModNormRefIdeal.Facts] : Prop :=
  ∀ (m : (ℓ : Loc Cert.ModNormIdeal.nD Cert.ModNormIdeal.τ Cert.ModNormIdeal.sig) → Buf (Elt Ideal) ℓ) (g : Dev Cert.ModNormIdeal.nD → PrngReg)
    (m' : (ℓ : Loc Cert.ModNormRefIdeal.nD Cert.ModNormRefIdeal.τ Cert.ModNormRefIdeal.sig) → Buf (Elt Ideal) ℓ) (g' : Dev Cert.ModNormRefIdeal.nD → PrngReg), Pre_ModNormIdeal m →
    (∀ c : Dev Cert.ModNormIdeal.nD,
      m' ((c.tc : Thread Cert.ModNormRefIdeal.nD Cert.ModNormRefIdeal.τ).loc Cert.ModNormRefIdeal.main_arg0) = m ((c.tc : Thread Cert.ModNormIdeal.nD Cert.ModNormIdeal.τ).loc Cert.ModNormIdeal.main_arg0)
      ∧ m' ((c.tc : Thread Cert.ModNormRefIdeal.nD Cert.ModNormRefIdeal.τ).loc Cert.ModNormRefIdeal.main_arg1) = m ((c.tc : Thread Cert.ModNormIdeal.nD Cert.ModNormIdeal.τ).loc Cert.ModNormIdeal.main_arg1)
      ∧ m' ((c.tc : Thread Cert.ModNormRefIdeal.nD Cert.ModNormRefIdeal.τ).loc Cert.ModNormRefIdeal.main_arg2) = m ((c.tc : Thread Cert.ModNormIdeal.nD Cert.ModNormIdeal.τ).loc Cert.ModNormIdeal.main_arg2)
      ∧ m' ((c.tc : Thread Cert.ModNormRefIdeal.nD Cert.ModNormRefIdeal.τ).loc Cert.ModNormRefIdeal.main_arg3) = m ((c.tc : Thread Cert.ModNormIdeal.nD Cert.ModNormIdeal.τ).loc Cert.ModNormIdeal.main_arg3)
      ∧ m' ((c.tc : Thread Cert.ModNormRefIdeal.nD Cert.ModNormRefIdeal.τ).loc Cert.ModNormRefIdeal.main_arg4) = m ((c.tc : Thread Cert.ModNormIdeal.nD Cert.ModNormIdeal.τ).loc Cert.ModNormIdeal.main_arg4)
      ∧ m' ((c.tc : Thread Cert.ModNormRefIdeal.nD Cert.ModNormRefIdeal.τ).loc Cert.ModNormRefIdeal.main_arg5) = m ((c.tc : Thread Cert.ModNormIdeal.nD Cert.ModNormIdeal.τ).loc Cert.ModNormIdeal.main_arg5)) →
    ∃ (v0 : (c : Dev Cert.ModNormIdeal.nD) → Buf (Elt Ideal) ((c.tc : Thread Cert.ModNormIdeal.nD Cert.ModNormIdeal.τ).loc Cert.ModNormIdeal.main_v3_0)) (v1 : (c : Dev Cert.ModNormIdeal.nD) → Buf (Elt Ideal) ((c.tc : Thread Cert.ModNormIdeal.nD Cert.ModNormIdeal.τ).loc Cert.ModNormIdeal.main_v3_1)) (v2 : (c : Dev Cert.ModNormIdeal.nD) → Buf (Elt Ideal) ((c.tc : Thread Cert.ModNormIdeal.nD Cert.ModNormIdeal.τ).loc Cert.ModNormIdeal.main_v3_2)) (v3 : (c : Dev Cert.ModNormIdeal.nD) → Buf (Elt Ideal) ((c.tc : Thread Cert.ModNormIdeal.nD Cert.ModNormIdeal.τ).loc Cert.ModNormIdeal.main_v3_3)),
      θ_run (Cert.ModNormIdeal.defs (F := Ideal)) (onTc (τ := Cert.ModNormIdeal.τ) (Cert.ModNormIdeal.main (F := Ideal))) ⟨m, fun _ => 0, g⟩ (fun r => ∀ c : Dev Cert.ModNormIdeal.nD,
          r.2.mem ((c.tc : Thread Cert.ModNormIdeal.nD Cert.ModNormIdeal.τ).loc Cert.ModNormIdeal.main_v3_0) = v0 c
          ∧ r.2.mem ((c.tc : Thread Cert.ModNormIdeal.nD Cert.ModNormIdeal.τ).loc Cert.ModNormIdeal.main_v3_1) = v1 c
          ∧ r.2.mem ((c.tc : Thread Cert.ModNormIdeal.nD Cert.ModNormIdeal.τ).loc Cert.ModNormIdeal.main_v3_2) = v2 c
          ∧ r.2.mem ((c.tc : Thread Cert.ModNormIdeal.nD Cert.ModNormIdeal.τ).loc Cert.ModNormIdeal.main_v3_3) = v3 c
          ∧ r.2.mem ((c.tc : Thread Cert.ModNormIdeal.nD Cert.ModNormIdeal.τ).loc Cert.ModNormIdeal.main_arg0) = m ((c.tc : Thread Cert.ModNormIdeal.nD Cert.ModNormIdeal.τ).loc Cert.ModNormIdeal.main_arg0)
          ∧ r.2.mem ((c.tc : Thread Cert.ModNormIdeal.nD Cert.ModNormIdeal.τ).loc Cert.ModNormIdeal.main_arg1) = m ((c.tc : Thread Cert.ModNormIdeal.nD Cert.ModNormIdeal.τ).loc Cert.ModNormIdeal.main_arg1)
          ∧ r.2.mem ((c.tc : Thread Cert.ModNormIdeal.nD Cert.ModNormIdeal.τ).loc Cert.ModNormIdeal.main_arg2) = m ((c.tc : Thread Cert.ModNormIdeal.nD Cert.ModNormIdeal.τ).loc Cert.ModNormIdeal.main_arg2)
          ∧ r.2.mem ((c.tc : Thread Cert.ModNormIdeal.nD Cert.ModNormIdeal.τ).loc Cert.ModNormIdeal.main_arg3) = m ((c.tc : Thread Cert.ModNormIdeal.nD Cert.ModNormIdeal.τ).loc Cert.ModNormIdeal.main_arg3)
          ∧ r.2.mem ((c.tc : Thread Cert.ModNormIdeal.nD Cert.ModNormIdeal.τ).loc Cert.ModNormIdeal.main_arg4) = m ((c.tc : Thread Cert.ModNormIdeal.nD Cert.ModNormIdeal.τ).loc Cert.ModNormIdeal.main_arg4)
          ∧ r.2.mem ((c.tc : Thread Cert.ModNormIdeal.nD Cert.ModNormIdeal.τ).loc Cert.ModNormIdeal.main_arg5) = m ((c.tc : Thread Cert.ModNormIdeal.nD Cert.ModNormIdeal.τ).loc Cert.ModNormIdeal.main_arg5))
      ∧ θ_run (Cert.ModNormRefIdeal.defs (F := Ideal)) (onTc (τ := Cert.ModNormRefIdeal.τ) (Cert.ModNormRefIdeal.main (F := Ideal))) ⟨m', fun _ => 0, g'⟩ (fun r => ∀ c : Dev Cert.ModNormRefIdeal.nD,
          r.2.mem ((c.tc : Thread Cert.ModNormRefIdeal.nD Cert.ModNormRefIdeal.τ).loc Cert.ModNormRefIdeal.main_v54) = v0 c
          ∧ r.2.mem ((c.tc : Thread Cert.ModNormRefIdeal.nD Cert.ModNormRefIdeal.τ).loc Cert.ModNormRefIdeal.main_v55) = v1 c
          ∧ r.2.mem ((c.tc : Thread Cert.ModNormRefIdeal.nD Cert.ModNormRefIdeal.τ).loc Cert.ModNormRefIdeal.main_v56) = v2 c
          ∧ r.2.mem ((c.tc : Thread Cert.ModNormRefIdeal.nD Cert.ModNormRefIdeal.τ).loc Cert.ModNormRefIdeal.main_v57) = v3 c
          ∧ r.2.mem ((c.tc : Thread Cert.ModNormRefIdeal.nD Cert.ModNormRefIdeal.τ).loc Cert.ModNormRefIdeal.main_arg0) = m' ((c.tc : Thread Cert.ModNormRefIdeal.nD Cert.ModNormRefIdeal.τ).loc Cert.ModNormRefIdeal.main_arg0)
          ∧ r.2.mem ((c.tc : Thread Cert.ModNormRefIdeal.nD Cert.ModNormRefIdeal.τ).loc Cert.ModNormRefIdeal.main_arg1) = m' ((c.tc : Thread Cert.ModNormRefIdeal.nD Cert.ModNormRefIdeal.τ).loc Cert.ModNormRefIdeal.main_arg1)
          ∧ r.2.mem ((c.tc : Thread Cert.ModNormRefIdeal.nD Cert.ModNormRefIdeal.τ).loc Cert.ModNormRefIdeal.main_arg2) = m' ((c.tc : Thread Cert.ModNormRefIdeal.nD Cert.ModNormRefIdeal.τ).loc Cert.ModNormRefIdeal.main_arg2)
          ∧ r.2.mem ((c.tc : Thread Cert.ModNormRefIdeal.nD Cert.ModNormRefIdeal.τ).loc Cert.ModNormRefIdeal.main_arg3) = m' ((c.tc : Thread Cert.ModNormRefIdeal.nD Cert.ModNormRefIdeal.τ).loc Cert.ModNormRefIdeal.main_arg3)
          ∧ r.2.mem ((c.tc : Thread Cert.ModNormRefIdeal.nD Cert.ModNormRefIdeal.τ).loc Cert.ModNormRefIdeal.main_arg4) = m' ((c.tc : Thread Cert.ModNormRefIdeal.nD Cert.ModNormRefIdeal.τ).loc Cert.ModNormRefIdeal.main_arg4)
          ∧ r.2.mem ((c.tc : Thread Cert.ModNormRefIdeal.nD Cert.ModNormRefIdeal.τ).loc Cert.ModNormRefIdeal.main_arg5) = m' ((c.tc : Thread Cert.ModNormRefIdeal.nD Cert.ModNormRefIdeal.τ).loc Cert.ModNormRefIdeal.main_arg5))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v1_0)) (v1 : (c : Dev Cert.ResidIdeal.nD) → Buf (Elt Ideal) ((c.tc : Thread Cert.ResidIdeal.nD Cert.ResidIdeal.τ).loc Cert.ResidIdeal.main_v1_1)) (v2 : (c : Dev Cert.ResidIdeal.nD) → Buf (Elt Ideal) ((c.tc : Thread Cert.ResidIdeal.nD Cert.ResidIdeal.τ).loc Cert.ResidIdeal.main_v1_2)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v1_0) = v0 c
          ∧ r.2.mem ((c.tc : Thread Cert.ResidIdeal.nD Cert.ResidIdeal.τ).loc Cert.ResidIdeal.main_v1_1) = v1 c
          ∧ r.2.mem ((c.tc : Thread Cert.ResidIdeal.nD Cert.ResidIdeal.τ).loc Cert.ResidIdeal.main_v1_2) = v2 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_arg3) = v0 c
          ∧ r.2.mem ((c.tc : Thread Cert.ResidRefIdeal.nD Cert.ResidRefIdeal.τ).loc Cert.ResidRefIdeal.main_v11) = v1 c
          ∧ r.2.mem ((c.tc : Thread Cert.ResidRefIdeal.nD Cert.ResidRefIdeal.τ).loc Cert.ResidRefIdeal.main_v12) = v2 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def preserves_SwiGlu_SwiGluIdeal : Prop :=
  True

def algebraic_SwiGluIdeal_SwiGluRefIdeal [hSwiGluIdeal : Cert.SwiGluIdeal.Facts] [hSwiGluRefIdeal : Cert.SwiGluRefIdeal.Facts] : Prop :=
  ∀ (m : (ℓ : Loc Cert.SwiGluIdeal.nD Cert.SwiGluIdeal.τ Cert.SwiGluIdeal.sig) → Buf (Elt Ideal) ℓ) (g : Dev Cert.SwiGluIdeal.nD → PrngReg)
    (m' : (ℓ : Loc Cert.SwiGluRefIdeal.nD Cert.SwiGluRefIdeal.τ Cert.SwiGluRefIdeal.sig) → Buf (Elt Ideal) ℓ) (g' : Dev Cert.SwiGluRefIdeal.nD → PrngReg), Pre_SwiGluIdeal m →
    (∀ c : Dev Cert.SwiGluIdeal.nD,
      m' ((c.tc : Thread Cert.SwiGluRefIdeal.nD Cert.SwiGluRefIdeal.τ).loc Cert.SwiGluRefIdeal.main_arg0) = m ((c.tc : Thread Cert.SwiGluIdeal.nD Cert.SwiGluIdeal.τ).loc Cert.SwiGluIdeal.main_arg0)
      ∧ m' ((c.tc : Thread Cert.SwiGluRefIdeal.nD Cert.SwiGluRefIdeal.τ).loc Cert.SwiGluRefIdeal.main_arg1) = m ((c.tc : Thread Cert.SwiGluIdeal.nD Cert.SwiGluIdeal.τ).loc Cert.SwiGluIdeal.main_arg1)) →
    ∃ (v0 : (c : Dev Cert.SwiGluIdeal.nD) → Buf (Elt Ideal) ((c.tc : Thread Cert.SwiGluIdeal.nD Cert.SwiGluIdeal.τ).loc Cert.SwiGluIdeal.main_v2)),
      θ_run (Cert.SwiGluIdeal.defs (F := Ideal)) (onTc (τ := Cert.SwiGluIdeal.τ) (Cert.SwiGluIdeal.main (F := Ideal))) ⟨m, fun _ => 0, g⟩ (fun r => ∀ c : Dev Cert.SwiGluIdeal.nD,
          r.2.mem ((c.tc : Thread Cert.SwiGluIdeal.nD Cert.SwiGluIdeal.τ).loc Cert.SwiGluIdeal.main_v2) = v0 c
          ∧ r.2.mem ((c.tc : Thread Cert.SwiGluIdeal.nD Cert.SwiGluIdeal.τ).loc Cert.SwiGluIdeal.main_arg0) = m ((c.tc : Thread Cert.SwiGluIdeal.nD Cert.SwiGluIdeal.τ).loc Cert.SwiGluIdeal.main_arg0)
          ∧ r.2.mem ((c.tc : Thread Cert.SwiGluIdeal.nD Cert.SwiGluIdeal.τ).loc Cert.SwiGluIdeal.main_arg1) = m ((c.tc : Thread Cert.SwiGluIdeal.nD Cert.SwiGluIdeal.τ).loc Cert.SwiGluIdeal.main_arg1))
      ∧ θ_run (Cert.SwiGluRefIdeal.defs (F := Ideal)) (onTc (τ := Cert.SwiGluRefIdeal.τ) (Cert.SwiGluRefIdeal.main (F := Ideal))) ⟨m', fun _ => 0, g'⟩ (fun r => ∀ c : Dev Cert.SwiGluRefIdeal.nD,
          r.2.mem ((c.tc : Thread Cert.SwiGluRefIdeal.nD Cert.SwiGluRefIdeal.τ).loc Cert.SwiGluRefIdeal.main_v8) = v0 c
          ∧ r.2.mem ((c.tc : Thread Cert.SwiGluRefIdeal.nD Cert.SwiGluRefIdeal.τ).loc Cert.SwiGluRefIdeal.main_arg0) = m' ((c.tc : Thread Cert.SwiGluRefIdeal.nD Cert.SwiGluRefIdeal.τ).loc Cert.SwiGluRefIdeal.main_arg0)
          ∧ r.2.mem ((c.tc : Thread Cert.SwiGluRefIdeal.nD Cert.SwiGluRefIdeal.τ).loc Cert.SwiGluRefIdeal.main_arg1) = m' ((c.tc : Thread Cert.SwiGluRefIdeal.nD Cert.SwiGluRefIdeal.τ).loc Cert.SwiGluRefIdeal.main_arg1))

def preserves_DnOut_DnOutIdeal : Prop :=
  True

def algebraic_DnOutIdeal_DnOutRefIdeal [hDnOutIdeal : Cert.DnOutIdeal.Facts] [hDnOutRefIdeal : Cert.DnOutRefIdeal.Facts] : Prop :=
  ∀ (m : (ℓ : Loc Cert.DnOutIdeal.nD Cert.DnOutIdeal.τ Cert.DnOutIdeal.sig) → Buf (Elt Ideal) ℓ) (g : Dev Cert.DnOutIdeal.nD → PrngReg)
    (m' : (ℓ : Loc Cert.DnOutRefIdeal.nD Cert.DnOutRefIdeal.τ Cert.DnOutRefIdeal.sig) → Buf (Elt Ideal) ℓ) (g' : Dev Cert.DnOutRefIdeal.nD → PrngReg), Pre_DnOutIdeal m →
    (∀ c : Dev Cert.DnOutIdeal.nD,
      m' ((c.tc : Thread Cert.DnOutRefIdeal.nD Cert.DnOutRefIdeal.τ).loc Cert.DnOutRefIdeal.main_arg0) = m ((c.tc : Thread Cert.DnOutIdeal.nD Cert.DnOutIdeal.τ).loc Cert.DnOutIdeal.main_arg0)
      ∧ m' ((c.tc : Thread Cert.DnOutRefIdeal.nD Cert.DnOutRefIdeal.τ).loc Cert.DnOutRefIdeal.main_arg1) = m ((c.tc : Thread Cert.DnOutIdeal.nD Cert.DnOutIdeal.τ).loc Cert.DnOutIdeal.main_arg1)
      ∧ m' ((c.tc : Thread Cert.DnOutRefIdeal.nD Cert.DnOutRefIdeal.τ).loc Cert.DnOutRefIdeal.main_arg2) = m ((c.tc : Thread Cert.DnOutIdeal.nD Cert.DnOutIdeal.τ).loc Cert.DnOutIdeal.main_arg2)
      ∧ m' ((c.tc : Thread Cert.DnOutRefIdeal.nD Cert.DnOutRefIdeal.τ).loc Cert.DnOutRefIdeal.main_arg3) = m ((c.tc : Thread Cert.DnOutIdeal.nD Cert.DnOutIdeal.τ).loc Cert.DnOutIdeal.main_arg3)) →
    ∃ (v0 : (c : Dev Cert.DnOutIdeal.nD) → Buf (Elt Ideal) ((c.tc : Thread Cert.DnOutIdeal.nD Cert.DnOutIdeal.τ).loc Cert.DnOutIdeal.main_v1_0)) (v1 : (c : Dev Cert.DnOutIdeal.nD) → Buf (Elt Ideal) ((c.tc : Thread Cert.DnOutIdeal.nD Cert.DnOutIdeal.τ).loc Cert.DnOutIdeal.main_v1_1)) (v2 : (c : Dev Cert.DnOutIdeal.nD) → Buf (Elt Ideal) ((c.tc : Thread Cert.DnOutIdeal.nD Cert.DnOutIdeal.τ).loc Cert.DnOutIdeal.main_v1_2)),
      θ_run (Cert.DnOutIdeal.defs (F := Ideal)) (onTc (τ := Cert.DnOutIdeal.τ) (Cert.DnOutIdeal.main (F := Ideal))) ⟨m, fun _ => 0, g⟩ (fun r => ∀ c : Dev Cert.DnOutIdeal.nD,
          r.2.mem ((c.tc : Thread Cert.DnOutIdeal.nD Cert.DnOutIdeal.τ).loc Cert.DnOutIdeal.main_v1_0) = v0 c
          ∧ r.2.mem ((c.tc : Thread Cert.DnOutIdeal.nD Cert.DnOutIdeal.τ).loc Cert.DnOutIdeal.main_v1_1) = v1 c
          ∧ r.2.mem ((c.tc : Thread Cert.DnOutIdeal.nD Cert.DnOutIdeal.τ).loc Cert.DnOutIdeal.main_v1_2) = v2 c
          ∧ r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
          ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
          ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
          ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3))
      ∧ θ_run (Cert.DnOutRefIdeal.defs (F := Ideal)) (onTc (τ := Cert.DnOutRefIdeal.τ) (Cert.DnOutRefIdeal.main (F := Ideal))) ⟨m', fun _ => 0, g'⟩ (fun r => ∀ c : Dev Cert.DnOutRefIdeal.nD,
          r.2.mem ((c.tc : Thread Cert.DnOutRefIdeal.nD Cert.DnOutRefIdeal.τ).loc Cert.DnOutRefIdeal.main_v48) = v0 c
          ∧ r.2.mem ((c.tc : Thread Cert.DnOutRefIdeal.nD Cert.DnOutRefIdeal.τ).loc Cert.DnOutRefIdeal.main_v49) = v1 c
          ∧ r.2.mem ((c.tc : Thread Cert.DnOutRefIdeal.nD Cert.DnOutRefIdeal.τ).loc Cert.DnOutRefIdeal.main_v50) = v2 c
          ∧ r.2.mem ((c.tc : Thread Cert.DnOutRefIdeal.nD Cert.DnOutRefIdeal.τ).loc Cert.DnOutRefIdeal.main_arg0) = m' ((c.tc : Thread Cert.DnOutRefIdeal.nD Cert.DnOutRefIdeal.τ).loc Cert.DnOutRefIdeal.main_arg0)
          ∧ r.2.mem ((c.tc : Thread Cert.DnOutRefIdeal.nD Cert.DnOutRefIdeal.τ).loc Cert.DnOutRefIdeal.main_arg1) = m' ((c.tc : Thread Cert.DnOutRefIdeal.nD Cert.DnOutRefIdeal.τ).loc Cert.DnOutRefIdeal.main_arg1)
          ∧ r.2.mem ((c.tc : Thread Cert.DnOutRefIdeal.nD Cert.DnOutRefIdeal.τ).loc Cert.DnOutRefIdeal.main_arg2) = m' ((c.tc : Thread Cert.DnOutRefIdeal.nD Cert.DnOutRefIdeal.τ).loc Cert.DnOutRefIdeal.main_arg2)
          ∧ r.2.mem ((c.tc : Thread Cert.DnOutRefIdeal.nD Cert.DnOutRefIdeal.τ).loc Cert.DnOutRefIdeal.main_arg3) = m' ((c.tc : Thread Cert.DnOutRefIdeal.nD Cert.DnOutRefIdeal.τ).loc Cert.DnOutRefIdeal.main_arg3))

def preserves_WModGrad_WModGradIdeal : Prop :=
  True

def algebraic_WModGradIdeal_WModGradRefIdeal [hWModGradIdeal : Cert.WModGradIdeal.Facts] [hWModGradRefIdeal : Cert.WModGradRefIdeal.Facts] : Prop :=
  ∀ (m : (ℓ : Loc Cert.WModGradIdeal.nD Cert.WModGradIdeal.τ Cert.WModGradIdeal.sig) → Buf (Elt Ideal) ℓ) (g : Dev Cert.WModGradIdeal.nD → PrngReg)
    (m' : (ℓ : Loc Cert.WModGradRefIdeal.nD Cert.WModGradRefIdeal.τ Cert.WModGradRefIdeal.sig) → Buf (Elt Ideal) ℓ) (g' : Dev Cert.WModGradRefIdeal.nD → PrngReg), Pre_WModGradIdeal m →
    (∀ c : Dev Cert.WModGradIdeal.nD,
      m' ((c.tc : Thread Cert.WModGradRefIdeal.nD Cert.WModGradRefIdeal.τ).loc Cert.WModGradRefIdeal.main_arg0) = m ((c.tc : Thread Cert.WModGradIdeal.nD Cert.WModGradIdeal.τ).loc Cert.WModGradIdeal.main_arg0)
      ∧ m' ((c.tc : Thread Cert.WModGradRefIdeal.nD Cert.WModGradRefIdeal.τ).loc Cert.WModGradRefIdeal.main_arg1) = m ((c.tc : Thread Cert.WModGradIdeal.nD Cert.WModGradIdeal.τ).loc Cert.WModGradIdeal.main_arg1)) →
    ∃ (v0 : (c : Dev Cert.WModGradIdeal.nD) → Buf (Elt Ideal) ((c.tc : Thread Cert.WModGradIdeal.nD Cert.WModGradIdeal.τ).loc Cert.WModGradIdeal.main_v0)),
      θ_run (Cert.WModGradIdeal.defs (F := Ideal)) (onTc (τ := Cert.WModGradIdeal.τ) (Cert.WModGradIdeal.main (F := Ideal))) ⟨m, fun _ => 0, g⟩ (fun r => ∀ c : Dev Cert.WModGradIdeal.nD,
          r.2.mem ((c.tc : Thread Cert.WModGradIdeal.nD Cert.WModGradIdeal.τ).loc Cert.WModGradIdeal.main_v0) = v0 c
          ∧ r.2.mem ((c.tc : Thread Cert.WModGradIdeal.nD Cert.WModGradIdeal.τ).loc Cert.WModGradIdeal.main_arg0) = m ((c.tc : Thread Cert.WModGradIdeal.nD Cert.WModGradIdeal.τ).loc Cert.WModGradIdeal.main_arg0)
          ∧ r.2.mem ((c.tc : Thread Cert.WModGradIdeal.nD Cert.WModGradIdeal.τ).loc Cert.WModGradIdeal.main_arg1) = m ((c.tc : Thread Cert.WModGradIdeal.nD Cert.WModGradIdeal.τ).loc Cert.WModGradIdeal.main_arg1))
      ∧ θ_run (Cert.WModGradRefIdeal.defs (F := Ideal)) (onTc (τ := Cert.WModGradRefIdeal.τ) (Cert.WModGradRefIdeal.main (F := Ideal))) ⟨m', fun _ => 0, g'⟩ (fun r => ∀ c : Dev Cert.WModGradRefIdeal.nD,
          r.2.mem ((c.tc : Thread Cert.WModGradRefIdeal.nD Cert.WModGradRefIdeal.τ).loc Cert.WModGradRefIdeal.main_v22) = v0 c
          ∧ r.2.mem ((c.tc : Thread Cert.WModGradRefIdeal.nD Cert.WModGradRefIdeal.τ).loc Cert.WModGradRefIdeal.main_arg0) = m' ((c.tc : Thread Cert.WModGradRefIdeal.nD Cert.WModGradRefIdeal.τ).loc Cert.WModGradRefIdeal.main_arg0)
          ∧ r.2.mem ((c.tc : Thread Cert.WModGradRefIdeal.nD Cert.WModGradRefIdeal.τ).loc Cert.WModGradRefIdeal.main_arg1) = m' ((c.tc : Thread Cert.WModGradRefIdeal.nD Cert.WModGradRefIdeal.τ).loc Cert.WModGradRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)) →
    ∃ (v0 : (c : Dev Cert.AdamSmallIdeal.nD) → Buf (Elt Ideal) ((c.tc : Thread Cert.AdamSmallIdeal.nD Cert.AdamSmallIdeal.τ).loc Cert.AdamSmallIdeal.main_v153_0)) (v1 : (c : Dev Cert.AdamSmallIdeal.nD) → Buf (Elt Ideal) ((c.tc : Thread Cert.AdamSmallIdeal.nD Cert.AdamSmallIdeal.τ).loc Cert.AdamSmallIdeal.main_v153_1)) (v2 : (c : Dev Cert.AdamSmallIdeal.nD) → Buf (Elt Ideal) ((c.tc : Thread Cert.AdamSmallIdeal.nD Cert.AdamSmallIdeal.τ).loc Cert.AdamSmallIdeal.main_v153_2)) (v3 : (c : Dev Cert.AdamSmallIdeal.nD) → Buf (Elt Ideal) ((c.tc : Thread Cert.AdamSmallIdeal.nD Cert.AdamSmallIdeal.τ).loc Cert.AdamSmallIdeal.main_v153_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v153_0) = v0 c
          ∧ r.2.mem ((c.tc : Thread Cert.AdamSmallIdeal.nD Cert.AdamSmallIdeal.τ).loc Cert.AdamSmallIdeal.main_v153_1) = v1 c
          ∧ r.2.mem ((c.tc : Thread Cert.AdamSmallIdeal.nD Cert.AdamSmallIdeal.τ).loc Cert.AdamSmallIdeal.main_v153_2) = v2 c
          ∧ r.2.mem ((c.tc : Thread Cert.AdamSmallIdeal.nD Cert.AdamSmallIdeal.τ).loc Cert.AdamSmallIdeal.main_v153_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v337) = v0 c
          ∧ r.2.mem ((c.tc : Thread Cert.AdamSmallRefIdeal.nD Cert.AdamSmallRefIdeal.τ).loc Cert.AdamSmallRefIdeal.main_v375) = v1 c
          ∧ r.2.mem ((c.tc : Thread Cert.AdamSmallRefIdeal.nD Cert.AdamSmallRefIdeal.τ).loc Cert.AdamSmallRefIdeal.main_v413) = v2 c
          ∧ r.2.mem ((c.tc : Thread Cert.AdamSmallRefIdeal.nD Cert.AdamSmallRefIdeal.τ).loc Cert.AdamSmallRefIdeal.main_v451) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47))

def Claim : Prop :=
  ∃ (hKernel : Cert.Kernel.Facts) (hKernelIdeal : Cert.KernelIdeal.Facts) (hReferenceIdeal : Cert.ReferenceIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hInProjDx : Cert.InProjDx.Facts) (hInProjDxIdeal : Cert.InProjDxIdeal.Facts) (hInProjDxRefIdeal : Cert.InProjDxRefIdeal.Facts) (hInProjDw : Cert.InProjDw.Facts) (hInProjDwIdeal : Cert.InProjDwIdeal.Facts) (hInProjDwRefIdeal : Cert.InProjDwRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hAdamWIn : Cert.AdamWIn.Facts) (hAdamWInIdeal : Cert.AdamWInIdeal.Facts) (hAdamWInRefIdeal : Cert.AdamWInRefIdeal.Facts) (hAdamWOut : Cert.AdamWOut.Facts) (hAdamWOutIdeal : Cert.AdamWOutIdeal.Facts) (hAdamWOutRefIdeal : Cert.AdamWOutRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamConv : Cert.AdamConv.Facts) (hAdamConvIdeal : Cert.AdamConvIdeal.Facts) (hAdamConvRefIdeal : Cert.AdamConvRefIdeal.Facts) (hAdamWMod : Cert.AdamWMod.Facts) (hAdamWModIdeal : Cert.AdamWModIdeal.Facts) (hAdamWModRefIdeal : Cert.AdamWModRefIdeal.Facts) (hModNorm : Cert.ModNorm.Facts) (hModNormIdeal : Cert.ModNormIdeal.Facts) (hModNormRefIdeal : Cert.ModNormRefIdeal.Facts) (hResid : Cert.Resid.Facts) (hResidIdeal : Cert.ResidIdeal.Facts) (hResidRefIdeal : Cert.ResidRefIdeal.Facts) (hSwiGlu : Cert.SwiGlu.Facts) (hSwiGluIdeal : Cert.SwiGluIdeal.Facts) (hSwiGluRefIdeal : Cert.SwiGluRefIdeal.Facts) (hDnOut : Cert.DnOut.Facts) (hDnOutIdeal : Cert.DnOutIdeal.Facts) (hDnOutRefIdeal : Cert.DnOutRefIdeal.Facts) (hWModGrad : Cert.WModGrad.Facts) (hWModGradIdeal : Cert.WModGradIdeal.Facts) (hWModGradRefIdeal : Cert.WModGradRefIdeal.Facts) (hLossHead : Cert.LossHead.Facts) (hLossHeadIdeal : Cert.LossHeadIdeal.Facts) (hLossHeadRefIdeal : Cert.LossHeadRefIdeal.Facts) (hAdamSmall : Cert.AdamSmall.Facts) (hAdamSmallIdeal : Cert.AdamSmallIdeal.Facts) (hAdamSmallRefIdeal : Cert.AdamSmallRefIdeal.Facts),
    quiescent_Kernel (hKernel := hKernel)
    ∧ quiescent_KernelIdeal (hKernelIdeal := hKernelIdeal)
    ∧ quiescent_ReferenceIdeal (hReferenceIdeal := hReferenceIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamWMod (hAdamWMod := hAdamWMod)
    ∧ quiescent_AdamWModIdeal (hAdamWModIdeal := hAdamWModIdeal)
    ∧ quiescent_AdamWModRefIdeal (hAdamWModRefIdeal := hAdamWModRefIdeal)
    ∧ quiescent_ModNorm (hModNorm := hModNorm)
    ∧ quiescent_ModNormIdeal (hModNormIdeal := hModNormIdeal)
    ∧ quiescent_ModNormRefIdeal (hModNormRefIdeal := hModNormRefIdeal)
    ∧ quiescent_Resid (hResid := hResid)
    ∧ quiescent_ResidIdeal (hResidIdeal := hResidIdeal)
    ∧ quiescent_ResidRefIdeal (hResidRefIdeal := hResidRefIdeal)
    ∧ quiescent_SwiGlu (hSwiGlu := hSwiGlu)
    ∧ quiescent_SwiGluIdeal (hSwiGluIdeal := hSwiGluIdeal)
    ∧ quiescent_SwiGluRefIdeal (hSwiGluRefIdeal := hSwiGluRefIdeal)
    ∧ quiescent_DnOut (hDnOut := hDnOut)
    ∧ quiescent_DnOutIdeal (hDnOutIdeal := hDnOutIdeal)
    ∧ quiescent_DnOutRefIdeal (hDnOutRefIdeal := hDnOutRefIdeal)
    ∧ quiescent_WModGrad (hWModGrad := hWModGrad)
    ∧ quiescent_WModGradIdeal (hWModGradIdeal := hWModGradIdeal)
    ∧ quiescent_WModGradRefIdeal (hWModGradRefIdeal := hWModGradRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal (hKernelIdeal := hKernelIdeal) (hReferenceIdeal := hReferenceIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamWMod_AdamWModIdeal
    ∧ algebraic_AdamWModIdeal_AdamWModRefIdeal (hAdamWModIdeal := hAdamWModIdeal) (hAdamWModRefIdeal := hAdamWModRefIdeal)
    ∧ preserves_ModNorm_ModNormIdeal
    ∧ algebraic_ModNormIdeal_ModNormRefIdeal (hModNormIdeal := hModNormIdeal) (hModNormRefIdeal := hModNormRefIdeal)
    ∧ preserves_Resid_ResidIdeal
    ∧ algebraic_ResidIdeal_ResidRefIdeal (hResidIdeal := hResidIdeal) (hResidRefIdeal := hResidRefIdeal)
    ∧ preserves_SwiGlu_SwiGluIdeal
    ∧ algebraic_SwiGluIdeal_SwiGluRefIdeal (hSwiGluIdeal := hSwiGluIdeal) (hSwiGluRefIdeal := hSwiGluRefIdeal)
    ∧ preserves_DnOut_DnOutIdeal
    ∧ algebraic_DnOutIdeal_DnOutRefIdeal (hDnOutIdeal := hDnOutIdeal) (hDnOutRefIdeal := hDnOutRefIdeal)
    ∧ preserves_WModGrad_WModGradIdeal
    ∧ algebraic_WModGradIdeal_WModGradRefIdeal (hWModGradIdeal := hWModGradIdeal) (hWModGradRefIdeal := hWModGradRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Kernel.lean ====
abbrev S4096x4992 : Shape := ⟨2, ![4096, 4992]⟩
abbrev S256 : Shape := ⟨1, ![256]⟩
abbrev S4x128x128 : Shape := ⟨3, ![4, 128, 128]⟩
abbrev S4x128 : Shape := ⟨2, ![4, 128]⟩
abbrev S4096x1024 : Shape := ⟨2, ![4096, 1024]⟩
abbrev S1x256 : Shape := ⟨2, ![1, 256]⟩
abbrev S128x4 : Shape := ⟨2, ![128, 4]⟩
abbrev S_ : Shape := ⟨0, ![]⟩
abbrev S128x128 : Shape := ⟨2, ![128, 128]⟩
abbrev S4096x256 : Shape := ⟨2, ![4096, 256]⟩
abbrev S128x256 : Shape := ⟨2, ![128, 256]⟩
abbrev S128 : Shape := ⟨1, ![128]⟩
abbrev S128x1 : Shape := ⟨2, ![128, 1]⟩
abbrev S1x128x128 : Shape := ⟨3, ![1, 128, 128]⟩
abbrev S3x128x128 : Shape := ⟨3, ![3, 128, 128]⟩
abbrev S2x128x128 : Shape := ⟨3, ![2, 128, 128]⟩

abbrev nBuf : Space → Nat
  | .hbm => 18
  | .vmem => 18
  | .smem => 0
  | _ => 0

abbrev bufTy : (tb : Table) → Fin (tcTables nBuf tb) → BufTy
  | .hbm, ⟨0, _⟩ => ⟨S4096x4992, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S4096x1024, .f32⟩
  | .hbm, ⟨6, _⟩ => ⟨S1x256, .f32⟩
  | .hbm, ⟨7, _⟩ => ⟨S1x256, .f32⟩
  | .hbm, ⟨8, _⟩ => ⟨S128x4, .f32⟩
  | .hbm, ⟨9, _⟩ => ⟨S_, .i32⟩
  | .hbm, ⟨10, _⟩ => ⟨S_, .f32⟩
  | .hbm, ⟨11, _⟩ => ⟨S128x128, .f32⟩
  | .hbm, ⟨12, _⟩ => ⟨S4096x256, .bf16⟩
  | .hbm, ⟨13, _⟩ => ⟨S4096x256, .bf16⟩
  | .hbm, ⟨14, _⟩ => ⟨S1x256, .f32⟩
  | .hbm, ⟨15, _⟩ => ⟨S1x256, .f32⟩
  | .hbm, ⟨16, _⟩ => ⟨S4x128x128, .f32⟩
  | .hbm, ⟨17, _⟩ => ⟨S128x128, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x128, .f32⟩
  | .local _ .vmem, ⟨8, _⟩ => ⟨S128x256, .f32⟩
  | .local _ .vmem, ⟨9, _⟩ => ⟨S128x256, .f32⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S1x256, .f32⟩
  | .local _ .vmem, ⟨15, _⟩ => ⟨S1x256, .f32⟩
  | .local _ .vmem, ⟨16, _⟩ => ⟨S4x128x128, .f32⟩
  | .local _ .vmem, ⟨17, _⟩ => ⟨S128x128, .f32⟩
  | _, _ => ⟨S4096x4992, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x4992 : Shape := ⟨2, ![4096, 4992]⟩
abbrev S256 : Shape := ⟨1, ![256]⟩
abbrev S4x128x128 : Shape := ⟨3, ![4, 128, 128]⟩
abbrev S4x128 : Shape := ⟨2, ![4, 128]⟩
abbrev S4096x1024 : Shape := ⟨2, ![4096, 1024]⟩
abbrev S4096x512 : Shape := ⟨2, ![4096, 512]⟩
abbrev S_ : Shape := ⟨0, ![]⟩
abbrev S4096x256 : Shape := ⟨2, ![4096, 256]⟩
abbrev S4096 : Shape := ⟨1, ![4096]⟩
abbrev S4096x1 : Shape := ⟨2, ![4096, 1]⟩
abbrev S1x256 : Shape := ⟨2, ![1, 256]⟩
abbrev S32x128x4x64 : Shape := ⟨4, ![32, 128, 4, 64]⟩
abbrev S128x128 : Shape := ⟨2, ![128, 128]⟩
abbrev S4x32x64x128 : Shape := ⟨4, ![4, 32, 64, 128]⟩
abbrev S128x4 : Shape := ⟨2, ![128, 4]⟩
abbrev S1x128x4x1 : Shape := ⟨4, ![1, 128, 4, 1]⟩

abbrev nBuf : Space → Nat
  | .hbm => 162
  | .vmem => 0
  | .smem => 0
  | _ => 0

abbrev hbmTy0_0 (i : Nat) : BufTy := match i % 128 with
  | 0 => ⟨S4096x4992, .f32⟩
  | 1 => ⟨S256, .f32⟩
  | 2 => ⟨S256, .f32⟩
  | 3 => ⟨S4x128x128, .f32⟩
  | 4 => ⟨S4x128, .f32⟩
  | 5 => ⟨S4096x1024, .f32⟩
  | 6 => ⟨S4096x512, .f32⟩
  | 7 => ⟨S_, .f32⟩
  | 8 => ⟨S4096x512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x256, .f32⟩
  | 20 => ⟨S4096x256, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x256, .f32⟩
  | 28 => ⟨S4096x256, .f32⟩
  | 29 => ⟨S4096x256, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x256, .f32⟩
  | 45 => ⟨S4096x256, .f32⟩
  | 46 => ⟨S1x256, .f32⟩
  | 47 => ⟨S4096x256, .f32⟩
  | 48 => ⟨S4096x256, .f32⟩
  | 49 => ⟨S1x256, .f32⟩
  | 50 => ⟨S4096x256, .f32⟩
  | 51 => ⟨S4096x256, .f32⟩
  | 52 => ⟨S32x128x4x64, .f32⟩
  | 53 => ⟨S_, .i1⟩
  | 54 => ⟨S128x128, .i1⟩
  | 55 => ⟨S128x128, .i32⟩
  | 56 => ⟨S_, .i32⟩
  | 57 => ⟨S128x128, .i32⟩
  | 58 => ⟨S128x128, .i32⟩
  | 59 => ⟨S128x128, .i32⟩
  | 60 => ⟨S128x128, .i1⟩
  | 61 => ⟨S_, .i1⟩
  | 62 => ⟨S128x128, .i1⟩
  | 63 => ⟨S128x128, .i1⟩
  | 64 => ⟨S_, .f32⟩
  | 65 => ⟨S_, .f32⟩
  | 66 => ⟨S4x128x128, .i1⟩
  | 67 => ⟨S4x128x128, .f32⟩
  | 68 => ⟨S4x128x128, .f32⟩
  | 69 => ⟨S_, .f32⟩
  | 70 => ⟨S4x128x128, .f32⟩
  | 71 => ⟨S4x32x64x128, .f32⟩
  | 72 => ⟨S32x128x4x64, .f32⟩
  | 73 => ⟨S128x4, .f32⟩
  | 74 => ⟨S1x128x4x1, .f32⟩
  | 75 => ⟨S32x128x4x64, .f32⟩
  | 76 => ⟨S32x128x4x64, .f32⟩
  | 77 => ⟨S4096x256, .f32⟩
  | 78 => ⟨S4096x256, .f32⟩
  | 79 => ⟨S4096x256, .f32⟩
  | 80 => ⟨S4096x256, .f32⟩
  | 81 => ⟨S4096x256, .f32⟩
  | 82 => ⟨S32x128x4x64, .f32⟩
  | 83 => ⟨S_, .f32⟩
  | 84 => ⟨S128x4, .f32⟩
  | 85 => ⟨S1x128x4x1, .f32⟩
  | 86 => ⟨S_, .f32⟩
  | 87 => ⟨S128x4, .f32⟩
  | 88 => ⟨S4x128, .f32⟩
  | 89 => ⟨S4x32x64x128, .f32⟩
  | 90 => ⟨S4x128x128, .f32⟩
  | 91 => ⟨S4x32x64x128, .f32⟩
  | 92 => ⟨S32x128x4x64, .f32⟩
  | 93 => ⟨S_, .f32⟩
  | 94 => ⟨S4x128x128, .f32⟩
  | 95 => ⟨S4x128x128, .f32⟩
  | 96 => ⟨S4096x256, .f32⟩
  | 97 => ⟨S_, .f32⟩
  | 98 => ⟨S256, .f32⟩
  | 99 => ⟨S1x256, .f32⟩
  | 100 => ⟨S_, .f32⟩
  | 101 => ⟨S256, .f32⟩
  | 102 => ⟨S4096x256, .f32⟩
  | 103 => ⟨S_, .f32⟩
  | 104 => ⟨S256, .f32⟩
  | 105 => ⟨S1x256, .f32⟩
  | 106 => ⟨S4096x256, .f32⟩
  | 107 => ⟨S4096x256, .f32⟩
  | 108 => ⟨S_, .f32⟩
  | 109 => ⟨S256, .f32⟩
  | 110 => ⟨S4096x256, .f32⟩
  | 111 => ⟨S_, .f32⟩
  | 112 => ⟨S4096, .f32⟩
  | 113 => ⟨S4096x1, .f32⟩
  | 114 => ⟨S4096x256, .f32⟩
  | 115 => ⟨S4096x256, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x256, .f32⟩
  | 123 => ⟨S4096x256, .f32⟩
  | 124 => ⟨S4096x256, .f32⟩
  | 125 => ⟨S4096x256, .f32⟩
  | 126 => ⟨S4096x256, .f32⟩
  | 127 => ⟨S4096x256, .f32⟩
  | _ => ⟨S4096x4992, .f32⟩

abbrev hbmTy0_1 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x256, .f32⟩
  | 9 => ⟨S4096x256, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x512, .f32⟩
  | 25 => ⟨S4096x512, .bf16⟩
  | 26 => ⟨S4096x256, .bf16⟩
  | 27 => ⟨S4096x256, .bf16⟩
  | 28 => ⟨S1x256, .f32⟩
  | 29 => ⟨S1x256, .f32⟩
  | 30 => ⟨S128x4, .f32⟩
  | 31 => ⟨S_, .i32⟩
  | 32 => ⟨S_, .f32⟩
  | 33 => ⟨S128x128, .f32⟩
  | _ => ⟨S4096x4992, .f32⟩

abbrev hbmTy (i : Nat) : BufTy := match i / 128 with
  | 0 => hbmTy0_0 i
  | 1 => hbmTy0_1 i
  | _ => ⟨S4096x4992, .f32⟩

abbrev bufTy : (tb : Table) → Fin (tcTables nBuf tb) → BufTy
  | .hbm, ⟨i, _⟩ => hbmTy i
  | _, _ => ⟨S4096x4992, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v40 : Ref sig .tc := ⟨.hbm, 63, rfl⟩
abbrev main_cst_7 : Ref sig .tc := ⟨.hbm, 64, rfl⟩
abbrev main_call1_v0 : Ref sig .tc := ⟨.hbm, 65, rfl⟩
abbrev main_v41_1 : Ref sig .tc := ⟨.hbm, 66, rfl⟩
abbrev main_call1_v2 : Ref sig .tc := ⟨.hbm, 67, rfl⟩
abbrev main_v41_0 : Ref sig .tc := ⟨.hbm, 68, rfl⟩
abbrev main_call1_cst : Ref sig .tc := ⟨.hbm, 69, rfl⟩
abbrev main_v41_2 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call2_cst : Ref sig .tc := ⟨.hbm, 93, rfl⟩
abbrev main_call2_v0 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_20 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_21 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_22 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_23 : Ref sig .tc := ⟨.hbm, 159, rfl⟩
abbrev main_call3_v0 : Ref sig .tc := ⟨.hbm, 160, rfl⟩
abbrev main_v113 : Ref sig .tc := ⟨.hbm, 161, rfl⟩

abbrev nD : Nat := 1
abbrev τ : Topo := Topo.v7x

variable {F : FTy → Type} [FloatOps F]
-- ==== FfnOutDx.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x1024, .bf16⟩
  | .hbm, ⟨3, _⟩ => ⟨S2816x1024, .bf16⟩
  | .hbm, ⟨4, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnOutDxRefIdeal.lean ====
abbrev S4096x1024 : Shape := ⟨2, ![4096, 1024]⟩
abbrev S2816x1024 : Shape := ⟨2, ![2816, 1024]⟩
abbrev S4096x2816 : Shape := ⟨2, ![4096, 2816]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnOutDw.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnOutDwRefIdeal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S1024x2816, .f32⟩
  | .hbm, ⟨3, _⟩ => ⟨S2816x1024, .f32⟩
  | .hbm, ⟨4, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnInDx.lean ====
abbrev S4096x5632 : Shape := ⟨2, ![4096, 5632]⟩
abbrev S1024x5632 : Shape := ⟨2, ![1024, 5632]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x5632, .bf16⟩
  | .hbm, ⟨3, _⟩ => ⟨S1024x5632, .bf16⟩
  | .hbm, ⟨4, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInDxRefIdeal.lean ====
abbrev S4096x5632 : Shape := ⟨2, ![4096, 5632]⟩
abbrev S1024x5632 : Shape := ⟨2, ![1024, 5632]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnInDw.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInDwRefIdeal.lean ====
abbrev S4096x1024 : Shape := ⟨2, ![4096, 1024]⟩
abbrev S4096x5632 : Shape := ⟨2, ![4096, 5632]⟩
abbrev S5632x1024 : Shape := ⟨2, ![5632, 1024]⟩
abbrev S1024x5632 : Shape := ⟨2, ![1024, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S5632x1024, .f32⟩
  | .hbm, ⟨3, _⟩ => ⟨S1024x5632, .f32⟩
  | .hbm, ⟨4, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProjDx.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjDxRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProjDw.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjDwRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjDx.lean ====
abbrev S4096x4872 : Shape := ⟨2, ![4096, 4872]⟩
abbrev S1024x4872 : Shape := ⟨2, ![1024, 4872]⟩
abbrev S4096x2048 : Shape := ⟨2, ![4096, 2048]⟩
abbrev S4096x2816 : Shape := ⟨2, ![4096, 2816]⟩
abbrev S4096x8 : Shape := ⟨2, ![4096, 8]⟩
abbrev S_ : Shape := ⟨0, ![]⟩
abbrev S4096x120 : Shape := ⟨2, ![4096, 120]⟩
abbrev S4096x4992 : Shape := ⟨2, ![4096, 4992]⟩
abbrev S1024x2048 : Shape := ⟨2, ![1024, 2048]⟩
abbrev S1024x2816 : Shape := ⟨2, ![1024, 2816]⟩
abbrev S1024x8 : Shape := ⟨2, ![1024, 8]⟩
abbrev S1024x120 : Shape := ⟨2, ![1024, 120]⟩
abbrev S1024x4992 : Shape := ⟨2, ![1024, 4992]⟩
abbrev S4096x1024 : Shape := ⟨2, ![4096, 1024]⟩
abbrev S512x4992 : Shape := ⟨2, ![512, 4992]⟩
abbrev S512x1024 : Shape := ⟨2, ![512, 1024]⟩

abbrev nBuf : Space → Nat
  | .hbm => 17
  | .vmem => 5
  | .smem => 0
  | _ => 0

abbrev bufTy : (tb : Table) → Fin (tcTables nBuf tb) → BufTy
  | .hbm, ⟨0, _⟩ => ⟨S4096x4872, .f32⟩
  | .hbm, ⟨1, _⟩ => ⟨S1024x4872, .f32⟩
  | .hbm, ⟨2, _⟩ => ⟨S4096x4872, .bf16⟩
  | .hbm, ⟨3, _⟩ => ⟨S4096x2048, .bf16⟩
  | .hbm, ⟨4, _⟩ => ⟨S4096x2816, .bf16⟩
  | .hbm, ⟨5, _⟩ => ⟨S4096x8, .bf16⟩
  | .hbm, ⟨6, _⟩ => ⟨S_, .bf16⟩
  | .hbm, ⟨7, _⟩ => ⟨S4096x120, .bf16⟩
  | .hbm, ⟨8, _⟩ => ⟨S4096x4992, .bf16⟩
  | .hbm, ⟨9, _⟩ => ⟨S1024x4872, .bf16⟩
  | .hbm, ⟨10, _⟩ => ⟨S1024x2048, .bf16⟩
  | .hbm, ⟨11, _⟩ => ⟨S1024x2816, .bf16⟩
  | .hbm, ⟨12, _⟩ => ⟨S1024x8, .bf16⟩
  | .hbm, ⟨13, _⟩ => ⟨S_, .bf16⟩
  | .hbm, ⟨14, _⟩ => ⟨S1024x120, .bf16⟩
  | .hbm, ⟨15, _⟩ => ⟨S1024x4992, .bf16⟩
  | .hbm, ⟨16, _⟩ => ⟨S4096x1024, .f32⟩
  | .local _ .vmem, ⟨0, _⟩ => ⟨S512x4992, .bf16⟩
  | .local _ .vmem, ⟨1, _⟩ => ⟨S512x4992, .bf16⟩
  | .local _ .vmem, ⟨2, _⟩ => ⟨S1024x4992, .bf16⟩
  | .local _ .vmem, ⟨3, _⟩ => ⟨S512x1024, .f32⟩
  | .local _ .vmem, ⟨4, _⟩ => ⟨S512x1024, .f32⟩
  | _, _ => ⟨S4096x4872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4992 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4992 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjDxRefIdeal.lean ====
abbrev S4096x4872 : Shape := ⟨2, ![4096, 4872]⟩
abbrev S1024x4872 : Shape := ⟨2, ![1024, 4872]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x4872, .f32⟩
  | .hbm, ⟨1, _⟩ => ⟨S1024x4872, .f32⟩
  | .hbm, ⟨2, _⟩ => ⟨S4096x1024, .f32⟩
  | _, _ => ⟨S4096x4872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InProjDw.lean ====
abbrev S4096x1024 : Shape := ⟨2, ![4096, 1024]⟩
abbrev S4096x4872 : Shape := ⟨2, ![4096, 4872]⟩
abbrev S4096x2048 : Shape := ⟨2, ![4096, 2048]⟩
abbrev S4096x2816 : Shape := ⟨2, ![4096, 2816]⟩
abbrev S4096x8 : Shape := ⟨2, ![4096, 8]⟩
abbrev S_ : Shape := ⟨0, ![]⟩
abbrev S4096x120 : Shape := ⟨2, ![4096, 120]⟩
abbrev S4096x4992 : Shape := ⟨2, ![4096, 4992]⟩
abbrev S1024x4992 : Shape := ⟨2, ![1024, 4992]⟩
abbrev S4096x384 : Shape := ⟨2, ![4096, 384]⟩
abbrev S1024x384 : Shape := ⟨2, ![1024, 384]⟩

abbrev nBuf : Space → Nat
  | .hbm => 11
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4872, .f32⟩
  | .hbm, ⟨2, _⟩ => ⟨S4096x1024, .bf16⟩
  | .hbm, ⟨3, _⟩ => ⟨S4096x4872, .bf16⟩
  | .hbm, ⟨4, _⟩ => ⟨S4096x2048, .bf16⟩
  | .hbm, ⟨5, _⟩ => ⟨S4096x2816, .bf16⟩
  | .hbm, ⟨6, _⟩ => ⟨S4096x8, .bf16⟩
  | .hbm, ⟨7, _⟩ => ⟨S_, .bf16⟩
  | .hbm, ⟨8, _⟩ => ⟨S4096x120, .bf16⟩
  | .hbm, ⟨9, _⟩ => ⟨S4096x4992, .bf16⟩
  | .hbm, ⟨10, _⟩ => ⟨S1024x4992, .bf16⟩
  | .local _ .vmem, ⟨0, _⟩ => ⟨S4096x1024, .bf16⟩
  | .local _ .vmem, ⟨1, _⟩ => ⟨S4096x384, .bf16⟩
  | .local _ .vmem, ⟨2, _⟩ => ⟨S4096x384, .bf16⟩
  | .local _ .vmem, ⟨3, _⟩ => ⟨S1024x384, .bf16⟩
  | .local _ .vmem, ⟨4, _⟩ => ⟨S1024x384, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjDwRefIdeal.lean ====
abbrev S4096x1024 : Shape := ⟨2, ![4096, 1024]⟩
abbrev S4096x4872 : Shape := ⟨2, ![4096, 4872]⟩
abbrev S4872x1024 : Shape := ⟨2, ![4872, 1024]⟩
abbrev S1024x4872 : Shape := ⟨2, ![1024, 4872]⟩
abbrev S1024x2048 : Shape := ⟨2, ![1024, 2048]⟩
abbrev S1024x2816 : Shape := ⟨2, ![1024, 2816]⟩
abbrev S1024x8 : Shape := ⟨2, ![1024, 8]⟩
abbrev S_ : Shape := ⟨0, ![]⟩
abbrev S1024x120 : Shape := ⟨2, ![1024, 120]⟩
abbrev S1024x4992 : Shape := ⟨2, ![1024, 4992]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4872, .f32⟩
  | .hbm, ⟨2, _⟩ => ⟨S4872x1024, .f32⟩
  | .hbm, ⟨3, _⟩ => ⟨S1024x4872, .f32⟩
  | .hbm, ⟨4, _⟩ => ⟨S1024x4872, .bf16⟩
  | .hbm, ⟨5, _⟩ => ⟨S1024x2048, .bf16⟩
  | .hbm, ⟨6, _⟩ => ⟨S1024x2816, .bf16⟩
  | .hbm, ⟨7, _⟩ => ⟨S1024x8, .bf16⟩
  | .hbm, ⟨8, _⟩ => ⟨S_, .bf16⟩
  | .hbm, ⟨9, _⟩ => ⟨S1024x120, .bf16⟩
  | .hbm, ⟨10, _⟩ => ⟨S1024x4992, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InProj.lean ====
abbrev S4096x1024 : Shape := ⟨2, ![4096, 1024]⟩
abbrev S1024x4872 : Shape := ⟨2, ![1024, 4872]⟩
abbrev S1024x2048 : Shape := ⟨2, ![1024, 2048]⟩
abbrev S1024x2816 : Shape := ⟨2, ![1024, 2816]⟩
abbrev S1024x8 : Shape := ⟨2, ![1024, 8]⟩
abbrev S_ : Shape := ⟨0, ![]⟩
abbrev S1024x120 : Shape := ⟨2, ![1024, 120]⟩
abbrev S1024x4992 : Shape := ⟨2, ![1024, 4992]⟩
abbrev S4096x4992 : Shape := ⟨2, ![4096, 4992]⟩
abbrev S1024x1024 : Shape := ⟨2, ![1024, 1024]⟩
abbrev S1024x1664 : Shape := ⟨2, ![1024, 1664]⟩

abbrev nBuf : Space → Nat
  | .hbm => 11
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4872, .f32⟩
  | .hbm, ⟨2, _⟩ => ⟨S4096x1024, .bf16⟩
  | .hbm, ⟨3, _⟩ => ⟨S1024x4872, .bf16⟩
  | .hbm, ⟨4, _⟩ => ⟨S1024x2048, .bf16⟩
  | .hbm, ⟨5, _⟩ => ⟨S1024x2816, .bf16⟩
  | .hbm, ⟨6, _⟩ => ⟨S1024x8, .bf16⟩
  | .hbm, ⟨7, _⟩ => ⟨S_, .bf16⟩
  | .hbm, ⟨8, _⟩ => ⟨S1024x120, .bf16⟩
  | .hbm, ⟨9, _⟩ => ⟨S1024x4992, .bf16⟩
  | .hbm, ⟨10, _⟩ => ⟨S4096x4992, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4096x1024 : Shape := ⟨2, ![4096, 1024]⟩
abbrev S1024x4872 : Shape := ⟨2, ![1024, 4872]⟩
abbrev S4096x4872 : Shape := ⟨2, ![4096, 4872]⟩
abbrev S4096x2048 : Shape := ⟨2, ![4096, 2048]⟩
abbrev S4096x2816 : Shape := ⟨2, ![4096, 2816]⟩
abbrev S4096x8 : Shape := ⟨2, ![4096, 8]⟩
abbrev S_ : Shape := ⟨0, ![]⟩
abbrev S4096x120 : Shape := ⟨2, ![4096, 120]⟩
abbrev S4096x4992 : Shape := ⟨2, ![4096, 4992]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4872, .f32⟩
  | .hbm, ⟨2, _⟩ => ⟨S4096x4872, .f32⟩
  | .hbm, ⟨3, _⟩ => ⟨S4096x2048, .f32⟩
  | .hbm, ⟨4, _⟩ => ⟨S4096x2816, .f32⟩
  | .hbm, ⟨5, _⟩ => ⟨S4096x8, .f32⟩
  | .hbm, ⟨6, _⟩ => ⟨S_, .f32⟩
  | .hbm, ⟨7, _⟩ => ⟨S4096x120, .f32⟩
  | .hbm, ⟨8, _⟩ => ⟨S4096x4992, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamWIn.lean ====
abbrev S4x1024x609 : Shape := ⟨3, ![4, 1024, 609]⟩
abbrev S8x4x1024x609 : Shape := ⟨4, ![8, 4, 1024, 609]⟩
abbrev S_ : Shape := ⟨0, ![]⟩
abbrev S8x4x1024x640 : Shape := ⟨4, ![8, 4, 1024, 640]⟩
abbrev S8x4096x640 : Shape := ⟨3, ![8, 4096, 640]⟩
abbrev S4096x609 : Shape := ⟨2, ![4096, 609]⟩
abbrev S4096x640 : Shape := ⟨2, ![4096, 640]⟩
abbrev S256x640 : Shape := ⟨2, ![256, 640]⟩
abbrev S8x256x640 : Shape := ⟨3, ![8, 256, 640]⟩
abbrev S1x256x640 : Shape := ⟨3, ![1, 256, 640]⟩

abbrev nBuf : Space → Nat
  | .hbm => 25
  | .vmem => 16
  | .smem => 0
  | _ => 0

abbrev bufTy : (tb : Table) → Fin (tcTables nBuf tb) → BufTy
  | .hbm, ⟨0, _⟩ => ⟨S4x1024x609, .f32⟩
  | .hbm, ⟨1, _⟩ => ⟨S4x1024x609, .f32⟩
  | .hbm, ⟨2, _⟩ => ⟨S4x1024x609, .f32⟩
  | .hbm, ⟨3, _⟩ => ⟨S8x4x1024x609, .f32⟩
  | .hbm, ⟨4, _⟩ => ⟨S8x4x1024x609, .bf16⟩
  | .hbm, ⟨5, _⟩ => ⟨S_, .i32⟩
  | .hbm, ⟨6, _⟩ => ⟨S_, .bf16⟩
  | .hbm, ⟨7, _⟩ => ⟨S8x4x1024x640, .bf16⟩
  | .hbm, ⟨8, _⟩ => ⟨S8x4096x640, .bf16⟩
  | .hbm, ⟨9, _⟩ => ⟨S4096x609, .f32⟩
  | .hbm, ⟨10, _⟩ => ⟨S_, .i32⟩
  | .hbm, ⟨11, _⟩ => ⟨S_, .f32⟩
  | .hbm, ⟨12, _⟩ => ⟨S4096x640, .f32⟩
  | .hbm, ⟨13, _⟩ => ⟨S4096x609, .f32⟩
  | .hbm, ⟨14, _⟩ => ⟨S_, .i32⟩
  | .hbm, ⟨15, _⟩ => ⟨S_, .f32⟩
  | .hbm, ⟨16, _⟩ => ⟨S4096x640, .f32⟩
  | .hbm, ⟨17, _⟩ => ⟨S4096x609, .f32⟩
  | .hbm, ⟨18, _⟩ => ⟨S_, .i32⟩
  | .hbm, ⟨19, _⟩ => ⟨S_, .f32⟩
  | .hbm, ⟨20, _⟩ => ⟨S4096x640, .f32⟩
  | .hbm, ⟨21, _⟩ => ⟨S4096x640, .f32⟩
  | .hbm, ⟨22, _⟩ => ⟨S4096x640, .f32⟩
  | .hbm, ⟨23, _⟩ => ⟨S4096x640, .f32⟩
  | .hbm, ⟨24, _⟩ => ⟨S4096x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S8x256x640, .bf16⟩
  | .local _ .vmem, ⟨7, _⟩ => ⟨S8x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S4x1024x609, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_call3_v0 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInRefIdeal.lean ====
abbrev S4x1024x609 : Shape := ⟨3, ![4, 1024, 609]⟩
abbrev S8x4x1024x609 : Shape := ⟨4, ![8, 4, 1024, 609]⟩
abbrev S_ : Shape := ⟨0, ![]⟩
abbrev S4096x609 : Shape := ⟨2, ![4096, 609]⟩
abbrev S4096x640 : Shape := ⟨2, ![4096, 640]⟩

abbrev nBuf : Space → Nat
  | .hbm => 55
  | .vmem => 0
  | .smem => 0
  | _ => 0

abbrev bufTy : (tb : Table) → Fin (tcTables nBuf tb) → BufTy
  | .hbm, ⟨0, _⟩ => ⟨S4x1024x609, .f32⟩
  | .hbm, ⟨1, _⟩ => ⟨S4x1024x609, .f32⟩
  | .hbm, ⟨2, _⟩ => ⟨S4x1024x609, .f32⟩
  | .hbm, ⟨3, _⟩ => ⟨S8x4x1024x609, .f32⟩
  | .hbm, ⟨4, _⟩ => ⟨S_, .f32⟩
  | .hbm, ⟨5, _⟩ => ⟨S4x1024x609, .f32⟩
  | .hbm, ⟨6, _⟩ => ⟨S_, .f32⟩
  | .hbm, ⟨7, _⟩ => ⟨S4x1024x609, .f32⟩
  | .hbm, ⟨8, _⟩ => ⟨S4x1024x609, .f32⟩
  | .hbm, ⟨9, _⟩ => ⟨S_, .f32⟩
  | .hbm, ⟨10, _⟩ => ⟨S4x1024x609, .f32⟩
  | .hbm, ⟨11, _⟩ => ⟨S4x1024x609, .f32⟩
  | .hbm, ⟨12, _⟩ => ⟨S4x1024x609, .f32⟩
  | .hbm, ⟨13, _⟩ => ⟨S_, .f32⟩
  | .hbm, ⟨14, _⟩ => ⟨S4x1024x609, .f32⟩
  | .hbm, ⟨15, _⟩ => ⟨S4x1024x609, .f32⟩
  | .hbm, ⟨16, _⟩ => ⟨S4x1024x609, .f32⟩
  | .hbm, ⟨17, _⟩ => ⟨S_, .f32⟩
  | .hbm, ⟨18, _⟩ => ⟨S4x1024x609, .f32⟩
  | .hbm, ⟨19, _⟩ => ⟨S4x1024x609, .f32⟩
  | .hbm, ⟨20, _⟩ => ⟨S4x1024x609, .f32⟩
  | .hbm, ⟨21, _⟩ => ⟨S_, .f32⟩
  | .hbm, ⟨22, _⟩ => ⟨S4x1024x609, .f32⟩
  | .hbm, ⟨23, _⟩ => ⟨S4x1024x609, .f32⟩
  | .hbm, ⟨24, _⟩ => ⟨S_, .f32⟩
  | .hbm, ⟨25, _⟩ => ⟨S4x1024x609, .f32⟩
  | .hbm, ⟨26, _⟩ => ⟨S4x1024x609, .f32⟩
  | .hbm, ⟨27, _⟩ => ⟨S4x1024x609, .f32⟩
  | .hbm, ⟨28, _⟩ => ⟨S_, .f32⟩
  | .hbm, ⟨29, _⟩ => ⟨S4x1024x609, .f32⟩
  | .hbm, ⟨30, _⟩ => ⟨S4x1024x609, .f32⟩
  | .hbm, ⟨31, _⟩ => ⟨S4x1024x609, .f32⟩
  | .hbm, ⟨32, _⟩ => ⟨S_, .f32⟩
  | .hbm, ⟨33, _⟩ => ⟨S4x1024x609, .f32⟩
  | .hbm, ⟨34, _⟩ => ⟨S4x1024x609, .f32⟩
  | .hbm, ⟨35, _⟩ => ⟨S4x1024x609, .f32⟩
  | .hbm, ⟨36, _⟩ => ⟨S_, .f32⟩
  | .hbm, ⟨37, _⟩ => ⟨S4x1024x609, .f32⟩
  | .hbm, ⟨38, _⟩ => ⟨S4x1024x609, .f32⟩
  | .hbm, ⟨39, _⟩ => ⟨S4096x609, .f32⟩
  | .hbm, ⟨40, _⟩ => ⟨S4096x609, .f32⟩
  | .hbm, ⟨41, _⟩ => ⟨S4096x609, .f32⟩
  | .hbm, ⟨42, _⟩ => ⟨S4096x609, .f32⟩
  | .hbm, ⟨43, _⟩ => ⟨S_, .i32⟩
  | .hbm, ⟨44, _⟩ => ⟨S_, .f32⟩
  | .hbm, ⟨45, _⟩ => ⟨S4096x640, .f32⟩
  | .hbm, ⟨46, _⟩ => ⟨S_, .i32⟩
  | .hbm, ⟨47, _⟩ => ⟨S_, .f32⟩
  | .hbm, ⟨48, _⟩ => ⟨S4096x640, .f32⟩
  | .hbm, ⟨49, _⟩ => ⟨S_, .i32⟩
  | .hbm, ⟨50, _⟩ => ⟨S_, .f32⟩
  | .hbm, ⟨51, _⟩ => ⟨S4096x640, .f32⟩
  | .hbm, ⟨52, _⟩ => ⟨S_, .i32⟩
  | .hbm, ⟨53, _⟩ => ⟨S_, .f32⟩
  | .hbm, ⟨54, _⟩ => ⟨S4096x640, .f32⟩
  | _, _ => ⟨S4x1024x609, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_call0_v0 : Ref sig .tc := ⟨.hbm, 44, rfl⟩
abbrev main_v29 : Ref sig .tc := ⟨.hbm, 45, rfl⟩
abbrev main_c_9 : Ref sig .tc := ⟨.hbm, 46, rfl⟩
abbrev main_call1_v0 : Ref sig .tc := ⟨.hbm, 47, rfl⟩
abbrev main_v30 : Ref sig .tc := ⟨.hbm, 48, rfl⟩
abbrev main_c_10 : Ref sig .tc := ⟨.hbm, 49, rfl⟩
abbrev main_call2_v0 : Ref sig .tc := ⟨.hbm, 50, rfl⟩
abbrev main_v31 : Ref sig .tc := ⟨.hbm, 51, rfl⟩
abbrev main_c_11 : Ref sig .tc := ⟨.hbm, 52, rfl⟩
abbrev main_call3_v0 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== AdamWOut.lean ====
abbrev S4x128x1024 : Shape := ⟨3, ![4, 128, 1024]⟩
abbrev S8x4x128x1024 : Shape := ⟨4, ![8, 4, 128, 1024]⟩
abbrev S8x512x1024 : Shape := ⟨3, ![8, 512, 1024]⟩
abbrev S512x1024 : Shape := ⟨2, ![512, 1024]⟩
abbrev S_ : Shape := ⟨0, ![]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 22
  | .vmem => 16
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S8x4x128x1024, .f32⟩
  | .hbm, ⟨4, _⟩ => ⟨S8x4x128x1024, .bf16⟩
  | .hbm, ⟨5, _⟩ => ⟨S8x512x1024, .bf16⟩
  | .hbm, ⟨6, _⟩ => ⟨S512x1024, .f32⟩
  | .hbm, ⟨7, _⟩ => ⟨S_, .i32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S_, .i32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S_, .i32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWOutRefIdeal.lean ====
abbrev S4x128x1024 : Shape := ⟨3, ![4, 128, 1024]⟩
abbrev S8x4x128x1024 : Shape := ⟨4, ![8, 4, 128, 1024]⟩
abbrev S_ : Shape := ⟨0, ![]⟩
abbrev S512x1024 : Shape := ⟨2, ![512, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S8x4x128x1024, .f32⟩
  | .hbm, ⟨4, _⟩ => ⟨S_, .f32⟩
  | .hbm, ⟨5, _⟩ => ⟨S4x128x1024, .f32⟩
  | .hbm, ⟨6, _⟩ => ⟨S_, .f32⟩
  | .hbm, ⟨7, _⟩ => ⟨S4x128x1024, .f32⟩
  | .hbm, ⟨8, _⟩ => ⟨S4x128x1024, .f32⟩
  | .hbm, ⟨9, _⟩ => ⟨S_, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .hbm, ⟨13, _⟩ => ⟨S_, .f32⟩
  | .hbm, ⟨14, _⟩ => ⟨S4x128x1024, .f32⟩
  | .hbm, ⟨15, _⟩ => ⟨S4x128x1024, .f32⟩
  | .hbm, ⟨16, _⟩ => ⟨S4x128x1024, .f32⟩
  | .hbm, ⟨17, _⟩ => ⟨S_, .f32⟩
  | .hbm, ⟨18, _⟩ => ⟨S4x128x1024, .f32⟩
  | .hbm, ⟨19, _⟩ => ⟨S4x128x1024, .f32⟩
  | .hbm, ⟨20, _⟩ => ⟨S4x128x1024, .f32⟩
  | .hbm, ⟨21, _⟩ => ⟨S_, .f32⟩
  | .hbm, ⟨22, _⟩ => ⟨S4x128x1024, .f32⟩
  | .hbm, ⟨23, _⟩ => ⟨S4x128x1024, .f32⟩
  | .hbm, ⟨24, _⟩ => ⟨S_, .f32⟩
  | .hbm, ⟨25, _⟩ => ⟨S4x128x1024, .f32⟩
  | .hbm, ⟨26, _⟩ => ⟨S4x128x1024, .f32⟩
  | .hbm, ⟨27, _⟩ => ⟨S4x128x1024, .f32⟩
  | .hbm, ⟨28, _⟩ => ⟨S_, .f32⟩
  | .hbm, ⟨29, _⟩ => ⟨S4x128x1024, .f32⟩
  | .hbm, ⟨30, _⟩ => ⟨S4x128x1024, .f32⟩
  | .hbm, ⟨31, _⟩ => ⟨S4x128x1024, .f32⟩
  | .hbm, ⟨32, _⟩ => ⟨S_, .f32⟩
  | .hbm, ⟨33, _⟩ => ⟨S4x128x1024, .f32⟩
  | .hbm, ⟨34, _⟩ => ⟨S4x128x1024, .f32⟩
  | .hbm, ⟨35, _⟩ => ⟨S4x128x1024, .f32⟩
  | .hbm, ⟨36, _⟩ => ⟨S_, .f32⟩
  | .hbm, ⟨37, _⟩ => ⟨S4x128x1024, .f32⟩
  | .hbm, ⟨38, _⟩ => ⟨S4x128x1024, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamFfnIn.lean ====
abbrev S4x1024x704 : Shape := ⟨3, ![4, 1024, 704]⟩
abbrev S8x4x1024x704 : Shape := ⟨4, ![8, 4, 1024, 704]⟩
abbrev S_ : Shape := ⟨0, ![]⟩
abbrev S8x4x1024x768 : Shape := ⟨4, ![8, 4, 1024, 768]⟩
abbrev S8x4096x768 : Shape := ⟨3, ![8, 4096, 768]⟩
abbrev S4096x704 : Shape := ⟨2, ![4096, 704]⟩
abbrev S4096x768 : Shape := ⟨2, ![4096, 768]⟩
abbrev S256x768 : Shape := ⟨2, ![256, 768]⟩
abbrev S8x256x768 : Shape := ⟨3, ![8, 256, 768]⟩
abbrev S1x256x768 : Shape := ⟨3, ![1, 256, 768]⟩

abbrev nBuf : Space → Nat
  | .hbm => 25
  | .vmem => 16
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S8x4x1024x704, .f32⟩
  | .hbm, ⟨4, _⟩ => ⟨S8x4x1024x704, .bf16⟩
  | .hbm, ⟨5, _⟩ => ⟨S_, .i32⟩
  | .hbm, ⟨6, _⟩ => ⟨S_, .bf16⟩
  | .hbm, ⟨7, _⟩ => ⟨S8x4x1024x768, .bf16⟩
  | .hbm, ⟨8, _⟩ => ⟨S8x4096x768, .bf16⟩
  | .hbm, ⟨9, _⟩ => ⟨S4096x704, .f32⟩
  | .hbm, ⟨10, _⟩ => ⟨S_, .i32⟩
  | .hbm, ⟨11, _⟩ => ⟨S_, .f32⟩
  | .hbm, ⟨12, _⟩ => ⟨S4096x768, .f32⟩
  | .hbm, ⟨13, _⟩ => ⟨S4096x704, .f32⟩
  | .hbm, ⟨14, _⟩ => ⟨S_, .i32⟩
  | .hbm, ⟨15, _⟩ => ⟨S_, .f32⟩
  | .hbm, ⟨16, _⟩ => ⟨S4096x768, .f32⟩
  | .hbm, ⟨17, _⟩ => ⟨S4096x704, .f32⟩
  | .hbm, ⟨18, _⟩ => ⟨S_, .i32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S4096x768, .f32⟩
  | .hbm, ⟨23, _⟩ => ⟨S4096x768, .f32⟩
  | .hbm, ⟨24, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S8x256x768, .bf16⟩
  | .local _ .vmem, ⟨7, _⟩ => ⟨S8x256x768, .bf16⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_call3_v0 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnInRefIdeal.lean ====
abbrev S4x1024x704 : Shape := ⟨3, ![4, 1024, 704]⟩
abbrev S8x4x1024x704 : Shape := ⟨4, ![8, 4, 1024, 704]⟩
abbrev S_ : Shape := ⟨0, ![]⟩
abbrev S4096x704 : Shape := ⟨2, ![4096, 704]⟩
abbrev S4096x768 : Shape := ⟨2, ![4096, 768]⟩

abbrev nBuf : Space → Nat
  | .hbm => 55
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S8x4x1024x704, .f32⟩
  | .hbm, ⟨4, _⟩ => ⟨S_, .f32⟩
  | .hbm, ⟨5, _⟩ => ⟨S4x1024x704, .f32⟩
  | .hbm, ⟨6, _⟩ => ⟨S_, .f32⟩
  | .hbm, ⟨7, _⟩ => ⟨S4x1024x704, .f32⟩
  | .hbm, ⟨8, _⟩ => ⟨S4x1024x704, .f32⟩
  | .hbm, ⟨9, _⟩ => ⟨S_, .f32⟩
  | .hbm, ⟨10, _⟩ => ⟨S4x1024x704, .f32⟩
  | .hbm, ⟨11, _⟩ => ⟨S4x1024x704, .f32⟩
  | .hbm, ⟨12, _⟩ => ⟨S4x1024x704, .f32⟩
  | .hbm, ⟨13, _⟩ => ⟨S_, .f32⟩
  | .hbm, ⟨14, _⟩ => ⟨S4x1024x704, .f32⟩
  | .hbm, ⟨15, _⟩ => ⟨S4x1024x704, .f32⟩
  | .hbm, ⟨16, _⟩ => ⟨S4x1024x704, .f32⟩
  | .hbm, ⟨17, _⟩ => ⟨S_, .f32⟩
  | .hbm, ⟨18, _⟩ => ⟨S4x1024x704, .f32⟩
  | .hbm, ⟨19, _⟩ => ⟨S4x1024x704, .f32⟩
  | .hbm, ⟨20, _⟩ => ⟨S4x1024x704, .f32⟩
  | .hbm, ⟨21, _⟩ => ⟨S_, .f32⟩
  | .hbm, ⟨22, _⟩ => ⟨S4x1024x704, .f32⟩
  | .hbm, ⟨23, _⟩ => ⟨S4x1024x704, .f32⟩
  | .hbm, ⟨24, _⟩ => ⟨S_, .f32⟩
  | .hbm, ⟨25, _⟩ => ⟨S4x1024x704, .f32⟩
  | .hbm, ⟨26, _⟩ => ⟨S4x1024x704, .f32⟩
  | .hbm, ⟨27, _⟩ => ⟨S4x1024x704, .f32⟩
  | .hbm, ⟨28, _⟩ => ⟨S_, .f32⟩
  | .hbm, ⟨29, _⟩ => ⟨S4x1024x704, .f32⟩
  | .hbm, ⟨30, _⟩ => ⟨S4x1024x704, .f32⟩
  | .hbm, ⟨31, _⟩ => ⟨S4x1024x704, .f32⟩
  | .hbm, ⟨32, _⟩ => ⟨S_, .f32⟩
  | .hbm, ⟨33, _⟩ => ⟨S4x1024x704, .f32⟩
  | .hbm, ⟨34, _⟩ => ⟨S4x1024x704, .f32⟩
  | .hbm, ⟨35, _⟩ => ⟨S4x1024x704, .f32⟩
  | .hbm, ⟨36, _⟩ => ⟨S_, .f32⟩
  | .hbm, ⟨37, _⟩ => ⟨S4x1024x704, .f32⟩
  | .hbm, ⟨38, _⟩ => ⟨S4x1024x704, .f32⟩
  | .hbm, ⟨39, _⟩ => ⟨S4096x704, .f32⟩
  | .hbm, ⟨40, _⟩ => ⟨S4096x704, .f32⟩
  | .hbm, ⟨41, _⟩ => ⟨S4096x704, .f32⟩
  | .hbm, ⟨42, _⟩ => ⟨S4096x704, .f32⟩
  | .hbm, ⟨43, _⟩ => ⟨S_, .i32⟩
  | .hbm, ⟨44, _⟩ => ⟨S_, .f32⟩
  | .hbm, ⟨45, _⟩ => ⟨S4096x768, .f32⟩
  | .hbm, ⟨46, _⟩ => ⟨S_, .i32⟩
  | .hbm, ⟨47, _⟩ => ⟨S_, .f32⟩
  | .hbm, ⟨48, _⟩ => ⟨S4096x768, .f32⟩
  | .hbm, ⟨49, _⟩ => ⟨S_, .i32⟩
  | .hbm, ⟨50, _⟩ => ⟨S_, .f32⟩
  | .hbm, ⟨51, _⟩ => ⟨S4096x768, .f32⟩
  | .hbm, ⟨52, _⟩ => ⟨S_, .i32⟩
  | .hbm, ⟨53, _⟩ => ⟨S_, .f32⟩
  | .hbm, ⟨54, _⟩ => ⟨S4096x768, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_call0_v0 : Ref sig .tc := ⟨.hbm, 44, rfl⟩
abbrev main_v29 : Ref sig .tc := ⟨.hbm, 45, rfl⟩
abbrev main_c_9 : Ref sig .tc := ⟨.hbm, 46, rfl⟩
abbrev main_call1_v0 : Ref sig .tc := ⟨.hbm, 47, rfl⟩
abbrev main_v30 : Ref sig .tc := ⟨.hbm, 48, rfl⟩
abbrev main_c_10 : Ref sig .tc := ⟨.hbm, 49, rfl⟩
abbrev main_call2_v0 : Ref sig .tc := ⟨.hbm, 50, rfl⟩
abbrev main_v31 : Ref sig .tc := ⟨.hbm, 51, rfl⟩
abbrev main_c_11 : Ref sig .tc := ⟨.hbm, 52, rfl⟩
abbrev main_call3_v0 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== AdamFfnOut.lean ====
abbrev S4x352x1024 : Shape := ⟨3, ![4, 352, 1024]⟩
abbrev S8x4x352x1024 : Shape := ⟨4, ![8, 4, 352, 1024]⟩
abbrev S8x1408x1024 : Shape := ⟨3, ![8, 1408, 1024]⟩
abbrev S1408x1024 : Shape := ⟨2, ![1408, 1024]⟩
abbrev S_ : Shape := ⟨0, ![]⟩
abbrev S352x1024 : Shape := ⟨2, ![352, 1024]⟩
abbrev S8x352x1024 : Shape := ⟨3, ![8, 352, 1024]⟩
abbrev S1x352x1024 : Shape := ⟨3, ![1, 352, 1024]⟩

abbrev nBuf : Space → Nat
  | .hbm => 22
  | .vmem => 16
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S8x4x352x1024, .f32⟩
  | .hbm, ⟨4, _⟩ => ⟨S8x4x352x1024, .bf16⟩
  | .hbm, ⟨5, _⟩ => ⟨S8x1408x1024, .bf16⟩
  | .hbm, ⟨6, _⟩ => ⟨S1408x1024, .f32⟩
  | .hbm, ⟨7, _⟩ => ⟨S_, .i32⟩
  | .hbm, ⟨8, _⟩ => ⟨S_, .f32⟩
  | .hbm, ⟨9, _⟩ => ⟨S1408x1024, .f32⟩
  | .hbm, ⟨10, _⟩ => ⟨S1408x1024, .f32⟩
  | .hbm, ⟨11, _⟩ => ⟨S_, .i32⟩
  | .hbm, ⟨12, _⟩ => ⟨S_, .f32⟩
  | .hbm, ⟨13, _⟩ => ⟨S1408x1024, .f32⟩
  | .hbm, ⟨14, _⟩ => ⟨S1408x1024, .f32⟩
  | .hbm, ⟨15, _⟩ => ⟨S_, .i32⟩
  | .hbm, ⟨16, _⟩ => ⟨S_, .f32⟩
  | .hbm, ⟨17, _⟩ => ⟨S1408x1024, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S8x352x1024, .bf16⟩
  | .local _ .vmem, ⟨7, _⟩ => ⟨S8x352x1024, .bf16⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnOutRefIdeal.lean ====
abbrev S4x352x1024 : Shape := ⟨3, ![4, 352, 1024]⟩
abbrev S8x4x352x1024 : Shape := ⟨4, ![8, 4, 352, 1024]⟩
abbrev S_ : Shape := ⟨0, ![]⟩
abbrev S1408x1024 : Shape := ⟨2, ![1408, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S8x4x352x1024, .f32⟩
  | .hbm, ⟨4, _⟩ => ⟨S_, .f32⟩
  | .hbm, ⟨5, _⟩ => ⟨S4x352x1024, .f32⟩
  | .hbm, ⟨6, _⟩ => ⟨S_, .f32⟩
  | .hbm, ⟨7, _⟩ => ⟨S4x352x1024, .f32⟩
  | .hbm, ⟨8, _⟩ => ⟨S4x352x1024, .f32⟩
  | .hbm, ⟨9, _⟩ => ⟨S_, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S_, .f32⟩
  | .hbm, ⟨14, _⟩ => ⟨S4x352x1024, .f32⟩
  | .hbm, ⟨15, _⟩ => ⟨S4x352x1024, .f32⟩
  | .hbm, ⟨16, _⟩ => ⟨S4x352x1024, .f32⟩
  | .hbm, ⟨17, _⟩ => ⟨S_, .f32⟩
  | .hbm, ⟨18, _⟩ => ⟨S4x352x1024, .f32⟩
  | .hbm, ⟨19, _⟩ => ⟨S4x352x1024, .f32⟩
  | .hbm, ⟨20, _⟩ => ⟨S4x352x1024, .f32⟩
  | .hbm, ⟨21, _⟩ => ⟨S_, .f32⟩
  | .hbm, ⟨22, _⟩ => ⟨S4x352x1024, .f32⟩
  | .hbm, ⟨23, _⟩ => ⟨S4x352x1024, .f32⟩
  | .hbm, ⟨24, _⟩ => ⟨S_, .f32⟩
  | .hbm, ⟨25, _⟩ => ⟨S4x352x1024, .f32⟩
  | .hbm, ⟨26, _⟩ => ⟨S4x352x1024, .f32⟩
  | .hbm, ⟨27, _⟩ => ⟨S4x352x1024, .f32⟩
  | .hbm, ⟨28, _⟩ => ⟨S_, .f32⟩
  | .hbm, ⟨29, _⟩ => ⟨S4x352x1024, .f32⟩
  | .hbm, ⟨30, _⟩ => ⟨S4x352x1024, .f32⟩
  | .hbm, ⟨31, _⟩ => ⟨S4x352x1024, .f32⟩
  | .hbm, ⟨32, _⟩ => ⟨S_, .f32⟩
  | .hbm, ⟨33, _⟩ => ⟨S4x352x1024, .f32⟩
  | .hbm, ⟨34, _⟩ => ⟨S4x352x1024, .f32⟩
  | .hbm, ⟨35, _⟩ => ⟨S4x352x1024, .f32⟩
  | .hbm, ⟨36, _⟩ => ⟨S_, .f32⟩
  | .hbm, ⟨37, _⟩ => ⟨S4x352x1024, .f32⟩
  | .hbm, ⟨38, _⟩ => ⟨S4x352x1024, .f32⟩
  | .hbm, ⟨39, _⟩ => ⟨S1408x1024, .f32⟩
  | .hbm, ⟨40, _⟩ => ⟨S1408x1024, .f32⟩
  | .hbm, ⟨41, _⟩ => ⟨S1408x1024, .f32⟩
  | .hbm, ⟨42, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== AdamConv.lean ====
abbrev S4x4x192 : Shape := ⟨3, ![4, 4, 192]⟩
abbrev S8x4x4x192 : Shape := ⟨4, ![8, 4, 4, 192]⟩
abbrev S_ : Shape := ⟨0, ![]⟩
abbrev S8x4x4x256 : Shape := ⟨4, ![8, 4, 4, 256]⟩
abbrev S8x16x256 : Shape := ⟨3, ![8, 16, 256]⟩
abbrev S16x192 : Shape := ⟨2, ![16, 192]⟩
abbrev S16x256 : Shape := ⟨2, ![16, 256]⟩
abbrev S1x16x256 : Shape := ⟨3, ![1, 16, 256]⟩

abbrev nBuf : Space → Nat
  | .hbm => 24
  | .vmem => 8
  | .smem => 0
  | _ => 0

abbrev bufTy : (tb : Table) → Fin (tcTables nBuf tb) → BufTy
  | .hbm, ⟨0, _⟩ => ⟨S4x4x192, .f32⟩
  | .hbm, ⟨1, _⟩ => ⟨S4x4x192, .f32⟩
  | .hbm, ⟨2, _⟩ => ⟨S4x4x192, .f32⟩
  | .hbm, ⟨3, _⟩ => ⟨S8x4x4x192, .f32⟩
  | .hbm, ⟨4, _⟩ => ⟨S_, .i32⟩
  | .hbm, ⟨5, _⟩ => ⟨S_, .f32⟩
  | .hbm, ⟨6, _⟩ => ⟨S8x4x4x256, .f32⟩
  | .hbm, ⟨7, _⟩ => ⟨S8x16x256, .f32⟩
  | .hbm, ⟨8, _⟩ => ⟨S16x192, .f32⟩
  | .hbm, ⟨9, _⟩ => ⟨S_, .i32⟩
  | .hbm, ⟨10, _⟩ => ⟨S_, .f32⟩
  | .hbm, ⟨11, _⟩ => ⟨S16x256, .f32⟩
  | .hbm, ⟨12, _⟩ => ⟨S16x192, .f32⟩
  | .hbm, ⟨13, _⟩ => ⟨S_, .i32⟩
  | .hbm, ⟨14, _⟩ => ⟨S_, .f32⟩
  | .hbm, ⟨15, _⟩ => ⟨S16x256, .f32⟩
  | .hbm, ⟨16, _⟩ => ⟨S16x192, .f32⟩
  | .hbm, ⟨17, _⟩ => ⟨S_, .i32⟩
  | .hbm, ⟨18, _⟩ => ⟨S_, .f32⟩
  | .hbm, ⟨19, _⟩ => ⟨S16x256, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S8x16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S4x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S4x4x192 : Shape := ⟨3, ![4, 4, 192]⟩
abbrev S8x4x4x192 : Shape := ⟨4, ![8, 4, 4, 192]⟩
abbrev S_ : Shape := ⟨0, ![]⟩
abbrev S16x192 : Shape := ⟨2, ![16, 192]⟩
abbrev S16x256 : Shape := ⟨2, ![16, 256]⟩

abbrev nBuf : Space → Nat
  | .hbm => 55
  | .vmem => 0
  | .smem => 0
  | _ => 0

abbrev bufTy : (tb : Table) → Fin (tcTables nBuf tb) → BufTy
  | .hbm, ⟨0, _⟩ => ⟨S4x4x192, .f32⟩
  | .hbm, ⟨1, _⟩ => ⟨S4x4x192, .f32⟩
  | .hbm, ⟨2, _⟩ => ⟨S4x4x192, .f32⟩
  | .hbm, ⟨3, _⟩ => ⟨S8x4x4x192, .f32⟩
  | .hbm, ⟨4, _⟩ => ⟨S_, .f32⟩
  | .hbm, ⟨5, _⟩ => ⟨S4x4x192, .f32⟩
  | .hbm, ⟨6, _⟩ => ⟨S_, .f32⟩
  | .hbm, ⟨7, _⟩ => ⟨S4x4x192, .f32⟩
  | .hbm, ⟨8, _⟩ => ⟨S4x4x192, .f32⟩
  | .hbm, ⟨9, _⟩ => ⟨S_, .f32⟩
  | .hbm, ⟨10, _⟩ => ⟨S4x4x192, .f32⟩
  | .hbm, ⟨11, _⟩ => ⟨S4x4x192, .f32⟩
  | .hbm, ⟨12, _⟩ => ⟨S4x4x192, .f32⟩
  | .hbm, ⟨13, _⟩ => ⟨S_, .f32⟩
  | .hbm, ⟨14, _⟩ => ⟨S4x4x192, .f32⟩
  | .hbm, ⟨15, _⟩ => ⟨S4x4x192, .f32⟩
  | .hbm, ⟨16, _⟩ => ⟨S4x4x192, .f32⟩
  | .hbm, ⟨17, _⟩ => ⟨S_, .f32⟩
  | .hbm, ⟨18, _⟩ => ⟨S4x4x192, .f32⟩
  | .hbm, ⟨19, _⟩ => ⟨S4x4x192, .f32⟩
  | .hbm, ⟨20, _⟩ => ⟨S4x4x192, .f32⟩
  | .hbm, ⟨21, _⟩ => ⟨S_, .f32⟩
  | .hbm, ⟨22, _⟩ => ⟨S4x4x192, .f32⟩
  | .hbm, ⟨23, _⟩ => ⟨S4x4x192, .f32⟩
  | .hbm, ⟨24, _⟩ => ⟨S_, .f32⟩
  | .hbm, ⟨25, _⟩ => ⟨S4x4x192, .f32⟩
  | .hbm, ⟨26, _⟩ => ⟨S4x4x192, .f32⟩
  | .hbm, ⟨27, _⟩ => ⟨S4x4x192, .f32⟩
  | .hbm, ⟨28, _⟩ => ⟨S_, .f32⟩
  | .hbm, ⟨29, _⟩ => ⟨S4x4x192, .f32⟩
  | .hbm, ⟨30, _⟩ => ⟨S4x4x192, .f32⟩
  | .hbm, ⟨31, _⟩ => ⟨S4x4x192, .f32⟩
  | .hbm, ⟨32, _⟩ => ⟨S_, .f32⟩
  | .hbm, ⟨33, _⟩ => ⟨S4x4x192, .f32⟩
  | .hbm, ⟨34, _⟩ => ⟨S4x4x192, .f32⟩
  | .hbm, ⟨35, _⟩ => ⟨S4x4x192, .f32⟩
  | .hbm, ⟨36, _⟩ => ⟨S_, .f32⟩
  | .hbm, ⟨37, _⟩ => ⟨S4x4x192, .f32⟩
  | .hbm, ⟨38, _⟩ => ⟨S4x4x192, .f32⟩
  | .hbm, ⟨39, _⟩ => ⟨S16x192, .f32⟩
  | .hbm, ⟨40, _⟩ => ⟨S16x192, .f32⟩
  | .hbm, ⟨41, _⟩ => ⟨S16x192, .f32⟩
  | .hbm, ⟨42, _⟩ => ⟨S16x192, .f32⟩
  | .hbm, ⟨43, _⟩ => ⟨S_, .i32⟩
  | .hbm, ⟨44, _⟩ => ⟨S_, .f32⟩
  | .hbm, ⟨45, _⟩ => ⟨S16x256, .f32⟩
  | .hbm, ⟨46, _⟩ => ⟨S_, .i32⟩
  | .hbm, ⟨47, _⟩ => ⟨S_, .f32⟩
  | .hbm, ⟨48, _⟩ => ⟨S16x256, .f32⟩
  | .hbm, ⟨49, _⟩ => ⟨S_, .i32⟩
  | .hbm, ⟨50, _⟩ => ⟨S_, .f32⟩
  | .hbm, ⟨51, _⟩ => ⟨S16x256, .f32⟩
  | .hbm, ⟨52, _⟩ => ⟨S_, .i32⟩
  | .hbm, ⟨53, _⟩ => ⟨S_, .f32⟩
  | .hbm, ⟨54, _⟩ => ⟨S16x256, .f32⟩
  | _, _ => ⟨S4x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_call0_v0 : Ref sig .tc := ⟨.hbm, 44, rfl⟩
abbrev main_v29 : Ref sig .tc := ⟨.hbm, 45, rfl⟩
abbrev main_c_9 : Ref sig .tc := ⟨.hbm, 46, rfl⟩
abbrev main_call1_v0 : Ref sig .tc := ⟨.hbm, 47, rfl⟩
abbrev main_v30 : Ref sig .tc := ⟨.hbm, 48, rfl⟩
abbrev main_c_10 : Ref sig .tc := ⟨.hbm, 49, rfl⟩
abbrev main_call2_v0 : Ref sig .tc := ⟨.hbm, 50, rfl⟩
abbrev main_v31 : Ref sig .tc := ⟨.hbm, 51, rfl⟩
abbrev main_c_11 : Ref sig .tc := ⟨.hbm, 52, rfl⟩
abbrev main_call3_v0 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== AdamWMod.lean ====
abbrev S4x1024x768 : Shape := ⟨3, ![4, 1024, 768]⟩
abbrev S1x4x1024x768 : Shape := ⟨4, ![1, 4, 1024, 768]⟩
abbrev S1x4096x768 : Shape := ⟨3, ![1, 4096, 768]⟩
abbrev S4096x768 : Shape := ⟨2, ![4096, 768]⟩
abbrev S_ : Shape := ⟨0, ![]⟩
abbrev S256x768 : Shape := ⟨2, ![256, 768]⟩
abbrev S1x256x768 : Shape := ⟨3, ![1, 256, 768]⟩

abbrev nBuf : Space → Nat
  | .hbm => 21
  | .vmem => 16
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S1x4x1024x768, .f32⟩
  | .hbm, ⟨4, _⟩ => ⟨S1x4096x768, .f32⟩
  | .hbm, ⟨5, _⟩ => ⟨S4096x768, .f32⟩
  | .hbm, ⟨6, _⟩ => ⟨S_, .i32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S_, .i32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S_, .i32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S4096x768, .f32⟩
  | .hbm, ⟨20, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWModRefIdeal.lean ====
abbrev S4x1024x768 : Shape := ⟨3, ![4, 1024, 768]⟩
abbrev S1x4x1024x768 : Shape := ⟨4, ![1, 4, 1024, 768]⟩
abbrev S_ : Shape := ⟨0, ![]⟩
abbrev S4096x768 : Shape := ⟨2, ![4096, 768]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S1x4x1024x768, .f32⟩
  | .hbm, ⟨4, _⟩ => ⟨S_, .f32⟩
  | .hbm, ⟨5, _⟩ => ⟨S4x1024x768, .f32⟩
  | .hbm, ⟨6, _⟩ => ⟨S_, .f32⟩
  | .hbm, ⟨7, _⟩ => ⟨S4x1024x768, .f32⟩
  | .hbm, ⟨8, _⟩ => ⟨S4x1024x768, .f32⟩
  | .hbm, ⟨9, _⟩ => ⟨S_, .f32⟩
  | .hbm, ⟨10, _⟩ => ⟨S4x1024x768, .f32⟩
  | .hbm, ⟨11, _⟩ => ⟨S4x1024x768, .f32⟩
  | .hbm, ⟨12, _⟩ => ⟨S4x1024x768, .f32⟩
  | .hbm, ⟨13, _⟩ => ⟨S_, .f32⟩
  | .hbm, ⟨14, _⟩ => ⟨S4x1024x768, .f32⟩
  | .hbm, ⟨15, _⟩ => ⟨S4x1024x768, .f32⟩
  | .hbm, ⟨16, _⟩ => ⟨S4x1024x768, .f32⟩
  | .hbm, ⟨17, _⟩ => ⟨S_, .f32⟩
  | .hbm, ⟨18, _⟩ => ⟨S4x1024x768, .f32⟩
  | .hbm, ⟨19, _⟩ => ⟨S4x1024x768, .f32⟩
  | .hbm, ⟨20, _⟩ => ⟨S4x1024x768, .f32⟩
  | .hbm, ⟨21, _⟩ => ⟨S_, .f32⟩
  | .hbm, ⟨22, _⟩ => ⟨S4x1024x768, .f32⟩
  | .hbm, ⟨23, _⟩ => ⟨S4x1024x768, .f32⟩
  | .hbm, ⟨24, _⟩ => ⟨S_, .f32⟩
  | .hbm, ⟨25, _⟩ => ⟨S4x1024x768, .f32⟩
  | .hbm, ⟨26, _⟩ => ⟨S4x1024x768, .f32⟩
  | .hbm, ⟨27, _⟩ => ⟨S4x1024x768, .f32⟩
  | .hbm, ⟨28, _⟩ => ⟨S_, .f32⟩
  | .hbm, ⟨29, _⟩ => ⟨S4x1024x768, .f32⟩
  | .hbm, ⟨30, _⟩ => ⟨S4x1024x768, .f32⟩
  | .hbm, ⟨31, _⟩ => ⟨S4x1024x768, .f32⟩
  | .hbm, ⟨32, _⟩ => ⟨S_, .f32⟩
  | .hbm, ⟨33, _⟩ => ⟨S4x1024x768, .f32⟩
  | .hbm, ⟨34, _⟩ => ⟨S4x1024x768, .f32⟩
  | .hbm, ⟨35, _⟩ => ⟨S4x1024x768, .f32⟩
  | .hbm, ⟨36, _⟩ => ⟨S_, .f32⟩
  | .hbm, ⟨37, _⟩ => ⟨S4x1024x768, .f32⟩
  | .hbm, ⟨38, _⟩ => ⟨S4x1024x768, .f32⟩
  | .hbm, ⟨39, _⟩ => ⟨S4096x768, .f32⟩
  | .hbm, ⟨40, _⟩ => ⟨S4096x768, .f32⟩
  | .hbm, ⟨41, _⟩ => ⟨S4096x768, .f32⟩
  | .hbm, ⟨42, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== ModNorm.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ModNormRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S1x1024, .f32⟩
  | .hbm, ⟨77, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Resid.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ResidRefIdeal.lean ====
abbrev S4096x1024 : Shape := ⟨2, ![4096, 1024]⟩
abbrev S1024 : Shape := ⟨1, ![1024]⟩
abbrev S1x1024 : Shape := ⟨2, ![1, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S_, .f32⟩
  | .hbm, ⟨16, _⟩ => ⟨S1024, .f32⟩
  | .hbm, ⟨17, _⟩ => ⟨S4096x1024, .bf16⟩
  | .hbm, ⟨18, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== SwiGlu.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 5
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x5632, .bf16⟩
  | .hbm, ⟨3, _⟩ => ⟨S4096x2816, .bf16⟩
  | .hbm, ⟨4, _⟩ => ⟨S4096x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwiGluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x5632, .f32⟩
  | .hbm, ⟨25, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== DnOut.lean ====
abbrev S4096x512 : Shape := ⟨2, ![4096, 512]⟩
abbrev S4096x4992 : Shape := ⟨2, ![4096, 4992]⟩
abbrev S128 : Shape := ⟨1, ![128]⟩
abbrev S4096x1024 : Shape := ⟨2, ![4096, 1024]⟩
abbrev S1x128 : Shape := ⟨2, ![1, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x384 : Shape := ⟨2, ![256, 384]⟩
abbrev S256x256 : Shape := ⟨2, ![256, 256]⟩

abbrev nBuf : Space → Nat
  | .hbm => 8
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x4992, .f32⟩
  | .hbm, ⟨2, _⟩ => ⟨S128, .f32⟩
  | .hbm, ⟨3, _⟩ => ⟨S4096x1024, .f32⟩
  | .hbm, ⟨4, _⟩ => ⟨S1x128, .f32⟩
  | .hbm, ⟨5, _⟩ => ⟨S4096x512, .f32⟩
  | .hbm, ⟨6, _⟩ => ⟨S4096x512, .bf16⟩
  | .hbm, ⟨7, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .bf16⟩
  | .local _ .vmem, ⟨10, _⟩ => ⟨S256x512, .bf16⟩
  | .local _ .vmem, ⟨11, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DnOutRefIdeal.lean ====
abbrev S4096x512 : Shape := ⟨2, ![4096, 512]⟩
abbrev S4096x4992 : Shape := ⟨2, ![4096, 4992]⟩
abbrev S128 : Shape := ⟨1, ![128]⟩
abbrev S4096x1024 : Shape := ⟨2, ![4096, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4992, .f32⟩
  | .hbm, ⟨2, _⟩ => ⟨S128, .f32⟩
  | .hbm, ⟨3, _⟩ => ⟨S4096x1024, .f32⟩
  | .hbm, ⟨4, _⟩ => ⟨S4096x512, .f32⟩
  | .hbm, ⟨5, _⟩ => ⟨S4096x4x128, .f32⟩
  | .hbm, ⟨6, _⟩ => ⟨S4096x4x128, .f32⟩
  | .hbm, ⟨7, _⟩ => ⟨S4096x4x128, .f32⟩
  | .hbm, ⟨8, _⟩ => ⟨S_, .f32⟩
  | .hbm, ⟨9, _⟩ => ⟨S4096x4, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S_, .f32⟩
  | .hbm, ⟨20, _⟩ => ⟨S4096x4x1, .f32⟩
  | .hbm, ⟨21, _⟩ => ⟨S4096x4x1, .f32⟩
  | .hbm, ⟨22, _⟩ => ⟨S4096x4x128, .f32⟩
  | .hbm, ⟨23, _⟩ => ⟨S4096x4x128, .f32⟩
  | .hbm, ⟨24, _⟩ => ⟨S1x1x128, .f32⟩
  | .hbm, ⟨25, _⟩ => ⟨S4096x4x128, .f32⟩
  | .hbm, ⟨26, _⟩ => ⟨S4096x4x128, .f32⟩
  | .hbm, ⟨27, _⟩ => ⟨S4096x4x128, .f32⟩
  | .hbm, ⟨28, _⟩ => ⟨S4096x4x128, .f32⟩
  | .hbm, ⟨29, _⟩ => ⟨S_, .f32⟩
  | .hbm, ⟨30, _⟩ => ⟨S4096x4x128, .f32⟩
  | .hbm, ⟨31, _⟩ => ⟨S4096x4x128, .f32⟩
  | .hbm, ⟨32, _⟩ => ⟨S_, .f32⟩
  | .hbm, ⟨33, _⟩ => ⟨S4096x4x128, .f32⟩
  | .hbm, ⟨34, _⟩ => ⟨S4096x4x128, .f32⟩
  | .hbm, ⟨35, _⟩ => ⟨S_, .f32⟩
  | .hbm, ⟨36, _⟩ => ⟨S4096x4x128, .f32⟩
  | .hbm, ⟨37, _⟩ => ⟨S4096x4x128, .f32⟩
  | .hbm, ⟨38, _⟩ => ⟨S4096x4x128, .f32⟩
  | .hbm, ⟨39, _⟩ => ⟨S4096x4x128, .f32⟩
  | .hbm, ⟨40, _⟩ => ⟨S4096x4x128, .f32⟩
  | .hbm, ⟨41, _⟩ => ⟨S4096x512, .f32⟩
  | .hbm, ⟨42, _⟩ => ⟨S4096x512, .f32⟩
  | .hbm, ⟨43, _⟩ => ⟨S4096x4x128, .f32⟩
  | .hbm, ⟨44, _⟩ => ⟨S4096x4x128, .f32⟩
  | .hbm, ⟨45, _⟩ => ⟨S4096x4x128, .f32⟩
  | .hbm, ⟨46, _⟩ => ⟨S4096x4x128, .f32⟩
  | .hbm, ⟨47, _⟩ => ⟨S4096x4x128, .f32⟩
  | .hbm, ⟨48, _⟩ => ⟨S4096x4x128, .f32⟩
  | .hbm, ⟨49, _⟩ => ⟨S4096x4x128, .f32⟩
  | .hbm, ⟨50, _⟩ => ⟨S4096x4x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S4096x4x128, .f32⟩
  | .hbm, ⟨55, _⟩ => ⟨S4096x4x128, .f32⟩
  | .hbm, ⟨56, _⟩ => ⟨S_, .f32⟩
  | .hbm, ⟨57, _⟩ => ⟨S128, .f32⟩
  | .hbm, ⟨58, _⟩ => ⟨S4096x4x128, .f32⟩
  | .hbm, ⟨59, _⟩ => ⟨S_, .f32⟩
  | .hbm, ⟨60, _⟩ => ⟨S4096x4, .f32⟩
  | .hbm, ⟨61, _⟩ => ⟨S4096x4x1, .f32⟩
  | .hbm, ⟨62, _⟩ => ⟨S4096x4x128, .f32⟩
  | .hbm, ⟨63, _⟩ => ⟨S4096x4x128, .f32⟩
  | .hbm, ⟨64, _⟩ => ⟨S4096x4x1, .f32⟩
  | .hbm, ⟨65, _⟩ => ⟨S_, .f32⟩
  | .hbm, ⟨66, _⟩ => ⟨S4096x4x1, .f32⟩
  | .hbm, ⟨67, _⟩ => ⟨S4096x4x1, .f32⟩
  | .hbm, ⟨68, _⟩ => ⟨S_, .f32⟩
  | .hbm, ⟨69, _⟩ => ⟨S4096x4, .f32⟩
  | .hbm, ⟨70, _⟩ => ⟨S4096x4x128, .f32⟩
  | .hbm, ⟨71, _⟩ => ⟨S4096x4x128, .f32⟩
  | .hbm, ⟨72, _⟩ => ⟨S4096x4x128, .f32⟩
  | .hbm, ⟨73, _⟩ => ⟨S4096x4x128, .f32⟩
  | .hbm, ⟨74, _⟩ => ⟨S4096x4x128, .f32⟩
  | .hbm, ⟨75, _⟩ => ⟨S4096x512, .f32⟩
  | .hbm, ⟨76, _⟩ => ⟨S4096x512, .f32⟩
  | .hbm, ⟨77, _⟩ => ⟨S4096x512, .bf16⟩
  | .hbm, ⟨78, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== WModGrad.lean ====
abbrev S8x1024 : Shape := ⟨2, ![8, 1024]⟩
abbrev S4x8x768 : Shape := ⟨3, ![4, 8, 768]⟩
abbrev S1x4x1024x768 : Shape := ⟨4, ![1, 4, 1024, 768]⟩
abbrev S1x8x768 : Shape := ⟨3, ![1, 8, 768]⟩
abbrev S1x1x1024x768 : Shape := ⟨4, ![1, 1, 1024, 768]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S1x4x1024x768, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1x1024x768, .f32⟩
  | .local _ .vmem, ⟨4, _⟩ => ⟨S1x1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WModGradRefIdeal.lean ====
abbrev S8x1024 : Shape := ⟨2, ![8, 1024]⟩
abbrev S4x8x768 : Shape := ⟨3, ![4, 8, 768]⟩
abbrev S_ : Shape := ⟨0, ![]⟩
abbrev S1x8x768 : Shape := ⟨3, ![1, 8, 768]⟩
abbrev S8x768 : Shape := ⟨2, ![8, 768]⟩
abbrev S768x1024 : Shape := ⟨2, ![768, 1024]⟩
abbrev S1024x768 : Shape := ⟨2, ![1024, 768]⟩
abbrev S1x1024x768 : Shape := ⟨3, ![1, 1024, 768]⟩
abbrev S4x1024x768 : Shape := ⟨3, ![4, 1024, 768]⟩
abbrev S1x4x1024x768 : Shape := ⟨4, ![1, 4, 1024, 768]⟩

abbrev nBuf : Space → Nat
  | .hbm => 33
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1x8x768, .f32⟩
  | .hbm, ⟨12, _⟩ => ⟨S8x768, .f32⟩
  | .hbm, ⟨13, _⟩ => ⟨S768x1024, .f32⟩
  | .hbm, ⟨14, _⟩ => ⟨S1024x768, .f32⟩
  | .hbm, ⟨15, _⟩ => ⟨S1x8x768, .f32⟩
  | .hbm, ⟨16, _⟩ => ⟨S8x768, .f32⟩
  | .hbm, ⟨17, _⟩ => ⟨S768x1024, .f32⟩
  | .hbm, ⟨18, _⟩ => ⟨S1024x768, .f32⟩
  | .hbm, ⟨19, _⟩ => ⟨S1x8x768, .f32⟩
  | .hbm, ⟨20, _⟩ => ⟨S8x768, .f32⟩
  | .hbm, ⟨21, _⟩ => ⟨S768x1024, .f32⟩
  | .hbm, ⟨22, _⟩ => ⟨S1024x768, .f32⟩
  | .hbm, ⟨23, _⟩ => ⟨S1x8x768, .f32⟩
  | .hbm, ⟨24, _⟩ => ⟨S8x768, .f32⟩
  | .hbm, ⟨25, _⟩ => ⟨S768x1024, .f32⟩
  | .hbm, ⟨26, _⟩ => ⟨S1024x768, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S4x1024x768, .f32⟩
  | .hbm, ⟨32, _⟩ => ⟨S1x4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== LossHead.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdamSmall.lean ====
abbrev S4x6144 : Shape := ⟨2, ![4, 6144]⟩
abbrev S4x1024 : Shape := ⟨2, ![4, 1024]⟩
abbrev S4x4 : Shape := ⟨2, ![4, 4]⟩
abbrev S4x128 : Shape := ⟨2, ![4, 128]⟩
abbrev S4x256 : Shape := ⟨2, ![4, 256]⟩
abbrev S4x4x128x128 : Shape := ⟨4, ![4, 4, 128, 128]⟩
abbrev S4x4x128 : Shape := ⟨3, ![4, 4, 128]⟩
abbrev S4x64 : Shape := ⟨2, ![4, 64]⟩
abbrev S8x4x6144 : Shape := ⟨3, ![8, 4, 6144]⟩
abbrev S8x4x1024 : Shape := ⟨3, ![8, 4, 1024]⟩
abbrev S8x4x4 : Shape := ⟨3, ![8, 4, 4]⟩
abbrev S8x4x128 : Shape := ⟨3, ![8, 4, 128]⟩
abbrev S8x4x256 : Shape := ⟨3, ![8, 4, 256]⟩
abbrev S8x4x4x128x128 : Shape := ⟨5, ![8, 4, 4, 128, 128]⟩
abbrev S8x4x4x128 : Shape := ⟨4, ![8, 4, 4, 128]⟩
abbrev S8x4x64 : Shape := ⟨3, ![8, 4, 64]⟩
abbrev S24576 : Shape := ⟨1, ![24576]⟩
abbrev S_ : Shape := ⟨0, ![]⟩
abbrev S192x128 : Shape := ⟨2, ![192, 128]⟩
abbrev S4096 : Shape := ⟨1, ![4096]⟩
abbrev S32x128 : Shape := ⟨2, ![32, 128]⟩
abbrev S16 : Shape := ⟨1, ![16]⟩
abbrev S1024 : Shape := ⟨1, ![1024]⟩
abbrev S8x128 : Shape := ⟨2, ![8, 128]⟩
abbrev S512 : Shape := ⟨1, ![512]⟩
abbrev S262144 : Shape := ⟨1, ![262144]⟩
abbrev S2048x128 : Shape := ⟨2, ![2048, 128]⟩
abbrev S2048 : Shape := ⟨1, ![2048]⟩
abbrev S16x128 : Shape := ⟨2, ![16, 128]⟩
abbrev S256 : Shape := ⟨1, ![256]⟩
abbrev S24x128 : Shape := ⟨2, ![24, 128]⟩
abbrev S2400x128 : Shape := ⟨2, ![2400, 128]⟩
abbrev S8x24576 : Shape := ⟨2, ![8, 24576]⟩
abbrev S8x192x128 : Shape := ⟨3, ![8, 192, 128]⟩
abbrev S8x4096 : Shape := ⟨2, ![8, 4096]⟩
abbrev S8x32x128 : Shape := ⟨3, ![8, 32, 128]⟩
abbrev S8x16 : Shape := ⟨2, ![8, 16]⟩
abbrev S8x1024 : Shape := ⟨2, ![8, 1024]⟩
abbrev S8x8x128 : Shape := ⟨3, ![8, 8, 128]⟩
abbrev S8x512 : Shape := ⟨2, ![8, 512]⟩
abbrev S8x262144 : Shape := ⟨2, ![8, 262144]⟩
abbrev S8x2048x128 : Shape := ⟨3, ![8, 2048, 128]⟩
abbrev S8x2048 : Shape := ⟨2, ![8, 2048]⟩
abbrev S8x16x128 : Shape := ⟨3, ![8, 16, 128]⟩
abbrev S8x256 : Shape := ⟨2, ![8, 256]⟩
abbrev S8x24x128 : Shape := ⟨3, ![8, 24, 128]⟩
abbrev S8x2400x128 : Shape := ⟨3, ![8, 2400, 128]⟩
abbrev S800x128 : Shape := ⟨2, ![800, 128]⟩
abbrev S8x800x128 : Shape := ⟨3, ![8, 800, 128]⟩
abbrev S1x800x128 : Shape := ⟨3, ![1, 800, 128]⟩

abbrev nBuf : Space → Nat
  | .hbm => 305
  | .vmem => 16
  | .smem => 0
  | _ => 0

abbrev hbmTy0_0 (i : Nat) : BufTy := match i % 128 with
  | 0 => ⟨S4x6144, .f32⟩
  | 1 => ⟨S4x1024, .f32⟩
  | 2 => ⟨S4x1024, .f32⟩
  | 3 => ⟨S4x4, .f32⟩
  | 4 => ⟨S4x4, .f32⟩
  | 5 => ⟨S4x128, .f32⟩
  | 6 => ⟨S4x256, .f32⟩
  | 7 => ⟨S4x256, .f32⟩
  | 8 => ⟨S4x4x128x128, .f32⟩
  | 9 => ⟨S4x4x128, .f32⟩
  | 10 => ⟨S4x64, .f32⟩
  | 11 => ⟨S4x64, .f32⟩
  | 12 => ⟨S4x6144, .f32⟩
  | 13 => ⟨S4x1024, .f32⟩
  | 14 => ⟨S4x1024, .f32⟩
  | 15 => ⟨S4x4, .f32⟩
  | 16 => ⟨S4x4, .f32⟩
  | 17 => ⟨S4x128, .f32⟩
  | 18 => ⟨S4x256, .f32⟩
  | 19 => ⟨S4x256, .f32⟩
  | 20 => ⟨S4x4x128x128, .f32⟩
  | 21 => ⟨S4x4x128, .f32⟩
  | 22 => ⟨S4x64, .f32⟩
  | 23 => ⟨S4x64, .f32⟩
  | 24 => ⟨S4x6144, .f32⟩
  | 25 => ⟨S4x1024, .f32⟩
  | 26 => ⟨S4x1024, .f32⟩
  | 27 => ⟨S4x4, .f32⟩
  | 28 => ⟨S4x4, .f32⟩
  | 29 => ⟨S4x128, .f32⟩
  | 30 => ⟨S4x256, .f32⟩
  | 31 => ⟨S4x256, .f32⟩
  | 32 => ⟨S4x4x128x128, .f32⟩
  | 33 => ⟨S4x4x128, .f32⟩
  | 34 => ⟨S4x64, .f32⟩
  | 35 => ⟨S4x64, .f32⟩
  | 36 => ⟨S8x4x6144, .f32⟩
  | 37 => ⟨S8x4x1024, .f32⟩
  | 38 => ⟨S8x4x1024, .f32⟩
  | 39 => ⟨S8x4x4, .f32⟩
  | 40 => ⟨S8x4x4, .f32⟩
  | 41 => ⟨S8x4x128, .f32⟩
  | 42 => ⟨S8x4x256, .f32⟩
  | 43 => ⟨S8x4x256, .f32⟩
  | 44 => ⟨S8x4x4x128x128, .f32⟩
  | 45 => ⟨S8x4x4x128, .f32⟩
  | 46 => ⟨S8x4x64, .f32⟩
  | 47 => ⟨S8x4x64, .f32⟩
  | 48 => ⟨S24576, .f32⟩
  | 49 => ⟨S_, .i32⟩
  | 50 => ⟨S_, .f32⟩
  | 51 => ⟨S24576, .f32⟩
  | 52 => ⟨S192x128, .f32⟩
  | 53 => ⟨S4096, .f32⟩
  | 54 => ⟨S_, .i32⟩
  | 55 => ⟨S_, .f32⟩
  | 56 => ⟨S4096, .f32⟩
  | 57 => ⟨S32x128, .f32⟩
  | 58 => ⟨S4096, .f32⟩
  | 59 => ⟨S_, .i32⟩
  | 60 => ⟨S_, .f32⟩
  | 61 => ⟨S4096, .f32⟩
  | 62 => ⟨S32x128, .f32⟩
  | 63 => ⟨S16, .f32⟩
  | 64 => ⟨S_, .i32⟩
  | 65 => ⟨S_, .f32⟩
  | 66 => ⟨S1024, .f32⟩
  | 67 => ⟨S8x128, .f32⟩
  | 68 => ⟨S16, .f32⟩
  | 69 => ⟨S_, .i32⟩
  | 70 => ⟨S_, .f32⟩
  | 71 => ⟨S1024, .f32⟩
  | 72 => ⟨S8x128, .f32⟩
  | 73 => ⟨S512, .f32⟩
  | 74 => ⟨S_, .i32⟩
  | 75 => ⟨S_, .f32⟩
  | 76 => ⟨S1024, .f32⟩
  | 77 => ⟨S8x128, .f32⟩
  | 78 => ⟨S1024, .f32⟩
  | 79 => ⟨S_, .i32⟩
  | 80 => ⟨S_, .f32⟩
  | 81 => ⟨S1024, .f32⟩
  | 82 => ⟨S8x128, .f32⟩
  | 83 => ⟨S1024, .f32⟩
  | 84 => ⟨S_, .i32⟩
  | 85 => ⟨S_, .f32⟩
  | 86 => ⟨S1024, .f32⟩
  | 87 => ⟨S8x128, .f32⟩
  | 88 => ⟨S262144, .f32⟩
  | 89 => ⟨S_, .i32⟩
  | 90 => ⟨S_, .f32⟩
  | 91 => ⟨S262144, .f32⟩
  | 92 => ⟨S2048x128, .f32⟩
  | 93 => ⟨S2048, .f32⟩
  | 94 => ⟨S_, .i32⟩
  | 95 => ⟨S_, .f32⟩
  | 96 => ⟨S2048, .f32⟩
  | 97 => ⟨S16x128, .f32⟩
  | 98 => ⟨S256, .f32⟩
  | 99 => ⟨S_, .i32⟩
  | 100 => ⟨S_, .f32⟩
  | 101 => ⟨S1024, .f32⟩
  | 102 => ⟨S8x128, .f32⟩
  | 103 => ⟨S256, .f32⟩
  | 104 => ⟨S_, .i32⟩
  | 105 => ⟨S_, .f32⟩
  | 106 => ⟨S1024, .f32⟩
  | 107 => ⟨S8x128, .f32⟩
  | 108 => ⟨S_, .f32⟩
  | 109 => ⟨S24x128, .f32⟩
  | 110 => ⟨S2400x128, .f32⟩
  | 111 => ⟨S24576, .f32⟩
  | 112 => ⟨S_, .i32⟩
  | 113 => ⟨S_, .f32⟩
  | 114 => ⟨S24576, .f32⟩
  | 115 => ⟨S192x128, .f32⟩
  | 116 => ⟨S4096, .f32⟩
  | 117 => ⟨S_, .i32⟩
  | 118 => ⟨S_, .f32⟩
  | 119 => ⟨S4096, .f32⟩
  | 120 => ⟨S32x128, .f32⟩
  | 121 => ⟨S4096, .f32⟩
  | 122 => ⟨S_, .i32⟩
  | 123 => ⟨S_, .f32⟩
  | 124 => ⟨S4096, .f32⟩
  | 125 => ⟨S32x128, .f32⟩
  | 126 => ⟨S16, .f32⟩
  | 127 => ⟨S_, .i32⟩
  | _ => ⟨S4x6144, .f32⟩

abbrev hbmTy0_1 (i : Nat) : BufTy := match i % 128 with
  | 0 => ⟨S_, .f32⟩
  | 1 => ⟨S1024, .f32⟩
  | 2 => ⟨S8x128, .f32⟩
  | 3 => ⟨S16, .f32⟩
  | 4 => ⟨S_, .i32⟩
  | 5 => ⟨S_, .f32⟩
  | 6 => ⟨S1024, .f32⟩
  | 7 => ⟨S8x128, .f32⟩
  | 8 => ⟨S512, .f32⟩
  | 9 => ⟨S_, .i32⟩
  | 10 => ⟨S_, .f32⟩
  | 11 => ⟨S1024, .f32⟩
  | 12 => ⟨S8x128, .f32⟩
  | 13 => ⟨S1024, .f32⟩
  | 14 => ⟨S_, .i32⟩
  | 15 => ⟨S_, .f32⟩
  | 16 => ⟨S1024, .f32⟩
  | 17 => ⟨S8x128, .f32⟩
  | 18 => ⟨S1024, .f32⟩
  | 19 => ⟨S_, .i32⟩
  | 20 => ⟨S_, .f32⟩
  | 21 => ⟨S1024, .f32⟩
  | 22 => ⟨S8x128, .f32⟩
  | 23 => ⟨S262144, .f32⟩
  | 24 => ⟨S_, .i32⟩
  | 25 => ⟨S_, .f32⟩
  | 26 => ⟨S262144, .f32⟩
  | 27 => ⟨S2048x128, .f32⟩
  | 28 => ⟨S2048, .f32⟩
  | 29 => ⟨S_, .i32⟩
  | 30 => ⟨S_, .f32⟩
  | 31 => ⟨S2048, .f32⟩
  | 32 => ⟨S16x128, .f32⟩
  | 33 => ⟨S256, .f32⟩
  | 34 => ⟨S_, .i32⟩
  | 35 => ⟨S_, .f32⟩
  | 36 => ⟨S1024, .f32⟩
  | 37 => ⟨S8x128, .f32⟩
  | 38 => ⟨S256, .f32⟩
  | 39 => ⟨S_, .i32⟩
  | 40 => ⟨S_, .f32⟩
  | 41 => ⟨S1024, .f32⟩
  | 42 => ⟨S8x128, .f32⟩
  | 43 => ⟨S_, .f32⟩
  | 44 => ⟨S24x128, .f32⟩
  | 45 => ⟨S2400x128, .f32⟩
  | 46 => ⟨S24576, .f32⟩
  | 47 => ⟨S_, .i32⟩
  | 48 => ⟨S_, .f32⟩
  | 49 => ⟨S24576, .f32⟩
  | 50 => ⟨S192x128, .f32⟩
  | 51 => ⟨S4096, .f32⟩
  | 52 => ⟨S_, .i32⟩
  | 53 => ⟨S_, .f32⟩
  | 54 => ⟨S4096, .f32⟩
  | 55 => ⟨S32x128, .f32⟩
  | 56 => ⟨S4096, .f32⟩
  | 57 => ⟨S_, .i32⟩
  | 58 => ⟨S_, .f32⟩
  | 59 => ⟨S4096, .f32⟩
  | 60 => ⟨S32x128, .f32⟩
  | 61 => ⟨S16, .f32⟩
  | 62 => ⟨S_, .i32⟩
  | 63 => ⟨S_, .f32⟩
  | 64 => ⟨S1024, .f32⟩
  | 65 => ⟨S8x128, .f32⟩
  | 66 => ⟨S16, .f32⟩
  | 67 => ⟨S_, .i32⟩
  | 68 => ⟨S_, .f32⟩
  | 69 => ⟨S1024, .f32⟩
  | 70 => ⟨S8x128, .f32⟩
  | 71 => ⟨S512, .f32⟩
  | 72 => ⟨S_, .i32⟩
  | 73 => ⟨S_, .f32⟩
  | 74 => ⟨S1024, .f32⟩
  | 75 => ⟨S8x128, .f32⟩
  | 76 => ⟨S1024, .f32⟩
  | 77 => ⟨S_, .i32⟩
  | 78 => ⟨S_, .f32⟩
  | 79 => ⟨S1024, .f32⟩
  | 80 => ⟨S8x128, .f32⟩
  | 81 => ⟨S1024, .f32⟩
  | 82 => ⟨S_, .i32⟩
  | 83 => ⟨S_, .f32⟩
  | 84 => ⟨S1024, .f32⟩
  | 85 => ⟨S8x128, .f32⟩
  | 86 => ⟨S262144, .f32⟩
  | 87 => ⟨S_, .i32⟩
  | 88 => ⟨S_, .f32⟩
  | 89 => ⟨S262144, .f32⟩
  | 90 => ⟨S2048x128, .f32⟩
  | 91 => ⟨S2048, .f32⟩
  | 92 => ⟨S_, .i32⟩
  | 93 => ⟨S_, .f32⟩
  | 94 => ⟨S2048, .f32⟩
  | 95 => ⟨S16x128, .f32⟩
  | 96 => ⟨S256, .f32⟩
  | 97 => ⟨S_, .i32⟩
  | 98 => ⟨S_, .f32⟩
  | 99 => ⟨S1024, .f32⟩
  | 100 => ⟨S8x128, .f32⟩
  | 101 => ⟨S256, .f32⟩
  | 102 => ⟨S_, .i32⟩
  | 103 => ⟨S_, .f32⟩
  | 104 => ⟨S1024, .f32⟩
  | 105 => ⟨S8x128, .f32⟩
  | 106 => ⟨S_, .f32⟩
  | 107 => ⟨S24x128, .f32⟩
  | 108 => ⟨S2400x128, .f32⟩
  | 109 => ⟨S8x24576, .f32⟩
  | 110 => ⟨S_, .i32⟩
  | 111 => ⟨S_, .f32⟩
  | 112 => ⟨S8x24576, .f32⟩
  | 113 => ⟨S8x192x128, .f32⟩
  | 114 => ⟨S8x4096, .f32⟩
  | 115 => ⟨S_, .i32⟩
  | 116 => ⟨S_, .f32⟩
  | 117 => ⟨S8x4096, .f32⟩
  | 118 => ⟨S8x32x128, .f32⟩
  | 119 => ⟨S8x4096, .f32⟩
  | 120 => ⟨S_, .i32⟩
  | 121 => ⟨S_, .f32⟩
  | 122 => ⟨S8x4096, .f32⟩
  | 123 => ⟨S8x32x128, .f32⟩
  | 124 => ⟨S8x16, .f32⟩
  | 125 => ⟨S_, .i32⟩
  | 126 => ⟨S_, .f32⟩
  | 127 => ⟨S8x1024, .f32⟩
  | _ => ⟨S4x6144, .f32⟩

abbrev hbmTy0_2 (i : Nat) : BufTy := match i % 128 with
  | 0 => ⟨S8x8x128, .f32⟩
  | 1 => ⟨S8x16, .f32⟩
  | 2 => ⟨S_, .i32⟩
  | 3 => ⟨S_, .f32⟩
  | 4 => ⟨S8x1024, .f32⟩
  | 5 => ⟨S8x8x128, .f32⟩
  | 6 => ⟨S8x512, .f32⟩
  | 7 => ⟨S_, .i32⟩
  | 8 => ⟨S_, .f32⟩
  | 9 => ⟨S8x1024, .f32⟩
  | 10 => ⟨S8x8x128, .f32⟩
  | 11 => ⟨S8x1024, .f32⟩
  | 12 => ⟨S_, .i32⟩
  | 13 => ⟨S_, .f32⟩
  | 14 => ⟨S8x1024, .f32⟩
  | 15 => ⟨S8x8x128, .f32⟩
  | 16 => ⟨S8x1024, .f32⟩
  | 17 => ⟨S_, .i32⟩
  | 18 => ⟨S_, .f32⟩
  | 19 => ⟨S8x1024, .f32⟩
  | 20 => ⟨S8x8x128, .f32⟩
  | 21 => ⟨S8x262144, .f32⟩
  | 22 => ⟨S_, .i32⟩
  | 23 => ⟨S_, .f32⟩
  | 24 => ⟨S8x262144, .f32⟩
  | 25 => ⟨S8x2048x128, .f32⟩
  | 26 => ⟨S8x2048, .f32⟩
  | 27 => ⟨S_, .i32⟩
  | 28 => ⟨S_, .f32⟩
  | 29 => ⟨S8x2048, .f32⟩
  | 30 => ⟨S8x16x128, .f32⟩
  | 31 => ⟨S8x256, .f32⟩
  | 32 => ⟨S_, .i32⟩
  | 33 => ⟨S_, .f32⟩
  | 34 => ⟨S8x1024, .f32⟩
  | 35 => ⟨S8x8x128, .f32⟩
  | 36 => ⟨S8x256, .f32⟩
  | 37 => ⟨S_, .i32⟩
  | 38 => ⟨S_, .f32⟩
  | 39 => ⟨S8x1024, .f32⟩
  | 40 => ⟨S8x8x128, .f32⟩
  | 41 => ⟨S_, .f32⟩
  | 42 => ⟨S24x128, .f32⟩
  | 43 => ⟨S8x24x128, .f32⟩
  | 44 => ⟨S8x2400x128, .f32⟩
  | 45 => ⟨S2400x128, .f32⟩
  | 46 => ⟨S2400x128, .f32⟩
  | 47 => ⟨S2400x128, .f32⟩
  | 48 => ⟨S2400x128, .f32⟩
  | _ => ⟨S4x6144, .f32⟩

abbrev hbmTy (i : Nat) : BufTy := match i / 128 with
  | 0 => hbmTy0_0 i
  | 1 => hbmTy0_1 i
  | 2 => hbmTy0_2 i
  | _ => ⟨S4x6144, .f32⟩

abbrev bufTy : (tb : Table) → Fin (tcTables nBuf tb) → BufTy
  | .hbm, ⟨i, _⟩ => hbmTy i
  | .local _ .vmem, ⟨0, _⟩ => ⟨S800x128, .f32⟩
  | .local _ .vmem, ⟨1, _⟩ => ⟨S800x128, .f32⟩
  | .local _ .vmem, ⟨2, _⟩ => ⟨S800x128, .f32⟩
  | .local _ .vmem, ⟨3, _⟩ => ⟨S800x128, .f32⟩
  | .local _ .vmem, ⟨4, _⟩ => ⟨S800x128, .f32⟩
  | .local _ .vmem, ⟨5, _⟩ => ⟨S800x128, .f32⟩
  | .local _ .vmem, ⟨6, _⟩ => ⟨S8x800x128, .f32⟩
  | .local _ .vmem, ⟨7, _⟩ => ⟨S8x800x128, .f32⟩
  | .local _ .vmem, ⟨8, _⟩ => ⟨S800x128, .f32⟩
  | .local _ .vmem, ⟨9, _⟩ => ⟨S800x128, .f32⟩
  | .local _ .vmem, ⟨10, _⟩ => ⟨S800x128, .f32⟩
  | .local _ .vmem, ⟨11, _⟩ => ⟨S800x128, .f32⟩
  | .local _ .vmem, ⟨12, _⟩ => ⟨S800x128, .f32⟩
  | .local _ .vmem, ⟨13, _⟩ => ⟨S800x128, .f32⟩
  | .local _ .vmem, ⟨14, _⟩ => ⟨S800x128, .f32⟩
  | .local _ .vmem, ⟨15, _⟩ => ⟨S800x128, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_c : Ref sig .tc := ⟨.hbm, 49, rfl⟩
abbrev main_call0_v0 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_c_0 : Ref sig .tc := ⟨.hbm, 54, rfl⟩
abbrev main_call1_v0 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_c_1 : Ref sig .tc := ⟨.hbm, 59, rfl⟩
abbrev main_call2_v0 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_c_2 : Ref sig .tc := ⟨.hbm, 64, rfl⟩
abbrev main_call3_v0 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_c_3 : Ref sig .tc := ⟨.hbm, 69, rfl⟩
abbrev main_call4_v0 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_c_4 : Ref sig .tc := ⟨.hbm, 74, rfl⟩
abbrev main_call5_v0 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_c_5 : Ref sig .tc := ⟨.hbm, 79, rfl⟩
abbrev main_call6_v0 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_c_6 : Ref sig .tc := ⟨.hbm, 84, rfl⟩
abbrev main_call7_v0 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_c_7 : Ref sig .tc := ⟨.hbm, 89, rfl⟩
abbrev main_call8_v0 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_c_8 : Ref sig .tc := ⟨.hbm, 94, rfl⟩
abbrev main_call9_v0 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_c_9 : Ref sig .tc := ⟨.hbm, 99, rfl⟩
abbrev main_call10_v0 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_c_10 : Ref sig .tc := ⟨.hbm, 104, rfl⟩
abbrev main_call11_v0 : Ref sig .tc := ⟨.hbm, 105, rfl⟩
abbrev main_v34 : Ref sig .tc := ⟨.hbm, 106, rfl⟩
abbrev main_v35 : Ref sig .tc := ⟨.hbm, 107, rfl⟩
abbrev main_cst : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_c_11 : Ref sig .tc := ⟨.hbm, 112, rfl⟩
abbrev main_call12_v0 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_c_12 : Ref sig .tc := ⟨.hbm, 117, rfl⟩
abbrev main_call13_v0 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_c_13 : Ref sig .tc := ⟨.hbm, 122, rfl⟩
abbrev main_call14_v0 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_c_14 : Ref sig .tc := ⟨.hbm, 127, rfl⟩
abbrev main_call15_v0 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_c_15 : Ref sig .tc := ⟨.hbm, 132, rfl⟩
abbrev main_call16_v0 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_c_16 : Ref sig .tc := ⟨.hbm, 137, rfl⟩
abbrev main_call17_v0 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_c_17 : Ref sig .tc := ⟨.hbm, 142, rfl⟩
abbrev main_call18_v0 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_c_18 : Ref sig .tc := ⟨.hbm, 147, rfl⟩
abbrev main_call19_v0 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_c_19 : Ref sig .tc := ⟨.hbm, 152, rfl⟩
abbrev main_call20_v0 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_c_20 : Ref sig .tc := ⟨.hbm, 157, rfl⟩
abbrev main_call21_v0 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_c_21 : Ref sig .tc := ⟨.hbm, 162, rfl⟩
abbrev main_call22_v0 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_c_22 : Ref sig .tc := ⟨.hbm, 167, rfl⟩
abbrev main_call23_v0 : Ref sig .tc := ⟨.hbm, 168, rfl⟩
abbrev main_v72 : Ref sig .tc := ⟨.hbm, 169, rfl⟩
abbrev main_v73 : Ref sig .tc := ⟨.hbm, 170, rfl⟩
abbrev main_cst_23 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_c_24 : Ref sig .tc := ⟨.hbm, 175, rfl⟩
abbrev main_call24_v0 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_c_25 : Ref sig .tc := ⟨.hbm, 180, rfl⟩
abbrev main_call25_v0 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_c_26 : Ref sig .tc := ⟨.hbm, 185, rfl⟩
abbrev main_call26_v0 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_c_27 : Ref sig .tc := ⟨.hbm, 190, rfl⟩
abbrev main_call27_v0 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_c_28 : Ref sig .tc := ⟨.hbm, 195, rfl⟩
abbrev main_call28_v0 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_c_29 : Ref sig .tc := ⟨.hbm, 200, rfl⟩
abbrev main_call29_v0 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_c_30 : Ref sig .tc := ⟨.hbm, 205, rfl⟩
abbrev main_call30_v0 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_c_31 : Ref sig .tc := ⟨.hbm, 210, rfl⟩
abbrev main_call31_v0 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_c_32 : Ref sig .tc := ⟨.hbm, 215, rfl⟩
abbrev main_call32_v0 : Ref sig .tc := ⟨.hbm, 216, rfl⟩
abbrev main_v101 : Ref sig .tc := ⟨.hbm, 217, rfl⟩
abbrev main_v102 : Ref sig .tc := ⟨.hbm, 218, rfl⟩
abbrev main_v103 : Ref sig .tc := ⟨.hbm, 219, rfl⟩
abbrev main_c_33 : Ref sig .tc := ⟨.hbm, 220, rfl⟩
abbrev main_call33_v0 : Ref sig .tc := ⟨.hbm, 221, rfl⟩
abbrev main_v104 : Ref sig .tc := ⟨.hbm, 222, rfl⟩
abbrev main_v105 : Ref sig .tc := ⟨.hbm, 223, rfl⟩
abbrev main_v106 : Ref sig .tc := ⟨.hbm, 224, rfl⟩
abbrev main_c_34 : Ref sig .tc := ⟨.hbm, 225, rfl⟩
abbrev main_call34_v0 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_c_35 : Ref sig .tc := ⟨.hbm, 230, rfl⟩
abbrev main_call35_v0 : Ref sig .tc := ⟨.hbm, 231, rfl⟩
abbrev main_v110 : Ref sig .tc := ⟨.hbm, 232, rfl⟩
abbrev main_v111 : Ref sig .tc := ⟨.hbm, 233, rfl⟩
abbrev main_cst_36 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_c_37 : Ref sig .tc := ⟨.hbm, 238, rfl⟩
abbrev main_call36_v0 : Ref sig .tc := ⟨.hbm, 239, rfl⟩
abbrev main_v115 : Ref sig .tc := ⟨.hbm, 240, rfl⟩
abbrev main_v116 : Ref sig .tc := ⟨.hbm, 241, rfl⟩
abbrev main_v117 : Ref sig .tc := ⟨.hbm, 242, rfl⟩
abbrev main_c_38 : Ref sig .tc := ⟨.hbm, 243, rfl⟩
abbrev main_call37_v0 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_c_39 : Ref sig .tc := ⟨.hbm, 248, rfl⟩
abbrev main_call38_v0 : Ref sig .tc := ⟨.hbm, 249, rfl⟩
abbrev main_v121 : Ref sig .tc := ⟨.hbm, 250, rfl⟩
abbrev main_v122 : Ref sig .tc := ⟨.hbm, 251, rfl⟩
abbrev main_v123 : Ref sig .tc := ⟨.hbm, 252, rfl⟩
abbrev main_c_40 : Ref sig .tc := ⟨.hbm, 253, rfl⟩
abbrev main_call39_v0 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_c_41 : Ref sig .tc := ⟨.hbm, 258, rfl⟩
abbrev main_call40_v0 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩
abbrev main_c_42 : Ref sig .tc := ⟨.hbm, 263, rfl⟩
abbrev main_call41_v0 : Ref sig .tc := ⟨.hbm, 264, rfl⟩
abbrev main_v130 : Ref sig .tc := ⟨.hbm, 265, rfl⟩
abbrev main_v131 : Ref sig .tc := ⟨.hbm, 266, rfl⟩
abbrev main_v132 : Ref sig .tc := ⟨.hbm, 267, rfl⟩
abbrev main_c_43 : Ref sig .tc := ⟨.hbm, 268, rfl⟩
abbrev main_call42_v0 : Ref sig .tc := ⟨.hbm, 269, rfl⟩
abbrev main_v133 : Ref sig .tc := ⟨.hbm, 270, rfl⟩
abbrev main_v134 : Ref sig .tc := ⟨.hbm, 271, rfl⟩
abbrev main_v135 : Ref sig .tc := ⟨.hbm, 272, rfl⟩
abbrev main_c_44 : Ref sig .tc := ⟨.hbm, 273, rfl⟩
abbrev main_call43_v0 : Ref sig .tc := ⟨.hbm, 274, rfl⟩
abbrev main_v136 : Ref sig .tc := ⟨.hbm, 275, rfl⟩
abbrev main_v137 : Ref sig .tc := ⟨.hbm, 276, rfl⟩
abbrev main_v138 : Ref sig .tc := ⟨.hbm, 277, rfl⟩
abbrev main_c_45 : Ref sig .tc := ⟨.hbm, 278, rfl⟩
abbrev main_call44_v0 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_c_46 : Ref sig .tc := ⟨.hbm, 283, rfl⟩
abbrev main_call45_v0 : Ref sig .tc := ⟨.hbm, 284, rfl⟩
abbrev main_v142 : Ref sig .tc := ⟨.hbm, 285, rfl⟩
abbrev main_v143 : Ref sig .tc := ⟨.hbm, 286, rfl⟩
abbrev main_v144 : Ref sig .tc := ⟨.hbm, 287, rfl⟩
abbrev main_c_47 : Ref sig .tc := ⟨.hbm, 288, rfl⟩
abbrev main_call46_v0 : Ref sig .tc := ⟨.hbm, 289, rfl⟩
abbrev main_v145 : Ref sig .tc := ⟨.hbm, 290, rfl⟩
abbrev main_v146 : Ref sig .tc := ⟨.hbm, 291, rfl⟩
abbrev main_v147 : Ref sig .tc := ⟨.hbm, 292, rfl⟩
abbrev main_c_48 : Ref sig .tc := ⟨.hbm, 293, rfl⟩
abbrev main_call47_v0 : Ref sig .tc := ⟨.hbm, 294, rfl⟩
abbrev main_v148 : Ref sig .tc := ⟨.hbm, 295, rfl⟩
abbrev main_v149 : Ref sig .tc := ⟨.hbm, 296, rfl⟩
abbrev main_cst_49 : Ref sig .tc := ⟨.hbm, 297, rfl⟩
abbrev main_v150 : Ref sig .tc := ⟨.hbm, 298, rfl⟩
abbrev main_v151 : Ref sig .tc := ⟨.hbm, 299, rfl⟩
abbrev main_v152 : Ref sig .tc := ⟨.hbm, 300, rfl⟩
abbrev main_v153_0 : Ref sig .tc := ⟨.hbm, 301, rfl⟩
abbrev main_v153_1 : Ref sig .tc := ⟨.hbm, 302, rfl⟩
abbrev main_v153_2 : Ref sig .tc := ⟨.hbm, 303, rfl⟩
abbrev main_v153_3 : Ref sig .tc := ⟨.hbm, 304, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x800x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S800x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S800x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S800x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S800x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S4x6144 : Shape := ⟨2, ![4, 6144]⟩
abbrev S4x1024 : Shape := ⟨2, ![4, 1024]⟩
abbrev S4x4 : Shape := ⟨2, ![4, 4]⟩
abbrev S4x128 : Shape := ⟨2, ![4, 128]⟩
abbrev S4x256 : Shape := ⟨2, ![4, 256]⟩
abbrev S4x4x128x128 : Shape := ⟨4, ![4, 4, 128, 128]⟩
abbrev S4x4x128 : Shape := ⟨3, ![4, 4, 128]⟩
abbrev S4x64 : Shape := ⟨2, ![4, 64]⟩
abbrev S8x4x6144 : Shape := ⟨3, ![8, 4, 6144]⟩
abbrev S8x4x1024 : Shape := ⟨3, ![8, 4, 1024]⟩
abbrev S8x4x4 : Shape := ⟨3, ![8, 4, 4]⟩
abbrev S8x4x128 : Shape := ⟨3, ![8, 4, 128]⟩
abbrev S8x4x256 : Shape := ⟨3, ![8, 4, 256]⟩
abbrev S8x4x4x128x128 : Shape := ⟨5, ![8, 4, 4, 128, 128]⟩
abbrev S8x4x4x128 : Shape := ⟨4, ![8, 4, 4, 128]⟩
abbrev S8x4x64 : Shape := ⟨3, ![8, 4, 64]⟩
abbrev S_ : Shape := ⟨0, ![]⟩
abbrev S24576 : Shape := ⟨1, ![24576]⟩
abbrev S192x128 : Shape := ⟨2, ![192, 128]⟩
abbrev S4096 : Shape := ⟨1, ![4096]⟩
abbrev S32x128 : Shape := ⟨2, ![32, 128]⟩
abbrev S16 : Shape := ⟨1, ![16]⟩
abbrev S1024 : Shape := ⟨1, ![1024]⟩
abbrev S8x128 : Shape := ⟨2, ![8, 128]⟩
abbrev S512 : Shape := ⟨1, ![512]⟩
abbrev S262144 : Shape := ⟨1, ![262144]⟩
abbrev S2048x128 : Shape := ⟨2, ![2048, 128]⟩
abbrev S2048 : Shape := ⟨1, ![2048]⟩
abbrev S16x128 : Shape := ⟨2, ![16, 128]⟩
abbrev S256 : Shape := ⟨1, ![256]⟩
abbrev S24x128 : Shape := ⟨2, ![24, 128]⟩
abbrev S2400x128 : Shape := ⟨2, ![2400, 128]⟩

abbrev nBuf : Space → Nat
  | .hbm => 720
  | .vmem => 0
  | .smem => 0
  | _ => 0

abbrev hbmTy0_0 (i : Nat) : BufTy := match i % 128 with
  | 0 => ⟨S4x6144, .f32⟩
  | 1 => ⟨S4x1024, .f32⟩
  | 2 => ⟨S4x1024, .f32⟩
  | 3 => ⟨S4x4, .f32⟩
  | 4 => ⟨S4x4, .f32⟩
  | 5 => ⟨S4x128, .f32⟩
  | 6 => ⟨S4x256, .f32⟩
  | 7 => ⟨S4x256, .f32⟩
  | 8 => ⟨S4x4x128x128, .f32⟩
  | 9 => ⟨S4x4x128, .f32⟩
  | 10 => ⟨S4x64, .f32⟩
  | 11 => ⟨S4x64, .f32⟩
  | 12 => ⟨S4x6144, .f32⟩
  | 13 => ⟨S4x1024, .f32⟩
  | 14 => ⟨S4x1024, .f32⟩
  | 15 => ⟨S4x4, .f32⟩
  | 16 => ⟨S4x4, .f32⟩
  | 17 => ⟨S4x128, .f32⟩
  | 18 => ⟨S4x256, .f32⟩
  | 19 => ⟨S4x256, .f32⟩
  | 20 => ⟨S4x4x128x128, .f32⟩
  | 21 => ⟨S4x4x128, .f32⟩
  | 22 => ⟨S4x64, .f32⟩
  | 23 => ⟨S4x64, .f32⟩
  | 24 => ⟨S4x6144, .f32⟩
  | 25 => ⟨S4x1024, .f32⟩
  | 26 => ⟨S4x1024, .f32⟩
  | 27 => ⟨S4x4, .f32⟩
  | 28 => ⟨S4x4, .f32⟩
  | 29 => ⟨S4x128, .f32⟩
  | 30 => ⟨S4x256, .f32⟩
  | 31 => ⟨S4x256, .f32⟩
  | 32 => ⟨S4x4x128x128, .f32⟩
  | 33 => ⟨S4x4x128, .f32⟩
  | 34 => ⟨S4x64, .f32⟩
  | 35 => ⟨S4x64, .f32⟩
  | 36 => ⟨S8x4x6144, .f32⟩
  | 37 => ⟨S8x4x1024, .f32⟩
  | 38 => ⟨S8x4x1024, .f32⟩
  | 39 => ⟨S8x4x4, .f32⟩
  | 40 => ⟨S8x4x4, .f32⟩
  | 41 => ⟨S8x4x128, .f32⟩
  | 42 => ⟨S8x4x256, .f32⟩
  | 43 => ⟨S8x4x256, .f32⟩
  | 44 => ⟨S8x4x4x128x128, .f32⟩
  | 45 => ⟨S8x4x4x128, .f32⟩
  | 46 => ⟨S8x4x64, .f32⟩
  | 47 => ⟨S8x4x64, .f32⟩
  | 48 => ⟨S_, .f32⟩
  | 49 => ⟨S4x6144, .f32⟩
  | 50 => ⟨S_, .f32⟩
  | 51 => ⟨S4x6144, .f32⟩
  | 52 => ⟨S4x6144, .f32⟩
  | 53 => ⟨S_, .f32⟩
  | 54 => ⟨S4x6144, .f32⟩
  | 55 => ⟨S4x6144, .f32⟩
  | 56 => ⟨S4x6144, .f32⟩
  | 57 => ⟨S_, .f32⟩
  | 58 => ⟨S4x6144, .f32⟩
  | 59 => ⟨S4x6144, .f32⟩
  | 60 => ⟨S4x6144, .f32⟩
  | 61 => ⟨S_, .f32⟩
  | 62 => ⟨S4x6144, .f32⟩
  | 63 => ⟨S4x6144, .f32⟩
  | 64 => ⟨S4x6144, .f32⟩
  | 65 => ⟨S_, .f32⟩
  | 66 => ⟨S4x6144, .f32⟩
  | 67 => ⟨S4x6144, .f32⟩
  | 68 => ⟨S_, .f32⟩
  | 69 => ⟨S4x6144, .f32⟩
  | 70 => ⟨S4x6144, .f32⟩
  | 71 => ⟨S4x6144, .f32⟩
  | 72 => ⟨S_, .f32⟩
  | 73 => ⟨S4x6144, .f32⟩
  | 74 => ⟨S4x6144, .f32⟩
  | 75 => ⟨S4x6144, .f32⟩
  | 76 => ⟨S_, .f32⟩
  | 77 => ⟨S4x6144, .f32⟩
  | 78 => ⟨S4x6144, .f32⟩
  | 79 => ⟨S4x6144, .f32⟩
  | 80 => ⟨S_, .f32⟩
  | 81 => ⟨S4x6144, .f32⟩
  | 82 => ⟨S4x6144, .f32⟩
  | 83 => ⟨S_, .f32⟩
  | 84 => ⟨S4x1024, .f32⟩
  | 85 => ⟨S_, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S4x1024, .f32⟩
  | 92 => ⟨S_, .f32⟩
  | 93 => ⟨S4x1024, .f32⟩
  | 94 => ⟨S4x1024, .f32⟩
  | 95 => ⟨S4x1024, .f32⟩
  | 96 => ⟨S_, .f32⟩
  | 97 => ⟨S4x1024, .f32⟩
  | 98 => ⟨S4x1024, .f32⟩
  | 99 => ⟨S4x1024, .f32⟩
  | 100 => ⟨S_, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S4x1024, .f32⟩
  | 107 => ⟨S_, .f32⟩
  | 108 => ⟨S4x1024, .f32⟩
  | 109 => ⟨S4x1024, .f32⟩
  | 110 => ⟨S4x1024, .f32⟩
  | 111 => ⟨S_, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S_, .f32⟩
  | 119 => ⟨S4x1024, .f32⟩
  | 120 => ⟨S_, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S4x1024, .f32⟩
  | 127 => ⟨S_, .f32⟩
  | _ => ⟨S4x6144, .f32⟩

abbrev hbmTy0_1 (i : Nat) : BufTy := match i % 128 with
  | 0 => ⟨S4x1024, .f32⟩
  | 1 => ⟨S4x1024, .f32⟩
  | 2 => ⟨S4x1024, .f32⟩
  | 3 => ⟨S_, .f32⟩
  | 4 => ⟨S4x1024, .f32⟩
  | 5 => ⟨S4x1024, .f32⟩
  | 6 => ⟨S4x1024, .f32⟩
  | 7 => ⟨S_, .f32⟩
  | 8 => ⟨S4x1024, .f32⟩
  | 9 => ⟨S4x1024, .f32⟩
  | 10 => ⟨S_, .f32⟩
  | 11 => ⟨S4x1024, .f32⟩
  | 12 => ⟨S4x1024, .f32⟩
  | 13 => ⟨S4x1024, .f32⟩
  | 14 => ⟨S_, .f32⟩
  | 15 => ⟨S4x1024, .f32⟩
  | 16 => ⟨S4x1024, .f32⟩
  | 17 => ⟨S4x1024, .f32⟩
  | 18 => ⟨S_, .f32⟩
  | 19 => ⟨S4x1024, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S_, .f32⟩
  | 26 => ⟨S4x4, .f32⟩
  | 27 => ⟨S_, .f32⟩
  | 28 => ⟨S4x4, .f32⟩
  | 29 => ⟨S4x4, .f32⟩
  | 30 => ⟨S_, .f32⟩
  | 31 => ⟨S4x4, .f32⟩
  | 32 => ⟨S4x4, .f32⟩
  | 33 => ⟨S4x4, .f32⟩
  | 34 => ⟨S_, .f32⟩
  | 35 => ⟨S4x4, .f32⟩
  | 36 => ⟨S4x4, .f32⟩
  | 37 => ⟨S4x4, .f32⟩
  | 38 => ⟨S_, .f32⟩
  | 39 => ⟨S4x4, .f32⟩
  | 40 => ⟨S4x4, .f32⟩
  | 41 => ⟨S4x4, .f32⟩
  | 42 => ⟨S_, .f32⟩
  | 43 => ⟨S4x4, .f32⟩
  | 44 => ⟨S4x4, .f32⟩
  | 45 => ⟨S_, .f32⟩
  | 46 => ⟨S4x4, .f32⟩
  | 47 => ⟨S4x4, .f32⟩
  | 48 => ⟨S4x4, .f32⟩
  | 49 => ⟨S_, .f32⟩
  | 50 => ⟨S4x4, .f32⟩
  | 51 => ⟨S4x4, .f32⟩
  | 52 => ⟨S4x4, .f32⟩
  | 53 => ⟨S_, .f32⟩
  | 54 => ⟨S4x4, .f32⟩
  | 55 => ⟨S4x4, .f32⟩
  | 56 => ⟨S4x4, .f32⟩
  | 57 => ⟨S_, .f32⟩
  | 58 => ⟨S4x4, .f32⟩
  | 59 => ⟨S4x4, .f32⟩
  | 60 => ⟨S_, .f32⟩
  | 61 => ⟨S4x4, .f32⟩
  | 62 => ⟨S_, .f32⟩
  | 63 => ⟨S4x4, .f32⟩
  | 64 => ⟨S4x4, .f32⟩
  | 65 => ⟨S_, .f32⟩
  | 66 => ⟨S4x4, .f32⟩
  | 67 => ⟨S4x4, .f32⟩
  | 68 => ⟨S4x4, .f32⟩
  | 69 => ⟨S_, .f32⟩
  | 70 => ⟨S4x4, .f32⟩
  | 71 => ⟨S4x4, .f32⟩
  | 72 => ⟨S4x4, .f32⟩
  | 73 => ⟨S_, .f32⟩
  | 74 => ⟨S4x4, .f32⟩
  | 75 => ⟨S4x4, .f32⟩
  | 76 => ⟨S4x4, .f32⟩
  | 77 => ⟨S_, .f32⟩
  | 78 => ⟨S4x4, .f32⟩
  | 79 => ⟨S4x4, .f32⟩
  | 80 => ⟨S_, .f32⟩
  | 81 => ⟨S4x4, .f32⟩
  | 82 => ⟨S4x4, .f32⟩
  | 83 => ⟨S4x4, .f32⟩
  | 84 => ⟨S_, .f32⟩
  | 85 => ⟨S4x4, .f32⟩
  | 86 => ⟨S4x4, .f32⟩
  | 87 => ⟨S4x4, .f32⟩
  | 88 => ⟨S_, .f32⟩
  | 89 => ⟨S4x4, .f32⟩
  | 90 => ⟨S4x4, .f32⟩
  | 91 => ⟨S4x4, .f32⟩
  | 92 => ⟨S_, .f32⟩
  | 93 => ⟨S4x4, .f32⟩
  | 94 => ⟨S4x4, .f32⟩
  | 95 => ⟨S_, .f32⟩
  | 96 => ⟨S4x128, .f32⟩
  | 97 => ⟨S_, .f32⟩
  | 98 => ⟨S4x128, .f32⟩
  | 99 => ⟨S4x128, .f32⟩
  | 100 => ⟨S_, .f32⟩
  | 101 => ⟨S4x128, .f32⟩
  | 102 => ⟨S4x128, .f32⟩
  | 103 => ⟨S4x128, .f32⟩
  | 104 => ⟨S_, .f32⟩
  | 105 => ⟨S4x128, .f32⟩
  | 106 => ⟨S4x128, .f32⟩
  | 107 => ⟨S4x128, .f32⟩
  | 108 => ⟨S_, .f32⟩
  | 109 => ⟨S4x128, .f32⟩
  | 110 => ⟨S4x128, .f32⟩
  | 111 => ⟨S4x128, .f32⟩
  | 112 => ⟨S_, .f32⟩
  | 113 => ⟨S4x128, .f32⟩
  | 114 => ⟨S4x128, .f32⟩
  | 115 => ⟨S_, .f32⟩
  | 116 => ⟨S4x128, .f32⟩
  | 117 => ⟨S4x128, .f32⟩
  | 118 => ⟨S4x128, .f32⟩
  | 119 => ⟨S_, .f32⟩
  | 120 => ⟨S4x128, .f32⟩
  | 121 => ⟨S4x128, .f32⟩
  | 122 => ⟨S4x128, .f32⟩
  | 123 => ⟨S_, .f32⟩
  | 124 => ⟨S4x128, .f32⟩
  | 125 => ⟨S4x128, .f32⟩
  | 126 => ⟨S4x128, .f32⟩
  | 127 => ⟨S_, .f32⟩
  | _ => ⟨S4x6144, .f32⟩

abbrev hbmTy0_2 (i : Nat) : BufTy := match i % 128 with
  | 0 => ⟨S4x128, .f32⟩
  | 1 => ⟨S4x128, .f32⟩
  | 2 => ⟨S_, .f32⟩
  | 3 => ⟨S4x256, .f32⟩
  | 4 => ⟨S_, .f32⟩
  | 5 => ⟨S4x256, .f32⟩
  | 6 => ⟨S4x256, .f32⟩
  | 7 => ⟨S_, .f32⟩
  | 8 => ⟨S4x256, .f32⟩
  | 9 => ⟨S4x256, .f32⟩
  | 10 => ⟨S4x256, .f32⟩
  | 11 => ⟨S_, .f32⟩
  | 12 => ⟨S4x256, .f32⟩
  | 13 => ⟨S4x256, .f32⟩
  | 14 => ⟨S4x256, .f32⟩
  | 15 => ⟨S_, .f32⟩
  | 16 => ⟨S4x256, .f32⟩
  | 17 => ⟨S4x256, .f32⟩
  | 18 => ⟨S4x256, .f32⟩
  | 19 => ⟨S_, .f32⟩
  | 20 => ⟨S4x256, .f32⟩
  | 21 => ⟨S4x256, .f32⟩
  | 22 => ⟨S_, .f32⟩
  | 23 => ⟨S4x256, .f32⟩
  | 24 => ⟨S4x256, .f32⟩
  | 25 => ⟨S4x256, .f32⟩
  | 26 => ⟨S_, .f32⟩
  | 27 => ⟨S4x256, .f32⟩
  | 28 => ⟨S4x256, .f32⟩
  | 29 => ⟨S4x256, .f32⟩
  | 30 => ⟨S_, .f32⟩
  | 31 => ⟨S4x256, .f32⟩
  | 32 => ⟨S4x256, .f32⟩
  | 33 => ⟨S4x256, .f32⟩
  | 34 => ⟨S_, .f32⟩
  | 35 => ⟨S4x256, .f32⟩
  | 36 => ⟨S4x256, .f32⟩
  | 37 => ⟨S_, .f32⟩
  | 38 => ⟨S4x256, .f32⟩
  | 39 => ⟨S_, .f32⟩
  | 40 => ⟨S4x256, .f32⟩
  | 41 => ⟨S4x256, .f32⟩
  | 42 => ⟨S_, .f32⟩
  | 43 => ⟨S4x256, .f32⟩
  | 44 => ⟨S4x256, .f32⟩
  | 45 => ⟨S4x256, .f32⟩
  | 46 => ⟨S_, .f32⟩
  | 47 => ⟨S4x256, .f32⟩
  | 48 => ⟨S4x256, .f32⟩
  | 49 => ⟨S4x256, .f32⟩
  | 50 => ⟨S_, .f32⟩
  | 51 => ⟨S4x256, .f32⟩
  | 52 => ⟨S4x256, .f32⟩
  | 53 => ⟨S4x256, .f32⟩
  | 54 => ⟨S_, .f32⟩
  | 55 => ⟨S4x256, .f32⟩
  | 56 => ⟨S4x256, .f32⟩
  | 57 => ⟨S_, .f32⟩
  | 58 => ⟨S4x256, .f32⟩
  | 59 => ⟨S4x256, .f32⟩
  | 60 => ⟨S4x256, .f32⟩
  | 61 => ⟨S_, .f32⟩
  | 62 => ⟨S4x256, .f32⟩
  | 63 => ⟨S4x256, .f32⟩
  | 64 => ⟨S4x256, .f32⟩
  | 65 => ⟨S_, .f32⟩
  | 66 => ⟨S4x256, .f32⟩
  | 67 => ⟨S4x256, .f32⟩
  | 68 => ⟨S4x256, .f32⟩
  | 69 => ⟨S_, .f32⟩
  | 70 => ⟨S4x256, .f32⟩
  | 71 => ⟨S4x256, .f32⟩
  | 72 => ⟨S_, .f32⟩
  | 73 => ⟨S4x4x128x128, .f32⟩
  | 74 => ⟨S_, .f32⟩
  | 75 => ⟨S4x4x128x128, .f32⟩
  | 76 => ⟨S4x4x128x128, .f32⟩
  | 77 => ⟨S_, .f32⟩
  | 78 => ⟨S4x4x128x128, .f32⟩
  | 79 => ⟨S4x4x128x128, .f32⟩
  | 80 => ⟨S4x4x128x128, .f32⟩
  | 81 => ⟨S_, .f32⟩
  | 82 => ⟨S4x4x128x128, .f32⟩
  | 83 => ⟨S4x4x128x128, .f32⟩
  | 84 => ⟨S4x4x128x128, .f32⟩
  | 85 => ⟨S_, .f32⟩
  | 86 => ⟨S4x4x128x128, .f32⟩
  | 87 => ⟨S4x4x128x128, .f32⟩
  | 88 => ⟨S4x4x128x128, .f32⟩
  | 89 => ⟨S_, .f32⟩
  | 90 => ⟨S4x4x128x128, .f32⟩
  | 91 => ⟨S4x4x128x128, .f32⟩
  | 92 => ⟨S_, .f32⟩
  | 93 => ⟨S4x4x128x128, .f32⟩
  | 94 => ⟨S4x4x128x128, .f32⟩
  | 95 => ⟨S4x4x128x128, .f32⟩
  | 96 => ⟨S_, .f32⟩
  | 97 => ⟨S4x4x128x128, .f32⟩
  | 98 => ⟨S4x4x128x128, .f32⟩
  | 99 => ⟨S4x4x128x128, .f32⟩
  | 100 => ⟨S_, .f32⟩
  | 101 => ⟨S4x4x128x128, .f32⟩
  | 102 => ⟨S4x4x128x128, .f32⟩
  | 103 => ⟨S4x4x128x128, .f32⟩
  | 104 => ⟨S_, .f32⟩
  | 105 => ⟨S4x4x128x128, .f32⟩
  | 106 => ⟨S4x4x128x128, .f32⟩
  | 107 => ⟨S_, .f32⟩
  | 108 => ⟨S4x4x128, .f32⟩
  | 109 => ⟨S_, .f32⟩
  | 110 => ⟨S4x4x128, .f32⟩
  | 111 => ⟨S4x4x128, .f32⟩
  | 112 => ⟨S_, .f32⟩
  | 113 => ⟨S4x4x128, .f32⟩
  | 114 => ⟨S4x4x128, .f32⟩
  | 115 => ⟨S4x4x128, .f32⟩
  | 116 => ⟨S_, .f32⟩
  | 117 => ⟨S4x4x128, .f32⟩
  | 118 => ⟨S4x4x128, .f32⟩
  | 119 => ⟨S4x4x128, .f32⟩
  | 120 => ⟨S_, .f32⟩
  | 121 => ⟨S4x4x128, .f32⟩
  | 122 => ⟨S4x4x128, .f32⟩
  | 123 => ⟨S4x4x128, .f32⟩
  | 124 => ⟨S_, .f32⟩
  | 125 => ⟨S4x4x128, .f32⟩
  | 126 => ⟨S4x4x128, .f32⟩
  | 127 => ⟨S_, .f32⟩
  | _ => ⟨S4x6144, .f32⟩

abbrev hbmTy0_3 (i : Nat) : BufTy := match i % 128 with
  | 0 => ⟨S4x4x128, .f32⟩
  | 1 => ⟨S4x4x128, .f32⟩
  | 2 => ⟨S4x4x128, .f32⟩
  | 3 => ⟨S_, .f32⟩
  | 4 => ⟨S4x4x128, .f32⟩
  | 5 => ⟨S4x4x128, .f32⟩
  | 6 => ⟨S4x4x128, .f32⟩
  | 7 => ⟨S_, .f32⟩
  | 8 => ⟨S4x4x128, .f32⟩
  | 9 => ⟨S4x4x128, .f32⟩
  | 10 => ⟨S4x4x128, .f32⟩
  | 11 => ⟨S_, .f32⟩
  | 12 => ⟨S4x4x128, .f32⟩
  | 13 => ⟨S4x4x128, .f32⟩
  | 14 => ⟨S_, .f32⟩
  | 15 => ⟨S4x64, .f32⟩
  | 16 => ⟨S_, .f32⟩
  | 17 => ⟨S4x64, .f32⟩
  | 18 => ⟨S4x64, .f32⟩
  | 19 => ⟨S_, .f32⟩
  | 20 => ⟨S4x64, .f32⟩
  | 21 => ⟨S4x64, .f32⟩
  | 22 => ⟨S4x64, .f32⟩
  | 23 => ⟨S_, .f32⟩
  | 24 => ⟨S4x64, .f32⟩
  | 25 => ⟨S4x64, .f32⟩
  | 26 => ⟨S4x64, .f32⟩
  | 27 => ⟨S_, .f32⟩
  | 28 => ⟨S4x64, .f32⟩
  | 29 => ⟨S4x64, .f32⟩
  | 30 => ⟨S4x64, .f32⟩
  | 31 => ⟨S_, .f32⟩
  | 32 => ⟨S4x64, .f32⟩
  | 33 => ⟨S4x64, .f32⟩
  | 34 => ⟨S_, .f32⟩
  | 35 => ⟨S4x64, .f32⟩
  | 36 => ⟨S4x64, .f32⟩
  | 37 => ⟨S4x64, .f32⟩
  | 38 => ⟨S_, .f32⟩
  | 39 => ⟨S4x64, .f32⟩
  | 40 => ⟨S4x64, .f32⟩
  | 41 => ⟨S4x64, .f32⟩
  | 42 => ⟨S_, .f32⟩
  | 43 => ⟨S4x64, .f32⟩
  | 44 => ⟨S4x64, .f32⟩
  | 45 => ⟨S4x64, .f32⟩
  | 46 => ⟨S_, .f32⟩
  | 47 => ⟨S4x64, .f32⟩
  | 48 => ⟨S4x64, .f32⟩
  | 49 => ⟨S_, .f32⟩
  | 50 => ⟨S4x64, .f32⟩
  | 51 => ⟨S_, .f32⟩
  | 52 => ⟨S4x64, .f32⟩
  | 53 => ⟨S4x64, .f32⟩
  | 54 => ⟨S_, .f32⟩
  | 55 => ⟨S4x64, .f32⟩
  | 56 => ⟨S4x64, .f32⟩
  | 57 => ⟨S4x64, .f32⟩
  | 58 => ⟨S_, .f32⟩
  | 59 => ⟨S4x64, .f32⟩
  | 60 => ⟨S4x64, .f32⟩
  | 61 => ⟨S4x64, .f32⟩
  | 62 => ⟨S_, .f32⟩
  | 63 => ⟨S4x64, .f32⟩
  | 64 => ⟨S4x64, .f32⟩
  | 65 => ⟨S4x64, .f32⟩
  | 66 => ⟨S_, .f32⟩
  | 67 => ⟨S4x64, .f32⟩
  | 68 => ⟨S4x64, .f32⟩
  | 69 => ⟨S_, .f32⟩
  | 70 => ⟨S4x64, .f32⟩
  | 71 => ⟨S4x64, .f32⟩
  | 72 => ⟨S4x64, .f32⟩
  | 73 => ⟨S_, .f32⟩
  | 74 => ⟨S4x64, .f32⟩
  | 75 => ⟨S4x64, .f32⟩
  | 76 => ⟨S4x64, .f32⟩
  | 77 => ⟨S_, .f32⟩
  | 78 => ⟨S4x64, .f32⟩
  | 79 => ⟨S4x64, .f32⟩
  | 80 => ⟨S4x64, .f32⟩
  | 81 => ⟨S_, .f32⟩
  | 82 => ⟨S4x64, .f32⟩
  | 83 => ⟨S4x64, .f32⟩
  | 84 => ⟨S24576, .f32⟩
  | 85 => ⟨S_, .i32⟩
  | 86 => ⟨S_, .f32⟩
  | 87 => ⟨S24576, .f32⟩
  | 88 => ⟨S192x128, .f32⟩
  | 89 => ⟨S4096, .f32⟩
  | 90 => ⟨S_, .i32⟩
  | 91 => ⟨S_, .f32⟩
  | 92 => ⟨S4096, .f32⟩
  | 93 => ⟨S32x128, .f32⟩
  | 94 => ⟨S4096, .f32⟩
  | 95 => ⟨S_, .i32⟩
  | 96 => ⟨S_, .f32⟩
  | 97 => ⟨S4096, .f32⟩
  | 98 => ⟨S32x128, .f32⟩
  | 99 => ⟨S16, .f32⟩
  | 100 => ⟨S_, .i32⟩
  | 101 => ⟨S_, .f32⟩
  | 102 => ⟨S1024, .f32⟩
  | 103 => ⟨S8x128, .f32⟩
  | 104 => ⟨S16, .f32⟩
  | 105 => ⟨S_, .i32⟩
  | 106 => ⟨S_, .f32⟩
  | 107 => ⟨S1024, .f32⟩
  | 108 => ⟨S8x128, .f32⟩
  | 109 => ⟨S512, .f32⟩
  | 110 => ⟨S_, .i32⟩
  | 111 => ⟨S_, .f32⟩
  | 112 => ⟨S1024, .f32⟩
  | 113 => ⟨S8x128, .f32⟩
  | 114 => ⟨S1024, .f32⟩
  | 115 => ⟨S_, .i32⟩
  | 116 => ⟨S_, .f32⟩
  | 117 => ⟨S1024, .f32⟩
  | 118 => ⟨S8x128, .f32⟩
  | 119 => ⟨S1024, .f32⟩
  | 120 => ⟨S_, .i32⟩
  | 121 => ⟨S_, .f32⟩
  | 122 => ⟨S1024, .f32⟩
  | 123 => ⟨S8x128, .f32⟩
  | 124 => ⟨S262144, .f32⟩
  | 125 => ⟨S_, .i32⟩
  | 126 => ⟨S_, .f32⟩
  | 127 => ⟨S262144, .f32⟩
  | _ => ⟨S4x6144, .f32⟩

abbrev hbmTy0_4 (i : Nat) : BufTy := match i % 128 with
  | 0 => ⟨S2048x128, .f32⟩
  | 1 => ⟨S2048, .f32⟩
  | 2 => ⟨S_, .i32⟩
  | 3 => ⟨S_, .f32⟩
  | 4 => ⟨S2048, .f32⟩
  | 5 => ⟨S16x128, .f32⟩
  | 6 => ⟨S256, .f32⟩
  | 7 => ⟨S_, .i32⟩
  | 8 => ⟨S_, .f32⟩
  | 9 => ⟨S1024, .f32⟩
  | 10 => ⟨S8x128, .f32⟩
  | 11 => ⟨S256, .f32⟩
  | 12 => ⟨S_, .i32⟩
  | 13 => ⟨S_, .f32⟩
  | 14 => ⟨S1024, .f32⟩
  | 15 => ⟨S8x128, .f32⟩
  | 16 => ⟨S_, .f32⟩
  | 17 => ⟨S24x128, .f32⟩
  | 18 => ⟨S2400x128, .f32⟩
  | 19 => ⟨S24576, .f32⟩
  | 20 => ⟨S_, .i32⟩
  | 21 => ⟨S_, .f32⟩
  | 22 => ⟨S24576, .f32⟩
  | 23 => ⟨S192x128, .f32⟩
  | 24 => ⟨S4096, .f32⟩
  | 25 => ⟨S_, .i32⟩
  | 26 => ⟨S_, .f32⟩
  | 27 => ⟨S4096, .f32⟩
  | 28 => ⟨S32x128, .f32⟩
  | 29 => ⟨S4096, .f32⟩
  | 30 => ⟨S_, .i32⟩
  | 31 => ⟨S_, .f32⟩
  | 32 => ⟨S4096, .f32⟩
  | 33 => ⟨S32x128, .f32⟩
  | 34 => ⟨S16, .f32⟩
  | 35 => ⟨S_, .i32⟩
  | 36 => ⟨S_, .f32⟩
  | 37 => ⟨S1024, .f32⟩
  | 38 => ⟨S8x128, .f32⟩
  | 39 => ⟨S16, .f32⟩
  | 40 => ⟨S_, .i32⟩
  | 41 => ⟨S_, .f32⟩
  | 42 => ⟨S1024, .f32⟩
  | 43 => ⟨S8x128, .f32⟩
  | 44 => ⟨S512, .f32⟩
  | 45 => ⟨S_, .i32⟩
  | 46 => ⟨S_, .f32⟩
  | 47 => ⟨S1024, .f32⟩
  | 48 => ⟨S8x128, .f32⟩
  | 49 => ⟨S1024, .f32⟩
  | 50 => ⟨S_, .i32⟩
  | 51 => ⟨S_, .f32⟩
  | 52 => ⟨S1024, .f32⟩
  | 53 => ⟨S8x128, .f32⟩
  | 54 => ⟨S1024, .f32⟩
  | 55 => ⟨S_, .i32⟩
  | 56 => ⟨S_, .f32⟩
  | 57 => ⟨S1024, .f32⟩
  | 58 => ⟨S8x128, .f32⟩
  | 59 => ⟨S262144, .f32⟩
  | 60 => ⟨S_, .i32⟩
  | 61 => ⟨S_, .f32⟩
  | 62 => ⟨S262144, .f32⟩
  | 63 => ⟨S2048x128, .f32⟩
  | 64 => ⟨S2048, .f32⟩
  | 65 => ⟨S_, .i32⟩
  | 66 => ⟨S_, .f32⟩
  | 67 => ⟨S2048, .f32⟩
  | 68 => ⟨S16x128, .f32⟩
  | 69 => ⟨S256, .f32⟩
  | 70 => ⟨S_, .i32⟩
  | 71 => ⟨S_, .f32⟩
  | 72 => ⟨S1024, .f32⟩
  | 73 => ⟨S8x128, .f32⟩
  | 74 => ⟨S256, .f32⟩
  | 75 => ⟨S_, .i32⟩
  | 76 => ⟨S_, .f32⟩
  | 77 => ⟨S1024, .f32⟩
  | 78 => ⟨S8x128, .f32⟩
  | 79 => ⟨S_, .f32⟩
  | 80 => ⟨S24x128, .f32⟩
  | 81 => ⟨S2400x128, .f32⟩
  | 82 => ⟨S24576, .f32⟩
  | 83 => ⟨S_, .i32⟩
  | 84 => ⟨S_, .f32⟩
  | 85 => ⟨S24576, .f32⟩
  | 86 => ⟨S192x128, .f32⟩
  | 87 => ⟨S4096, .f32⟩
  | 88 => ⟨S_, .i32⟩
  | 89 => ⟨S_, .f32⟩
  | 90 => ⟨S4096, .f32⟩
  | 91 => ⟨S32x128, .f32⟩
  | 92 => ⟨S4096, .f32⟩
  | 93 => ⟨S_, .i32⟩
  | 94 => ⟨S_, .f32⟩
  | 95 => ⟨S4096, .f32⟩
  | 96 => ⟨S32x128, .f32⟩
  | 97 => ⟨S16, .f32⟩
  | 98 => ⟨S_, .i32⟩
  | 99 => ⟨S_, .f32⟩
  | 100 => ⟨S1024, .f32⟩
  | 101 => ⟨S8x128, .f32⟩
  | 102 => ⟨S16, .f32⟩
  | 103 => ⟨S_, .i32⟩
  | 104 => ⟨S_, .f32⟩
  | 105 => ⟨S1024, .f32⟩
  | 106 => ⟨S8x128, .f32⟩
  | 107 => ⟨S512, .f32⟩
  | 108 => ⟨S_, .i32⟩
  | 109 => ⟨S_, .f32⟩
  | 110 => ⟨S1024, .f32⟩
  | 111 => ⟨S8x128, .f32⟩
  | 112 => ⟨S1024, .f32⟩
  | 113 => ⟨S_, .i32⟩
  | 114 => ⟨S_, .f32⟩
  | 115 => ⟨S1024, .f32⟩
  | 116 => ⟨S8x128, .f32⟩
  | 117 => ⟨S1024, .f32⟩
  | 118 => ⟨S_, .i32⟩
  | 119 => ⟨S_, .f32⟩
  | 120 => ⟨S1024, .f32⟩
  | 121 => ⟨S8x128, .f32⟩
  | 122 => ⟨S262144, .f32⟩
  | 123 => ⟨S_, .i32⟩
  | 124 => ⟨S_, .f32⟩
  | 125 => ⟨S262144, .f32⟩
  | 126 => ⟨S2048x128, .f32⟩
  | 127 => ⟨S2048, .f32⟩
  | _ => ⟨S4x6144, .f32⟩

abbrev hbmTy0_5 (i : Nat) : BufTy := match i % 128 with
  | 0 => ⟨S_, .i32⟩
  | 1 => ⟨S_, .f32⟩
  | 2 => ⟨S2048, .f32⟩
  | 3 => ⟨S16x128, .f32⟩
  | 4 => ⟨S256, .f32⟩
  | 5 => ⟨S_, .i32⟩
  | 6 => ⟨S_, .f32⟩
  | 7 => ⟨S1024, .f32⟩
  | 8 => ⟨S8x128, .f32⟩
  | 9 => ⟨S256, .f32⟩
  | 10 => ⟨S_, .i32⟩
  | 11 => ⟨S_, .f32⟩
  | 12 => ⟨S1024, .f32⟩
  | 13 => ⟨S8x128, .f32⟩
  | 14 => ⟨S_, .f32⟩
  | 15 => ⟨S24x128, .f32⟩
  | 16 => ⟨S2400x128, .f32⟩
  | 17 => ⟨S24576, .f32⟩
  | 18 => ⟨S_, .i32⟩
  | 19 => ⟨S_, .f32⟩
  | 20 => ⟨S24576, .f32⟩
  | 21 => ⟨S192x128, .f32⟩
  | 22 => ⟨S4096, .f32⟩
  | 23 => ⟨S_, .i32⟩
  | 24 => ⟨S_, .f32⟩
  | 25 => ⟨S4096, .f32⟩
  | 26 => ⟨S32x128, .f32⟩
  | 27 => ⟨S4096, .f32⟩
  | 28 => ⟨S_, .i32⟩
  | 29 => ⟨S_, .f32⟩
  | 30 => ⟨S4096, .f32⟩
  | 31 => ⟨S32x128, .f32⟩
  | 32 => ⟨S16, .f32⟩
  | 33 => ⟨S_, .i32⟩
  | 34 => ⟨S_, .f32⟩
  | 35 => ⟨S1024, .f32⟩
  | 36 => ⟨S8x128, .f32⟩
  | 37 => ⟨S16, .f32⟩
  | 38 => ⟨S_, .i32⟩
  | 39 => ⟨S_, .f32⟩
  | 40 => ⟨S1024, .f32⟩
  | 41 => ⟨S8x128, .f32⟩
  | 42 => ⟨S512, .f32⟩
  | 43 => ⟨S_, .i32⟩
  | 44 => ⟨S_, .f32⟩
  | 45 => ⟨S1024, .f32⟩
  | 46 => ⟨S8x128, .f32⟩
  | 47 => ⟨S1024, .f32⟩
  | 48 => ⟨S_, .i32⟩
  | 49 => ⟨S_, .f32⟩
  | 50 => ⟨S1024, .f32⟩
  | 51 => ⟨S8x128, .f32⟩
  | 52 => ⟨S1024, .f32⟩
  | 53 => ⟨S_, .i32⟩
  | 54 => ⟨S_, .f32⟩
  | 55 => ⟨S1024, .f32⟩
  | 56 => ⟨S8x128, .f32⟩
  | 57 => ⟨S262144, .f32⟩
  | 58 => ⟨S_, .i32⟩
  | 59 => ⟨S_, .f32⟩
  | 60 => ⟨S262144, .f32⟩
  | 61 => ⟨S2048x128, .f32⟩
  | 62 => ⟨S2048, .f32⟩
  | 63 => ⟨S_, .i32⟩
  | 64 => ⟨S_, .f32⟩
  | 65 => ⟨S2048, .f32⟩
  | 66 => ⟨S16x128, .f32⟩
  | 67 => ⟨S256, .f32⟩
  | 68 => ⟨S_, .i32⟩
  | 69 => ⟨S_, .f32⟩
  | 70 => ⟨S1024, .f32⟩
  | 71 => ⟨S8x128, .f32⟩
  | 72 => ⟨S256, .f32⟩
  | 73 => ⟨S_, .i32⟩
  | 74 => ⟨S_, .f32⟩
  | 75 => ⟨S1024, .f32⟩
  | 76 => ⟨S8x128, .f32⟩
  | 77 => ⟨S_, .f32⟩
  | 78 => ⟨S24x128, .f32⟩
  | 79 => ⟨S2400x128, .f32⟩
  | _ => ⟨S4x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x6144, .f32⟩

abbrev bufTy : (tb : Table) → Fin (tcTables nBuf tb) → BufTy
  | .hbm, ⟨i, _⟩ => hbmTy i
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_cst_0 : Ref sig .tc := ⟨.hbm, 50, rfl⟩
abbrev main_v1 : Ref sig .tc := ⟨.hbm, 51, rfl⟩
abbrev main_v2 : Ref sig .tc := ⟨.hbm, 52, rfl⟩
abbrev main_cst_1 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_cst_2 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_cst_3 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_cst_4 : Ref sig .tc := ⟨.hbm, 65, rfl⟩
abbrev main_v12 : Ref sig .tc := ⟨.hbm, 66, rfl⟩
abbrev main_v13 : Ref sig .tc := ⟨.hbm, 67, rfl⟩
abbrev main_cst_5 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_6 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_7 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_8 : Ref sig .tc := ⟨.hbm, 80, rfl⟩
abbrev main_v23 : Ref sig .tc := ⟨.hbm, 81, rfl⟩
abbrev main_v24 : Ref sig .tc := ⟨.hbm, 82, rfl⟩
abbrev main_cst_9 : Ref sig .tc := ⟨.hbm, 83, rfl⟩
abbrev main_v25 : Ref sig .tc := ⟨.hbm, 84, rfl⟩
abbrev main_cst_10 : Ref sig .tc := ⟨.hbm, 85, rfl⟩
abbrev main_v26 : Ref sig .tc := ⟨.hbm, 86, rfl⟩
abbrev main_v27 : Ref sig .tc := ⟨.hbm, 87, rfl⟩
abbrev main_cst_11 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_cst_12 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_13 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_14 : Ref sig .tc := ⟨.hbm, 100, rfl⟩
abbrev main_v37 : Ref sig .tc := ⟨.hbm, 101, rfl⟩
abbrev main_v38 : Ref sig .tc := ⟨.hbm, 102, rfl⟩
abbrev main_cst_15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_16 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_cst_17 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_cst_18 : Ref sig .tc := ⟨.hbm, 115, rfl⟩
abbrev main_v48 : Ref sig .tc := ⟨.hbm, 116, rfl⟩
abbrev main_v49 : Ref sig .tc := ⟨.hbm, 117, rfl⟩
abbrev main_cst_19 : Ref sig .tc := ⟨.hbm, 118, rfl⟩
abbrev main_v50 : Ref sig .tc := ⟨.hbm, 119, rfl⟩
abbrev main_cst_20 : Ref sig .tc := ⟨.hbm, 120, rfl⟩
abbrev main_v51 : Ref sig .tc := ⟨.hbm, 121, rfl⟩
abbrev main_v52 : Ref sig .tc := ⟨.hbm, 122, rfl⟩
abbrev main_cst_21 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_22 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_23 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_24 : Ref sig .tc := ⟨.hbm, 135, rfl⟩
abbrev main_v62 : Ref sig .tc := ⟨.hbm, 136, rfl⟩
abbrev main_v63 : Ref sig .tc := ⟨.hbm, 137, rfl⟩
abbrev main_cst_25 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_26 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_27 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_28 : Ref sig .tc := ⟨.hbm, 150, rfl⟩
abbrev main_v73 : Ref sig .tc := ⟨.hbm, 151, rfl⟩
abbrev main_v74 : Ref sig .tc := ⟨.hbm, 152, rfl⟩
abbrev main_cst_29 : Ref sig .tc := ⟨.hbm, 153, rfl⟩
abbrev main_v75 : Ref sig .tc := ⟨.hbm, 154, rfl⟩
abbrev main_cst_30 : Ref sig .tc := ⟨.hbm, 155, rfl⟩
abbrev main_v76 : Ref sig .tc := ⟨.hbm, 156, rfl⟩
abbrev main_v77 : Ref sig .tc := ⟨.hbm, 157, rfl⟩
abbrev main_cst_31 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_32 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_33 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_cst_34 : Ref sig .tc := ⟨.hbm, 170, rfl⟩
abbrev main_v87 : Ref sig .tc := ⟨.hbm, 171, rfl⟩
abbrev main_v88 : Ref sig .tc := ⟨.hbm, 172, rfl⟩
abbrev main_cst_35 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_cst_36 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_cst_37 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_38 : Ref sig .tc := ⟨.hbm, 185, rfl⟩
abbrev main_v98 : Ref sig .tc := ⟨.hbm, 186, rfl⟩
abbrev main_v99 : Ref sig .tc := ⟨.hbm, 187, rfl⟩
abbrev main_cst_39 : Ref sig .tc := ⟨.hbm, 188, rfl⟩
abbrev main_v100 : Ref sig .tc := ⟨.hbm, 189, rfl⟩
abbrev main_cst_40 : Ref sig .tc := ⟨.hbm, 190, rfl⟩
abbrev main_v101 : Ref sig .tc := ⟨.hbm, 191, rfl⟩
abbrev main_v102 : Ref sig .tc := ⟨.hbm, 192, rfl⟩
abbrev main_cst_41 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_cst_42 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_cst_43 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_cst_44 : Ref sig .tc := ⟨.hbm, 205, rfl⟩
abbrev main_v112 : Ref sig .tc := ⟨.hbm, 206, rfl⟩
abbrev main_v113 : Ref sig .tc := ⟨.hbm, 207, rfl⟩
abbrev main_cst_45 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_cst_46 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_cst_47 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_cst_48 : Ref sig .tc := ⟨.hbm, 220, rfl⟩
abbrev main_v123 : Ref sig .tc := ⟨.hbm, 221, rfl⟩
abbrev main_v124 : Ref sig .tc := ⟨.hbm, 222, rfl⟩
abbrev main_cst_49 : Ref sig .tc := ⟨.hbm, 223, rfl⟩
abbrev main_v125 : Ref sig .tc := ⟨.hbm, 224, rfl⟩
abbrev main_cst_50 : Ref sig .tc := ⟨.hbm, 225, rfl⟩
abbrev main_v126 : Ref sig .tc := ⟨.hbm, 226, rfl⟩
abbrev main_v127 : Ref sig .tc := ⟨.hbm, 227, rfl⟩
abbrev main_cst_51 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_52 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_cst_53 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_cst_54 : Ref sig .tc := ⟨.hbm, 240, rfl⟩
abbrev main_v137 : Ref sig .tc := ⟨.hbm, 241, rfl⟩
abbrev main_v138 : Ref sig .tc := ⟨.hbm, 242, rfl⟩
abbrev main_cst_55 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_56 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_cst_57 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_cst_58 : Ref sig .tc := ⟨.hbm, 255, rfl⟩
abbrev main_v148 : Ref sig .tc := ⟨.hbm, 256, rfl⟩
abbrev main_v149 : Ref sig .tc := ⟨.hbm, 257, rfl⟩
abbrev main_cst_59 : Ref sig .tc := ⟨.hbm, 258, rfl⟩
abbrev main_v150 : Ref sig .tc := ⟨.hbm, 259, rfl⟩
abbrev main_cst_60 : Ref sig .tc := ⟨.hbm, 260, rfl⟩
abbrev main_v151 : Ref sig .tc := ⟨.hbm, 261, rfl⟩
abbrev main_v152 : Ref sig .tc := ⟨.hbm, 262, rfl⟩
abbrev main_cst_61 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_cst_62 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_cst_63 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_cst_64 : Ref sig .tc := ⟨.hbm, 275, rfl⟩
abbrev main_v162 : Ref sig .tc := ⟨.hbm, 276, rfl⟩
abbrev main_v163 : Ref sig .tc := ⟨.hbm, 277, rfl⟩
abbrev main_cst_65 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_cst_66 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_cst_67 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_68 : Ref sig .tc := ⟨.hbm, 290, rfl⟩
abbrev main_v173 : Ref sig .tc := ⟨.hbm, 291, rfl⟩
abbrev main_v174 : Ref sig .tc := ⟨.hbm, 292, rfl⟩
abbrev main_cst_69 : Ref sig .tc := ⟨.hbm, 293, rfl⟩
abbrev main_v175 : Ref sig .tc := ⟨.hbm, 294, rfl⟩
abbrev main_cst_70 : Ref sig .tc := ⟨.hbm, 295, rfl⟩
abbrev main_v176 : Ref sig .tc := ⟨.hbm, 296, rfl⟩
abbrev main_v177 : Ref sig .tc := ⟨.hbm, 297, rfl⟩
abbrev main_cst_71 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_cst_72 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_cst_73 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_cst_74 : Ref sig .tc := ⟨.hbm, 310, rfl⟩
abbrev main_v187 : Ref sig .tc := ⟨.hbm, 311, rfl⟩
abbrev main_v188 : Ref sig .tc := ⟨.hbm, 312, rfl⟩
abbrev main_cst_75 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_cst_76 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_cst_77 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_cst_78 : Ref sig .tc := ⟨.hbm, 325, rfl⟩
abbrev main_v198 : Ref sig .tc := ⟨.hbm, 326, rfl⟩
abbrev main_v199 : Ref sig .tc := ⟨.hbm, 327, rfl⟩
abbrev main_cst_79 : Ref sig .tc := ⟨.hbm, 328, rfl⟩
abbrev main_v200 : Ref sig .tc := ⟨.hbm, 329, rfl⟩
abbrev main_cst_80 : Ref sig .tc := ⟨.hbm, 330, rfl⟩
abbrev main_v201 : Ref sig .tc := ⟨.hbm, 331, rfl⟩
abbrev main_v202 : Ref sig .tc := ⟨.hbm, 332, rfl⟩
abbrev main_cst_81 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev main_cst_82 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_cst_83 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_cst_84 : Ref sig .tc := ⟨.hbm, 345, rfl⟩
abbrev main_v212 : Ref sig .tc := ⟨.hbm, 346, rfl⟩
abbrev main_v213 : Ref sig .tc := ⟨.hbm, 347, rfl⟩
abbrev main_cst_85 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_cst_86 : Ref sig .tc := ⟨.hbm, 352, rfl⟩
abbrev main_v217 : Ref sig .tc := ⟨.hbm, 353, rfl⟩
abbrev main_v218 : Ref sig .tc := ⟨.hbm, 354, rfl⟩
abbrev main_v219 : Ref sig .tc := ⟨.hbm, 355, rfl⟩
abbrev main_cst_87 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_cst_88 : Ref sig .tc := ⟨.hbm, 360, rfl⟩
abbrev main_v223 : Ref sig .tc := ⟨.hbm, 361, rfl⟩
abbrev main_v224 : Ref sig .tc := ⟨.hbm, 362, rfl⟩
abbrev main_cst_89 : Ref sig .tc := ⟨.hbm, 363, rfl⟩
abbrev main_v225 : Ref sig .tc := ⟨.hbm, 364, rfl⟩
abbrev main_cst_90 : Ref sig .tc := ⟨.hbm, 365, rfl⟩
abbrev main_v226 : Ref sig .tc := ⟨.hbm, 366, rfl⟩
abbrev main_v227 : Ref sig .tc := ⟨.hbm, 367, rfl⟩
abbrev main_cst_91 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_cst_92 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_cst_93 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_cst_94 : Ref sig .tc := ⟨.hbm, 380, rfl⟩
abbrev main_v237 : Ref sig .tc := ⟨.hbm, 381, rfl⟩
abbrev main_v238 : Ref sig .tc := ⟨.hbm, 382, rfl⟩
abbrev main_cst_95 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_cst_96 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_cst_97 : Ref sig .tc := ⟨.hbm, 391, rfl⟩
abbrev main_v245 : Ref sig .tc := ⟨.hbm, 392, rfl⟩
abbrev main_v246 : Ref sig .tc := ⟨.hbm, 393, rfl⟩
abbrev main_v247 : Ref sig .tc := ⟨.hbm, 394, rfl⟩
abbrev main_cst_98 : Ref sig .tc := ⟨.hbm, 395, rfl⟩
abbrev main_v248 : Ref sig .tc := ⟨.hbm, 396, rfl⟩
abbrev main_v249 : Ref sig .tc := ⟨.hbm, 397, rfl⟩
abbrev main_cst_99 : Ref sig .tc := ⟨.hbm, 398, rfl⟩
abbrev main_v250 : Ref sig .tc := ⟨.hbm, 399, rfl⟩
abbrev main_cst_100 : Ref sig .tc := ⟨.hbm, 400, rfl⟩
abbrev main_v251 : Ref sig .tc := ⟨.hbm, 401, rfl⟩
abbrev main_v252 : Ref sig .tc := ⟨.hbm, 402, rfl⟩
abbrev main_cst_101 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_cst_102 : Ref sig .tc := ⟨.hbm, 407, rfl⟩
abbrev main_v256 : Ref sig .tc := ⟨.hbm, 408, rfl⟩
abbrev main_v257 : Ref sig .tc := ⟨.hbm, 409, rfl⟩
abbrev main_v258 : Ref sig .tc := ⟨.hbm, 410, rfl⟩
abbrev main_cst_103 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_cst_104 : Ref sig .tc := ⟨.hbm, 415, rfl⟩
abbrev main_v262 : Ref sig .tc := ⟨.hbm, 416, rfl⟩
abbrev main_v263 : Ref sig .tc := ⟨.hbm, 417, rfl⟩
abbrev main_cst_105 : Ref sig .tc := ⟨.hbm, 418, rfl⟩
abbrev main_v264 : Ref sig .tc := ⟨.hbm, 419, rfl⟩
abbrev main_v265 : Ref sig .tc := ⟨.hbm, 420, rfl⟩
abbrev main_v266 : Ref sig .tc := ⟨.hbm, 421, rfl⟩
abbrev main_cst_106 : Ref sig .tc := ⟨.hbm, 422, rfl⟩
abbrev main_v267 : Ref sig .tc := ⟨.hbm, 423, rfl⟩
abbrev main_v268 : Ref sig .tc := ⟨.hbm, 424, rfl⟩
abbrev main_v269 : Ref sig .tc := ⟨.hbm, 425, rfl⟩
abbrev main_cst_107 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_cst_108 : Ref sig .tc := ⟨.hbm, 430, rfl⟩
abbrev main_v273 : Ref sig .tc := ⟨.hbm, 431, rfl⟩
abbrev main_v274 : Ref sig .tc := ⟨.hbm, 432, rfl⟩
abbrev main_cst_109 : Ref sig .tc := ⟨.hbm, 433, rfl⟩
abbrev main_v275 : Ref sig .tc := ⟨.hbm, 434, rfl⟩
abbrev main_cst_110 : Ref sig .tc := ⟨.hbm, 435, rfl⟩
abbrev main_v276 : Ref sig .tc := ⟨.hbm, 436, rfl⟩
abbrev main_v277 : Ref sig .tc := ⟨.hbm, 437, rfl⟩
abbrev main_cst_111 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_cst_112 : Ref sig .tc := ⟨.hbm, 442, rfl⟩
abbrev main_v281 : Ref sig .tc := ⟨.hbm, 443, rfl⟩
abbrev main_v282 : Ref sig .tc := ⟨.hbm, 444, rfl⟩
abbrev main_v283 : Ref sig .tc := ⟨.hbm, 445, rfl⟩
abbrev main_cst_113 : Ref sig .tc := ⟨.hbm, 446, rfl⟩
abbrev main_v284 : Ref sig .tc := ⟨.hbm, 447, rfl⟩
abbrev main_v285 : Ref sig .tc := ⟨.hbm, 448, rfl⟩
abbrev main_v286 : Ref sig .tc := ⟨.hbm, 449, rfl⟩
abbrev main_cst_114 : Ref sig .tc := ⟨.hbm, 450, rfl⟩
abbrev main_v287 : Ref sig .tc := ⟨.hbm, 451, rfl⟩
abbrev main_v288 : Ref sig .tc := ⟨.hbm, 452, rfl⟩
abbrev main_cst_115 : Ref sig .tc := ⟨.hbm, 453, rfl⟩
abbrev main_v289 : Ref sig .tc := ⟨.hbm, 454, rfl⟩
abbrev main_v290 : Ref sig .tc := ⟨.hbm, 455, rfl⟩
abbrev main_v291 : Ref sig .tc := ⟨.hbm, 456, rfl⟩
abbrev main_cst_116 : Ref sig .tc := ⟨.hbm, 457, rfl⟩
abbrev main_v292 : Ref sig .tc := ⟨.hbm, 458, rfl⟩
abbrev main_v293 : Ref sig .tc := ⟨.hbm, 459, rfl⟩
abbrev main_v294 : Ref sig .tc := ⟨.hbm, 460, rfl⟩
abbrev main_cst_117 : Ref sig .tc := ⟨.hbm, 461, rfl⟩
abbrev main_v295 : Ref sig .tc := ⟨.hbm, 462, rfl⟩
abbrev main_v296 : Ref sig .tc := ⟨.hbm, 463, rfl⟩
abbrev main_v297 : Ref sig .tc := ⟨.hbm, 464, rfl⟩
abbrev main_cst_118 : Ref sig .tc := ⟨.hbm, 465, rfl⟩
abbrev main_v298 : Ref sig .tc := ⟨.hbm, 466, rfl⟩
abbrev main_v299 : Ref sig .tc := ⟨.hbm, 467, rfl⟩
abbrev main_v300 : Ref sig .tc := ⟨.hbm, 468, rfl⟩
abbrev main_c : Ref sig .tc := ⟨.hbm, 469, rfl⟩
abbrev main_call0_v0 : Ref sig .tc := ⟨.hbm, 470, rfl⟩
abbrev main_v301 : Ref sig .tc := ⟨.hbm, 471, rfl⟩
abbrev main_v302 : Ref sig .tc := ⟨.hbm, 472, rfl⟩
abbrev main_v303 : Ref sig .tc := ⟨.hbm, 473, rfl⟩
abbrev main_c_119 : Ref sig .tc := ⟨.hbm, 474, rfl⟩
abbrev main_call1_v0 : Ref sig .tc := ⟨.hbm, 475, rfl⟩
abbrev main_v304 : Ref sig .tc := ⟨.hbm, 476, rfl⟩
abbrev main_v305 : Ref sig .tc := ⟨.hbm, 477, rfl⟩
abbrev main_v306 : Ref sig .tc := ⟨.hbm, 478, rfl⟩
abbrev main_c_120 : Ref sig .tc := ⟨.hbm, 479, rfl⟩
abbrev main_call2_v0 : Ref sig .tc := ⟨.hbm, 480, rfl⟩
abbrev main_v307 : Ref sig .tc := ⟨.hbm, 481, rfl⟩
abbrev main_v308 : Ref sig .tc := ⟨.hbm, 482, rfl⟩
abbrev main_v309 : Ref sig .tc := ⟨.hbm, 483, rfl⟩
abbrev main_c_121 : Ref sig .tc := ⟨.hbm, 484, rfl⟩
abbrev main_call3_v0 : Ref sig .tc := ⟨.hbm, 485, rfl⟩
abbrev main_v310 : Ref sig .tc := ⟨.hbm, 486, rfl⟩
abbrev main_v311 : Ref sig .tc := ⟨.hbm, 487, rfl⟩
abbrev main_v312 : Ref sig .tc := ⟨.hbm, 488, rfl⟩
abbrev main_c_122 : Ref sig .tc := ⟨.hbm, 489, rfl⟩
abbrev main_call4_v0 : Ref sig .tc := ⟨.hbm, 490, rfl⟩
abbrev main_v313 : Ref sig .tc := ⟨.hbm, 491, rfl⟩
abbrev main_v314 : Ref sig .tc := ⟨.hbm, 492, rfl⟩
abbrev main_v315 : Ref sig .tc := ⟨.hbm, 493, rfl⟩
abbrev main_c_123 : Ref sig .tc := ⟨.hbm, 494, rfl⟩
abbrev main_call5_v0 : Ref sig .tc := ⟨.hbm, 495, rfl⟩
abbrev main_v316 : Ref sig .tc := ⟨.hbm, 496, rfl⟩
abbrev main_v317 : Ref sig .tc := ⟨.hbm, 497, rfl⟩
abbrev main_v318 : Ref sig .tc := ⟨.hbm, 498, rfl⟩
abbrev main_c_124 : Ref sig .tc := ⟨.hbm, 499, rfl⟩
abbrev main_call6_v0 : Ref sig .tc := ⟨.hbm, 500, rfl⟩
abbrev main_v319 : Ref sig .tc := ⟨.hbm, 501, rfl⟩
abbrev main_v320 : Ref sig .tc := ⟨.hbm, 502, rfl⟩
abbrev main_v321 : Ref sig .tc := ⟨.hbm, 503, rfl⟩
abbrev main_c_125 : Ref sig .tc := ⟨.hbm, 504, rfl⟩
abbrev main_call7_v0 : Ref sig .tc := ⟨.hbm, 505, rfl⟩
abbrev main_v322 : Ref sig .tc := ⟨.hbm, 506, rfl⟩
abbrev main_v323 : Ref sig .tc := ⟨.hbm, 507, rfl⟩
abbrev main_v324 : Ref sig .tc := ⟨.hbm, 508, rfl⟩
abbrev main_c_126 : Ref sig .tc := ⟨.hbm, 509, rfl⟩
abbrev main_call8_v0 : Ref sig .tc := ⟨.hbm, 510, rfl⟩
abbrev main_v325 : Ref sig .tc := ⟨.hbm, 511, rfl⟩
abbrev main_v326 : Ref sig .tc := ⟨.hbm, 512, rfl⟩
abbrev main_v327 : Ref sig .tc := ⟨.hbm, 513, rfl⟩
abbrev main_c_127 : Ref sig .tc := ⟨.hbm, 514, rfl⟩
abbrev main_call9_v0 : Ref sig .tc := ⟨.hbm, 515, rfl⟩
abbrev main_v328 : Ref sig .tc := ⟨.hbm, 516, rfl⟩
abbrev main_v329 : Ref sig .tc := ⟨.hbm, 517, rfl⟩
abbrev main_v330 : Ref sig .tc := ⟨.hbm, 518, rfl⟩
abbrev main_c_128 : Ref sig .tc := ⟨.hbm, 519, rfl⟩
abbrev main_call10_v0 : Ref sig .tc := ⟨.hbm, 520, rfl⟩
abbrev main_v331 : Ref sig .tc := ⟨.hbm, 521, rfl⟩
abbrev main_v332 : Ref sig .tc := ⟨.hbm, 522, rfl⟩
abbrev main_v333 : Ref sig .tc := ⟨.hbm, 523, rfl⟩
abbrev main_c_129 : Ref sig .tc := ⟨.hbm, 524, rfl⟩
abbrev main_call11_v0 : Ref sig .tc := ⟨.hbm, 525, rfl⟩
abbrev main_v334 : Ref sig .tc := ⟨.hbm, 526, rfl⟩
abbrev main_v335 : Ref sig .tc := ⟨.hbm, 527, rfl⟩
abbrev main_cst_130 : Ref sig .tc := ⟨.hbm, 528, rfl⟩
abbrev main_v336 : Ref sig .tc := ⟨.hbm, 529, rfl⟩
abbrev main_v337 : Ref sig .tc := ⟨.hbm, 530, rfl⟩
abbrev main_v338 : Ref sig .tc := ⟨.hbm, 531, rfl⟩
abbrev main_c_131 : Ref sig .tc := ⟨.hbm, 532, rfl⟩
abbrev main_call12_v0 : Ref sig .tc := ⟨.hbm, 533, rfl⟩
abbrev main_v339 : Ref sig .tc := ⟨.hbm, 534, rfl⟩
abbrev main_v340 : Ref sig .tc := ⟨.hbm, 535, rfl⟩
abbrev main_v341 : Ref sig .tc := ⟨.hbm, 536, rfl⟩
abbrev main_c_132 : Ref sig .tc := ⟨.hbm, 537, rfl⟩
abbrev main_call13_v0 : Ref sig .tc := ⟨.hbm, 538, rfl⟩
abbrev main_v342 : Ref sig .tc := ⟨.hbm, 539, rfl⟩
abbrev main_v343 : Ref sig .tc := ⟨.hbm, 540, rfl⟩
abbrev main_v344 : Ref sig .tc := ⟨.hbm, 541, rfl⟩
abbrev main_c_133 : Ref sig .tc := ⟨.hbm, 542, rfl⟩
abbrev main_call14_v0 : Ref sig .tc := ⟨.hbm, 543, rfl⟩
abbrev main_v345 : Ref sig .tc := ⟨.hbm, 544, rfl⟩
abbrev main_v346 : Ref sig .tc := ⟨.hbm, 545, rfl⟩
abbrev main_v347 : Ref sig .tc := ⟨.hbm, 546, rfl⟩
abbrev main_c_134 : Ref sig .tc := ⟨.hbm, 547, rfl⟩
abbrev main_call15_v0 : Ref sig .tc := ⟨.hbm, 548, rfl⟩
abbrev main_v348 : Ref sig .tc := ⟨.hbm, 549, rfl⟩
abbrev main_v349 : Ref sig .tc := ⟨.hbm, 550, rfl⟩
abbrev main_v350 : Ref sig .tc := ⟨.hbm, 551, rfl⟩
abbrev main_c_135 : Ref sig .tc := ⟨.hbm, 552, rfl⟩
abbrev main_call16_v0 : Ref sig .tc := ⟨.hbm, 553, rfl⟩
abbrev main_v351 : Ref sig .tc := ⟨.hbm, 554, rfl⟩
abbrev main_v352 : Ref sig .tc := ⟨.hbm, 555, rfl⟩
abbrev main_v353 : Ref sig .tc := ⟨.hbm, 556, rfl⟩
abbrev main_c_136 : Ref sig .tc := ⟨.hbm, 557, rfl⟩
abbrev main_call17_v0 : Ref sig .tc := ⟨.hbm, 558, rfl⟩
abbrev main_v354 : Ref sig .tc := ⟨.hbm, 559, rfl⟩
abbrev main_v355 : Ref sig .tc := ⟨.hbm, 560, rfl⟩
abbrev main_v356 : Ref sig .tc := ⟨.hbm, 561, rfl⟩
abbrev main_c_137 : Ref sig .tc := ⟨.hbm, 562, rfl⟩
abbrev main_call18_v0 : Ref sig .tc := ⟨.hbm, 563, rfl⟩
abbrev main_v357 : Ref sig .tc := ⟨.hbm, 564, rfl⟩
abbrev main_v358 : Ref sig .tc := ⟨.hbm, 565, rfl⟩
abbrev main_v359 : Ref sig .tc := ⟨.hbm, 566, rfl⟩
abbrev main_c_138 : Ref sig .tc := ⟨.hbm, 567, rfl⟩
abbrev main_call19_v0 : Ref sig .tc := ⟨.hbm, 568, rfl⟩
abbrev main_v360 : Ref sig .tc := ⟨.hbm, 569, rfl⟩
abbrev main_v361 : Ref sig .tc := ⟨.hbm, 570, rfl⟩
abbrev main_v362 : Ref sig .tc := ⟨.hbm, 571, rfl⟩
abbrev main_c_139 : Ref sig .tc := ⟨.hbm, 572, rfl⟩
abbrev main_call20_v0 : Ref sig .tc := ⟨.hbm, 573, rfl⟩
abbrev main_v363 : Ref sig .tc := ⟨.hbm, 574, rfl⟩
abbrev main_v364 : Ref sig .tc := ⟨.hbm, 575, rfl⟩
abbrev main_v365 : Ref sig .tc := ⟨.hbm, 576, rfl⟩
abbrev main_c_140 : Ref sig .tc := ⟨.hbm, 577, rfl⟩
abbrev main_call21_v0 : Ref sig .tc := ⟨.hbm, 578, rfl⟩
abbrev main_v366 : Ref sig .tc := ⟨.hbm, 579, rfl⟩
abbrev main_v367 : Ref sig .tc := ⟨.hbm, 580, rfl⟩
abbrev main_v368 : Ref sig .tc := ⟨.hbm, 581, rfl⟩
abbrev main_c_141 : Ref sig .tc := ⟨.hbm, 582, rfl⟩
abbrev main_call22_v0 : Ref sig .tc := ⟨.hbm, 583, rfl⟩
abbrev main_v369 : Ref sig .tc := ⟨.hbm, 584, rfl⟩
abbrev main_v370 : Ref sig .tc := ⟨.hbm, 585, rfl⟩
abbrev main_v371 : Ref sig .tc := ⟨.hbm, 586, rfl⟩
abbrev main_c_142 : Ref sig .tc := ⟨.hbm, 587, rfl⟩
abbrev main_call23_v0 : Ref sig .tc := ⟨.hbm, 588, rfl⟩
abbrev main_v372 : Ref sig .tc := ⟨.hbm, 589, rfl⟩
abbrev main_v373 : Ref sig .tc := ⟨.hbm, 590, rfl⟩
abbrev main_cst_143 : Ref sig .tc := ⟨.hbm, 591, rfl⟩
abbrev main_v374 : Ref sig .tc := ⟨.hbm, 592, rfl⟩
abbrev main_v375 : Ref sig .tc := ⟨.hbm, 593, rfl⟩
abbrev main_v376 : Ref sig .tc := ⟨.hbm, 594, rfl⟩
abbrev main_c_144 : Ref sig .tc := ⟨.hbm, 595, rfl⟩
abbrev main_call24_v0 : Ref sig .tc := ⟨.hbm, 596, rfl⟩
abbrev main_v377 : Ref sig .tc := ⟨.hbm, 597, rfl⟩
abbrev main_v378 : Ref sig .tc := ⟨.hbm, 598, rfl⟩
abbrev main_v379 : Ref sig .tc := ⟨.hbm, 599, rfl⟩
abbrev main_c_145 : Ref sig .tc := ⟨.hbm, 600, rfl⟩
abbrev main_call25_v0 : Ref sig .tc := ⟨.hbm, 601, rfl⟩
abbrev main_v380 : Ref sig .tc := ⟨.hbm, 602, rfl⟩
abbrev main_v381 : Ref sig .tc := ⟨.hbm, 603, rfl⟩
abbrev main_v382 : Ref sig .tc := ⟨.hbm, 604, rfl⟩
abbrev main_c_146 : Ref sig .tc := ⟨.hbm, 605, rfl⟩
abbrev main_call26_v0 : Ref sig .tc := ⟨.hbm, 606, rfl⟩
abbrev main_v383 : Ref sig .tc := ⟨.hbm, 607, rfl⟩
abbrev main_v384 : Ref sig .tc := ⟨.hbm, 608, rfl⟩
abbrev main_v385 : Ref sig .tc := ⟨.hbm, 609, rfl⟩
abbrev main_c_147 : Ref sig .tc := ⟨.hbm, 610, rfl⟩
abbrev main_call27_v0 : Ref sig .tc := ⟨.hbm, 611, rfl⟩
abbrev main_v386 : Ref sig .tc := ⟨.hbm, 612, rfl⟩
abbrev main_v387 : Ref sig .tc := ⟨.hbm, 613, rfl⟩
abbrev main_v388 : Ref sig .tc := ⟨.hbm, 614, rfl⟩
abbrev main_c_148 : Ref sig .tc := ⟨.hbm, 615, rfl⟩
abbrev main_call28_v0 : Ref sig .tc := ⟨.hbm, 616, rfl⟩
abbrev main_v389 : Ref sig .tc := ⟨.hbm, 617, rfl⟩
abbrev main_v390 : Ref sig .tc := ⟨.hbm, 618, rfl⟩
abbrev main_v391 : Ref sig .tc := ⟨.hbm, 619, rfl⟩
abbrev main_c_149 : Ref sig .tc := ⟨.hbm, 620, rfl⟩
abbrev main_call29_v0 : Ref sig .tc := ⟨.hbm, 621, rfl⟩
abbrev main_v392 : Ref sig .tc := ⟨.hbm, 622, rfl⟩
abbrev main_v393 : Ref sig .tc := ⟨.hbm, 623, rfl⟩
abbrev main_v394 : Ref sig .tc := ⟨.hbm, 624, rfl⟩
abbrev main_c_150 : Ref sig .tc := ⟨.hbm, 625, rfl⟩
abbrev main_call30_v0 : Ref sig .tc := ⟨.hbm, 626, rfl⟩
abbrev main_v395 : Ref sig .tc := ⟨.hbm, 627, rfl⟩
abbrev main_v396 : Ref sig .tc := ⟨.hbm, 628, rfl⟩
abbrev main_v397 : Ref sig .tc := ⟨.hbm, 629, rfl⟩
abbrev main_c_151 : Ref sig .tc := ⟨.hbm, 630, rfl⟩
abbrev main_call31_v0 : Ref sig .tc := ⟨.hbm, 631, rfl⟩
abbrev main_v398 : Ref sig .tc := ⟨.hbm, 632, rfl⟩
abbrev main_v399 : Ref sig .tc := ⟨.hbm, 633, rfl⟩
abbrev main_v400 : Ref sig .tc := ⟨.hbm, 634, rfl⟩
abbrev main_c_152 : Ref sig .tc := ⟨.hbm, 635, rfl⟩
abbrev main_call32_v0 : Ref sig .tc := ⟨.hbm, 636, rfl⟩
abbrev main_v401 : Ref sig .tc := ⟨.hbm, 637, rfl⟩
abbrev main_v402 : Ref sig .tc := ⟨.hbm, 638, rfl⟩
abbrev main_v403 : Ref sig .tc := ⟨.hbm, 639, rfl⟩
abbrev main_c_153 : Ref sig .tc := ⟨.hbm, 640, rfl⟩
abbrev main_call33_v0 : Ref sig .tc := ⟨.hbm, 641, rfl⟩
abbrev main_v404 : Ref sig .tc := ⟨.hbm, 642, rfl⟩
abbrev main_v405 : Ref sig .tc := ⟨.hbm, 643, rfl⟩
abbrev main_v406 : Ref sig .tc := ⟨.hbm, 644, rfl⟩
abbrev main_c_154 : Ref sig .tc := ⟨.hbm, 645, rfl⟩
abbrev main_call34_v0 : Ref sig .tc := ⟨.hbm, 646, rfl⟩
abbrev main_v407 : Ref sig .tc := ⟨.hbm, 647, rfl⟩
abbrev main_v408 : Ref sig .tc := ⟨.hbm, 648, rfl⟩
abbrev main_v409 : Ref sig .tc := ⟨.hbm, 649, rfl⟩
abbrev main_c_155 : Ref sig .tc := ⟨.hbm, 650, rfl⟩
abbrev main_call35_v0 : Ref sig .tc := ⟨.hbm, 651, rfl⟩
abbrev main_v410 : Ref sig .tc := ⟨.hbm, 652, rfl⟩
abbrev main_v411 : Ref sig .tc := ⟨.hbm, 653, rfl⟩
abbrev main_cst_156 : Ref sig .tc := ⟨.hbm, 654, rfl⟩
abbrev main_v412 : Ref sig .tc := ⟨.hbm, 655, rfl⟩
abbrev main_v413 : Ref sig .tc := ⟨.hbm, 656, rfl⟩
abbrev main_v414 : Ref sig .tc := ⟨.hbm, 657, rfl⟩
abbrev main_c_157 : Ref sig .tc := ⟨.hbm, 658, rfl⟩
abbrev main_call36_v0 : Ref sig .tc := ⟨.hbm, 659, rfl⟩
abbrev main_v415 : Ref sig .tc := ⟨.hbm, 660, rfl⟩
abbrev main_v416 : Ref sig .tc := ⟨.hbm, 661, rfl⟩
abbrev main_v417 : Ref sig .tc := ⟨.hbm, 662, rfl⟩
abbrev main_c_158 : Ref sig .tc := ⟨.hbm, 663, rfl⟩
abbrev main_call37_v0 : Ref sig .tc := ⟨.hbm, 664, rfl⟩
abbrev main_v418 : Ref sig .tc := ⟨.hbm, 665, rfl⟩
abbrev main_v419 : Ref sig .tc := ⟨.hbm, 666, rfl⟩
abbrev main_v420 : Ref sig .tc := ⟨.hbm, 667, rfl⟩
abbrev main_c_159 : Ref sig .tc := ⟨.hbm, 668, rfl⟩
abbrev main_call38_v0 : Ref sig .tc := ⟨.hbm, 669, rfl⟩
abbrev main_v421 : Ref sig .tc := ⟨.hbm, 670, rfl⟩
abbrev main_v422 : Ref sig .tc := ⟨.hbm, 671, rfl⟩
abbrev main_v423 : Ref sig .tc := ⟨.hbm, 672, rfl⟩
abbrev main_c_160 : Ref sig .tc := ⟨.hbm, 673, rfl⟩
abbrev main_call39_v0 : Ref sig .tc := ⟨.hbm, 674, rfl⟩
abbrev main_v424 : Ref sig .tc := ⟨.hbm, 675, rfl⟩
abbrev main_v425 : Ref sig .tc := ⟨.hbm, 676, rfl⟩
abbrev main_v426 : Ref sig .tc := ⟨.hbm, 677, rfl⟩
abbrev main_c_161 : Ref sig .tc := ⟨.hbm, 678, rfl⟩
abbrev main_call40_v0 : Ref sig .tc := ⟨.hbm, 679, rfl⟩
abbrev main_v427 : Ref sig .tc := ⟨.hbm, 680, rfl⟩
abbrev main_v428 : Ref sig .tc := ⟨.hbm, 681, rfl⟩
abbrev main_v429 : Ref sig .tc := ⟨.hbm, 682, rfl⟩
abbrev main_c_162 : Ref sig .tc := ⟨.hbm, 683, rfl⟩
abbrev main_call41_v0 : Ref sig .tc := ⟨.hbm, 684, rfl⟩
abbrev main_v430 : Ref sig .tc := ⟨.hbm, 685, rfl⟩
abbrev main_v431 : Ref sig .tc := ⟨.hbm, 686, rfl⟩
abbrev main_v432 : Ref sig .tc := ⟨.hbm, 687, rfl⟩
abbrev main_c_163 : Ref sig .tc := ⟨.hbm, 688, rfl⟩
abbrev main_call42_v0 : Ref sig .tc := ⟨.hbm, 689, rfl⟩
abbrev main_v433 : Ref sig .tc := ⟨.hbm, 690, rfl⟩
abbrev main_v434 : Ref sig .tc := ⟨.hbm, 691, rfl⟩
abbrev main_v435 : Ref sig .tc := ⟨.hbm, 692, rfl⟩
abbrev main_c_164 : Ref sig .tc := ⟨.hbm, 693, rfl⟩
abbrev main_call43_v0 : Ref sig .tc := ⟨.hbm, 694, rfl⟩
abbrev main_v436 : Ref sig .tc := ⟨.hbm, 695, rfl⟩
abbrev main_v437 : Ref sig .tc := ⟨.hbm, 696, rfl⟩
abbrev main_v438 : Ref sig .tc := ⟨.hbm, 697, rfl⟩
abbrev main_c_165 : Ref sig .tc := ⟨.hbm, 698, rfl⟩
abbrev main_call44_v0 : Ref sig .tc := ⟨.hbm, 699, rfl⟩
abbrev main_v439 : Ref sig .tc := ⟨.hbm, 700, rfl⟩
abbrev main_v440 : Ref sig .tc := ⟨.hbm, 701, rfl⟩
abbrev main_v441 : Ref sig .tc := ⟨.hbm, 702, rfl⟩
abbrev main_c_166 : Ref sig .tc := ⟨.hbm, 703, rfl⟩
abbrev main_call45_v0 : Ref sig .tc := ⟨.hbm, 704, rfl⟩
abbrev main_v442 : Ref sig .tc := ⟨.hbm, 705, rfl⟩
abbrev main_v443 : Ref sig .tc := ⟨.hbm, 706, rfl⟩
abbrev main_v444 : Ref sig .tc := ⟨.hbm, 707, rfl⟩
abbrev main_c_167 : Ref sig .tc := ⟨.hbm, 708, rfl⟩
abbrev main_call46_v0 : Ref sig .tc := ⟨.hbm, 709, rfl⟩
abbrev main_v445 : Ref sig .tc := ⟨.hbm, 710, rfl⟩
abbrev main_v446 : Ref sig .tc := ⟨.hbm, 711, rfl⟩
abbrev main_v447 : Ref sig .tc := ⟨.hbm, 712, rfl⟩
abbrev main_c_168 : Ref sig .tc := ⟨.hbm, 713, rfl⟩
abbrev main_call47_v0 : Ref sig .tc := ⟨.hbm, 714, rfl⟩
abbrev main_v448 : Ref sig .tc := ⟨.hbm, 715, rfl⟩
abbrev main_v449 : Ref sig .tc := ⟨.hbm, 716, rfl⟩
abbrev main_cst_169 : Ref sig .tc := ⟨.hbm, 717, rfl⟩
abbrev main_v450 : Ref sig .tc := ⟨.hbm, 718, rfl⟩
abbrev main_v451 : Ref sig .tc := ⟨.hbm, 719, rfl⟩

abbrev nD : Nat := 1
abbrev τ : Topo := Topo.v7x

variable {F : FTy → Type} [FloatOps F]
-- ==== Proof.Spec.lean ====
/- The gradient of the spatial gating mixer on one chunk of 128 rows, written over functions of a row and a column. -/
module

public import Idealize.ShloMosaic.Lib.Pointwise

@[expose] public section

noncomputable section

open Idealize.ShloMosaic

namespace Cert.Gmlp

/-- The single-precision constants of the mixer. -/
abbrev half : EReal := Ideal.ofBits .f32 0x3F000000#32
abbrev nhalf : EReal := Ideal.ofBits .f32 0xBF000000#32
abbrev rtHalf : EReal := Ideal.ofBits .f32 0x3F3504F3#32
abbrev twoRtPi : EReal := Ideal.ofBits .f32 0x3F906EBB#32
abbrev width : EReal := Ideal.ofBits .f32 0x43800000#32
abbrev eps : EReal := Ideal.ofBits .f32 0x358637BD#32

/-- The group of 64 columns a column lies in. -/
def grp (c : Fin 256) : Fin 4 := ⟨c.val / 64, by omega⟩
/-- Column `k` of group `g`. -/
def col (g : Fin 4) (k : Fin 64) : Fin 256 := ⟨g.val * 64 + k.val, by omega⟩

/-- One plus the error function at `x` over the square root of two. -/
def cdf2 (x : EReal) : EReal := 1 + Ideal.erf (x * rtHalf)
/-- The exact gelu. -/
def gelu (x : EReal) : EReal := half * x * cdf2 x
/-- The gradient of the exact gelu at `x`, times `d`. -/
def dgelu (x d : EReal) : EReal :=
  twoRtPi * (half * x * d) * Ideal.exp (0 - x * rtHalf * (x * rtHalf)) * rtHalf + half * (d * cdf2 x)

variable (u v d : Fin 128 → Fin 256 → EReal) (g b : Fin 256 → EReal)
  (W : Fin 4 → Fin 128 → Fin 128 → EReal) (bs : Fin 4 → Fin 128 → EReal)

/-- A row's mean of the gelu of `v`. -/
def mean (r : Fin 128) : EReal := Ideal.div (∑ c : Fin 256, gelu (v r c)) width
/-- The centred row. -/
def cen (r : Fin 128) (c : Fin 256) : EReal := gelu (v r c) - mean v r
/-- The row's variance plus epsilon. -/
def var (r : Fin 128) : EReal := Ideal.div (∑ c : Fin 256, cen v r c * cen v r c) width + eps
/-- One over the row's standard deviation. -/
def isd (r : Fin 128) : EReal := Ideal.rsqrt (var v r)
/-- The normalised row, before the affine map. -/
def nrm (r : Fin 128) (c : Fin 256) : EReal := cen v r c * isd v r
/-- The layer norm's output. -/
def ln (r : Fin 128) (c : Fin 256) : EReal := nrm v r c * g c + b c
/-- The lower triangle of the mixing weights. -/
def low (k : Fin 4) (i j : Fin 128) : EReal := if j.val ≤ i.val then W k i j else 0
/-- The mixed rows plus the bias. -/
def mix (i : Fin 128) (c : Fin 256) : EReal :=
  bs (grp c) i + ∑ j : Fin 128, low W (grp c) i j * ln v g b j c
/-- The gradient towards the first half. -/
def gu (i : Fin 128) (c : Fin 256) : EReal := dgelu (u i c) (d i c * mix v g b W bs i c)
/-- The gradient towards the mixed rows. -/
def dsv (i : Fin 128) (c : Fin 256) : EReal := gelu (u i c) * d i c
/-- The gradient towards the mixing weights, before summing over the chunks. -/
def gw (k : Fin 4) (i j : Fin 128) : EReal :=
  if j.val ≤ i.val then ∑ q : Fin 64, dsv u d i (col k q) * ln v g b j (col k q) else 0
/-- The gradient towards the bias, before summing over the chunks. -/
def gbs (k : Fin 4) (i : Fin 128) : EReal := ∑ q : Fin 64, dsv u d i (col k q)
/-- The gradient towards the layer norm's output. -/
def dln (j : Fin 128) (c : Fin 256) : EReal := ∑ i : Fin 128, low W (grp c) i j * dsv u d i c
/-- The gradient towards the normalised row. -/
def dnrm (j : Fin 128) (c : Fin 256) : EReal := dln u d W j c * g c
/-- The gradient towards the row's mean square. -/
def dms (j : Fin 128) : EReal :=
  Ideal.div ((∑ c : Fin 256, cen v j c * dnrm u d g W j c) * (nhalf * Ideal.div (isd v j) (var v j))) width
/-- The gradient towards the centred row. -/
def dcen (j : Fin 128) (c : Fin 256) : EReal :=
  dnrm u d g W j c * isd v j + cen v j c * dms u v d g W j + dms u v d g W j * cen v j c
/-- The gradient towards the second half. -/
def gv (j : Fin 128) (c : Fin 256) : EReal :=
  dgelu (v j c) (dcen u v d g W j c + Ideal.div (∑ k : Fin 256, -dcen u v d g W j k) width)

end Cert.Gmlp

end
-- ==== Proof.KPure.lean ====
/- What the body computes from one chunk's blocks, read at a row and a column: the layer norm, the masks and the mixing weights. -/
module

public import proofs.«01_k».proof.Proof.Gen.KernelIdeal.Skeleton
public import Idealize.ShloMosaic.Lib.Pointwise
public import Idealize.ShloMosaic.Lib.WordCmp
public import proofs.«01_k».proof.Proof.Spec

@[expose] public section

set_option maxRecDepth 16384

noncomputable section

open Idealize.ShloMosaic Idealize.ShloMosaic.TcCoe Idealize.SL.Sem
open Cert.KernelIdeal Cert.KernelIdeal.Gen

namespace Cert.Gmlp

/-- A chunk's rows as a function of row and column. -/
def rows (x : FVec Ideal S128x256 .f32) (r : Fin 128) (c : Fin 256) : EReal := x (ix2 r c)
/-- One row of parameters as a function of the column. -/
def prow (x : FVec Ideal S1x256 .f32) (c : Fin 256) : EReal := x (ix2 0 c)
/-- The mixing weights as a function of group, row and column. -/
def wts (x : FVec Ideal S4x128x128 .f32) (k : Fin 4) (i j : Fin 128) : EReal := x (ix3 k i j)
/-- The bias block, stored row by group, as a function of group and row. -/
def bias (x : FVec Ideal S128x128 .f32) (k : Fin 4) (i : Fin 128) : EReal := x (ix2 i ⟨k.val, by omega⟩)

/-- The row numbers and the column numbers of a square block. -/
abbrev rowNo : IVec S128x128 32 := iota Kind.tc S128x128 32 [0] iota_S128x128_d0_w32
abbrev colNo : IVec S128x128 32 := iota Kind.tc S128x128 32 [1] iota_S128x128_d1_w32

theorem pay16 (x : FVec Ideal S128x256 .f32) (r : Fin 128) (c : Fin 256) :
    k0_pay16 (F := Ideal) x (ix2 r c) = gelu (rows x r c) := by
  pointwise [k0_pay16, k0_pay12, k0_pay13, k0_pay15, gelu, cdf2, rows]
  rfl

theorem pay21 (x : FVec Ideal S128x256 .f32) (r : Fin 128) (c : Fin 256) :
    k0_pay21 (F := Ideal) x (ix2 r c) = gelu (rows x r c) := by
  pointwise [k0_pay21, k0_pay17, k0_pay18, k0_pay20, gelu, cdf2, rows]
  rfl

theorem pay22 (x : FVec Ideal S128x256 .f32) (r : Fin 128) :
    k0_pay22 (F := Ideal) x (ix2 r 0) = ∑ c : Fin 256, gelu (rows x r c) := by
  pointwise [k0_pay22, pay21]

theorem pay24 (x : FVec Ideal S128x256 .f32) (r : Fin 128) (c : Fin 256) :
    k0_pay24 (F := Ideal) (k0_pay21 x) (k0_pay22 x) k0_pay23 (ix2 r c) = cen (rows x) r c := by
  pointwise [k0_pay24, k0_pay23, pay21, pay22, cen, mean]

theorem pay25 (x : FVec Ideal S128x256 .f32) (r : Fin 128) :
    k0_pay25 (F := Ideal) (k0_pay21 x) (k0_pay22 x) k0_pay23 (ix2 r 0) = var (rows x) r := by
  pointwise [k0_pay25, pay24, var]

theorem pay26 (x : FVec Ideal S128x256 .f32) (r : Fin 128) :
    k0_pay26 (F := Ideal) (k0_pay21 x) (k0_pay22 x) k0_pay23 (ix2 r 0) = isd (rows x) r := by
  pointwise [k0_pay26, pay25, isd]

theorem pay27 (x : FVec Ideal S128x256 .f32) (r : Fin 128) :
    k0_pay27 (F := Ideal) (k0_pay21 x) (k0_pay22 x) k0_pay23 (ix2 r 0)
      = nhalf * Ideal.div (isd (rows x) r) (var (rows x) r) := by
  pointwise [k0_pay27, pay25, pay26]

theorem pay28 (x : FVec Ideal S128x256 .f32) (r : Fin 128) (c : Fin 256) :
    k0_pay28 (F := Ideal) (k0_pay21 x) (k0_pay22 x) k0_pay23 (ix2 r c) = nrm (rows x) r c := by
  pointwise [k0_pay28, pay24, pay26, nrm]

theorem pay29 (x : FVec Ideal S128x256 .f32) (g b : FVec Ideal S1x256 .f32) (r : Fin 128) (c : Fin 256) :
    k0_pay29 (F := Ideal) (k0_pay9 g) (k0_pay10 b) (k0_pay21 x) (k0_pay22 x) k0_pay23 (ix2 r c)
      = ln (rows x) (prow g) (prow b) r c := by
  pointwise [k0_pay29, k0_pay9, k0_pay10, pay28, ln, prow]

/-- The number of the group a column lies in, as the body computes it. -/
theorem pay30 : ∀ (r : Fin 128) (c : Fin 256), k0_pay30 (ix2 r c) = BitVec.ofNat 32 (grp c).val := by
  intro r c
  pointwise [k0_pay30]
  revert c
  decide +kernel

theorem onehot : ∀ (k : Fin 128) (c : Fin 256),
    k0_pay31 (ix2 k c) = BitVec.ofBool (decide (k.val = (grp c).val)) := by
  intro k c
  have := k.isLt; have := (grp c).isLt
  pointwise [k0_pay31, pay30]
  word_cmp

theorem pay32 (k : Fin 128) (c : Fin 256) :
    k0_pay32 (F := Ideal) k0_pay31 (ix2 k c) = if k.val = (grp c).val then 1 else 0 := by
  pointwise [k0_pay32, onehot]

theorem inGrp (p : IVec S128x256 32 → IVec S128x256 1) (g : Fin 4)
    (hp : ∀ z j, p z j = IntOp.cmpi .eq (z j) (BitVec.ofNat 32 g.val)) (i : Fin 128) (c : Fin 256) :
    p k0_pay30 (ix2 i c) = BitVec.ofBool (decide (grp c = g)) := by
  have := g.isLt; have := (grp c).isLt
  rw [hp, pay30]
  simp only [Fin.ext_iff]
  word_cmp

theorem pay35 (i : Fin 128) (c : Fin 256) : k0_pay35 k0_pay30 (ix2 i c) = BitVec.ofBool (decide (grp c = 0)) :=
  inGrp _ 0 (fun _ _ => rfl) i c
theorem pay38 (i : Fin 128) (c : Fin 256) : k0_pay38 k0_pay30 (ix2 i c) = BitVec.ofBool (decide (grp c = 1)) :=
  inGrp _ 1 (fun _ _ => rfl) i c
theorem pay41 (i : Fin 128) (c : Fin 256) : k0_pay41 k0_pay30 (ix2 i c) = BitVec.ofBool (decide (grp c = 2)) :=
  inGrp _ 2 (fun _ _ => rfl) i c
theorem pay46 (i : Fin 128) (c : Fin 256) : k0_pay46 k0_pay30 (ix2 i c) = BitVec.ofBool (decide (grp c = 3)) :=
  inGrp _ 3 (fun _ _ => rfl) i c

theorem tri (i j : Fin 128) :
    k0_pay33 rowNo colNo (ix2 i j) = BitVec.ofBool (decide (j.val ≤ i.val)) := by
  pointwise [k0_pay33]
  word_cmp

theorem pay36 (i j : Fin 128) : k0_pay36 rowNo colNo (ix2 i j) = BitVec.ofBool (decide (j.val ≤ i.val)) := tri i j
theorem pay39 (i j : Fin 128) : k0_pay39 rowNo colNo (ix2 i j) = BitVec.ofBool (decide (j.val ≤ i.val)) := tri i j
theorem pay43 (i j : Fin 128) : k0_pay43 rowNo colNo (ix2 i j) = BitVec.ofBool (decide (j.val ≤ i.val)) := tri i j

theorem sel (p : Prop) [Decidable p] (x y : EReal) :
    Scalar.select (BitVec.ofBool (decide p)) x y = if p then x else y := by
  by_cases h : p <;> simp [h, Scalar.select]

theorem pay34 (W : FVec Ideal S4x128x128 .f32) (i j : Fin 128) :
    k0_pay34 (F := Ideal) W rowNo colNo (ix2 i j) = low (wts W) 0 i j := by
  pointwise [k0_pay34, tri, low, wts, sel]
theorem pay37 (W : FVec Ideal S4x128x128 .f32) (i j : Fin 128) :
    k0_pay37 (F := Ideal) W rowNo colNo (ix2 i j) = low (wts W) 1 i j := by
  pointwise [k0_pay37, pay36, low, wts, sel]
theorem pay40 (W : FVec Ideal S4x128x128 .f32) (i j : Fin 128) :
    k0_pay40 (F := Ideal) W rowNo colNo (ix2 i j) = low (wts W) 2 i j := by
  pointwise [k0_pay40, pay39, low, wts, sel]
theorem pay45 (W : FVec Ideal S4x128x128 .f32) (i j : Fin 128) :
    k0_pay45 (F := Ideal) (k0_pay43 rowNo colNo) (k0_pay44 W) (ix2 i j) = low (wts W) 3 i j := by
  pointwise [k0_pay45, k0_pay44, pay43, low, wts, sel]

end Cert.Gmlp

end
-- ==== Proof.KGrad.lean ====
/- What the body computes from one chunk's blocks, read at a row and a column: the mixed rows and the gradients. -/
module

public import proofs.«01_k».proof.Proof.KPure

@[expose] public section

set_option maxRecDepth 16384

noncomputable section

open Idealize.ShloMosaic Idealize.ShloMosaic.TcCoe Idealize.SL.Sem
open Cert.KernelIdeal Cert.KernelIdeal.Gen

namespace Cert.Gmlp

/-- A sum over the columns that keeps one group's columns is the sum over that group. -/
theorem sum_group (g : Fin 4) (f : Fin 256 → EReal) :
    (∑ c : Fin 256, if grp c = g then f c else 0) = ∑ q : Fin 64, f (col g q) := by
  rw [Fin.sum_univ_tiles 4 64 rfl]
  rw [Finset.sum_eq_single g]
  · refine Finset.sum_congr rfl fun q _ => ?_
    rw [if_pos]
    · rfl
    · have := q.isLt; apply Fin.ext; simp only [grp]; omega
  · intro k _ hk
    refine Finset.sum_eq_zero fun q _ => ?_
    rw [if_neg]
    intro h
    apply hk
    have := q.isLt
    have := congrArg Fin.val h
    apply Fin.ext; simp only [grp] at this; omega
  · intro h; exact absurd (Finset.mem_univ g) h

/-- A sum against the one-hot of a column's group reads the term of that group. -/
theorem sum_onehot (f : Fin 128 → EReal) (c : Fin 256) :
    (∑ k : Fin 128, f k * (if k.val = (grp c).val then 1 else 0)) = f ⟨(grp c).val, by omega⟩ := by
  rw [Finset.sum_eq_single (⟨(grp c).val, by omega⟩ : Fin 128)]
  · simp
  · intro k _ hk
    rw [if_neg (fun h => hk (Fin.ext h)), mul_zero]
  · intro h; exact absurd (Finset.mem_univ _) h

theorem four (g : Fin 4) : g = 0 ∨ g = 1 ∨ g = 2 ∨ g = 3 := by revert g; decide

variable {s : Shape} {φ : FTy} (u v d : FVec Ideal S128x256 .f32) (g b : FVec Ideal S1x256 .f32)
  (W : FVec Ideal S4x128x128 .f32) (B : FVec Ideal S128x128 .f32)

/-- The layer norm's output as the body holds it. -/
abbrev lnB : FVec Ideal S128x256 .f32 :=
  k0_pay29 (F := Ideal) (k0_pay9 g) (k0_pay10 b) (k0_pay21 v) (k0_pay22 v) k0_pay23

theorem pay47 (r : Fin 128) (c : Fin 256) :
    k0_pay47 (F := Ideal) (k0_pay16 u) d (ix2 r c) = dsv (rows u) (rows d) r c := by
  pointwise [k0_pay47, pay16, dsv, rows]

theorem pay48 (i : Fin 128) (c : Fin 256) :
    k0_pay48 (F := Ideal) (lnB v g b) k0_pay30
      (k0_pay42 W (k0_pay11 B) (lnB v g b) rowNo colNo k0_pay30 k0_pay31) (k0_pay43 rowNo colNo) (k0_pay44 W) d (ix2 i c)
      = rows d i c * mix (rows v) (prow g) (prow b) (wts W) (bias B) i c := by
  pointwise [k0_pay48, k0_pay42, k0_pay11, pay32, pay34, pay37, pay40, pay45, pay35, pay38, pay41, pay46, pay29, sel]
  rw [sum_onehot (fun k => B (ix2 i k)), mix, rows, bias]
  rcases four (grp c) with h | h | h | h <;> simp [h]

theorem pay55 (j : Fin 128) (c : Fin 256) :
    k0_pay55 (F := Ideal) (k0_pay34 W rowNo colNo) (k0_pay35 k0_pay30) (k0_pay37 W rowNo colNo) (k0_pay38 k0_pay30)
      (k0_pay47 (k0_pay16 u) d)
      (k0_pay51 (k0_pay16 u) k0_pay30 (k0_pay40 W rowNo colNo) (k0_pay41 k0_pay30) (k0_pay43 rowNo colNo) (k0_pay44 W) d)
      (ix2 j c) = dln (rows u) (rows d) (wts W) j c := by
  pointwise [k0_pay55, k0_pay51, k0_pay53, k0_pay54, k0_pay49, k0_pay50, pay34, pay37, pay40, pay45, pay35, pay38, pay41, pay46, pay47, sel]
  rw [dln]
  rcases four (grp c) with h | h | h | h <;> simp [h]

theorem pay56 (k : Fin 4) (i j : Fin 128) :
    k0_pay56 (F := Ideal) (lnB v g b) (k0_pay33 rowNo colNo) (k0_pay35 k0_pay30) (k0_pay36 rowNo colNo) (k0_pay38 k0_pay30)
      (k0_pay47 (k0_pay16 u) d)
      (k0_pay52 (k0_pay16 u) (lnB v g b) k0_pay30 (k0_pay39 rowNo colNo) (k0_pay41 k0_pay30) (k0_pay43 rowNo colNo) d)
      (ix3 k i j) = gw (rows u) (rows v) (rows d) (prow g) (prow b) k i j := by
  pointwise [k0_pay56, k0_pay52, k0_pay53, k0_pay54, k0_pay49, k0_pay50, tri, pay36, pay39, pay43, pay35, pay38, pay41, pay46, pay47, pay29, sel]
  have hs : ∀ q : Fin 4, (∑ x, (if grp x = q then dsv (rows u) (rows d) i x else 0) * ln (rows v) (prow g) (prow b) j x)
      = ∑ y : Fin 64, dsv (rows u) (rows d) i (col q y) * ln (rows v) (prow g) (prow b) j (col q y) := by
    intro q
    rw [← sum_group q (fun x => dsv (rows u) (rows d) i x * ln (rows v) (prow g) (prow b) j x)]
    refine Finset.sum_congr rfl fun x _ => ?_
    split <;> simp
  simp only [hs]
  rw [gw]
  rcases four k with h | h | h | h <;> subst h <;> simp

theorem pay57 (i k : Fin 128) :
    k0_pay57 (F := Ideal) (k0_pay32 k0_pay31) (k0_pay47 (k0_pay16 u) d) (ix2 i k)
      = if h : k.val < 4 then gbs (rows u) (rows d) ⟨k.val, h⟩ i else 0 := by
  pointwise [k0_pay57, pay32, pay47]
  by_cases hk : k.val < 4
  · rw [dif_pos hk, gbs, ← sum_group]
    refine Finset.sum_congr rfl fun x _ => ?_
    simp only [mul_ite, mul_one, mul_zero, Fin.ext_iff, eq_comm]
  · rw [dif_neg hk]
    refine Finset.sum_eq_zero fun x _ => ?_
    have := (grp x).isLt
    rw [if_neg (by omega), mul_zero]

/-- The gradient towards the layer norm's output, as the body holds it. -/
abbrev argsDln (f : FVec Ideal S128x128 .f32 → IVec S128x256 1 → FVec Ideal S128x128 .f32 → IVec S128x256 1 →
    FVec Ideal S128x256 .f32 → FVec Ideal S128x256 .f32 → FVec Ideal s φ) : FVec Ideal s φ :=
  f (k0_pay34 W rowNo colNo) (k0_pay35 k0_pay30) (k0_pay37 W rowNo colNo) (k0_pay38 k0_pay30) (k0_pay47 (k0_pay16 u) d)
    (k0_pay51 (k0_pay16 u) k0_pay30 (k0_pay40 W rowNo colNo) (k0_pay41 k0_pay30) (k0_pay43 rowNo colNo) (k0_pay44 W) d)

theorem pay58 (c : Fin 256) : argsDln u d W (k0_pay58 (F := Ideal)) (ix2 0 c) = ∑ j : Fin 128, dln (rows u) (rows d) (wts W) j c := by
  pointwise [k0_pay58, pay55]

theorem pay59 (c : Fin 256) :
    argsDln u d W (k0_pay59 (F := Ideal) (k0_pay28 (k0_pay21 v) (k0_pay22 v) k0_pay23)) (ix2 0 c)
      = ∑ j : Fin 128, nrm (rows v) j c * dln (rows u) (rows d) (wts W) j c := by
  pointwise [k0_pay59, pay55, pay28]

theorem pay60 (j : Fin 128) (c : Fin 256) :
    argsDln u d W (k0_pay60 (F := Ideal) (k0_pay9 g)) (ix2 j c) = dnrm (rows u) (rows d) (prow g) (wts W) j c := by
  pointwise [k0_pay60, k0_pay9, pay55, dnrm, prow]

theorem pay61 (j : Fin 128) (c : Fin 256) :
    argsDln u d W (k0_pay61 (F := Ideal) (k0_pay9 g) (k0_pay26 (k0_pay21 v) (k0_pay22 v) k0_pay23)) (ix2 j c)
      = dnrm (rows u) (rows d) (prow g) (wts W) j c * isd (rows v) j := by
  pointwise [k0_pay61, pay60, pay26]

theorem pay62 (j : Fin 128) (z : Fin 1) :
    argsDln u d W (k0_pay62 (F := Ideal) (k0_pay9 g) (k0_pay24 (k0_pay21 v) (k0_pay22 v) k0_pay23)
      (k0_pay27 (k0_pay21 v) (k0_pay22 v) k0_pay23)) (ix2 j z)
      = (∑ c : Fin 256, cen (rows v) j c * dnrm (rows u) (rows d) (prow g) (wts W) j c)
        * (nhalf * Ideal.div (isd (rows v) j) (var (rows v) j)) := by
  obtain rfl := Subsingleton.elim z 0
  pointwise [k0_pay62, pay60, pay24, pay27]

/-- WHAT THE BODY STORES: the gradient towards the second half. -/
theorem pay64 (j : Fin 128) (c : Fin 256) :
    k0_pay64 (F := Ideal) (k0_pay17 v) (k0_pay19 v) (k0_pay20 v) (k0_pay24 (k0_pay21 v) (k0_pay22 v) k0_pay23)
      (argsDln u d W (k0_pay61 (F := Ideal) (k0_pay9 g) (k0_pay26 (k0_pay21 v) (k0_pay22 v) k0_pay23)))
      (argsDln u d W (k0_pay62 (F := Ideal) (k0_pay9 g) (k0_pay24 (k0_pay21 v) (k0_pay22 v) k0_pay23)
        (k0_pay27 (k0_pay21 v) (k0_pay22 v) k0_pay23))) (ix2 j c)
      = gv (rows u) (rows v) (rows d) (prow g) (wts W) j c := by
  pointwise [k0_pay64, k0_pay17, k0_pay19, k0_pay20, k0_pay18, pay61, pay62, pay24, gv, dgelu, cdf2, dcen, dms, rows]
  simp only [Fin.sum_univ_one, zero_sub]
  rfl

/-- WHAT THE BODY STORES: the gradient towards the first half. -/
theorem pay63 (i : Fin 128) (c : Fin 256) :
    k0_pay63 (F := Ideal) (k0_pay12 u) (k0_pay14 u) (k0_pay15 u)
      (k0_pay48 (F := Ideal) (lnB v g b) k0_pay30
        (k0_pay42 W (k0_pay11 B) (lnB v g b) rowNo colNo k0_pay30 k0_pay31) (k0_pay43 rowNo colNo) (k0_pay44 W) d) (ix2 i c)
      = gu (rows u) (rows v) (rows d) (prow g) (prow b) (wts W) (bias B) i c := by
  pointwise [k0_pay63, k0_pay12, k0_pay14, k0_pay15, k0_pay13, pay48, gu, dgelu, cdf2, rows]
  rfl

end Cert.Gmlp

end
-- ==== Proof.RefRead.lean ====
/- The reference's stages read at a row and a column: each chunk of 128 rows is the mixer's gradient on that chunk. -/
module

public import proofs.«01_k».proof.Proof.Gen.ReferenceIdeal.Read
public import Idealize.ShloMosaic.Lib.Pointwise
public import Idealize.ShloMosaic.Lib.WordCmp
public import proofs.«01_k».proof.Proof.Spec

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Gmlp

/-- Row `r` of chunk `n`. -/
abbrev row (n : Fin 32) (r : Fin 128) : Fin 4096 := ⟨n.val * 128 + r.val, by omega⟩

/-- The arguments' parts the mixer's gradient reads, chunk by chunk. -/
def argU (X : FVec Ideal S4096x4992 .f32) (n : Fin 32) (r : Fin 128) (c : Fin 256) : EReal :=
  X (ix2 (row n r) ⟨2048 + c.val, by omega⟩)
def argV (X : FVec Ideal S4096x4992 .f32) (n : Fin 32) (r : Fin 128) (c : Fin 256) : EReal :=
  X (ix2 (row n r) ⟨2304 + c.val, by omega⟩)
def argD (D : FVec Ideal S4096x1024 .f32) (n : Fin 32) (r : Fin 128) (c : Fin 256) : EReal :=
  D (ix2 (row n r) ⟨512 + c.val, by omega⟩)
def argP (p : FVec Ideal S256 .f32) (c : Fin 256) : EReal := p (ix1 c)
def argW (W : FVec Ideal S4x128x128 .f32) (k : Fin 4) (i j : Fin 128) : EReal := W (ix3 k i j)
def argB (B : FVec Ideal S4x128 .f32) (k : Fin 4) (i : Fin 128) : EReal := B (ix2 k i)

variable (X : FVec Ideal S4096x4992 .f32) (g b : FVec Ideal S256 .f32) (W : FVec Ideal S4x128x128 .f32)
  (B : FVec Ideal S4x128 .f32) (D : FVec Ideal S4096x1024 .f32)

/-- The reference's gelu of one number. -/
theorem gelu_erfc (x : EReal) : half * x * Ideal.erfc (-x * rtHalf) = gelu x := by
  rw [gelu, cdf2, neg_mul, Ideal.erfc_neg]

theorem v10 (R : Fin 4096) (C : Fin 512) :
    val_main_v10 (F := Ideal) X (ix2 R C) = gelu (X (ix2 R ⟨2048 + C.val, by omega⟩)) := by
  rw [← gelu_erfc]
  pointwise [val_main_v10, val_main_v2, val_main_v1, val_main_cst, val_main_v0, val_main_v6, val_main_v5, val_main_v3, val_main_v4, val_main_cst_0]
  try rfl

theorem v11 (n : Fin 32) (r : Fin 128) (c : Fin 256) :
    val_main_v11 (F := Ideal) X (ix2 (row n r) c) = gelu (argU X n r c) := by
  pointwise [val_main_v11, v10, argU]

theorem v12 (n : Fin 32) (r : Fin 128) (c : Fin 256) :
    val_main_v12 (F := Ideal) X (ix2 (row n r) c) = gelu (argV X n r c) := by
  pointwise [val_main_v12, v10, argV]
  have h : 2048 + (256 + c.val) = 2304 + c.val := by omega
  simp only [h]

theorem v18 (n : Fin 32) (r : Fin 128) (c : Fin 256) :
    val_main_v18 (F := Ideal) X (ix2 (row n r) c) = cen (argV X n) r c := by
  pointwise [val_main_v18, val_main_v17, val_main_v16, val_main_v15, val_main_cst_2, val_main_v14, val_main_v13, val_main_cst_1, v12, cen, mean]

theorem v25 (n : Fin 32) (r : Fin 128) :
    val_main_v25 (F := Ideal) X (ix2 (row n r) 0) = var (argV X n) r := by
  pointwise [val_main_v25, val_main_v24, val_main_cst_5, val_main_v23, val_main_v22, val_main_cst_4, val_main_v21, val_main_v20, val_main_cst_3, val_main_v19, v18, var]

theorem v26 (n : Fin 32) (r : Fin 128) :
    val_main_v26 (F := Ideal) X (ix2 (row n r) 0) = isd (argV X n) r := by
  pointwise [val_main_v26, v25, isd]

theorem v29 (n : Fin 32) (r : Fin 128) :
    val_main_v29 (F := Ideal) X (ix2 (row n r) 0) = nhalf * Ideal.div (isd (argV X n) r) (var (argV X n) r) := by
  pointwise [val_main_v29, val_main_v28, val_main_cst_6, val_main_v27, v26, v25]

theorem v31 (n : Fin 32) (r : Fin 128) (c : Fin 256) :
    val_main_v31 (F := Ideal) X (ix2 (row n r) c) = nrm (argV X n) r c := by
  pointwise [val_main_v31, val_main_v30, v18, v26, nrm]

theorem v37 (n : Fin 32) (r : Fin 128) (c : Fin 256) :
    val_main_v37 (F := Ideal) X g b (ix2 (row n r) c) = ln (argV X n) (argP g) (argP b) r c := by
  pointwise [val_main_v37, val_main_v36, val_main_v35, val_main_v34, val_main_v33, val_main_v32, v31, ln, argP]

theorem v38 (n : Fin 32) (r : Fin 128) (k : Fin 4) (q : Fin 64) :
    val_main_v38 (F := Ideal) X g b (ix4 n r k q) = ln (argV X n) (argP g) (argP b) r (col k q) := by
  rw [← v37]
  pointwise [val_main_v38, col]

theorem v40 (i j : Fin 128) :
    (val_main_v40 (F := Ideal) : IVec S128x128 1) (ix2 i j) = BitVec.ofBool (decide (j.val ≤ i.val)) := by
  have h : (BitVec.ofNat 32 i.val + 0#32) = BitVec.ofNat 32 i.val := by simp
  show Scalar.select (IntOp.cmpi .sge (BitVec.ofNat 32 i.val + 0#32) (BitVec.ofNat 32 j.val)) 1#1 0#1 = _
  rw [h]
  word_cmp
  by_cases e : j.val ≤ i.val <;> simp [e]

theorem v41 (k : Fin 4) (i j : Fin 128) : val_main_v41_0 (F := Ideal) W (ix3 k i j) = low (argW W) k i j := by
  have hz : (id (constant S_ .f32 0x00000000#32) : FVec Ideal S_ .f32) ix0 = 0 := by
    show Ideal.ofBits .f32 0x00000000#32 = 0
    simp
  pointwise [val_main_v41_0, val_main_v41_1, val_main_call1_v2, val_main_call1_v0, val_main_cst_7, v40, low, argW, hz]

theorem v47 (n : Fin 32) (i : Fin 128) (k : Fin 4) (q : Fin 64) :
    val_main_v47 (F := Ideal) X g b W B (ix4 n i k q)
      = argB B k i + ∑ j : Fin 128, low (argW W) k i j * ln (argV X n) (argP g) (argP b) j (col k q) := by
  pointwise [val_main_v47, val_main_v46, val_main_v45, val_main_v44, val_main_v43, val_main_v42, v41, v38, argB]
  rw [add_comm]
  exact congrArg _ (Finset.sum_congr rfl fun x _ => mul_comm _ _)

theorem row_div (n : Fin 32) (i : Fin 128) (h) : (⟨(n.val * 128 + i.val) / 128, h⟩ : Fin 32) = n :=
  Fin.ext (by show (n.val * 128 + i.val) / 128 = n.val; omega)
theorem row_mod (n : Fin 32) (i : Fin 128) (h) : (⟨(n.val * 128 + i.val) % 128, h⟩ : Fin 128) = i :=
  Fin.ext (by show (n.val * 128 + i.val) % 128 = i.val; omega)
theorem grp_mk (c : Fin 256) (h) : (⟨c.val / 64, h⟩ : Fin 4) = grp c := rfl
theorem col_grp (c : Fin 256) (h) : col (grp c) ⟨c.val % 64, h⟩ = c :=
  Fin.ext (by show c.val / 64 * 64 + c.val % 64 = c.val; omega)

theorem v48 (n : Fin 32) (i : Fin 128) (c : Fin 256) :
    val_main_v48 (F := Ideal) X g b W B (ix2 (row n i) c)
      = mix (argV X n) (argP g) (argP b) (argW W) (argB B) i c := by
  pointwise [val_main_v48, v47, mix]
  simp only [row_div, row_mod, grp_mk, col_grp]

theorem v50 (n : Fin 32) (r : Fin 128) (c : Fin 256) : val_main_v50 (F := Ideal) D (ix2 (row n r) c) = argD D n r c := by
  pointwise [val_main_v50, argD]

theorem v52 (n : Fin 32) (r : Fin 128) (c : Fin 256) :
    val_main_v52 (F := Ideal) X g b W B D (ix2 (row n r) c)
      = argD D n r c * mix (argV X n) (argP g) (argP b) (argW W) (argB B) r c := by
  pointwise [val_main_v52, v50, v48]

theorem v51 (n : Fin 32) (r : Fin 128) (c : Fin 256) :
    val_main_v51 (F := Ideal) X D (ix2 (row n r) c) = dsv (argU X n) (argD D n) r c := by
  pointwise [val_main_v51, v50, v11, dsv]

theorem v53 (n : Fin 32) (r : Fin 128) (k : Fin 4) (q : Fin 64) :
    val_main_v53 (F := Ideal) X D (ix4 n r k q) = dsv (argU X n) (argD D n) r (col k q) := by
  rw [← v51]
  pointwise [val_main_v53, col]

theorem v59 (k : Fin 4) (i j : Fin 128) :
    val_main_v59 (F := Ideal) X g b D (ix3 k i j)
      = ∑ n : Fin 32, ∑ q : Fin 64, dsv (argU X n) (argD D n) i (col k q) * ln (argV X n) (argP g) (argP b) j (col k q) := by
  pointwise [val_main_v59, val_main_v58, v53, v38]

theorem v62 (k : Fin 4) (i j : Fin 128) :
    val_main_v62 (F := Ideal) X g b D (ix3 k i j)
      = ∑ n : Fin 32, gw (argU X n) (argV X n) (argD D n) (argP g) (argP b) k i j := by
  pointwise [val_main_v62, val_main_v41_1, val_main_call2_v0, val_main_call2_cst, v40, v59]
  by_cases h : j.val ≤ i.val <;> simp [h, Scalar.select, gw]

theorem v63 (n : Fin 32) (j : Fin 128) (c : Fin 256) :
    val_main_v63 (F := Ideal) X W D (ix2 (row n j) c) = dln (argU X n) (argD D n) (argW W) j c := by
  pointwise [val_main_v63, val_main_v61, val_main_v60, val_main_v58, v53, v41, dln]
  simp only [row_div, row_mod, grp_mk, col_grp]
  exact Finset.sum_congr rfl fun x _ => mul_comm _ _

theorem v71 (n : Fin 32) (j : Fin 128) (c : Fin 256) :
    val_main_v71 (F := Ideal) X g W D (ix2 (row n j) c) = dnrm (argU X n) (argD D n) (argP g) (argW W) j c := by
  pointwise [val_main_v71, val_main_v70, val_main_v32, v63, dnrm, argP]

theorem v80 (n : Fin 32) (j : Fin 128) (z : Fin 1) :
    val_main_v80 (F := Ideal) X g W D (ix2 (row n j) z)
      = dms (argU X n) (argV X n) (argD D n) (argP g) (argW W) j := by
  obtain rfl := Subsingleton.elim z 0
  pointwise [val_main_v80, val_main_v79, val_main_cst_15, val_main_v78, val_main_v75, val_main_v74, val_main_cst_14, val_main_v73, v18, v71, v29, dms]

theorem v86 (n : Fin 32) (j : Fin 128) (c : Fin 256) :
    val_main_v86 (F := Ideal) X g W D (ix2 (row n j) c)
      = dcen (argU X n) (argV X n) (argD D n) (argP g) (argW W) j c := by
  pointwise [val_main_v86, val_main_v85, val_main_v84, val_main_v83, val_main_v77, val_main_v76, val_main_v82, val_main_v81, val_main_cst_16, v80, v18, v71, v26, dcen, Fin.sum_univ_one]

theorem v94 (n : Fin 32) (j : Fin 128) (c : Fin 256) :
    val_main_v94 (F := Ideal) X g W D (ix2 (row n j) c)
      = dcen (argU X n) (argV X n) (argD D n) (argP g) (argW W) j c
        + Ideal.div (∑ k : Fin 256, -dcen (argU X n) (argV X n) (argD D n) (argP g) (argW W) j k) width := by
  pointwise [val_main_v94, val_main_v93, val_main_v92, val_main_cst_19, val_main_v91, val_main_v90, val_main_cst_18, val_main_v89, val_main_v88, val_main_cst_17, val_main_v87, v86, Fin.sum_univ_one]

/-- The constants of the two error-function gradients differ by their sign. -/
theorem neg_twoRtPi : Ideal.ofBits .f32 0xBF906EBB#32 = -twoRtPi := by
  simp [twoRtPi, Ideal.ofBits, Ideal.ieee, -EReal.coe_mul, -EReal.coe_neg]
  exact EReal.coe_neg _

/-- The reference's gelu gradient of one number. -/
theorem dgelu_erfc (x d : EReal) :
    -(Ideal.ofBits .f32 0xBF906EBB#32 * (half * x * d) * Ideal.exp (-(-x * rtHalf * (-x * rtHalf))) * rtHalf)
      + half * (d * Ideal.erfc (-x * rtHalf)) = dgelu x d := by
  rw [dgelu, cdf2, neg_twoRtPi]
  simp only [neg_mul, mul_neg, neg_neg, zero_sub, Ideal.erfc_neg]

theorem v107 (R : Fin 4096) (C : Fin 512) :
    val_main_v107 (F := Ideal) X g b W B D (ix2 R C)
      = dgelu (X (ix2 R ⟨2048 + C.val, by omega⟩)) (val_main_v95 (F := Ideal) X g b W B D (ix2 R C)) := by
  rw [← dgelu_erfc]
  pointwise [val_main_v107, val_main_v106, val_main_v105, val_main_v104, val_main_cst_22, val_main_v103, val_main_v102, val_main_v101, val_main_cst_21, val_main_v100, val_main_v99, val_main_v98, val_main_cst_20, val_main_v97, val_main_v96, val_main_v2, val_main_v1, val_main_cst, val_main_v0, val_main_v6, val_main_v5, val_main_v3, val_main_v4, val_main_cst_0, val_main_v9, val_main_v8, val_main_v7]

theorem v108 (n : Fin 32) (r : Fin 128) (c : Fin 256) :
    val_main_v108 (F := Ideal) X g b W B D (ix2 (row n r) c)
      = gu (argU X n) (argV X n) (argD D n) (argP g) (argP b) (argW W) (argB B) r c := by
  pointwise [val_main_v108, v107, val_main_v95, v52, gu, argU]

theorem v109 (n : Fin 32) (r : Fin 128) (c : Fin 256) :
    val_main_v109 (F := Ideal) X g b W B D (ix2 (row n r) c)
      = gv (argU X n) (argV X n) (argD D n) (argP g) (argW W) r c := by
  pointwise [val_main_v109, v107, val_main_v95, v94, gv, argV]
  have h : 2048 + (256 + c.val) = 2304 + c.val := by omega
  simp only [h]

theorem v110 (c : Fin 256) :
    val_main_v110 (F := Ideal) X W D (ix2 0 c)
      = ∑ n : Fin 32, ∑ r : Fin 128, nrm (argV X n) r c * dln (argU X n) (argD D n) (argW W) r c := by
  pointwise [val_main_v110, val_main_v72, val_main_cst_13, val_main_v69, val_main_v68, val_main_cst_12, Fin.sum_univ_one]
  rw [Fin.sum_univ_tiles 32 128 rfl]
  pointwise [val_main_v67, v31, v63]

theorem v111 (c : Fin 256) :
    val_main_v111 (F := Ideal) X W D (ix2 0 c)
      = ∑ n : Fin 32, ∑ r : Fin 128, dln (argU X n) (argD D n) (argW W) r c := by
  pointwise [val_main_v111, val_main_v66, val_main_cst_11, val_main_v65, val_main_v64, val_main_cst_10, Fin.sum_univ_one]
  rw [Fin.sum_univ_tiles 32 128 rfl]
  pointwise [v63]

/-- The indices of a rank-four vector that agree on the two middle axes, read as pairs of the outer two. -/
theorem sum_outer {a b c d : Nat} (h : (⟨4, ![a, b, c, d]⟩ : Shape).ReducesTo [0, 3] ⟨2, ![b, c]⟩)
    (f : (⟨4, ![a, b, c, d]⟩ : Shape).Idx → EReal) (z : EReal) (r : Fin b) (k : Fin c) :
    Ideal.hostReduceAdd h f z (ix2 r k) = z + ∑ n : Fin a, ∑ q : Fin d, f (ix4 n r k q) := by
  have hf : ∀ i : (⟨4, ![a, b, c, d]⟩ : Shape).Idx, h.drop i = ix2 r k ↔ ∃ w : Fin a × Fin d, ix4 w.1 r k w.2 = i := by
    intro i
    constructor
    · intro e
      have e0 := congrFun e 0
      have e1 := congrFun e 1
      refine ⟨(i 0, i 3), ?_⟩
      funext x
      match x with
      | ⟨0, _⟩ => rfl
      | ⟨1, _⟩ => exact e0.symm
      | ⟨2, _⟩ => exact e1.symm
      | ⟨3, _⟩ => rfl
    · rintro ⟨w, rfl⟩
      funext x
      match x with
      | ⟨0, _⟩ => rfl
      | ⟨1, _⟩ => rfl
  refine congrArg (z + ·) ?_
  refine (Finset.sum_filter_eq_sum_of_fiber _ (fun w : Fin a × Fin d => ix4 w.1 r k w.2)
    (fun _ _ e => Prod.ext (congrFun e 0) (congrFun e 3)) hf f).trans ?_
  simp only [Fintype.sum_prod_type]

theorem v54 (i : Fin 128) (k : Fin 4) :
    val_main_v54 (F := Ideal) X D (ix2 i k) = ∑ n : Fin 32, gbs (argU X n) (argD D n) k i := by
  have h := sum_outer reducesTo_S32x128x4x64_S128x4_d0_3 (val_main_v53 (F := Ideal) X D) 0 i k
  rw [zero_add] at h
  pointwise [val_main_v54, val_main_cst_8, gbs, h, v53]

theorem v55 (i : Fin 128) (k : Fin 4) :
    val_main_v55 (F := Ideal) X D (ix4 0 i k 0) = ∑ n : Fin 32, gbs (argU X n) (argD D n) k i := by
  pointwise [val_main_v55, v54]

theorem v56 (i : Fin 128) (k : Fin 4) :
    val_main_v56 (F := Ideal) X D (ix2 i k) = ∑ n : Fin 32, gbs (argU X n) (argD D n) k i := by
  have h := sum_outer reducesTo_S1x128x4x1_S128x4_d0_3 (val_main_v55 (F := Ideal) X D) 0 i k
  rw [zero_add, Fin.sum_univ_one, Fin.sum_univ_one, v55] at h
  rw [← h]
  show Ideal.hostReduceAdd _ _ (Ideal.ofBits .f32 0x00000000#32) _ = _
  simp

theorem v113 (i k : Fin 128) :
    val_main_v113 (F := Ideal) X D (ix2 i k)
      = ∑ n : Fin 32, if h : k.val < 4 then gbs (argU X n) (argD D n) ⟨k.val, h⟩ i else 0 := by
  pointwise [val_main_v113, val_main_v112, val_main_c_23, val_main_call3_v0, val_main_v57, v56]
  by_cases h : k.val < 4 <;> simp [h]
  show ((((0#32 : BitVec 32).toInt : ℝ)) : EReal) = 0
  simp

end Cert.Gmlp

end
-- ==== Proof.Block.lean ====
/- The blocks the body reads at one grid point are the chunk's rows of the arguments. -/
module

public import proofs.«01_k».proof.Proof.Gen.KernelIdeal.Frame
public import Idealize.ShloMosaic.Lib.Pipeline.ValueKit
public import proofs.«01_k».proof.Proof.KGrad
public import proofs.«01_k».proof.Proof.RefRead

@[expose] public section

set_option maxRecDepth 16384

noncomputable section

open Idealize.ShloMosaic Idealize.ShloMosaic.TcCoe Idealize.SL.Sem
open Idealize.ShloMosaic.Pipeline (Dat)

namespace Cert.Gmlp
open Cert.KernelIdeal Cert.KernelIdeal.Gen

variable (m : (ℓ : Loc nD τ sig) → Buf (Elt Ideal) ℓ)

/-- The six arguments. -/
abbrev aX (c : Dev nD) : FVec Ideal S4096x4992 .f32 := m ((c : Thread nD τ).loc main_arg0)
abbrev aG (c : Dev nD) : FVec Ideal S256 .f32 := m ((c : Thread nD τ).loc main_arg1)
abbrev aB (c : Dev nD) : FVec Ideal S256 .f32 := m ((c : Thread nD τ).loc main_arg2)
abbrev aW (c : Dev nD) : FVec Ideal S4x128x128 .f32 := m ((c : Thread nD τ).loc main_arg3)
abbrev aS (c : Dev nD) : FVec Ideal S4x128 .f32 := m ((c : Thread nD τ).loc main_arg4)
abbrev aD (c : Dev nD) : FVec Ideal S4096x1024 .f32 := m ((c : Thread nD τ).loc main_arg5)

/-- The chunk a grid point works on. -/
def chunk (t : Fin cfg0.N) : Fin 32 := ⟨t.val, by have := t.isLt; have h : cfg0.N = 32 := N_0; omega⟩

theorem idx : ∀ t : Fin cfg0.N, win0_0.index t = ![t.val, 8] ∧ win0_1.index t = ![t.val, 9] ∧ win0_2.index t = ![0, 0]
    ∧ win0_3.index t = ![0, 0] ∧ win0_4.index t = ![0, 0, 0] ∧ win0_5.index t = ![0, 0] ∧ win0_6.index t = ![t.val, 2]
    ∧ win0_7.index t = ![t.val, 0] ∧ win0_8.index t = ![t.val, 0] :=
  (by decide +kernel : ∀ t : Fin grid0.N, _)

theorem blkU (c : Dev nD) (t : Fin cfg0.N) : rows (X0_0 m c t) = argU (aX m c) (chunk t) := by
  funext r q
  show X0_0 m c t (ix2 r q) = m ((c : Thread nD τ).loc main_arg0) (ix2 (row (chunk t) r) ⟨2048 + q.val, by omega⟩)
  rw [X0_0, Pipeline.Window.fill, dif_pos (moved0_0 t _)]
  blk_ext [iblk, V, idx t, row, chunk]

theorem blkV (c : Dev nD) (t : Fin cfg0.N) : rows (X0_1 m c t) = argV (aX m c) (chunk t) := by
  funext r q
  show X0_1 m c t (ix2 r q) = m ((c : Thread nD τ).loc main_arg0) (ix2 (row (chunk t) r) ⟨2304 + q.val, by omega⟩)
  rw [X0_1, Pipeline.Window.fill, dif_pos (moved0_1 t _)]
  blk_ext [iblk, V, idx t, row, chunk]

theorem blkD (c : Dev nD) (t : Fin cfg0.N) : rows (iblk m c 6 t) = argD (aD m c) (chunk t) := by
  funext r q
  show (iblk m c 6 t : FVec Ideal S128x256 .f32) (ix2 r q) = m ((c : Thread nD τ).loc main_arg5) (ix2 (row (chunk t) r) ⟨512 + q.val, by omega⟩)
  blk_ext [iblk, V, idx t, row, chunk]

/-- The prepared operands, read at an index. -/
theorem entryG (c : Dev nD) (q : Fin 256) : (V m c main_v0 : FVec Ideal S1x256 .f32) (ix2 0 q) = aG m c (ix1 q) := by
  simp only [V, hostOps0, hostOps0_1, List.flatten_cons, List.flatten_nil, List.append_nil, List.cons_append, List.nil_append]
  entry_read
  pointwise
theorem entryB (c : Dev nD) (q : Fin 256) : (V m c main_v1 : FVec Ideal S1x256 .f32) (ix2 0 q) = aB m c (ix1 q) := by
  simp only [V, hostOps0, hostOps0_1, List.flatten_cons, List.flatten_nil, List.append_nil, List.cons_append, List.nil_append]
  entry_read
  pointwise
theorem entryS (c : Dev nD) (k : Fin 4) (i : Fin 128) :
    (V m c main_v3 : FVec Ideal S128x128 .f32) (ix2 i ⟨k.val, by omega⟩) = aS m c (ix2 k i) := by
  simp only [V, hostOps0, hostOps0_1, List.flatten_cons, List.flatten_nil, List.append_nil, List.cons_append, List.nil_append]
  entry_read
  show (pad S128x128 ![0, 0] ![0, 124] ![0, 0] (transpose S128x4 [1, 0] (aS m c) transposes_S4x128_S128x4_1_0)
    (sitofp .f32 (constantI S_ 32 0#32) : FVec Ideal S_ .f32) pads_S128x4_S128x128_000_01240 h_S_) (ix2 i ⟨k.val, by omega⟩) = _
  pointwise

theorem blkG (c : Dev nD) (t : Fin cfg0.N) : prow (iblk m c 2 t) = argP (aG m c) := by
  funext q
  refine Eq.trans ?_ (entryG m c q)
  show (iblk m c 2 t : FVec Ideal S1x256 .f32) (ix2 0 q) = V m c main_v0 (ix2 0 q)
  blk_ext [iblk, idx t]

theorem blkB (c : Dev nD) (t : Fin cfg0.N) : prow (iblk m c 3 t) = argP (aB m c) := by
  funext q
  refine Eq.trans ?_ (entryB m c q)
  show (iblk m c 3 t : FVec Ideal S1x256 .f32) (ix2 0 q) = V m c main_v1 (ix2 0 q)
  blk_ext [iblk, idx t]

theorem blkW (c : Dev nD) (t : Fin cfg0.N) : wts (iblk m c 4 t) = argW (aW m c) := by
  funext k i j
  show (iblk m c 4 t : FVec Ideal S4x128x128 .f32) (ix3 k i j) = m ((c : Thread nD τ).loc main_arg3) (ix3 k i j)
  blk_ext [iblk, V, idx t]

theorem blkS (c : Dev nD) (t : Fin cfg0.N) : bias (iblk m c 5 t) = argB (aS m c) := by
  funext k i
  refine Eq.trans ?_ (entryS m c k i)
  show (iblk m c 5 t : FVec Ideal S128x128 .f32) (ix2 i ⟨k.val, by omega⟩) = V m c main_v3 (ix2 i ⟨k.val, by omega⟩)
  blk_ext [iblk, idx t]

end Cert.Gmlp

end
-- ==== Proof.Out.lean ====
/- What the body leaves in each output block at one grid point, and the six arrays after the run. -/
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.Gmlp
open Cert.KernelIdeal Cert.KernelIdeal.Gen

variable (m : (ℓ : Loc nD τ sig) → Buf (Elt Ideal) ℓ)

/-- The first result's block: the gradient towards the first half. -/
theorem outU (c : Dev nD) (t : Fin cfg0.N) (r : Fin 128) (q : Fin 256) :
    (outsAt0 m c t.val t.isLt).1 (ix2 r q)
      = gu (argU (aX m c) (chunk t)) (argV (aX m c) (chunk t)) (argD (aD m c) (chunk t)) (argP (aG m c)) (argP (aB m c))
          (argW (aW m c)) (argB (aS m c)) r q := by
  rw [← blkU, ← blkV, ← blkD, ← blkG m c t, ← blkB m c t, ← blkW m c t, ← blkS m c t]
  by_cases h : t.val % 32 = 0
  · rw [outsAt0_A m c t h]; frame_out
    exact pay63 ..
  · rw [outsAt0_B m c t h]; frame_out
    exact pay63 ..

/-- The second result's block: the gradient towards the second half. -/
theorem outV (c : Dev nD) (t : Fin cfg0.N) (r : Fin 128) (q : Fin 256) :
    (outsAt0 m c t.val t.isLt).2.1 (ix2 r q)
      = gv (argU (aX m c) (chunk t)) (argV (aX m c) (chunk t)) (argD (aD m c) (chunk t)) (argP (aG m c))
          (argW (aW m c)) r q := by
  rw [← blkU, ← blkV, ← blkD, ← blkG m c t, ← blkW m c t]
  by_cases h : t.val % 32 = 0
  · rw [outsAt0_A m c t h]; frame_out
    exact pay64 ..
  · rw [outsAt0_B m c t h]; frame_out
    exact pay64 ..

theorem after7 (c : Dev nD) : (dats m 0 c).arrAt 7 (cfgs 0).N
    = Cert.ReferenceIdeal.Read.val_main_v108 (F := Ideal) (aX m c) (aG m c) (aB m c) (aW m c) (aS m c) (aD m c) := by
  refine (dats m 0 c).arrAt_eq_of_covers 7 _ (by decide +kernel) fun t hf y => ?_
  blk_simp
  rw [after0_7]
  idx_vars y
  refine (outU m c t _ _).trans ((v108 _ _ _ _ _ _ (chunk t) _ _).symm.trans ?_)
  blk_ext [idx t, row, chunk]

theorem after8 (c : Dev nD) : (dats m 0 c).arrAt 8 (cfgs 0).N
    = Cert.ReferenceIdeal.Read.val_main_v109 (F := Ideal) (aX m c) (aG m c) (aB m c) (aW m c) (aS m c) (aD m c) := by
  refine (dats m 0 c).arrAt_eq_of_covers 8 _ (by decide +kernel) fun t hf y => ?_
  blk_simp
  rw [after0_8]
  idx_vars y
  refine (outV m c t _ _).trans ((v109 _ _ (aB m c) _ (aS m c) _ (chunk t) _ _).symm.trans ?_)
  blk_ext [idx t, row, chunk]

end Cert.Gmlp

end
-- ==== Proof.Acc.lean ====
/- The four results that add up over the chunks, and their arrays after the run. -/
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.Gmlp
open Cert.KernelIdeal Cert.KernelIdeal.Gen

variable (m : (ℓ : Loc nD τ sig) → Buf (Elt Ideal) ℓ)

theorem acc5 (x y : FVec Ideal S1x256 .f32) (j : S1x256.Idx) : k0_pay5 (F := Ideal) x y j = (show EReal from y j) + (show EReal from x j) := by pointwise [k0_pay5]
theorem acc6 (x y : FVec Ideal S1x256 .f32) (j : S1x256.Idx) : k0_pay6 (F := Ideal) x y j = (show EReal from y j) + (show EReal from x j) := by pointwise [k0_pay6]
theorem acc7 (x y : FVec Ideal S4x128x128 .f32) (j : S4x128x128.Idx) : k0_pay7 (F := Ideal) x y j = (show EReal from y j) + (show EReal from x j) := by pointwise [k0_pay7]
theorem acc8 (x y : FVec Ideal S128x128 .f32) (j : S128x128.Idx) : k0_pay8 (F := Ideal) x y j = (show EReal from y j) + (show EReal from x j) := by pointwise [k0_pay8]
theorem zero1 (j : S1x256.Idx) : k0_pay1 (F := Ideal) j = (0 : EReal) := by pointwise [k0_pay1]
theorem zero2 (j : S1x256.Idx) : k0_pay2 (F := Ideal) j = (0 : EReal) := by pointwise [k0_pay2]
theorem zero3 (j : S4x128x128.Idx) : k0_pay3 (F := Ideal) j = (0 : EReal) := by pointwise [k0_pay3]
theorem zero4 (j : S128x128.Idx) : k0_pay4 (F := Ideal) j = (0 : EReal) := by pointwise [k0_pay4]

theorem idxAcc : ∀ t : Fin cfg0.N, win0_9.index t = ![0, 0] ∧ win0_10.index t = ![0, 0] ∧ win0_11.index t = ![0, 0, 0]
    ∧ win0_12.index t = ![0, 0] :=
  (by decide +kernel : ∀ t : Fin grid0.N, _)

/-- The points of a run that ends in a written-back point are the chunks in order. -/
theorem chunk_run (t : Fin cfg0.N) (s : Fin 32) (h) : chunk ⟨32 * (t.val / 32) + s.val, h⟩ = s :=
  Fin.ext (by have := t.isLt; have h : cfg0.N = 32 := N_0; show 32 * (t.val / 32) + s.val = s.val; omega)

section
variable (u v d : FVec Ideal S128x256 .f32) (g b : FVec Ideal S1x256 .f32) (W : FVec Ideal S4x128x128 .f32)

theorem part59 (j : S1x256.Idx) :
    argsDln u d W (k0_pay59 (F := Ideal) (k0_pay28 (k0_pay21 v) (k0_pay22 v) k0_pay23)) j
      = ∑ r : Fin 128, nrm (rows v) r (j 1) * dln (rows u) (rows d) (wts W) r (j 1) := by
  idx_vars j
  obtain rfl := Subsingleton.elim j0 0
  exact pay59 ..
theorem part58 (j : S1x256.Idx) :
    argsDln u d W (k0_pay58 (F := Ideal)) j = ∑ r : Fin 128, dln (rows u) (rows d) (wts W) r (j 1) := by
  idx_vars j
  obtain rfl := Subsingleton.elim j0 0
  exact pay58 ..
theorem part56 (j : S4x128x128.Idx) :
    k0_pay56 (F := Ideal) (lnB v g b) (k0_pay33 rowNo colNo) (k0_pay35 k0_pay30) (k0_pay36 rowNo colNo) (k0_pay38 k0_pay30)
      (k0_pay47 (k0_pay16 u) d)
      (k0_pay52 (k0_pay16 u) (lnB v g b) k0_pay30 (k0_pay39 rowNo colNo) (k0_pay41 k0_pay30) (k0_pay43 rowNo colNo) d)
      j = gw (rows u) (rows v) (rows d) (prow g) (prow b) (j 0) (j 1) (j 2) := by
  idx_vars j
  exact pay56 ..
theorem part57 (j : S128x128.Idx) :
    k0_pay57 (F := Ideal) (k0_pay32 k0_pay31) (k0_pay47 (k0_pay16 u) d) j
      = if h : (j 1).val < 4 then gbs (rows u) (rows d) ⟨(j 1).val, h⟩ (j 0) else 0 := by
  idx_vars j
  exact pay57 ..
end

/-- What one chunk adds to the third result. -/
def addG (c : Dev nD) (t : Fin cfg0.N) (j : S1x256.Idx) : EReal :=
  ∑ r : Fin 128, nrm (argV (aX m c) (chunk t)) r (j 1) * dln (argU (aX m c) (chunk t)) (argD (aD m c) (chunk t)) (argW (aW m c)) r (j 1)

theorem stepG_A (c : Dev nD) (t : Fin cfg0.N) (h : t.val % 32 = 0) (j : S1x256.Idx) :
    (outsAt0 m c t.val t.isLt).2.2.1 j = (0 : EReal) + addG m c t j := by
  rw [outsAt0_A m c t h]; frame_out
  rw [addG, ← blkU, ← blkV, ← blkD, ← blkW m c t]
  exact (acc5 _ _ j).trans (Ideal.add_congr (zero1 j) (part59 _ _ _ _ j))

theorem stepG_B (c : Dev nD) (t : Fin cfg0.N) (h : ¬t.val % 32 = 0) (j : S1x256.Idx) :
    (outsAt0 m c t.val t.isLt).2.2.1 j = (show EReal from (outsAt0 m c (t.val - 1) (by omega)).2.2.1 j) + addG m c t j := by
  rw [outsAt0_B m c t h]; frame_out
  rw [addG, ← blkU, ← blkV, ← blkD, ← blkW m c t]
  exact (acc5 _ _ j).trans (Ideal.add_congr rfl (part59 _ _ _ _ j))

theorem sumG (c : Dev nD) (t : Fin cfg0.N) (h : ∀ s : Fin 32, 32 * (t.val / 32) + s.val < cfg0.N) (q : Fin 256) :
    (∑ s : Fin 32, addG m c ⟨32 * (t.val / 32) + s.val, h s⟩ (ix2 0 q)) = Cert.ReferenceIdeal.Read.val_main_v110 (F := Ideal) (aX m c) (aW m c) (aD m c) (ix2 0 q) := by
  rw [v110]
  refine Finset.sum_congr rfl fun s _ => ?_
  rw [addG, chunk_run]
  rfl

theorem after9 (c : Dev nD) : (dats m 0 c).arrAt 9 (cfgs 0).N
    = Cert.ReferenceIdeal.Read.val_main_v110 (F := Ideal) (aX m c) (aW m c) (aD m c) := by
  refine (dats m 0 c).arrAt_eq_of_covers 9 _ (by decide +kernel) fun t hf y => ?_
  blk_simp
  rw [after0_9, Pipeline.eq_sum_fin_of_reset_step_apply_of_flush (fun n h => (outsAt0 m c n h).2.2.1) 32 (fun _ => 0) (addG m c)
    (fun t h j => stepG_A m c t h j) (fun t h j => stepG_B m c t h j) t ((flush0_9 t).mp hf) _, zero_add]
  idx_vars y
  obtain rfl := Subsingleton.elim y0 0
  have e : (win0_9.blk t).view.emb (ix2 0 y1) = ix2 0 y1 := by blk_ext [idxAcc t]
  rw [e]
  exact sumG m c t _ y1

/-- What one chunk adds to the fourth result. -/
def addB (c : Dev nD) (t : Fin cfg0.N) (j : S1x256.Idx) : EReal :=
  ∑ r : Fin 128, dln (argU (aX m c) (chunk t)) (argD (aD m c) (chunk t)) (argW (aW m c)) r (j 1)

theorem stepB_A (c : Dev nD) (t : Fin cfg0.N) (h : t.val % 32 = 0) (j : S1x256.Idx) :
    (outsAt0 m c t.val t.isLt).2.2.2.1 j = (0 : EReal) + addB m c t j := by
  rw [outsAt0_A m c t h]; frame_out
  rw [addB, ← blkU, ← blkD, ← blkW m c t]
  exact (acc6 _ _ j).trans (Ideal.add_congr (zero2 j) (part58 _ _ _ j))

theorem stepB_B (c : Dev nD) (t : Fin cfg0.N) (h : ¬t.val % 32 = 0) (j : S1x256.Idx) :
    (outsAt0 m c t.val t.isLt).2.2.2.1 j = (show EReal from (outsAt0 m c (t.val - 1) (by omega)).2.2.2.1 j) + addB m c t j := by
  rw [outsAt0_B m c t h]; frame_out
  rw [addB, ← blkU, ← blkD, ← blkW m c t]
  exact (acc6 _ _ j).trans (Ideal.add_congr rfl (part58 _ _ _ j))

theorem sumB (c : Dev nD) (t : Fin cfg0.N) (h : ∀ s : Fin 32, 32 * (t.val / 32) + s.val < cfg0.N) (q : Fin 256) :
    (∑ s : Fin 32, addB m c ⟨32 * (t.val / 32) + s.val, h s⟩ (ix2 0 q)) = Cert.ReferenceIdeal.Read.val_main_v111 (F := Ideal) (aX m c) (aW m c) (aD m c) (ix2 0 q) := by
  rw [v111]
  refine Finset.sum_congr rfl fun s _ => ?_
  rw [addB, chunk_run]
  rfl

theorem after10 (c : Dev nD) : (dats m 0 c).arrAt 10 (cfgs 0).N
    = Cert.ReferenceIdeal.Read.val_main_v111 (F := Ideal) (aX m c) (aW m c) (aD m c) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 32 (fun _ => 0) (addB m c)
    (fun t h j => stepB_A m c t h j) (fun t h j => stepB_B m c t h j) t ((flush0_10 t).mp hf) _, zero_add]
  idx_vars y
  obtain rfl := Subsingleton.elim y0 0
  have e : (win0_10.blk t).view.emb (ix2 0 y1) = ix2 0 y1 := by blk_ext [idxAcc t]
  rw [e]
  exact sumB m c t _ y1

/-- What one chunk adds to the fifth result. -/
def addW (c : Dev nD) (t : Fin cfg0.N) (j : S4x128x128.Idx) : EReal :=
  gw (argU (aX m c) (chunk t)) (argV (aX m c) (chunk t)) (argD (aD m c) (chunk t)) (argP (aG m c)) (argP (aB m c)) (j 0) (j 1) (j 2)

theorem stepW_A (c : Dev nD) (t : Fin cfg0.N) (h : t.val % 32 = 0) (j : S4x128x128.Idx) :
    (outsAt0 m c t.val t.isLt).2.2.2.2.1 j = (0 : EReal) + addW m c t j := by
  rw [outsAt0_A m c t h]; frame_out
  rw [addW, ← blkU, ← blkV, ← blkD, ← blkG m c t, ← blkB m c t]
  exact (acc7 _ _ j).trans (Ideal.add_congr (zero3 j) (part56 _ _ _ _ _ j))

theorem stepW_B (c : Dev nD) (t : Fin cfg0.N) (h : ¬t.val % 32 = 0) (j : S4x128x128.Idx) :
    (outsAt0 m c t.val t.isLt).2.2.2.2.1 j = (show EReal from (outsAt0 m c (t.val - 1) (by omega)).2.2.2.2.1 j) + addW m c t j := by
  rw [outsAt0_B m c t h]; frame_out
  rw [addW, ← blkU, ← blkV, ← blkD, ← blkG m c t, ← blkB m c t]
  exact (acc7 _ _ j).trans (Ideal.add_congr rfl (part56 _ _ _ _ _ j))

theorem sumW (c : Dev nD) (t : Fin cfg0.N) (h : ∀ s : Fin 32, 32 * (t.val / 32) + s.val < cfg0.N) (k : Fin 4) (i j : Fin 128) :
    (∑ s : Fin 32, addW m c ⟨32 * (t.val / 32) + s.val, h s⟩ (ix3 k i j)) = Cert.ReferenceIdeal.Read.val_main_v62 (F := Ideal) (aX m c) (aG m c) (aB m c) (aD m c) (ix3 k i j) := by
  rw [v62]
  refine Finset.sum_congr rfl fun s _ => ?_
  rw [addW, chunk_run]
  rfl

theorem after11 (c : Dev nD) : (dats m 0 c).arrAt 11 (cfgs 0).N
    = Cert.ReferenceIdeal.Read.val_main_v62 (F := Ideal) (aX m c) (aG m c) (aB m c) (aD m c) := by
  refine (dats m 0 c).arrAt_eq_of_covers 11 _ (by decide +kernel) fun t hf y => ?_
  blk_simp
  rw [after0_11, Pipeline.eq_sum_fin_of_reset_step_apply_of_flush (fun n h => (outsAt0 m c n h).2.2.2.2.1) 32 (fun _ => 0) (addW m c)
    (fun t h j => stepW_A m c t h j) (fun t h j => stepW_B m c t h j) t ((flush0_11 t).mp hf) _, zero_add]
  idx_vars y
  have e : (win0_11.blk t).view.emb (ix3 y0 y1 y2) = ix3 y0 y1 y2 := by blk_ext [idxAcc t]
  rw [e]
  exact sumW m c t _ y0 y1 y2

/-- What one chunk adds to the sixth result. -/
def addS (c : Dev nD) (t : Fin cfg0.N) (j : S128x128.Idx) : EReal :=
  if h : (j 1).val < 4 then gbs (argU (aX m c) (chunk t)) (argD (aD m c) (chunk t)) ⟨(j 1).val, h⟩ (j 0) else 0

theorem stepS_A (c : Dev nD) (t : Fin cfg0.N) (h : t.val % 32 = 0) (j : S128x128.Idx) :
    (outsAt0 m c t.val t.isLt).2.2.2.2.2 j = (0 : EReal) + addS m c t j := by
  rw [outsAt0_A m c t h]; frame_out
  rw [addS, ← blkU, ← blkD]
  exact (acc8 _ _ j).trans (Ideal.add_congr (zero4 j) (part57 _ _ j))

theorem stepS_B (c : Dev nD) (t : Fin cfg0.N) (h : ¬t.val % 32 = 0) (j : S128x128.Idx) :
    (outsAt0 m c t.val t.isLt).2.2.2.2.2 j = (show EReal from (outsAt0 m c (t.val - 1) (by omega)).2.2.2.2.2 j) + addS m c t j := by
  rw [outsAt0_B m c t h]; frame_out
  rw [addS, ← blkU, ← blkD]
  exact (acc8 _ _ j).trans (Ideal.add_congr rfl (part57 _ _ j))

theorem sumS (c : Dev nD) (t : Fin cfg0.N) (h : ∀ s : Fin 32, 32 * (t.val / 32) + s.val < cfg0.N) (i j : Fin 128) :
    (∑ s : Fin 32, addS m c ⟨32 * (t.val / 32) + s.val, h s⟩ (ix2 i j)) = Cert.ReferenceIdeal.Read.val_main_v113 (F := Ideal) (aX m c) (aD m c) (ix2 i j) := by
  rw [v113]
  refine Finset.sum_congr rfl fun s _ => ?_
  rw [addS, chunk_run]
  rfl

theorem after12 (c : Dev nD) : (dats m 0 c).arrAt 12 (cfgs 0).N
    = Cert.ReferenceIdeal.Read.val_main_v113 (F := Ideal) (aX m c) (aD m c) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 32 (fun _ => 0) (addS m c)
    (fun t h j => stepS_A m c t h j) (fun t h j => stepS_B m c t h j) t ((flush0_12 t).mp hf) _, zero_add]
  idx_vars y
  have e : (win0_12.blk t).view.emb (ix2 y0 y1) = ix2 y0 y1 := by blk_ext [idxAcc t]
  rw [e]
  exact sumS m c t _ y0 y1

end Cert.Gmlp

end
-- ==== Proof.Equal.lean ====
/- The equation: the kernel's six arrays after its run are the reference's six results. -/
module

public import proofs.«01_k».proof.Defs
public import proofs.«01_k».proof.Proof.Gen.KernelIdeal.Value
public import proofs.«01_k».proof.Proof.Gen.ReferenceIdeal.Run
public import proofs.«01_k».proof.Proof.Out
public import proofs.«01_k».proof.Proof.Acc
public import Idealize.ShloMosaic.Lib.Quiescent

@[expose] public section

set_option maxRecDepth 16384

noncomputable section

open Idealize.ShloMosaic Idealize.ShloMosaic.TcCoe Idealize.SL.Sem

namespace Cert.Gmlp
open Cert.ReferenceIdeal.Read

/-- The idealized kernel and the idealized reference end with the same six gradients. -/
theorem algebraic : Cert.algebraic_KernelIdeal_ReferenceIdeal := by
  intro m g m' g' _ hagree
  refine ⟨_, _, _, _, _, _, Cert.KernelIdeal.Value.run_blocks m g, (θ_run _ _ _).mono (fun r h c => ?_) (Cert.ReferenceIdeal.Value.run m' g')⟩
  obtain ⟨r0, r1, r2, r3, r4, r5, k⟩ := h c
  obtain ⟨h0, h1, h2, h3, h4, h5⟩ := hagree c
  replace h0 : StableHlo.launchContents m' c (Proc.devRef .tc Cert.ReferenceIdeal.main_arg0) = aX m c := h0
  replace h1 : StableHlo.launchContents m' c (Proc.devRef .tc Cert.ReferenceIdeal.main_arg1) = aG m c := h1
  replace h2 : StableHlo.launchContents m' c (Proc.devRef .tc Cert.ReferenceIdeal.main_arg2) = aB m c := h2
  replace h3 : StableHlo.launchContents m' c (Proc.devRef .tc Cert.ReferenceIdeal.main_arg3) = aW m c := h3
  replace h4 : StableHlo.launchContents m' c (Proc.devRef .tc Cert.ReferenceIdeal.main_arg4) = aS m c := h4
  replace h5 : StableHlo.launchContents m' c (Proc.devRef .tc Cert.ReferenceIdeal.main_arg5) = aD m c := h5
  refine ⟨r0.trans ?_, r1.trans ?_, r2.trans ?_, r3.trans ?_, r4.trans ?_, r5.trans ?_, k⟩
  · refine (val_main_v108_eq _).trans (Eq.trans ?_ (after7 m c).symm)
    rw [h0, h1, h2, h3, h4, h5]
  · refine (val_main_v109_eq _).trans (Eq.trans ?_ (after8 m c).symm)
    rw [h0, h1, h2, h3, h4, h5]
  · refine (val_main_v110_eq _).trans (Eq.trans ?_ (after9 m c).symm)
    rw [h0, h3, h5]
  · refine (val_main_v111_eq _).trans (Eq.trans ?_ (after10 m c).symm)
    rw [h0, h3, h5]
  · refine (val_main_v62_eq _).trans (Eq.trans ?_ (after11 m c).symm)
    rw [h0, h1, h2, h5]
  · refine (val_main_v113_eq _).trans (Eq.trans ?_ (after12 m c).symm)
    rw [h0, h5]

/-- The reference returns with its arguments kept; it has no counters. -/
theorem refFrame : Cert.quiescent_ReferenceIdeal := by
  intro m g _
  refine (θ_run _ _ _).mono (fun r h => ⟨fun c => ?_, sem_eq_zero_of_no_sems (by decide) _⟩) (Cert.ReferenceIdeal.Value.run m g)
  obtain ⟨_, _, _, _, _, _, k⟩ := h c
  exact k

end Cert.Gmlp

end
-- ==== Proof.FfnOutDx.lean ====
/- The product that carries the cotangent back through the feed forward network's second weight matrix. -/
module

public import proofs.«01_k».proof.Defs
public import proofs.«01_k».proof.Proof.Gen.FfnOutDx.Frame
public import proofs.«01_k».proof.Proof.Gen.FfnOutDxIdeal.Value
public import proofs.«01_k».proof.Proof.Gen.FfnOutDxRefIdeal.Run
public import proofs.«01_k».proof.Proof.Gen.FfnOutDxRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.FfnOutDx
open Cert.FfnOutDxIdeal Cert.FfnOutDxIdeal.Gen

variable (m : (ℓ : Loc nD τ sig) → Buf (Elt Ideal) ℓ)

/-- The two arguments. -/
abbrev aA (c : Dev nD) : FVec Ideal S4096x1024 .f32 := m ((c : Thread nD τ).loc main_arg0)
abbrev aB (c : Dev nD) : FVec Ideal S2816x1024 .f32 := m ((c : Thread nD τ).loc main_arg1)

/-- The product at one entry. -/
def entry (x : FVec Ideal S4096x1024 .f32) (y : FVec Ideal S2816x1024 .f32) (i : Fin 4096) (j : Fin 2816) : EReal :=
  ∑ k : Fin 1024, (x (ix2 i k) : EReal) * y (ix2 j k)

theorem idx : ∀ t : Fin cfg0.N, win0_0.index t = ![t.val / 1, 0] ∧ win0_1.index t = ![t.val % 1, 0]
    ∧ win0_2.index t = ![t.val / 1, t.val % 1] :=
  (by decide +kernel : ∀ t : Fin grid0.N, _)

theorem lim (t : Fin cfg0.N) : t.val < 8 := lt_of_lt_of_eq t.isLt N_0

/-- The row and the column of the whole product that an entry of a block is. -/
def ri (t : Fin cfg0.N) (r : Fin 512) : Fin 4096 := ⟨512 * (t.val / 1) + r.val, by have := lim t; omega⟩
def cj (t : Fin cfg0.N) (q : Fin 2816) : Fin 2816 := ⟨2816 * (t.val % 1) + q.val, by have := lim t; omega⟩

theorem blkA (c : Dev nD) (t : Fin cfg0.N) (r : Fin 512) (k : Fin 1024) :
    (iblk m c 0 t : FVec Ideal S512x1024 .bf16) (ix2 r k) = aA m c (ix2 (ri t r) k) := by
  refine Eq.trans (b := V m c main_v0 (ix2 (ri t r) k)) ?_ ?_
  · blk_ext [iblk, idx t, ri]
  · simp only [V, hostOps0]
    entry_read
    pointwise

theorem blkB (c : Dev nD) (t : Fin cfg0.N) (q : Fin 2816) (k : Fin 1024) :
    (iblk m c 1 t : FVec Ideal S2816x1024 .bf16) (ix2 q k) = aB m c (ix2 (cj t q) k) := by
  refine Eq.trans (b := V m c main_v1 (ix2 (cj t q) k)) ?_ ?_
  · blk_ext [iblk, idx t, cj]
  · simp only [V, hostOps0]
    entry_read
    pointwise

theorem pay (x : FVec Ideal S512x1024 .bf16) (y : FVec Ideal S2816x1024 .bf16) (r : Fin 512) (q : Fin 2816) :
    k0_pay1 (F := Ideal) x y (ix2 r q) = ∑ k : Fin 1024, (x (ix2 r k) : EReal) * y (ix2 q k) := by
  pointwise [k0_pay1]

theorem block (c : Dev nD) (t : Fin cfg0.N) (r : Fin 512) (q : Fin 2816) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x1024 .f32) (y : FVec Ideal S2816x1024 .f32) (i : Fin 4096) (j : Fin 2816) :
    Cert.FfnOutDxRefIdeal.Read.val_main_v1 (F := Ideal) x y (ix2 i j) = entry x y i j := by
  unfold entry
  pointwise [Cert.FfnOutDxRefIdeal.Read.val_main_v1, Cert.FfnOutDxRefIdeal.Read.val_main_v0]

theorem after (c : Dev nD) : (dats m 0 c).arrAt 2 (cfgs 0).N
    = Cert.FfnOutDxRefIdeal.Read.val_main_v1 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_FfnOutDxIdeal_FfnOutDxRefIdeal := by
  intro m g m' g' _ hagree
  refine ⟨_, Cert.FfnOutDxIdeal.Value.run_blocks m g, (θ_run _ _ _).mono (fun r h c => ?_) (Cert.FfnOutDxRefIdeal.Value.run m' g')⟩
  obtain ⟨r0, k⟩ := h c
  obtain ⟨h0, h1⟩ := hagree c
  refine ⟨r0.trans ?_, k⟩
  refine (Cert.FfnOutDxRefIdeal.Read.val_main_v1_eq _ _).trans (Eq.trans ?_ (after m c).symm)
  exact congrArg₂ (fun x y => Cert.FfnOutDxRefIdeal.Read.val_main_v1 (F := Ideal) x y) h0 h1

/-- The reference returns with its arguments kept; it has no counters. -/
theorem refFrame : Cert.quiescent_FfnOutDxRefIdeal := by
  intro m g _
  refine (θ_run _ _ _).mono (fun r h => ⟨fun c => ?_, sem_eq_zero_of_no_sems (by decide) _⟩) (Cert.FfnOutDxRefIdeal.Value.run m g)
  obtain ⟨_, k⟩ := h c
  exact k

end Cert.Products.FfnOutDx

end
-- ==== Proof.FfnOutDw.lean ====
/- The product that makes the gradient of the feed forward network's second weight matrix. -/
module

public import proofs.«01_k».proof.Defs
public import proofs.«01_k».proof.Proof.Gen.FfnOutDw.Frame
public import proofs.«01_k».proof.Proof.Gen.FfnOutDwIdeal.Value
public import proofs.«01_k».proof.Proof.Gen.FfnOutDwRefIdeal.Run
public import proofs.«01_k».proof.Proof.Gen.FfnOutDwRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.FfnOutDw
open Cert.FfnOutDwIdeal Cert.FfnOutDwIdeal.Gen

variable (m : (ℓ : Loc nD τ sig) → Buf (Elt Ideal) ℓ)

/-- The two arguments. -/
abbrev aA (c : Dev nD) : FVec Ideal S4096x2816 .f32 := m ((c : Thread nD τ).loc main_arg0)
abbrev aB (c : Dev nD) : FVec Ideal S4096x1024 .f32 := m ((c : Thread nD τ).loc main_arg1)

/-- The product at one entry. -/
def entry (x : FVec Ideal S4096x2816 .f32) (y : FVec Ideal S4096x1024 .f32) (i : Fin 2816) (j : Fin 1024) : EReal :=
  ∑ k : Fin 4096, (x (ix2 k i) : EReal) * y (ix2 k j)

theorem idx : ∀ t : Fin cfg0.N, win0_0.index t = ![0, t.val / 1] ∧ win0_1.index t = ![0, t.val % 1]
    ∧ win0_2.index t = ![t.val / 1, t.val % 1] :=
  (by decide +kernel : ∀ t : Fin grid0.N, _)

theorem lim (t : Fin cfg0.N) : t.val < 11 := lt_of_lt_of_eq t.isLt N_0

/-- The row and the column of the whole product that an entry of a block is. -/
def ri (t : Fin cfg0.N) (r : Fin 256) : Fin 2816 := ⟨256 * (t.val / 1) + r.val, by have := lim t; omega⟩
def cj (t : Fin cfg0.N) (q : Fin 1024) : Fin 1024 := ⟨1024 * (t.val % 1) + q.val, by have := lim t; omega⟩

theorem blkA (c : Dev nD) (t : Fin cfg0.N) (r : Fin 256) (k : Fin 4096) :
    (iblk m c 0 t : FVec Ideal S4096x256 .bf16) (ix2 k r) = aA m c (ix2 k (ri t r)) := by
  refine Eq.trans (b := V m c main_v0 (ix2 k (ri t r))) ?_ ?_
  · blk_ext [iblk, idx t, ri]
  · simp only [V, hostOps0]
    entry_read
    pointwise

theorem blkB (c : Dev nD) (t : Fin cfg0.N) (q : Fin 1024) (k : Fin 4096) :
    (iblk m c 1 t : FVec Ideal S4096x1024 .bf16) (ix2 k q) = aB m c (ix2 k (cj t q)) := by
  refine Eq.trans (b := V m c main_v1 (ix2 k (cj t q))) ?_ ?_
  · blk_ext [iblk, idx t, cj]
  · simp only [V, hostOps0]
    entry_read
    pointwise

theorem pay (x : FVec Ideal S4096x256 .bf16) (y : FVec Ideal S4096x1024 .bf16) (r : Fin 256) (q : Fin 1024) :
    k0_pay1 (F := Ideal) x y (ix2 r q) = ∑ k : Fin 4096, (x (ix2 k r) : EReal) * y (ix2 k q) := by
  pointwise [k0_pay1]

theorem block (c : Dev nD) (t : Fin cfg0.N) (r : Fin 256) (q : Fin 1024) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x2816 .f32) (y : FVec Ideal S4096x1024 .f32) (i : Fin 2816) (j : Fin 1024) :
    Cert.FfnOutDwRefIdeal.Read.val_main_v2 (F := Ideal) x y (ix2 i j) = entry x y i j := by
  unfold entry
  pointwise [Cert.FfnOutDwRefIdeal.Read.val_main_v2, Cert.FfnOutDwRefIdeal.Read.val_main_v1, Cert.FfnOutDwRefIdeal.Read.val_main_v0]
  exact Finset.sum_congr rfl fun k _ => mul_comm _ _

theorem after (c : Dev nD) : (dats m 0 c).arrAt 2 (cfgs 0).N
    = Cert.FfnOutDwRefIdeal.Read.val_main_v2 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_FfnOutDwIdeal_FfnOutDwRefIdeal := by
  intro m g m' g' _ hagree
  refine ⟨_, Cert.FfnOutDwIdeal.Value.run_blocks m g, (θ_run _ _ _).mono (fun r h c => ?_) (Cert.FfnOutDwRefIdeal.Value.run m' g')⟩
  obtain ⟨r0, k⟩ := h c
  obtain ⟨h0, h1⟩ := hagree c
  refine ⟨r0.trans ?_, k⟩
  refine (Cert.FfnOutDwRefIdeal.Read.val_main_v2_eq _ _).trans (Eq.trans ?_ (after m c).symm)
  exact congrArg₂ (fun x y => Cert.FfnOutDwRefIdeal.Read.val_main_v2 (F := Ideal) x y) h0 h1

/-- The reference returns with its arguments kept; it has no counters. -/
theorem refFrame : Cert.quiescent_FfnOutDwRefIdeal := by
  intro m g _
  refine (θ_run _ _ _).mono (fun r h => ⟨fun c => ?_, sem_eq_zero_of_no_sems (by decide) _⟩) (Cert.FfnOutDwRefIdeal.Value.run m g)
  obtain ⟨_, k⟩ := h c
  exact k

end Cert.Products.FfnOutDw

end
-- ==== Proof.FfnInDx.lean ====
/- The product that carries the cotangent back through the feed forward network's first weight matrix. -/
module

public import proofs.«01_k».proof.Defs
public import proofs.«01_k».proof.Proof.Gen.FfnInDx.Frame
public import proofs.«01_k».proof.Proof.Gen.FfnInDxIdeal.Value
public import proofs.«01_k».proof.Proof.Gen.FfnInDxRefIdeal.Run
public import proofs.«01_k».proof.Proof.Gen.FfnInDxRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.FfnInDx
open Cert.FfnInDxIdeal Cert.FfnInDxIdeal.Gen

variable (m : (ℓ : Loc nD τ sig) → Buf (Elt Ideal) ℓ)

/-- The two arguments. -/
abbrev aA (c : Dev nD) : FVec Ideal S4096x5632 .f32 := m ((c : Thread nD τ).loc main_arg0)
abbrev aB (c : Dev nD) : FVec Ideal S1024x5632 .f32 := m ((c : Thread nD τ).loc main_arg1)

/-- The product at one entry. -/
def entry (x : FVec Ideal S4096x5632 .f32) (y : FVec Ideal S1024x5632 .f32) (i : Fin 4096) (j : Fin 1024) : EReal :=
  ∑ k : Fin 5632, (x (ix2 i k) : EReal) * y (ix2 j k)

theorem idx : ∀ t : Fin cfg0.N, win0_0.index t = ![t.val / 1, 0] ∧ win0_1.index t = ![t.val % 1, 0]
    ∧ win0_2.index t = ![t.val / 1, t.val % 1] :=
  (by decide +kernel : ∀ t : Fin grid0.N, _)

theorem lim (t : Fin cfg0.N) : t.val < 8 := lt_of_lt_of_eq t.isLt N_0

/-- The row and the column of the whole product that an entry of a block is. -/
def ri (t : Fin cfg0.N) (r : Fin 512) : Fin 4096 := ⟨512 * (t.val / 1) + r.val, by have := lim t; omega⟩
def cj (t : Fin cfg0.N) (q : Fin 1024) : Fin 1024 := ⟨1024 * (t.val % 1) + q.val, by have := lim t; omega⟩

theorem blkA (c : Dev nD) (t : Fin cfg0.N) (r : Fin 512) (k : Fin 5632) :
    (iblk m c 0 t : FVec Ideal S512x5632 .bf16) (ix2 r k) = aA m c (ix2 (ri t r) k) := by
  refine Eq.trans (b := V m c main_v0 (ix2 (ri t r) k)) ?_ ?_
  · blk_ext [iblk, idx t, ri]
  · simp only [V, hostOps0]
    entry_read
    pointwise

theorem blkB (c : Dev nD) (t : Fin cfg0.N) (q : Fin 1024) (k : Fin 5632) :
    (iblk m c 1 t : FVec Ideal S1024x5632 .bf16) (ix2 q k) = aB m c (ix2 (cj t q) k) := by
  refine Eq.trans (b := V m c main_v1 (ix2 (cj t q) k)) ?_ ?_
  · blk_ext [iblk, idx t, cj]
  · simp only [V, hostOps0]
    entry_read
    pointwise

theorem pay (x : FVec Ideal S512x5632 .bf16) (y : FVec Ideal S1024x5632 .bf16) (r : Fin 512) (q : Fin 1024) :
    k0_pay1 (F := Ideal) x y (ix2 r q) = ∑ k : Fin 5632, (x (ix2 r k) : EReal) * y (ix2 q k) := by
  pointwise [k0_pay1]

theorem block (c : Dev nD) (t : Fin cfg0.N) (r : Fin 512) (q : Fin 1024) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x5632 .f32) (y : FVec Ideal S1024x5632 .f32) (i : Fin 4096) (j : Fin 1024) :
    Cert.FfnInDxRefIdeal.Read.val_main_v0 (F := Ideal) x y (ix2 i j) = entry x y i j := by
  unfold entry
  pointwise [Cert.FfnInDxRefIdeal.Read.val_main_v0]

theorem after (c : Dev nD) : (dats m 0 c).arrAt 2 (cfgs 0).N
    = Cert.FfnInDxRefIdeal.Read.val_main_v0 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_FfnInDxIdeal_FfnInDxRefIdeal := by
  intro m g m' g' _ hagree
  refine ⟨_, Cert.FfnInDxIdeal.Value.run_blocks m g, (θ_run _ _ _).mono (fun r h c => ?_) (Cert.FfnInDxRefIdeal.Value.run m' g')⟩
  obtain ⟨r0, k⟩ := h c
  obtain ⟨h0, h1⟩ := hagree c
  refine ⟨r0.trans ?_, k⟩
  refine (Cert.FfnInDxRefIdeal.Read.val_main_v0_eq _ _).trans (Eq.trans ?_ (after m c).symm)
  exact congrArg₂ (fun x y => Cert.FfnInDxRefIdeal.Read.val_main_v0 (F := Ideal) x y) h0 h1

/-- The reference returns with its arguments kept; it has no counters. -/
theorem refFrame : Cert.quiescent_FfnInDxRefIdeal := by
  intro m g _
  refine (θ_run _ _ _).mono (fun r h => ⟨fun c => ?_, sem_eq_zero_of_no_sems (by decide) _⟩) (Cert.FfnInDxRefIdeal.Value.run m g)
  obtain ⟨_, k⟩ := h c
  exact k

end Cert.Products.FfnInDx

end
-- ==== Proof.FfnInDw.lean ====
/- The product that makes the gradient of the feed forward network's first weight matrix. -/
module

public import proofs.«01_k».proof.Defs
public import proofs.«01_k».proof.Proof.Gen.FfnInDw.Frame
public import proofs.«01_k».proof.Proof.Gen.FfnInDwIdeal.Value
public import proofs.«01_k».proof.Proof.Gen.FfnInDwRefIdeal.Run
public import proofs.«01_k».proof.Proof.Gen.FfnInDwRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.FfnInDw
open Cert.FfnInDwIdeal Cert.FfnInDwIdeal.Gen

variable (m : (ℓ : Loc nD τ sig) → Buf (Elt Ideal) ℓ)

/-- The two arguments. -/
abbrev aA (c : Dev nD) : FVec Ideal S4096x1024 .f32 := m ((c : Thread nD τ).loc main_arg0)
abbrev aB (c : Dev nD) : FVec Ideal S4096x5632 .f32 := m ((c : Thread nD τ).loc main_arg1)

/-- The product at one entry. -/
def entry (x : FVec Ideal S4096x1024 .f32) (y : FVec Ideal S4096x5632 .f32) (i : Fin 1024) (j : Fin 5632) : EReal :=
  ∑ k : Fin 4096, (x (ix2 k i) : EReal) * y (ix2 k j)

theorem idx : ∀ t : Fin cfg0.N, win0_0.index t = ![0, t.val / 11] ∧ win0_1.index t = ![0, t.val % 11]
    ∧ win0_2.index t = ![t.val / 11, t.val % 11] :=
  (by decide +kernel : ∀ t : Fin grid0.N, _)

theorem lim (t : Fin cfg0.N) : t.val < 11 := lt_of_lt_of_eq t.isLt N_0

/-- The row and the column of the whole product that an entry of a block is. -/
def ri (t : Fin cfg0.N) (r : Fin 1024) : Fin 1024 := ⟨1024 * (t.val / 11) + r.val, by have := lim t; omega⟩
def cj (t : Fin cfg0.N) (q : Fin 512) : Fin 5632 := ⟨512 * (t.val % 11) + q.val, by have := lim t; omega⟩

theorem blkA (c : Dev nD) (t : Fin cfg0.N) (r : Fin 1024) (k : Fin 4096) :
    (iblk m c 0 t : FVec Ideal S4096x1024 .bf16) (ix2 k r) = aA m c (ix2 k (ri t r)) := by
  refine Eq.trans (b := V m c main_v0 (ix2 k (ri t r))) ?_ ?_
  · blk_ext [iblk, idx t, ri]
  · simp only [V, hostOps0]
    entry_read
    pointwise

theorem blkB (c : Dev nD) (t : Fin cfg0.N) (q : Fin 512) (k : Fin 4096) :
    (iblk m c 1 t : FVec Ideal S4096x512 .bf16) (ix2 k q) = aB m c (ix2 k (cj t q)) := by
  refine Eq.trans (b := V m c main_v1 (ix2 k (cj t q))) ?_ ?_
  · blk_ext [iblk, idx t, cj]
  · simp only [V, hostOps0]
    entry_read
    pointwise

theorem pay (x : FVec Ideal S4096x1024 .bf16) (y : FVec Ideal S4096x512 .bf16) (r : Fin 1024) (q : Fin 512) :
    k0_pay1 (F := Ideal) x y (ix2 r q) = ∑ k : Fin 4096, (x (ix2 k r) : EReal) * y (ix2 k q) := by
  pointwise [k0_pay1]

theorem block (c : Dev nD) (t : Fin cfg0.N) (r : Fin 1024) (q : Fin 512) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x1024 .f32) (y : FVec Ideal S4096x5632 .f32) (i : Fin 1024) (j : Fin 5632) :
    Cert.FfnInDwRefIdeal.Read.val_main_v2 (F := Ideal) x y (ix2 i j) = entry x y i j := by
  unfold entry
  pointwise [Cert.FfnInDwRefIdeal.Read.val_main_v2, Cert.FfnInDwRefIdeal.Read.val_main_v1, Cert.FfnInDwRefIdeal.Read.val_main_v0]
  exact Finset.sum_congr rfl fun k _ => mul_comm _ _

theorem after (c : Dev nD) : (dats m 0 c).arrAt 2 (cfgs 0).N
    = Cert.FfnInDwRefIdeal.Read.val_main_v2 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_FfnInDwIdeal_FfnInDwRefIdeal := by
  intro m g m' g' _ hagree
  refine ⟨_, Cert.FfnInDwIdeal.Value.run_blocks m g, (θ_run _ _ _).mono (fun r h c => ?_) (Cert.FfnInDwRefIdeal.Value.run m' g')⟩
  obtain ⟨r0, k⟩ := h c
  obtain ⟨h0, h1⟩ := hagree c
  refine ⟨r0.trans ?_, k⟩
  refine (Cert.FfnInDwRefIdeal.Read.val_main_v2_eq _ _).trans (Eq.trans ?_ (after m c).symm)
  exact congrArg₂ (fun x y => Cert.FfnInDwRefIdeal.Read.val_main_v2 (F := Ideal) x y) h0 h1

/-- The reference returns with its arguments kept; it has no counters. -/
theorem refFrame : Cert.quiescent_FfnInDwRefIdeal := by
  intro m g _
  refine (θ_run _ _ _).mono (fun r h => ⟨fun c => ?_, sem_eq_zero_of_no_sems (by decide) _⟩) (Cert.FfnInDwRefIdeal.Value.run m g)
  obtain ⟨_, k⟩ := h c
  exact k

end Cert.Products.FfnInDw

end
-- ==== Proof.OutProjDx.lean ====
/- The product that carries the cotangent back through the output projection. -/
module

public import proofs.«01_k».proof.Defs
public import proofs.«01_k».proof.Proof.Gen.OutProjDx.Frame
public import proofs.«01_k».proof.Proof.Gen.OutProjDxIdeal.Value
public import proofs.«01_k».proof.Proof.Gen.OutProjDxRefIdeal.Run
public import proofs.«01_k».proof.Proof.Gen.OutProjDxRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.OutProjDx
open Cert.OutProjDxIdeal Cert.OutProjDxIdeal.Gen

variable (m : (ℓ : Loc nD τ sig) → Buf (Elt Ideal) ℓ)

/-- The two arguments. -/
abbrev aA (c : Dev nD) : FVec Ideal S4096x1024 .f32 := m ((c : Thread nD τ).loc main_arg0)
abbrev aB (c : Dev nD) : FVec Ideal S1024x1024 .f32 := m ((c : Thread nD τ).loc main_arg1)

/-- The product at one entry. -/
def entry (x : FVec Ideal S4096x1024 .f32) (y : FVec Ideal S1024x1024 .f32) (i : Fin 4096) (j : Fin 1024) : EReal :=
  ∑ k : Fin 1024, (x (ix2 i k) : EReal) * y (ix2 j k)

theorem idx : ∀ t : Fin cfg0.N, win0_0.index t = ![t.val / 1, 0] ∧ win0_1.index t = ![t.val % 1, 0]
    ∧ win0_2.index t = ![t.val / 1, t.val % 1] :=
  (by decide +kernel : ∀ t : Fin grid0.N, _)

theorem lim (t : Fin cfg0.N) : t.val < 4 := lt_of_lt_of_eq t.isLt N_0

/-- The row and the column of the whole product that an entry of a block is. -/
def ri (t : Fin cfg0.N) (r : Fin 1024) : Fin 4096 := ⟨1024 * (t.val / 1) + r.val, by have := lim t; omega⟩
def cj (t : Fin cfg0.N) (q : Fin 1024) : Fin 1024 := ⟨1024 * (t.val % 1) + q.val, by have := lim t; omega⟩

theorem blkA (c : Dev nD) (t : Fin cfg0.N) (r : Fin 1024) (k : Fin 1024) :
    (iblk m c 0 t : FVec Ideal S1024x1024 .bf16) (ix2 r k) = aA m c (ix2 (ri t r) k) := by
  refine Eq.trans (b := V m c main_v0 (ix2 (ri t r) k)) ?_ ?_
  · blk_ext [iblk, idx t, ri]
  · simp only [V, hostOps0]
    entry_read
    pointwise

theorem blkB (c : Dev nD) (t : Fin cfg0.N) (q : Fin 1024) (k : Fin 1024) :
    (iblk m c 1 t : FVec Ideal S1024x1024 .bf16) (ix2 q k) = aB m c (ix2 (cj t q) k) := by
  refine Eq.trans (b := V m c main_v1 (ix2 (cj t q) k)) ?_ ?_
  · blk_ext [iblk, idx t, cj]
  · simp only [V, hostOps0]
    entry_read
    pointwise

theorem pay (x : FVec Ideal S1024x1024 .bf16) (y : FVec Ideal S1024x1024 .bf16) (r : Fin 1024) (q : Fin 1024) :
    k0_pay1 (F := Ideal) x y (ix2 r q) = ∑ k : Fin 1024, (x (ix2 r k) : EReal) * y (ix2 q k) := by
  pointwise [k0_pay1]

theorem block (c : Dev nD) (t : Fin cfg0.N) (r : Fin 1024) (q : Fin 1024) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x1024 .f32) (y : FVec Ideal S1024x1024 .f32) (i : Fin 4096) (j : Fin 1024) :
    Cert.OutProjDxRefIdeal.Read.val_main_v0 (F := Ideal) x y (ix2 i j) = entry x y i j := by
  unfold entry
  pointwise [Cert.OutProjDxRefIdeal.Read.val_main_v0]

theorem after (c : Dev nD) : (dats m 0 c).arrAt 2 (cfgs 0).N
    = Cert.OutProjDxRefIdeal.Read.val_main_v0 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_OutProjDxIdeal_OutProjDxRefIdeal := by
  intro m g m' g' _ hagree
  refine ⟨_, Cert.OutProjDxIdeal.Value.run_blocks m g, (θ_run _ _ _).mono (fun r h c => ?_) (Cert.OutProjDxRefIdeal.Value.run m' g')⟩
  obtain ⟨r0, k⟩ := h c
  obtain ⟨h0, h1⟩ := hagree c
  refine ⟨r0.trans ?_, k⟩
  refine (Cert.OutProjDxRefIdeal.Read.val_main_v0_eq _ _).trans (Eq.trans ?_ (after m c).symm)
  exact congrArg₂ (fun x y => Cert.OutProjDxRefIdeal.Read.val_main_v0 (F := Ideal) x y) h0 h1

/-- The reference returns with its arguments kept; it has no counters. -/
theorem refFrame : Cert.quiescent_OutProjDxRefIdeal := by
  intro m g _
  refine (θ_run _ _ _).mono (fun r h => ⟨fun c => ?_, sem_eq_zero_of_no_sems (by decide) _⟩) (Cert.OutProjDxRefIdeal.Value.run m g)
  obtain ⟨_, k⟩ := h c
  exact k

end Cert.Products.OutProjDx

end
-- ==== Proof.OutProjDw.lean ====
/- The product that makes the gradient of the output projection. -/
module

public import proofs.«01_k».proof.Defs
public import proofs.«01_k».proof.Proof.Gen.OutProjDw.Frame
public import proofs.«01_k».proof.Proof.Gen.OutProjDwIdeal.Value
public import proofs.«01_k».proof.Proof.Gen.OutProjDwRefIdeal.Run
public import proofs.«01_k».proof.Proof.Gen.OutProjDwRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.OutProjDw
open Cert.OutProjDwIdeal Cert.OutProjDwIdeal.Gen

variable (m : (ℓ : Loc nD τ sig) → Buf (Elt Ideal) ℓ)

/-- The two arguments. -/
abbrev aA (c : Dev nD) : FVec Ideal S4096x1024 .f32 := m ((c : Thread nD τ).loc main_arg0)
abbrev aB (c : Dev nD) : FVec Ideal S4096x1024 .f32 := m ((c : Thread nD τ).loc main_arg1)

/-- The product at one entry. -/
def entry (x : FVec Ideal S4096x1024 .f32) (y : FVec Ideal S4096x1024 .f32) (i : Fin 1024) (j : Fin 1024) : EReal :=
  ∑ k : Fin 4096, (x (ix2 k i) : EReal) * y (ix2 k j)

theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

theorem lim (t : Fin cfg0.N) : t.val < 2 := lt_of_lt_of_eq t.isLt N_0

/-- The row and the column of the whole product that an entry of a block is. -/
def ri (t : Fin cfg0.N) (r : Fin 1024) : Fin 1024 := ⟨1024 * (t.val / 2) + r.val, by have := lim t; omega⟩
def cj (t : Fin cfg0.N) (q : Fin 512) : Fin 1024 := ⟨512 * (t.val % 2) + q.val, by have := lim t; omega⟩

theorem blkA (c : Dev nD) (t : Fin cfg0.N) (r : Fin 1024) (k : Fin 4096) :
    (iblk m c 0 t : FVec Ideal S4096x1024 .bf16) (ix2 k r) = aA m c (ix2 k (ri t r)) := by
  refine Eq.trans (b := V m c main_v0 (ix2 k (ri t r))) ?_ ?_
  · blk_ext [iblk, idx t, ri]
  · simp only [V, hostOps0]
    entry_read
    pointwise

theorem blkB (c : Dev nD) (t : Fin cfg0.N) (q : Fin 512) (k : Fin 4096) :
    (iblk m c 1 t : FVec Ideal S4096x512 .bf16) (ix2 k q) = aB m c (ix2 k (cj t q)) := by
  refine Eq.trans (b := V m c main_v1 (ix2 k (cj t q))) ?_ ?_
  · blk_ext [iblk, idx t, cj]
  · simp only [V, hostOps0]
    entry_read
    pointwise

theorem pay (x : FVec Ideal S4096x1024 .bf16) (y : FVec Ideal S4096x512 .bf16) (r : Fin 1024) (q : Fin 512) :
    k0_pay1 (F := Ideal) x y (ix2 r q) = ∑ k : Fin 4096, (x (ix2 k r) : EReal) * y (ix2 k q) := by
  pointwise [k0_pay1]

theorem block (c : Dev nD) (t : Fin cfg0.N) (r : Fin 1024) (q : Fin 512) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x1024 .f32) (y : FVec Ideal S4096x1024 .f32) (i : Fin 1024) (j : Fin 1024) :
    Cert.OutProjDwRefIdeal.Read.val_main_v2 (F := Ideal) x y (ix2 i j) = entry x y i j := by
  unfold entry
  pointwise [Cert.OutProjDwRefIdeal.Read.val_main_v2, Cert.OutProjDwRefIdeal.Read.val_main_v1, Cert.OutProjDwRefIdeal.Read.val_main_v0]
  exact Finset.sum_congr rfl fun k _ => mul_comm _ _

theorem after (c : Dev nD) : (dats m 0 c).arrAt 2 (cfgs 0).N
    = Cert.OutProjDwRefIdeal.Read.val_main_v2 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_OutProjDwIdeal_OutProjDwRefIdeal := by
  intro m g m' g' _ hagree
  refine ⟨_, Cert.OutProjDwIdeal.Value.run_blocks m g, (θ_run _ _ _).mono (fun r h c => ?_) (Cert.OutProjDwRefIdeal.Value.run m' g')⟩
  obtain ⟨r0, k⟩ := h c
  obtain ⟨h0, h1⟩ := hagree c
  refine ⟨r0.trans ?_, k⟩
  refine (Cert.OutProjDwRefIdeal.Read.val_main_v2_eq _ _).trans (Eq.trans ?_ (after m c).symm)
  exact congrArg₂ (fun x y => Cert.OutProjDwRefIdeal.Read.val_main_v2 (F := Ideal) x y) h0 h1

/-- The reference returns with its arguments kept; it has no counters. -/
theorem refFrame : Cert.quiescent_OutProjDwRefIdeal := by
  intro m g _
  refine (θ_run _ _ _).mono (fun r h => ⟨fun c => ?_, sem_eq_zero_of_no_sems (by decide) _⟩) (Cert.OutProjDwRefIdeal.Value.run m g)
  obtain ⟨_, k⟩ := h c
  exact k

end Cert.Products.OutProjDw

end
-- ==== Proof.OutProj.lean ====
/- The output projection. -/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.OutProj
open Cert.OutProjIdeal Cert.OutProjIdeal.Gen

variable (m : (ℓ : Loc nD τ sig) → Buf (Elt Ideal) ℓ)

/-- The two arguments. -/
abbrev aA (c : Dev nD) : FVec Ideal S4096x1024 .f32 := m ((c : Thread nD τ).loc main_arg0)
abbrev aB (c : Dev nD) : FVec Ideal S1024x1024 .f32 := m ((c : Thread nD τ).loc main_arg1)

/-- The product at one entry. -/
def entry (x : FVec Ideal S4096x1024 .f32) (y : FVec Ideal S1024x1024 .f32) (i : Fin 4096) (j : Fin 1024) : EReal :=
  ∑ k : Fin 1024, (x (ix2 i k) : EReal) * y (ix2 k j)

theorem idx : ∀ t : Fin cfg0.N, win0_0.index t = ![t.val / 1, 0] ∧ win0_1.index t = ![0, t.val % 1]
    ∧ win0_2.index t = ![t.val / 1, t.val % 1] :=
  (by decide +kernel : ∀ t : Fin grid0.N, _)

theorem lim (t : Fin cfg0.N) : t.val < 4 := lt_of_lt_of_eq t.isLt N_0

/-- The row and the column of the whole product that an entry of a block is. -/
def ri (t : Fin cfg0.N) (r : Fin 1024) : Fin 4096 := ⟨1024 * (t.val / 1) + r.val, by have := lim t; omega⟩
def cj (t : Fin cfg0.N) (q : Fin 1024) : Fin 1024 := ⟨1024 * (t.val % 1) + q.val, by have := lim t; omega⟩

theorem blkA (c : Dev nD) (t : Fin cfg0.N) (r : Fin 1024) (k : Fin 1024) :
    (iblk m c 0 t : FVec Ideal S1024x1024 .bf16) (ix2 r k) = aA m c (ix2 (ri t r) k) := by
  refine Eq.trans (b := V m c main_v0 (ix2 (ri t r) k)) ?_ ?_
  · blk_ext [iblk, idx t, ri]
  · simp only [V, hostOps0]
    entry_read
    pointwise

theorem blkB (c : Dev nD) (t : Fin cfg0.N) (q : Fin 1024) (k : Fin 1024) :
    (iblk m c 1 t : FVec Ideal S1024x1024 .bf16) (ix2 k q) = aB m c (ix2 k (cj t q)) := by
  refine Eq.trans (b := V m c main_v1 (ix2 k (cj t q))) ?_ ?_
  · blk_ext [iblk, idx t, cj]
  · simp only [V, hostOps0]
    entry_read
    pointwise

theorem pay (x : FVec Ideal S1024x1024 .bf16) (y : FVec Ideal S1024x1024 .bf16) (r : Fin 1024) (q : Fin 1024) :
    k0_pay1 (F := Ideal) x y (ix2 r q) = ∑ k : Fin 1024, (x (ix2 r k) : EReal) * y (ix2 k q) := by
  pointwise [k0_pay1]

theorem block (c : Dev nD) (t : Fin cfg0.N) (r : Fin 1024) (q : Fin 1024) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x1024 .f32) (y : FVec Ideal S1024x1024 .f32) (i : Fin 4096) (j : Fin 1024) :
    Cert.OutProjRefIdeal.Read.val_main_v0 (F := Ideal) x y (ix2 i j) = entry x y i j := by
  unfold entry
  pointwise [Cert.OutProjRefIdeal.Read.val_main_v0]

theorem after (c : Dev nD) : (dats m 0 c).arrAt 2 (cfgs 0).N
    = Cert.OutProjRefIdeal.Read.val_main_v0 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_OutProjIdeal_OutProjRefIdeal := by
  intro m g m' g' _ hagree
  refine ⟨_, Cert.OutProjIdeal.Value.run_blocks m g, (θ_run _ _ _).mono (fun r h c => ?_) (Cert.OutProjRefIdeal.Value.run m' g')⟩
  obtain ⟨r0, k⟩ := h c
  obtain ⟨h0, h1⟩ := hagree c
  refine ⟨r0.trans ?_, k⟩
  refine (Cert.OutProjRefIdeal.Read.val_main_v0_eq _ _).trans (Eq.trans ?_ (after m c).symm)
  exact congrArg₂ (fun x y => Cert.OutProjRefIdeal.Read.val_main_v0 (F := Ideal) x y) h0 h1

/-- The reference returns with its arguments kept; it has no counters. -/
theorem refFrame : Cert.quiescent_OutProjRefIdeal := by
  intro m g _
  refine (θ_run _ _ _).mono (fun r h => ⟨fun c => ?_, sem_eq_zero_of_no_sems (by decide) _⟩) (Cert.OutProjRefIdeal.Value.run m g)
  obtain ⟨_, k⟩ := h c
  exact k

end Cert.Products.OutProj

end
-- ==== Proof.FfnIn.lean ====
/- The feed forward network's first product. -/
module

public import proofs.«01_k».proof.Defs
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.FfnIn
open Cert.FfnInIdeal Cert.FfnInIdeal.Gen

variable (m : (ℓ : Loc nD τ sig) → Buf (Elt Ideal) ℓ)

/-- The two arguments. -/
abbrev aA (c : Dev nD) : FVec Ideal S4096x1024 .f32 := m ((c : Thread nD τ).loc main_arg0)
abbrev aB (c : Dev nD) : FVec Ideal S1024x5632 .f32 := m ((c : Thread nD τ).loc main_arg1)

/-- The product at one entry. -/
def entry (x : FVec Ideal S4096x1024 .f32) (y : FVec Ideal S1024x5632 .f32) (i : Fin 4096) (j : Fin 5632) : EReal :=
  ∑ k : Fin 1024, (x (ix2 i k) : EReal) * y (ix2 k j)

theorem idx : ∀ t : Fin cfg0.N, win0_0.index t = ![t.val % 4, 0] ∧ win0_1.index t = ![0, t.val / 4]
    ∧ win0_2.index t = ![t.val % 4, t.val / 4] :=
  (by decide +kernel : ∀ t : Fin grid0.N, _)

theorem lim (t : Fin cfg0.N) : t.val < 16 := lt_of_lt_of_eq t.isLt N_0

/-- The row and the column of the whole product that an entry of a block is. -/
def ri (t : Fin cfg0.N) (r : Fin 1024) : Fin 4096 := ⟨1024 * (t.val % 4) + r.val, by have := lim t; omega⟩
def cj (t : Fin cfg0.N) (q : Fin 1408) : Fin 5632 := ⟨1408 * (t.val / 4) + q.val, by have := lim t; omega⟩

theorem blkA (c : Dev nD) (t : Fin cfg0.N) (r : Fin 1024) (k : Fin 1024) :
    (iblk m c 0 t : FVec Ideal S1024x1024 .bf16) (ix2 r k) = aA m c (ix2 (ri t r) k) := by
  refine Eq.trans (b := V m c main_v0 (ix2 (ri t r) k)) ?_ ?_
  · blk_ext [iblk, idx t, ri]
  · simp only [V, hostOps0]
    entry_read
    pointwise

theorem blkB (c : Dev nD) (t : Fin cfg0.N) (q : Fin 1408) (k : Fin 1024) :
    (iblk m c 1 t : FVec Ideal S1024x1408 .bf16) (ix2 k q) = aB m c (ix2 k (cj t q)) := by
  refine Eq.trans (b := V m c main_v1 (ix2 k (cj t q))) ?_ ?_
  · blk_ext [iblk, idx t, cj]
  · simp only [V, hostOps0]
    entry_read
    pointwise

theorem pay (x : FVec Ideal S1024x1024 .bf16) (y : FVec Ideal S1024x1408 .bf16) (r : Fin 1024) (q : Fin 1408) :
    k0_pay1 (F := Ideal) x y (ix2 r q) = ∑ k : Fin 1024, (x (ix2 r k) : EReal) * y (ix2 k q) := by
  pointwise [k0_pay1]

theorem block (c : Dev nD) (t : Fin cfg0.N) (r : Fin 1024) (q : Fin 1408) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x1024 .f32) (y : FVec Ideal S1024x5632 .f32) (i : Fin 4096) (j : Fin 5632) :
    Cert.FfnInRefIdeal.Read.val_main_v1 (F := Ideal) x y (ix2 i j) = entry x y i j := by
  unfold entry
  pointwise [Cert.FfnInRefIdeal.Read.val_main_v1, Cert.FfnInRefIdeal.Read.val_main_v0]

theorem after (c : Dev nD) : (dats m 0 c).arrAt 2 (cfgs 0).N
    = Cert.FfnInRefIdeal.Read.val_main_v1 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_FfnInIdeal_FfnInRefIdeal := by
  intro m g m' g' _ hagree
  refine ⟨_, Cert.FfnInIdeal.Value.run_blocks m g, (θ_run _ _ _).mono (fun r h c => ?_) (Cert.FfnInRefIdeal.Value.run m' g')⟩
  obtain ⟨r0, k⟩ := h c
  obtain ⟨h0, h1⟩ := hagree c
  refine ⟨r0.trans ?_, k⟩
  refine (Cert.FfnInRefIdeal.Read.val_main_v1_eq _ _).trans (Eq.trans ?_ (after m c).symm)
  exact congrArg₂ (fun x y => Cert.FfnInRefIdeal.Read.val_main_v1 (F := Ideal) x y) h0 h1

/-- The reference returns with its arguments kept; it has no counters. -/
theorem refFrame : Cert.quiescent_FfnInRefIdeal := by
  intro m g _
  refine (θ_run _ _ _).mono (fun r h => ⟨fun c => ?_, sem_eq_zero_of_no_sems (by decide) _⟩) (Cert.FfnInRefIdeal.Value.run m g)
  obtain ⟨_, k⟩ := h c
  exact k

end Cert.Products.FfnIn

end
-- ==== Proof.FfnOut.lean ====
/- The feed forward network's second product. -/
module

public import proofs.«01_k».proof.Defs
public import proofs.«01_k».proof.Proof.Gen.FfnOut.Frame
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.FfnOut
open Cert.FfnOutIdeal Cert.FfnOutIdeal.Gen

variable (m : (ℓ : Loc nD τ sig) → Buf (Elt Ideal) ℓ)

/-- The two arguments. -/
abbrev aA (c : Dev nD) : FVec Ideal S4096x2816 .f32 := m ((c : Thread nD τ).loc main_arg0)
abbrev aB (c : Dev nD) : FVec Ideal S2816x1024 .f32 := m ((c : Thread nD τ).loc main_arg1)

/-- The product at one entry. -/
def entry (x : FVec Ideal S4096x2816 .f32) (y : FVec Ideal S2816x1024 .f32) (i : Fin 4096) (j : Fin 1024) : EReal :=
  ∑ k : Fin 2816, (x (ix2 i k) : EReal) * y (ix2 k j)

theorem idx : ∀ t : Fin cfg0.N, win0_0.index t = ![t.val / 1, 0] ∧ win0_1.index t = ![0, t.val % 1]
    ∧ win0_2.index t = ![t.val / 1, t.val % 1] :=
  (by decide +kernel : ∀ t : Fin grid0.N, _)

theorem lim (t : Fin cfg0.N) : t.val < 4 := lt_of_lt_of_eq t.isLt N_0

/-- The row and the column of the whole product that an entry of a block is. -/
def ri (t : Fin cfg0.N) (r : Fin 1024) : Fin 4096 := ⟨1024 * (t.val / 1) + r.val, by have := lim t; omega⟩
def cj (t : Fin cfg0.N) (q : Fin 1024) : Fin 1024 := ⟨1024 * (t.val % 1) + q.val, by have := lim t; omega⟩

theorem blkA (c : Dev nD) (t : Fin cfg0.N) (r : Fin 1024) (k : Fin 2816) :
    (iblk m c 0 t : FVec Ideal S1024x2816 .bf16) (ix2 r k) = aA m c (ix2 (ri t r) k) := by
  refine Eq.trans (b := V m c main_v0 (ix2 (ri t r) k)) ?_ ?_
  · blk_ext [iblk, idx t, ri]
  · simp only [V, hostOps0]
    entry_read
    pointwise

theorem blkB (c : Dev nD) (t : Fin cfg0.N) (q : Fin 1024) (k : Fin 2816) :
    (iblk m c 1 t : FVec Ideal S2816x1024 .bf16) (ix2 k q) = aB m c (ix2 k (cj t q)) := by
  refine Eq.trans (b := V m c main_v1 (ix2 k (cj t q))) ?_ ?_
  · blk_ext [iblk, idx t, cj]
  · simp only [V, hostOps0]
    entry_read
    pointwise

theorem pay (x : FVec Ideal S1024x2816 .bf16) (y : FVec Ideal S2816x1024 .bf16) (r : Fin 1024) (q : Fin 1024) :
    k0_pay1 (F := Ideal) x y (ix2 r q) = ∑ k : Fin 2816, (x (ix2 r k) : EReal) * y (ix2 k q) := by
  pointwise [k0_pay1]

theorem block (c : Dev nD) (t : Fin cfg0.N) (r : Fin 1024) (q : Fin 1024) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x2816 .f32) (y : FVec Ideal S2816x1024 .f32) (i : Fin 4096) (j : Fin 1024) :
    Cert.FfnOutRefIdeal.Read.val_main_v0 (F := Ideal) x y (ix2 i j) = entry x y i j := by
  unfold entry
  pointwise [Cert.FfnOutRefIdeal.Read.val_main_v0]

theorem after (c : Dev nD) : (dats m 0 c).arrAt 2 (cfgs 0).N
    = Cert.FfnOutRefIdeal.Read.val_main_v0 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_FfnOutIdeal_FfnOutRefIdeal := by
  intro m g m' g' _ hagree
  refine ⟨_, Cert.FfnOutIdeal.Value.run_blocks m g, (θ_run _ _ _).mono (fun r h c => ?_) (Cert.FfnOutRefIdeal.Value.run m' g')⟩
  obtain ⟨r0, k⟩ := h c
  obtain ⟨h0, h1⟩ := hagree c
  refine ⟨r0.trans ?_, k⟩
  refine (Cert.FfnOutRefIdeal.Read.val_main_v0_eq _ _).trans (Eq.trans ?_ (after m c).symm)
  exact congrArg₂ (fun x y => Cert.FfnOutRefIdeal.Read.val_main_v0 (F := Ideal) x y) h0 h1

/-- The reference returns with its arguments kept; it has no counters. -/
theorem refFrame : Cert.quiescent_FfnOutRefIdeal := by
  intro m g _
  refine (θ_run _ _ _).mono (fun r h => ⟨fun c => ?_, sem_eq_zero_of_no_sems (by decide) _⟩) (Cert.FfnOutRefIdeal.Value.run m g)
  obtain ⟨_, k⟩ := h c
  exact k

end Cert.Products.FfnOut

end
-- ==== Proof.Widen.lean ====
/- A row of the projection in the order of the reference, and in the wider order the kernel works in. -/
module

public import Idealize.ShloMosaic.Lib.Pipeline.ValueKit

@[expose] public section

set_option maxRecDepth 16384

noncomputable section

open Idealize.ShloMosaic

namespace Cert.Products

/-- The wide row: eight columns are moved behind the others, and zeros follow. -/
def widen (f : Fin 4872 → EReal) (c : Fin 4992) : EReal :=
  if h : c.val < 2048 then f ⟨c.val, by omega⟩
  else if h' : c.val - 2048 < 2816 then f ⟨2056 + (c.val - 2048), by omega⟩
  else if h'' : c.val - 2048 - 2816 < 8 then f ⟨2048 + (c.val - 2048 - 2816), by omega⟩
  else 0

/-- Four stretches of a sum. -/
theorem sum_stretches {n : ℕ} (a b c d : ℕ) (h : n = a + (b + (c + d))) (f : Fin n → EReal) :
    ∑ i : Fin n, f i = (∑ i : Fin a, f ⟨i.val, by omega⟩) + ((∑ i : Fin b, f ⟨a + i.val, by omega⟩)
      + ((∑ i : Fin c, f ⟨a + (b + i.val), by omega⟩) + ∑ i : Fin d, f ⟨a + (b + (c + i.val)), by omega⟩)) := by
  subst h
  rw [Fin.sum_univ_add, Fin.sum_univ_add, Fin.sum_univ_add]
  rfl

/-- Widening both factors leaves the sum of products as it is. -/
theorem sum_widen (f g : Fin 4872 → EReal) : ∑ c : Fin 4992, widen f c * widen g c = ∑ k : Fin 4872, f k * g k := by
  rw [sum_stretches 2048 2816 8 120 (by norm_num), sum_stretches (n := 4872) 2048 8 2816 0 (by norm_num)]
  have e1 : ∀ i : Fin 2048, ∀ u : Fin 4872 → EReal, widen u ⟨i.val, by omega⟩ = u ⟨i.val, by omega⟩ := fun i u => by
    simp [widen]
  have e2 : ∀ i : Fin 2816, ∀ u : Fin 4872 → EReal, widen u ⟨2048 + i.val, by omega⟩ = u ⟨2048 + (8 + i.val), by omega⟩ := fun i u => by
    rw [widen, dif_neg (by simp), dif_pos (by show 2048 + i.val - 2048 < 2816; omega)]
    exact congrArg u (Fin.ext (by show 2056 + (2048 + i.val - 2048) = _; simp only; omega))
  have e3 : ∀ i : Fin 8, ∀ u : Fin 4872 → EReal, widen u ⟨2048 + (2816 + i.val), by omega⟩ = u ⟨2048 + i.val, by omega⟩ := fun i u => by
    rw [widen, dif_neg (by simp), dif_neg (by show ¬ 2048 + (2816 + i.val) - 2048 < 2816; omega), dif_pos (by show 2048 + (2816 + i.val) - 2048 - 2816 < 8; omega)]
    exact congrArg u (Fin.ext (by show 2048 + (2048 + (2816 + i.val) - 2048 - 2816) = _; simp only; omega))
  have e4 : ∀ i : Fin 120, ∀ u : Fin 4872 → EReal, widen u ⟨2048 + (2816 + (8 + i.val)), by omega⟩ = 0 := fun i u => by
    rw [widen, dif_neg (by simp), dif_neg (by show ¬ 2048 + (2816 + (8 + i.val)) - 2048 < 2816; omega), dif_neg (by show ¬ 2048 + (2816 + (8 + i.val)) - 2048 - 2816 < 8; omega)]
  simp only [e1, e2, e3, e4, mul_zero, Finset.sum_const_zero, add_zero, Finset.univ_eq_empty, Finset.sum_empty]
  rw [add_comm (∑ i : Fin 2816, _)]

/-- A product with a widened matrix is the widened product. -/
theorem sum_mul_widen {n : ℕ} (f : Fin n → EReal) (g : Fin n → Fin 4872 → EReal) (c : Fin 4992) :
    ∑ k : Fin n, f k * widen (g k) c = widen (fun j => ∑ k : Fin n, f k * g k j) c := by
  unfold widen
  by_cases h : c.val < 2048
  · simp only [dif_pos h]
  by_cases h' : c.val - 2048 < 2816
  · simp only [dif_neg h, dif_pos h']
  by_cases h'' : c.val - 2048 - 2816 < 8
  · simp only [dif_neg h, dif_neg h', dif_pos h'']
  · simp only [dif_neg h, dif_neg h', dif_neg h'', mul_zero, Finset.sum_const_zero]

end Cert.Products

end
-- ==== Proof.InProjDx.lean ====
/- The product that carries the cotangent back through the input projection. -/
module

public import proofs.«01_k».proof.Defs
public import proofs.«01_k».proof.Proof.Gen.InProjDx.Frame
public import proofs.«01_k».proof.Proof.Gen.InProjDxIdeal.Value
public import proofs.«01_k».proof.Proof.Gen.InProjDxRefIdeal.Run
public import proofs.«01_k».proof.Proof.Gen.InProjDxRefIdeal.Read
public import proofs.«01_k».proof.Proof.Widen
public import Idealize.ShloMosaic.Lib.StableHlo.RunClose
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.InProjDx
open Cert.InProjDxIdeal Cert.InProjDxIdeal.Gen

variable (m : (ℓ : Loc nD τ sig) → Buf (Elt Ideal) ℓ)

/-- The two arguments. -/
abbrev aA (c : Dev nD) : FVec Ideal S4096x4872 .f32 := m ((c : Thread nD τ).loc main_arg0)
abbrev aB (c : Dev nD) : FVec Ideal S1024x4872 .f32 := m ((c : Thread nD τ).loc main_arg1)

/-- The product at one entry. -/
def entry (x : FVec Ideal S4096x4872 .f32) (y : FVec Ideal S1024x4872 .f32) (i : Fin 4096) (j : Fin 1024) : EReal :=
  ∑ k : Fin 4992, widen (fun k => x (ix2 i k)) k * widen (fun k => y (ix2 j k)) k

theorem idx : ∀ t : Fin cfg0.N, win0_0.index t = ![t.val / 1, 0] ∧ win0_1.index t = ![t.val % 1, 0]
    ∧ win0_2.index t = ![t.val / 1, t.val % 1] :=
  (by decide +kernel : ∀ t : Fin grid0.N, _)

theorem lim (t : Fin cfg0.N) : t.val < 8 := lt_of_lt_of_eq t.isLt N_0

/-- The row and the column of the whole product that an entry of a block is. -/
def ri (t : Fin cfg0.N) (r : Fin 512) : Fin 4096 := ⟨512 * (t.val / 1) + r.val, by have := lim t; omega⟩
def cj (t : Fin cfg0.N) (q : Fin 1024) : Fin 1024 := ⟨1024 * (t.val % 1) + q.val, by have := lim t; omega⟩

theorem hostA (c : Dev nD) : V m c main_v5
    = concatenate S4096x4992 1 [⟨S4096x2048, extractStridedSlice S4096x2048 ![0, 0] (truncf .bf16 (aA m c) bitsLt_bf16_f32) slices_S4096x4872_S4096x2048_0_0⟩,
        ⟨S4096x2816, extractStridedSlice S4096x2816 ![0, 2056] (truncf .bf16 (aA m c) bitsLt_bf16_f32) slices_S4096x4872_S4096x2816_0_2056⟩,
        ⟨S4096x8, extractStridedSlice S4096x8 ![0, 2048] (truncf .bf16 (aA m c) bitsLt_bf16_f32) slices_S4096x4872_S4096x8_0_2048⟩,
        ⟨S4096x120, broadcastInDim S4096x120 ![] bcast_S_S4096x120 (constant S_ .bf16 0x0000#16)⟩]
        concatenates_S4096x2048_S4096x2816_S4096x8_S4096x120_S4096x4992_d1 := by
  show StableHlo.after hostOps0 (fun b => m (c, b)) (Proc.devRef .tc main_v5) = _
  after_results_entrywise (rounds := 1) []

theorem wideA (c : Dev nD) (i : Fin 4096) (k : Fin 4992) :
    (V m c main_v5 : FVec Ideal S4096x4992 .bf16) (ix2 i k) = widen (fun k => aA m c (ix2 i k)) k := by
  rw [hostA]
  pointwise
  rfl

theorem hostB (c : Dev nD) : V m c main_v11
    = concatenate S1024x4992 1 [⟨S1024x2048, extractStridedSlice S1024x2048 ![0, 0] (truncf .bf16 (aB m c) bitsLt_bf16_f32) slices_S1024x4872_S1024x2048_0_0⟩,
        ⟨S1024x2816, extractStridedSlice S1024x2816 ![0, 2056] (truncf .bf16 (aB m c) bitsLt_bf16_f32) slices_S1024x4872_S1024x2816_0_2056⟩,
        ⟨S1024x8, extractStridedSlice S1024x8 ![0, 2048] (truncf .bf16 (aB m c) bitsLt_bf16_f32) slices_S1024x4872_S1024x8_0_2048⟩,
        ⟨S1024x120, broadcastInDim S1024x120 ![] bcast_S_S1024x120 (constant S_ .bf16 0x0000#16)⟩]
        concatenates_S1024x2048_S1024x2816_S1024x8_S1024x120_S1024x4992_d1 := by
  show StableHlo.after hostOps0 (fun b => m (c, b)) (Proc.devRef .tc main_v11) = _
  after_results_entrywise (rounds := 1) []

theorem wideB (c : Dev nD) (i : Fin 1024) (k : Fin 4992) :
    (V m c main_v11 : FVec Ideal S1024x4992 .bf16) (ix2 i k) = widen (fun k => aB m c (ix2 i k)) k := by
  rw [hostB]
  pointwise
  rfl

theorem blkA (c : Dev nD) (t : Fin cfg0.N) (r : Fin 512) (k : Fin 4992) :
    (iblk m c 0 t : FVec Ideal S512x4992 .bf16) (ix2 r k) = widen (fun j => aA m c (ix2 (ri t r) j)) k := by
  refine Eq.trans (b := V m c main_v5 (ix2 (ri t r) k)) ?_ ?_
  · blk_ext [iblk, idx t, ri]
  · exact wideA m c _ _

theorem blkB (c : Dev nD) (t : Fin cfg0.N) (q : Fin 1024) (k : Fin 4992) :
    (iblk m c 1 t : FVec Ideal S1024x4992 .bf16) (ix2 q k) = widen (fun j => aB m c (ix2 (cj t q) j)) k := by
  refine Eq.trans (b := V m c main_v11 (ix2 (cj t q) k)) ?_ ?_
  · blk_ext [iblk, idx t, cj]
  · exact wideB m c _ _

theorem pay (x : FVec Ideal S512x4992 .bf16) (y : FVec Ideal S1024x4992 .bf16) (r : Fin 512) (q : Fin 1024) :
    k0_pay1 (F := Ideal) x y (ix2 r q) = ∑ k : Fin 4992, (x (ix2 r k) : EReal) * y (ix2 q k) := by
  pointwise [k0_pay1]

theorem block (c : Dev nD) (t : Fin cfg0.N) (r : Fin 512) (q : Fin 1024) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem ref (x : FVec Ideal S4096x4872 .f32) (y : FVec Ideal S1024x4872 .f32) (i : Fin 4096) (j : Fin 1024) :
    Cert.InProjDxRefIdeal.Read.val_main_v0 (F := Ideal) x y (ix2 i j) = entry x y i j := by
  unfold entry
  rw [sum_widen]
  pointwise [Cert.InProjDxRefIdeal.Read.val_main_v0]

theorem after (c : Dev nD) : (dats m 0 c).arrAt 2 (cfgs 0).N
    = Cert.InProjDxRefIdeal.Read.val_main_v0 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_InProjDxIdeal_InProjDxRefIdeal := by
  intro m g m' g' _ hagree
  refine ⟨_, Cert.InProjDxIdeal.Value.run_blocks m g, (θ_run _ _ _).mono (fun r h c => ?_) (Cert.InProjDxRefIdeal.Value.run m' g')⟩
  obtain ⟨r0, k⟩ := h c
  obtain ⟨h0, h1⟩ := hagree c
  refine ⟨r0.trans ?_, k⟩
  refine (Cert.InProjDxRefIdeal.Read.val_main_v0_eq _ _).trans (Eq.trans ?_ (after m c).symm)
  exact congrArg₂ (fun x y => Cert.InProjDxRefIdeal.Read.val_main_v0 (F := Ideal) x y) h0 h1

/-- The reference returns with its arguments kept; it has no counters. -/
theorem refFrame : Cert.quiescent_InProjDxRefIdeal := by
  intro m g _
  refine (θ_run _ _ _).mono (fun r h => ⟨fun c => ?_, sem_eq_zero_of_no_sems (by decide) _⟩) (Cert.InProjDxRefIdeal.Value.run m g)
  obtain ⟨_, k⟩ := h c
  exact k

end Cert.Products.InProjDx

end
-- ==== Proof.InProjDw.lean ====
/- The product that makes the gradient of the input projection. -/
module

public import proofs.«01_k».proof.Defs
public import proofs.«01_k».proof.Proof.Gen.InProjDw.Frame
public import proofs.«01_k».proof.Proof.Gen.InProjDwIdeal.Value
public import proofs.«01_k».proof.Proof.Gen.InProjDwRefIdeal.Run
public import proofs.«01_k».proof.Proof.Gen.InProjDwRefIdeal.Read
public import proofs.«01_k».proof.Proof.Widen
public import Idealize.ShloMosaic.Lib.StableHlo.RunClose
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.InProjDw
open Cert.InProjDwIdeal Cert.InProjDwIdeal.Gen

variable (m : (ℓ : Loc nD τ sig) → Buf (Elt Ideal) ℓ)

/-- The two arguments. -/
abbrev aA (c : Dev nD) : FVec Ideal S4096x1024 .f32 := m ((c : Thread nD τ).loc main_arg0)
abbrev aB (c : Dev nD) : FVec Ideal S4096x4872 .f32 := m ((c : Thread nD τ).loc main_arg1)

/-- The product at one entry. -/
def entry (x : FVec Ideal S4096x1024 .f32) (y : FVec Ideal S4096x4872 .f32) (i : Fin 1024) (j : Fin 4992) : EReal :=
  ∑ k : Fin 4096, (x (ix2 k i) : EReal) * widen (fun j => y (ix2 k j)) j

theorem idx : ∀ t : Fin cfg0.N, win0_0.index t = ![0, t.val / 13] ∧ win0_1.index t = ![0, t.val % 13]
    ∧ win0_2.index t = ![t.val / 13, t.val % 13] :=
  (by decide +kernel : ∀ t : Fin grid0.N, _)

theorem lim (t : Fin cfg0.N) : t.val < 13 := lt_of_lt_of_eq t.isLt N_0

/-- The row and the column of the whole product that an entry of a block is. -/
def ri (t : Fin cfg0.N) (r : Fin 1024) : Fin 1024 := ⟨1024 * (t.val / 13) + r.val, by have := lim t; omega⟩
def cj (t : Fin cfg0.N) (q : Fin 384) : Fin 4992 := ⟨384 * (t.val % 13) + q.val, by have := lim t; omega⟩

theorem hostB (c : Dev nD) : V m c main_v6
    = concatenate S4096x4992 1 [⟨S4096x2048, extractStridedSlice S4096x2048 ![0, 0] (truncf .bf16 (aB m c) bitsLt_bf16_f32) slices_S4096x4872_S4096x2048_0_0⟩,
        ⟨S4096x2816, extractStridedSlice S4096x2816 ![0, 2056] (truncf .bf16 (aB m c) bitsLt_bf16_f32) slices_S4096x4872_S4096x2816_0_2056⟩,
        ⟨S4096x8, extractStridedSlice S4096x8 ![0, 2048] (truncf .bf16 (aB m c) bitsLt_bf16_f32) slices_S4096x4872_S4096x8_0_2048⟩,
        ⟨S4096x120, broadcastInDim S4096x120 ![] bcast_S_S4096x120 (constant S_ .bf16 0x0000#16)⟩]
        concatenates_S4096x2048_S4096x2816_S4096x8_S4096x120_S4096x4992_d1 := by
  show StableHlo.after hostOps0 (fun b => m (c, b)) (Proc.devRef .tc main_v6) = _
  after_results_entrywise (rounds := 1) []

theorem wideB (c : Dev nD) (i : Fin 4096) (k : Fin 4992) :
    (V m c main_v6 : FVec Ideal S4096x4992 .bf16) (ix2 i k) = widen (fun k => aB m c (ix2 i k)) k := by
  rw [hostB]
  pointwise
  rfl

theorem blkA (c : Dev nD) (t : Fin cfg0.N) (r : Fin 1024) (k : Fin 4096) :
    (iblk m c 0 t : FVec Ideal S4096x1024 .bf16) (ix2 k r) = aA m c (ix2 k (ri t r)) := by
  refine Eq.trans (b := V m c main_v0 (ix2 k (ri t r))) ?_ ?_
  · blk_ext [iblk, idx t, ri]
  · simp only [V, hostOps0]
    entry_read
    pointwise

theorem blkB (c : Dev nD) (t : Fin cfg0.N) (q : Fin 384) (k : Fin 4096) :
    (iblk m c 1 t : FVec Ideal S4096x384 .bf16) (ix2 k q) = widen (fun j => aB m c (ix2 k j)) (cj t q) := by
  refine Eq.trans (b := V m c main_v6 (ix2 k (cj t q))) ?_ ?_
  · blk_ext [iblk, idx t, cj]
  · exact wideB m c _ _

theorem pay (x : FVec Ideal S4096x1024 .bf16) (y : FVec Ideal S4096x384 .bf16) (r : Fin 1024) (q : Fin 384) :
    k0_pay1 (F := Ideal) x y (ix2 r q) = ∑ k : Fin 4096, (x (ix2 k r) : EReal) * y (ix2 k q) := by
  pointwise [k0_pay1]

theorem block (c : Dev nD) (t : Fin cfg0.N) (r : Fin 1024) (q : Fin 384) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem refMid (x : FVec Ideal S4096x1024 .f32) (y : FVec Ideal S4096x4872 .f32) (i : Fin 1024) (j : Fin 4872) :
    Cert.InProjDwRefIdeal.Read.val_main_v2 (F := Ideal) x y (ix2 i j) = ∑ k : Fin 4096, (x (ix2 k i) : EReal) * y (ix2 k j) := by
  pointwise [Cert.InProjDwRefIdeal.Read.val_main_v2, Cert.InProjDwRefIdeal.Read.val_main_v1, Cert.InProjDwRefIdeal.Read.val_main_v0]
  exact Finset.sum_congr rfl fun k _ => mul_comm _ _

theorem entry_eq (x : FVec Ideal S4096x1024 .f32) (y : FVec Ideal S4096x4872 .f32) (i : Fin 1024) (j : Fin 4992) :
    entry x y i j = widen (fun j => ∑ k : Fin 4096, (x (ix2 k i) : EReal) * y (ix2 k j)) j := by
  unfold entry
  exact sum_mul_widen _ _ _

theorem ref (x : FVec Ideal S4096x1024 .f32) (y : FVec Ideal S4096x4872 .f32) (i : Fin 1024) (j : Fin 4992) :
    Cert.InProjDwRefIdeal.Read.val_main_v7 (F := Ideal) x y (ix2 i j) = entry x y i j := by
  rw [entry_eq]
  simp only [← refMid]
  pointwise [Cert.InProjDwRefIdeal.Read.val_main_v7, Cert.InProjDwRefIdeal.Read.val_main_v6, Cert.InProjDwRefIdeal.Read.val_main_v5, Cert.InProjDwRefIdeal.Read.val_main_v4, Cert.InProjDwRefIdeal.Read.val_main_v3, Cert.InProjDwRefIdeal.Read.val_main_cst]
  rfl

theorem after (c : Dev nD) : (dats m 0 c).arrAt 2 (cfgs 0).N
    = Cert.InProjDwRefIdeal.Read.val_main_v7 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_InProjDwIdeal_InProjDwRefIdeal := by
  intro m g m' g' _ hagree
  refine ⟨_, Cert.InProjDwIdeal.Value.run_blocks m g, (θ_run _ _ _).mono (fun r h c => ?_) (Cert.InProjDwRefIdeal.Value.run m' g')⟩
  obtain ⟨r0, k⟩ := h c
  obtain ⟨h0, h1⟩ := hagree c
  refine ⟨r0.trans ?_, k⟩
  refine (Cert.InProjDwRefIdeal.Read.val_main_v7_eq _ _).trans (Eq.trans ?_ (after m c).symm)
  exact congrArg₂ (fun x y => Cert.InProjDwRefIdeal.Read.val_main_v7 (F := Ideal) x y) h0 h1

/-- The reference returns with its arguments kept; it has no counters. -/
theorem refFrame : Cert.quiescent_InProjDwRefIdeal := by
  intro m g _
  refine (θ_run _ _ _).mono (fun r h => ⟨fun c => ?_, sem_eq_zero_of_no_sems (by decide) _⟩) (Cert.InProjDwRefIdeal.Value.run m g)
  obtain ⟨_, k⟩ := h c
  exact k

end Cert.Products.InProjDw

end
-- ==== Proof.InProj.lean ====
/- The input projection. -/
module

public import proofs.«01_k».proof.Defs
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Widen
public import Idealize.ShloMosaic.Lib.StableHlo.RunClose
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Products.InProj
open Cert.InProjIdeal Cert.InProjIdeal.Gen

variable (m : (ℓ : Loc nD τ sig) → Buf (Elt Ideal) ℓ)

/-- The two arguments. -/
abbrev aA (c : Dev nD) : FVec Ideal S4096x1024 .f32 := m ((c : Thread nD τ).loc main_arg0)
abbrev aB (c : Dev nD) : FVec Ideal S1024x4872 .f32 := m ((c : Thread nD τ).loc main_arg1)

/-- The product at one entry. -/
def entry (x : FVec Ideal S4096x1024 .f32) (y : FVec Ideal S1024x4872 .f32) (i : Fin 4096) (j : Fin 4992) : EReal :=
  ∑ k : Fin 1024, (x (ix2 i k) : EReal) * widen (fun j => y (ix2 k j)) j

theorem idx : ∀ t : Fin cfg0.N, win0_0.index t = ![t.val % 4, 0] ∧ win0_1.index t = ![0, t.val / 4]
    ∧ win0_2.index t = ![t.val % 4, t.val / 4] :=
  (by decide +kernel : ∀ t : Fin grid0.N, _)

theorem lim (t : Fin cfg0.N) : t.val < 12 := lt_of_lt_of_eq t.isLt N_0

/-- The row and the column of the whole product that an entry of a block is. -/
def ri (t : Fin cfg0.N) (r : Fin 1024) : Fin 4096 := ⟨1024 * (t.val % 4) + r.val, by have := lim t; omega⟩
def cj (t : Fin cfg0.N) (q : Fin 1664) : Fin 4992 := ⟨1664 * (t.val / 4) + q.val, by have := lim t; omega⟩

theorem hostB (c : Dev nD) : V m c main_v6
    = concatenate S1024x4992 1 [⟨S1024x2048, extractStridedSlice S1024x2048 ![0, 0] (truncf .bf16 (aB m c) bitsLt_bf16_f32) slices_S1024x4872_S1024x2048_0_0⟩,
        ⟨S1024x2816, extractStridedSlice S1024x2816 ![0, 2056] (truncf .bf16 (aB m c) bitsLt_bf16_f32) slices_S1024x4872_S1024x2816_0_2056⟩,
        ⟨S1024x8, extractStridedSlice S1024x8 ![0, 2048] (truncf .bf16 (aB m c) bitsLt_bf16_f32) slices_S1024x4872_S1024x8_0_2048⟩,
        ⟨S1024x120, broadcastInDim S1024x120 ![] bcast_S_S1024x120 (constant S_ .bf16 0x0000#16)⟩]
        concatenates_S1024x2048_S1024x2816_S1024x8_S1024x120_S1024x4992_d1 := by
  show StableHlo.after hostOps0 (fun b => m (c, b)) (Proc.devRef .tc main_v6) = _
  after_results_entrywise (rounds := 1) []

theorem wideB (c : Dev nD) (i : Fin 1024) (k : Fin 4992) :
    (V m c main_v6 : FVec Ideal S1024x4992 .bf16) (ix2 i k) = widen (fun k => aB m c (ix2 i k)) k := by
  rw [hostB]
  pointwise
  rfl

theorem blkA (c : Dev nD) (t : Fin cfg0.N) (r : Fin 1024) (k : Fin 1024) :
    (iblk m c 0 t : FVec Ideal S1024x1024 .bf16) (ix2 r k) = aA m c (ix2 (ri t r) k) := by
  refine Eq.trans (b := V m c main_v0 (ix2 (ri t r) k)) ?_ ?_
  · blk_ext [iblk, idx t, ri]
  · simp only [V, hostOps0]
    entry_read
    pointwise

theorem blkB (c : Dev nD) (t : Fin cfg0.N) (q : Fin 1664) (k : Fin 1024) :
    (iblk m c 1 t : FVec Ideal S1024x1664 .bf16) (ix2 k q) = widen (fun j => aB m c (ix2 k j)) (cj t q) := by
  refine Eq.trans (b := V m c main_v6 (ix2 k (cj t q))) ?_ ?_
  · blk_ext [iblk, idx t, cj]
  · exact wideB m c _ _

theorem pay (x : FVec Ideal S1024x1024 .bf16) (y : FVec Ideal S1024x1664 .bf16) (r : Fin 1024) (q : Fin 1664) :
    k0_pay1 (F := Ideal) x y (ix2 r q) = ∑ k : Fin 1024, (x (ix2 r k) : EReal) * y (ix2 k q) := by
  pointwise [k0_pay1]

theorem block (c : Dev nD) (t : Fin cfg0.N) (r : Fin 1024) (q : Fin 1664) :
    out0_2 (iblk m c 0 t) (iblk m c 1 t) (ix2 r q) = entry (aA m c) (aB m c) (ri t r) (cj t q) := by
  frame_out
  refine (pay _ _ r q).trans (Finset.sum_congr rfl fun k _ => ?_)
  exact congrArg₂ (fun a b : EReal => a * b) (blkA m c t r k) (blkB m c t q k)

theorem refMid (x : FVec Ideal S4096x1024 .f32) (y : FVec Ideal S1024x4872 .f32) (i : Fin 4096) (j : Fin 4872) :
    Cert.InProjRefIdeal.Read.val_main_v0 (F := Ideal) x y (ix2 i j) = ∑ k : Fin 1024, (x (ix2 i k) : EReal) * y (ix2 k j) := by
  pointwise [Cert.InProjRefIdeal.Read.val_main_v0]

theorem entry_eq (x : FVec Ideal S4096x1024 .f32) (y : FVec Ideal S1024x4872 .f32) (i : Fin 4096) (j : Fin 4992) :
    entry x y i j = widen (fun j => ∑ k : Fin 1024, (x (ix2 i k) : EReal) * y (ix2 k j)) j := by
  unfold entry
  exact sum_mul_widen _ _ _

theorem ref (x : FVec Ideal S4096x1024 .f32) (y : FVec Ideal S1024x4872 .f32) (i : Fin 4096) (j : Fin 4992) :
    Cert.InProjRefIdeal.Read.val_main_v5 (F := Ideal) x y (ix2 i j) = entry x y i j := by
  rw [entry_eq]
  simp only [← refMid]
  pointwise [Cert.InProjRefIdeal.Read.val_main_v5, Cert.InProjRefIdeal.Read.val_main_v4, Cert.InProjRefIdeal.Read.val_main_v3, Cert.InProjRefIdeal.Read.val_main_v2, Cert.InProjRefIdeal.Read.val_main_v1, Cert.InProjRefIdeal.Read.val_main_cst]
  rfl

theorem after (c : Dev nD) : (dats m 0 c).arrAt 2 (cfgs 0).N
    = Cert.InProjRefIdeal.Read.val_main_v5 (F := Ideal) (aA m c) (aB m c) := by
  refine (dats m 0 c).arrAt_eq_of_covers 2 _ (by decide +kernel) fun t hf y => ?_
  blk_simp
  rw [after0_2]
  idx_vars y
  refine (block m c t _ _).trans ((ref _ _ (ri t _) (cj t _)).symm.trans ?_)
  blk_ext [idx t, ri, cj]

/-- The kernel and the reference end with the same product. -/
theorem algebraic : Cert.algebraic_InProjIdeal_InProjRefIdeal := by
  intro m g m' g' _ hagree
  refine ⟨_, Cert.InProjIdeal.Value.run_blocks m g, (θ_run _ _ _).mono (fun r h c => ?_) (Cert.InProjRefIdeal.Value.run m' g')⟩
  obtain ⟨r0, k⟩ := h c
  obtain ⟨h0, h1⟩ := hagree c
  refine ⟨r0.trans ?_, k⟩
  refine (Cert.InProjRefIdeal.Read.val_main_v5_eq _ _).trans (Eq.trans ?_ (after m c).symm)
  exact congrArg₂ (fun x y => Cert.InProjRefIdeal.Read.val_main_v5 (F := Ideal) x y) h0 h1

/-- The reference returns with its arguments kept; it has no counters. -/
theorem refFrame : Cert.quiescent_InProjRefIdeal := by
  intro m g _
  refine (θ_run _ _ _).mono (fun r h => ⟨fun c => ?_, sem_eq_zero_of_no_sems (by decide) _⟩) (Cert.InProjRefIdeal.Value.run m g)
  obtain ⟨_, k⟩ := h c
  exact k

end Cert.Products.InProj

end
-- ==== Proof.Adam.lean ====
/- The optimiser's step at one entry, and its value where everything is padding. -/
module

public import Idealize.ShloMosaic.Lib.Pipeline.ValueKit
public import Idealize.ShloMosaic.Lib.IdealHost

@[expose] public section

noncomputable section

open Idealize.ShloMosaic

namespace Cert.Adam

/-- The new first moment of an entry, from the old one and the gradient. -/
def first (m g : EReal) : EReal := Ideal.ofBits .f32 1063675494#32 * m + Ideal.ofBits .f32 1036831949#32 * g

/-- The new second moment. -/
def second (v g : EReal) : EReal := Ideal.ofBits .f32 1065336439#32 * v + Ideal.ofBits .f32 981668463#32 * (g * g)

/-- What is added to the weight. -/
def step (w m v g : EReal) : EReal :=
  Ideal.ofBits .f32 3129152111#32 *
    (Ideal.div (Ideal.div (first m g) (Ideal.ofBits .f32 1059503362#32))
      (Ideal.sqrt (Ideal.div (second v g) (Ideal.ofBits .f32 1008933580#32)) + Ideal.ofBits .f32 841731191#32)
      + Ideal.ofBits .f32 1008981770#32 * w)

theorem first_zero : first 0 0 = 0 := by simp [first]

theorem second_zero : second 0 0 = 0 := by simp [second]

theorem corr1_ne : Ideal.ofBits .f32 1059503362#32 ≠ 0 := by
  simp [Ideal.ofBits, Ideal.ieee, -EReal.coe_mul]

theorem corr2_ne : Ideal.ofBits .f32 1008933580#32 ≠ 0 := by
  simp [Ideal.ofBits, Ideal.ieee, -EReal.coe_mul]

theorem eps_ne : Ideal.ofBits .f32 841731191#32 ≠ 0 := by
  simp [Ideal.ofBits, Ideal.ieee, -EReal.coe_mul]

theorem step_zero : step 0 0 0 0 = 0 := by
  unfold step
  rw [first_zero, second_zero, Ideal.zero_div corr1_ne, Ideal.zero_div corr2_ne]
  have : Ideal.sqrt 0 = 0 := by
    show (if (0 : ℝ) < 0 then (⊥ : EReal) else (Real.sqrt 0 : EReal)) = 0
    simp
  rw [this, zero_add, Ideal.zero_div eps_ne]
  simp

theorem int_zero (φ : FTy) : (FloatOps.sitofp φ (0#32) : Ideal φ) = 0 := by
  show ((((0#32 : BitVec 32).toInt : ℝ)) : EReal) = 0
  simp

end Cert.Adam

end
-- ==== Proof.AdamWIn.lean ====
/- The optimiser's update of the weight of the input projection. -/
module

public import proofs.«01_k».proof.Defs
public import proofs.«01_k».proof.Proof.Gen.AdamWIn.Frame
public import proofs.«01_k».proof.Proof.Gen.AdamWInIdeal.Value
public import proofs.«01_k».proof.Proof.Gen.AdamWInRefIdeal.Run
public import proofs.«01_k».proof.Proof.Gen.AdamWInRefIdeal.Read
public import proofs.«01_k».proof.Proof.Adam
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Adam.AdamWIn
open Cert.AdamWInIdeal Cert.AdamWInIdeal.Gen

variable (m : (ℓ : Loc nD τ sig) → Buf (Elt Ideal) ℓ)

/-- The four arguments: the weight, its two moments, the parts of its gradient. -/
abbrev aW (c : Dev nD) : FVec Ideal S4x1024x609 .f32 := m ((c : Thread nD τ).loc main_arg0)
abbrev aM (c : Dev nD) : FVec Ideal S4x1024x609 .f32 := m ((c : Thread nD τ).loc main_arg1)
abbrev aV (c : Dev nD) : FVec Ideal S4x1024x609 .f32 := m ((c : Thread nD τ).loc main_arg2)
abbrev aP (c : Dev nD) : FVec Ideal S8x4x1024x609 .f32 := m ((c : Thread nD τ).loc main_arg3)

/-- An argument's entry in the layout of rows the update runs over. -/
def wide (a : FVec Ideal S4x1024x609 .f32) (i : Fin 4096) (j : Fin 640) : EReal :=
  if h : j.val < 609 then a (ix3 ⟨i.val / 1024, by have := i.isLt; omega⟩ ⟨i.val % 1024, by have := i.isLt; omega⟩ ⟨j.val, h⟩) else 0
def wideP (p : FVec Ideal S8x4x1024x609 .f32) (k : Fin 8) (i : Fin 4096) (j : Fin 640) : EReal :=
  if h : j.val < 609 then p (ix4 k ⟨i.val / 1024, by have := i.isLt; omega⟩ ⟨i.val % 1024, by have := i.isLt; omega⟩ ⟨j.val, h⟩) else 0

/-- The summed gradient. -/
def grad (p : FVec Ideal S8x4x1024x609 .f32) (i : Fin 4096) (j : Fin 640) : EReal := ∑ k : Fin 8, wideP p k i j

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lim (t : Fin cfg0.N) : t.val < 16 := lt_of_lt_of_eq t.isLt N_0

/-- The row of the whole array that a row of a block is. -/
def ri (t : Fin cfg0.N) (r : Fin 256) : Fin 4096 := ⟨256 * t.val + r.val, by have := lim t; have := r.isLt; omega⟩

theorem hostW (c : Dev nD) (i : Fin 4096) (j : Fin 640) :
    (V m c main_v4 : FVec Ideal S4096x640 .f32) (ix2 i j) = wide (aW m c) i j := by
  simp only [V, hostOps0, hostOps0_1, hostOps0_2, hostOps0_3, hostOps0_4, hostOps0_5, hostOps0_6, hostOps0_7, List.flatten_cons, List.flatten_nil, List.append_nil, List.cons_append, List.nil_append]
  entry_read
  show (pad S4096x640 ![0, 0] ![0, 31] ![0, 0] (shapeCast S4096x609 (aW m c) shapeCasts_S4x1024x609_S4096x609)
    (sitofp .f32 (constantI S_ 32 0#32) : FVec Ideal S_ .f32) pads_S4096x609_S4096x640_000_0310 h_S_) (ix2 i j) = _
  unfold wide
  pointwise [int_zero]

theorem hostM (c : Dev nD) (i : Fin 4096) (j : Fin 640) :
    (V m c main_v6 : FVec Ideal S4096x640 .f32) (ix2 i j) = wide (aM m c) i j := by
  simp only [V, hostOps0, hostOps0_1, hostOps0_2, hostOps0_3, hostOps0_4, hostOps0_5, hostOps0_6, hostOps0_7, List.flatten_cons, List.flatten_nil, List.append_nil, List.cons_append, List.nil_append]
  entry_read
  show (pad S4096x640 ![0, 0] ![0, 31] ![0, 0] (shapeCast S4096x609 (aM m c) shapeCasts_S4x1024x609_S4096x609)
    (sitofp .f32 (constantI S_ 32 0#32) : FVec Ideal S_ .f32) pads_S4096x609_S4096x640_000_0310 h_S_) (ix2 i j) = _
  unfold wide
  pointwise [int_zero]

theorem hostV (c : Dev nD) (i : Fin 4096) (j : Fin 640) :
    (V m c main_v8 : FVec Ideal S4096x640 .f32) (ix2 i j) = wide (aV m c) i j := by
  simp only [V, hostOps0, hostOps0_1, hostOps0_2, hostOps0_3, hostOps0_4, hostOps0_5, hostOps0_6, hostOps0_7, List.flatten_cons, List.flatten_nil, List.append_nil, List.cons_append, List.nil_append]
  entry_read
  show (pad S4096x640 ![0, 0] ![0, 31] ![0, 0] (shapeCast S4096x609 (aV m c) shapeCasts_S4x1024x609_S4096x609)
    (sitofp .f32 (constantI S_ 32 0#32) : FVec Ideal S_ .f32) pads_S4096x609_S4096x640_000_0310 h_S_) (ix2 i j) = _
  unfold wide
  pointwise [int_zero]

theorem hostP (c : Dev nD) (k : Fin 8) (i : Fin 4096) (j : Fin 640) :
    (V m c main_v2 : FVec Ideal S8x4096x640 .bf16) (ix3 k i j) = wideP (aP m c) k i j := by
  simp only [V, hostOps0, hostOps0_1, hostOps0_2, hostOps0_3, hostOps0_4, hostOps0_5, hostOps0_6, hostOps0_7, List.flatten_cons, List.flatten_nil, List.append_nil, List.cons_append, List.nil_append]
  entry_read
  show (shapeCast S8x4096x640 (pad S8x4x1024x640 ![0, 0, 0, 0] ![0, 0, 0, 31] ![0, 0, 0, 0] (truncf .bf16 (aP m c) bitsLt_bf16_f32)
    (sitofp .bf16 (constantI S_ 32 0#32) : FVec Ideal S_ .bf16) pads_S8x4x1024x609_S8x4x1024x640_000_000_000_0310 h_S_) shapeCasts_S8x4x1024x640_S8x4096x640) (ix3 k i j) = _
  unfold wideP
  pointwise [int_zero]
  have h1 : i.val / 1024 < 4 := by have := i.isLt; omega
  have h2 : i.val % 1024 < 1024 := by omega
  by_cases h : j.val < 609 <;> simp [h, h1, h2]

theorem blkW (c : Dev nD) (t : Fin cfg0.N) (r : Fin 256) (q : Fin 640) :
    (iblk m c 0 t : FVec Ideal S256x640 .f32) (ix2 r q) = wide (aW m c) (ri t r) q := by
  refine Eq.trans (b := V m c main_v4 (ix2 (ri t r) q)) ?_ (hostW m c _ _)
  blk_ext [iblk, idx t, ri]

theorem blkM (c : Dev nD) (t : Fin cfg0.N) (r : Fin 256) (q : Fin 640) :
    (iblk m c 1 t : FVec Ideal S256x640 .f32) (ix2 r q) = wide (aM m c) (ri t r) q := by
  refine Eq.trans (b := V m c main_v6 (ix2 (ri t r) q)) ?_ (hostM m c _ _)
  blk_ext [iblk, idx t, ri]

theorem blkV (c : Dev nD) (t : Fin cfg0.N) (r : Fin 256) (q : Fin 640) :
    (iblk m c 2 t : FVec Ideal S256x640 .f32) (ix2 r q) = wide (aV m c) (ri t r) q := by
  refine Eq.trans (b := V m c main_v8 (ix2 (ri t r) q)) ?_ (hostV m c _ _)
  blk_ext [iblk, idx t, ri]

theorem readP (A : FVec Ideal S8x4096x640 .bf16) (t : Fin cfg0.N) (k : Fin 8) (r : Fin 256) (q : Fin 640) :
    (((cfg0.win 3).blk t).view.read (Elt Ideal) A : FVec Ideal S8x256x640 .bf16) (ix3 k r q) = A (ix3 k (ri t r) q) := by
  blk_ext [idx t, ri]

theorem blkP (c : Dev nD) (t : Fin cfg0.N) (k : Fin 8) (r : Fin 256) (q : Fin 640) :
    (iblk m c 3 t : FVec Ideal S8x256x640 .bf16) (ix3 k r q) = wideP (aP m c) k (ri t r) q :=
  (readP (V m c main_v2) t k r q).trans (hostP m c _ _ _)

theorem out4 (w mm v : FVec Ideal S256x640 .f32) (p : FVec Ideal S8x256x640 .bf16) (r : Fin 256) (q : Fin 640) :
    out0_4 (F := Ideal) w mm v p (ix2 r q) = (∑ k : Fin 8, (p (ix3 k r q) : EReal)) := by
  frame_out
  rw [Fin.sum_univ_eight]
  pointwise [k0_pay1, k0_pay2, k0_pay3, k0_pay4, k0_pay5, k0_pay6, step, first, second]

theorem block4 (c : Dev nD) (t : Fin cfg0.N) (r : Fin 256) (q : Fin 640) :
    out0_4 (iblk m c 0 t) (iblk m c 1 t) (iblk m c 2 t) (iblk m c 3 t) (ix2 r q)
      = (grad (aP m c) (ri t r) q) := by
  refine (out4 _ _ _ _ r q).trans ?_
  have hp : (@Finset.sum (Fin 8) EReal _ Finset.univ fun k => iblk m c 3 t (ix3 k r q)) = grad (aP m c) (ri t r) q :=
    Finset.sum_congr rfl fun k _ => blkP m c t k r q
  exact hp

theorem out5 (w mm v : FVec Ideal S256x640 .f32) (p : FVec Ideal S8x256x640 .bf16) (r : Fin 256) (q : Fin 640) :
    out0_5 (F := Ideal) w mm v p (ix2 r q) = step (w (ix2 r q)) (mm (ix2 r q)) (v (ix2 r q)) (∑ k : Fin 8, (p (ix3 k r q) : EReal)) := by
  frame_out
  rw [Fin.sum_univ_eight]
  pointwise [k0_pay1, k0_pay2, k0_pay3, k0_pay4, k0_pay5, k0_pay6, step, first, second]

theorem block5 (c : Dev nD) (t : Fin cfg0.N) (r : Fin 256) (q : Fin 640) :
    out0_5 (iblk m c 0 t) (iblk m c 1 t) (iblk m c 2 t) (iblk m c 3 t) (ix2 r q)
      = step (wide (aW m c) (ri t r) q) (wide (aM m c) (ri t r) q) (wide (aV m c) (ri t r) q) (grad (aP m c) (ri t r) q) := by
  refine (out5 _ _ _ _ r q).trans ?_
  have hp : (@Finset.sum (Fin 8) EReal _ Finset.univ fun k => iblk m c 3 t (ix3 k r q)) = grad (aP m c) (ri t r) q :=
    Finset.sum_congr rfl fun k _ => blkP m c t k r q
  exact congr (congr (congr (congrArg step (blkW m c t r q)) (blkM m c t r q)) (blkV m c t r q)) hp

theorem out6 (w mm v : FVec Ideal S256x640 .f32) (p : FVec Ideal S8x256x640 .bf16) (r : Fin 256) (q : Fin 640) :
    out0_6 (F := Ideal) w mm v p (ix2 r q) = first (mm (ix2 r q)) (∑ k : Fin 8, (p (ix3 k r q) : EReal)) := by
  frame_out
  rw [Fin.sum_univ_eight]
  pointwise [k0_pay1, k0_pay2, k0_pay3, k0_pay4, k0_pay5, k0_pay6, step, first, second]

theorem block6 (c : Dev nD) (t : Fin cfg0.N) (r : Fin 256) (q : Fin 640) :
    out0_6 (iblk m c 0 t) (iblk m c 1 t) (iblk m c 2 t) (iblk m c 3 t) (ix2 r q)
      = first (wide (aM m c) (ri t r) q) (grad (aP m c) (ri t r) q) := by
  refine (out6 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ first (blkM m c t r q) hp

theorem out7 (w mm v : FVec Ideal S256x640 .f32) (p : FVec Ideal S8x256x640 .bf16) (r : Fin 256) (q : Fin 640) :
    out0_7 (F := Ideal) w mm v p (ix2 r q) = second (v (ix2 r q)) (∑ k : Fin 8, (p (ix3 k r q) : EReal)) := by
  frame_out
  rw [Fin.sum_univ_eight]
  pointwise [k0_pay1, k0_pay2, k0_pay3, k0_pay4, k0_pay5, k0_pay6, step, first, second]

theorem block7 (c : Dev nD) (t : Fin cfg0.N) (r : Fin 256) (q : Fin 640) :
    out0_7 (iblk m c 0 t) (iblk m c 1 t) (iblk m c 2 t) (iblk m c 3 t) (ix2 r q)
      = second (wide (aV m c) (ri t r) q) (grad (aP m c) (ri t r) q) := by
  refine (out7 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ second (blkV m c t r q) hp

theorem ref4 (p : FVec Ideal S8x4x1024x609 .f32) (i : Fin 4096) (j : Fin 640) :
    Cert.AdamWInRefIdeal.Read.val_main_v29 (F := Ideal) p (ix2 i j) = (grad p i j) := by
  by_cases h : j.val < 609
  · simp only [grad, wideP, dif_pos h]
    pointwise [Cert.AdamWInRefIdeal.Read.val_main_v29, Cert.AdamWInRefIdeal.Read.val_main_call0_v0, Cert.AdamWInRefIdeal.Read.val_main_c, Cert.AdamWInRefIdeal.Read.val_main_v28, Cert.AdamWInRefIdeal.Read.val_main_v27, Cert.AdamWInRefIdeal.Read.val_main_v26, Cert.AdamWInRefIdeal.Read.val_main_v25, Cert.AdamWInRefIdeal.Read.val_main_v24, Cert.AdamWInRefIdeal.Read.val_main_v23, Cert.AdamWInRefIdeal.Read.val_main_cst_8, Cert.AdamWInRefIdeal.Read.val_main_v22, Cert.AdamWInRefIdeal.Read.val_main_v21, Cert.AdamWInRefIdeal.Read.val_main_v20, Cert.AdamWInRefIdeal.Read.val_main_cst_7, Cert.AdamWInRefIdeal.Read.val_main_v19, Cert.AdamWInRefIdeal.Read.val_main_v18, Cert.AdamWInRefIdeal.Read.val_main_v17, Cert.AdamWInRefIdeal.Read.val_main_cst_6, Cert.AdamWInRefIdeal.Read.val_main_v16, Cert.AdamWInRefIdeal.Read.val_main_v15, Cert.AdamWInRefIdeal.Read.val_main_v14, Cert.AdamWInRefIdeal.Read.val_main_cst_5, Cert.AdamWInRefIdeal.Read.val_main_v13, Cert.AdamWInRefIdeal.Read.val_main_v12, Cert.AdamWInRefIdeal.Read.val_main_cst_4, Cert.AdamWInRefIdeal.Read.val_main_v11, Cert.AdamWInRefIdeal.Read.val_main_v10, Cert.AdamWInRefIdeal.Read.val_main_v9, Cert.AdamWInRefIdeal.Read.val_main_cst_3, Cert.AdamWInRefIdeal.Read.val_main_v8, Cert.AdamWInRefIdeal.Read.val_main_v7, Cert.AdamWInRefIdeal.Read.val_main_v6, Cert.AdamWInRefIdeal.Read.val_main_cst_2, Cert.AdamWInRefIdeal.Read.val_main_v5, Cert.AdamWInRefIdeal.Read.val_main_v4, Cert.AdamWInRefIdeal.Read.val_main_v3, Cert.AdamWInRefIdeal.Read.val_main_cst_1, Cert.AdamWInRefIdeal.Read.val_main_v2, Cert.AdamWInRefIdeal.Read.val_main_v1, Cert.AdamWInRefIdeal.Read.val_main_cst_0, Cert.AdamWInRefIdeal.Read.val_main_v0, Cert.AdamWInRefIdeal.Read.val_main_cst, dif_pos h]
  · simp only [grad, wideP, dif_neg h, Finset.sum_const_zero]
    pointwise [Cert.AdamWInRefIdeal.Read.val_main_v29, Cert.AdamWInRefIdeal.Read.val_main_call0_v0, Cert.AdamWInRefIdeal.Read.val_main_c, Cert.AdamWInRefIdeal.Read.val_main_v28, Cert.AdamWInRefIdeal.Read.val_main_v27, Cert.AdamWInRefIdeal.Read.val_main_v26, Cert.AdamWInRefIdeal.Read.val_main_v25, Cert.AdamWInRefIdeal.Read.val_main_v24, Cert.AdamWInRefIdeal.Read.val_main_v23, Cert.AdamWInRefIdeal.Read.val_main_cst_8, Cert.AdamWInRefIdeal.Read.val_main_v22, Cert.AdamWInRefIdeal.Read.val_main_v21, Cert.AdamWInRefIdeal.Read.val_main_v20, Cert.AdamWInRefIdeal.Read.val_main_cst_7, Cert.AdamWInRefIdeal.Read.val_main_v19, Cert.AdamWInRefIdeal.Read.val_main_v18, Cert.AdamWInRefIdeal.Read.val_main_v17, Cert.AdamWInRefIdeal.Read.val_main_cst_6, Cert.AdamWInRefIdeal.Read.val_main_v16, Cert.AdamWInRefIdeal.Read.val_main_v15, Cert.AdamWInRefIdeal.Read.val_main_v14, Cert.AdamWInRefIdeal.Read.val_main_cst_5, Cert.AdamWInRefIdeal.Read.val_main_v13, Cert.AdamWInRefIdeal.Read.val_main_v12, Cert.AdamWInRefIdeal.Read.val_main_cst_4, Cert.AdamWInRefIdeal.Read.val_main_v11, Cert.AdamWInRefIdeal.Read.val_main_v10, Cert.AdamWInRefIdeal.Read.val_main_v9, Cert.AdamWInRefIdeal.Read.val_main_cst_3, Cert.AdamWInRefIdeal.Read.val_main_v8, Cert.AdamWInRefIdeal.Read.val_main_v7, Cert.AdamWInRefIdeal.Read.val_main_v6, Cert.AdamWInRefIdeal.Read.val_main_cst_2, Cert.AdamWInRefIdeal.Read.val_main_v5, Cert.AdamWInRefIdeal.Read.val_main_v4, Cert.AdamWInRefIdeal.Read.val_main_v3, Cert.AdamWInRefIdeal.Read.val_main_cst_1, Cert.AdamWInRefIdeal.Read.val_main_v2, Cert.AdamWInRefIdeal.Read.val_main_v1, Cert.AdamWInRefIdeal.Read.val_main_cst_0, Cert.AdamWInRefIdeal.Read.val_main_v0, Cert.AdamWInRefIdeal.Read.val_main_cst, dif_neg h, int_zero]

theorem after4 (c : Dev nD) : (dats m 0 c).arrAt 4 (cfgs 0).N = Cert.AdamWInRefIdeal.Read.val_main_v29 (F := Ideal) (aP m c) := by
  refine (dats m 0 c).arrAt_eq_of_covers 4 _ (by decide +kernel) fun t hf y => ?_
  blk_simp
  rw [after0_4]
  idx_vars y
  refine (block4 m c t _ _).trans ((ref4 _ (ri t _) _).symm.trans ?_)
  blk_ext [idx t, ri]

theorem ref5 (w : FVec Ideal S4x1024x609 .f32) (mm : FVec Ideal S4x1024x609 .f32) (v : FVec Ideal S4x1024x609 .f32) (p : FVec Ideal S8x4x1024x609 .f32) (i : Fin 4096) (j : Fin 640) :
    Cert.AdamWInRefIdeal.Read.val_main_v30 (F := Ideal) w mm v p (ix2 i j) = step (wide w i j) (wide mm i j) (wide v i j) (grad p i j) := by
  by_cases h : j.val < 609
  · simp only [grad, wideP, wide, dif_pos h]
    pointwise [Cert.AdamWInRefIdeal.Read.val_main_v30, Cert.AdamWInRefIdeal.Read.val_main_call1_v0, Cert.AdamWInRefIdeal.Read.val_main_c_9, Cert.AdamWInRefIdeal.Read.val_main_v29, Cert.AdamWInRefIdeal.Read.val_main_call0_v0, Cert.AdamWInRefIdeal.Read.val_main_c, Cert.AdamWInRefIdeal.Read.val_main_v28, Cert.AdamWInRefIdeal.Read.val_main_v27, Cert.AdamWInRefIdeal.Read.val_main_v26, Cert.AdamWInRefIdeal.Read.val_main_v25, Cert.AdamWInRefIdeal.Read.val_main_v24, Cert.AdamWInRefIdeal.Read.val_main_v23, Cert.AdamWInRefIdeal.Read.val_main_cst_8, Cert.AdamWInRefIdeal.Read.val_main_v22, Cert.AdamWInRefIdeal.Read.val_main_v21, Cert.AdamWInRefIdeal.Read.val_main_v20, Cert.AdamWInRefIdeal.Read.val_main_cst_7, Cert.AdamWInRefIdeal.Read.val_main_v19, Cert.AdamWInRefIdeal.Read.val_main_v18, Cert.AdamWInRefIdeal.Read.val_main_v17, Cert.AdamWInRefIdeal.Read.val_main_cst_6, Cert.AdamWInRefIdeal.Read.val_main_v16, Cert.AdamWInRefIdeal.Read.val_main_v15, Cert.AdamWInRefIdeal.Read.val_main_v14, Cert.AdamWInRefIdeal.Read.val_main_cst_5, Cert.AdamWInRefIdeal.Read.val_main_v13, Cert.AdamWInRefIdeal.Read.val_main_v12, Cert.AdamWInRefIdeal.Read.val_main_cst_4, Cert.AdamWInRefIdeal.Read.val_main_v11, Cert.AdamWInRefIdeal.Read.val_main_v10, Cert.AdamWInRefIdeal.Read.val_main_v9, Cert.AdamWInRefIdeal.Read.val_main_cst_3, Cert.AdamWInRefIdeal.Read.val_main_v8, Cert.AdamWInRefIdeal.Read.val_main_v7, Cert.AdamWInRefIdeal.Read.val_main_v6, Cert.AdamWInRefIdeal.Read.val_main_cst_2, Cert.AdamWInRefIdeal.Read.val_main_v5, Cert.AdamWInRefIdeal.Read.val_main_v4, Cert.AdamWInRefIdeal.Read.val_main_v3, Cert.AdamWInRefIdeal.Read.val_main_cst_1, Cert.AdamWInRefIdeal.Read.val_main_v2, Cert.AdamWInRefIdeal.Read.val_main_v1, Cert.AdamWInRefIdeal.Read.val_main_cst_0, Cert.AdamWInRefIdeal.Read.val_main_v0, Cert.AdamWInRefIdeal.Read.val_main_cst, dif_pos h, step, first, second]
  · simp only [grad, wideP, wide, dif_neg h, Finset.sum_const_zero]
    pointwise [Cert.AdamWInRefIdeal.Read.val_main_v30, Cert.AdamWInRefIdeal.Read.val_main_call1_v0, Cert.AdamWInRefIdeal.Read.val_main_c_9, Cert.AdamWInRefIdeal.Read.val_main_v29, Cert.AdamWInRefIdeal.Read.val_main_call0_v0, Cert.AdamWInRefIdeal.Read.val_main_c, Cert.AdamWInRefIdeal.Read.val_main_v28, Cert.AdamWInRefIdeal.Read.val_main_v27, Cert.AdamWInRefIdeal.Read.val_main_v26, Cert.AdamWInRefIdeal.Read.val_main_v25, Cert.AdamWInRefIdeal.Read.val_main_v24, Cert.AdamWInRefIdeal.Read.val_main_v23, Cert.AdamWInRefIdeal.Read.val_main_cst_8, Cert.AdamWInRefIdeal.Read.val_main_v22, Cert.AdamWInRefIdeal.Read.val_main_v21, Cert.AdamWInRefIdeal.Read.val_main_v20, Cert.AdamWInRefIdeal.Read.val_main_cst_7, Cert.AdamWInRefIdeal.Read.val_main_v19, Cert.AdamWInRefIdeal.Read.val_main_v18, Cert.AdamWInRefIdeal.Read.val_main_v17, Cert.AdamWInRefIdeal.Read.val_main_cst_6, Cert.AdamWInRefIdeal.Read.val_main_v16, Cert.AdamWInRefIdeal.Read.val_main_v15, Cert.AdamWInRefIdeal.Read.val_main_v14, Cert.AdamWInRefIdeal.Read.val_main_cst_5, Cert.AdamWInRefIdeal.Read.val_main_v13, Cert.AdamWInRefIdeal.Read.val_main_v12, Cert.AdamWInRefIdeal.Read.val_main_cst_4, Cert.AdamWInRefIdeal.Read.val_main_v11, Cert.AdamWInRefIdeal.Read.val_main_v10, Cert.AdamWInRefIdeal.Read.val_main_v9, Cert.AdamWInRefIdeal.Read.val_main_cst_3, Cert.AdamWInRefIdeal.Read.val_main_v8, Cert.AdamWInRefIdeal.Read.val_main_v7, Cert.AdamWInRefIdeal.Read.val_main_v6, Cert.AdamWInRefIdeal.Read.val_main_cst_2, Cert.AdamWInRefIdeal.Read.val_main_v5, Cert.AdamWInRefIdeal.Read.val_main_v4, Cert.AdamWInRefIdeal.Read.val_main_v3, Cert.AdamWInRefIdeal.Read.val_main_cst_1, Cert.AdamWInRefIdeal.Read.val_main_v2, Cert.AdamWInRefIdeal.Read.val_main_v1, Cert.AdamWInRefIdeal.Read.val_main_cst_0, Cert.AdamWInRefIdeal.Read.val_main_v0, Cert.AdamWInRefIdeal.Read.val_main_cst, dif_neg h, int_zero, step_zero]

theorem after5 (c : Dev nD) : (dats m 0 c).arrAt 5 (cfgs 0).N = Cert.AdamWInRefIdeal.Read.val_main_v30 (F := Ideal) (aW m c) (aM m c) (aV m c) (aP m c) := by
  refine (dats m 0 c).arrAt_eq_of_covers 5 _ (by decide +kernel) fun t hf y => ?_
  blk_simp
  rw [after0_5]
  idx_vars y
  refine (block5 m c t _ _).trans ((ref5 _ _ _ _ (ri t _) _).symm.trans ?_)
  blk_ext [idx t, ri]

theorem ref6 (mm : FVec Ideal S4x1024x609 .f32) (p : FVec Ideal S8x4x1024x609 .f32) (i : Fin 4096) (j : Fin 640) :
    Cert.AdamWInRefIdeal.Read.val_main_v31 (F := Ideal) mm p (ix2 i j) = first (wide mm i j) (grad p i j) := by
  by_cases h : j.val < 609
  · simp only [grad, wideP, wide, dif_pos h]
    pointwise [Cert.AdamWInRefIdeal.Read.val_main_v31, Cert.AdamWInRefIdeal.Read.val_main_call2_v0, Cert.AdamWInRefIdeal.Read.val_main_c_10, Cert.AdamWInRefIdeal.Read.val_main_v30, Cert.AdamWInRefIdeal.Read.val_main_call1_v0, Cert.AdamWInRefIdeal.Read.val_main_c_9, Cert.AdamWInRefIdeal.Read.val_main_v29, Cert.AdamWInRefIdeal.Read.val_main_call0_v0, Cert.AdamWInRefIdeal.Read.val_main_c, Cert.AdamWInRefIdeal.Read.val_main_v28, Cert.AdamWInRefIdeal.Read.val_main_v27, Cert.AdamWInRefIdeal.Read.val_main_v26, Cert.AdamWInRefIdeal.Read.val_main_v25, Cert.AdamWInRefIdeal.Read.val_main_v24, Cert.AdamWInRefIdeal.Read.val_main_v23, Cert.AdamWInRefIdeal.Read.val_main_cst_8, Cert.AdamWInRefIdeal.Read.val_main_v22, Cert.AdamWInRefIdeal.Read.val_main_v21, Cert.AdamWInRefIdeal.Read.val_main_v20, Cert.AdamWInRefIdeal.Read.val_main_cst_7, Cert.AdamWInRefIdeal.Read.val_main_v19, Cert.AdamWInRefIdeal.Read.val_main_v18, Cert.AdamWInRefIdeal.Read.val_main_v17, Cert.AdamWInRefIdeal.Read.val_main_cst_6, Cert.AdamWInRefIdeal.Read.val_main_v16, Cert.AdamWInRefIdeal.Read.val_main_v15, Cert.AdamWInRefIdeal.Read.val_main_v14, Cert.AdamWInRefIdeal.Read.val_main_cst_5, Cert.AdamWInRefIdeal.Read.val_main_v13, Cert.AdamWInRefIdeal.Read.val_main_v12, Cert.AdamWInRefIdeal.Read.val_main_cst_4, Cert.AdamWInRefIdeal.Read.val_main_v11, Cert.AdamWInRefIdeal.Read.val_main_v10, Cert.AdamWInRefIdeal.Read.val_main_v9, Cert.AdamWInRefIdeal.Read.val_main_cst_3, Cert.AdamWInRefIdeal.Read.val_main_v8, Cert.AdamWInRefIdeal.Read.val_main_v7, Cert.AdamWInRefIdeal.Read.val_main_v6, Cert.AdamWInRefIdeal.Read.val_main_cst_2, Cert.AdamWInRefIdeal.Read.val_main_v5, Cert.AdamWInRefIdeal.Read.val_main_v4, Cert.AdamWInRefIdeal.Read.val_main_v3, Cert.AdamWInRefIdeal.Read.val_main_cst_1, Cert.AdamWInRefIdeal.Read.val_main_v2, Cert.AdamWInRefIdeal.Read.val_main_v1, Cert.AdamWInRefIdeal.Read.val_main_cst_0, Cert.AdamWInRefIdeal.Read.val_main_v0, Cert.AdamWInRefIdeal.Read.val_main_cst, dif_pos h, first]
  · simp only [grad, wideP, wide, dif_neg h, Finset.sum_const_zero]
    pointwise [Cert.AdamWInRefIdeal.Read.val_main_v31, Cert.AdamWInRefIdeal.Read.val_main_call2_v0, Cert.AdamWInRefIdeal.Read.val_main_c_10, Cert.AdamWInRefIdeal.Read.val_main_v30, Cert.AdamWInRefIdeal.Read.val_main_call1_v0, Cert.AdamWInRefIdeal.Read.val_main_c_9, Cert.AdamWInRefIdeal.Read.val_main_v29, Cert.AdamWInRefIdeal.Read.val_main_call0_v0, Cert.AdamWInRefIdeal.Read.val_main_c, Cert.AdamWInRefIdeal.Read.val_main_v28, Cert.AdamWInRefIdeal.Read.val_main_v27, Cert.AdamWInRefIdeal.Read.val_main_v26, Cert.AdamWInRefIdeal.Read.val_main_v25, Cert.AdamWInRefIdeal.Read.val_main_v24, Cert.AdamWInRefIdeal.Read.val_main_v23, Cert.AdamWInRefIdeal.Read.val_main_cst_8, Cert.AdamWInRefIdeal.Read.val_main_v22, Cert.AdamWInRefIdeal.Read.val_main_v21, Cert.AdamWInRefIdeal.Read.val_main_v20, Cert.AdamWInRefIdeal.Read.val_main_cst_7, Cert.AdamWInRefIdeal.Read.val_main_v19, Cert.AdamWInRefIdeal.Read.val_main_v18, Cert.AdamWInRefIdeal.Read.val_main_v17, Cert.AdamWInRefIdeal.Read.val_main_cst_6, Cert.AdamWInRefIdeal.Read.val_main_v16, Cert.AdamWInRefIdeal.Read.val_main_v15, Cert.AdamWInRefIdeal.Read.val_main_v14, Cert.AdamWInRefIdeal.Read.val_main_cst_5, Cert.AdamWInRefIdeal.Read.val_main_v13, Cert.AdamWInRefIdeal.Read.val_main_v12, Cert.AdamWInRefIdeal.Read.val_main_cst_4, Cert.AdamWInRefIdeal.Read.val_main_v11, Cert.AdamWInRefIdeal.Read.val_main_v10, Cert.AdamWInRefIdeal.Read.val_main_v9, Cert.AdamWInRefIdeal.Read.val_main_cst_3, Cert.AdamWInRefIdeal.Read.val_main_v8, Cert.AdamWInRefIdeal.Read.val_main_v7, Cert.AdamWInRefIdeal.Read.val_main_v6, Cert.AdamWInRefIdeal.Read.val_main_cst_2, Cert.AdamWInRefIdeal.Read.val_main_v5, Cert.AdamWInRefIdeal.Read.val_main_v4, Cert.AdamWInRefIdeal.Read.val_main_v3, Cert.AdamWInRefIdeal.Read.val_main_cst_1, Cert.AdamWInRefIdeal.Read.val_main_v2, Cert.AdamWInRefIdeal.Read.val_main_v1, Cert.AdamWInRefIdeal.Read.val_main_cst_0, Cert.AdamWInRefIdeal.Read.val_main_v0, Cert.AdamWInRefIdeal.Read.val_main_cst, dif_neg h, int_zero, first_zero]

theorem after6 (c : Dev nD) : (dats m 0 c).arrAt 6 (cfgs 0).N = Cert.AdamWInRefIdeal.Read.val_main_v31 (F := Ideal) (aM m c) (aP m c) := by
  refine (dats m 0 c).arrAt_eq_of_covers 6 _ (by decide +kernel) fun t hf y => ?_
  blk_simp
  rw [after0_6]
  idx_vars y
  refine (block6 m c t _ _).trans ((ref6 _ _ (ri t _) _).symm.trans ?_)
  blk_ext [idx t, ri]

theorem ref7 (v : FVec Ideal S4x1024x609 .f32) (p : FVec Ideal S8x4x1024x609 .f32) (i : Fin 4096) (j : Fin 640) :
    Cert.AdamWInRefIdeal.Read.val_main_v32 (F := Ideal) v p (ix2 i j) = second (wide v i j) (grad p i j) := by
  by_cases h : j.val < 609
  · simp only [grad, wideP, wide, dif_pos h]
    pointwise [Cert.AdamWInRefIdeal.Read.val_main_v32, Cert.AdamWInRefIdeal.Read.val_main_call3_v0, Cert.AdamWInRefIdeal.Read.val_main_c_11, Cert.AdamWInRefIdeal.Read.val_main_v31, Cert.AdamWInRefIdeal.Read.val_main_call2_v0, Cert.AdamWInRefIdeal.Read.val_main_c_10, Cert.AdamWInRefIdeal.Read.val_main_v30, Cert.AdamWInRefIdeal.Read.val_main_call1_v0, Cert.AdamWInRefIdeal.Read.val_main_c_9, Cert.AdamWInRefIdeal.Read.val_main_v29, Cert.AdamWInRefIdeal.Read.val_main_call0_v0, Cert.AdamWInRefIdeal.Read.val_main_c, Cert.AdamWInRefIdeal.Read.val_main_v28, Cert.AdamWInRefIdeal.Read.val_main_v27, Cert.AdamWInRefIdeal.Read.val_main_v26, Cert.AdamWInRefIdeal.Read.val_main_v25, Cert.AdamWInRefIdeal.Read.val_main_v24, Cert.AdamWInRefIdeal.Read.val_main_v23, Cert.AdamWInRefIdeal.Read.val_main_cst_8, Cert.AdamWInRefIdeal.Read.val_main_v22, Cert.AdamWInRefIdeal.Read.val_main_v21, Cert.AdamWInRefIdeal.Read.val_main_v20, Cert.AdamWInRefIdeal.Read.val_main_cst_7, Cert.AdamWInRefIdeal.Read.val_main_v19, Cert.AdamWInRefIdeal.Read.val_main_v18, Cert.AdamWInRefIdeal.Read.val_main_v17, Cert.AdamWInRefIdeal.Read.val_main_cst_6, Cert.AdamWInRefIdeal.Read.val_main_v16, Cert.AdamWInRefIdeal.Read.val_main_v15, Cert.AdamWInRefIdeal.Read.val_main_v14, Cert.AdamWInRefIdeal.Read.val_main_cst_5, Cert.AdamWInRefIdeal.Read.val_main_v13, Cert.AdamWInRefIdeal.Read.val_main_v12, Cert.AdamWInRefIdeal.Read.val_main_cst_4, Cert.AdamWInRefIdeal.Read.val_main_v11, Cert.AdamWInRefIdeal.Read.val_main_v10, Cert.AdamWInRefIdeal.Read.val_main_v9, Cert.AdamWInRefIdeal.Read.val_main_cst_3, Cert.AdamWInRefIdeal.Read.val_main_v8, Cert.AdamWInRefIdeal.Read.val_main_v7, Cert.AdamWInRefIdeal.Read.val_main_v6, Cert.AdamWInRefIdeal.Read.val_main_cst_2, Cert.AdamWInRefIdeal.Read.val_main_v5, Cert.AdamWInRefIdeal.Read.val_main_v4, Cert.AdamWInRefIdeal.Read.val_main_v3, Cert.AdamWInRefIdeal.Read.val_main_cst_1, Cert.AdamWInRefIdeal.Read.val_main_v2, Cert.AdamWInRefIdeal.Read.val_main_v1, Cert.AdamWInRefIdeal.Read.val_main_cst_0, Cert.AdamWInRefIdeal.Read.val_main_v0, Cert.AdamWInRefIdeal.Read.val_main_cst, dif_pos h, second]
  · simp only [grad, wideP, wide, dif_neg h, Finset.sum_const_zero]
    pointwise [Cert.AdamWInRefIdeal.Read.val_main_v32, Cert.AdamWInRefIdeal.Read.val_main_call3_v0, Cert.AdamWInRefIdeal.Read.val_main_c_11, Cert.AdamWInRefIdeal.Read.val_main_v31, Cert.AdamWInRefIdeal.Read.val_main_call2_v0, Cert.AdamWInRefIdeal.Read.val_main_c_10, Cert.AdamWInRefIdeal.Read.val_main_v30, Cert.AdamWInRefIdeal.Read.val_main_call1_v0, Cert.AdamWInRefIdeal.Read.val_main_c_9, Cert.AdamWInRefIdeal.Read.val_main_v29, Cert.AdamWInRefIdeal.Read.val_main_call0_v0, Cert.AdamWInRefIdeal.Read.val_main_c, Cert.AdamWInRefIdeal.Read.val_main_v28, Cert.AdamWInRefIdeal.Read.val_main_v27, Cert.AdamWInRefIdeal.Read.val_main_v26, Cert.AdamWInRefIdeal.Read.val_main_v25, Cert.AdamWInRefIdeal.Read.val_main_v24, Cert.AdamWInRefIdeal.Read.val_main_v23, Cert.AdamWInRefIdeal.Read.val_main_cst_8, Cert.AdamWInRefIdeal.Read.val_main_v22, Cert.AdamWInRefIdeal.Read.val_main_v21, Cert.AdamWInRefIdeal.Read.val_main_v20, Cert.AdamWInRefIdeal.Read.val_main_cst_7, Cert.AdamWInRefIdeal.Read.val_main_v19, Cert.AdamWInRefIdeal.Read.val_main_v18, Cert.AdamWInRefIdeal.Read.val_main_v17, Cert.AdamWInRefIdeal.Read.val_main_cst_6, Cert.AdamWInRefIdeal.Read.val_main_v16, Cert.AdamWInRefIdeal.Read.val_main_v15, Cert.AdamWInRefIdeal.Read.val_main_v14, Cert.AdamWInRefIdeal.Read.val_main_cst_5, Cert.AdamWInRefIdeal.Read.val_main_v13, Cert.AdamWInRefIdeal.Read.val_main_v12, Cert.AdamWInRefIdeal.Read.val_main_cst_4, Cert.AdamWInRefIdeal.Read.val_main_v11, Cert.AdamWInRefIdeal.Read.val_main_v10, Cert.AdamWInRefIdeal.Read.val_main_v9, Cert.AdamWInRefIdeal.Read.val_main_cst_3, Cert.AdamWInRefIdeal.Read.val_main_v8, Cert.AdamWInRefIdeal.Read.val_main_v7, Cert.AdamWInRefIdeal.Read.val_main_v6, Cert.AdamWInRefIdeal.Read.val_main_cst_2, Cert.AdamWInRefIdeal.Read.val_main_v5, Cert.AdamWInRefIdeal.Read.val_main_v4, Cert.AdamWInRefIdeal.Read.val_main_v3, Cert.AdamWInRefIdeal.Read.val_main_cst_1, Cert.AdamWInRefIdeal.Read.val_main_v2, Cert.AdamWInRefIdeal.Read.val_main_v1, Cert.AdamWInRefIdeal.Read.val_main_cst_0, Cert.AdamWInRefIdeal.Read.val_main_v0, Cert.AdamWInRefIdeal.Read.val_main_cst, dif_neg h, int_zero, second_zero]

theorem after7 (c : Dev nD) : (dats m 0 c).arrAt 7 (cfgs 0).N = Cert.AdamWInRefIdeal.Read.val_main_v32 (F := Ideal) (aV m c) (aP m c) := by
  refine (dats m 0 c).arrAt_eq_of_covers 7 _ (by decide +kernel) fun t hf y => ?_
  blk_simp
  rw [after0_7]
  idx_vars y
  refine (block7 m c t _ _).trans ((ref7 _ _ (ri t _) _).symm.trans ?_)
  blk_ext [idx t, ri]

/-- The kernel and the reference end with the same four arrays. -/
theorem algebraic : Cert.algebraic_AdamWInIdeal_AdamWInRefIdeal := by
  intro m g m' g' _ hagree
  refine ⟨_, _, _, _, Cert.AdamWInIdeal.Value.run_blocks m g, (θ_run _ _ _).mono (fun r h c => ?_) (Cert.AdamWInRefIdeal.Value.run m' g')⟩
  obtain ⟨r0, r1, r2, r3, k⟩ := h c
  obtain ⟨h0, h1, h2, h3⟩ := hagree c
  refine ⟨r0.trans ?_, r1.trans ?_, r2.trans ?_, r3.trans ?_, k⟩
  · refine (Cert.AdamWInRefIdeal.Read.val_main_v29_eq _).trans (Eq.trans ?_ (after4 m c).symm)
    exact congrArg (fun p => Cert.AdamWInRefIdeal.Read.val_main_v29 (F := Ideal) p) h3
  · refine (Cert.AdamWInRefIdeal.Read.val_main_v30_eq _ _ _ _).trans (Eq.trans ?_ (after5 m c).symm)
    exact congr (congr (congr (congrArg (fun x y z p => Cert.AdamWInRefIdeal.Read.val_main_v30 (F := Ideal) x y z p) h0) h1) h2) h3
  · refine (Cert.AdamWInRefIdeal.Read.val_main_v31_eq _ _).trans (Eq.trans ?_ (after6 m c).symm)
    exact congrArg₂ (fun x y => Cert.AdamWInRefIdeal.Read.val_main_v31 (F := Ideal) x y) h1 h3
  · refine (Cert.AdamWInRefIdeal.Read.val_main_v32_eq _ _).trans (Eq.trans ?_ (after7 m c).symm)
    exact congrArg₂ (fun x y => Cert.AdamWInRefIdeal.Read.val_main_v32 (F := Ideal) x y) h2 h3

/-- The reference returns with its arguments kept; it has no counters. -/
theorem refFrame : Cert.quiescent_AdamWInRefIdeal := by
  intro m g _
  refine (θ_run _ _ _).mono (fun r h => ⟨fun c => ?_, sem_eq_zero_of_no_sems (by decide) _⟩) (Cert.AdamWInRefIdeal.Value.run m g)
  obtain ⟨_, _, _, _, k⟩ := h c
  exact k

end Cert.Adam.AdamWIn

end
-- ==== Proof.AdamWOut.lean ====
/- The optimiser's update of the weight of the output projection. -/
module

public import proofs.«01_k».proof.Defs
public import proofs.«01_k».proof.Proof.Gen.AdamWOut.Frame
public import proofs.«01_k».proof.Proof.Gen.AdamWOutIdeal.Value
public import proofs.«01_k».proof.Proof.Gen.AdamWOutRefIdeal.Run
public import proofs.«01_k».proof.Proof.Gen.AdamWOutRefIdeal.Read
public import proofs.«01_k».proof.Proof.Adam
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Adam.AdamWOut
open Cert.AdamWOutIdeal Cert.AdamWOutIdeal.Gen

variable (m : (ℓ : Loc nD τ sig) → Buf (Elt Ideal) ℓ)

/-- The four arguments: the weight, its two moments, the parts of its gradient. -/
abbrev aW (c : Dev nD) : FVec Ideal S4x128x1024 .f32 := m ((c : Thread nD τ).loc main_arg0)
abbrev aM (c : Dev nD) : FVec Ideal S4x128x1024 .f32 := m ((c : Thread nD τ).loc main_arg1)
abbrev aV (c : Dev nD) : FVec Ideal S4x128x1024 .f32 := m ((c : Thread nD τ).loc main_arg2)
abbrev aP (c : Dev nD) : FVec Ideal S8x4x128x1024 .f32 := m ((c : Thread nD τ).loc main_arg3)

/-- An argument's entry in the layout of rows the update runs over. -/
def wide (a : FVec Ideal S4x128x1024 .f32) (i : Fin 512) (j : Fin 1024) : EReal :=
  a (ix3 ⟨i.val / 128, by have := i.isLt; omega⟩ ⟨i.val % 128, by have := i.isLt; omega⟩ j)
def wideP (p : FVec Ideal S8x4x128x1024 .f32) (k : Fin 8) (i : Fin 512) (j : Fin 1024) : EReal :=
  p (ix4 k ⟨i.val / 128, by have := i.isLt; omega⟩ ⟨i.val % 128, by have := i.isLt; omega⟩ j)

/-- The summed gradient. -/
def grad (p : FVec Ideal S8x4x128x1024 .f32) (i : Fin 512) (j : Fin 1024) : EReal := ∑ k : Fin 8, wideP p k i j

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lim (t : Fin cfg0.N) : t.val < 2 := lt_of_lt_of_eq t.isLt N_0

/-- The row of the whole array that a row of a block is. -/
def ri (t : Fin cfg0.N) (r : Fin 256) : Fin 512 := ⟨256 * t.val + r.val, by have := lim t; have := r.isLt; omega⟩

theorem hostW (c : Dev nD) (i : Fin 512) (j : Fin 1024) :
    (V m c main_v3 : FVec Ideal S512x1024 .f32) (ix2 i j) = wide (aW m c) i j := by
  simp only [V, hostOps0, hostOps0_1, hostOps0_2, hostOps0_3, hostOps0_4, hostOps0_5, List.flatten_cons, List.flatten_nil, List.append_nil, List.cons_append, List.nil_append]
  entry_read
  show (pad S512x1024 ![0, 0] ![0, 0] ![0, 0] (shapeCast S512x1024 (aW m c) shapeCasts_S4x128x1024_S512x1024)
    (sitofp .f32 (constantI S_ 32 0#32) : FVec Ideal S_ .f32) pads_S512x1024_S512x1024_000_000 h_S_) (ix2 i j) = _
  unfold wide
  pointwise

theorem hostM (c : Dev nD) (i : Fin 512) (j : Fin 1024) :
    (V m c main_v5 : FVec Ideal S512x1024 .f32) (ix2 i j) = wide (aM m c) i j := by
  simp only [V, hostOps0, hostOps0_1, hostOps0_2, hostOps0_3, hostOps0_4, hostOps0_5, List.flatten_cons, List.flatten_nil, List.append_nil, List.cons_append, List.nil_append]
  entry_read
  show (pad S512x1024 ![0, 0] ![0, 0] ![0, 0] (shapeCast S512x1024 (aM m c) shapeCasts_S4x128x1024_S512x1024)
    (sitofp .f32 (constantI S_ 32 0#32) : FVec Ideal S_ .f32) pads_S512x1024_S512x1024_000_000 h_S_) (ix2 i j) = _
  unfold wide
  pointwise

theorem hostV (c : Dev nD) (i : Fin 512) (j : Fin 1024) :
    (V m c main_v7 : FVec Ideal S512x1024 .f32) (ix2 i j) = wide (aV m c) i j := by
  simp only [V, hostOps0, hostOps0_1, hostOps0_2, hostOps0_3, hostOps0_4, hostOps0_5, List.flatten_cons, List.flatten_nil, List.append_nil, List.cons_append, List.nil_append]
  entry_read
  show (pad S512x1024 ![0, 0] ![0, 0] ![0, 0] (shapeCast S512x1024 (aV m c) shapeCasts_S4x128x1024_S512x1024)
    (sitofp .f32 (constantI S_ 32 0#32) : FVec Ideal S_ .f32) pads_S512x1024_S512x1024_000_000 h_S_) (ix2 i j) = _
  unfold wide
  pointwise

theorem hostP (c : Dev nD) (k : Fin 8) (i : Fin 512) (j : Fin 1024) :
    (V m c main_v1 : FVec Ideal S8x512x1024 .bf16) (ix3 k i j) = wideP (aP m c) k i j := by
  simp only [V, hostOps0, hostOps0_1, hostOps0_2, hostOps0_3, hostOps0_4, hostOps0_5, List.flatten_cons, List.flatten_nil, List.append_nil, List.cons_append, List.nil_append]
  entry_read
  unfold wideP
  pointwise

theorem blkW (c : Dev nD) (t : Fin cfg0.N) (r : Fin 256) (q : Fin 1024) :
    (iblk m c 0 t : FVec Ideal S256x1024 .f32) (ix2 r q) = wide (aW m c) (ri t r) q := by
  refine Eq.trans (b := V m c main_v3 (ix2 (ri t r) q)) ?_ (hostW m c _ _)
  blk_ext [iblk, idx t, ri]

theorem blkM (c : Dev nD) (t : Fin cfg0.N) (r : Fin 256) (q : Fin 1024) :
    (iblk m c 1 t : FVec Ideal S256x1024 .f32) (ix2 r q) = wide (aM m c) (ri t r) q := by
  refine Eq.trans (b := V m c main_v5 (ix2 (ri t r) q)) ?_ (hostM m c _ _)
  blk_ext [iblk, idx t, ri]

theorem blkV (c : Dev nD) (t : Fin cfg0.N) (r : Fin 256) (q : Fin 1024) :
    (iblk m c 2 t : FVec Ideal S256x1024 .f32) (ix2 r q) = wide (aV m c) (ri t r) q := by
  refine Eq.trans (b := V m c main_v7 (ix2 (ri t r) q)) ?_ (hostV m c _ _)
  blk_ext [iblk, idx t, ri]

theorem blkP (c : Dev nD) (t : Fin cfg0.N) (k : Fin 8) (r : Fin 256) (q : Fin 1024) :
    (iblk m c 3 t : FVec Ideal S8x256x1024 .bf16) (ix3 k r q) = wideP (aP m c) k (ri t r) q := by
  refine Eq.trans (b := V m c main_v1 (ix3 k (ri t r) q)) ?_ (hostP m c _ _ _)
  blk_ext [iblk, idx t, ri]

theorem out4 (w mm v : FVec Ideal S256x1024 .f32) (p : FVec Ideal S8x256x1024 .bf16) (r : Fin 256) (q : Fin 1024) :
    out0_4 (F := Ideal) w mm v p (ix2 r q) = (∑ k : Fin 8, (p (ix3 k r q) : EReal)) := by
  frame_out
  rw [Fin.sum_univ_eight]
  pointwise [k0_pay1, k0_pay2, k0_pay3, k0_pay4, k0_pay5, k0_pay6, step, first, second]

theorem block4 (c : Dev nD) (t : Fin cfg0.N) (r : Fin 256) (q : Fin 1024) :
    out0_4 (iblk m c 0 t) (iblk m c 1 t) (iblk m c 2 t) (iblk m c 3 t) (ix2 r q)
      = (grad (aP m c) (ri t r) q) := by
  refine (out4 _ _ _ _ r q).trans ?_
  have hp : (@Finset.sum (Fin 8) EReal _ Finset.univ fun k => iblk m c 3 t (ix3 k r q)) = grad (aP m c) (ri t r) q :=
    Finset.sum_congr rfl fun k _ => blkP m c t k r q
  exact hp

theorem out5 (w mm v : FVec Ideal S256x1024 .f32) (p : FVec Ideal S8x256x1024 .bf16) (r : Fin 256) (q : Fin 1024) :
    out0_5 (F := Ideal) w mm v p (ix2 r q) = step (w (ix2 r q)) (mm (ix2 r q)) (v (ix2 r q)) (∑ k : Fin 8, (p (ix3 k r q) : EReal)) := by
  frame_out
  rw [Fin.sum_univ_eight]
  pointwise [k0_pay1, k0_pay2, k0_pay3, k0_pay4, k0_pay5, k0_pay6, step, first, second]

theorem block5 (c : Dev nD) (t : Fin cfg0.N) (r : Fin 256) (q : Fin 1024) :
    out0_5 (iblk m c 0 t) (iblk m c 1 t) (iblk m c 2 t) (iblk m c 3 t) (ix2 r q)
      = step (wide (aW m c) (ri t r) q) (wide (aM m c) (ri t r) q) (wide (aV m c) (ri t r) q) (grad (aP m c) (ri t r) q) := by
  refine (out5 _ _ _ _ r q).trans ?_
  have hp : (@Finset.sum (Fin 8) EReal _ Finset.univ fun k => iblk m c 3 t (ix3 k r q)) = grad (aP m c) (ri t r) q :=
    Finset.sum_congr rfl fun k _ => blkP m c t k r q
  exact congr (congr (congr (congrArg step (blkW m c t r q)) (blkM m c t r q)) (blkV m c t r q)) hp

theorem out6 (w mm v : FVec Ideal S256x1024 .f32) (p : FVec Ideal S8x256x1024 .bf16) (r : Fin 256) (q : Fin 1024) :
    out0_6 (F := Ideal) w mm v p (ix2 r q) = first (mm (ix2 r q)) (∑ k : Fin 8, (p (ix3 k r q) : EReal)) := by
  frame_out
  rw [Fin.sum_univ_eight]
  pointwise [k0_pay1, k0_pay2, k0_pay3, k0_pay4, k0_pay5, k0_pay6, step, first, second]

theorem block6 (c : Dev nD) (t : Fin cfg0.N) (r : Fin 256) (q : Fin 1024) :
    out0_6 (iblk m c 0 t) (iblk m c 1 t) (iblk m c 2 t) (iblk m c 3 t) (ix2 r q)
      = first (wide (aM m c) (ri t r) q) (grad (aP m c) (ri t r) q) := by
  refine (out6 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ first (blkM m c t r q) hp

theorem out7 (w mm v : FVec Ideal S256x1024 .f32) (p : FVec Ideal S8x256x1024 .bf16) (r : Fin 256) (q : Fin 1024) :
    out0_7 (F := Ideal) w mm v p (ix2 r q) = second (v (ix2 r q)) (∑ k : Fin 8, (p (ix3 k r q) : EReal)) := by
  frame_out
  rw [Fin.sum_univ_eight]
  pointwise [k0_pay1, k0_pay2, k0_pay3, k0_pay4, k0_pay5, k0_pay6, step, first, second]

theorem block7 (c : Dev nD) (t : Fin cfg0.N) (r : Fin 256) (q : Fin 1024) :
    out0_7 (iblk m c 0 t) (iblk m c 1 t) (iblk m c 2 t) (iblk m c 3 t) (ix2 r q)
      = second (wide (aV m c) (ri t r) q) (grad (aP m c) (ri t r) q) := by
  refine (out7 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ second (blkV m c t r q) hp

theorem ref4 (p : FVec Ideal S8x4x128x1024 .f32) (i : Fin 512) (j : Fin 1024) :
    Cert.AdamWOutRefIdeal.Read.val_main_v25 (F := Ideal) p (ix2 i j) = (grad p i j) := by
  pointwise [Cert.AdamWOutRefIdeal.Read.val_main_v25, Cert.AdamWOutRefIdeal.Read.val_main_v24, Cert.AdamWOutRefIdeal.Read.val_main_v23, Cert.AdamWOutRefIdeal.Read.val_main_cst_8, Cert.AdamWOutRefIdeal.Read.val_main_v22, Cert.AdamWOutRefIdeal.Read.val_main_v21, Cert.AdamWOutRefIdeal.Read.val_main_v20, Cert.AdamWOutRefIdeal.Read.val_main_cst_7, Cert.AdamWOutRefIdeal.Read.val_main_v19, Cert.AdamWOutRefIdeal.Read.val_main_v18, Cert.AdamWOutRefIdeal.Read.val_main_v17, Cert.AdamWOutRefIdeal.Read.val_main_cst_6, Cert.AdamWOutRefIdeal.Read.val_main_v16, Cert.AdamWOutRefIdeal.Read.val_main_v15, Cert.AdamWOutRefIdeal.Read.val_main_v14, Cert.AdamWOutRefIdeal.Read.val_main_cst_5, Cert.AdamWOutRefIdeal.Read.val_main_v13, Cert.AdamWOutRefIdeal.Read.val_main_v12, Cert.AdamWOutRefIdeal.Read.val_main_cst_4, Cert.AdamWOutRefIdeal.Read.val_main_v11, Cert.AdamWOutRefIdeal.Read.val_main_v10, Cert.AdamWOutRefIdeal.Read.val_main_v9, Cert.AdamWOutRefIdeal.Read.val_main_cst_3, Cert.AdamWOutRefIdeal.Read.val_main_v8, Cert.AdamWOutRefIdeal.Read.val_main_v7, Cert.AdamWOutRefIdeal.Read.val_main_v6, Cert.AdamWOutRefIdeal.Read.val_main_cst_2, Cert.AdamWOutRefIdeal.Read.val_main_v5, Cert.AdamWOutRefIdeal.Read.val_main_v4, Cert.AdamWOutRefIdeal.Read.val_main_v3, Cert.AdamWOutRefIdeal.Read.val_main_cst_1, Cert.AdamWOutRefIdeal.Read.val_main_v2, Cert.AdamWOutRefIdeal.Read.val_main_v1, Cert.AdamWOutRefIdeal.Read.val_main_cst_0, Cert.AdamWOutRefIdeal.Read.val_main_v0, Cert.AdamWOutRefIdeal.Read.val_main_cst, grad, wideP]

theorem after4 (c : Dev nD) : (dats m 0 c).arrAt 4 (cfgs 0).N = Cert.AdamWOutRefIdeal.Read.val_main_v25 (F := Ideal) (aP m c) := by
  refine (dats m 0 c).arrAt_eq_of_covers 4 _ (by decide +kernel) fun t hf y => ?_
  blk_simp
  rw [after0_4]
  idx_vars y
  refine (block4 m c t _ _).trans ((ref4 _ (ri t _) _).symm.trans ?_)
  blk_ext [idx t, ri]

theorem ref5 (w : FVec Ideal S4x128x1024 .f32) (mm : FVec Ideal S4x128x1024 .f32) (v : FVec Ideal S4x128x1024 .f32) (p : FVec Ideal S8x4x128x1024 .f32) (i : Fin 512) (j : Fin 1024) :
    Cert.AdamWOutRefIdeal.Read.val_main_v26 (F := Ideal) w mm v p (ix2 i j) = step (wide w i j) (wide mm i j) (wide v i j) (grad p i j) := by
  pointwise [Cert.AdamWOutRefIdeal.Read.val_main_v26, Cert.AdamWOutRefIdeal.Read.val_main_v25, Cert.AdamWOutRefIdeal.Read.val_main_v24, Cert.AdamWOutRefIdeal.Read.val_main_v23, Cert.AdamWOutRefIdeal.Read.val_main_cst_8, Cert.AdamWOutRefIdeal.Read.val_main_v22, Cert.AdamWOutRefIdeal.Read.val_main_v21, Cert.AdamWOutRefIdeal.Read.val_main_v20, Cert.AdamWOutRefIdeal.Read.val_main_cst_7, Cert.AdamWOutRefIdeal.Read.val_main_v19, Cert.AdamWOutRefIdeal.Read.val_main_v18, Cert.AdamWOutRefIdeal.Read.val_main_v17, Cert.AdamWOutRefIdeal.Read.val_main_cst_6, Cert.AdamWOutRefIdeal.Read.val_main_v16, Cert.AdamWOutRefIdeal.Read.val_main_v15, Cert.AdamWOutRefIdeal.Read.val_main_v14, Cert.AdamWOutRefIdeal.Read.val_main_cst_5, Cert.AdamWOutRefIdeal.Read.val_main_v13, Cert.AdamWOutRefIdeal.Read.val_main_v12, Cert.AdamWOutRefIdeal.Read.val_main_cst_4, Cert.AdamWOutRefIdeal.Read.val_main_v11, Cert.AdamWOutRefIdeal.Read.val_main_v10, Cert.AdamWOutRefIdeal.Read.val_main_v9, Cert.AdamWOutRefIdeal.Read.val_main_cst_3, Cert.AdamWOutRefIdeal.Read.val_main_v8, Cert.AdamWOutRefIdeal.Read.val_main_v7, Cert.AdamWOutRefIdeal.Read.val_main_v6, Cert.AdamWOutRefIdeal.Read.val_main_cst_2, Cert.AdamWOutRefIdeal.Read.val_main_v5, Cert.AdamWOutRefIdeal.Read.val_main_v4, Cert.AdamWOutRefIdeal.Read.val_main_v3, Cert.AdamWOutRefIdeal.Read.val_main_cst_1, Cert.AdamWOutRefIdeal.Read.val_main_v2, Cert.AdamWOutRefIdeal.Read.val_main_v1, Cert.AdamWOutRefIdeal.Read.val_main_cst_0, Cert.AdamWOutRefIdeal.Read.val_main_v0, Cert.AdamWOutRefIdeal.Read.val_main_cst, step, first, second, grad, wide, wideP]

theorem after5 (c : Dev nD) : (dats m 0 c).arrAt 5 (cfgs 0).N = Cert.AdamWOutRefIdeal.Read.val_main_v26 (F := Ideal) (aW m c) (aM m c) (aV m c) (aP m c) := by
  refine (dats m 0 c).arrAt_eq_of_covers 5 _ (by decide +kernel) fun t hf y => ?_
  blk_simp
  rw [after0_5]
  idx_vars y
  refine (block5 m c t _ _).trans ((ref5 _ _ _ _ (ri t _) _).symm.trans ?_)
  blk_ext [idx t, ri]

theorem ref6 (mm : FVec Ideal S4x128x1024 .f32) (p : FVec Ideal S8x4x128x1024 .f32) (i : Fin 512) (j : Fin 1024) :
    Cert.AdamWOutRefIdeal.Read.val_main_v27 (F := Ideal) mm p (ix2 i j) = first (wide mm i j) (grad p i j) := by
  pointwise [Cert.AdamWOutRefIdeal.Read.val_main_v27, Cert.AdamWOutRefIdeal.Read.val_main_v26, Cert.AdamWOutRefIdeal.Read.val_main_v25, Cert.AdamWOutRefIdeal.Read.val_main_v24, Cert.AdamWOutRefIdeal.Read.val_main_v23, Cert.AdamWOutRefIdeal.Read.val_main_cst_8, Cert.AdamWOutRefIdeal.Read.val_main_v22, Cert.AdamWOutRefIdeal.Read.val_main_v21, Cert.AdamWOutRefIdeal.Read.val_main_v20, Cert.AdamWOutRefIdeal.Read.val_main_cst_7, Cert.AdamWOutRefIdeal.Read.val_main_v19, Cert.AdamWOutRefIdeal.Read.val_main_v18, Cert.AdamWOutRefIdeal.Read.val_main_v17, Cert.AdamWOutRefIdeal.Read.val_main_cst_6, Cert.AdamWOutRefIdeal.Read.val_main_v16, Cert.AdamWOutRefIdeal.Read.val_main_v15, Cert.AdamWOutRefIdeal.Read.val_main_v14, Cert.AdamWOutRefIdeal.Read.val_main_cst_5, Cert.AdamWOutRefIdeal.Read.val_main_v13, Cert.AdamWOutRefIdeal.Read.val_main_v12, Cert.AdamWOutRefIdeal.Read.val_main_cst_4, Cert.AdamWOutRefIdeal.Read.val_main_v11, Cert.AdamWOutRefIdeal.Read.val_main_v10, Cert.AdamWOutRefIdeal.Read.val_main_v9, Cert.AdamWOutRefIdeal.Read.val_main_cst_3, Cert.AdamWOutRefIdeal.Read.val_main_v8, Cert.AdamWOutRefIdeal.Read.val_main_v7, Cert.AdamWOutRefIdeal.Read.val_main_v6, Cert.AdamWOutRefIdeal.Read.val_main_cst_2, Cert.AdamWOutRefIdeal.Read.val_main_v5, Cert.AdamWOutRefIdeal.Read.val_main_v4, Cert.AdamWOutRefIdeal.Read.val_main_v3, Cert.AdamWOutRefIdeal.Read.val_main_cst_1, Cert.AdamWOutRefIdeal.Read.val_main_v2, Cert.AdamWOutRefIdeal.Read.val_main_v1, Cert.AdamWOutRefIdeal.Read.val_main_cst_0, Cert.AdamWOutRefIdeal.Read.val_main_v0, Cert.AdamWOutRefIdeal.Read.val_main_cst, first, grad, wide, wideP]

theorem after6 (c : Dev nD) : (dats m 0 c).arrAt 6 (cfgs 0).N = Cert.AdamWOutRefIdeal.Read.val_main_v27 (F := Ideal) (aM m c) (aP m c) := by
  refine (dats m 0 c).arrAt_eq_of_covers 6 _ (by decide +kernel) fun t hf y => ?_
  blk_simp
  rw [after0_6]
  idx_vars y
  refine (block6 m c t _ _).trans ((ref6 _ _ (ri t _) _).symm.trans ?_)
  blk_ext [idx t, ri]

theorem ref7 (v : FVec Ideal S4x128x1024 .f32) (p : FVec Ideal S8x4x128x1024 .f32) (i : Fin 512) (j : Fin 1024) :
    Cert.AdamWOutRefIdeal.Read.val_main_v28 (F := Ideal) v p (ix2 i j) = second (wide v i j) (grad p i j) := by
  pointwise [Cert.AdamWOutRefIdeal.Read.val_main_v28, Cert.AdamWOutRefIdeal.Read.val_main_v27, Cert.AdamWOutRefIdeal.Read.val_main_v26, Cert.AdamWOutRefIdeal.Read.val_main_v25, Cert.AdamWOutRefIdeal.Read.val_main_v24, Cert.AdamWOutRefIdeal.Read.val_main_v23, Cert.AdamWOutRefIdeal.Read.val_main_cst_8, Cert.AdamWOutRefIdeal.Read.val_main_v22, Cert.AdamWOutRefIdeal.Read.val_main_v21, Cert.AdamWOutRefIdeal.Read.val_main_v20, Cert.AdamWOutRefIdeal.Read.val_main_cst_7, Cert.AdamWOutRefIdeal.Read.val_main_v19, Cert.AdamWOutRefIdeal.Read.val_main_v18, Cert.AdamWOutRefIdeal.Read.val_main_v17, Cert.AdamWOutRefIdeal.Read.val_main_cst_6, Cert.AdamWOutRefIdeal.Read.val_main_v16, Cert.AdamWOutRefIdeal.Read.val_main_v15, Cert.AdamWOutRefIdeal.Read.val_main_v14, Cert.AdamWOutRefIdeal.Read.val_main_cst_5, Cert.AdamWOutRefIdeal.Read.val_main_v13, Cert.AdamWOutRefIdeal.Read.val_main_v12, Cert.AdamWOutRefIdeal.Read.val_main_cst_4, Cert.AdamWOutRefIdeal.Read.val_main_v11, Cert.AdamWOutRefIdeal.Read.val_main_v10, Cert.AdamWOutRefIdeal.Read.val_main_v9, Cert.AdamWOutRefIdeal.Read.val_main_cst_3, Cert.AdamWOutRefIdeal.Read.val_main_v8, Cert.AdamWOutRefIdeal.Read.val_main_v7, Cert.AdamWOutRefIdeal.Read.val_main_v6, Cert.AdamWOutRefIdeal.Read.val_main_cst_2, Cert.AdamWOutRefIdeal.Read.val_main_v5, Cert.AdamWOutRefIdeal.Read.val_main_v4, Cert.AdamWOutRefIdeal.Read.val_main_v3, Cert.AdamWOutRefIdeal.Read.val_main_cst_1, Cert.AdamWOutRefIdeal.Read.val_main_v2, Cert.AdamWOutRefIdeal.Read.val_main_v1, Cert.AdamWOutRefIdeal.Read.val_main_cst_0, Cert.AdamWOutRefIdeal.Read.val_main_v0, Cert.AdamWOutRefIdeal.Read.val_main_cst, second, grad, wide, wideP]

theorem after7 (c : Dev nD) : (dats m 0 c).arrAt 7 (cfgs 0).N = Cert.AdamWOutRefIdeal.Read.val_main_v28 (F := Ideal) (aV m c) (aP m c) := by
  refine (dats m 0 c).arrAt_eq_of_covers 7 _ (by decide +kernel) fun t hf y => ?_
  blk_simp
  rw [after0_7]
  idx_vars y
  refine (block7 m c t _ _).trans ((ref7 _ _ (ri t _) _).symm.trans ?_)
  blk_ext [idx t, ri]

/-- The kernel and the reference end with the same four arrays. -/
theorem algebraic : Cert.algebraic_AdamWOutIdeal_AdamWOutRefIdeal := by
  intro m g m' g' _ hagree
  refine ⟨_, _, _, _, Cert.AdamWOutIdeal.Value.run_blocks m g, (θ_run _ _ _).mono (fun r h c => ?_) (Cert.AdamWOutRefIdeal.Value.run m' g')⟩
  obtain ⟨r0, r1, r2, r3, k⟩ := h c
  obtain ⟨h0, h1, h2, h3⟩ := hagree c
  refine ⟨r0.trans ?_, r1.trans ?_, r2.trans ?_, r3.trans ?_, k⟩
  · refine (Cert.AdamWOutRefIdeal.Read.val_main_v25_eq _).trans (Eq.trans ?_ (after4 m c).symm)
    exact congrArg (fun p => Cert.AdamWOutRefIdeal.Read.val_main_v25 (F := Ideal) p) h3
  · refine (Cert.AdamWOutRefIdeal.Read.val_main_v26_eq _ _ _ _).trans (Eq.trans ?_ (after5 m c).symm)
    exact congr (congr (congr (congrArg (fun x y z p => Cert.AdamWOutRefIdeal.Read.val_main_v26 (F := Ideal) x y z p) h0) h1) h2) h3
  · refine (Cert.AdamWOutRefIdeal.Read.val_main_v27_eq _ _).trans (Eq.trans ?_ (after6 m c).symm)
    exact congrArg₂ (fun x y => Cert.AdamWOutRefIdeal.Read.val_main_v27 (F := Ideal) x y) h1 h3
  · refine (Cert.AdamWOutRefIdeal.Read.val_main_v28_eq _ _).trans (Eq.trans ?_ (after7 m c).symm)
    exact congrArg₂ (fun x y => Cert.AdamWOutRefIdeal.Read.val_main_v28 (F := Ideal) x y) h2 h3

/-- The reference returns with its arguments kept; it has no counters. -/
theorem refFrame : Cert.quiescent_AdamWOutRefIdeal := by
  intro m g _
  refine (θ_run _ _ _).mono (fun r h => ⟨fun c => ?_, sem_eq_zero_of_no_sems (by decide) _⟩) (Cert.AdamWOutRefIdeal.Value.run m g)
  obtain ⟨_, _, _, _, k⟩ := h c
  exact k

end Cert.Adam.AdamWOut

end
-- ==== Proof.AdamFfnIn.lean ====
/- The optimiser's update of the weight of the feed forward network's first product. -/
module

public import proofs.«01_k».proof.Defs
public import proofs.«01_k».proof.Proof.Gen.AdamFfnIn.Frame
public import proofs.«01_k».proof.Proof.Gen.AdamFfnInIdeal.Value
public import proofs.«01_k».proof.Proof.Gen.AdamFfnInRefIdeal.Run
public import proofs.«01_k».proof.Proof.Gen.AdamFfnInRefIdeal.Read
public import proofs.«01_k».proof.Proof.Adam
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Adam.AdamFfnIn
open Cert.AdamFfnInIdeal Cert.AdamFfnInIdeal.Gen

variable (m : (ℓ : Loc nD τ sig) → Buf (Elt Ideal) ℓ)

/-- The four arguments: the weight, its two moments, the parts of its gradient. -/
abbrev aW (c : Dev nD) : FVec Ideal S4x1024x704 .f32 := m ((c : Thread nD τ).loc main_arg0)
abbrev aM (c : Dev nD) : FVec Ideal S4x1024x704 .f32 := m ((c : Thread nD τ).loc main_arg1)
abbrev aV (c : Dev nD) : FVec Ideal S4x1024x704 .f32 := m ((c : Thread nD τ).loc main_arg2)
abbrev aP (c : Dev nD) : FVec Ideal S8x4x1024x704 .f32 := m ((c : Thread nD τ).loc main_arg3)

/-- An argument's entry in the layout of rows the update runs over. -/
def wide (a : FVec Ideal S4x1024x704 .f32) (i : Fin 4096) (j : Fin 768) : EReal :=
  if h : j.val < 704 then a (ix3 ⟨i.val / 1024, by have := i.isLt; omega⟩ ⟨i.val % 1024, by have := i.isLt; omega⟩ ⟨j.val, h⟩) else 0
def wideP (p : FVec Ideal S8x4x1024x704 .f32) (k : Fin 8) (i : Fin 4096) (j : Fin 768) : EReal :=
  if h : j.val < 704 then p (ix4 k ⟨i.val / 1024, by have := i.isLt; omega⟩ ⟨i.val % 1024, by have := i.isLt; omega⟩ ⟨j.val, h⟩) else 0

/-- The summed gradient. -/
def grad (p : FVec Ideal S8x4x1024x704 .f32) (i : Fin 4096) (j : Fin 768) : EReal := ∑ k : Fin 8, wideP p k i j

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lim (t : Fin cfg0.N) : t.val < 16 := lt_of_lt_of_eq t.isLt N_0

/-- The row of the whole array that a row of a block is. -/
def ri (t : Fin cfg0.N) (r : Fin 256) : Fin 4096 := ⟨256 * t.val + r.val, by have := lim t; have := r.isLt; omega⟩

theorem hostW (c : Dev nD) (i : Fin 4096) (j : Fin 768) :
    (V m c main_v4 : FVec Ideal S4096x768 .f32) (ix2 i j) = wide (aW m c) i j := by
  simp only [V, hostOps0, hostOps0_1, hostOps0_2, hostOps0_3, hostOps0_4, hostOps0_5, hostOps0_6, hostOps0_7, List.flatten_cons, List.flatten_nil, List.append_nil, List.cons_append, List.nil_append]
  entry_read
  show (pad S4096x768 ![0, 0] ![0, 64] ![0, 0] (shapeCast S4096x704 (aW m c) shapeCasts_S4x1024x704_S4096x704)
    (sitofp .f32 (constantI S_ 32 0#32) : FVec Ideal S_ .f32) pads_S4096x704_S4096x768_000_0640 h_S_) (ix2 i j) = _
  unfold wide
  pointwise [int_zero]

theorem hostM (c : Dev nD) (i : Fin 4096) (j : Fin 768) :
    (V m c main_v6 : FVec Ideal S4096x768 .f32) (ix2 i j) = wide (aM m c) i j := by
  simp only [V, hostOps0, hostOps0_1, hostOps0_2, hostOps0_3, hostOps0_4, hostOps0_5, hostOps0_6, hostOps0_7, List.flatten_cons, List.flatten_nil, List.append_nil, List.cons_append, List.nil_append]
  entry_read
  show (pad S4096x768 ![0, 0] ![0, 64] ![0, 0] (shapeCast S4096x704 (aM m c) shapeCasts_S4x1024x704_S4096x704)
    (sitofp .f32 (constantI S_ 32 0#32) : FVec Ideal S_ .f32) pads_S4096x704_S4096x768_000_0640 h_S_) (ix2 i j) = _
  unfold wide
  pointwise [int_zero]

theorem hostV (c : Dev nD) (i : Fin 4096) (j : Fin 768) :
    (V m c main_v8 : FVec Ideal S4096x768 .f32) (ix2 i j) = wide (aV m c) i j := by
  simp only [V, hostOps0, hostOps0_1, hostOps0_2, hostOps0_3, hostOps0_4, hostOps0_5, hostOps0_6, hostOps0_7, List.flatten_cons, List.flatten_nil, List.append_nil, List.cons_append, List.nil_append]
  entry_read
  show (pad S4096x768 ![0, 0] ![0, 64] ![0, 0] (shapeCast S4096x704 (aV m c) shapeCasts_S4x1024x704_S4096x704)
    (sitofp .f32 (constantI S_ 32 0#32) : FVec Ideal S_ .f32) pads_S4096x704_S4096x768_000_0640 h_S_) (ix2 i j) = _
  unfold wide
  pointwise [int_zero]

theorem hostP (c : Dev nD) (k : Fin 8) (i : Fin 4096) (j : Fin 768) :
    (V m c main_v2 : FVec Ideal S8x4096x768 .bf16) (ix3 k i j) = wideP (aP m c) k i j := by
  simp only [V, hostOps0, hostOps0_1, hostOps0_2, hostOps0_3, hostOps0_4, hostOps0_5, hostOps0_6, hostOps0_7, List.flatten_cons, List.flatten_nil, List.append_nil, List.cons_append, List.nil_append]
  entry_read
  show (shapeCast S8x4096x768 (pad S8x4x1024x768 ![0, 0, 0, 0] ![0, 0, 0, 64] ![0, 0, 0, 0] (truncf .bf16 (aP m c) bitsLt_bf16_f32)
    (sitofp .bf16 (constantI S_ 32 0#32) : FVec Ideal S_ .bf16) pads_S8x4x1024x704_S8x4x1024x768_000_000_000_0640 h_S_) shapeCasts_S8x4x1024x768_S8x4096x768) (ix3 k i j) = _
  unfold wideP
  pointwise [int_zero]
  have h1 : i.val / 1024 < 4 := by have := i.isLt; omega
  have h2 : i.val % 1024 < 1024 := by omega
  by_cases h : j.val < 704 <;> simp [h, h1, h2]

theorem blkW (c : Dev nD) (t : Fin cfg0.N) (r : Fin 256) (q : Fin 768) :
    (iblk m c 0 t : FVec Ideal S256x768 .f32) (ix2 r q) = wide (aW m c) (ri t r) q := by
  refine Eq.trans (b := V m c main_v4 (ix2 (ri t r) q)) ?_ (hostW m c _ _)
  blk_ext [iblk, idx t, ri]

theorem blkM (c : Dev nD) (t : Fin cfg0.N) (r : Fin 256) (q : Fin 768) :
    (iblk m c 1 t : FVec Ideal S256x768 .f32) (ix2 r q) = wide (aM m c) (ri t r) q := by
  refine Eq.trans (b := V m c main_v6 (ix2 (ri t r) q)) ?_ (hostM m c _ _)
  blk_ext [iblk, idx t, ri]

theorem blkV (c : Dev nD) (t : Fin cfg0.N) (r : Fin 256) (q : Fin 768) :
    (iblk m c 2 t : FVec Ideal S256x768 .f32) (ix2 r q) = wide (aV m c) (ri t r) q := by
  refine Eq.trans (b := V m c main_v8 (ix2 (ri t r) q)) ?_ (hostV m c _ _)
  blk_ext [iblk, idx t, ri]

theorem readP (A : FVec Ideal S8x4096x768 .bf16) (t : Fin cfg0.N) (k : Fin 8) (r : Fin 256) (q : Fin 768) :
    (((cfg0.win 3).blk t).view.read (Elt Ideal) A : FVec Ideal S8x256x768 .bf16) (ix3 k r q) = A (ix3 k (ri t r) q) := by
  blk_ext [idx t, ri]

theorem blkP (c : Dev nD) (t : Fin cfg0.N) (k : Fin 8) (r : Fin 256) (q : Fin 768) :
    (iblk m c 3 t : FVec Ideal S8x256x768 .bf16) (ix3 k r q) = wideP (aP m c) k (ri t r) q :=
  (readP (V m c main_v2) t k r q).trans (hostP m c _ _ _)

theorem out4 (w mm v : FVec Ideal S256x768 .f32) (p : FVec Ideal S8x256x768 .bf16) (r : Fin 256) (q : Fin 768) :
    out0_4 (F := Ideal) w mm v p (ix2 r q) = (∑ k : Fin 8, (p (ix3 k r q) : EReal)) := by
  frame_out
  rw [Fin.sum_univ_eight]
  pointwise [k0_pay1, k0_pay2, k0_pay3, k0_pay4, k0_pay5, k0_pay6, step, first, second]

theorem block4 (c : Dev nD) (t : Fin cfg0.N) (r : Fin 256) (q : Fin 768) :
    out0_4 (iblk m c 0 t) (iblk m c 1 t) (iblk m c 2 t) (iblk m c 3 t) (ix2 r q)
      = (grad (aP m c) (ri t r) q) := by
  refine (out4 _ _ _ _ r q).trans ?_
  have hp : (@Finset.sum (Fin 8) EReal _ Finset.univ fun k => iblk m c 3 t (ix3 k r q)) = grad (aP m c) (ri t r) q :=
    Finset.sum_congr rfl fun k _ => blkP m c t k r q
  exact hp

theorem out5 (w mm v : FVec Ideal S256x768 .f32) (p : FVec Ideal S8x256x768 .bf16) (r : Fin 256) (q : Fin 768) :
    out0_5 (F := Ideal) w mm v p (ix2 r q) = step (w (ix2 r q)) (mm (ix2 r q)) (v (ix2 r q)) (∑ k : Fin 8, (p (ix3 k r q) : EReal)) := by
  frame_out
  rw [Fin.sum_univ_eight]
  pointwise [k0_pay1, k0_pay2, k0_pay3, k0_pay4, k0_pay5, k0_pay6, step, first, second]

theorem block5 (c : Dev nD) (t : Fin cfg0.N) (r : Fin 256) (q : Fin 768) :
    out0_5 (iblk m c 0 t) (iblk m c 1 t) (iblk m c 2 t) (iblk m c 3 t) (ix2 r q)
      = step (wide (aW m c) (ri t r) q) (wide (aM m c) (ri t r) q) (wide (aV m c) (ri t r) q) (grad (aP m c) (ri t r) q) := by
  refine (out5 _ _ _ _ r q).trans ?_
  have hp : (@Finset.sum (Fin 8) EReal _ Finset.univ fun k => iblk m c 3 t (ix3 k r q)) = grad (aP m c) (ri t r) q :=
    Finset.sum_congr rfl fun k _ => blkP m c t k r q
  exact congr (congr (congr (congrArg step (blkW m c t r q)) (blkM m c t r q)) (blkV m c t r q)) hp

theorem out6 (w mm v : FVec Ideal S256x768 .f32) (p : FVec Ideal S8x256x768 .bf16) (r : Fin 256) (q : Fin 768) :
    out0_6 (F := Ideal) w mm v p (ix2 r q) = first (mm (ix2 r q)) (∑ k : Fin 8, (p (ix3 k r q) : EReal)) := by
  frame_out
  rw [Fin.sum_univ_eight]
  pointwise [k0_pay1, k0_pay2, k0_pay3, k0_pay4, k0_pay5, k0_pay6, step, first, second]

theorem block6 (c : Dev nD) (t : Fin cfg0.N) (r : Fin 256) (q : Fin 768) :
    out0_6 (iblk m c 0 t) (iblk m c 1 t) (iblk m c 2 t) (iblk m c 3 t) (ix2 r q)
      = first (wide (aM m c) (ri t r) q) (grad (aP m c) (ri t r) q) := by
  refine (out6 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ first (blkM m c t r q) hp

theorem out7 (w mm v : FVec Ideal S256x768 .f32) (p : FVec Ideal S8x256x768 .bf16) (r : Fin 256) (q : Fin 768) :
    out0_7 (F := Ideal) w mm v p (ix2 r q) = second (v (ix2 r q)) (∑ k : Fin 8, (p (ix3 k r q) : EReal)) := by
  frame_out
  rw [Fin.sum_univ_eight]
  pointwise [k0_pay1, k0_pay2, k0_pay3, k0_pay4, k0_pay5, k0_pay6, step, first, second]

theorem block7 (c : Dev nD) (t : Fin cfg0.N) (r : Fin 256) (q : Fin 768) :
    out0_7 (iblk m c 0 t) (iblk m c 1 t) (iblk m c 2 t) (iblk m c 3 t) (ix2 r q)
      = second (wide (aV m c) (ri t r) q) (grad (aP m c) (ri t r) q) := by
  refine (out7 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ second (blkV m c t r q) hp

theorem ref4 (p : FVec Ideal S8x4x1024x704 .f32) (i : Fin 4096) (j : Fin 768) :
    Cert.AdamFfnInRefIdeal.Read.val_main_v29 (F := Ideal) p (ix2 i j) = (grad p i j) := by
  by_cases h : j.val < 704
  · simp only [grad, wideP, dif_pos h]
    pointwise [Cert.AdamFfnInRefIdeal.Read.val_main_v29, Cert.AdamFfnInRefIdeal.Read.val_main_call0_v0, Cert.AdamFfnInRefIdeal.Read.val_main_c, Cert.AdamFfnInRefIdeal.Read.val_main_v28, Cert.AdamFfnInRefIdeal.Read.val_main_v27, Cert.AdamFfnInRefIdeal.Read.val_main_v26, Cert.AdamFfnInRefIdeal.Read.val_main_v25, Cert.AdamFfnInRefIdeal.Read.val_main_v24, Cert.AdamFfnInRefIdeal.Read.val_main_v23, Cert.AdamFfnInRefIdeal.Read.val_main_cst_8, Cert.AdamFfnInRefIdeal.Read.val_main_v22, Cert.AdamFfnInRefIdeal.Read.val_main_v21, Cert.AdamFfnInRefIdeal.Read.val_main_v20, Cert.AdamFfnInRefIdeal.Read.val_main_cst_7, Cert.AdamFfnInRefIdeal.Read.val_main_v19, Cert.AdamFfnInRefIdeal.Read.val_main_v18, Cert.AdamFfnInRefIdeal.Read.val_main_v17, Cert.AdamFfnInRefIdeal.Read.val_main_cst_6, Cert.AdamFfnInRefIdeal.Read.val_main_v16, Cert.AdamFfnInRefIdeal.Read.val_main_v15, Cert.AdamFfnInRefIdeal.Read.val_main_v14, Cert.AdamFfnInRefIdeal.Read.val_main_cst_5, Cert.AdamFfnInRefIdeal.Read.val_main_v13, Cert.AdamFfnInRefIdeal.Read.val_main_v12, Cert.AdamFfnInRefIdeal.Read.val_main_cst_4, Cert.AdamFfnInRefIdeal.Read.val_main_v11, Cert.AdamFfnInRefIdeal.Read.val_main_v10, Cert.AdamFfnInRefIdeal.Read.val_main_v9, Cert.AdamFfnInRefIdeal.Read.val_main_cst_3, Cert.AdamFfnInRefIdeal.Read.val_main_v8, Cert.AdamFfnInRefIdeal.Read.val_main_v7, Cert.AdamFfnInRefIdeal.Read.val_main_v6, Cert.AdamFfnInRefIdeal.Read.val_main_cst_2, Cert.AdamFfnInRefIdeal.Read.val_main_v5, Cert.AdamFfnInRefIdeal.Read.val_main_v4, Cert.AdamFfnInRefIdeal.Read.val_main_v3, Cert.AdamFfnInRefIdeal.Read.val_main_cst_1, Cert.AdamFfnInRefIdeal.Read.val_main_v2, Cert.AdamFfnInRefIdeal.Read.val_main_v1, Cert.AdamFfnInRefIdeal.Read.val_main_cst_0, Cert.AdamFfnInRefIdeal.Read.val_main_v0, Cert.AdamFfnInRefIdeal.Read.val_main_cst, dif_pos h]
  · simp only [grad, wideP, dif_neg h, Finset.sum_const_zero]
    pointwise [Cert.AdamFfnInRefIdeal.Read.val_main_v29, Cert.AdamFfnInRefIdeal.Read.val_main_call0_v0, Cert.AdamFfnInRefIdeal.Read.val_main_c, Cert.AdamFfnInRefIdeal.Read.val_main_v28, Cert.AdamFfnInRefIdeal.Read.val_main_v27, Cert.AdamFfnInRefIdeal.Read.val_main_v26, Cert.AdamFfnInRefIdeal.Read.val_main_v25, Cert.AdamFfnInRefIdeal.Read.val_main_v24, Cert.AdamFfnInRefIdeal.Read.val_main_v23, Cert.AdamFfnInRefIdeal.Read.val_main_cst_8, Cert.AdamFfnInRefIdeal.Read.val_main_v22, Cert.AdamFfnInRefIdeal.Read.val_main_v21, Cert.AdamFfnInRefIdeal.Read.val_main_v20, Cert.AdamFfnInRefIdeal.Read.val_main_cst_7, Cert.AdamFfnInRefIdeal.Read.val_main_v19, Cert.AdamFfnInRefIdeal.Read.val_main_v18, Cert.AdamFfnInRefIdeal.Read.val_main_v17, Cert.AdamFfnInRefIdeal.Read.val_main_cst_6, Cert.AdamFfnInRefIdeal.Read.val_main_v16, Cert.AdamFfnInRefIdeal.Read.val_main_v15, Cert.AdamFfnInRefIdeal.Read.val_main_v14, Cert.AdamFfnInRefIdeal.Read.val_main_cst_5, Cert.AdamFfnInRefIdeal.Read.val_main_v13, Cert.AdamFfnInRefIdeal.Read.val_main_v12, Cert.AdamFfnInRefIdeal.Read.val_main_cst_4, Cert.AdamFfnInRefIdeal.Read.val_main_v11, Cert.AdamFfnInRefIdeal.Read.val_main_v10, Cert.AdamFfnInRefIdeal.Read.val_main_v9, Cert.AdamFfnInRefIdeal.Read.val_main_cst_3, Cert.AdamFfnInRefIdeal.Read.val_main_v8, Cert.AdamFfnInRefIdeal.Read.val_main_v7, Cert.AdamFfnInRefIdeal.Read.val_main_v6, Cert.AdamFfnInRefIdeal.Read.val_main_cst_2, Cert.AdamFfnInRefIdeal.Read.val_main_v5, Cert.AdamFfnInRefIdeal.Read.val_main_v4, Cert.AdamFfnInRefIdeal.Read.val_main_v3, Cert.AdamFfnInRefIdeal.Read.val_main_cst_1, Cert.AdamFfnInRefIdeal.Read.val_main_v2, Cert.AdamFfnInRefIdeal.Read.val_main_v1, Cert.AdamFfnInRefIdeal.Read.val_main_cst_0, Cert.AdamFfnInRefIdeal.Read.val_main_v0, Cert.AdamFfnInRefIdeal.Read.val_main_cst, dif_neg h, int_zero]

theorem after4 (c : Dev nD) : (dats m 0 c).arrAt 4 (cfgs 0).N = Cert.AdamFfnInRefIdeal.Read.val_main_v29 (F := Ideal) (aP m c) := by
  refine (dats m 0 c).arrAt_eq_of_covers 4 _ (by decide +kernel) fun t hf y => ?_
  blk_simp
  rw [after0_4]
  idx_vars y
  refine (block4 m c t _ _).trans ((ref4 _ (ri t _) _).symm.trans ?_)
  blk_ext [idx t, ri]

theorem ref5 (w : FVec Ideal S4x1024x704 .f32) (mm : FVec Ideal S4x1024x704 .f32) (v : FVec Ideal S4x1024x704 .f32) (p : FVec Ideal S8x4x1024x704 .f32) (i : Fin 4096) (j : Fin 768) :
    Cert.AdamFfnInRefIdeal.Read.val_main_v30 (F := Ideal) w mm v p (ix2 i j) = step (wide w i j) (wide mm i j) (wide v i j) (grad p i j) := by
  by_cases h : j.val < 704
  · simp only [grad, wideP, wide, dif_pos h]
    pointwise [Cert.AdamFfnInRefIdeal.Read.val_main_v30, Cert.AdamFfnInRefIdeal.Read.val_main_call1_v0, Cert.AdamFfnInRefIdeal.Read.val_main_c_9, Cert.AdamFfnInRefIdeal.Read.val_main_v29, Cert.AdamFfnInRefIdeal.Read.val_main_call0_v0, Cert.AdamFfnInRefIdeal.Read.val_main_c, Cert.AdamFfnInRefIdeal.Read.val_main_v28, Cert.AdamFfnInRefIdeal.Read.val_main_v27, Cert.AdamFfnInRefIdeal.Read.val_main_v26, Cert.AdamFfnInRefIdeal.Read.val_main_v25, Cert.AdamFfnInRefIdeal.Read.val_main_v24, Cert.AdamFfnInRefIdeal.Read.val_main_v23, Cert.AdamFfnInRefIdeal.Read.val_main_cst_8, Cert.AdamFfnInRefIdeal.Read.val_main_v22, Cert.AdamFfnInRefIdeal.Read.val_main_v21, Cert.AdamFfnInRefIdeal.Read.val_main_v20, Cert.AdamFfnInRefIdeal.Read.val_main_cst_7, Cert.AdamFfnInRefIdeal.Read.val_main_v19, Cert.AdamFfnInRefIdeal.Read.val_main_v18, Cert.AdamFfnInRefIdeal.Read.val_main_v17, Cert.AdamFfnInRefIdeal.Read.val_main_cst_6, Cert.AdamFfnInRefIdeal.Read.val_main_v16, Cert.AdamFfnInRefIdeal.Read.val_main_v15, Cert.AdamFfnInRefIdeal.Read.val_main_v14, Cert.AdamFfnInRefIdeal.Read.val_main_cst_5, Cert.AdamFfnInRefIdeal.Read.val_main_v13, Cert.AdamFfnInRefIdeal.Read.val_main_v12, Cert.AdamFfnInRefIdeal.Read.val_main_cst_4, Cert.AdamFfnInRefIdeal.Read.val_main_v11, Cert.AdamFfnInRefIdeal.Read.val_main_v10, Cert.AdamFfnInRefIdeal.Read.val_main_v9, Cert.AdamFfnInRefIdeal.Read.val_main_cst_3, Cert.AdamFfnInRefIdeal.Read.val_main_v8, Cert.AdamFfnInRefIdeal.Read.val_main_v7, Cert.AdamFfnInRefIdeal.Read.val_main_v6, Cert.AdamFfnInRefIdeal.Read.val_main_cst_2, Cert.AdamFfnInRefIdeal.Read.val_main_v5, Cert.AdamFfnInRefIdeal.Read.val_main_v4, Cert.AdamFfnInRefIdeal.Read.val_main_v3, Cert.AdamFfnInRefIdeal.Read.val_main_cst_1, Cert.AdamFfnInRefIdeal.Read.val_main_v2, Cert.AdamFfnInRefIdeal.Read.val_main_v1, Cert.AdamFfnInRefIdeal.Read.val_main_cst_0, Cert.AdamFfnInRefIdeal.Read.val_main_v0, Cert.AdamFfnInRefIdeal.Read.val_main_cst, dif_pos h, step, first, second]
  · simp only [grad, wideP, wide, dif_neg h, Finset.sum_const_zero]
    pointwise [Cert.AdamFfnInRefIdeal.Read.val_main_v30, Cert.AdamFfnInRefIdeal.Read.val_main_call1_v0, Cert.AdamFfnInRefIdeal.Read.val_main_c_9, Cert.AdamFfnInRefIdeal.Read.val_main_v29, Cert.AdamFfnInRefIdeal.Read.val_main_call0_v0, Cert.AdamFfnInRefIdeal.Read.val_main_c, Cert.AdamFfnInRefIdeal.Read.val_main_v28, Cert.AdamFfnInRefIdeal.Read.val_main_v27, Cert.AdamFfnInRefIdeal.Read.val_main_v26, Cert.AdamFfnInRefIdeal.Read.val_main_v25, Cert.AdamFfnInRefIdeal.Read.val_main_v24, Cert.AdamFfnInRefIdeal.Read.val_main_v23, Cert.AdamFfnInRefIdeal.Read.val_main_cst_8, Cert.AdamFfnInRefIdeal.Read.val_main_v22, Cert.AdamFfnInRefIdeal.Read.val_main_v21, Cert.AdamFfnInRefIdeal.Read.val_main_v20, Cert.AdamFfnInRefIdeal.Read.val_main_cst_7, Cert.AdamFfnInRefIdeal.Read.val_main_v19, Cert.AdamFfnInRefIdeal.Read.val_main_v18, Cert.AdamFfnInRefIdeal.Read.val_main_v17, Cert.AdamFfnInRefIdeal.Read.val_main_cst_6, Cert.AdamFfnInRefIdeal.Read.val_main_v16, Cert.AdamFfnInRefIdeal.Read.val_main_v15, Cert.AdamFfnInRefIdeal.Read.val_main_v14, Cert.AdamFfnInRefIdeal.Read.val_main_cst_5, Cert.AdamFfnInRefIdeal.Read.val_main_v13, Cert.AdamFfnInRefIdeal.Read.val_main_v12, Cert.AdamFfnInRefIdeal.Read.val_main_cst_4, Cert.AdamFfnInRefIdeal.Read.val_main_v11, Cert.AdamFfnInRefIdeal.Read.val_main_v10, Cert.AdamFfnInRefIdeal.Read.val_main_v9, Cert.AdamFfnInRefIdeal.Read.val_main_cst_3, Cert.AdamFfnInRefIdeal.Read.val_main_v8, Cert.AdamFfnInRefIdeal.Read.val_main_v7, Cert.AdamFfnInRefIdeal.Read.val_main_v6, Cert.AdamFfnInRefIdeal.Read.val_main_cst_2, Cert.AdamFfnInRefIdeal.Read.val_main_v5, Cert.AdamFfnInRefIdeal.Read.val_main_v4, Cert.AdamFfnInRefIdeal.Read.val_main_v3, Cert.AdamFfnInRefIdeal.Read.val_main_cst_1, Cert.AdamFfnInRefIdeal.Read.val_main_v2, Cert.AdamFfnInRefIdeal.Read.val_main_v1, Cert.AdamFfnInRefIdeal.Read.val_main_cst_0, Cert.AdamFfnInRefIdeal.Read.val_main_v0, Cert.AdamFfnInRefIdeal.Read.val_main_cst, dif_neg h, int_zero, step_zero]

theorem after5 (c : Dev nD) : (dats m 0 c).arrAt 5 (cfgs 0).N = Cert.AdamFfnInRefIdeal.Read.val_main_v30 (F := Ideal) (aW m c) (aM m c) (aV m c) (aP m c) := by
  refine (dats m 0 c).arrAt_eq_of_covers 5 _ (by decide +kernel) fun t hf y => ?_
  blk_simp
  rw [after0_5]
  idx_vars y
  refine (block5 m c t _ _).trans ((ref5 _ _ _ _ (ri t _) _).symm.trans ?_)
  blk_ext [idx t, ri]

theorem ref6 (mm : FVec Ideal S4x1024x704 .f32) (p : FVec Ideal S8x4x1024x704 .f32) (i : Fin 4096) (j : Fin 768) :
    Cert.AdamFfnInRefIdeal.Read.val_main_v31 (F := Ideal) mm p (ix2 i j) = first (wide mm i j) (grad p i j) := by
  by_cases h : j.val < 704
  · simp only [grad, wideP, wide, dif_pos h]
    pointwise [Cert.AdamFfnInRefIdeal.Read.val_main_v31, Cert.AdamFfnInRefIdeal.Read.val_main_call2_v0, Cert.AdamFfnInRefIdeal.Read.val_main_c_10, Cert.AdamFfnInRefIdeal.Read.val_main_v30, Cert.AdamFfnInRefIdeal.Read.val_main_call1_v0, Cert.AdamFfnInRefIdeal.Read.val_main_c_9, Cert.AdamFfnInRefIdeal.Read.val_main_v29, Cert.AdamFfnInRefIdeal.Read.val_main_call0_v0, Cert.AdamFfnInRefIdeal.Read.val_main_c, Cert.AdamFfnInRefIdeal.Read.val_main_v28, Cert.AdamFfnInRefIdeal.Read.val_main_v27, Cert.AdamFfnInRefIdeal.Read.val_main_v26, Cert.AdamFfnInRefIdeal.Read.val_main_v25, Cert.AdamFfnInRefIdeal.Read.val_main_v24, Cert.AdamFfnInRefIdeal.Read.val_main_v23, Cert.AdamFfnInRefIdeal.Read.val_main_cst_8, Cert.AdamFfnInRefIdeal.Read.val_main_v22, Cert.AdamFfnInRefIdeal.Read.val_main_v21, Cert.AdamFfnInRefIdeal.Read.val_main_v20, Cert.AdamFfnInRefIdeal.Read.val_main_cst_7, Cert.AdamFfnInRefIdeal.Read.val_main_v19, Cert.AdamFfnInRefIdeal.Read.val_main_v18, Cert.AdamFfnInRefIdeal.Read.val_main_v17, Cert.AdamFfnInRefIdeal.Read.val_main_cst_6, Cert.AdamFfnInRefIdeal.Read.val_main_v16, Cert.AdamFfnInRefIdeal.Read.val_main_v15, Cert.AdamFfnInRefIdeal.Read.val_main_v14, Cert.AdamFfnInRefIdeal.Read.val_main_cst_5, Cert.AdamFfnInRefIdeal.Read.val_main_v13, Cert.AdamFfnInRefIdeal.Read.val_main_v12, Cert.AdamFfnInRefIdeal.Read.val_main_cst_4, Cert.AdamFfnInRefIdeal.Read.val_main_v11, Cert.AdamFfnInRefIdeal.Read.val_main_v10, Cert.AdamFfnInRefIdeal.Read.val_main_v9, Cert.AdamFfnInRefIdeal.Read.val_main_cst_3, Cert.AdamFfnInRefIdeal.Read.val_main_v8, Cert.AdamFfnInRefIdeal.Read.val_main_v7, Cert.AdamFfnInRefIdeal.Read.val_main_v6, Cert.AdamFfnInRefIdeal.Read.val_main_cst_2, Cert.AdamFfnInRefIdeal.Read.val_main_v5, Cert.AdamFfnInRefIdeal.Read.val_main_v4, Cert.AdamFfnInRefIdeal.Read.val_main_v3, Cert.AdamFfnInRefIdeal.Read.val_main_cst_1, Cert.AdamFfnInRefIdeal.Read.val_main_v2, Cert.AdamFfnInRefIdeal.Read.val_main_v1, Cert.AdamFfnInRefIdeal.Read.val_main_cst_0, Cert.AdamFfnInRefIdeal.Read.val_main_v0, Cert.AdamFfnInRefIdeal.Read.val_main_cst, dif_pos h, first]
  · simp only [grad, wideP, wide, dif_neg h, Finset.sum_const_zero]
    pointwise [Cert.AdamFfnInRefIdeal.Read.val_main_v31, Cert.AdamFfnInRefIdeal.Read.val_main_call2_v0, Cert.AdamFfnInRefIdeal.Read.val_main_c_10, Cert.AdamFfnInRefIdeal.Read.val_main_v30, Cert.AdamFfnInRefIdeal.Read.val_main_call1_v0, Cert.AdamFfnInRefIdeal.Read.val_main_c_9, Cert.AdamFfnInRefIdeal.Read.val_main_v29, Cert.AdamFfnInRefIdeal.Read.val_main_call0_v0, Cert.AdamFfnInRefIdeal.Read.val_main_c, Cert.AdamFfnInRefIdeal.Read.val_main_v28, Cert.AdamFfnInRefIdeal.Read.val_main_v27, Cert.AdamFfnInRefIdeal.Read.val_main_v26, Cert.AdamFfnInRefIdeal.Read.val_main_v25, Cert.AdamFfnInRefIdeal.Read.val_main_v24, Cert.AdamFfnInRefIdeal.Read.val_main_v23, Cert.AdamFfnInRefIdeal.Read.val_main_cst_8, Cert.AdamFfnInRefIdeal.Read.val_main_v22, Cert.AdamFfnInRefIdeal.Read.val_main_v21, Cert.AdamFfnInRefIdeal.Read.val_main_v20, Cert.AdamFfnInRefIdeal.Read.val_main_cst_7, Cert.AdamFfnInRefIdeal.Read.val_main_v19, Cert.AdamFfnInRefIdeal.Read.val_main_v18, Cert.AdamFfnInRefIdeal.Read.val_main_v17, Cert.AdamFfnInRefIdeal.Read.val_main_cst_6, Cert.AdamFfnInRefIdeal.Read.val_main_v16, Cert.AdamFfnInRefIdeal.Read.val_main_v15, Cert.AdamFfnInRefIdeal.Read.val_main_v14, Cert.AdamFfnInRefIdeal.Read.val_main_cst_5, Cert.AdamFfnInRefIdeal.Read.val_main_v13, Cert.AdamFfnInRefIdeal.Read.val_main_v12, Cert.AdamFfnInRefIdeal.Read.val_main_cst_4, Cert.AdamFfnInRefIdeal.Read.val_main_v11, Cert.AdamFfnInRefIdeal.Read.val_main_v10, Cert.AdamFfnInRefIdeal.Read.val_main_v9, Cert.AdamFfnInRefIdeal.Read.val_main_cst_3, Cert.AdamFfnInRefIdeal.Read.val_main_v8, Cert.AdamFfnInRefIdeal.Read.val_main_v7, Cert.AdamFfnInRefIdeal.Read.val_main_v6, Cert.AdamFfnInRefIdeal.Read.val_main_cst_2, Cert.AdamFfnInRefIdeal.Read.val_main_v5, Cert.AdamFfnInRefIdeal.Read.val_main_v4, Cert.AdamFfnInRefIdeal.Read.val_main_v3, Cert.AdamFfnInRefIdeal.Read.val_main_cst_1, Cert.AdamFfnInRefIdeal.Read.val_main_v2, Cert.AdamFfnInRefIdeal.Read.val_main_v1, Cert.AdamFfnInRefIdeal.Read.val_main_cst_0, Cert.AdamFfnInRefIdeal.Read.val_main_v0, Cert.AdamFfnInRefIdeal.Read.val_main_cst, dif_neg h, int_zero, first_zero]

theorem after6 (c : Dev nD) : (dats m 0 c).arrAt 6 (cfgs 0).N = Cert.AdamFfnInRefIdeal.Read.val_main_v31 (F := Ideal) (aM m c) (aP m c) := by
  refine (dats m 0 c).arrAt_eq_of_covers 6 _ (by decide +kernel) fun t hf y => ?_
  blk_simp
  rw [after0_6]
  idx_vars y
  refine (block6 m c t _ _).trans ((ref6 _ _ (ri t _) _).symm.trans ?_)
  blk_ext [idx t, ri]

theorem ref7 (v : FVec Ideal S4x1024x704 .f32) (p : FVec Ideal S8x4x1024x704 .f32) (i : Fin 4096) (j : Fin 768) :
    Cert.AdamFfnInRefIdeal.Read.val_main_v32 (F := Ideal) v p (ix2 i j) = second (wide v i j) (grad p i j) := by
  by_cases h : j.val < 704
  · simp only [grad, wideP, wide, dif_pos h]
    pointwise [Cert.AdamFfnInRefIdeal.Read.val_main_v32, Cert.AdamFfnInRefIdeal.Read.val_main_call3_v0, Cert.AdamFfnInRefIdeal.Read.val_main_c_11, Cert.AdamFfnInRefIdeal.Read.val_main_v31, Cert.AdamFfnInRefIdeal.Read.val_main_call2_v0, Cert.AdamFfnInRefIdeal.Read.val_main_c_10, Cert.AdamFfnInRefIdeal.Read.val_main_v30, Cert.AdamFfnInRefIdeal.Read.val_main_call1_v0, Cert.AdamFfnInRefIdeal.Read.val_main_c_9, Cert.AdamFfnInRefIdeal.Read.val_main_v29, Cert.AdamFfnInRefIdeal.Read.val_main_call0_v0, Cert.AdamFfnInRefIdeal.Read.val_main_c, Cert.AdamFfnInRefIdeal.Read.val_main_v28, Cert.AdamFfnInRefIdeal.Read.val_main_v27, Cert.AdamFfnInRefIdeal.Read.val_main_v26, Cert.AdamFfnInRefIdeal.Read.val_main_v25, Cert.AdamFfnInRefIdeal.Read.val_main_v24, Cert.AdamFfnInRefIdeal.Read.val_main_v23, Cert.AdamFfnInRefIdeal.Read.val_main_cst_8, Cert.AdamFfnInRefIdeal.Read.val_main_v22, Cert.AdamFfnInRefIdeal.Read.val_main_v21, Cert.AdamFfnInRefIdeal.Read.val_main_v20, Cert.AdamFfnInRefIdeal.Read.val_main_cst_7, Cert.AdamFfnInRefIdeal.Read.val_main_v19, Cert.AdamFfnInRefIdeal.Read.val_main_v18, Cert.AdamFfnInRefIdeal.Read.val_main_v17, Cert.AdamFfnInRefIdeal.Read.val_main_cst_6, Cert.AdamFfnInRefIdeal.Read.val_main_v16, Cert.AdamFfnInRefIdeal.Read.val_main_v15, Cert.AdamFfnInRefIdeal.Read.val_main_v14, Cert.AdamFfnInRefIdeal.Read.val_main_cst_5, Cert.AdamFfnInRefIdeal.Read.val_main_v13, Cert.AdamFfnInRefIdeal.Read.val_main_v12, Cert.AdamFfnInRefIdeal.Read.val_main_cst_4, Cert.AdamFfnInRefIdeal.Read.val_main_v11, Cert.AdamFfnInRefIdeal.Read.val_main_v10, Cert.AdamFfnInRefIdeal.Read.val_main_v9, Cert.AdamFfnInRefIdeal.Read.val_main_cst_3, Cert.AdamFfnInRefIdeal.Read.val_main_v8, Cert.AdamFfnInRefIdeal.Read.val_main_v7, Cert.AdamFfnInRefIdeal.Read.val_main_v6, Cert.AdamFfnInRefIdeal.Read.val_main_cst_2, Cert.AdamFfnInRefIdeal.Read.val_main_v5, Cert.AdamFfnInRefIdeal.Read.val_main_v4, Cert.AdamFfnInRefIdeal.Read.val_main_v3, Cert.AdamFfnInRefIdeal.Read.val_main_cst_1, Cert.AdamFfnInRefIdeal.Read.val_main_v2, Cert.AdamFfnInRefIdeal.Read.val_main_v1, Cert.AdamFfnInRefIdeal.Read.val_main_cst_0, Cert.AdamFfnInRefIdeal.Read.val_main_v0, Cert.AdamFfnInRefIdeal.Read.val_main_cst, dif_pos h, second]
  · simp only [grad, wideP, wide, dif_neg h, Finset.sum_const_zero]
    pointwise [Cert.AdamFfnInRefIdeal.Read.val_main_v32, Cert.AdamFfnInRefIdeal.Read.val_main_call3_v0, Cert.AdamFfnInRefIdeal.Read.val_main_c_11, Cert.AdamFfnInRefIdeal.Read.val_main_v31, Cert.AdamFfnInRefIdeal.Read.val_main_call2_v0, Cert.AdamFfnInRefIdeal.Read.val_main_c_10, Cert.AdamFfnInRefIdeal.Read.val_main_v30, Cert.AdamFfnInRefIdeal.Read.val_main_call1_v0, Cert.AdamFfnInRefIdeal.Read.val_main_c_9, Cert.AdamFfnInRefIdeal.Read.val_main_v29, Cert.AdamFfnInRefIdeal.Read.val_main_call0_v0, Cert.AdamFfnInRefIdeal.Read.val_main_c, Cert.AdamFfnInRefIdeal.Read.val_main_v28, Cert.AdamFfnInRefIdeal.Read.val_main_v27, Cert.AdamFfnInRefIdeal.Read.val_main_v26, Cert.AdamFfnInRefIdeal.Read.val_main_v25, Cert.AdamFfnInRefIdeal.Read.val_main_v24, Cert.AdamFfnInRefIdeal.Read.val_main_v23, Cert.AdamFfnInRefIdeal.Read.val_main_cst_8, Cert.AdamFfnInRefIdeal.Read.val_main_v22, Cert.AdamFfnInRefIdeal.Read.val_main_v21, Cert.AdamFfnInRefIdeal.Read.val_main_v20, Cert.AdamFfnInRefIdeal.Read.val_main_cst_7, Cert.AdamFfnInRefIdeal.Read.val_main_v19, Cert.AdamFfnInRefIdeal.Read.val_main_v18, Cert.AdamFfnInRefIdeal.Read.val_main_v17, Cert.AdamFfnInRefIdeal.Read.val_main_cst_6, Cert.AdamFfnInRefIdeal.Read.val_main_v16, Cert.AdamFfnInRefIdeal.Read.val_main_v15, Cert.AdamFfnInRefIdeal.Read.val_main_v14, Cert.AdamFfnInRefIdeal.Read.val_main_cst_5, Cert.AdamFfnInRefIdeal.Read.val_main_v13, Cert.AdamFfnInRefIdeal.Read.val_main_v12, Cert.AdamFfnInRefIdeal.Read.val_main_cst_4, Cert.AdamFfnInRefIdeal.Read.val_main_v11, Cert.AdamFfnInRefIdeal.Read.val_main_v10, Cert.AdamFfnInRefIdeal.Read.val_main_v9, Cert.AdamFfnInRefIdeal.Read.val_main_cst_3, Cert.AdamFfnInRefIdeal.Read.val_main_v8, Cert.AdamFfnInRefIdeal.Read.val_main_v7, Cert.AdamFfnInRefIdeal.Read.val_main_v6, Cert.AdamFfnInRefIdeal.Read.val_main_cst_2, Cert.AdamFfnInRefIdeal.Read.val_main_v5, Cert.AdamFfnInRefIdeal.Read.val_main_v4, Cert.AdamFfnInRefIdeal.Read.val_main_v3, Cert.AdamFfnInRefIdeal.Read.val_main_cst_1, Cert.AdamFfnInRefIdeal.Read.val_main_v2, Cert.AdamFfnInRefIdeal.Read.val_main_v1, Cert.AdamFfnInRefIdeal.Read.val_main_cst_0, Cert.AdamFfnInRefIdeal.Read.val_main_v0, Cert.AdamFfnInRefIdeal.Read.val_main_cst, dif_neg h, int_zero, second_zero]

theorem after7 (c : Dev nD) : (dats m 0 c).arrAt 7 (cfgs 0).N = Cert.AdamFfnInRefIdeal.Read.val_main_v32 (F := Ideal) (aV m c) (aP m c) := by
  refine (dats m 0 c).arrAt_eq_of_covers 7 _ (by decide +kernel) fun t hf y => ?_
  blk_simp
  rw [after0_7]
  idx_vars y
  refine (block7 m c t _ _).trans ((ref7 _ _ (ri t _) _).symm.trans ?_)
  blk_ext [idx t, ri]

/-- The kernel and the reference end with the same four arrays. -/
theorem algebraic : Cert.algebraic_AdamFfnInIdeal_AdamFfnInRefIdeal := by
  intro m g m' g' _ hagree
  refine ⟨_, _, _, _, Cert.AdamFfnInIdeal.Value.run_blocks m g, (θ_run _ _ _).mono (fun r h c => ?_) (Cert.AdamFfnInRefIdeal.Value.run m' g')⟩
  obtain ⟨r0, r1, r2, r3, k⟩ := h c
  obtain ⟨h0, h1, h2, h3⟩ := hagree c
  refine ⟨r0.trans ?_, r1.trans ?_, r2.trans ?_, r3.trans ?_, k⟩
  · refine (Cert.AdamFfnInRefIdeal.Read.val_main_v29_eq _).trans (Eq.trans ?_ (after4 m c).symm)
    exact congrArg (fun p => Cert.AdamFfnInRefIdeal.Read.val_main_v29 (F := Ideal) p) h3
  · refine (Cert.AdamFfnInRefIdeal.Read.val_main_v30_eq _ _ _ _).trans (Eq.trans ?_ (after5 m c).symm)
    exact congr (congr (congr (congrArg (fun x y z p => Cert.AdamFfnInRefIdeal.Read.val_main_v30 (F := Ideal) x y z p) h0) h1) h2) h3
  · refine (Cert.AdamFfnInRefIdeal.Read.val_main_v31_eq _ _).trans (Eq.trans ?_ (after6 m c).symm)
    exact congrArg₂ (fun x y => Cert.AdamFfnInRefIdeal.Read.val_main_v31 (F := Ideal) x y) h1 h3
  · refine (Cert.AdamFfnInRefIdeal.Read.val_main_v32_eq _ _).trans (Eq.trans ?_ (after7 m c).symm)
    exact congrArg₂ (fun x y => Cert.AdamFfnInRefIdeal.Read.val_main_v32 (F := Ideal) x y) h2 h3

/-- The reference returns with its arguments kept; it has no counters. -/
theorem refFrame : Cert.quiescent_AdamFfnInRefIdeal := by
  intro m g _
  refine (θ_run _ _ _).mono (fun r h => ⟨fun c => ?_, sem_eq_zero_of_no_sems (by decide) _⟩) (Cert.AdamFfnInRefIdeal.Value.run m g)
  obtain ⟨_, _, _, _, k⟩ := h c
  exact k

end Cert.Adam.AdamFfnIn

end
-- ==== Proof.AdamFfnOut.lean ====
/- The optimiser's update of the weight of the feed forward network's second product. -/
module

public import proofs.«01_k».proof.Defs
public import proofs.«01_k».proof.Proof.Gen.AdamFfnOut.Frame
public import proofs.«01_k».proof.Proof.Gen.AdamFfnOutIdeal.Value
public import proofs.«01_k».proof.Proof.Gen.AdamFfnOutRefIdeal.Run
public import proofs.«01_k».proof.Proof.Gen.AdamFfnOutRefIdeal.Read
public import proofs.«01_k».proof.Proof.Adam
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Adam.AdamFfnOut
open Cert.AdamFfnOutIdeal Cert.AdamFfnOutIdeal.Gen

variable (m : (ℓ : Loc nD τ sig) → Buf (Elt Ideal) ℓ)

/-- The four arguments: the weight, its two moments, the parts of its gradient. -/
abbrev aW (c : Dev nD) : FVec Ideal S4x352x1024 .f32 := m ((c : Thread nD τ).loc main_arg0)
abbrev aM (c : Dev nD) : FVec Ideal S4x352x1024 .f32 := m ((c : Thread nD τ).loc main_arg1)
abbrev aV (c : Dev nD) : FVec Ideal S4x352x1024 .f32 := m ((c : Thread nD τ).loc main_arg2)
abbrev aP (c : Dev nD) : FVec Ideal S8x4x352x1024 .f32 := m ((c : Thread nD τ).loc main_arg3)

/-- An argument's entry in the layout of rows the update runs over. -/
def wide (a : FVec Ideal S4x352x1024 .f32) (i : Fin 1408) (j : Fin 1024) : EReal :=
  a (ix3 ⟨i.val / 352, by have := i.isLt; omega⟩ ⟨i.val % 352, by have := i.isLt; omega⟩ j)
def wideP (p : FVec Ideal S8x4x352x1024 .f32) (k : Fin 8) (i : Fin 1408) (j : Fin 1024) : EReal :=
  p (ix4 k ⟨i.val / 352, by have := i.isLt; omega⟩ ⟨i.val % 352, by have := i.isLt; omega⟩ j)

/-- The summed gradient. -/
def grad (p : FVec Ideal S8x4x352x1024 .f32) (i : Fin 1408) (j : Fin 1024) : EReal := ∑ k : Fin 8, wideP p k i j

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lim (t : Fin cfg0.N) : t.val < 4 := lt_of_lt_of_eq t.isLt N_0

/-- The row of the whole array that a row of a block is. -/
def ri (t : Fin cfg0.N) (r : Fin 352) : Fin 1408 := ⟨352 * t.val + r.val, by have := lim t; have := r.isLt; omega⟩

theorem hostW (c : Dev nD) (i : Fin 1408) (j : Fin 1024) :
    (V m c main_v3 : FVec Ideal S1408x1024 .f32) (ix2 i j) = wide (aW m c) i j := by
  simp only [V, hostOps0, hostOps0_1, hostOps0_2, hostOps0_3, hostOps0_4, hostOps0_5, List.flatten_cons, List.flatten_nil, List.append_nil, List.cons_append, List.nil_append]
  entry_read
  show (pad S1408x1024 ![0, 0] ![0, 0] ![0, 0] (shapeCast S1408x1024 (aW m c) shapeCasts_S4x352x1024_S1408x1024)
    (sitofp .f32 (constantI S_ 32 0#32) : FVec Ideal S_ .f32) pads_S1408x1024_S1408x1024_000_000 h_S_) (ix2 i j) = _
  unfold wide
  pointwise

theorem hostM (c : Dev nD) (i : Fin 1408) (j : Fin 1024) :
    (V m c main_v5 : FVec Ideal S1408x1024 .f32) (ix2 i j) = wide (aM m c) i j := by
  simp only [V, hostOps0, hostOps0_1, hostOps0_2, hostOps0_3, hostOps0_4, hostOps0_5, List.flatten_cons, List.flatten_nil, List.append_nil, List.cons_append, List.nil_append]
  entry_read
  show (pad S1408x1024 ![0, 0] ![0, 0] ![0, 0] (shapeCast S1408x1024 (aM m c) shapeCasts_S4x352x1024_S1408x1024)
    (sitofp .f32 (constantI S_ 32 0#32) : FVec Ideal S_ .f32) pads_S1408x1024_S1408x1024_000_000 h_S_) (ix2 i j) = _
  unfold wide
  pointwise

theorem hostV (c : Dev nD) (i : Fin 1408) (j : Fin 1024) :
    (V m c main_v7 : FVec Ideal S1408x1024 .f32) (ix2 i j) = wide (aV m c) i j := by
  simp only [V, hostOps0, hostOps0_1, hostOps0_2, hostOps0_3, hostOps0_4, hostOps0_5, List.flatten_cons, List.flatten_nil, List.append_nil, List.cons_append, List.nil_append]
  entry_read
  show (pad S1408x1024 ![0, 0] ![0, 0] ![0, 0] (shapeCast S1408x1024 (aV m c) shapeCasts_S4x352x1024_S1408x1024)
    (sitofp .f32 (constantI S_ 32 0#32) : FVec Ideal S_ .f32) pads_S1408x1024_S1408x1024_000_000 h_S_) (ix2 i j) = _
  unfold wide
  pointwise

theorem hostP (c : Dev nD) (k : Fin 8) (i : Fin 1408) (j : Fin 1024) :
    (V m c main_v1 : FVec Ideal S8x1408x1024 .bf16) (ix3 k i j) = wideP (aP m c) k i j := by
  simp only [V, hostOps0, hostOps0_1, hostOps0_2, hostOps0_3, hostOps0_4, hostOps0_5, List.flatten_cons, List.flatten_nil, List.append_nil, List.cons_append, List.nil_append]
  entry_read
  unfold wideP
  pointwise

theorem blkW (c : Dev nD) (t : Fin cfg0.N) (r : Fin 352) (q : Fin 1024) :
    (iblk m c 0 t : FVec Ideal S352x1024 .f32) (ix2 r q) = wide (aW m c) (ri t r) q := by
  refine Eq.trans (b := V m c main_v3 (ix2 (ri t r) q)) ?_ (hostW m c _ _)
  blk_ext [iblk, idx t, ri]

theorem blkM (c : Dev nD) (t : Fin cfg0.N) (r : Fin 352) (q : Fin 1024) :
    (iblk m c 1 t : FVec Ideal S352x1024 .f32) (ix2 r q) = wide (aM m c) (ri t r) q := by
  refine Eq.trans (b := V m c main_v5 (ix2 (ri t r) q)) ?_ (hostM m c _ _)
  blk_ext [iblk, idx t, ri]

theorem blkV (c : Dev nD) (t : Fin cfg0.N) (r : Fin 352) (q : Fin 1024) :
    (iblk m c 2 t : FVec Ideal S352x1024 .f32) (ix2 r q) = wide (aV m c) (ri t r) q := by
  refine Eq.trans (b := V m c main_v7 (ix2 (ri t r) q)) ?_ (hostV m c _ _)
  blk_ext [iblk, idx t, ri]

theorem blkP (c : Dev nD) (t : Fin cfg0.N) (k : Fin 8) (r : Fin 352) (q : Fin 1024) :
    (iblk m c 3 t : FVec Ideal S8x352x1024 .bf16) (ix3 k r q) = wideP (aP m c) k (ri t r) q := by
  refine Eq.trans (b := V m c main_v1 (ix3 k (ri t r) q)) ?_ (hostP m c _ _ _)
  blk_ext [iblk, idx t, ri]

theorem out4 (w mm v : FVec Ideal S352x1024 .f32) (p : FVec Ideal S8x352x1024 .bf16) (r : Fin 352) (q : Fin 1024) :
    out0_4 (F := Ideal) w mm v p (ix2 r q) = (∑ k : Fin 8, (p (ix3 k r q) : EReal)) := by
  frame_out
  rw [Fin.sum_univ_eight]
  pointwise [k0_pay1, k0_pay2, k0_pay3, k0_pay4, k0_pay5, k0_pay6, step, first, second]

theorem block4 (c : Dev nD) (t : Fin cfg0.N) (r : Fin 352) (q : Fin 1024) :
    out0_4 (iblk m c 0 t) (iblk m c 1 t) (iblk m c 2 t) (iblk m c 3 t) (ix2 r q)
      = (grad (aP m c) (ri t r) q) := by
  refine (out4 _ _ _ _ r q).trans ?_
  have hp : (@Finset.sum (Fin 8) EReal _ Finset.univ fun k => iblk m c 3 t (ix3 k r q)) = grad (aP m c) (ri t r) q :=
    Finset.sum_congr rfl fun k _ => blkP m c t k r q
  exact hp

theorem out5 (w mm v : FVec Ideal S352x1024 .f32) (p : FVec Ideal S8x352x1024 .bf16) (r : Fin 352) (q : Fin 1024) :
    out0_5 (F := Ideal) w mm v p (ix2 r q) = step (w (ix2 r q)) (mm (ix2 r q)) (v (ix2 r q)) (∑ k : Fin 8, (p (ix3 k r q) : EReal)) := by
  frame_out
  rw [Fin.sum_univ_eight]
  pointwise [k0_pay1, k0_pay2, k0_pay3, k0_pay4, k0_pay5, k0_pay6, step, first, second]

theorem block5 (c : Dev nD) (t : Fin cfg0.N) (r : Fin 352) (q : Fin 1024) :
    out0_5 (iblk m c 0 t) (iblk m c 1 t) (iblk m c 2 t) (iblk m c 3 t) (ix2 r q)
      = step (wide (aW m c) (ri t r) q) (wide (aM m c) (ri t r) q) (wide (aV m c) (ri t r) q) (grad (aP m c) (ri t r) q) := by
  refine (out5 _ _ _ _ r q).trans ?_
  have hp : (@Finset.sum (Fin 8) EReal _ Finset.univ fun k => iblk m c 3 t (ix3 k r q)) = grad (aP m c) (ri t r) q :=
    Finset.sum_congr rfl fun k _ => blkP m c t k r q
  exact congr (congr (congr (congrArg step (blkW m c t r q)) (blkM m c t r q)) (blkV m c t r q)) hp

theorem out6 (w mm v : FVec Ideal S352x1024 .f32) (p : FVec Ideal S8x352x1024 .bf16) (r : Fin 352) (q : Fin 1024) :
    out0_6 (F := Ideal) w mm v p (ix2 r q) = first (mm (ix2 r q)) (∑ k : Fin 8, (p (ix3 k r q) : EReal)) := by
  frame_out
  rw [Fin.sum_univ_eight]
  pointwise [k0_pay1, k0_pay2, k0_pay3, k0_pay4, k0_pay5, k0_pay6, step, first, second]

theorem block6 (c : Dev nD) (t : Fin cfg0.N) (r : Fin 352) (q : Fin 1024) :
    out0_6 (iblk m c 0 t) (iblk m c 1 t) (iblk m c 2 t) (iblk m c 3 t) (ix2 r q)
      = first (wide (aM m c) (ri t r) q) (grad (aP m c) (ri t r) q) := by
  refine (out6 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ first (blkM m c t r q) hp

theorem out7 (w mm v : FVec Ideal S352x1024 .f32) (p : FVec Ideal S8x352x1024 .bf16) (r : Fin 352) (q : Fin 1024) :
    out0_7 (F := Ideal) w mm v p (ix2 r q) = second (v (ix2 r q)) (∑ k : Fin 8, (p (ix3 k r q) : EReal)) := by
  frame_out
  rw [Fin.sum_univ_eight]
  pointwise [k0_pay1, k0_pay2, k0_pay3, k0_pay4, k0_pay5, k0_pay6, step, first, second]

theorem block7 (c : Dev nD) (t : Fin cfg0.N) (r : Fin 352) (q : Fin 1024) :
    out0_7 (iblk m c 0 t) (iblk m c 1 t) (iblk m c 2 t) (iblk m c 3 t) (ix2 r q)
      = second (wide (aV m c) (ri t r) q) (grad (aP m c) (ri t r) q) := by
  refine (out7 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ second (blkV m c t r q) hp

theorem ref4 (p : FVec Ideal S8x4x352x1024 .f32) (i : Fin 1408) (j : Fin 1024) :
    Cert.AdamFfnOutRefIdeal.Read.val_main_v25 (F := Ideal) p (ix2 i j) = (grad p i j) := by
  pointwise [Cert.AdamFfnOutRefIdeal.Read.val_main_v25, Cert.AdamFfnOutRefIdeal.Read.val_main_v24, Cert.AdamFfnOutRefIdeal.Read.val_main_v23, Cert.AdamFfnOutRefIdeal.Read.val_main_cst_8, Cert.AdamFfnOutRefIdeal.Read.val_main_v22, Cert.AdamFfnOutRefIdeal.Read.val_main_v21, Cert.AdamFfnOutRefIdeal.Read.val_main_v20, Cert.AdamFfnOutRefIdeal.Read.val_main_cst_7, Cert.AdamFfnOutRefIdeal.Read.val_main_v19, Cert.AdamFfnOutRefIdeal.Read.val_main_v18, Cert.AdamFfnOutRefIdeal.Read.val_main_v17, Cert.AdamFfnOutRefIdeal.Read.val_main_cst_6, Cert.AdamFfnOutRefIdeal.Read.val_main_v16, Cert.AdamFfnOutRefIdeal.Read.val_main_v15, Cert.AdamFfnOutRefIdeal.Read.val_main_v14, Cert.AdamFfnOutRefIdeal.Read.val_main_cst_5, Cert.AdamFfnOutRefIdeal.Read.val_main_v13, Cert.AdamFfnOutRefIdeal.Read.val_main_v12, Cert.AdamFfnOutRefIdeal.Read.val_main_cst_4, Cert.AdamFfnOutRefIdeal.Read.val_main_v11, Cert.AdamFfnOutRefIdeal.Read.val_main_v10, Cert.AdamFfnOutRefIdeal.Read.val_main_v9, Cert.AdamFfnOutRefIdeal.Read.val_main_cst_3, Cert.AdamFfnOutRefIdeal.Read.val_main_v8, Cert.AdamFfnOutRefIdeal.Read.val_main_v7, Cert.AdamFfnOutRefIdeal.Read.val_main_v6, Cert.AdamFfnOutRefIdeal.Read.val_main_cst_2, Cert.AdamFfnOutRefIdeal.Read.val_main_v5, Cert.AdamFfnOutRefIdeal.Read.val_main_v4, Cert.AdamFfnOutRefIdeal.Read.val_main_v3, Cert.AdamFfnOutRefIdeal.Read.val_main_cst_1, Cert.AdamFfnOutRefIdeal.Read.val_main_v2, Cert.AdamFfnOutRefIdeal.Read.val_main_v1, Cert.AdamFfnOutRefIdeal.Read.val_main_cst_0, Cert.AdamFfnOutRefIdeal.Read.val_main_v0, Cert.AdamFfnOutRefIdeal.Read.val_main_cst, grad, wideP]

theorem after4 (c : Dev nD) : (dats m 0 c).arrAt 4 (cfgs 0).N = Cert.AdamFfnOutRefIdeal.Read.val_main_v25 (F := Ideal) (aP m c) := by
  refine (dats m 0 c).arrAt_eq_of_covers 4 _ (by decide +kernel) fun t hf y => ?_
  blk_simp
  rw [after0_4]
  idx_vars y
  refine (block4 m c t _ _).trans ((ref4 _ (ri t _) _).symm.trans ?_)
  blk_ext [idx t, ri]

theorem ref5 (w : FVec Ideal S4x352x1024 .f32) (mm : FVec Ideal S4x352x1024 .f32) (v : FVec Ideal S4x352x1024 .f32) (p : FVec Ideal S8x4x352x1024 .f32) (i : Fin 1408) (j : Fin 1024) :
    Cert.AdamFfnOutRefIdeal.Read.val_main_v26 (F := Ideal) w mm v p (ix2 i j) = step (wide w i j) (wide mm i j) (wide v i j) (grad p i j) := by
  pointwise [Cert.AdamFfnOutRefIdeal.Read.val_main_v26, Cert.AdamFfnOutRefIdeal.Read.val_main_v25, Cert.AdamFfnOutRefIdeal.Read.val_main_v24, Cert.AdamFfnOutRefIdeal.Read.val_main_v23, Cert.AdamFfnOutRefIdeal.Read.val_main_cst_8, Cert.AdamFfnOutRefIdeal.Read.val_main_v22, Cert.AdamFfnOutRefIdeal.Read.val_main_v21, Cert.AdamFfnOutRefIdeal.Read.val_main_v20, Cert.AdamFfnOutRefIdeal.Read.val_main_cst_7, Cert.AdamFfnOutRefIdeal.Read.val_main_v19, Cert.AdamFfnOutRefIdeal.Read.val_main_v18, Cert.AdamFfnOutRefIdeal.Read.val_main_v17, Cert.AdamFfnOutRefIdeal.Read.val_main_cst_6, Cert.AdamFfnOutRefIdeal.Read.val_main_v16, Cert.AdamFfnOutRefIdeal.Read.val_main_v15, Cert.AdamFfnOutRefIdeal.Read.val_main_v14, Cert.AdamFfnOutRefIdeal.Read.val_main_cst_5, Cert.AdamFfnOutRefIdeal.Read.val_main_v13, Cert.AdamFfnOutRefIdeal.Read.val_main_v12, Cert.AdamFfnOutRefIdeal.Read.val_main_cst_4, Cert.AdamFfnOutRefIdeal.Read.val_main_v11, Cert.AdamFfnOutRefIdeal.Read.val_main_v10, Cert.AdamFfnOutRefIdeal.Read.val_main_v9, Cert.AdamFfnOutRefIdeal.Read.val_main_cst_3, Cert.AdamFfnOutRefIdeal.Read.val_main_v8, Cert.AdamFfnOutRefIdeal.Read.val_main_v7, Cert.AdamFfnOutRefIdeal.Read.val_main_v6, Cert.AdamFfnOutRefIdeal.Read.val_main_cst_2, Cert.AdamFfnOutRefIdeal.Read.val_main_v5, Cert.AdamFfnOutRefIdeal.Read.val_main_v4, Cert.AdamFfnOutRefIdeal.Read.val_main_v3, Cert.AdamFfnOutRefIdeal.Read.val_main_cst_1, Cert.AdamFfnOutRefIdeal.Read.val_main_v2, Cert.AdamFfnOutRefIdeal.Read.val_main_v1, Cert.AdamFfnOutRefIdeal.Read.val_main_cst_0, Cert.AdamFfnOutRefIdeal.Read.val_main_v0, Cert.AdamFfnOutRefIdeal.Read.val_main_cst, step, first, second, grad, wide, wideP]

theorem after5 (c : Dev nD) : (dats m 0 c).arrAt 5 (cfgs 0).N = Cert.AdamFfnOutRefIdeal.Read.val_main_v26 (F := Ideal) (aW m c) (aM m c) (aV m c) (aP m c) := by
  refine (dats m 0 c).arrAt_eq_of_covers 5 _ (by decide +kernel) fun t hf y => ?_
  blk_simp
  rw [after0_5]
  idx_vars y
  refine (block5 m c t _ _).trans ((ref5 _ _ _ _ (ri t _) _).symm.trans ?_)
  blk_ext [idx t, ri]

theorem ref6 (mm : FVec Ideal S4x352x1024 .f32) (p : FVec Ideal S8x4x352x1024 .f32) (i : Fin 1408) (j : Fin 1024) :
    Cert.AdamFfnOutRefIdeal.Read.val_main_v27 (F := Ideal) mm p (ix2 i j) = first (wide mm i j) (grad p i j) := by
  pointwise [Cert.AdamFfnOutRefIdeal.Read.val_main_v27, Cert.AdamFfnOutRefIdeal.Read.val_main_v26, Cert.AdamFfnOutRefIdeal.Read.val_main_v25, Cert.AdamFfnOutRefIdeal.Read.val_main_v24, Cert.AdamFfnOutRefIdeal.Read.val_main_v23, Cert.AdamFfnOutRefIdeal.Read.val_main_cst_8, Cert.AdamFfnOutRefIdeal.Read.val_main_v22, Cert.AdamFfnOutRefIdeal.Read.val_main_v21, Cert.AdamFfnOutRefIdeal.Read.val_main_v20, Cert.AdamFfnOutRefIdeal.Read.val_main_cst_7, Cert.AdamFfnOutRefIdeal.Read.val_main_v19, Cert.AdamFfnOutRefIdeal.Read.val_main_v18, Cert.AdamFfnOutRefIdeal.Read.val_main_v17, Cert.AdamFfnOutRefIdeal.Read.val_main_cst_6, Cert.AdamFfnOutRefIdeal.Read.val_main_v16, Cert.AdamFfnOutRefIdeal.Read.val_main_v15, Cert.AdamFfnOutRefIdeal.Read.val_main_v14, Cert.AdamFfnOutRefIdeal.Read.val_main_cst_5, Cert.AdamFfnOutRefIdeal.Read.val_main_v13, Cert.AdamFfnOutRefIdeal.Read.val_main_v12, Cert.AdamFfnOutRefIdeal.Read.val_main_cst_4, Cert.AdamFfnOutRefIdeal.Read.val_main_v11, Cert.AdamFfnOutRefIdeal.Read.val_main_v10, Cert.AdamFfnOutRefIdeal.Read.val_main_v9, Cert.AdamFfnOutRefIdeal.Read.val_main_cst_3, Cert.AdamFfnOutRefIdeal.Read.val_main_v8, Cert.AdamFfnOutRefIdeal.Read.val_main_v7, Cert.AdamFfnOutRefIdeal.Read.val_main_v6, Cert.AdamFfnOutRefIdeal.Read.val_main_cst_2, Cert.AdamFfnOutRefIdeal.Read.val_main_v5, Cert.AdamFfnOutRefIdeal.Read.val_main_v4, Cert.AdamFfnOutRefIdeal.Read.val_main_v3, Cert.AdamFfnOutRefIdeal.Read.val_main_cst_1, Cert.AdamFfnOutRefIdeal.Read.val_main_v2, Cert.AdamFfnOutRefIdeal.Read.val_main_v1, Cert.AdamFfnOutRefIdeal.Read.val_main_cst_0, Cert.AdamFfnOutRefIdeal.Read.val_main_v0, Cert.AdamFfnOutRefIdeal.Read.val_main_cst, first, grad, wide, wideP]

theorem after6 (c : Dev nD) : (dats m 0 c).arrAt 6 (cfgs 0).N = Cert.AdamFfnOutRefIdeal.Read.val_main_v27 (F := Ideal) (aM m c) (aP m c) := by
  refine (dats m 0 c).arrAt_eq_of_covers 6 _ (by decide +kernel) fun t hf y => ?_
  blk_simp
  rw [after0_6]
  idx_vars y
  refine (block6 m c t _ _).trans ((ref6 _ _ (ri t _) _).symm.trans ?_)
  blk_ext [idx t, ri]

theorem ref7 (v : FVec Ideal S4x352x1024 .f32) (p : FVec Ideal S8x4x352x1024 .f32) (i : Fin 1408) (j : Fin 1024) :
    Cert.AdamFfnOutRefIdeal.Read.val_main_v28 (F := Ideal) v p (ix2 i j) = second (wide v i j) (grad p i j) := by
  pointwise [Cert.AdamFfnOutRefIdeal.Read.val_main_v28, Cert.AdamFfnOutRefIdeal.Read.val_main_v27, Cert.AdamFfnOutRefIdeal.Read.val_main_v26, Cert.AdamFfnOutRefIdeal.Read.val_main_v25, Cert.AdamFfnOutRefIdeal.Read.val_main_v24, Cert.AdamFfnOutRefIdeal.Read.val_main_v23, Cert.AdamFfnOutRefIdeal.Read.val_main_cst_8, Cert.AdamFfnOutRefIdeal.Read.val_main_v22, Cert.AdamFfnOutRefIdeal.Read.val_main_v21, Cert.AdamFfnOutRefIdeal.Read.val_main_v20, Cert.AdamFfnOutRefIdeal.Read.val_main_cst_7, Cert.AdamFfnOutRefIdeal.Read.val_main_v19, Cert.AdamFfnOutRefIdeal.Read.val_main_v18, Cert.AdamFfnOutRefIdeal.Read.val_main_v17, Cert.AdamFfnOutRefIdeal.Read.val_main_cst_6, Cert.AdamFfnOutRefIdeal.Read.val_main_v16, Cert.AdamFfnOutRefIdeal.Read.val_main_v15, Cert.AdamFfnOutRefIdeal.Read.val_main_v14, Cert.AdamFfnOutRefIdeal.Read.val_main_cst_5, Cert.AdamFfnOutRefIdeal.Read.val_main_v13, Cert.AdamFfnOutRefIdeal.Read.val_main_v12, Cert.AdamFfnOutRefIdeal.Read.val_main_cst_4, Cert.AdamFfnOutRefIdeal.Read.val_main_v11, Cert.AdamFfnOutRefIdeal.Read.val_main_v10, Cert.AdamFfnOutRefIdeal.Read.val_main_v9, Cert.AdamFfnOutRefIdeal.Read.val_main_cst_3, Cert.AdamFfnOutRefIdeal.Read.val_main_v8, Cert.AdamFfnOutRefIdeal.Read.val_main_v7, Cert.AdamFfnOutRefIdeal.Read.val_main_v6, Cert.AdamFfnOutRefIdeal.Read.val_main_cst_2, Cert.AdamFfnOutRefIdeal.Read.val_main_v5, Cert.AdamFfnOutRefIdeal.Read.val_main_v4, Cert.AdamFfnOutRefIdeal.Read.val_main_v3, Cert.AdamFfnOutRefIdeal.Read.val_main_cst_1, Cert.AdamFfnOutRefIdeal.Read.val_main_v2, Cert.AdamFfnOutRefIdeal.Read.val_main_v1, Cert.AdamFfnOutRefIdeal.Read.val_main_cst_0, Cert.AdamFfnOutRefIdeal.Read.val_main_v0, Cert.AdamFfnOutRefIdeal.Read.val_main_cst, second, grad, wide, wideP]

theorem after7 (c : Dev nD) : (dats m 0 c).arrAt 7 (cfgs 0).N = Cert.AdamFfnOutRefIdeal.Read.val_main_v28 (F := Ideal) (aV m c) (aP m c) := by
  refine (dats m 0 c).arrAt_eq_of_covers 7 _ (by decide +kernel) fun t hf y => ?_
  blk_simp
  rw [after0_7]
  idx_vars y
  refine (block7 m c t _ _).trans ((ref7 _ _ (ri t _) _).symm.trans ?_)
  blk_ext [idx t, ri]

/-- The kernel and the reference end with the same four arrays. -/
theorem algebraic : Cert.algebraic_AdamFfnOutIdeal_AdamFfnOutRefIdeal := by
  intro m g m' g' _ hagree
  refine ⟨_, _, _, _, Cert.AdamFfnOutIdeal.Value.run_blocks m g, (θ_run _ _ _).mono (fun r h c => ?_) (Cert.AdamFfnOutRefIdeal.Value.run m' g')⟩
  obtain ⟨r0, r1, r2, r3, k⟩ := h c
  obtain ⟨h0, h1, h2, h3⟩ := hagree c
  refine ⟨r0.trans ?_, r1.trans ?_, r2.trans ?_, r3.trans ?_, k⟩
  · refine (Cert.AdamFfnOutRefIdeal.Read.val_main_v25_eq _).trans (Eq.trans ?_ (after4 m c).symm)
    exact congrArg (fun p => Cert.AdamFfnOutRefIdeal.Read.val_main_v25 (F := Ideal) p) h3
  · refine (Cert.AdamFfnOutRefIdeal.Read.val_main_v26_eq _ _ _ _).trans (Eq.trans ?_ (after5 m c).symm)
    exact congr (congr (congr (congrArg (fun x y z p => Cert.AdamFfnOutRefIdeal.Read.val_main_v26 (F := Ideal) x y z p) h0) h1) h2) h3
  · refine (Cert.AdamFfnOutRefIdeal.Read.val_main_v27_eq _ _).trans (Eq.trans ?_ (after6 m c).symm)
    exact congrArg₂ (fun x y => Cert.AdamFfnOutRefIdeal.Read.val_main_v27 (F := Ideal) x y) h1 h3
  · refine (Cert.AdamFfnOutRefIdeal.Read.val_main_v28_eq _ _).trans (Eq.trans ?_ (after7 m c).symm)
    exact congrArg₂ (fun x y => Cert.AdamFfnOutRefIdeal.Read.val_main_v28 (F := Ideal) x y) h2 h3

/-- The reference returns with its arguments kept; it has no counters. -/
theorem refFrame : Cert.quiescent_AdamFfnOutRefIdeal := by
  intro m g _
  refine (θ_run _ _ _).mono (fun r h => ⟨fun c => ?_, sem_eq_zero_of_no_sems (by decide) _⟩) (Cert.AdamFfnOutRefIdeal.Value.run m g)
  obtain ⟨_, _, _, _, k⟩ := h c
  exact k

end Cert.Adam.AdamFfnOut

end
-- ==== Proof.AdamConv.lean ====
/- The optimiser's update of the weight of the short convolution. -/
module

public import proofs.«01_k».proof.Defs
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Proof.Adam
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Adam.AdamConv
open Cert.AdamConvIdeal Cert.AdamConvIdeal.Gen

variable (m : (ℓ : Loc nD τ sig) → Buf (Elt Ideal) ℓ)

/-- The four arguments: the weight, its two moments, the parts of its gradient. -/
abbrev aW (c : Dev nD) : FVec Ideal S4x4x192 .f32 := m ((c : Thread nD τ).loc main_arg0)
abbrev aM (c : Dev nD) : FVec Ideal S4x4x192 .f32 := m ((c : Thread nD τ).loc main_arg1)
abbrev aV (c : Dev nD) : FVec Ideal S4x4x192 .f32 := m ((c : Thread nD τ).loc main_arg2)
abbrev aP (c : Dev nD) : FVec Ideal S8x4x4x192 .f32 := m ((c : Thread nD τ).loc main_arg3)

/-- An argument's entry in the layout of rows the update runs over. -/
def wide (a : FVec Ideal S4x4x192 .f32) (i : Fin 16) (j : Fin 256) : EReal :=
  if h : j.val < 192 then a (ix3 ⟨i.val / 4, by have := i.isLt; omega⟩ ⟨i.val % 4, by have := i.isLt; omega⟩ ⟨j.val, h⟩) else 0
def wideP (p : FVec Ideal S8x4x4x192 .f32) (k : Fin 8) (i : Fin 16) (j : Fin 256) : EReal :=
  if h : j.val < 192 then p (ix4 k ⟨i.val / 4, by have := i.isLt; omega⟩ ⟨i.val % 4, by have := i.isLt; omega⟩ ⟨j.val, h⟩) else 0

/-- The summed gradient. -/
def grad (p : FVec Ideal S8x4x4x192 .f32) (i : Fin 16) (j : Fin 256) : EReal := ∑ k : Fin 8, wideP p k i j

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lim (t : Fin cfg0.N) : t.val < 1 := lt_of_lt_of_eq t.isLt N_0

/-- The row of the whole array that a row of a block is. -/
def ri (t : Fin cfg0.N) (r : Fin 16) : Fin 16 := ⟨16 * t.val + r.val, by have := lim t; have := r.isLt; omega⟩

theorem hostW (c : Dev nD) (i : Fin 16) (j : Fin 256) :
    (V m c main_v3 : FVec Ideal S16x256 .f32) (ix2 i j) = wide (aW m c) i j := by
  simp only [V, hostOps0, hostOps0_1, hostOps0_2, hostOps0_3, hostOps0_4, hostOps0_5, hostOps0_6, hostOps0_7, List.flatten_cons, List.flatten_nil, List.append_nil, List.cons_append, List.nil_append]
  entry_read
  show (pad S16x256 ![0, 0] ![0, 64] ![0, 0] (shapeCast S16x192 (aW m c) shapeCasts_S4x4x192_S16x192)
    (sitofp .f32 (constantI S_ 32 0#32) : FVec Ideal S_ .f32) pads_S16x192_S16x256_000_0640 h_S_) (ix2 i j) = _
  unfold wide
  pointwise [int_zero]

theorem hostM (c : Dev nD) (i : Fin 16) (j : Fin 256) :
    (V m c main_v5 : FVec Ideal S16x256 .f32) (ix2 i j) = wide (aM m c) i j := by
  simp only [V, hostOps0, hostOps0_1, hostOps0_2, hostOps0_3, hostOps0_4, hostOps0_5, hostOps0_6, hostOps0_7, List.flatten_cons, List.flatten_nil, List.append_nil, List.cons_append, List.nil_append]
  entry_read
  show (pad S16x256 ![0, 0] ![0, 64] ![0, 0] (shapeCast S16x192 (aM m c) shapeCasts_S4x4x192_S16x192)
    (sitofp .f32 (constantI S_ 32 0#32) : FVec Ideal S_ .f32) pads_S16x192_S16x256_000_0640 h_S_) (ix2 i j) = _
  unfold wide
  pointwise [int_zero]

theorem hostV (c : Dev nD) (i : Fin 16) (j : Fin 256) :
    (V m c main_v7 : FVec Ideal S16x256 .f32) (ix2 i j) = wide (aV m c) i j := by
  simp only [V, hostOps0, hostOps0_1, hostOps0_2, hostOps0_3, hostOps0_4, hostOps0_5, hostOps0_6, hostOps0_7, List.flatten_cons, List.flatten_nil, List.append_nil, List.cons_append, List.nil_append]
  entry_read
  show (pad S16x256 ![0, 0] ![0, 64] ![0, 0] (shapeCast S16x192 (aV m c) shapeCasts_S4x4x192_S16x192)
    (sitofp .f32 (constantI S_ 32 0#32) : FVec Ideal S_ .f32) pads_S16x192_S16x256_000_0640 h_S_) (ix2 i j) = _
  unfold wide
  pointwise [int_zero]

theorem hostP (c : Dev nD) (k : Fin 8) (i : Fin 16) (j : Fin 256) :
    (V m c main_v1 : FVec Ideal S8x16x256 .f32) (ix3 k i j) = wideP (aP m c) k i j := by
  simp only [V, hostOps0, hostOps0_1, hostOps0_2, hostOps0_3, hostOps0_4, hostOps0_5, hostOps0_6, hostOps0_7, List.flatten_cons, List.flatten_nil, List.append_nil, List.cons_append, List.nil_append]
  entry_read
  show (shapeCast S8x16x256 (pad S8x4x4x256 ![0, 0, 0, 0] ![0, 0, 0, 64] ![0, 0, 0, 0] (aP m c)
    (sitofp .f32 (constantI S_ 32 0#32) : FVec Ideal S_ .f32) pads_S8x4x4x192_S8x4x4x256_000_000_000_0640 h_S_) shapeCasts_S8x4x4x256_S8x16x256) (ix3 k i j) = _
  unfold wideP
  pointwise [int_zero]
  have h1 : i.val / 4 < 4 := by have := i.isLt; omega
  have h2 : i.val % 4 < 4 := by omega
  by_cases h : j.val < 192 <;> simp [h, h1, h2]

theorem blkW (c : Dev nD) (t : Fin cfg0.N) (r : Fin 16) (q : Fin 256) :
    (iblk m c 0 t : FVec Ideal S16x256 .f32) (ix2 r q) = wide (aW m c) (ri t r) q := by
  refine Eq.trans (b := V m c main_v3 (ix2 (ri t r) q)) ?_ (hostW m c _ _)
  blk_ext [iblk, idx t, ri]

theorem blkM (c : Dev nD) (t : Fin cfg0.N) (r : Fin 16) (q : Fin 256) :
    (iblk m c 1 t : FVec Ideal S16x256 .f32) (ix2 r q) = wide (aM m c) (ri t r) q := by
  refine Eq.trans (b := V m c main_v5 (ix2 (ri t r) q)) ?_ (hostM m c _ _)
  blk_ext [iblk, idx t, ri]

theorem blkV (c : Dev nD) (t : Fin cfg0.N) (r : Fin 16) (q : Fin 256) :
    (iblk m c 2 t : FVec Ideal S16x256 .f32) (ix2 r q) = wide (aV m c) (ri t r) q := by
  refine Eq.trans (b := V m c main_v7 (ix2 (ri t r) q)) ?_ (hostV m c _ _)
  blk_ext [iblk, idx t, ri]

theorem blkP (c : Dev nD) (t : Fin cfg0.N) (k : Fin 8) (r : Fin 16) (q : Fin 256) :
    (iblk m c 3 t : FVec Ideal S8x16x256 .f32) (ix3 k r q) = wideP (aP m c) k (ri t r) q := by
  refine Eq.trans (b := V m c main_v1 (ix3 k (ri t r) q)) ?_ (hostP m c _ _ _)
  blk_ext [iblk, idx t, ri]

theorem out4 (w mm v : FVec Ideal S16x256 .f32) (p : FVec Ideal S8x16x256 .f32) (r : Fin 16) (q : Fin 256) :
    out0_4 (F := Ideal) w mm v p (ix2 r q) = (∑ k : Fin 8, (p (ix3 k r q) : EReal)) := by
  frame_out
  rw [Fin.sum_univ_eight]
  pointwise [k0_pay1, k0_pay2, k0_pay3, k0_pay4, k0_pay5, k0_pay6, k0_pay7, k0_pay8, step, first, second]

theorem block4 (c : Dev nD) (t : Fin cfg0.N) (r : Fin 16) (q : Fin 256) :
    out0_4 (iblk m c 0 t) (iblk m c 1 t) (iblk m c 2 t) (iblk m c 3 t) (ix2 r q)
      = (grad (aP m c) (ri t r) q) := by
  refine (out4 _ _ _ _ r q).trans ?_
  have hp : (@Finset.sum (Fin 8) EReal _ Finset.univ fun k => iblk m c 3 t (ix3 k r q)) = grad (aP m c) (ri t r) q :=
    Finset.sum_congr rfl fun k _ => blkP m c t k r q
  exact hp

theorem out5 (w mm v : FVec Ideal S16x256 .f32) (p : FVec Ideal S8x16x256 .f32) (r : Fin 16) (q : Fin 256) :
    out0_5 (F := Ideal) w mm v p (ix2 r q) = step (w (ix2 r q)) (mm (ix2 r q)) (v (ix2 r q)) (∑ k : Fin 8, (p (ix3 k r q) : EReal)) := by
  frame_out
  rw [Fin.sum_univ_eight]
  pointwise [k0_pay1, k0_pay2, k0_pay3, k0_pay4, k0_pay5, k0_pay6, k0_pay7, k0_pay8, step, first, second]

theorem block5 (c : Dev nD) (t : Fin cfg0.N) (r : Fin 16) (q : Fin 256) :
    out0_5 (iblk m c 0 t) (iblk m c 1 t) (iblk m c 2 t) (iblk m c 3 t) (ix2 r q)
      = step (wide (aW m c) (ri t r) q) (wide (aM m c) (ri t r) q) (wide (aV m c) (ri t r) q) (grad (aP m c) (ri t r) q) := by
  refine (out5 _ _ _ _ r q).trans ?_
  have hp : (@Finset.sum (Fin 8) EReal _ Finset.univ fun k => iblk m c 3 t (ix3 k r q)) = grad (aP m c) (ri t r) q :=
    Finset.sum_congr rfl fun k _ => blkP m c t k r q
  exact congr (congr (congr (congrArg step (blkW m c t r q)) (blkM m c t r q)) (blkV m c t r q)) hp

theorem out6 (w mm v : FVec Ideal S16x256 .f32) (p : FVec Ideal S8x16x256 .f32) (r : Fin 16) (q : Fin 256) :
    out0_6 (F := Ideal) w mm v p (ix2 r q) = first (mm (ix2 r q)) (∑ k : Fin 8, (p (ix3 k r q) : EReal)) := by
  frame_out
  rw [Fin.sum_univ_eight]
  pointwise [k0_pay1, k0_pay2, k0_pay3, k0_pay4, k0_pay5, k0_pay6, k0_pay7, k0_pay8, step, first, second]

theorem block6 (c : Dev nD) (t : Fin cfg0.N) (r : Fin 16) (q : Fin 256) :
    out0_6 (iblk m c 0 t) (iblk m c 1 t) (iblk m c 2 t) (iblk m c 3 t) (ix2 r q)
      = first (wide (aM m c) (ri t r) q) (grad (aP m c) (ri t r) q) := by
  refine (out6 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ first (blkM m c t r q) hp

theorem out7 (w mm v : FVec Ideal S16x256 .f32) (p : FVec Ideal S8x16x256 .f32) (r : Fin 16) (q : Fin 256) :
    out0_7 (F := Ideal) w mm v p (ix2 r q) = second (v (ix2 r q)) (∑ k : Fin 8, (p (ix3 k r q) : EReal)) := by
  frame_out
  rw [Fin.sum_univ_eight]
  pointwise [k0_pay1, k0_pay2, k0_pay3, k0_pay4, k0_pay5, k0_pay6, k0_pay7, k0_pay8, step, first, second]

theorem block7 (c : Dev nD) (t : Fin cfg0.N) (r : Fin 16) (q : Fin 256) :
    out0_7 (iblk m c 0 t) (iblk m c 1 t) (iblk m c 2 t) (iblk m c 3 t) (ix2 r q)
      = second (wide (aV m c) (ri t r) q) (grad (aP m c) (ri t r) q) := by
  refine (out7 _ _ _ _ r q).trans ?_
  have hp : (@Finset.sum (Fin 8) EReal _ Finset.univ fun k => iblk m c 3 t (ix3 k r q)) = grad (aP m c) (ri t r) q :=
    Finset.sum_congr rfl fun k _ => blkP m c t k r q
  exact congrArg₂ second (blkV m c t r q) hp

theorem ref4 (p : FVec Ideal S8x4x4x192 .f32) (i : Fin 16) (j : Fin 256) :
    Cert.AdamConvRefIdeal.Read.val_main_v29 (F := Ideal) p (ix2 i j) = (grad p i j) := by
  by_cases h : j.val < 192
  · simp only [grad, wideP, dif_pos h]
    pointwise [Cert.AdamConvRefIdeal.Read.val_main_v29, Cert.AdamConvRefIdeal.Read.val_main_call0_v0, Cert.AdamConvRefIdeal.Read.val_main_c, Cert.AdamConvRefIdeal.Read.val_main_v28, Cert.AdamConvRefIdeal.Read.val_main_v27, Cert.AdamConvRefIdeal.Read.val_main_v26, Cert.AdamConvRefIdeal.Read.val_main_v25, Cert.AdamConvRefIdeal.Read.val_main_v24, Cert.AdamConvRefIdeal.Read.val_main_v23, Cert.AdamConvRefIdeal.Read.val_main_cst_8, Cert.AdamConvRefIdeal.Read.val_main_v22, Cert.AdamConvRefIdeal.Read.val_main_v21, Cert.AdamConvRefIdeal.Read.val_main_v20, Cert.AdamConvRefIdeal.Read.val_main_cst_7, Cert.AdamConvRefIdeal.Read.val_main_v19, Cert.AdamConvRefIdeal.Read.val_main_v18, Cert.AdamConvRefIdeal.Read.val_main_v17, Cert.AdamConvRefIdeal.Read.val_main_cst_6, Cert.AdamConvRefIdeal.Read.val_main_v16, Cert.AdamConvRefIdeal.Read.val_main_v15, Cert.AdamConvRefIdeal.Read.val_main_v14, Cert.AdamConvRefIdeal.Read.val_main_cst_5, Cert.AdamConvRefIdeal.Read.val_main_v13, Cert.AdamConvRefIdeal.Read.val_main_v12, Cert.AdamConvRefIdeal.Read.val_main_cst_4, Cert.AdamConvRefIdeal.Read.val_main_v11, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v7, Cert.AdamConvRefIdeal.Read.val_main_v6, Cert.AdamConvRefIdeal.Read.val_main_cst_2, Cert.AdamConvRefIdeal.Read.val_main_v5, Cert.AdamConvRefIdeal.Read.val_main_v4, Cert.AdamConvRefIdeal.Read.val_main_v3, Cert.AdamConvRefIdeal.Read.val_main_cst_1, Cert.AdamConvRefIdeal.Read.val_main_v2, Cert.AdamConvRefIdeal.Read.val_main_v1, Cert.AdamConvRefIdeal.Read.val_main_cst_0, Cert.AdamConvRefIdeal.Read.val_main_v0, Cert.AdamConvRefIdeal.Read.val_main_cst, dif_pos h]
  · simp only [grad, wideP, dif_neg h, Finset.sum_const_zero]
    pointwise [Cert.AdamConvRefIdeal.Read.val_main_v29, Cert.AdamConvRefIdeal.Read.val_main_call0_v0, Cert.AdamConvRefIdeal.Read.val_main_c, Cert.AdamConvRefIdeal.Read.val_main_v28, Cert.AdamConvRefIdeal.Read.val_main_v27, Cert.AdamConvRefIdeal.Read.val_main_v26, Cert.AdamConvRefIdeal.Read.val_main_v25, Cert.AdamConvRefIdeal.Read.val_main_v24, Cert.AdamConvRefIdeal.Read.val_main_v23, Cert.AdamConvRefIdeal.Read.val_main_cst_8, Cert.AdamConvRefIdeal.Read.val_main_v22, Cert.AdamConvRefIdeal.Read.val_main_v21, Cert.AdamConvRefIdeal.Read.val_main_v20, Cert.AdamConvRefIdeal.Read.val_main_cst_7, Cert.AdamConvRefIdeal.Read.val_main_v19, Cert.AdamConvRefIdeal.Read.val_main_v18, Cert.AdamConvRefIdeal.Read.val_main_v17, Cert.AdamConvRefIdeal.Read.val_main_cst_6, Cert.AdamConvRefIdeal.Read.val_main_v16, Cert.AdamConvRefIdeal.Read.val_main_v15, Cert.AdamConvRefIdeal.Read.val_main_v14, Cert.AdamConvRefIdeal.Read.val_main_cst_5, Cert.AdamConvRefIdeal.Read.val_main_v13, Cert.AdamConvRefIdeal.Read.val_main_v12, Cert.AdamConvRefIdeal.Read.val_main_cst_4, Cert.AdamConvRefIdeal.Read.val_main_v11, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v7, Cert.AdamConvRefIdeal.Read.val_main_v6, Cert.AdamConvRefIdeal.Read.val_main_cst_2, Cert.AdamConvRefIdeal.Read.val_main_v5, Cert.AdamConvRefIdeal.Read.val_main_v4, Cert.AdamConvRefIdeal.Read.val_main_v3, Cert.AdamConvRefIdeal.Read.val_main_cst_1, Cert.AdamConvRefIdeal.Read.val_main_v2, Cert.AdamConvRefIdeal.Read.val_main_v1, Cert.AdamConvRefIdeal.Read.val_main_cst_0, Cert.AdamConvRefIdeal.Read.val_main_v0, Cert.AdamConvRefIdeal.Read.val_main_cst, dif_neg h, int_zero]

theorem after4 (c : Dev nD) : (dats m 0 c).arrAt 4 (cfgs 0).N = Cert.AdamConvRefIdeal.Read.val_main_v29 (F := Ideal) (aP m c) := by
  refine (dats m 0 c).arrAt_eq_of_covers 4 _ (by decide +kernel) fun t hf y => ?_
  blk_simp
  rw [after0_4]
  idx_vars y
  refine (block4 m c t _ _).trans ((ref4 _ (ri t _) _).symm.trans ?_)
  blk_ext [idx t, ri]

theorem ref5 (w : FVec Ideal S4x4x192 .f32) (mm : FVec Ideal S4x4x192 .f32) (v : FVec Ideal S4x4x192 .f32) (p : FVec Ideal S8x4x4x192 .f32) (i : Fin 16) (j : Fin 256) :
    Cert.AdamConvRefIdeal.Read.val_main_v30 (F := Ideal) w mm v p (ix2 i j) = step (wide w i j) (wide mm i j) (wide v i j) (grad p i j) := by
  by_cases h : j.val < 192
  · simp only [grad, wideP, wide, dif_pos h]
    pointwise [Cert.AdamConvRefIdeal.Read.val_main_v30, Cert.AdamConvRefIdeal.Read.val_main_call1_v0, Cert.AdamConvRefIdeal.Read.val_main_c_9, Cert.AdamConvRefIdeal.Read.val_main_v29, Cert.AdamConvRefIdeal.Read.val_main_call0_v0, Cert.AdamConvRefIdeal.Read.val_main_c, Cert.AdamConvRefIdeal.Read.val_main_v28, Cert.AdamConvRefIdeal.Read.val_main_v27, Cert.AdamConvRefIdeal.Read.val_main_v26, Cert.AdamConvRefIdeal.Read.val_main_v25, Cert.AdamConvRefIdeal.Read.val_main_v24, Cert.AdamConvRefIdeal.Read.val_main_v23, Cert.AdamConvRefIdeal.Read.val_main_cst_8, Cert.AdamConvRefIdeal.Read.val_main_v22, Cert.AdamConvRefIdeal.Read.val_main_v21, Cert.AdamConvRefIdeal.Read.val_main_v20, Cert.AdamConvRefIdeal.Read.val_main_cst_7, Cert.AdamConvRefIdeal.Read.val_main_v19, Cert.AdamConvRefIdeal.Read.val_main_v18, Cert.AdamConvRefIdeal.Read.val_main_v17, Cert.AdamConvRefIdeal.Read.val_main_cst_6, Cert.AdamConvRefIdeal.Read.val_main_v16, Cert.AdamConvRefIdeal.Read.val_main_v15, Cert.AdamConvRefIdeal.Read.val_main_v14, Cert.AdamConvRefIdeal.Read.val_main_cst_5, Cert.AdamConvRefIdeal.Read.val_main_v13, Cert.AdamConvRefIdeal.Read.val_main_v12, Cert.AdamConvRefIdeal.Read.val_main_cst_4, Cert.AdamConvRefIdeal.Read.val_main_v11, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v7, Cert.AdamConvRefIdeal.Read.val_main_v6, Cert.AdamConvRefIdeal.Read.val_main_cst_2, Cert.AdamConvRefIdeal.Read.val_main_v5, Cert.AdamConvRefIdeal.Read.val_main_v4, Cert.AdamConvRefIdeal.Read.val_main_v3, Cert.AdamConvRefIdeal.Read.val_main_cst_1, Cert.AdamConvRefIdeal.Read.val_main_v2, Cert.AdamConvRefIdeal.Read.val_main_v1, Cert.AdamConvRefIdeal.Read.val_main_cst_0, Cert.AdamConvRefIdeal.Read.val_main_v0, Cert.AdamConvRefIdeal.Read.val_main_cst, dif_pos h, step, first, second]
  · simp only [grad, wideP, wide, dif_neg h, Finset.sum_const_zero]
    pointwise [Cert.AdamConvRefIdeal.Read.val_main_v30, Cert.AdamConvRefIdeal.Read.val_main_call1_v0, Cert.AdamConvRefIdeal.Read.val_main_c_9, Cert.AdamConvRefIdeal.Read.val_main_v29, Cert.AdamConvRefIdeal.Read.val_main_call0_v0, Cert.AdamConvRefIdeal.Read.val_main_c, Cert.AdamConvRefIdeal.Read.val_main_v28, Cert.AdamConvRefIdeal.Read.val_main_v27, Cert.AdamConvRefIdeal.Read.val_main_v26, Cert.AdamConvRefIdeal.Read.val_main_v25, Cert.AdamConvRefIdeal.Read.val_main_v24, Cert.AdamConvRefIdeal.Read.val_main_v23, Cert.AdamConvRefIdeal.Read.val_main_cst_8, Cert.AdamConvRefIdeal.Read.val_main_v22, Cert.AdamConvRefIdeal.Read.val_main_v21, Cert.AdamConvRefIdeal.Read.val_main_v20, Cert.AdamConvRefIdeal.Read.val_main_cst_7, Cert.AdamConvRefIdeal.Read.val_main_v19, Cert.AdamConvRefIdeal.Read.val_main_v18, Cert.AdamConvRefIdeal.Read.val_main_v17, Cert.AdamConvRefIdeal.Read.val_main_cst_6, Cert.AdamConvRefIdeal.Read.val_main_v16, Cert.AdamConvRefIdeal.Read.val_main_v15, Cert.AdamConvRefIdeal.Read.val_main_v14, Cert.AdamConvRefIdeal.Read.val_main_cst_5, Cert.AdamConvRefIdeal.Read.val_main_v13, Cert.AdamConvRefIdeal.Read.val_main_v12, Cert.AdamConvRefIdeal.Read.val_main_cst_4, Cert.AdamConvRefIdeal.Read.val_main_v11, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v7, Cert.AdamConvRefIdeal.Read.val_main_v6, Cert.AdamConvRefIdeal.Read.val_main_cst_2, Cert.AdamConvRefIdeal.Read.val_main_v5, Cert.AdamConvRefIdeal.Read.val_main_v4, Cert.AdamConvRefIdeal.Read.val_main_v3, Cert.AdamConvRefIdeal.Read.val_main_cst_1, Cert.AdamConvRefIdeal.Read.val_main_v2, Cert.AdamConvRefIdeal.Read.val_main_v1, Cert.AdamConvRefIdeal.Read.val_main_cst_0, Cert.AdamConvRefIdeal.Read.val_main_v0, Cert.AdamConvRefIdeal.Read.val_main_cst, dif_neg h, int_zero, step_zero]

theorem after5 (c : Dev nD) : (dats m 0 c).arrAt 5 (cfgs 0).N = Cert.AdamConvRefIdeal.Read.val_main_v30 (F := Ideal) (aW m c) (aM m c) (aV m c) (aP m c) := by
  refine (dats m 0 c).arrAt_eq_of_covers 5 _ (by decide +kernel) fun t hf y => ?_
  blk_simp
  rw [after0_5]
  idx_vars y
  refine (block5 m c t _ _).trans ((ref5 _ _ _ _ (ri t _) _).symm.trans ?_)
  blk_ext [idx t, ri]

theorem ref6 (mm : FVec Ideal S4x4x192 .f32) (p : FVec Ideal S8x4x4x192 .f32) (i : Fin 16) (j : Fin 256) :
    Cert.AdamConvRefIdeal.Read.val_main_v31 (F := Ideal) mm p (ix2 i j) = first (wide mm i j) (grad p i j) := by
  by_cases h : j.val < 192
  · simp only [grad, wideP, wide, dif_pos h]
    pointwise [Cert.AdamConvRefIdeal.Read.val_main_v31, Cert.AdamConvRefIdeal.Read.val_main_call2_v0, Cert.AdamConvRefIdeal.Read.val_main_c_10, Cert.AdamConvRefIdeal.Read.val_main_v30, Cert.AdamConvRefIdeal.Read.val_main_call1_v0, Cert.AdamConvRefIdeal.Read.val_main_c_9, Cert.AdamConvRefIdeal.Read.val_main_v29, Cert.AdamConvRefIdeal.Read.val_main_call0_v0, Cert.AdamConvRefIdeal.Read.val_main_c, Cert.AdamConvRefIdeal.Read.val_main_v28, Cert.AdamConvRefIdeal.Read.val_main_v27, Cert.AdamConvRefIdeal.Read.val_main_v26, Cert.AdamConvRefIdeal.Read.val_main_v25, Cert.AdamConvRefIdeal.Read.val_main_v24, Cert.AdamConvRefIdeal.Read.val_main_v23, Cert.AdamConvRefIdeal.Read.val_main_cst_8, Cert.AdamConvRefIdeal.Read.val_main_v22, Cert.AdamConvRefIdeal.Read.val_main_v21, Cert.AdamConvRefIdeal.Read.val_main_v20, Cert.AdamConvRefIdeal.Read.val_main_cst_7, Cert.AdamConvRefIdeal.Read.val_main_v19, Cert.AdamConvRefIdeal.Read.val_main_v18, Cert.AdamConvRefIdeal.Read.val_main_v17, Cert.AdamConvRefIdeal.Read.val_main_cst_6, Cert.AdamConvRefIdeal.Read.val_main_v16, Cert.AdamConvRefIdeal.Read.val_main_v15, Cert.AdamConvRefIdeal.Read.val_main_v14, Cert.AdamConvRefIdeal.Read.val_main_cst_5, Cert.AdamConvRefIdeal.Read.val_main_v13, Cert.AdamConvRefIdeal.Read.val_main_v12, Cert.AdamConvRefIdeal.Read.val_main_cst_4, Cert.AdamConvRefIdeal.Read.val_main_v11, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v7, Cert.AdamConvRefIdeal.Read.val_main_v6, Cert.AdamConvRefIdeal.Read.val_main_cst_2, Cert.AdamConvRefIdeal.Read.val_main_v5, Cert.AdamConvRefIdeal.Read.val_main_v4, Cert.AdamConvRefIdeal.Read.val_main_v3, Cert.AdamConvRefIdeal.Read.val_main_cst_1, Cert.AdamConvRefIdeal.Read.val_main_v2, Cert.AdamConvRefIdeal.Read.val_main_v1, Cert.AdamConvRefIdeal.Read.val_main_cst_0, Cert.AdamConvRefIdeal.Read.val_main_v0, Cert.AdamConvRefIdeal.Read.val_main_cst, dif_pos h, first]
  · simp only [grad, wideP, wide, dif_neg h, Finset.sum_const_zero]
    pointwise [Cert.AdamConvRefIdeal.Read.val_main_v31, Cert.AdamConvRefIdeal.Read.val_main_call2_v0, Cert.AdamConvRefIdeal.Read.val_main_c_10, Cert.AdamConvRefIdeal.Read.val_main_v30, Cert.AdamConvRefIdeal.Read.val_main_call1_v0, Cert.AdamConvRefIdeal.Read.val_main_c_9, Cert.AdamConvRefIdeal.Read.val_main_v29, Cert.AdamConvRefIdeal.Read.val_main_call0_v0, Cert.AdamConvRefIdeal.Read.val_main_c, Cert.AdamConvRefIdeal.Read.val_main_v28, Cert.AdamConvRefIdeal.Read.val_main_v27, Cert.AdamConvRefIdeal.Read.val_main_v26, Cert.AdamConvRefIdeal.Read.val_main_v25, Cert.AdamConvRefIdeal.Read.val_main_v24, Cert.AdamConvRefIdeal.Read.val_main_v23, Cert.AdamConvRefIdeal.Read.val_main_cst_8, Cert.AdamConvRefIdeal.Read.val_main_v22, Cert.AdamConvRefIdeal.Read.val_main_v21, Cert.AdamConvRefIdeal.Read.val_main_v20, Cert.AdamConvRefIdeal.Read.val_main_cst_7, Cert.AdamConvRefIdeal.Read.val_main_v19, Cert.AdamConvRefIdeal.Read.val_main_v18, Cert.AdamConvRefIdeal.Read.val_main_v17, Cert.AdamConvRefIdeal.Read.val_main_cst_6, Cert.AdamConvRefIdeal.Read.val_main_v16, Cert.AdamConvRefIdeal.Read.val_main_v15, Cert.AdamConvRefIdeal.Read.val_main_v14, Cert.AdamConvRefIdeal.Read.val_main_cst_5, Cert.AdamConvRefIdeal.Read.val_main_v13, Cert.AdamConvRefIdeal.Read.val_main_v12, Cert.AdamConvRefIdeal.Read.val_main_cst_4, Cert.AdamConvRefIdeal.Read.val_main_v11, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v7, Cert.AdamConvRefIdeal.Read.val_main_v6, Cert.AdamConvRefIdeal.Read.val_main_cst_2, Cert.AdamConvRefIdeal.Read.val_main_v5, Cert.AdamConvRefIdeal.Read.val_main_v4, Cert.AdamConvRefIdeal.Read.val_main_v3, Cert.AdamConvRefIdeal.Read.val_main_cst_1, Cert.AdamConvRefIdeal.Read.val_main_v2, Cert.AdamConvRefIdeal.Read.val_main_v1, Cert.AdamConvRefIdeal.Read.val_main_cst_0, Cert.AdamConvRefIdeal.Read.val_main_v0, Cert.AdamConvRefIdeal.Read.val_main_cst, dif_neg h, int_zero, first_zero]

theorem after6 (c : Dev nD) : (dats m 0 c).arrAt 6 (cfgs 0).N = Cert.AdamConvRefIdeal.Read.val_main_v31 (F := Ideal) (aM m c) (aP m c) := by
  refine (dats m 0 c).arrAt_eq_of_covers 6 _ (by decide +kernel) fun t hf y => ?_
  blk_simp
  rw [after0_6]
  idx_vars y
  refine (block6 m c t _ _).trans ((ref6 _ _ (ri t _) _).symm.trans ?_)
  blk_ext [idx t, ri]

theorem ref7 (v : FVec Ideal S4x4x192 .f32) (p : FVec Ideal S8x4x4x192 .f32) (i : Fin 16) (j : Fin 256) :
    Cert.AdamConvRefIdeal.Read.val_main_v32 (F := Ideal) v p (ix2 i j) = second (wide v i j) (grad p i j) := by
  by_cases h : j.val < 192
  · simp only [grad, wideP, wide, dif_pos h]
    pointwise [Cert.AdamConvRefIdeal.Read.val_main_v32, Cert.AdamConvRefIdeal.Read.val_main_call3_v0, Cert.AdamConvRefIdeal.Read.val_main_c_11, Cert.AdamConvRefIdeal.Read.val_main_v31, Cert.AdamConvRefIdeal.Read.val_main_call2_v0, Cert.AdamConvRefIdeal.Read.val_main_c_10, Cert.AdamConvRefIdeal.Read.val_main_v30, Cert.AdamConvRefIdeal.Read.val_main_call1_v0, Cert.AdamConvRefIdeal.Read.val_main_c_9, Cert.AdamConvRefIdeal.Read.val_main_v29, Cert.AdamConvRefIdeal.Read.val_main_call0_v0, Cert.AdamConvRefIdeal.Read.val_main_c, Cert.AdamConvRefIdeal.Read.val_main_v28, Cert.AdamConvRefIdeal.Read.val_main_v27, Cert.AdamConvRefIdeal.Read.val_main_v26, Cert.AdamConvRefIdeal.Read.val_main_v25, Cert.AdamConvRefIdeal.Read.val_main_v24, Cert.AdamConvRefIdeal.Read.val_main_v23, Cert.AdamConvRefIdeal.Read.val_main_cst_8, Cert.AdamConvRefIdeal.Read.val_main_v22, Cert.AdamConvRefIdeal.Read.val_main_v21, Cert.AdamConvRefIdeal.Read.val_main_v20, Cert.AdamConvRefIdeal.Read.val_main_cst_7, Cert.AdamConvRefIdeal.Read.val_main_v19, Cert.AdamConvRefIdeal.Read.val_main_v18, Cert.AdamConvRefIdeal.Read.val_main_v17, Cert.AdamConvRefIdeal.Read.val_main_cst_6, Cert.AdamConvRefIdeal.Read.val_main_v16, Cert.AdamConvRefIdeal.Read.val_main_v15, Cert.AdamConvRefIdeal.Read.val_main_v14, Cert.AdamConvRefIdeal.Read.val_main_cst_5, Cert.AdamConvRefIdeal.Read.val_main_v13, Cert.AdamConvRefIdeal.Read.val_main_v12, Cert.AdamConvRefIdeal.Read.val_main_cst_4, Cert.AdamConvRefIdeal.Read.val_main_v11, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v7, Cert.AdamConvRefIdeal.Read.val_main_v6, Cert.AdamConvRefIdeal.Read.val_main_cst_2, Cert.AdamConvRefIdeal.Read.val_main_v5, Cert.AdamConvRefIdeal.Read.val_main_v4, Cert.AdamConvRefIdeal.Read.val_main_v3, Cert.AdamConvRefIdeal.Read.val_main_cst_1, Cert.AdamConvRefIdeal.Read.val_main_v2, Cert.AdamConvRefIdeal.Read.val_main_v1, Cert.AdamConvRefIdeal.Read.val_main_cst_0, Cert.AdamConvRefIdeal.Read.val_main_v0, Cert.AdamConvRefIdeal.Read.val_main_cst, dif_pos h, second]
  · simp only [grad, wideP, wide, dif_neg h, Finset.sum_const_zero]
    pointwise [Cert.AdamConvRefIdeal.Read.val_main_v32, Cert.AdamConvRefIdeal.Read.val_main_call3_v0, Cert.AdamConvRefIdeal.Read.val_main_c_11, Cert.AdamConvRefIdeal.Read.val_main_v31, Cert.AdamConvRefIdeal.Read.val_main_call2_v0, Cert.AdamConvRefIdeal.Read.val_main_c_10, Cert.AdamConvRefIdeal.Read.val_main_v30, Cert.AdamConvRefIdeal.Read.val_main_call1_v0, Cert.AdamConvRefIdeal.Read.val_main_c_9, Cert.AdamConvRefIdeal.Read.val_main_v29, Cert.AdamConvRefIdeal.Read.val_main_call0_v0, Cert.AdamConvRefIdeal.Read.val_main_c, Cert.AdamConvRefIdeal.Read.val_main_v28, Cert.AdamConvRefIdeal.Read.val_main_v27, Cert.AdamConvRefIdeal.Read.val_main_v26, Cert.AdamConvRefIdeal.Read.val_main_v25, Cert.AdamConvRefIdeal.Read.val_main_v24, Cert.AdamConvRefIdeal.Read.val_main_v23, Cert.AdamConvRefIdeal.Read.val_main_cst_8, Cert.AdamConvRefIdeal.Read.val_main_v22, Cert.AdamConvRefIdeal.Read.val_main_v21, Cert.AdamConvRefIdeal.Read.val_main_v20, Cert.AdamConvRefIdeal.Read.val_main_cst_7, Cert.AdamConvRefIdeal.Read.val_main_v19, Cert.AdamConvRefIdeal.Read.val_main_v18, Cert.AdamConvRefIdeal.Read.val_main_v17, Cert.AdamConvRefIdeal.Read.val_main_cst_6, Cert.AdamConvRefIdeal.Read.val_main_v16, Cert.AdamConvRefIdeal.Read.val_main_v15, Cert.AdamConvRefIdeal.Read.val_main_v14, Cert.AdamConvRefIdeal.Read.val_main_cst_5, Cert.AdamConvRefIdeal.Read.val_main_v13, Cert.AdamConvRefIdeal.Read.val_main_v12, Cert.AdamConvRefIdeal.Read.val_main_cst_4, Cert.AdamConvRefIdeal.Read.val_main_v11, Cert.AdamConvRefIdeal.Read.val_main_v10, Cert.AdamConvRefIdeal.Read.val_main_v9, Cert.AdamConvRefIdeal.Read.val_main_cst_3, Cert.AdamConvRefIdeal.Read.val_main_v8, Cert.AdamConvRefIdeal.Read.val_main_v7, Cert.AdamConvRefIdeal.Read.val_main_v6, Cert.AdamConvRefIdeal.Read.val_main_cst_2, Cert.AdamConvRefIdeal.Read.val_main_v5, Cert.AdamConvRefIdeal.Read.val_main_v4, Cert.AdamConvRefIdeal.Read.val_main_v3, Cert.AdamConvRefIdeal.Read.val_main_cst_1, Cert.AdamConvRefIdeal.Read.val_main_v2, Cert.AdamConvRefIdeal.Read.val_main_v1, Cert.AdamConvRefIdeal.Read.val_main_cst_0, Cert.AdamConvRefIdeal.Read.val_main_v0, Cert.AdamConvRefIdeal.Read.val_main_cst, dif_neg h, int_zero, second_zero]

theorem after7 (c : Dev nD) : (dats m 0 c).arrAt 7 (cfgs 0).N = Cert.AdamConvRefIdeal.Read.val_main_v32 (F := Ideal) (aV m c) (aP m c) := by
  refine (dats m 0 c).arrAt_eq_of_covers 7 _ (by decide +kernel) fun t hf y => ?_
  blk_simp
  rw [after0_7]
  idx_vars y
  refine (block7 m c t _ _).trans ((ref7 _ _ (ri t _) _).symm.trans ?_)
  blk_ext [idx t, ri]

/-- The kernel and the reference end with the same four arrays. -/
theorem algebraic : Cert.algebraic_AdamConvIdeal_AdamConvRefIdeal := by
  intro m g m' g' _ hagree
  refine ⟨_, _, _, _, Cert.AdamConvIdeal.Value.run_blocks m g, (θ_run _ _ _).mono (fun r h c => ?_) (Cert.AdamConvRefIdeal.Value.run m' g')⟩
  obtain ⟨r0, r1, r2, r3, k⟩ := h c
  obtain ⟨h0, h1, h2, h3⟩ := hagree c
  refine ⟨r0.trans ?_, r1.trans ?_, r2.trans ?_, r3.trans ?_, k⟩
  · refine (Cert.AdamConvRefIdeal.Read.val_main_v29_eq _).trans (Eq.trans ?_ (after4 m c).symm)
    exact congrArg (fun p => Cert.AdamConvRefIdeal.Read.val_main_v29 (F := Ideal) p) h3
  · refine (Cert.AdamConvRefIdeal.Read.val_main_v30_eq _ _ _ _).trans (Eq.trans ?_ (after5 m c).symm)
    exact congr (congr (congr (congrArg (fun x y z p => Cert.AdamConvRefIdeal.Read.val_main_v30 (F := Ideal) x y z p) h0) h1) h2) h3
  · refine (Cert.AdamConvRefIdeal.Read.val_main_v31_eq _ _).trans (Eq.trans ?_ (after6 m c).symm)
    exact congrArg₂ (fun x y => Cert.AdamConvRefIdeal.Read.val_main_v31 (F := Ideal) x y) h1 h3
  · refine (Cert.AdamConvRefIdeal.Read.val_main_v32_eq _ _).trans (Eq.trans ?_ (after7 m c).symm)
    exact congrArg₂ (fun x y => Cert.AdamConvRefIdeal.Read.val_main_v32 (F := Ideal) x y) h2 h3

/-- The reference returns with its arguments kept; it has no counters. -/
theorem refFrame : Cert.quiescent_AdamConvRefIdeal := by
  intro m g _
  refine (θ_run _ _ _).mono (fun r h => ⟨fun c => ?_, sem_eq_zero_of_no_sems (by decide) _⟩) (Cert.AdamConvRefIdeal.Value.run m g)
  obtain ⟨_, _, _, _, k⟩ := h c
  exact k

end Cert.Adam.AdamConv

end
-- ==== Proof.AdamWMod.lean ====
/- The optimiser's update of the weight of the modulation. -/
module

public import proofs.«01_k».proof.Defs
public import proofs.«01_k».proof.Proof.Gen.AdamWMod.Frame
public import proofs.«01_k».proof.Proof.Gen.AdamWModIdeal.Value
public import proofs.«01_k».proof.Proof.Gen.AdamWModRefIdeal.Run
public import proofs.«01_k».proof.Proof.Gen.AdamWModRefIdeal.Read
public import proofs.«01_k».proof.Proof.Adam
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Adam.AdamWMod
open Cert.AdamWModIdeal Cert.AdamWModIdeal.Gen

variable (m : (ℓ : Loc nD τ sig) → Buf (Elt Ideal) ℓ)

/-- The four arguments: the weight, its two moments, the parts of its gradient. -/
abbrev aW (c : Dev nD) : FVec Ideal S4x1024x768 .f32 := m ((c : Thread nD τ).loc main_arg0)
abbrev aM (c : Dev nD) : FVec Ideal S4x1024x768 .f32 := m ((c : Thread nD τ).loc main_arg1)
abbrev aV (c : Dev nD) : FVec Ideal S4x1024x768 .f32 := m ((c : Thread nD τ).loc main_arg2)
abbrev aP (c : Dev nD) : FVec Ideal S1x4x1024x768 .f32 := m ((c : Thread nD τ).loc main_arg3)

/-- An argument's entry in the layout of rows the update runs over. -/
def wide (a : FVec Ideal S4x1024x768 .f32) (i : Fin 4096) (j : Fin 768) : EReal :=
  a (ix3 ⟨i.val / 1024, by have := i.isLt; omega⟩ ⟨i.val % 1024, by have := i.isLt; omega⟩ j)
def wideP (p : FVec Ideal S1x4x1024x768 .f32) (k : Fin 1) (i : Fin 4096) (j : Fin 768) : EReal :=
  p (ix4 k ⟨i.val / 1024, by have := i.isLt; omega⟩ ⟨i.val % 1024, by have := i.isLt; omega⟩ j)

/-- The summed gradient. -/
def grad (p : FVec Ideal S1x4x1024x768 .f32) (i : Fin 4096) (j : Fin 768) : EReal := ∑ k : Fin 1, wideP p k i j

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lim (t : Fin cfg0.N) : t.val < 16 := lt_of_lt_of_eq t.isLt N_0

/-- The row of the whole array that a row of a block is. -/
def ri (t : Fin cfg0.N) (r : Fin 256) : Fin 4096 := ⟨256 * t.val + r.val, by have := lim t; have := r.isLt; omega⟩

theorem hostW (c : Dev nD) (i : Fin 4096) (j : Fin 768) :
    (V m c main_v2 : FVec Ideal S4096x768 .f32) (ix2 i j) = wide (aW m c) i j := by
  simp only [V, hostOps0, hostOps0_1, hostOps0_2, hostOps0_3, hostOps0_4, hostOps0_5, List.flatten_cons, List.flatten_nil, List.append_nil, List.cons_append, List.nil_append]
  entry_read
  show (pad S4096x768 ![0, 0] ![0, 0] ![0, 0] (shapeCast S4096x768 (aW m c) shapeCasts_S4x1024x768_S4096x768)
    (sitofp .f32 (constantI S_ 32 0#32) : FVec Ideal S_ .f32) pads_S4096x768_S4096x768_000_000 h_S_) (ix2 i j) = _
  unfold wide
  pointwise

theorem hostM (c : Dev nD) (i : Fin 4096) (j : Fin 768) :
    (V m c main_v4 : FVec Ideal S4096x768 .f32) (ix2 i j) = wide (aM m c) i j := by
  simp only [V, hostOps0, hostOps0_1, hostOps0_2, hostOps0_3, hostOps0_4, hostOps0_5, List.flatten_cons, List.flatten_nil, List.append_nil, List.cons_append, List.nil_append]
  entry_read
  show (pad S4096x768 ![0, 0] ![0, 0] ![0, 0] (shapeCast S4096x768 (aM m c) shapeCasts_S4x1024x768_S4096x768)
    (sitofp .f32 (constantI S_ 32 0#32) : FVec Ideal S_ .f32) pads_S4096x768_S4096x768_000_000 h_S_) (ix2 i j) = _
  unfold wide
  pointwise

theorem hostV (c : Dev nD) (i : Fin 4096) (j : Fin 768) :
    (V m c main_v6 : FVec Ideal S4096x768 .f32) (ix2 i j) = wide (aV m c) i j := by
  simp only [V, hostOps0, hostOps0_1, hostOps0_2, hostOps0_3, hostOps0_4, hostOps0_5, List.flatten_cons, List.flatten_nil, List.append_nil, List.cons_append, List.nil_append]
  entry_read
  show (pad S4096x768 ![0, 0] ![0, 0] ![0, 0] (shapeCast S4096x768 (aV m c) shapeCasts_S4x1024x768_S4096x768)
    (sitofp .f32 (constantI S_ 32 0#32) : FVec Ideal S_ .f32) pads_S4096x768_S4096x768_000_000 h_S_) (ix2 i j) = _
  unfold wide
  pointwise

theorem hostP (c : Dev nD) (k : Fin 1) (i : Fin 4096) (j : Fin 768) :
    (V m c main_v0 : FVec Ideal S1x4096x768 .f32) (ix3 k i j) = wideP (aP m c) k i j := by
  simp only [V, hostOps0, hostOps0_1, hostOps0_2, hostOps0_3, hostOps0_4, hostOps0_5, List.flatten_cons, List.flatten_nil, List.append_nil, List.cons_append, List.nil_append]
  entry_read
  obtain rfl : k = 0 := Subsingleton.elim _ _
  unfold wideP
  pointwise

theorem blkW (c : Dev nD) (t : Fin cfg0.N) (r : Fin 256) (q : Fin 768) :
    (iblk m c 0 t : FVec Ideal S256x768 .f32) (ix2 r q) = wide (aW m c) (ri t r) q := by
  refine Eq.trans (b := V m c main_v2 (ix2 (ri t r) q)) ?_ (hostW m c _ _)
  blk_ext [iblk, idx t, ri]

theorem blkM (c : Dev nD) (t : Fin cfg0.N) (r : Fin 256) (q : Fin 768) :
    (iblk m c 1 t : FVec Ideal S256x768 .f32) (ix2 r q) = wide (aM m c) (ri t r) q := by
  refine Eq.trans (b := V m c main_v4 (ix2 (ri t r) q)) ?_ (hostM m c _ _)
  blk_ext [iblk, idx t, ri]

theorem blkV (c : Dev nD) (t : Fin cfg0.N) (r : Fin 256) (q : Fin 768) :
    (iblk m c 2 t : FVec Ideal S256x768 .f32) (ix2 r q) = wide (aV m c) (ri t r) q := by
  refine Eq.trans (b := V m c main_v6 (ix2 (ri t r) q)) ?_ (hostV m c _ _)
  blk_ext [iblk, idx t, ri]

theorem blkP (c : Dev nD) (t : Fin cfg0.N) (k : Fin 1) (r : Fin 256) (q : Fin 768) :
    (iblk m c 3 t : FVec Ideal S1x256x768 .f32) (ix3 k r q) = wideP (aP m c) k (ri t r) q := by
  refine Eq.trans (b := V m c main_v0 (ix3 k (ri t r) q)) ?_ (hostP m c _ _ _)
  blk_ext [iblk, idx t, ri]

theorem out4 (w mm v : FVec Ideal S256x768 .f32) (p : FVec Ideal S1x256x768 .f32) (r : Fin 256) (q : Fin 768) :
    out0_4 (F := Ideal) w mm v p (ix2 r q) = (∑ k : Fin 1, (p (ix3 k r q) : EReal)) := by
  frame_out
  rw [Fin.sum_univ_one]
  pointwise [k0_pay1, k0_pay2, k0_pay3, k0_pay4, step, first, second]

theorem block4 (c : Dev nD) (t : Fin cfg0.N) (r : Fin 256) (q : Fin 768) :
    out0_4 (iblk m c 0 t) (iblk m c 1 t) (iblk m c 2 t) (iblk m c 3 t) (ix2 r q)
      = (grad (aP m c) (ri t r) q) := by
  refine (out4 _ _ _ _ r q).trans ?_
  have hp : (@Finset.sum (Fin 1) EReal _ Finset.univ fun k => iblk m c 3 t (ix3 k r q)) = grad (aP m c) (ri t r) q :=
    Finset.sum_congr rfl fun k _ => blkP m c t k r q
  exact hp

theorem out5 (w mm v : FVec Ideal S256x768 .f32) (p : FVec Ideal S1x256x768 .f32) (r : Fin 256) (q : Fin 768) :
    out0_5 (F := Ideal) w mm v p (ix2 r q) = step (w (ix2 r q)) (mm (ix2 r q)) (v (ix2 r q)) (∑ k : Fin 1, (p (ix3 k r q) : EReal)) := by
  frame_out
  rw [Fin.sum_univ_one]
  pointwise [k0_pay1, k0_pay2, k0_pay3, k0_pay4, step, first, second]

theorem block5 (c : Dev nD) (t : Fin cfg0.N) (r : Fin 256) (q : Fin 768) :
    out0_5 (iblk m c 0 t) (iblk m c 1 t) (iblk m c 2 t) (iblk m c 3 t) (ix2 r q)
      = step (wide (aW m c) (ri t r) q) (wide (aM m c) (ri t r) q) (wide (aV m c) (ri t r) q) (grad (aP m c) (ri t r) q) := by
  refine (out5 _ _ _ _ r q).trans ?_
  have hp : (@Finset.sum (Fin 1) EReal _ Finset.univ fun k => iblk m c 3 t (ix3 k r q)) = grad (aP m c) (ri t r) q :=
    Finset.sum_congr rfl fun k _ => blkP m c t k r q
  exact congr (congr (congr (congrArg step (blkW m c t r q)) (blkM m c t r q)) (blkV m c t r q)) hp

theorem out6 (w mm v : FVec Ideal S256x768 .f32) (p : FVec Ideal S1x256x768 .f32) (r : Fin 256) (q : Fin 768) :
    out0_6 (F := Ideal) w mm v p (ix2 r q) = first (mm (ix2 r q)) (∑ k : Fin 1, (p (ix3 k r q) : EReal)) := by
  frame_out
  rw [Fin.sum_univ_one]
  pointwise [k0_pay1, k0_pay2, k0_pay3, k0_pay4, step, first, second]

theorem block6 (c : Dev nD) (t : Fin cfg0.N) (r : Fin 256) (q : Fin 768) :
    out0_6 (iblk m c 0 t) (iblk m c 1 t) (iblk m c 2 t) (iblk m c 3 t) (ix2 r q)
      = first (wide (aM m c) (ri t r) q) (grad (aP m c) (ri t r) q) := by
  refine (out6 _ _ _ _ r q).trans ?_
  have hp : (@Finset.sum (Fin 1) EReal _ Finset.univ fun k => iblk m c 3 t (ix3 k r q)) = grad (aP m c) (ri t r) q :=
    Finset.sum_congr rfl fun k _ => blkP m c t k r q
  exact congrArg₂ first (blkM m c t r q) hp

theorem out7 (w mm v : FVec Ideal S256x768 .f32) (p : FVec Ideal S1x256x768 .f32) (r : Fin 256) (q : Fin 768) :
    out0_7 (F := Ideal) w mm v p (ix2 r q) = second (v (ix2 r q)) (∑ k : Fin 1, (p (ix3 k r q) : EReal)) := by
  frame_out
  rw [Fin.sum_univ_one]
  pointwise [k0_pay1, k0_pay2, k0_pay3, k0_pay4, step, first, second]

theorem block7 (c : Dev nD) (t : Fin cfg0.N) (r : Fin 256) (q : Fin 768) :
    out0_7 (iblk m c 0 t) (iblk m c 1 t) (iblk m c 2 t) (iblk m c 3 t) (ix2 r q)
      = second (wide (aV m c) (ri t r) q) (grad (aP m c) (ri t r) q) := by
  refine (out7 _ _ _ _ r q).trans ?_
  have hp : (@Finset.sum (Fin 1) EReal _ Finset.univ fun k => iblk m c 3 t (ix3 k r q)) = grad (aP m c) (ri t r) q :=
    Finset.sum_congr rfl fun k _ => blkP m c t k r q
  exact congrArg₂ second (blkV m c t r q) hp

theorem ref4 (p : FVec Ideal S1x4x1024x768 .f32) (i : Fin 4096) (j : Fin 768) :
    Cert.AdamWModRefIdeal.Read.val_main_v25 (F := Ideal) p (ix2 i j) = (grad p i j) := by
  pointwise [Cert.AdamWModRefIdeal.Read.val_main_v25, Cert.AdamWModRefIdeal.Read.val_main_v24, Cert.AdamWModRefIdeal.Read.val_main_v23, Cert.AdamWModRefIdeal.Read.val_main_cst_8, Cert.AdamWModRefIdeal.Read.val_main_v22, Cert.AdamWModRefIdeal.Read.val_main_v21, Cert.AdamWModRefIdeal.Read.val_main_v20, Cert.AdamWModRefIdeal.Read.val_main_cst_7, Cert.AdamWModRefIdeal.Read.val_main_v19, Cert.AdamWModRefIdeal.Read.val_main_v18, Cert.AdamWModRefIdeal.Read.val_main_v17, Cert.AdamWModRefIdeal.Read.val_main_cst_6, Cert.AdamWModRefIdeal.Read.val_main_v16, Cert.AdamWModRefIdeal.Read.val_main_v15, Cert.AdamWModRefIdeal.Read.val_main_v14, Cert.AdamWModRefIdeal.Read.val_main_cst_5, Cert.AdamWModRefIdeal.Read.val_main_v13, Cert.AdamWModRefIdeal.Read.val_main_v12, Cert.AdamWModRefIdeal.Read.val_main_cst_4, Cert.AdamWModRefIdeal.Read.val_main_v11, Cert.AdamWModRefIdeal.Read.val_main_v10, Cert.AdamWModRefIdeal.Read.val_main_v9, Cert.AdamWModRefIdeal.Read.val_main_cst_3, Cert.AdamWModRefIdeal.Read.val_main_v8, Cert.AdamWModRefIdeal.Read.val_main_v7, Cert.AdamWModRefIdeal.Read.val_main_v6, Cert.AdamWModRefIdeal.Read.val_main_cst_2, Cert.AdamWModRefIdeal.Read.val_main_v5, Cert.AdamWModRefIdeal.Read.val_main_v4, Cert.AdamWModRefIdeal.Read.val_main_v3, Cert.AdamWModRefIdeal.Read.val_main_cst_1, Cert.AdamWModRefIdeal.Read.val_main_v2, Cert.AdamWModRefIdeal.Read.val_main_v1, Cert.AdamWModRefIdeal.Read.val_main_cst_0, Cert.AdamWModRefIdeal.Read.val_main_v0, Cert.AdamWModRefIdeal.Read.val_main_cst, grad, wideP]

theorem after4 (c : Dev nD) : (dats m 0 c).arrAt 4 (cfgs 0).N = Cert.AdamWModRefIdeal.Read.val_main_v25 (F := Ideal) (aP m c) := by
  refine (dats m 0 c).arrAt_eq_of_covers 4 _ (by decide +kernel) fun t hf y => ?_
  blk_simp
  rw [after0_4]
  idx_vars y
  refine (block4 m c t _ _).trans ((ref4 _ (ri t _) _).symm.trans ?_)
  blk_ext [idx t, ri]

theorem ref5 (w : FVec Ideal S4x1024x768 .f32) (mm : FVec Ideal S4x1024x768 .f32) (v : FVec Ideal S4x1024x768 .f32) (p : FVec Ideal S1x4x1024x768 .f32) (i : Fin 4096) (j : Fin 768) :
    Cert.AdamWModRefIdeal.Read.val_main_v26 (F := Ideal) w mm v p (ix2 i j) = step (wide w i j) (wide mm i j) (wide v i j) (grad p i j) := by
  pointwise [Cert.AdamWModRefIdeal.Read.val_main_v26, Cert.AdamWModRefIdeal.Read.val_main_v25, Cert.AdamWModRefIdeal.Read.val_main_v24, Cert.AdamWModRefIdeal.Read.val_main_v23, Cert.AdamWModRefIdeal.Read.val_main_cst_8, Cert.AdamWModRefIdeal.Read.val_main_v22, Cert.AdamWModRefIdeal.Read.val_main_v21, Cert.AdamWModRefIdeal.Read.val_main_v20, Cert.AdamWModRefIdeal.Read.val_main_cst_7, Cert.AdamWModRefIdeal.Read.val_main_v19, Cert.AdamWModRefIdeal.Read.val_main_v18, Cert.AdamWModRefIdeal.Read.val_main_v17, Cert.AdamWModRefIdeal.Read.val_main_cst_6, Cert.AdamWModRefIdeal.Read.val_main_v16, Cert.AdamWModRefIdeal.Read.val_main_v15, Cert.AdamWModRefIdeal.Read.val_main_v14, Cert.AdamWModRefIdeal.Read.val_main_cst_5, Cert.AdamWModRefIdeal.Read.val_main_v13, Cert.AdamWModRefIdeal.Read.val_main_v12, Cert.AdamWModRefIdeal.Read.val_main_cst_4, Cert.AdamWModRefIdeal.Read.val_main_v11, Cert.AdamWModRefIdeal.Read.val_main_v10, Cert.AdamWModRefIdeal.Read.val_main_v9, Cert.AdamWModRefIdeal.Read.val_main_cst_3, Cert.AdamWModRefIdeal.Read.val_main_v8, Cert.AdamWModRefIdeal.Read.val_main_v7, Cert.AdamWModRefIdeal.Read.val_main_v6, Cert.AdamWModRefIdeal.Read.val_main_cst_2, Cert.AdamWModRefIdeal.Read.val_main_v5, Cert.AdamWModRefIdeal.Read.val_main_v4, Cert.AdamWModRefIdeal.Read.val_main_v3, Cert.AdamWModRefIdeal.Read.val_main_cst_1, Cert.AdamWModRefIdeal.Read.val_main_v2, Cert.AdamWModRefIdeal.Read.val_main_v1, Cert.AdamWModRefIdeal.Read.val_main_cst_0, Cert.AdamWModRefIdeal.Read.val_main_v0, Cert.AdamWModRefIdeal.Read.val_main_cst, step, first, second, grad, wide, wideP]

theorem after5 (c : Dev nD) : (dats m 0 c).arrAt 5 (cfgs 0).N = Cert.AdamWModRefIdeal.Read.val_main_v26 (F := Ideal) (aW m c) (aM m c) (aV m c) (aP m c) := by
  refine (dats m 0 c).arrAt_eq_of_covers 5 _ (by decide +kernel) fun t hf y => ?_
  blk_simp
  rw [after0_5]
  idx_vars y
  refine (block5 m c t _ _).trans ((ref5 _ _ _ _ (ri t _) _).symm.trans ?_)
  blk_ext [idx t, ri]

theorem ref6 (mm : FVec Ideal S4x1024x768 .f32) (p : FVec Ideal S1x4x1024x768 .f32) (i : Fin 4096) (j : Fin 768) :
    Cert.AdamWModRefIdeal.Read.val_main_v27 (F := Ideal) mm p (ix2 i j) = first (wide mm i j) (grad p i j) := by
  pointwise [Cert.AdamWModRefIdeal.Read.val_main_v27, Cert.AdamWModRefIdeal.Read.val_main_v26, Cert.AdamWModRefIdeal.Read.val_main_v25, Cert.AdamWModRefIdeal.Read.val_main_v24, Cert.AdamWModRefIdeal.Read.val_main_v23, Cert.AdamWModRefIdeal.Read.val_main_cst_8, Cert.AdamWModRefIdeal.Read.val_main_v22, Cert.AdamWModRefIdeal.Read.val_main_v21, Cert.AdamWModRefIdeal.Read.val_main_v20, Cert.AdamWModRefIdeal.Read.val_main_cst_7, Cert.AdamWModRefIdeal.Read.val_main_v19, Cert.AdamWModRefIdeal.Read.val_main_v18, Cert.AdamWModRefIdeal.Read.val_main_v17, Cert.AdamWModRefIdeal.Read.val_main_cst_6, Cert.AdamWModRefIdeal.Read.val_main_v16, Cert.AdamWModRefIdeal.Read.val_main_v15, Cert.AdamWModRefIdeal.Read.val_main_v14, Cert.AdamWModRefIdeal.Read.val_main_cst_5, Cert.AdamWModRefIdeal.Read.val_main_v13, Cert.AdamWModRefIdeal.Read.val_main_v12, Cert.AdamWModRefIdeal.Read.val_main_cst_4, Cert.AdamWModRefIdeal.Read.val_main_v11, Cert.AdamWModRefIdeal.Read.val_main_v10, Cert.AdamWModRefIdeal.Read.val_main_v9, Cert.AdamWModRefIdeal.Read.val_main_cst_3, Cert.AdamWModRefIdeal.Read.val_main_v8, Cert.AdamWModRefIdeal.Read.val_main_v7, Cert.AdamWModRefIdeal.Read.val_main_v6, Cert.AdamWModRefIdeal.Read.val_main_cst_2, Cert.AdamWModRefIdeal.Read.val_main_v5, Cert.AdamWModRefIdeal.Read.val_main_v4, Cert.AdamWModRefIdeal.Read.val_main_v3, Cert.AdamWModRefIdeal.Read.val_main_cst_1, Cert.AdamWModRefIdeal.Read.val_main_v2, Cert.AdamWModRefIdeal.Read.val_main_v1, Cert.AdamWModRefIdeal.Read.val_main_cst_0, Cert.AdamWModRefIdeal.Read.val_main_v0, Cert.AdamWModRefIdeal.Read.val_main_cst, first, grad, wide, wideP]

theorem after6 (c : Dev nD) : (dats m 0 c).arrAt 6 (cfgs 0).N = Cert.AdamWModRefIdeal.Read.val_main_v27 (F := Ideal) (aM m c) (aP m c) := by
  refine (dats m 0 c).arrAt_eq_of_covers 6 _ (by decide +kernel) fun t hf y => ?_
  blk_simp
  rw [after0_6]
  idx_vars y
  refine (block6 m c t _ _).trans ((ref6 _ _ (ri t _) _).symm.trans ?_)
  blk_ext [idx t, ri]

theorem ref7 (v : FVec Ideal S4x1024x768 .f32) (p : FVec Ideal S1x4x1024x768 .f32) (i : Fin 4096) (j : Fin 768) :
    Cert.AdamWModRefIdeal.Read.val_main_v28 (F := Ideal) v p (ix2 i j) = second (wide v i j) (grad p i j) := by
  pointwise [Cert.AdamWModRefIdeal.Read.val_main_v28, Cert.AdamWModRefIdeal.Read.val_main_v27, Cert.AdamWModRefIdeal.Read.val_main_v26, Cert.AdamWModRefIdeal.Read.val_main_v25, Cert.AdamWModRefIdeal.Read.val_main_v24, Cert.AdamWModRefIdeal.Read.val_main_v23, Cert.AdamWModRefIdeal.Read.val_main_cst_8, Cert.AdamWModRefIdeal.Read.val_main_v22, Cert.AdamWModRefIdeal.Read.val_main_v21, Cert.AdamWModRefIdeal.Read.val_main_v20, Cert.AdamWModRefIdeal.Read.val_main_cst_7, Cert.AdamWModRefIdeal.Read.val_main_v19, Cert.AdamWModRefIdeal.Read.val_main_v18, Cert.AdamWModRefIdeal.Read.val_main_v17, Cert.AdamWModRefIdeal.Read.val_main_cst_6, Cert.AdamWModRefIdeal.Read.val_main_v16, Cert.AdamWModRefIdeal.Read.val_main_v15, Cert.AdamWModRefIdeal.Read.val_main_v14, Cert.AdamWModRefIdeal.Read.val_main_cst_5, Cert.AdamWModRefIdeal.Read.val_main_v13, Cert.AdamWModRefIdeal.Read.val_main_v12, Cert.AdamWModRefIdeal.Read.val_main_cst_4, Cert.AdamWModRefIdeal.Read.val_main_v11, Cert.AdamWModRefIdeal.Read.val_main_v10, Cert.AdamWModRefIdeal.Read.val_main_v9, Cert.AdamWModRefIdeal.Read.val_main_cst_3, Cert.AdamWModRefIdeal.Read.val_main_v8, Cert.AdamWModRefIdeal.Read.val_main_v7, Cert.AdamWModRefIdeal.Read.val_main_v6, Cert.AdamWModRefIdeal.Read.val_main_cst_2, Cert.AdamWModRefIdeal.Read.val_main_v5, Cert.AdamWModRefIdeal.Read.val_main_v4, Cert.AdamWModRefIdeal.Read.val_main_v3, Cert.AdamWModRefIdeal.Read.val_main_cst_1, Cert.AdamWModRefIdeal.Read.val_main_v2, Cert.AdamWModRefIdeal.Read.val_main_v1, Cert.AdamWModRefIdeal.Read.val_main_cst_0, Cert.AdamWModRefIdeal.Read.val_main_v0, Cert.AdamWModRefIdeal.Read.val_main_cst, second, grad, wide, wideP]

theorem after7 (c : Dev nD) : (dats m 0 c).arrAt 7 (cfgs 0).N = Cert.AdamWModRefIdeal.Read.val_main_v28 (F := Ideal) (aV m c) (aP m c) := by
  refine (dats m 0 c).arrAt_eq_of_covers 7 _ (by decide +kernel) fun t hf y => ?_
  blk_simp
  rw [after0_7]
  idx_vars y
  refine (block7 m c t _ _).trans ((ref7 _ _ (ri t _) _).symm.trans ?_)
  blk_ext [idx t, ri]

/-- The kernel and the reference end with the same four arrays. -/
theorem algebraic : Cert.algebraic_AdamWModIdeal_AdamWModRefIdeal := by
  intro m g m' g' _ hagree
  refine ⟨_, _, _, _, Cert.AdamWModIdeal.Value.run_blocks m g, (θ_run _ _ _).mono (fun r h c => ?_) (Cert.AdamWModRefIdeal.Value.run m' g')⟩
  obtain ⟨r0, r1, r2, r3, k⟩ := h c
  obtain ⟨h0, h1, h2, h3⟩ := hagree c
  refine ⟨r0.trans ?_, r1.trans ?_, r2.trans ?_, r3.trans ?_, k⟩
  · refine (Cert.AdamWModRefIdeal.Read.val_main_v25_eq _).trans (Eq.trans ?_ (after4 m c).symm)
    exact congrArg (fun p => Cert.AdamWModRefIdeal.Read.val_main_v25 (F := Ideal) p) h3
  · refine (Cert.AdamWModRefIdeal.Read.val_main_v26_eq _ _ _ _).trans (Eq.trans ?_ (after5 m c).symm)
    exact congr (congr (congr (congrArg (fun x y z p => Cert.AdamWModRefIdeal.Read.val_main_v26 (F := Ideal) x y z p) h0) h1) h2) h3
  · refine (Cert.AdamWModRefIdeal.Read.val_main_v27_eq _ _).trans (Eq.trans ?_ (after6 m c).symm)
    exact congrArg₂ (fun x y => Cert.AdamWModRefIdeal.Read.val_main_v27 (F := Ideal) x y) h1 h3
  · refine (Cert.AdamWModRefIdeal.Read.val_main_v28_eq _ _).trans (Eq.trans ?_ (after7 m c).symm)
    exact congrArg₂ (fun x y => Cert.AdamWModRefIdeal.Read.val_main_v28 (F := Ideal) x y) h2 h3

/-- The reference returns with its arguments kept; it has no counters. -/
theorem refFrame : Cert.quiescent_AdamWModRefIdeal := by
  intro m g _
  refine (θ_run _ _ _).mono (fun r h => ⟨fun c => ?_, sem_eq_zero_of_no_sems (by decide) _⟩) (Cert.AdamWModRefIdeal.Value.run m g)
  obtain ⟨_, _, _, _, k⟩ := h c
  exact k

end Cert.Adam.AdamWMod

end
-- ==== Proof.Sums.lean ====
/- A sum over all rows, cut into blocks of rows. -/
module

public import proofs.«01_k».proof.Proof.Adam

@[expose] public section

noncomputable section

namespace Cert.Elementwise

/-- A sum over `a * b` rows is the sum over `a` blocks of the sums over the `b` rows of a block. -/
theorem sum_cut {a b n : Nat} (e : a * b = n) (f : Fin n → EReal) :
    ∑ k : Fin n, f k = ∑ s : Fin a, ∑ r : Fin b, f ⟨b * s.val + r.val, by
      subst e
      calc b * s.val + r.val < b * s.val + b := Nat.add_lt_add_left r.isLt _
        _ = (s.val + 1) * b := by rw [Nat.add_mul, Nat.one_mul, Nat.mul_comm]
        _ ≤ a * b := Nat.mul_le_mul_right _ s.isLt⟩ := by
  subst e
  rw [← Fintype.sum_prod_type', ← finProdFinEquiv.sum_comp]
  exact Finset.sum_congr rfl fun x _ => congrArg f (Fin.ext (Nat.add_comm _ _))

end Cert.Elementwise

end
-- ==== Proof.ModNorm.lean ====
/- The backward pass of the modulated norm: its four gradients. -/
module

public import proofs.«01_k».proof.Defs
public import proofs.«01_k».proof.Proof.Gen.ModNorm.Frame
public import proofs.«01_k».proof.Proof.Gen.ModNormIdeal.Value
public import proofs.«01_k».proof.Proof.Gen.ModNormRefIdeal.Run
public import proofs.«01_k».proof.Proof.Gen.ModNormRefIdeal.Read
public import proofs.«01_k».proof.Proof.Sums
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Elementwise.ModNorm
open Cert.ModNormIdeal Cert.ModNormIdeal.Gen

/-- A row's mean square, shifted by the norm's constant. -/
def ms (x : Fin 1024 → EReal) : EReal :=
  Ideal.div (∑ q : Fin 1024, x q * x q) (Ideal.ofBits .f32 0x44800000#32) + Ideal.ofBits .f32 0x358637BD#32

/-- The row's scale. -/
def rs (x : Fin 1024 → EReal) : EReal := Ideal.rsqrt (ms x)

/-- The gradient towards the scaled row. -/
def gy (w sc d : Fin 1024 → EReal) (q : Fin 1024) : EReal := d q * (1 + sc q) * w q

/-- The mean square's share of the row's gradient. -/
def mean (x w sc d : Fin 1024 → EReal) : EReal :=
  Ideal.div ((∑ q : Fin 1024, x q * gy w sc d q) * (Ideal.ofBits .f32 0xBF000000#32 * Ideal.div (rs x) (ms x))) (Ideal.ofBits .f32 0x44800000#32)

/-- The gradient towards the row, plus what came in beside the norm. -/
def dx (x w sc d e : Fin 1024 → EReal) (q : Fin 1024) : EReal :=
  gy w sc d q * rs x + x q * mean x w sc d + mean x w sc d * x q + e q

variable (m : (ℓ : Loc nD τ sig) → Buf (Elt Ideal) ℓ)

abbrev aX (c : Dev nD) : FVec Ideal S4096x1024 .f32 := m ((c : Thread nD τ).loc main_arg0)
abbrev aW (c : Dev nD) : FVec Ideal S1024 .f32 := m ((c : Thread nD τ).loc main_arg1)
abbrev aS (c : Dev nD) : FVec Ideal S1024 .f32 := m ((c : Thread nD τ).loc main_arg2)
abbrev aD (c : Dev nD) : FVec Ideal S4096x1024 .f32 := m ((c : Thread nD τ).loc main_arg4)
abbrev aE (c : Dev nD) : FVec Ideal S4096x1024 .f32 := m ((c : Thread nD τ).loc main_arg5)

/-- A row of an array, of a block, and a vector, as functions of the column. -/
abbrev ar (x : FVec Ideal S4096x1024 .f32) (i : Fin 4096) (q : Fin 1024) : EReal := x (ix2 i q)
abbrev br (x : FVec Ideal S512x1024 .f32) (r : Fin 512) (q : Fin 1024) : EReal := x (ix2 r q)
abbrev pr (x : FVec Ideal S1x1024 .f32) (q : Fin 1024) : EReal := x (ix2 0 q)
abbrev vr (x : FVec Ideal S1024 .f32) (q : Fin 1024) : EReal := x (ix1 q)

/-- The row of the array that is row `r` of the block at point `t`. -/
def tok (t : Fin cfg0.N) (r : Fin 512) : Fin 4096 := ⟨512 * t.val + r.val, by have := t.isLt; have h : cfg0.N = 8 := N_0; omega⟩

theorem idx : ∀ t : Fin cfg0.N, win0_0.index t = ![t.val, 0] ∧ win0_1.index t = ![0, 0] ∧ win0_2.index t = ![0, 0]
    ∧ win0_4.index t = ![t.val, 0] ∧ win0_5.index t = ![t.val, 0] ∧ win0_6.index t = ![t.val, 0] ∧ win0_7.index t = ![0, 0]
    ∧ win0_8.index t = ![0, 0] ∧ win0_9.index t = ![0, 0] :=
  (by decide +kernel : ∀ t : Fin grid0.N, _)

theorem blkX (c : Dev nD) (t : Fin cfg0.N) (r : Fin 512) : br (iblk m c 0 t) r = ar (aX m c) (tok t r) := by
  funext q
  show (iblk m c 0 t : FVec Ideal S512x1024 .f32) (ix2 r q) = m ((c : Thread nD τ).loc main_arg0) (ix2 (tok t r) q)
  blk_ext [iblk, V, idx t, tok]

theorem blkD (c : Dev nD) (t : Fin cfg0.N) (r : Fin 512) : br (iblk m c 4 t) r = ar (aD m c) (tok t r) := by
  funext q
  show (iblk m c 4 t : FVec Ideal S512x1024 .f32) (ix2 r q) = m ((c : Thread nD τ).loc main_arg4) (ix2 (tok t r) q)
  blk_ext [iblk, V, idx t, tok]

theorem blkE (c : Dev nD) (t : Fin cfg0.N) (r : Fin 512) : br (iblk m c 5 t) r = ar (aE m c) (tok t r) := by
  funext q
  show (iblk m c 5 t : FVec Ideal S512x1024 .f32) (ix2 r q) = m ((c : Thread nD τ).loc main_arg5) (ix2 (tok t r) q)
  blk_ext [iblk, V, idx t, tok]

theorem entryW (c : Dev nD) (q : Fin 1024) : (V m c main_v0 : FVec Ideal S1x1024 .f32) (ix2 0 q) = aW m c (ix1 q) := by
  simp only [V, hostOps0, List.flatten_cons, List.flatten_nil, List.append_nil, List.cons_append, List.nil_append]
  entry_read
  pointwise

theorem blkW (c : Dev nD) (t : Fin cfg0.N) : pr (iblk m c 1 t) = vr (aW m c) := by
  funext q
  refine Eq.trans ?_ (entryW m c q)
  show (iblk m c 1 t : FVec Ideal S1x1024 .f32) (ix2 0 q) = V m c main_v0 (ix2 0 q)
  blk_ext [iblk, idx t]

theorem entryS (c : Dev nD) (q : Fin 1024) : (V m c main_v1 : FVec Ideal S1x1024 .f32) (ix2 0 q) = aS m c (ix1 q) := by
  simp only [V, hostOps0, List.flatten_cons, List.flatten_nil, List.append_nil, List.cons_append, List.nil_append]
  entry_read
  pointwise

theorem blkS (c : Dev nD) (t : Fin cfg0.N) : pr (iblk m c 2 t) = vr (aS m c) := by
  funext q
  refine Eq.trans ?_ (entryS m c q)
  show (iblk m c 2 t : FVec Ideal S1x1024 .f32) (ix2 0 q) = V m c main_v1 (ix2 0 q)
  blk_ext [iblk, idx t]

theorem pay1 (x : FVec Ideal S512x1024 .f32) (w s : FVec Ideal S1x1024 .f32) (d e : FVec Ideal S512x1024 .f32) (r : Fin 512) (q : Fin 1024) :
    k0_pay1 (F := Ideal) x (k0_pay18 x w s d) (k0_pay19 x w s d) e (ix2 r q) = dx (br x r) (pr w) (pr s) (br d r) (br e r) q := by
  pointwise [k0_pay1, k0_pay18, k0_pay19, k0_pay17, k0_pay15, k0_pay12, k0_pay10, k0_pay9, k0_pay8, dx, mean, gy, rs, ms, ar, br, pr, vr, Fin.sum_univ_one]

/-- What one row adds to the three gradients that add up over the rows. -/
def tw (x s d : Fin 1024 → EReal) (q : Fin 1024) : EReal := x q * rs x * (d q * (1 + s q))
def ts (x w d : Fin 1024 → EReal) (q : Fin 1024) : EReal := x q * rs x * w q * d q

theorem zero2 (j : S1x1024.Idx) : k0_pay2 (F := Ideal) j = (0 : EReal) := by pointwise [k0_pay2]
theorem zero3 (j : S1x1024.Idx) : k0_pay3 (F := Ideal) j = (0 : EReal) := by pointwise [k0_pay3]
theorem zero4 (j : S1x1024.Idx) : k0_pay4 (F := Ideal) j = (0 : EReal) := by pointwise [k0_pay4]
theorem pay5 (x d : FVec Ideal S512x1024 .f32) (s z : FVec Ideal S1x1024 .f32) (q : Fin 1024) :
    k0_pay5 (F := Ideal) (k0_pay16 x s d) z (ix2 0 q)
      = (show EReal from z (ix2 0 q)) + ∑ r : Fin 512, tw (br x r) (pr s) (br d r) q := by
  pointwise [k0_pay5, k0_pay16, k0_pay15, k0_pay12, k0_pay11, k0_pay10, k0_pay9, tw, rs, ms, ar, br, pr, vr, Fin.sum_univ_one]
theorem pay6 (x d : FVec Ideal S512x1024 .f32) (w z : FVec Ideal S1x1024 .f32) (q : Fin 1024) :
    k0_pay6 (F := Ideal) (k0_pay14 x w d) z (ix2 0 q)
      = (show EReal from z (ix2 0 q)) + ∑ r : Fin 512, ts (br x r) (pr w) (br d r) q := by
  pointwise [k0_pay6, k0_pay14, k0_pay12, k0_pay11, k0_pay10, k0_pay9, k0_pay8, ts, rs, ms, ar, br, pr, vr, Fin.sum_univ_one]
theorem pay7 (d : FVec Ideal S512x1024 .f32) (z : FVec Ideal S1x1024 .f32) (q : Fin 1024) :
    k0_pay7 (F := Ideal) (k0_pay13 d) z (ix2 0 q) = (show EReal from z (ix2 0 q)) + ∑ r : Fin 512, br d r q := by
  pointwise [k0_pay7, k0_pay13]

theorem refX (x : FVec Ideal S4096x1024 .f32) (w s : FVec Ideal S1024 .f32) (d e : FVec Ideal S4096x1024 .f32) (i : Fin 4096) (q : Fin 1024) :
    Cert.ModNormRefIdeal.Read.val_main_v54 (F := Ideal) x w s d e (ix2 i q) = dx (ar x i) (vr w) (vr s) (ar d i) (ar e i) q := by
  pointwise [Cert.ModNormRefIdeal.Read.val_main_v54, Cert.ModNormRefIdeal.Read.val_main_v53, Cert.ModNormRefIdeal.Read.val_main_v52, Cert.ModNormRefIdeal.Read.val_main_v51, Cert.ModNormRefIdeal.Read.val_main_v50, Cert.ModNormRefIdeal.Read.val_main_v49, Cert.ModNormRefIdeal.Read.val_main_v48, Cert.ModNormRefIdeal.Read.val_main_cst_12, Cert.ModNormRefIdeal.Read.val_main_v47, Cert.ModNormRefIdeal.Read.val_main_v46, Cert.ModNormRefIdeal.Read.val_main_cst_11, Cert.ModNormRefIdeal.Read.val_main_v45, Cert.ModNormRefIdeal.Read.val_main_v44, Cert.ModNormRefIdeal.Read.val_main_v43, Cert.ModNormRefIdeal.Read.val_main_v42, Cert.ModNormRefIdeal.Read.val_main_v41, Cert.ModNormRefIdeal.Read.val_main_cst_10, Cert.ModNormRefIdeal.Read.val_main_v40, Cert.ModNormRefIdeal.Read.val_main_v38, Cert.ModNormRefIdeal.Read.val_main_v37, Cert.ModNormRefIdeal.Read.val_main_v32, Cert.ModNormRefIdeal.Read.val_main_v31, Cert.ModNormRefIdeal.Read.val_main_v24, Cert.ModNormRefIdeal.Read.val_main_v18, Cert.ModNormRefIdeal.Read.val_main_v17, Cert.ModNormRefIdeal.Read.val_main_v16, Cert.ModNormRefIdeal.Read.val_main_cst_3, Cert.ModNormRefIdeal.Read.val_main_v13, Cert.ModNormRefIdeal.Read.val_main_v10, Cert.ModNormRefIdeal.Read.val_main_v9, Cert.ModNormRefIdeal.Read.val_main_cst_2, Cert.ModNormRefIdeal.Read.val_main_v8, Cert.ModNormRefIdeal.Read.val_main_v7, Cert.ModNormRefIdeal.Read.val_main_v6, Cert.ModNormRefIdeal.Read.val_main_v5, Cert.ModNormRefIdeal.Read.val_main_cst_1, Cert.ModNormRefIdeal.Read.val_main_v4, Cert.ModNormRefIdeal.Read.val_main_v3, Cert.ModNormRefIdeal.Read.val_main_cst_0, Cert.ModNormRefIdeal.Read.val_main_v2, Cert.ModNormRefIdeal.Read.val_main_v1, Cert.ModNormRefIdeal.Read.val_main_cst, Cert.ModNormRefIdeal.Read.val_main_v0, dx, mean, gy, rs, ms, ar, br, pr, vr, Fin.sum_univ_one]
theorem refW (x : FVec Ideal S4096x1024 .f32) (s : FVec Ideal S1024 .f32) (d : FVec Ideal S4096x1024 .f32) (q : Fin 1024) :
    Cert.ModNormRefIdeal.Read.val_main_v55 (F := Ideal) x s d (ix2 0 q) = ∑ i : Fin 4096, tw (ar x i) (vr s) (ar d i) q := by
  pointwise [Cert.ModNormRefIdeal.Read.val_main_v55, Cert.ModNormRefIdeal.Read.val_main_v39, Cert.ModNormRefIdeal.Read.val_main_cst_9, Cert.ModNormRefIdeal.Read.val_main_v36, Cert.ModNormRefIdeal.Read.val_main_v35, Cert.ModNormRefIdeal.Read.val_main_cst_8, Cert.ModNormRefIdeal.Read.val_main_v34, Cert.ModNormRefIdeal.Read.val_main_v32, Cert.ModNormRefIdeal.Read.val_main_v31, Cert.ModNormRefIdeal.Read.val_main_v24, Cert.ModNormRefIdeal.Read.val_main_v18, Cert.ModNormRefIdeal.Read.val_main_v17, Cert.ModNormRefIdeal.Read.val_main_v16, Cert.ModNormRefIdeal.Read.val_main_cst_3, Cert.ModNormRefIdeal.Read.val_main_v12, Cert.ModNormRefIdeal.Read.val_main_v11, Cert.ModNormRefIdeal.Read.val_main_v7, Cert.ModNormRefIdeal.Read.val_main_v6, Cert.ModNormRefIdeal.Read.val_main_v5, Cert.ModNormRefIdeal.Read.val_main_cst_1, Cert.ModNormRefIdeal.Read.val_main_v4, Cert.ModNormRefIdeal.Read.val_main_v3, Cert.ModNormRefIdeal.Read.val_main_cst_0, Cert.ModNormRefIdeal.Read.val_main_v2, Cert.ModNormRefIdeal.Read.val_main_v1, Cert.ModNormRefIdeal.Read.val_main_cst, Cert.ModNormRefIdeal.Read.val_main_v0, tw, rs, ms, ar, br, pr, vr, Fin.sum_univ_one]
  first | done | exact Fin.sum_univ_one _
theorem refS (x : FVec Ideal S4096x1024 .f32) (w : FVec Ideal S1024 .f32) (d : FVec Ideal S4096x1024 .f32) (q : Fin 1024) :
    Cert.ModNormRefIdeal.Read.val_main_v56 (F := Ideal) x w d (ix2 0 q) = ∑ i : Fin 4096, ts (ar x i) (vr w) (ar d i) q := by
  pointwise [Cert.ModNormRefIdeal.Read.val_main_v56, Cert.ModNormRefIdeal.Read.val_main_v33, Cert.ModNormRefIdeal.Read.val_main_cst_7, Cert.ModNormRefIdeal.Read.val_main_v30, Cert.ModNormRefIdeal.Read.val_main_v29, Cert.ModNormRefIdeal.Read.val_main_cst_6, Cert.ModNormRefIdeal.Read.val_main_v28, Cert.ModNormRefIdeal.Read.val_main_v24, Cert.ModNormRefIdeal.Read.val_main_v15, Cert.ModNormRefIdeal.Read.val_main_v14, Cert.ModNormRefIdeal.Read.val_main_v13, Cert.ModNormRefIdeal.Read.val_main_v12, Cert.ModNormRefIdeal.Read.val_main_v11, Cert.ModNormRefIdeal.Read.val_main_v7, Cert.ModNormRefIdeal.Read.val_main_v6, Cert.ModNormRefIdeal.Read.val_main_v5, Cert.ModNormRefIdeal.Read.val_main_cst_1, Cert.ModNormRefIdeal.Read.val_main_v4, Cert.ModNormRefIdeal.Read.val_main_v3, Cert.ModNormRefIdeal.Read.val_main_cst_0, Cert.ModNormRefIdeal.Read.val_main_v2, Cert.ModNormRefIdeal.Read.val_main_v1, Cert.ModNormRefIdeal.Read.val_main_cst, Cert.ModNormRefIdeal.Read.val_main_v0, ts, rs, ms, ar, br, pr, vr, Fin.sum_univ_one]
  first | done | exact Fin.sum_univ_one _
theorem refH (d : FVec Ideal S4096x1024 .f32) (q : Fin 1024) :
    Cert.ModNormRefIdeal.Read.val_main_v57 (F := Ideal) d (ix2 0 q) = ∑ i : Fin 4096, ar d i q := by
  pointwise [Cert.ModNormRefIdeal.Read.val_main_v57, Cert.ModNormRefIdeal.Read.val_main_v27, Cert.ModNormRefIdeal.Read.val_main_cst_5, Cert.ModNormRefIdeal.Read.val_main_v26, Cert.ModNormRefIdeal.Read.val_main_v25, Cert.ModNormRefIdeal.Read.val_main_cst_4]
  first | done | exact Fin.sum_univ_one _

theorem out6 (c : Dev nD) (t : Fin cfg0.N) (r : Fin 512) (q : Fin 1024) :
    (outsAt0 m c t.val t.isLt).1 (ix2 r q)
      = dx (ar (aX m c) (tok t r)) (vr (aW m c)) (vr (aS m c)) (ar (aD m c) (tok t r)) (ar (aE m c) (tok t r)) q := by
  rw [← blkX m c t, ← blkD m c t, ← blkE m c t, ← blkW m c t, ← blkS m c t]
  by_cases h : t.val % 8 = 0
  · rw [outsAt0_A m c t h]; frame_out
    exact pay1 ..
  · rw [outsAt0_B m c t h]; frame_out
    exact pay1 ..

theorem after6 (c : Dev nD) : (dats m 0 c).arrAt 6 (cfgs 0).N
    = Cert.ModNormRefIdeal.Read.val_main_v54 (F := Ideal) (aX m c) (aW m c) (aS m c) (aD m c) (aE m c) := by
  refine (dats m 0 c).arrAt_eq_of_covers 6 _ (by decide +kernel) fun t hf y => ?_
  blk_simp
  rw [after0_6]
  idx_vars y
  refine (out6 m c t _ _).trans ((refX _ _ _ _ _ _ _).symm.trans ?_)
  blk_ext [idx t, tok]

theorem tok_run (t : Fin cfg0.N) (s : Fin 8) (h) (r : Fin 512) (h') : tok ⟨8 * (t.val / 8) + s.val, h⟩ r = ⟨512 * s.val + r.val, h'⟩ :=
  Fin.ext (by have := t.isLt; have h : cfg0.N = 8 := N_0; show 512 * (8 * (t.val / 8) + s.val) + r.val = 512 * s.val + r.val; omega)

/-- What one block of rows adds to the norm weight's gradient. -/
def addW (c : Dev nD) (t : Fin cfg0.N) (j : S1x1024.Idx) : EReal :=
  ∑ r : Fin 512, tw (ar (aX m c) (tok t r)) (vr (aS m c)) (ar (aD m c) (tok t r)) (j 1)

theorem partW (c : Dev nD) (t : Fin cfg0.N) (z : FVec Ideal S1x1024 .f32) (j : S1x1024.Idx) :
    k0_pay5 (F := Ideal) (k0_pay16 (iblk m c 0 t) (iblk m c 2 t) (iblk m c 4 t)) z j = (show EReal from z j) + addW m c t j := by
  idx_vars j
  obtain rfl := Subsingleton.elim j0 0
  refine (pay5 _ _ _ _ _ ).trans (congrArg _ (Finset.sum_congr rfl fun r _ => ?_))
  rw [blkX m c t r, blkD m c t r, blkS m c t]
  rfl

theorem stepW_A (c : Dev nD) (t : Fin cfg0.N) (h : t.val % 8 = 0) (j : S1x1024.Idx) :
    (outsAt0 m c t.val t.isLt).2.1 j = (0 : EReal) + addW m c t j := by
  rw [outsAt0_A m c t h]; frame_out
  exact (partW m c t _ j).trans (Ideal.add_congr (zero2 j) rfl)

theorem stepW_B (c : Dev nD) (t : Fin cfg0.N) (h : ¬t.val % 8 = 0) (j : S1x1024.Idx) :
    (outsAt0 m c t.val t.isLt).2.1 j = (show EReal from (outsAt0 m c (t.val - 1) (by omega)).2.1 j) + addW m c t j := by
  rw [outsAt0_B m c t h]; frame_out
  exact partW m c t _ j

theorem sumW (c : Dev nD) (t : Fin cfg0.N) (h : ∀ s : Fin 8, 8 * (t.val / 8) + s.val < cfg0.N) (q : Fin 1024) :
    (∑ s : Fin 8, addW m c ⟨8 * (t.val / 8) + s.val, h s⟩ (ix2 0 q)) = Cert.ModNormRefIdeal.Read.val_main_v55 (F := Ideal) (aX m c) (aS m c) (aD m c) (ix2 0 q) := by
  refine Eq.trans ?_ ((refW _ _ _ q).trans (sum_cut (a := 8) (b := 512) rfl _)).symm
  refine Finset.sum_congr rfl fun s _ => Finset.sum_congr rfl fun r _ => ?_
  rw [tok_run t s (h s) r (by omega)]
  rfl

theorem after7 (c : Dev nD) : (dats m 0 c).arrAt 7 (cfgs 0).N = Cert.ModNormRefIdeal.Read.val_main_v55 (F := Ideal) (aX m c) (aS m c) (aD m c) := by
  refine (dats m 0 c).arrAt_eq_of_covers 7 _ (by decide +kernel) fun t hf y => ?_
  blk_simp
  rw [after0_7, Pipeline.eq_sum_fin_of_reset_step_apply_of_flush (fun n h => (outsAt0 m c n h).2.1) 8 (fun _ => 0) (addW m c)
    (fun t h j => stepW_A m c t h j) (fun t h j => stepW_B m c t h j) t ((flush0_7 t).mp hf) _, zero_add]
  idx_vars y
  obtain rfl := Subsingleton.elim y0 0
  have e : (win0_7.blk t).view.emb (ix2 0 y1) = ix2 0 y1 := by blk_ext [idx t]
  rw [e]
  exact sumW m c t _ y1

/-- What one block of rows adds to the scale's gradient. -/
def addS (c : Dev nD) (t : Fin cfg0.N) (j : S1x1024.Idx) : EReal :=
  ∑ r : Fin 512, ts (ar (aX m c) (tok t r)) (vr (aW m c)) (ar (aD m c) (tok t r)) (j 1)

theorem partS (c : Dev nD) (t : Fin cfg0.N) (z : FVec Ideal S1x1024 .f32) (j : S1x1024.Idx) :
    k0_pay6 (F := Ideal) (k0_pay14 (iblk m c 0 t) (iblk m c 1 t) (iblk m c 4 t)) z j = (show EReal from z j) + addS m c t j := by
  idx_vars j
  obtain rfl := Subsingleton.elim j0 0
  refine (pay6 _ _ _ _ _ ).trans (congrArg _ (Finset.sum_congr rfl fun r _ => ?_))
  rw [blkX m c t r, blkD m c t r, blkW m c t]
  rfl

theorem stepS_A (c : Dev nD) (t : Fin cfg0.N) (h : t.val % 8 = 0) (j : S1x1024.Idx) :
    (outsAt0 m c t.val t.isLt).2.2.1 j = (0 : EReal) + addS m c t j := by
  rw [outsAt0_A m c t h]; frame_out
  exact (partS m c t _ j).trans (Ideal.add_congr (zero3 j) rfl)

theorem stepS_B (c : Dev nD) (t : Fin cfg0.N) (h : ¬t.val % 8 = 0) (j : S1x1024.Idx) :
    (outsAt0 m c t.val t.isLt).2.2.1 j = (show EReal from (outsAt0 m c (t.val - 1) (by omega)).2.2.1 j) + addS m c t j := by
  rw [outsAt0_B m c t h]; frame_out
  exact partS m c t _ j

theorem sumS (c : Dev nD) (t : Fin cfg0.N) (h : ∀ s : Fin 8, 8 * (t.val / 8) + s.val < cfg0.N) (q : Fin 1024) :
    (∑ s : Fin 8, addS m c ⟨8 * (t.val / 8) + s.val, h s⟩ (ix2 0 q)) = Cert.ModNormRefIdeal.Read.val_main_v56 (F := Ideal) (aX m c) (aW m c) (aD m c) (ix2 0 q) := by
  refine Eq.trans ?_ ((refS _ _ _ q).trans (sum_cut (a := 8) (b := 512) rfl _)).symm
  refine Finset.sum_congr rfl fun s _ => Finset.sum_congr rfl fun r _ => ?_
  rw [tok_run t s (h s) r (by omega)]
  rfl

theorem after8 (c : Dev nD) : (dats m 0 c).arrAt 8 (cfgs 0).N = Cert.ModNormRefIdeal.Read.val_main_v56 (F := Ideal) (aX m c) (aW m c) (aD m c) := by
  refine (dats m 0 c).arrAt_eq_of_covers 8 _ (by decide +kernel) fun t hf y => ?_
  blk_simp
  rw [after0_8, Pipeline.eq_sum_fin_of_reset_step_apply_of_flush (fun n h => (outsAt0 m c n h).2.2.1) 8 (fun _ => 0) (addS m c)
    (fun t h j => stepS_A m c t h j) (fun t h j => stepS_B m c t h j) t ((flush0_8 t).mp hf) _, zero_add]
  idx_vars y
  obtain rfl := Subsingleton.elim y0 0
  have e : (win0_8.blk t).view.emb (ix2 0 y1) = ix2 0 y1 := by blk_ext [idx t]
  rw [e]
  exact sumS m c t _ y1

/-- What one block of rows adds to the shift's gradient. -/
def addH (c : Dev nD) (t : Fin cfg0.N) (j : S1x1024.Idx) : EReal :=
  ∑ r : Fin 512, ar (aD m c) (tok t r) (j 1)

theorem partH (c : Dev nD) (t : Fin cfg0.N) (z : FVec Ideal S1x1024 .f32) (j : S1x1024.Idx) :
    k0_pay7 (F := Ideal) (k0_pay13 (iblk m c 4 t)) z j = (show EReal from z j) + addH m c t j := by
  idx_vars j
  obtain rfl := Subsingleton.elim j0 0
  refine (pay7 _ _ _ ).trans (congrArg _ (Finset.sum_congr rfl fun r _ => ?_))
  rw [blkD m c t r]
  rfl

theorem stepH_A (c : Dev nD) (t : Fin cfg0.N) (h : t.val % 8 = 0) (j : S1x1024.Idx) :
    (outsAt0 m c t.val t.isLt).2.2.2 j = (0 : EReal) + addH m c t j := by
  rw [outsAt0_A m c t h]; frame_out
  exact (partH m c t _ j).trans (Ideal.add_congr (zero4 j) rfl)

theorem stepH_B (c : Dev nD) (t : Fin cfg0.N) (h : ¬t.val % 8 = 0) (j : S1x1024.Idx) :
    (outsAt0 m c t.val t.isLt).2.2.2 j = (show EReal from (outsAt0 m c (t.val - 1) (by omega)).2.2.2 j) + addH m c t j := by
  rw [outsAt0_B m c t h]; frame_out
  exact partH m c t _ j

theorem sumH (c : Dev nD) (t : Fin cfg0.N) (h : ∀ s : Fin 8, 8 * (t.val / 8) + s.val < cfg0.N) (q : Fin 1024) :
    (∑ s : Fin 8, addH m c ⟨8 * (t.val / 8) + s.val, h s⟩ (ix2 0 q)) = Cert.ModNormRefIdeal.Read.val_main_v57 (F := Ideal) (aD m c) (ix2 0 q) := by
  refine Eq.trans ?_ ((refH _ q).trans (sum_cut (a := 8) (b := 512) rfl _)).symm
  refine Finset.sum_congr rfl fun s _ => Finset.sum_congr rfl fun r _ => ?_
  rw [tok_run t s (h s) r (by omega)]
  rfl

theorem after9 (c : Dev nD) : (dats m 0 c).arrAt 9 (cfgs 0).N = Cert.ModNormRefIdeal.Read.val_main_v57 (F := Ideal) (aD m c) := by
  refine (dats m 0 c).arrAt_eq_of_covers 9 _ (by decide +kernel) fun t hf y => ?_
  blk_simp
  rw [after0_9, Pipeline.eq_sum_fin_of_reset_step_apply_of_flush (fun n h => (outsAt0 m c n h).2.2.2) 8 (fun _ => 0) (addH m c)
    (fun t h j => stepH_A m c t h j) (fun t h j => stepH_B m c t h j) t ((flush0_9 t).mp hf) _, zero_add]
  idx_vars y
  obtain rfl := Subsingleton.elim y0 0
  have e : (win0_9.blk t).view.emb (ix2 0 y1) = ix2 0 y1 := by blk_ext [idx t]
  rw [e]
  exact sumH m c t _ y1

theorem algebraic : Cert.algebraic_ModNormIdeal_ModNormRefIdeal := by
  intro m g m' g' _ hagree
  refine ⟨_, _, _, _, Cert.ModNormIdeal.Value.run_blocks m g, (θ_run _ _ _).mono (fun r h c => ?_) (Cert.ModNormRefIdeal.Value.run m' g')⟩
  obtain ⟨r0, r1, r2, r3, k⟩ := h c
  obtain ⟨h0, h1, h2, h3, h4, h5⟩ := hagree c
  refine ⟨r0.trans ?_, r1.trans ?_, r2.trans ?_, r3.trans ?_, k⟩
  · refine (Cert.ModNormRefIdeal.Read.val_main_v54_eq _ _).trans (Eq.trans ?_ (after6 m c).symm)
    exact congr (congr (congr (congr (congrArg (fun x y z p q => Cert.ModNormRefIdeal.Read.val_main_v54 (F := Ideal) x y z p q) h0) h1) h2) h4) h5
  · refine (Cert.ModNormRefIdeal.Read.val_main_v55_eq _ _ _).trans (Eq.trans ?_ (after7 m c).symm)
    exact congr (congr (congrArg (fun x y z => Cert.ModNormRefIdeal.Read.val_main_v55 (F := Ideal) x y z) h0) h2) h4
  · refine (Cert.ModNormRefIdeal.Read.val_main_v56_eq _ _ _).trans (Eq.trans ?_ (after8 m c).symm)
    exact congr (congr (congrArg (fun x y z => Cert.ModNormRefIdeal.Read.val_main_v56 (F := Ideal) x y z) h0) h1) h4
  · refine (Cert.ModNormRefIdeal.Read.val_main_v57_eq _).trans (Eq.trans ?_ (after9 m c).symm)
    exact congrArg (fun x => Cert.ModNormRefIdeal.Read.val_main_v57 (F := Ideal) x) h4

theorem refFrame : Cert.quiescent_ModNormRefIdeal := by
  intro m g _
  refine (θ_run _ _ _).mono (fun r h => ⟨fun c => ?_, sem_eq_zero_of_no_sems (by decide) _⟩) (Cert.ModNormRefIdeal.Value.run m g)
  obtain ⟨_, _, _, _, k⟩ := h c
  exact k

end Cert.Elementwise.ModNorm

end
-- ==== Proof.Resid.lean ====
/- The backward pass of a gated residual: its three gradients. -/
module

public import proofs.«01_k».proof.Defs
public import proofs.«01_k».proof.Proof.Gen.Resid.Frame
public import proofs.«01_k».proof.Proof.Gen.ResidIdeal.Value
public import proofs.«01_k».proof.Proof.Gen.ResidRefIdeal.Run
public import proofs.«01_k».proof.Proof.Gen.ResidRefIdeal.Read
public import proofs.«01_k».proof.Proof.Sums
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Elementwise.Resid
open Cert.ResidIdeal Cert.ResidIdeal.Gen

variable (m : (ℓ : Loc nD τ sig) → Buf (Elt Ideal) ℓ)

abbrev aX (c : Dev nD) : FVec Ideal S4096x1024 .f32 := m ((c : Thread nD τ).loc main_arg0)
abbrev aY (c : Dev nD) : FVec Ideal S4096x1024 .f32 := m ((c : Thread nD τ).loc main_arg1)
abbrev aG (c : Dev nD) : FVec Ideal S1024 .f32 := m ((c : Thread nD τ).loc main_arg2)
abbrev aD (c : Dev nD) : FVec Ideal S4096x1024 .f32 := m ((c : Thread nD τ).loc main_arg3)

/-- The row of the array that is row `r` of the block at point `t`. -/
def tok (t : Fin cfg0.N) (r : Fin 512) : Fin 4096 := ⟨512 * t.val + r.val, by have := t.isLt; have h : cfg0.N = 8 := N_0; omega⟩

theorem idx : ∀ t : Fin cfg0.N, win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

theorem blkY (c : Dev nD) (t : Fin cfg0.N) (r : Fin 512) (q : Fin 1024) :
    (iblk m c 1 t : FVec Ideal S512x1024 .f32) (ix2 r q) = aY m c (ix2 (tok t r) q) := by
  show _ = m ((c : Thread nD τ).loc main_arg1) (ix2 (tok t r) q)
  blk_ext [iblk, V, idx t, tok]

theorem blkD (c : Dev nD) (t : Fin cfg0.N) (r : Fin 512) (q : Fin 1024) :
    (iblk m c 3 t : FVec Ideal S512x1024 .f32) (ix2 r q) = aD m c (ix2 (tok t r) q) := by
  show _ = m ((c : Thread nD τ).loc main_arg3) (ix2 (tok t r) q)
  blk_ext [iblk, V, idx t, tok]

theorem entryG (c : Dev nD) (q : Fin 1024) : (V m c main_v0 : FVec Ideal S1x1024 .f32) (ix2 0 q) = aG m c (ix1 q) := by
  simp only [V, hostOps0, List.flatten_cons, List.flatten_nil, List.append_nil, List.cons_append, List.nil_append]
  entry_read
  pointwise

theorem blkG (c : Dev nD) (t : Fin cfg0.N) (q : Fin 1024) :
    (iblk m c 2 t : FVec Ideal S1x1024 .f32) (ix2 0 q) = aG m c (ix1 q) := by
  refine Eq.trans ?_ (entryG m c q)
  show (iblk m c 2 t : FVec Ideal S1x1024 .f32) (ix2 0 q) = V m c main_v0 (ix2 0 q)
  blk_ext [iblk, idx t]

theorem pay2 (g : FVec Ideal S1x1024 .f32) (d : FVec Ideal S512x1024 .f32) (r : Fin 512) (q : Fin 1024) :
    k0_pay2 (F := Ideal) g d (ix2 r q) = g (ix2 0 q) * d (ix2 r q) := by pointwise [k0_pay2, k0_pay1]
theorem pay1 (d : FVec Ideal S512x1024 .f32) (r : Fin 512) (q : Fin 1024) :
    k0_pay1 (F := Ideal) d (ix2 r q) = d (ix2 r q) := by pointwise [k0_pay1]
theorem pay3 (j : S1x1024.Idx) : k0_pay3 (F := Ideal) j = (0 : EReal) := by pointwise [k0_pay3]
theorem pay4 (y d : FVec Ideal S512x1024 .f32) (z : FVec Ideal S1x1024 .f32) (q : Fin 1024) :
    k0_pay4 (F := Ideal) y d z (ix2 0 q)
      = (show EReal from z (ix2 0 q)) + @Finset.sum (Fin 512) EReal _ Finset.univ fun r => d (ix2 r q) * y (ix2 r q) := by
  pointwise [k0_pay4, k0_pay1]

theorem outA (c : Dev nD) (t : Fin cfg0.N) (r : Fin 512) (q : Fin 1024) :
    (outsAt0 m c t.val t.isLt).1 (ix2 r q) = aD m c (ix2 (tok t r) q) := by
  rw [← blkD m c t]
  by_cases h : t.val % 8 = 0
  · rw [outsAt0_A m c t h]; frame_out
  · rw [outsAt0_B m c t h]; frame_out

theorem outB (c : Dev nD) (t : Fin cfg0.N) (r : Fin 512) (q : Fin 1024) :
    (outsAt0 m c t.val t.isLt).2.1 (ix2 r q) = aG m c (ix1 q) * aD m c (ix2 (tok t r) q) := by
  rw [← blkD m c t, ← blkG m c t]
  by_cases h : t.val % 8 = 0
  · rw [outsAt0_A m c t h]; frame_out
    exact pay2 ..
  · rw [outsAt0_B m c t h]; frame_out
    exact pay2 ..

theorem refB (c : Dev nD) (i : Fin 4096) (q : Fin 1024) :
    Cert.ResidRefIdeal.Read.val_main_v11 (F := Ideal) (aG m c) (aD m c) (ix2 i q) = aG m c (ix1 q) * aD m c (ix2 i q) := by
  pointwise [Cert.ResidRefIdeal.Read.val_main_v11, Cert.ResidRefIdeal.Read.val_main_v6, Cert.ResidRefIdeal.Read.val_main_v5,
    Cert.ResidRefIdeal.Read.val_main_v4, Cert.ResidRefIdeal.Read.val_main_v0]

theorem refG (c : Dev nD) (q : Fin 1024) :
    Cert.ResidRefIdeal.Read.val_main_v12 (F := Ideal) (aY m c) (aD m c) (ix2 0 q)
      = @Finset.sum (Fin 4096) EReal _ Finset.univ fun i => aD m c (ix2 i q) * aY m c (ix2 i q) := by
  pointwise [Cert.ResidRefIdeal.Read.val_main_v12, Cert.ResidRefIdeal.Read.val_main_v10, Cert.ResidRefIdeal.Read.val_main_v9,
    Cert.ResidRefIdeal.Read.val_main_v8, Cert.ResidRefIdeal.Read.val_main_v7, Cert.ResidRefIdeal.Read.val_main_v4,
    Cert.ResidRefIdeal.Read.val_main_cst, Cert.ResidRefIdeal.Read.val_main_cst_0]
  exact Fin.sum_univ_one _

theorem after4 (c : Dev nD) : (dats m 0 c).arrAt 4 (cfgs 0).N = aD m c := by
  refine (dats m 0 c).arrAt_eq_of_covers 4 _ (by decide +kernel) fun t hf y => ?_
  blk_simp
  rw [after0_4]
  idx_vars y
  refine (outA m c t _ _).trans ?_
  show m ((c : Thread nD τ).loc main_arg3) (ix2 (tok t y0) y1) = _
  blk_ext [idx t, tok]

theorem after5 (c : Dev nD) : (dats m 0 c).arrAt 5 (cfgs 0).N
    = Cert.ResidRefIdeal.Read.val_main_v11 (F := Ideal) (aG m c) (aD m c) := by
  refine (dats m 0 c).arrAt_eq_of_covers 5 _ (by decide +kernel) fun t hf y => ?_
  blk_simp
  rw [after0_5]
  idx_vars y
  refine (outB m c t _ _).trans ((refB m c _ _).symm.trans ?_)
  blk_ext [idx t, tok]

/-- What one block of rows adds to the gate's gradient. -/
def addG (c : Dev nD) (t : Fin cfg0.N) (j : S1x1024.Idx) : EReal :=
  @Finset.sum (Fin 512) EReal _ Finset.univ fun r => aD m c (ix2 (tok t r) (j 1)) * aY m c (ix2 (tok t r) (j 1))

theorem partG (c : Dev nD) (t : Fin cfg0.N) (z : FVec Ideal S1x1024 .f32) (j : S1x1024.Idx) :
    k0_pay4 (F := Ideal) (iblk m c 1 t) (iblk m c 3 t) z j = (show EReal from z j) + addG m c t j := by
  idx_vars j
  obtain rfl := Subsingleton.elim j0 0
  refine (pay4 _ _ _ _).trans (congrArg _ (Finset.sum_congr rfl fun r _ => ?_))
  exact congrArg₂ _ (blkD m c t r j1) (blkY m c t r j1)

theorem stepG_A (c : Dev nD) (t : Fin cfg0.N) (h : t.val % 8 = 0) (j : S1x1024.Idx) :
    (outsAt0 m c t.val t.isLt).2.2 j = (0 : EReal) + addG m c t j := by
  rw [outsAt0_A m c t h]; frame_out
  exact (partG m c t _ j).trans (Ideal.add_congr (pay3 j) rfl)

theorem stepG_B (c : Dev nD) (t : Fin cfg0.N) (h : ¬t.val % 8 = 0) (j : S1x1024.Idx) :
    (outsAt0 m c t.val t.isLt).2.2 j = (show EReal from (outsAt0 m c (t.val - 1) (by omega)).2.2 j) + addG m c t j := by
  rw [outsAt0_B m c t h]; frame_out
  exact partG m c t _ j

theorem sumG (c : Dev nD) (t : Fin cfg0.N) (h : ∀ s : Fin 8, 8 * (t.val / 8) + s.val < cfg0.N) (q : Fin 1024) :
    (∑ s : Fin 8, addG m c ⟨8 * (t.val / 8) + s.val, h s⟩ (ix2 0 q))
      = Cert.ResidRefIdeal.Read.val_main_v12 (F := Ideal) (aY m c) (aD m c) (ix2 0 q) := by
  refine Eq.trans ?_ ((refG m c q).trans (sum_cut (a := 8) (b := 512) rfl _)).symm
  refine Finset.sum_congr rfl fun s _ => Finset.sum_congr rfl fun r _ => ?_
  have e : tok ⟨8 * (t.val / 8) + s.val, h s⟩ r = ⟨512 * s.val + r.val, by omega⟩ :=
    Fin.ext (by have := t.isLt; have h : cfg0.N = 8 := N_0; show 512 * (8 * (t.val / 8) + s.val) + r.val = 512 * s.val + r.val; omega)
  rw [e]
  rfl

theorem after6 (c : Dev nD) : (dats m 0 c).arrAt 6 (cfgs 0).N
    = Cert.ResidRefIdeal.Read.val_main_v12 (F := Ideal) (aY m c) (aD m c) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0) (addG m c)
    (fun t h j => stepG_A m c t h j) (fun t h j => stepG_B m c t h j) t ((flush0_6 t).mp hf) _, zero_add]
  idx_vars y
  obtain rfl := Subsingleton.elim y0 0
  have e : (win0_6.blk t).view.emb (ix2 0 y1) = ix2 0 y1 := by blk_ext [idx t]
  rw [e]
  exact sumG m c t _ y1

theorem algebraic : Cert.algebraic_ResidIdeal_ResidRefIdeal := by
  intro m g m' g' _ hagree
  refine ⟨_, _, _, Cert.ResidIdeal.Value.run_blocks m g, (θ_run _ _ _).mono (fun r h c => ?_) (Cert.ResidRefIdeal.Value.run m' g')⟩
  obtain ⟨r0, r1, r2, k⟩ := h c
  obtain ⟨h0, h1, h2, h3⟩ := hagree c
  refine ⟨r0.trans ?_, r1.trans ?_, r2.trans ?_, k⟩
  · exact Eq.trans h3 (after4 m c).symm
  · refine (Cert.ResidRefIdeal.Read.val_main_v11_eq _ _).trans (Eq.trans ?_ (after5 m c).symm)
    exact congrArg₂ (fun a b => Cert.ResidRefIdeal.Read.val_main_v11 (F := Ideal) a b) h2 h3
  · refine (Cert.ResidRefIdeal.Read.val_main_v12_eq _ _).trans (Eq.trans ?_ (after6 m c).symm)
    exact congrArg₂ (fun a b => Cert.ResidRefIdeal.Read.val_main_v12 (F := Ideal) a b) h1 h3

theorem refFrame : Cert.quiescent_ResidRefIdeal := by
  intro m g _
  refine (θ_run _ _ _).mono (fun r h => ⟨fun c => ?_, sem_eq_zero_of_no_sems (by decide) _⟩) (Cert.ResidRefIdeal.Value.run m g)
  obtain ⟨_, _, _, k⟩ := h c
  exact k

end Cert.Elementwise.Resid

end
-- ==== Proof.SwiGlu.lean ====
/- The backward pass of the gated feed-forward activation. -/
module

public import proofs.«01_k».proof.Defs
public import proofs.«01_k».proof.Proof.Gen.SwiGlu.Frame
public import proofs.«01_k».proof.Proof.Gen.SwiGluIdeal.Value
public import proofs.«01_k».proof.Proof.Gen.SwiGluRefIdeal.Run
public import proofs.«01_k».proof.Proof.Gen.SwiGluRefIdeal.Read
public import proofs.«01_k».proof.Proof.Sums
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Elementwise.SwiGlu
open Cert.SwiGluIdeal Cert.SwiGluIdeal.Gen

/-- The gradient towards the gate, and towards the other half. -/
def dg (g u d : EReal) : EReal := d * u * Ideal.logistic g + g * (d * u) * (Ideal.logistic g * (1 - Ideal.logistic g))
def du (g d : EReal) : EReal := g * Ideal.logistic g * d

/-- One entry of the gradient of a row of gate and other half side by side. -/
def dgu (x : Fin 5632 → EReal) (d : Fin 2816 → EReal) (q : Fin 5632) : EReal :=
  if h : q.val < 2816 then dg (x q) (x ⟨2816 + q.val, by omega⟩) (d ⟨q.val, h⟩)
  else du (x ⟨q.val - 2816, by omega⟩) (d ⟨q.val - 2816, by omega⟩)

variable (m : (ℓ : Loc nD τ sig) → Buf (Elt Ideal) ℓ)

abbrev aX (c : Dev nD) : FVec Ideal S4096x5632 .f32 := m ((c : Thread nD τ).loc main_arg0)
abbrev aD (c : Dev nD) : FVec Ideal S4096x2816 .f32 := m ((c : Thread nD τ).loc main_arg1)

/-- The row of the array that is row `r` of the block at point `t`. -/
def tok (t : Fin cfg0.N) (r : Fin 256) : Fin 4096 := ⟨256 * t.val + r.val, by have := t.isLt; have h : cfg0.N = 16 := N_0; omega⟩

theorem idx : ∀ t : Fin cfg0.N, win0_0.index t = ![t.val, 0] ∧ win0_1.index t = ![t.val, 0] ∧ win0_2.index t = ![t.val, 0] :=
  (by decide +kernel : ∀ t : Fin grid0.N, _)

theorem entryX (c : Dev nD) (i : Fin 4096) (q : Fin 5632) : (V m c main_v0 : FVec Ideal S4096x5632 .bf16) (ix2 i q) = aX m c (ix2 i q) := by
  simp only [V, hostOps0, List.flatten_cons, List.flatten_nil, List.append_nil, List.cons_append, List.nil_append]
  entry_read
  pointwise

theorem readX (A : FVec Ideal S4096x5632 .bf16) (t : Fin cfg0.N) (r : Fin 256) (q : Fin 5632) :
    ((cfg0.win 0).blk t).view.read (Elt Ideal) A (ix2 r q) = A (ix2 (tok t r) q) := by
  blk_ext [idx t, tok]

theorem blkX (c : Dev nD) (t : Fin cfg0.N) (r : Fin 256) (q : Fin 5632) :
    (iblk m c 0 t : FVec Ideal S256x5632 .bf16) (ix2 r q) = aX m c (ix2 (tok t r) q) :=
  (readX (V m c main_v0) t r q).trans (entryX m c _ _)

theorem entryD (c : Dev nD) (i : Fin 4096) (q : Fin 2816) : (V m c main_v1 : FVec Ideal S4096x2816 .bf16) (ix2 i q) = aD m c (ix2 i q) := by
  simp only [V, hostOps0, List.flatten_cons, List.flatten_nil, List.append_nil, List.cons_append, List.nil_append]
  entry_read
  pointwise

theorem readD (A : FVec Ideal S4096x2816 .bf16) (t : Fin cfg0.N) (r : Fin 256) (q : Fin 2816) :
    ((cfg0.win 1).blk t).view.read (Elt Ideal) A (ix2 r q) = A (ix2 (tok t r) q) := by
  blk_ext [idx t, tok]

theorem blkD (c : Dev nD) (t : Fin cfg0.N) (r : Fin 256) (q : Fin 2816) :
    (iblk m c 1 t : FVec Ideal S256x2816 .bf16) (ix2 r q) = aD m c (ix2 (tok t r) q) :=
  (readD (V m c main_v1) t r q).trans (entryD m c _ _)

theorem pay1 (x : FVec Ideal S256x5632 .bf16) (d : FVec Ideal S256x2816 .bf16) (r : Fin 256) (q : Fin 5632) :
    k0_pay1 (F := Ideal) x d (ix2 r q) = dgu (fun q => x (ix2 r q)) (fun q => d (ix2 r q)) q := by
  by_cases h : q.val < 2816
  · pointwise [k0_pay1, dgu, dif_pos h, dg]
  · pointwise [k0_pay1, dgu, dif_neg h, du]

theorem refD (x : FVec Ideal S4096x5632 .f32) (d : FVec Ideal S4096x2816 .f32) (i : Fin 4096) (q : Fin 5632) :
    Cert.SwiGluRefIdeal.Read.val_main_v8 (F := Ideal) x d (ix2 i q) = dgu (fun q => x (ix2 i q)) (fun q => d (ix2 i q)) q := by
  by_cases h : q.val < 2816
  · pointwise [Cert.SwiGluRefIdeal.Read.val_main_v0, Cert.SwiGluRefIdeal.Read.val_main_v1, Cert.SwiGluRefIdeal.Read.val_main_call0_v0, Cert.SwiGluRefIdeal.Read.val_main_call0_v1, Cert.SwiGluRefIdeal.Read.val_main_call0_cst, Cert.SwiGluRefIdeal.Read.val_main_call0_v2, Cert.SwiGluRefIdeal.Read.val_main_call0_v3, Cert.SwiGluRefIdeal.Read.val_main_call0_cst_0, Cert.SwiGluRefIdeal.Read.val_main_call0_v4, Cert.SwiGluRefIdeal.Read.val_main_v2_2, Cert.SwiGluRefIdeal.Read.val_main_call0_cst_1, Cert.SwiGluRefIdeal.Read.val_main_call0_v6, Cert.SwiGluRefIdeal.Read.val_main_call0_v7, Cert.SwiGluRefIdeal.Read.val_main_v2_1, Cert.SwiGluRefIdeal.Read.val_main_v2_0, Cert.SwiGluRefIdeal.Read.val_main_v3, Cert.SwiGluRefIdeal.Read.val_main_v4, Cert.SwiGluRefIdeal.Read.val_main_v5, Cert.SwiGluRefIdeal.Read.val_main_call1_v0, Cert.SwiGluRefIdeal.Read.val_main_call1_v1, Cert.SwiGluRefIdeal.Read.val_main_call1_v2, Cert.SwiGluRefIdeal.Read.val_main_v6, Cert.SwiGluRefIdeal.Read.val_main_v7, Cert.SwiGluRefIdeal.Read.val_main_v8, dgu, dif_pos h, dg, Ideal.logistic]
  · pointwise [Cert.SwiGluRefIdeal.Read.val_main_v0, Cert.SwiGluRefIdeal.Read.val_main_v1, Cert.SwiGluRefIdeal.Read.val_main_call0_v0, Cert.SwiGluRefIdeal.Read.val_main_call0_v1, Cert.SwiGluRefIdeal.Read.val_main_call0_cst, Cert.SwiGluRefIdeal.Read.val_main_call0_v2, Cert.SwiGluRefIdeal.Read.val_main_call0_v3, Cert.SwiGluRefIdeal.Read.val_main_call0_cst_0, Cert.SwiGluRefIdeal.Read.val_main_call0_v4, Cert.SwiGluRefIdeal.Read.val_main_v2_2, Cert.SwiGluRefIdeal.Read.val_main_call0_cst_1, Cert.SwiGluRefIdeal.Read.val_main_call0_v6, Cert.SwiGluRefIdeal.Read.val_main_call0_v7, Cert.SwiGluRefIdeal.Read.val_main_v2_1, Cert.SwiGluRefIdeal.Read.val_main_v2_0, Cert.SwiGluRefIdeal.Read.val_main_v3, Cert.SwiGluRefIdeal.Read.val_main_v4, Cert.SwiGluRefIdeal.Read.val_main_v5, Cert.SwiGluRefIdeal.Read.val_main_call1_v0, Cert.SwiGluRefIdeal.Read.val_main_call1_v1, Cert.SwiGluRefIdeal.Read.val_main_call1_v2, Cert.SwiGluRefIdeal.Read.val_main_v6, Cert.SwiGluRefIdeal.Read.val_main_v7, Cert.SwiGluRefIdeal.Read.val_main_v8, dgu, dif_neg h, du, Ideal.logistic]

theorem after2 (c : Dev nD) : (dats m 0 c).arrAt 2 (cfgs 0).N = Cert.SwiGluRefIdeal.Read.val_main_v8 (F := Ideal) (aX m c) (aD m c) := by
  refine (dats m 0 c).arrAt_eq_of_covers 2 _ (by decide +kernel) fun t hf y => ?_
  blk_simp
  rw [after0_2]
  idx_vars y
  have h : out0_2 (iblk m c 0 t) (iblk m c 1 t) (ix2 y0 y1)
      = dgu (fun q => aX m c (ix2 (tok t y0) q)) (fun q => aD m c (ix2 (tok t y0) q)) y1 := by
    frame_out
    exact (pay1 ..).trans (congrArg₂ (fun a b => dgu a b y1) (funext fun q => blkX m c t y0 q) (funext fun q => blkD m c t y0 q))
  refine h.trans ((refD _ _ _ _).symm.trans ?_)
  blk_ext [idx t, tok]

theorem algebraic : Cert.algebraic_SwiGluIdeal_SwiGluRefIdeal := by
  intro m g m' g' _ hagree
  refine ⟨_, Cert.SwiGluIdeal.Value.run_blocks m g, (θ_run _ _ _).mono (fun r h c => ?_) (Cert.SwiGluRefIdeal.Value.run m' g')⟩
  obtain ⟨r0, k⟩ := h c
  obtain ⟨h0, h1⟩ := hagree c
  refine ⟨r0.trans ?_, k⟩
  refine (Cert.SwiGluRefIdeal.Read.val_main_v8_eq _ _).trans (Eq.trans ?_ (after2 m c).symm)
  exact congrArg₂ (fun a b => Cert.SwiGluRefIdeal.Read.val_main_v8 (F := Ideal) a b) h0 h1

theorem refFrame : Cert.quiescent_SwiGluRefIdeal := by
  intro m g _
  refine (θ_run _ _ _).mono (fun r h => ⟨fun c => ?_, sem_eq_zero_of_no_sems (by decide) _⟩) (Cert.SwiGluRefIdeal.Value.run m g)
  obtain ⟨_, k⟩ := h c
  exact k

end Cert.Elementwise.SwiGlu

end
-- ==== Proof.WModGrad.lean ====
/- The gradient of the modulation weights, one layer at a time. -/
module

public import proofs.«01_k».proof.Defs
public import proofs.«01_k».proof.Proof.Gen.WModGrad.Frame
public import proofs.«01_k».proof.Proof.Gen.WModGradIdeal.Value
public import proofs.«01_k».proof.Proof.Gen.WModGradRefIdeal.Run
public import proofs.«01_k».proof.Proof.Gen.WModGradRefIdeal.Read
public import proofs.«01_k».proof.Proof.Sums
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Elementwise.WModGrad
open Cert.WModGradIdeal Cert.WModGradIdeal.Gen

/-- The gradient of one weight: the rows of the batch, each activation times what came in. -/
def gw (x d : Fin 8 → EReal) : EReal := ∑ b : Fin 8, x b * Ideal.logistic (x b) * d b

variable (m : (ℓ : Loc nD τ sig) → Buf (Elt Ideal) ℓ)

abbrev aC (c : Dev nD) : FVec Ideal S8x1024 .f32 := m ((c : Thread nD τ).loc main_arg0)
abbrev aD (c : Dev nD) : FVec Ideal S4x8x768 .f32 := m ((c : Thread nD τ).loc main_arg1)

/-- The layer a grid point works on. -/
def layer (t : Fin cfg0.N) : Fin 4 := ⟨t.val, by have := t.isLt; have h : cfg0.N = 4 := N_0; omega⟩

theorem idx : ∀ t : Fin cfg0.N, win0_0.index t = ![0, 0] ∧ win0_1.index t = ![t.val, 0, 0] ∧ win0_2.index t = ![0, t.val, 0, 0] :=
  (by decide +kernel : ∀ t : Fin grid0.N, _)

theorem blkC (c : Dev nD) (t : Fin cfg0.N) (b : Fin 8) (i : Fin 1024) :
    (iblk m c 0 t : FVec Ideal S8x1024 .f32) (ix2 b i) = aC m c (ix2 b i) := by
  show _ = m ((c : Thread nD τ).loc main_arg0) (ix2 b i)
  blk_ext [iblk, V, idx t]

theorem blkD (c : Dev nD) (t : Fin cfg0.N) (b : Fin 8) (j : Fin 768) :
    (iblk m c 1 t : FVec Ideal S1x8x768 .f32) (ix3 0 b j) = aD m c (ix3 (layer t) b j) := by
  show _ = m ((c : Thread nD τ).loc main_arg1) (ix3 (layer t) b j)
  blk_ext [iblk, V, idx t, layer]

theorem pay1 (x : FVec Ideal S8x1024 .f32) (d : FVec Ideal S1x8x768 .f32) (i : Fin 1024) (j : Fin 768) :
    k0_pay1 (F := Ideal) x d (ix4 0 0 i j) = gw (fun b => x (ix2 b i)) (fun b => d (ix3 0 b j)) := by
  pointwise [k0_pay1, gw]

theorem refW (x : FVec Ideal S8x1024 .f32) (d : FVec Ideal S4x8x768 .f32) (l : Fin 4) (i : Fin 1024) (j : Fin 768) :
    Cert.WModGradRefIdeal.Read.val_main_v22 (F := Ideal) x d (ix4 0 l i j) = gw (fun b => x (ix2 b i)) (fun b => d (ix3 l b j)) := by
  have e : ∀ a b : EReal, a * b = b * a := mul_comm
  fin_cases l <;> pointwise! [Cert.WModGradRefIdeal.Read.val_main_v22, Cert.WModGradRefIdeal.Read.val_main_v21, Cert.WModGradRefIdeal.Read.val_main_v20, Cert.WModGradRefIdeal.Read.val_main_v19, Cert.WModGradRefIdeal.Read.val_main_v18, Cert.WModGradRefIdeal.Read.val_main_v17, Cert.WModGradRefIdeal.Read.val_main_v16, Cert.WModGradRefIdeal.Read.val_main_v15, Cert.WModGradRefIdeal.Read.val_main_v14, Cert.WModGradRefIdeal.Read.val_main_v13, Cert.WModGradRefIdeal.Read.val_main_v12, Cert.WModGradRefIdeal.Read.val_main_v11, Cert.WModGradRefIdeal.Read.val_main_v10, Cert.WModGradRefIdeal.Read.val_main_v9, Cert.WModGradRefIdeal.Read.val_main_v8, Cert.WModGradRefIdeal.Read.val_main_v7, Cert.WModGradRefIdeal.Read.val_main_v6, Cert.WModGradRefIdeal.Read.val_main_v5, Cert.WModGradRefIdeal.Read.val_main_v4, Cert.WModGradRefIdeal.Read.val_main_v3, Cert.WModGradRefIdeal.Read.val_main_v2, Cert.WModGradRefIdeal.Read.val_main_v1, Cert.WModGradRefIdeal.Read.val_main_v0, Cert.WModGradRefIdeal.Read.val_main_call0_v5, Cert.WModGradRefIdeal.Read.val_main_call0_v4, Cert.WModGradRefIdeal.Read.val_main_call0_cst_0, Cert.WModGradRefIdeal.Read.val_main_call0_v3, Cert.WModGradRefIdeal.Read.val_main_call0_v2, Cert.WModGradRefIdeal.Read.val_main_call0_cst, Cert.WModGradRefIdeal.Read.val_main_call0_v1, Cert.WModGradRefIdeal.Read.val_main_call0_v0, gw, Ideal.logistic]

theorem after2 (c : Dev nD) : (dats m 0 c).arrAt 2 (cfgs 0).N = Cert.WModGradRefIdeal.Read.val_main_v22 (F := Ideal) (aC m c) (aD m c) := by
  refine (dats m 0 c).arrAt_eq_of_covers 2 _ (by decide +kernel) fun t hf y => ?_
  blk_simp
  rw [after0_2]
  idx_vars y
  obtain rfl := Subsingleton.elim y0 0
  obtain rfl := Subsingleton.elim y1 0
  have h : out0_2 (iblk m c 0 t) (iblk m c 1 t) (ix4 0 0 y2 y3)
      = gw (fun b => aC m c (ix2 b y2)) (fun b => aD m c (ix3 (layer t) b y3)) := by
    frame_out
    exact (pay1 ..).trans (congrArg₂ gw (funext fun b => blkC m c t b y2) (funext fun b => blkD m c t b y3))
  refine h.trans ((refW _ _ _ _ _).symm.trans ?_)
  blk_ext [idx t, layer]

theorem algebraic : Cert.algebraic_WModGradIdeal_WModGradRefIdeal := by
  intro m g m' g' _ hagree
  refine ⟨_, Cert.WModGradIdeal.Value.run_blocks m g, (θ_run _ _ _).mono (fun r h c => ?_) (Cert.WModGradRefIdeal.Value.run m' g')⟩
  obtain ⟨r0, k⟩ := h c
  obtain ⟨h0, h1⟩ := hagree c
  refine ⟨r0.trans ?_, k⟩
  refine (Cert.WModGradRefIdeal.Read.val_main_v22_eq _ _).trans (Eq.trans ?_ (after2 m c).symm)
  exact congrArg₂ (fun a b => Cert.WModGradRefIdeal.Read.val_main_v22 (F := Ideal) a b) h0 h1

theorem refFrame : Cert.quiescent_WModGradRefIdeal := by
  intro m g _
  refine (θ_run _ _ _).mono (fun r h => ⟨fun c => ?_, sem_eq_zero_of_no_sems (by decide) _⟩) (Cert.WModGradRefIdeal.Value.run m g)
  obtain ⟨_, k⟩ := h c
  exact k

end Cert.Elementwise.WModGrad

end
-- ==== Proof.DnOut.lean ====
/- The backward pass of the delta net's output norm and gate: its three gradients. -/
module

public import proofs.«01_k».proof.Defs
public import proofs.«01_k».proof.Proof.Gen.DnOut.Frame
public import proofs.«01_k».proof.Proof.Gen.DnOutIdeal.Value
public import proofs.«01_k».proof.Proof.Gen.DnOutRefIdeal.Run
public import proofs.«01_k».proof.Proof.Gen.DnOutRefIdeal.Read
public import proofs.«01_k».proof.Proof.Sums
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Elementwise.DnOut
open Cert.DnOutIdeal Cert.DnOutIdeal.Gen

/-- One head's stretch of a row of four heads, from its first column. -/
abbrev hd (f : Fin 512 → EReal) (a : ℕ) (ha : a + 128 ≤ 512) (k : Fin 128) : EReal := f ⟨a + k.val, by omega⟩

/-- A head's mean square, shifted by the norm's constant, and its scale. -/
def ms (o : Fin 128 → EReal) : EReal :=
  Ideal.div (∑ k : Fin 128, o k * o k) (Ideal.ofBits .f32 0x43000000#32) + Ideal.ofBits .f32 0x358637BD#32
def rs (o : Fin 128 → EReal) : EReal := Ideal.rsqrt (ms o)

/-- The gate. -/
def sl (z : EReal) : EReal := z * Ideal.logistic z

/-- The gradient towards the scaled head, and the mean square's share. -/
def gy (z w d : Fin 128 → EReal) (k : Fin 128) : EReal := d k * sl (z k) * w k
def mn (o z w d : Fin 128 → EReal) : EReal :=
  Ideal.div ((∑ k : Fin 128, o k * gy z w d k) * (Ideal.ofBits .f32 0xBF000000#32 * Ideal.div (rs o) (ms o))) (Ideal.ofBits .f32 0x43000000#32)

/-- One head's gradients towards the output and the gate's operand, and what it adds to the weight's. -/
def doh (o z w d : Fin 128 → EReal) (j : Fin 128) : EReal := gy z w d j * rs o + o j * mn o z w d + mn o z w d * o j
def dzh (o z w d : Fin 128 → EReal) (j : Fin 128) : EReal :=
  o j * rs o * w j * d j * Ideal.logistic (z j) + z j * (o j * rs o * w j * d j) * (Ideal.logistic (z j) * (1 - Ideal.logistic (z j)))
def dwh (o z d : Fin 128 → EReal) (j : Fin 128) : EReal := o j * rs o * (d j * sl (z j))

/-- What the body stores, as functions of the four blocks it reads. -/
def PO (o z : FVec Ideal S256x512 .f32) (w : FVec Ideal S1x128 .f32) (d : FVec Ideal S256x512 .f32) : FVec Ideal S256x512 .f32 :=
  k0_pay66 (F := Ideal) (k0_pay3 w) (k0_pay4 o) (k0_pay7 o) (k0_pay8 o) (k0_pay13 z) (k0_pay44 d)
    (k0_pay58 (k0_pay24 o) (k0_pay28 o) (k0_pay50 (k0_pay3 w) (k0_pay34 o) (k0_pay37 o) (k0_pay38 o) (k0_pay43 z) d)
      (k0_pay54 (k0_pay3 w) (k0_pay33 z) d) (k0_pay55 (k0_pay3 w) (k0_pay24 o) (k0_pay33 z) d) (k0_pay56 (k0_pay27 o)))
    (k0_pay61 (k0_pay3 w) (k0_pay14 o) (k0_pay17 o) (k0_pay18 o) (k0_pay23 (k0_pay15 z) (k0_pay21 z)) (k0_pay45 d))
def PZ (o z : FVec Ideal S256x512 .f32) (w : FVec Ideal S1x128 .f32) (d : FVec Ideal S256x512 .f32) : FVec Ideal S256x512 .bf16 :=
  k0_pay67 (F := Ideal) (k0_pay5 z) (k0_pay10 o w) (k0_pay11 z) (k0_pay12 z) (k0_pay44 d)
    (k0_pay57 (k0_pay49 (k0_pay35 z) (k0_pay40 o (k0_pay3 w)) (k0_pay41 z) (k0_pay42 z) d)
      (k0_pay52 (k0_pay25 z) (k0_pay30 o (k0_pay3 w)) (k0_pay31 z) (k0_pay32 z) d))
    (k0_pay62 (k0_pay15 z) (k0_pay20 o w) (k0_pay21 z) (k0_pay22 (k0_pay21 z)) (k0_pay45 d)) k0_pay63
def PW (o z d : FVec Ideal S256x512 .f32) : FVec Ideal S1x128 .f32 :=
  k0_pay65 (F := Ideal) (k0_pay9 o) (k0_pay13 z) (k0_pay44 d)
    (k0_pay60 (k0_pay19 o) (k0_pay23 (k0_pay15 z) (k0_pay21 z)) (k0_pay45 d)
      (k0_pay53 (k0_pay29 o) (k0_pay33 z) (k0_pay39 o) (k0_pay43 z) d))

/-- A row of a block, of an array, of the stretch of the projection and of the cotangent that is read, and a vector, as functions of the column. -/
abbrev br (x : FVec Ideal S256x512 .f32) (r : Fin 256) (q : Fin 512) : EReal := x (ix2 r q)
abbrev ar (x : FVec Ideal S4096x512 .f32) (i : Fin 4096) (q : Fin 512) : EReal := x (ix2 i q)
abbrev zr (x : FVec Ideal S4096x4992 .f32) (i : Fin 4096) (q : Fin 512) : EReal := x (ix2 i ⟨1536 + q.val, by omega⟩)
abbrev dr (x : FVec Ideal S4096x1024 .f32) (i : Fin 4096) (q : Fin 512) : EReal := x (ix2 i ⟨q.val, by omega⟩)
abbrev pr (x : FVec Ideal S1x128 .f32) (q : Fin 128) : EReal := x (ix2 0 q)
abbrev vr (x : FVec Ideal S128 .f32) (q : Fin 128) : EReal := x (ix1 q)

theorem payO0 (o z : FVec Ideal S256x512 .f32) (w : FVec Ideal S1x128 .f32) (d : FVec Ideal S256x512 .f32) (r : Fin 256) (q : Fin 512) (h1 : q.val < 128) :
    PO o z w d (ix2 r q) = doh (hd (br o r) 0 (by omega)) (hd (br z r) 0 (by omega)) (pr w) (hd (br d r) 0 (by omega)) ⟨q.val, by omega⟩ := by
  pointwise [PO, k0_pay3, k0_pay66, k0_pay4, k0_pay7, k0_pay8, k0_pay13, k0_pay44, k0_pay58, k0_pay24, k0_pay28, k0_pay50, k0_pay34, k0_pay37, k0_pay38, k0_pay43, k0_pay54, k0_pay33, k0_pay55, k0_pay56, k0_pay27, k0_pay61, k0_pay14, k0_pay17, k0_pay18, k0_pay23, k0_pay15, k0_pay21, k0_pay45, k0_pay6, k0_pay16, k0_pay26, k0_pay36, k0_pay5, k0_pay11, k0_pay12, k0_pay25, k0_pay31, k0_pay35, k0_pay41, k0_pay46, k0_pay47, k0_pay48, k0_pay51, k0_pay59, k0_pay64, k0_pay9, k0_pay19, k0_pay29, k0_pay39, dif_pos (show q.val < 128 by omega), dif_pos (show q.val < 256 by omega), dif_pos (show q.val < 384 by omega), br, pr, Nat.zero_add, doh, dzh, dwh, mn, gy, sl, rs, ms, hd, Fin.sum_univ_one]
theorem payO128 (o z : FVec Ideal S256x512 .f32) (w : FVec Ideal S1x128 .f32) (d : FVec Ideal S256x512 .f32) (r : Fin 256) (q : Fin 512) (h0 : 128 ≤ q.val) (h1 : q.val < 256) :
    PO o z w d (ix2 r q) = doh (hd (br o r) 128 (by omega)) (hd (br z r) 128 (by omega)) (pr w) (hd (br d r) 128 (by omega)) ⟨q.val - 128, by omega⟩ := by
  pointwise [PO, k0_pay3, k0_pay66, k0_pay4, k0_pay7, k0_pay8, k0_pay13, k0_pay44, k0_pay58, k0_pay24, k0_pay28, k0_pay50, k0_pay34, k0_pay37, k0_pay38, k0_pay43, k0_pay54, k0_pay33, k0_pay55, k0_pay56, k0_pay27, k0_pay61, k0_pay14, k0_pay17, k0_pay18, k0_pay23, k0_pay15, k0_pay21, k0_pay45, k0_pay6, k0_pay16, k0_pay26, k0_pay36, k0_pay5, k0_pay11, k0_pay12, k0_pay25, k0_pay31, k0_pay35, k0_pay41, k0_pay46, k0_pay47, k0_pay48, k0_pay51, k0_pay59, k0_pay64, k0_pay9, k0_pay19, k0_pay29, k0_pay39, dif_neg (show ¬q.val < 128 by omega), dif_pos (show q.val < 256 by omega), dif_pos (show q.val < 384 by omega), br, pr, Nat.zero_add, doh, dzh, dwh, mn, gy, sl, rs, ms, hd, Fin.sum_univ_one]
theorem payO256 (o z : FVec Ideal S256x512 .f32) (w : FVec Ideal S1x128 .f32) (d : FVec Ideal S256x512 .f32) (r : Fin 256) (q : Fin 512) (h0 : 256 ≤ q.val) (h1 : q.val < 384) :
    PO o z w d (ix2 r q) = doh (hd (br o r) 256 (by omega)) (hd (br z r) 256 (by omega)) (pr w) (hd (br d r) 256 (by omega)) ⟨q.val - 256, by omega⟩ := by
  pointwise [PO, k0_pay3, k0_pay66, k0_pay4, k0_pay7, k0_pay8, k0_pay13, k0_pay44, k0_pay58, k0_pay24, k0_pay28, k0_pay50, k0_pay34, k0_pay37, k0_pay38, k0_pay43, k0_pay54, k0_pay33, k0_pay55, k0_pay56, k0_pay27, k0_pay61, k0_pay14, k0_pay17, k0_pay18, k0_pay23, k0_pay15, k0_pay21, k0_pay45, k0_pay6, k0_pay16, k0_pay26, k0_pay36, k0_pay5, k0_pay11, k0_pay12, k0_pay25, k0_pay31, k0_pay35, k0_pay41, k0_pay46, k0_pay47, k0_pay48, k0_pay51, k0_pay59, k0_pay64, k0_pay9, k0_pay19, k0_pay29, k0_pay39, dif_neg (show ¬q.val < 128 by omega), dif_neg (show ¬q.val < 256 by omega), dif_pos (show q.val < 384 by omega), br, pr, Nat.zero_add, doh, dzh, dwh, mn, gy, sl, rs, ms, hd, Fin.sum_univ_one]
theorem payO384 (o z : FVec Ideal S256x512 .f32) (w : FVec Ideal S1x128 .f32) (d : FVec Ideal S256x512 .f32) (r : Fin 256) (q : Fin 512) (h0 : 384 ≤ q.val) :
    PO o z w d (ix2 r q) = doh (hd (br o r) 384 (by omega)) (hd (br z r) 384 (by omega)) (pr w) (hd (br d r) 384 (by omega)) ⟨q.val - 384, by omega⟩ := by
  pointwise [PO, k0_pay3, k0_pay66, k0_pay4, k0_pay7, k0_pay8, k0_pay13, k0_pay44, k0_pay58, k0_pay24, k0_pay28, k0_pay50, k0_pay34, k0_pay37, k0_pay38, k0_pay43, k0_pay54, k0_pay33, k0_pay55, k0_pay56, k0_pay27, k0_pay61, k0_pay14, k0_pay17, k0_pay18, k0_pay23, k0_pay15, k0_pay21, k0_pay45, k0_pay6, k0_pay16, k0_pay26, k0_pay36, k0_pay5, k0_pay11, k0_pay12, k0_pay25, k0_pay31, k0_pay35, k0_pay41, k0_pay46, k0_pay47, k0_pay48, k0_pay51, k0_pay59, k0_pay64, k0_pay9, k0_pay19, k0_pay29, k0_pay39, dif_neg (show ¬q.val < 128 by omega), dif_neg (show ¬q.val < 256 by omega), dif_neg (show ¬q.val < 384 by omega), br, pr, Nat.zero_add, doh, dzh, dwh, mn, gy, sl, rs, ms, hd, Fin.sum_univ_one]
theorem payZ0 (o z : FVec Ideal S256x512 .f32) (w : FVec Ideal S1x128 .f32) (d : FVec Ideal S256x512 .f32) (r : Fin 256) (q : Fin 512) (h1 : q.val < 128) :
    PZ o z w d (ix2 r q) = dzh (hd (br o r) 0 (by omega)) (hd (br z r) 0 (by omega)) (pr w) (hd (br d r) 0 (by omega)) ⟨q.val, by omega⟩ := by
  pointwise [PZ, k0_pay3, k0_pay67, k0_pay5, k0_pay10, k0_pay11, k0_pay12, k0_pay44, k0_pay57, k0_pay49, k0_pay35, k0_pay40, k0_pay41, k0_pay42, k0_pay52, k0_pay25, k0_pay30, k0_pay31, k0_pay32, k0_pay62, k0_pay15, k0_pay20, k0_pay21, k0_pay22, k0_pay45, k0_pay63, k0_pay4, k0_pay6, k0_pay7, k0_pay9, k0_pay14, k0_pay16, k0_pay17, k0_pay19, k0_pay24, k0_pay26, k0_pay27, k0_pay29, k0_pay34, k0_pay36, k0_pay37, k0_pay39, k0_pay46, k0_pay47, dif_pos (show q.val < 128 by omega), dif_pos (show q.val < 256 by omega), dif_pos (show q.val < 384 by omega), br, pr, Nat.zero_add, doh, dzh, dwh, mn, gy, sl, rs, ms, hd, Fin.sum_univ_one]
theorem payZ128 (o z : FVec Ideal S256x512 .f32) (w : FVec Ideal S1x128 .f32) (d : FVec Ideal S256x512 .f32) (r : Fin 256) (q : Fin 512) (h0 : 128 ≤ q.val) (h1 : q.val < 256) :
    PZ o z w d (ix2 r q) = dzh (hd (br o r) 128 (by omega)) (hd (br z r) 128 (by omega)) (pr w) (hd (br d r) 128 (by omega)) ⟨q.val - 128, by omega⟩ := by
  pointwise [PZ, k0_pay3, k0_pay67, k0_pay5, k0_pay10, k0_pay11, k0_pay12, k0_pay44, k0_pay57, k0_pay49, k0_pay35, k0_pay40, k0_pay41, k0_pay42, k0_pay52, k0_pay25, k0_pay30, k0_pay31, k0_pay32, k0_pay62, k0_pay15, k0_pay20, k0_pay21, k0_pay22, k0_pay45, k0_pay63, k0_pay4, k0_pay6, k0_pay7, k0_pay9, k0_pay14, k0_pay16, k0_pay17, k0_pay19, k0_pay24, k0_pay26, k0_pay27, k0_pay29, k0_pay34, k0_pay36, k0_pay37, k0_pay39, k0_pay46, k0_pay47, dif_neg (show ¬q.val < 128 by omega), dif_pos (show q.val < 256 by omega), dif_pos (show q.val < 384 by omega), br, pr, Nat.zero_add, doh, dzh, dwh, mn, gy, sl, rs, ms, hd, Fin.sum_univ_one]
theorem payZ256 (o z : FVec Ideal S256x512 .f32) (w : FVec Ideal S1x128 .f32) (d : FVec Ideal S256x512 .f32) (r : Fin 256) (q : Fin 512) (h0 : 256 ≤ q.val) (h1 : q.val < 384) :
    PZ o z w d (ix2 r q) = dzh (hd (br o r) 256 (by omega)) (hd (br z r) 256 (by omega)) (pr w) (hd (br d r) 256 (by omega)) ⟨q.val - 256, by omega⟩ := by
  pointwise [PZ, k0_pay3, k0_pay67, k0_pay5, k0_pay10, k0_pay11, k0_pay12, k0_pay44, k0_pay57, k0_pay49, k0_pay35, k0_pay40, k0_pay41, k0_pay42, k0_pay52, k0_pay25, k0_pay30, k0_pay31, k0_pay32, k0_pay62, k0_pay15, k0_pay20, k0_pay21, k0_pay22, k0_pay45, k0_pay63, k0_pay4, k0_pay6, k0_pay7, k0_pay9, k0_pay14, k0_pay16, k0_pay17, k0_pay19, k0_pay24, k0_pay26, k0_pay27, k0_pay29, k0_pay34, k0_pay36, k0_pay37, k0_pay39, k0_pay46, k0_pay47, dif_neg (show ¬q.val < 128 by omega), dif_neg (show ¬q.val < 256 by omega), dif_pos (show q.val < 384 by omega), br, pr, Nat.zero_add, doh, dzh, dwh, mn, gy, sl, rs, ms, hd, Fin.sum_univ_one]
theorem payZ384 (o z : FVec Ideal S256x512 .f32) (w : FVec Ideal S1x128 .f32) (d : FVec Ideal S256x512 .f32) (r : Fin 256) (q : Fin 512) (h0 : 384 ≤ q.val) :
    PZ o z w d (ix2 r q) = dzh (hd (br o r) 384 (by omega)) (hd (br z r) 384 (by omega)) (pr w) (hd (br d r) 384 (by omega)) ⟨q.val - 384, by omega⟩ := by
  pointwise [PZ, k0_pay3, k0_pay67, k0_pay5, k0_pay10, k0_pay11, k0_pay12, k0_pay44, k0_pay57, k0_pay49, k0_pay35, k0_pay40, k0_pay41, k0_pay42, k0_pay52, k0_pay25, k0_pay30, k0_pay31, k0_pay32, k0_pay62, k0_pay15, k0_pay20, k0_pay21, k0_pay22, k0_pay45, k0_pay63, k0_pay4, k0_pay6, k0_pay7, k0_pay9, k0_pay14, k0_pay16, k0_pay17, k0_pay19, k0_pay24, k0_pay26, k0_pay27, k0_pay29, k0_pay34, k0_pay36, k0_pay37, k0_pay39, k0_pay46, k0_pay47, dif_neg (show ¬q.val < 128 by omega), dif_neg (show ¬q.val < 256 by omega), dif_neg (show ¬q.val < 384 by omega), br, pr, Nat.zero_add, doh, dzh, dwh, mn, gy, sl, rs, ms, hd, Fin.sum_univ_one]
theorem payW (o z d : FVec Ideal S256x512 .f32) (j : Fin 128) :
    PW o z d (ix2 0 j) = (∑ r : Fin 256, dwh (hd (br o r) 384 (by omega)) (hd (br z r) 384 (by omega)) (hd (br d r) 384 (by omega)) j)
      + (∑ r : Fin 256, dwh (hd (br o r) 256 (by omega)) (hd (br z r) 256 (by omega)) (hd (br d r) 256 (by omega)) j)
      + (∑ r : Fin 256, dwh (hd (br o r) 128 (by omega)) (hd (br z r) 128 (by omega)) (hd (br d r) 128 (by omega)) j)
      + (∑ r : Fin 256, dwh (hd (br o r) 0 (by omega)) (hd (br z r) 0 (by omega)) (hd (br d r) 0 (by omega)) j) := by
  pointwise [PW, k0_pay65, k0_pay9, k0_pay13, k0_pay44, k0_pay60, k0_pay19, k0_pay23, k0_pay15, k0_pay21, k0_pay45, k0_pay53, k0_pay29, k0_pay33, k0_pay39, k0_pay43, k0_pay4, k0_pay5, k0_pay6, k0_pay7, k0_pay11, k0_pay14, k0_pay16, k0_pay17, k0_pay24, k0_pay25, k0_pay26, k0_pay27, k0_pay31, k0_pay34, k0_pay35, k0_pay36, k0_pay37, k0_pay41, k0_pay46, k0_pay47, k0_pay48, k0_pay51, k0_pay59, k0_pay64, br, Nat.zero_add, doh, dzh, dwh, mn, gy, sl, rs, ms, hd, Fin.sum_univ_one]
theorem refO (x : FVec Ideal S4096x512 .f32) (z : FVec Ideal S4096x4992 .f32) (w : FVec Ideal S128 .f32) (d : FVec Ideal S4096x1024 .f32) (i : Fin 4096) (q : Fin 512) :
    Cert.DnOutRefIdeal.Read.val_main_v48 (F := Ideal) x z w d (ix2 i q)
      = doh (hd (ar x i) (q.val / 128 * 128) (by omega)) (hd (zr z i) (q.val / 128 * 128) (by omega)) (vr w) (hd (dr d i) (q.val / 128 * 128) (by omega)) ⟨q.val % 128, by omega⟩ := by
  pointwise [Cert.DnOutRefIdeal.Read.val_main_v48, Cert.DnOutRefIdeal.Read.val_main_v46, Cert.DnOutRefIdeal.Read.val_main_v44, Cert.DnOutRefIdeal.Read.val_main_v37, Cert.DnOutRefIdeal.Read.val_main_v31, Cert.DnOutRefIdeal.Read.val_main_v25, Cert.DnOutRefIdeal.Read.val_main_v23, Cert.DnOutRefIdeal.Read.val_main_v22, Cert.DnOutRefIdeal.Read.val_main_v19_0, Cert.DnOutRefIdeal.Read.val_main_v2, Cert.DnOutRefIdeal.Read.val_main_v0, Cert.DnOutRefIdeal.Read.val_main_v19_2, Cert.DnOutRefIdeal.Read.val_main_call0_v4, Cert.DnOutRefIdeal.Read.val_main_call0_cst_0, Cert.DnOutRefIdeal.Read.val_main_call0_v3, Cert.DnOutRefIdeal.Read.val_main_call0_v2, Cert.DnOutRefIdeal.Read.val_main_call0_cst, Cert.DnOutRefIdeal.Read.val_main_call0_v1, Cert.DnOutRefIdeal.Read.val_main_call0_v0, Cert.DnOutRefIdeal.Read.val_main_v30, Cert.DnOutRefIdeal.Read.val_main_v16, Cert.DnOutRefIdeal.Read.val_main_v36, Cert.DnOutRefIdeal.Read.val_main_v10, Cert.DnOutRefIdeal.Read.val_main_v9, Cert.DnOutRefIdeal.Read.val_main_v7, Cert.DnOutRefIdeal.Read.val_main_v5, Cert.DnOutRefIdeal.Read.val_main_v4, Cert.DnOutRefIdeal.Read.val_main_v3, Cert.DnOutRefIdeal.Read.val_main_v1, Cert.DnOutRefIdeal.Read.val_main_cst, Cert.DnOutRefIdeal.Read.val_main_v6, Cert.DnOutRefIdeal.Read.val_main_cst_0, Cert.DnOutRefIdeal.Read.val_main_v8, Cert.DnOutRefIdeal.Read.val_main_cst_1, Cert.DnOutRefIdeal.Read.val_main_v43, Cert.DnOutRefIdeal.Read.val_main_v42, Cert.DnOutRefIdeal.Read.val_main_v41, Cert.DnOutRefIdeal.Read.val_main_v40, Cert.DnOutRefIdeal.Read.val_main_v38, Cert.DnOutRefIdeal.Read.val_main_v35, Cert.DnOutRefIdeal.Read.val_main_v34, Cert.DnOutRefIdeal.Read.val_main_v33, Cert.DnOutRefIdeal.Read.val_main_cst_5, Cert.DnOutRefIdeal.Read.val_main_v13, Cert.DnOutRefIdeal.Read.val_main_v12, Cert.DnOutRefIdeal.Read.val_main_cst_2, Cert.DnOutRefIdeal.Read.val_main_v11, Cert.DnOutRefIdeal.Read.val_main_v39, Cert.DnOutRefIdeal.Read.val_main_cst_6, Cert.DnOutRefIdeal.Read.val_main_cst_7, Cert.DnOutRefIdeal.Read.val_main_v45, Nat.div_add_mod', ar, zr, dr, vr, Ideal.logistic, doh, dzh, dwh, mn, gy, sl, rs, ms, hd, Fin.sum_univ_one]
theorem refZ (x : FVec Ideal S4096x512 .f32) (z : FVec Ideal S4096x4992 .f32) (w : FVec Ideal S128 .f32) (d : FVec Ideal S4096x1024 .f32) (i : Fin 4096) (q : Fin 512) :
    Cert.DnOutRefIdeal.Read.val_main_v49 (F := Ideal) x z w d (ix2 i q)
      = dzh (hd (ar x i) (q.val / 128 * 128) (by omega)) (hd (zr z i) (q.val / 128 * 128) (by omega)) (vr w) (hd (dr d i) (q.val / 128 * 128) (by omega)) ⟨q.val % 128, by omega⟩ := by
  pointwise [Cert.DnOutRefIdeal.Read.val_main_v49, Cert.DnOutRefIdeal.Read.val_main_v47, Cert.DnOutRefIdeal.Read.val_main_v26, Cert.DnOutRefIdeal.Read.val_main_call1_v1, Cert.DnOutRefIdeal.Read.val_main_v24, Cert.DnOutRefIdeal.Read.val_main_v18, Cert.DnOutRefIdeal.Read.val_main_v15, Cert.DnOutRefIdeal.Read.val_main_v1, Cert.DnOutRefIdeal.Read.val_main_v14, Cert.DnOutRefIdeal.Read.val_main_v10, Cert.DnOutRefIdeal.Read.val_main_v9, Cert.DnOutRefIdeal.Read.val_main_v7, Cert.DnOutRefIdeal.Read.val_main_v5, Cert.DnOutRefIdeal.Read.val_main_v4, Cert.DnOutRefIdeal.Read.val_main_v3, Cert.DnOutRefIdeal.Read.val_main_cst, Cert.DnOutRefIdeal.Read.val_main_v6, Cert.DnOutRefIdeal.Read.val_main_cst_0, Cert.DnOutRefIdeal.Read.val_main_v8, Cert.DnOutRefIdeal.Read.val_main_cst_1, Cert.DnOutRefIdeal.Read.val_main_v17, Cert.DnOutRefIdeal.Read.val_main_v16, Cert.DnOutRefIdeal.Read.val_main_v23, Cert.DnOutRefIdeal.Read.val_main_v22, Cert.DnOutRefIdeal.Read.val_main_v19_2, Cert.DnOutRefIdeal.Read.val_main_call0_v4, Cert.DnOutRefIdeal.Read.val_main_call0_cst_0, Cert.DnOutRefIdeal.Read.val_main_call0_v3, Cert.DnOutRefIdeal.Read.val_main_call0_v2, Cert.DnOutRefIdeal.Read.val_main_call0_cst, Cert.DnOutRefIdeal.Read.val_main_call0_v1, Cert.DnOutRefIdeal.Read.val_main_call0_v0, Cert.DnOutRefIdeal.Read.val_main_v2, Cert.DnOutRefIdeal.Read.val_main_v0, Cert.DnOutRefIdeal.Read.val_main_call1_v2, Cert.DnOutRefIdeal.Read.val_main_call1_v0, Cert.DnOutRefIdeal.Read.val_main_v19_1, Cert.DnOutRefIdeal.Read.val_main_call0_v7, Cert.DnOutRefIdeal.Read.val_main_call0_v6, Cert.DnOutRefIdeal.Read.val_main_call0_cst_1, Nat.div_add_mod', ar, zr, dr, vr, Ideal.logistic, doh, dzh, dwh, mn, gy, sl, rs, ms, hd, Fin.sum_univ_one]
/-- A sum over the first two of three axes. -/
theorem sum01 {n0 n1 n2 : ℕ} (h : (⟨3, ![n0, n1, n2]⟩ : Shape).ReducesTo [0, 1] ⟨1, ![n2]⟩) (v : (⟨3, ![n0, n1, n2]⟩ : Shape).Idx → EReal) (z : EReal) (j : Fin n2) :
    Ideal.hostReduceAdd h v z (ix1 j) = z + ∑ a : Fin n0, ∑ b : Fin n1, v (ix3 a b j) := by
  have hf : ∀ i : (⟨3, ![n0, n1, n2]⟩ : Shape).Idx, h.drop i = ix1 j ↔ ∃ k : Fin n0 × Fin n1, ix3 k.1 k.2 j = i := by
    intro i
    have hd : (h.drop i 0).val = (i 2).val := rfl
    constructor
    · intro e
      refine ⟨(i 0, i 1), funext fun a => Fin.ext ?_⟩
      match a with
      | ⟨0, _⟩ => rfl
      | ⟨1, _⟩ => rfl
      | ⟨2, _⟩ => exact (congrArg Fin.val (congrFun e 0)).symm.trans hd
    · rintro ⟨k, rfl⟩
      funext b
      obtain rfl := Subsingleton.elim b 0
      exact Fin.ext hd
  refine congrArg (z + ·) ((Finset.sum_filter_eq_sum_of_fiber _ (fun k : Fin n0 × Fin n1 => ix3 k.1 k.2 j)
    (fun _ _ e => Prod.ext (congrFun e 0) (congrFun e 1)) hf v).trans ?_)
  simp only [Fintype.sum_prod_type]

theorem refW (x : FVec Ideal S4096x512 .f32) (z : FVec Ideal S4096x4992 .f32) (d : FVec Ideal S4096x1024 .f32) (j : Fin 128) :
    Cert.DnOutRefIdeal.Read.val_main_v50 (F := Ideal) x z d (ix2 0 j)
      = ∑ i : Fin 4096, ∑ h : Fin 4, dwh (hd (ar x i) (h.val * 128) (by omega)) (hd (zr z i) (h.val * 128) (by omega)) (hd (dr d i) (h.val * 128) (by omega)) j := by
  pointwise [Cert.DnOutRefIdeal.Read.val_main_v50, Cert.DnOutRefIdeal.Read.val_main_v32, Cert.DnOutRefIdeal.Read.val_main_v29, Cert.DnOutRefIdeal.Read.val_main_v28, Cert.DnOutRefIdeal.Read.val_main_v27, Cert.DnOutRefIdeal.Read.val_main_v15, Cert.DnOutRefIdeal.Read.val_main_v1, Cert.DnOutRefIdeal.Read.val_main_v14, Cert.DnOutRefIdeal.Read.val_main_v10, Cert.DnOutRefIdeal.Read.val_main_v9, Cert.DnOutRefIdeal.Read.val_main_v7, Cert.DnOutRefIdeal.Read.val_main_v5, Cert.DnOutRefIdeal.Read.val_main_v4, Cert.DnOutRefIdeal.Read.val_main_v3, Cert.DnOutRefIdeal.Read.val_main_cst, Cert.DnOutRefIdeal.Read.val_main_v6, Cert.DnOutRefIdeal.Read.val_main_cst_0, Cert.DnOutRefIdeal.Read.val_main_v8, Cert.DnOutRefIdeal.Read.val_main_cst_1, Cert.DnOutRefIdeal.Read.val_main_v25, Cert.DnOutRefIdeal.Read.val_main_v23, Cert.DnOutRefIdeal.Read.val_main_v22, Cert.DnOutRefIdeal.Read.val_main_v19_0, Cert.DnOutRefIdeal.Read.val_main_v2, Cert.DnOutRefIdeal.Read.val_main_v0, Cert.DnOutRefIdeal.Read.val_main_v19_2, Cert.DnOutRefIdeal.Read.val_main_call0_v4, Cert.DnOutRefIdeal.Read.val_main_call0_cst_0, Cert.DnOutRefIdeal.Read.val_main_call0_v3, Cert.DnOutRefIdeal.Read.val_main_call0_v2, Cert.DnOutRefIdeal.Read.val_main_call0_cst, Cert.DnOutRefIdeal.Read.val_main_call0_v1, Cert.DnOutRefIdeal.Read.val_main_call0_v0, Cert.DnOutRefIdeal.Read.val_main_cst_3, Cert.DnOutRefIdeal.Read.val_main_cst_4, sum01, ar, zr, dr, vr, Ideal.logistic, doh, dzh, dwh, mn, gy, sl, rs, ms, hd, Fin.sum_univ_one]

variable (m : (ℓ : Loc nD τ sig) → Buf (Elt Ideal) ℓ)

abbrev aO (c : Dev nD) : FVec Ideal S4096x512 .f32 := m ((c : Thread nD τ).loc main_arg0)
abbrev aZ (c : Dev nD) : FVec Ideal S4096x4992 .f32 := m ((c : Thread nD τ).loc main_arg1)
abbrev aW (c : Dev nD) : FVec Ideal S128 .f32 := m ((c : Thread nD τ).loc main_arg2)
abbrev aD (c : Dev nD) : FVec Ideal S4096x1024 .f32 := m ((c : Thread nD τ).loc main_arg3)

/-- The row of the array that is row `r` of the block at point `t`. -/
def tok (t : Fin cfg0.N) (r : Fin 256) : Fin 4096 := ⟨256 * t.val + r.val, by have := t.isLt; have h : cfg0.N = 16 := N_0; omega⟩

theorem idx : ∀ t : Fin cfg0.N, win0_0.index t = ![t.val, 0] ∧ win0_1.index t = ![t.val, 3] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

theorem blkO (c : Dev nD) (t : Fin cfg0.N) (r : Fin 256) : br (iblk m c 0 t) r = ar (aO m c) (tok t r) := by
  funext q
  show (iblk m c 0 t : FVec Ideal S256x512 .f32) (ix2 r q) = m ((c : Thread nD τ).loc main_arg0) (ix2 (tok t r) q)
  blk_ext [iblk, V, idx t, tok]

theorem blkZ (c : Dev nD) (t : Fin cfg0.N) (r : Fin 256) : br (X0_1 m c t) r = zr (aZ m c) (tok t r) := by
  funext q
  show X0_1 m c t (ix2 r q) = m ((c : Thread nD τ).loc main_arg1) (ix2 (tok t r) ⟨1536 + q.val, by omega⟩)
  rw [X0_1, Pipeline.Window.fill, dif_pos (moved0_1 t _)]
  blk_ext [iblk, V, idx t, tok]

theorem blkD (c : Dev nD) (t : Fin cfg0.N) (r : Fin 256) : br (iblk m c 3 t) r = dr (aD m c) (tok t r) := by
  funext q
  show (iblk m c 3 t : FVec Ideal S256x512 .f32) (ix2 r q) = m ((c : Thread nD τ).loc main_arg3) (ix2 (tok t r) ⟨q.val, by omega⟩)
  blk_ext [iblk, V, idx t, tok]

theorem entryW (c : Dev nD) (q : Fin 128) : (V m c main_v0 : FVec Ideal S1x128 .f32) (ix2 0 q) = aW m c (ix1 q) := by
  simp only [V, hostOps0, List.flatten_cons, List.flatten_nil, List.append_nil, List.cons_append, List.nil_append]
  entry_read
  pointwise

theorem blkW (c : Dev nD) (t : Fin cfg0.N) : pr (iblk m c 2 t) = vr (aW m c) := by
  funext q
  refine Eq.trans ?_ (entryW m c q)
  show (iblk m c 2 t : FVec Ideal S1x128 .f32) (ix2 0 q) = V m c main_v0 (ix2 0 q)
  blk_ext [iblk, idx t]

/-- The heads one by one: a column of a row is in one of four stretches. -/
theorem cases4 (S : (o z w d : Fin 128 → EReal) → Fin 128 → EReal) (G : Fin 512 → EReal) (o z : Fin 512 → EReal) (w : Fin 128 → EReal) (d : Fin 512 → EReal)
    (h0 : ∀ q : Fin 512, ∀ h : q.val < 128, G q = S (hd o 0 (by omega)) (hd z 0 (by omega)) w (hd d 0 (by omega)) ⟨q.val, by omega⟩)
    (h1 : ∀ q : Fin 512, ∀ h : 128 ≤ q.val, ∀ k : q.val < 256, G q = S (hd o 128 (by omega)) (hd z 128 (by omega)) w (hd d 128 (by omega)) ⟨q.val - 128, by omega⟩)
    (h2 : ∀ q : Fin 512, ∀ h : 256 ≤ q.val, ∀ k : q.val < 384, G q = S (hd o 256 (by omega)) (hd z 256 (by omega)) w (hd d 256 (by omega)) ⟨q.val - 256, by omega⟩)
    (h3 : ∀ q : Fin 512, ∀ h : 384 ≤ q.val, G q = S (hd o 384 (by omega)) (hd z 384 (by omega)) w (hd d 384 (by omega)) ⟨q.val - 384, by omega⟩)
    (q : Fin 512) :
    G q = S (hd o (q.val / 128 * 128) (by omega)) (hd z (q.val / 128 * 128) (by omega)) w (hd d (q.val / 128 * 128) (by omega)) ⟨q.val % 128, by omega⟩ := by
  have e : ∀ (a : ℕ) (ha : a + 128 ≤ 512) (j : Fin 128), q.val / 128 * 128 = a → q.val % 128 = j.val →
      S (hd o (q.val / 128 * 128) (by omega)) (hd z (q.val / 128 * 128) (by omega)) w (hd d (q.val / 128 * 128) (by omega)) ⟨q.val % 128, by omega⟩
        = S (hd o a ha) (hd z a ha) w (hd d a ha) j := by
    intro a ha j h k
    subst h
    exact congrArg _ (Fin.ext k)
  by_cases k0 : q.val < 128
  · exact (h0 q k0).trans (e 0 (by omega) ⟨q.val, by omega⟩ (by omega) (show q.val % 128 = q.val by omega)).symm
  · by_cases k1 : q.val < 256
    · exact (h1 q (by omega) k1).trans (e 128 (by omega) ⟨q.val - 128, by omega⟩ (by omega) (show q.val % 128 = q.val - 128 by omega)).symm
    · by_cases k2 : q.val < 384
      · exact (h2 q (by omega) k2).trans (e 256 (by omega) ⟨q.val - 256, by omega⟩ (by omega) (show q.val % 128 = q.val - 256 by omega)).symm
      · exact (h3 q (by omega)).trans (e 384 (by omega) ⟨q.val - 384, by omega⟩ (by omega) (show q.val % 128 = q.val - 384 by omega)).symm

theorem payO (o z : FVec Ideal S256x512 .f32) (w : FVec Ideal S1x128 .f32) (d : FVec Ideal S256x512 .f32) (r : Fin 256) (q : Fin 512) :
    PO o z w d (ix2 r q)
      = doh (hd (br o r) (q.val / 128 * 128) (by omega)) (hd (br z r) (q.val / 128 * 128) (by omega)) (pr w) (hd (br d r) (q.val / 128 * 128) (by omega)) ⟨q.val % 128, by omega⟩ :=
  cases4 doh (fun q => PO o z w d (ix2 r q)) (br o r) (br z r) (pr w) (br d r) (fun q h => payO0 o z w d r q h)
    (fun q h k => payO128 o z w d r q h k) (fun q h k => payO256 o z w d r q h k) (fun q h => payO384 o z w d r q h) q

theorem payZ (o z : FVec Ideal S256x512 .f32) (w : FVec Ideal S1x128 .f32) (d : FVec Ideal S256x512 .f32) (r : Fin 256) (q : Fin 512) :
    PZ o z w d (ix2 r q)
      = dzh (hd (br o r) (q.val / 128 * 128) (by omega)) (hd (br z r) (q.val / 128 * 128) (by omega)) (pr w) (hd (br d r) (q.val / 128 * 128) (by omega)) ⟨q.val % 128, by omega⟩ :=
  cases4 dzh (fun q => PZ o z w d (ix2 r q)) (br o r) (br z r) (pr w) (br d r) (fun q h => payZ0 o z w d r q h)
    (fun q h k => payZ128 o z w d r q h k) (fun q h k => payZ256 o z w d r q h k) (fun q h => payZ384 o z w d r q h) q

theorem out4 (c : Dev nD) (t : Fin cfg0.N) (r : Fin 256) (q : Fin 512) :
    (outsAt0 m c t.val t.isLt).1 (ix2 r q)
      = doh (hd (ar (aO m c) (tok t r)) (q.val / 128 * 128) (by omega)) (hd (zr (aZ m c) (tok t r)) (q.val / 128 * 128) (by omega)) (vr (aW m c))
          (hd (dr (aD m c) (tok t r)) (q.val / 128 * 128) (by omega)) ⟨q.val % 128, by omega⟩ := by
  rw [← blkO m c t, ← blkZ m c t, ← blkD m c t, ← blkW m c t]
  by_cases h : t.val % 16 = 0
  · rw [outsAt0_A m c t h]; frame_out
    exact payO ..
  · rw [outsAt0_B m c t h]; frame_out
    exact payO ..

theorem out5 (c : Dev nD) (t : Fin cfg0.N) (r : Fin 256) (q : Fin 512) :
    (outsAt0 m c t.val t.isLt).2.1 (ix2 r q)
      = dzh (hd (ar (aO m c) (tok t r)) (q.val / 128 * 128) (by omega)) (hd (zr (aZ m c) (tok t r)) (q.val / 128 * 128) (by omega)) (vr (aW m c))
          (hd (dr (aD m c) (tok t r)) (q.val / 128 * 128) (by omega)) ⟨q.val % 128, by omega⟩ := by
  rw [← blkO m c t, ← blkZ m c t, ← blkD m c t, ← blkW m c t]
  by_cases h : t.val % 16 = 0
  · rw [outsAt0_A m c t h]; frame_out
    exact payZ ..
  · rw [outsAt0_B m c t h]; frame_out
    exact payZ ..

theorem after4 (c : Dev nD) : (dats m 0 c).arrAt 4 (cfgs 0).N
    = Cert.DnOutRefIdeal.Read.val_main_v48 (F := Ideal) (aO m c) (aZ m c) (aW m c) (aD m c) := by
  refine (dats m 0 c).arrAt_eq_of_covers 4 _ (by decide +kernel) fun t hf y => ?_
  blk_simp
  rw [after0_4]
  idx_vars y
  refine (out4 m c t _ _).trans ((refO _ _ _ _ _ _).symm.trans ?_)
  blk_ext [idx t, tok]

theorem after5 (c : Dev nD) : (dats m 0 c).arrAt 5 (cfgs 0).N
    = Cert.DnOutRefIdeal.Read.val_main_v49 (F := Ideal) (aO m c) (aZ m c) (aW m c) (aD m c) := by
  refine (dats m 0 c).arrAt_eq_of_covers 5 _ (by decide +kernel) fun t hf y => ?_
  blk_simp
  rw [after0_5]
  idx_vars y
  refine (out5 m c t _ _).trans ((refZ _ _ _ _ _ _).symm.trans ?_)
  blk_ext [idx t, tok]

/-- What one row adds to the norm weight's gradient, by heads. -/
def rowW (o z d : Fin 512 → EReal) (a : ℕ) (ha : a + 128 ≤ 512) (j : Fin 128) : EReal := dwh (hd o a ha) (hd z a ha) (hd d a ha) j

/-- What one block of rows adds to it. -/
def addW (c : Dev nD) (t : Fin cfg0.N) (j : S1x128.Idx) : EReal :=
  ∑ r : Fin 256, ∑ h : Fin 4, rowW (ar (aO m c) (tok t r)) (zr (aZ m c) (tok t r)) (dr (aD m c) (tok t r)) (h.val * 128) (by omega) (j 1)

theorem heads (f : Fin 256 → Fin 4 → EReal) :
    (∑ r, f r 3) + (∑ r, f r 2) + (∑ r, f r 1) + (∑ r, f r 0) = ∑ r, ∑ h, f r h := by
  rw [Finset.sum_comm, Fin.sum_univ_four]
  ac_rfl

theorem partW (c : Dev nD) (t : Fin cfg0.N) (z : FVec Ideal S1x128 .f32) (j : S1x128.Idx) :
    k0_pay2 (F := Ideal) (PW (iblk m c 0 t) (X0_1 m c t) (iblk m c 3 t)) z j = (show EReal from z j) + addW m c t j := by
  idx_vars j
  obtain rfl := Subsingleton.elim j0 0
  have e : k0_pay2 (F := Ideal) (PW (iblk m c 0 t) (X0_1 m c t) (iblk m c 3 t)) z (ix2 0 j1)
      = (show EReal from z (ix2 0 j1)) + PW (iblk m c 0 t) (X0_1 m c t) (iblk m c 3 t) (ix2 0 j1) := by
    generalize PW (iblk m c 0 t) (X0_1 m c t) (iblk m c 3 t) = p
    pointwise [k0_pay2]
  refine e.trans (congrArg _ ((payW _ _ _ j1).trans ((heads (fun r h => rowW (br (iblk m c 0 t) r) (br (X0_1 m c t) r) (br (iblk m c 3 t) r) (h.val * 128) (by omega) j1)).trans ?_)))
  refine Finset.sum_congr rfl fun r _ => ?_
  rw [blkO m c t r, blkZ m c t r, blkD m c t r]
  rfl

theorem zero1 (j : S1x128.Idx) : k0_pay1 (F := Ideal) j = (0 : EReal) := by pointwise [k0_pay1]

theorem stepW_A (c : Dev nD) (t : Fin cfg0.N) (h : t.val % 16 = 0) (j : S1x128.Idx) :
    (outsAt0 m c t.val t.isLt).2.2 j = (0 : EReal) + addW m c t j := by
  rw [outsAt0_A m c t h]; frame_out
  exact (partW m c t _ j).trans (Ideal.add_congr (zero1 j) rfl)

theorem stepW_B (c : Dev nD) (t : Fin cfg0.N) (h : ¬t.val % 16 = 0) (j : S1x128.Idx) :
    (outsAt0 m c t.val t.isLt).2.2 j = (show EReal from (outsAt0 m c (t.val - 1) (by omega)).2.2 j) + addW m c t j := by
  rw [outsAt0_B m c t h]; frame_out
  exact partW m c t _ j

theorem tok_run (t : Fin cfg0.N) (s : Fin 16) (h) (r : Fin 256) (h') : tok ⟨16 * (t.val / 16) + s.val, h⟩ r = ⟨256 * s.val + r.val, h'⟩ :=
  Fin.ext (by have := t.isLt; have h : cfg0.N = 16 := N_0; show 256 * (16 * (t.val / 16) + s.val) + r.val = 256 * s.val + r.val; omega)

theorem sumW (c : Dev nD) (t : Fin cfg0.N) (h : ∀ s : Fin 16, 16 * (t.val / 16) + s.val < cfg0.N) (q : Fin 128) :
    (∑ s : Fin 16, addW m c ⟨16 * (t.val / 16) + s.val, h s⟩ (ix2 0 q)) = Cert.DnOutRefIdeal.Read.val_main_v50 (F := Ideal) (aO m c) (aZ m c) (aD m c) (ix2 0 q) := by
  refine Eq.trans ?_ ((refW _ _ _ q).trans (sum_cut (a := 16) (b := 256) rfl _)).symm
  refine Finset.sum_congr rfl fun s _ => Finset.sum_congr rfl fun r _ => ?_
  rw [tok_run t s (h s) r (by omega)]
  rfl

theorem after6 (c : Dev nD) : (dats m 0 c).arrAt 6 (cfgs 0).N = Cert.DnOutRefIdeal.Read.val_main_v50 (F := Ideal) (aO m c) (aZ m c) (aD m c) := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0) (addW m c)
    (fun t h j => stepW_A m c t h j) (fun t h j => stepW_B m c t h j) t ((flush0_6 t).mp hf) _, zero_add]
  idx_vars y
  obtain rfl := Subsingleton.elim y0 0
  have e : (win0_6.blk t).view.emb (ix2 0 y1) = ix2 0 y1 := by blk_ext [idx t]
  rw [e]
  exact sumW m c t _ y1

theorem algebraic : Cert.algebraic_DnOutIdeal_DnOutRefIdeal := by
  intro m g m' g' _ hagree
  refine ⟨_, _, _, Cert.DnOutIdeal.Value.run_blocks m g, (θ_run _ _ _).mono (fun r h c => ?_) (Cert.DnOutRefIdeal.Value.run m' g')⟩
  obtain ⟨r0, r1, r2, k⟩ := h c
  obtain ⟨h0, h1, h2, h3⟩ := hagree c
  refine ⟨r0.trans ?_, r1.trans ?_, r2.trans ?_, k⟩
  · refine (Cert.DnOutRefIdeal.Read.val_main_v48_eq _ _).trans (Eq.trans ?_ (after4 m c).symm)
    exact congr (congr (congr (congrArg (fun x y z p => Cert.DnOutRefIdeal.Read.val_main_v48 (F := Ideal) x y z p) h0) h1) h2) h3
  · refine (Cert.DnOutRefIdeal.Read.val_main_v49_eq _ _ _ _).trans (Eq.trans ?_ (after5 m c).symm)
    exact congr (congr (congr (congrArg (fun x y z p => Cert.DnOutRefIdeal.Read.val_main_v49 (F := Ideal) x y z p) h0) h1) h2) h3
  · refine (Cert.DnOutRefIdeal.Read.val_main_v50_eq _ _ _).trans (Eq.trans ?_ (after6 m c).symm)
    exact congr (congr (congrArg (fun x y z => Cert.DnOutRefIdeal.Read.val_main_v50 (F := Ideal) x y z) h0) h1) h3

theorem refFrame : Cert.quiescent_DnOutRefIdeal := by
  intro m g _
  refine (θ_run _ _ _).mono (fun r h => ⟨fun c => ?_, sem_eq_zero_of_no_sems (by decide) _⟩) (Cert.DnOutRefIdeal.Value.run m g)
  obtain ⟨_, _, _, k⟩ := h c
  exact k

end Cert.Elementwise.DnOut

end
-- ==== Proof.LossHead.lean ====
/- The loss and its gradient. -/
module

public import proofs.«01_k».proof.Defs
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Sums
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Elementwise.LossHead
open Cert.LossHeadIdeal Cert.LossHeadIdeal.Gen

variable (m : (ℓ : Loc nD τ sig) → Buf (Elt Ideal) ℓ)

abbrev aY (c : Dev nD) : FVec Ideal S4096x1024 .f32 := m ((c : Thread nD τ).loc main_arg0)
abbrev aT (c : Dev nD) : FVec Ideal S4096x1024 .f32 := m ((c : Thread nD τ).loc main_arg1)

/-- The row of the array that is row `r` of the block at point `t`. -/
def tok (t : Fin cfg0.N) (r : Fin 512) : Fin 4096 := ⟨512 * t.val + r.val, by have := t.isLt; have h : cfg0.N = 8 := N_0; omega⟩

theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

theorem blkY (c : Dev nD) (t : Fin cfg0.N) (r : Fin 512) (q : Fin 1024) :
    (iblk m c 0 t : FVec Ideal S512x1024 .f32) (ix2 r q) = aY m c (ix2 (tok t r) q) := by
  show _ = m ((c : Thread nD τ).loc main_arg0) (ix2 (tok t r) q)
  blk_ext [iblk, V, idx t, tok]

theorem blkT (c : Dev nD) (t : Fin cfg0.N) (r : Fin 512) (q : Fin 1024) :
    (iblk m c 1 t : FVec Ideal S512x1024 .f32) (ix2 r q) = aT m c (ix2 (tok t r) q) := by
  show _ = m ((c : Thread nD τ).loc main_arg1) (ix2 (tok t r) q)
  blk_ext [iblk, V, idx t, tok]

theorem half : Ideal.ofBits .f32 0x3F000000#32 = (((1 / 2 : ℝ) : ℝ) : EReal) := by
  simp [Ideal.ofBits, Ideal.ieee, -EReal.coe_mul]
  norm_num
theorem two : Ideal.ofBits .f32 0x40000000#32 = (((2 : ℝ) : ℝ) : EReal) := by
  simp [Ideal.ofBits, Ideal.ieee, -EReal.coe_mul]
  norm_num
theorem cols : Ideal.ofBits .f32 0x44800000#32 = (((1024 : ℝ) : ℝ) : EReal) := by
  simp [Ideal.ofBits, Ideal.ieee, -EReal.coe_mul]
  norm_num
theorem recip : Ideal.ofBits .f32 0x3A800000#32 = (((1 / 1024 : ℝ) : ℝ) : EReal) := by
  simp [Ideal.ofBits, Ideal.ieee, -EReal.coe_mul]
  norm_num

/-- The squared error of one row, summed over its entries. -/
def sq (y t : Fin 1024 → EReal) : EReal := ∑ q : Fin 1024, (y q - t q) * (y q - t q)

theorem pay3 (y t : FVec Ideal S512x1024 .f32) (r : Fin 512) (q : Fin 1024) :
    k0_pay3 (F := Ideal) y t (ix2 r q) = ((show EReal from y (ix2 r q)) - t (ix2 r q)) * (((1 / 1024 : ℝ) : ℝ) : EReal) := by
  pointwise [k0_pay3, k0_pay2, recip]
theorem pay1 (j : S8x128.Idx) : k0_pay1 (F := Ideal) j = (0 : EReal) := by pointwise [k0_pay1]
theorem pay4 (y t : FVec Ideal S512x1024 .f32) (z : FVec Ideal S8x128 .f32) (i : Fin 8) (j : Fin 128) :
    k0_pay4 (F := Ideal) y t z (ix2 i j)
      = (show EReal from z (ix2 i j)) + (((1 / 2 : ℝ) : ℝ) : EReal) * @Finset.sum (Fin 512) EReal _ Finset.univ fun r =>
          sq (fun q => y (ix2 r q)) (fun q => t (ix2 r q)) * (((1 / 1024 : ℝ) : ℝ) : EReal) := by
  pointwise [k0_pay4, k0_pay2, sq, recip, half]

theorem refD (y t : FVec Ideal S4096x1024 .f32) (r : Fin 4096) (q : Fin 1024) :
    Cert.LossHeadRefIdeal.Read.val_main_v14 (F := Ideal) y t (ix2 r q) = ((show EReal from y (ix2 r q)) - t (ix2 r q)) * (((1 / 1024 : ℝ) : ℝ) : EReal) := by
  pointwise [Cert.LossHeadRefIdeal.Read.val_main_v14, Cert.LossHeadRefIdeal.Read.val_main_v13, Cert.LossHeadRefIdeal.Read.val_main_v12, Cert.LossHeadRefIdeal.Read.val_main_v11, Cert.LossHeadRefIdeal.Read.val_main_v10, Cert.LossHeadRefIdeal.Read.val_main_v9, Cert.LossHeadRefIdeal.Read.val_main_v3, Cert.LossHeadRefIdeal.Read.val_main_v2, Cert.LossHeadRefIdeal.Read.val_main_v0, Cert.LossHeadRefIdeal.Read.val_main_cst, Cert.LossHeadRefIdeal.Read.val_main_cst_4, Cert.LossHeadRefIdeal.Read.val_main_cst_5, Cert.LossHeadRefIdeal.Read.val_main_cst_6, half, two, cols]
  rw [Ideal.div_coe (by norm_num), ← EReal.coe_mul, ← mul_assoc, ← EReal.coe_mul, mul_comm]
  norm_num
theorem refL (y t : FVec Ideal S4096x1024 .f32) (i : Fin 8) (j : Fin 128) :
    Cert.LossHeadRefIdeal.Read.val_main_v15 (F := Ideal) y t (ix2 i j)
      = (((1 / 2 : ℝ) : ℝ) : EReal) * @Finset.sum (Fin 4096) EReal _ Finset.univ fun r =>
          sq (fun q => y (ix2 r q)) (fun q => t (ix2 r q)) * (((1 / 1024 : ℝ) : ℝ) : EReal) := by
  pointwise [Cert.LossHeadRefIdeal.Read.val_main_v15, Cert.LossHeadRefIdeal.Read.val_main_v8, Cert.LossHeadRefIdeal.Read.val_main_v7, Cert.LossHeadRefIdeal.Read.val_main_v6, Cert.LossHeadRefIdeal.Read.val_main_v5, Cert.LossHeadRefIdeal.Read.val_main_v4, Cert.LossHeadRefIdeal.Read.val_main_v1, Cert.LossHeadRefIdeal.Read.val_main_v0, Cert.LossHeadRefIdeal.Read.val_main_cst_0, Cert.LossHeadRefIdeal.Read.val_main_cst_1, Cert.LossHeadRefIdeal.Read.val_main_cst_2, Cert.LossHeadRefIdeal.Read.val_main_cst_3, sq, half, cols]
  exact congrArg _ (Finset.sum_congr rfl fun r _ => Ideal.div_coe (by norm_num) _)

theorem out2 (c : Dev nD) (t : Fin cfg0.N) (r : Fin 512) (q : Fin 1024) :
    (outsAt0 m c t.val t.isLt).1 (ix2 r q) = ((show EReal from aY m c (ix2 (tok t r) q)) - aT m c (ix2 (tok t r) q)) * (((1 / 1024 : ℝ) : ℝ) : EReal) := by
  rw [← blkY m c t, ← blkT m c t]
  by_cases h : t.val % 8 = 0
  · rw [outsAt0_A m c t h]; frame_out
    exact pay3 ..
  · rw [outsAt0_B m c t h]; frame_out
    exact pay3 ..

theorem after2 (c : Dev nD) : (dats m 0 c).arrAt 2 (cfgs 0).N
    = Cert.LossHeadRefIdeal.Read.val_main_v14 (F := Ideal) (aY m c) (aT m c) := by
  refine (dats m 0 c).arrAt_eq_of_covers 2 _ (by decide +kernel) fun t hf y => ?_
  blk_simp
  rw [after0_2]
  idx_vars y
  refine (out2 m c t _ _).trans ((refD _ _ _ _).symm.trans ?_)
  blk_ext [idx t, tok]

/-- A finite nonnegative factor goes into a sum. -/
theorem mul_sum {n : Nat} {x : ℝ} (h : 0 ≤ x) (f : Fin n → EReal) : (x : EReal) * ∑ s, f s = ∑ s, (x : EReal) * f s := by
  induction n with
  | zero => simp
  | succ n ih =>
    rw [Fin.sum_univ_castSucc, Fin.sum_univ_castSucc,
      EReal.left_distrib_of_nonneg_of_ne_top (EReal.coe_nonneg.mpr h) (EReal.coe_ne_top _), ih]

/-- What one block of rows adds to the loss. -/
def addL (c : Dev nD) (t : Fin cfg0.N) (j : S8x128.Idx) : EReal :=
  (((1 / 2 : ℝ) : ℝ) : EReal) * @Finset.sum (Fin 512) EReal _ Finset.univ fun r =>
    sq (fun q => aY m c (ix2 (tok t r) q)) (fun q => aT m c (ix2 (tok t r) q)) * (((1 / 1024 : ℝ) : ℝ) : EReal)

theorem partL (c : Dev nD) (t : Fin cfg0.N) (z : FVec Ideal S8x128 .f32) (j : S8x128.Idx) :
    k0_pay4 (F := Ideal) (iblk m c 0 t) (iblk m c 1 t) z j = (show EReal from z j) + addL m c t j := by
  idx_vars j
  refine (pay4 _ _ _ _ _).trans (congrArg _ (congrArg _ (Finset.sum_congr rfl fun r _ => congrArg (· * _) ?_)))
  exact congrArg₂ sq (funext fun q => blkY m c t r q) (funext fun q => blkT m c t r q)

theorem stepL_A (c : Dev nD) (t : Fin cfg0.N) (h : t.val % 8 = 0) (j : S8x128.Idx) :
    (outsAt0 m c t.val t.isLt).2 j = (0 : EReal) + addL m c t j := by
  rw [outsAt0_A m c t h]; frame_out
  exact (partL m c t _ j).trans (Ideal.add_congr (pay1 j) rfl)

theorem stepL_B (c : Dev nD) (t : Fin cfg0.N) (h : ¬t.val % 8 = 0) (j : S8x128.Idx) :
    (outsAt0 m c t.val t.isLt).2 j = (show EReal from (outsAt0 m c (t.val - 1) (by omega)).2 j) + addL m c t j := by
  rw [outsAt0_B m c t h]; frame_out
  exact partL m c t _ j

theorem sumL (c : Dev nD) (t : Fin cfg0.N) (h : ∀ s : Fin 8, 8 * (t.val / 8) + s.val < cfg0.N) (i : Fin 8) (j : Fin 128) :
    (∑ s : Fin 8, addL m c ⟨8 * (t.val / 8) + s.val, h s⟩ (ix2 i j))
      = Cert.LossHeadRefIdeal.Read.val_main_v15 (F := Ideal) (aY m c) (aT m c) (ix2 i j) := by
  refine Eq.trans ?_ ((refL _ _ i j).trans ((congrArg _ (sum_cut (a := 8) (b := 512) rfl _)).trans (mul_sum (by norm_num) _))).symm
  refine Finset.sum_congr rfl fun s _ => congrArg _ (Finset.sum_congr rfl fun r _ => ?_)
  have e : tok ⟨8 * (t.val / 8) + s.val, h s⟩ r = ⟨512 * s.val + r.val, by omega⟩ :=
    Fin.ext (by have := t.isLt; have h : cfg0.N = 8 := N_0; show 512 * (8 * (t.val / 8) + s.val) + r.val = 512 * s.val + r.val; omega)
  rw [e]

theorem after3 (c : Dev nD) : (dats m 0 c).arrAt 3 (cfgs 0).N
    = Cert.LossHeadRefIdeal.Read.val_main_v15 (F := Ideal) (aY m c) (aT m c) := by
  refine (dats m 0 c).arrAt_eq_of_covers 3 _ (by decide +kernel) fun t hf y => ?_
  blk_simp
  rw [after0_3, Pipeline.eq_sum_fin_of_reset_step_apply_of_flush (fun n h => (outsAt0 m c n h).2) 8 (fun _ => 0) (addL m c)
    (fun t h j => stepL_A m c t h j) (fun t h j => stepL_B m c t h j) t ((flush0_3 t).mp hf) _, zero_add]
  idx_vars y
  have e : (win0_3.blk t).view.emb (ix2 y0 y1) = ix2 y0 y1 := by blk_ext [idx t]
  rw [e]
  exact sumL m c t _ y0 y1

theorem algebraic : Cert.algebraic_LossHeadIdeal_LossHeadRefIdeal := by
  intro m g m' g' _ hagree
  refine ⟨_, _, Cert.LossHeadIdeal.Value.run_blocks m g, (θ_run _ _ _).mono (fun r h c => ?_) (Cert.LossHeadRefIdeal.Value.run m' g')⟩
  obtain ⟨r0, r1, k⟩ := h c
  obtain ⟨h0, h1⟩ := hagree c
  refine ⟨r0.trans ?_, r1.trans ?_, k⟩
  · refine (Cert.LossHeadRefIdeal.Read.val_main_v14_eq _ _).trans (Eq.trans ?_ (after2 m c).symm)
    exact congrArg₂ (fun a b => Cert.LossHeadRefIdeal.Read.val_main_v14 (F := Ideal) a b) h0 h1
  · refine (Cert.LossHeadRefIdeal.Read.val_main_v15_eq _ _).trans (Eq.trans ?_ (after3 m c).symm)
    exact congrArg₂ (fun a b => Cert.LossHeadRefIdeal.Read.val_main_v15 (F := Ideal) a b) h0 h1

theorem refFrame : Cert.quiescent_LossHeadRefIdeal := by
  intro m g _
  refine (θ_run _ _ _).mono (fun r h => ⟨fun c => ?_, sem_eq_zero_of_no_sems (by decide) _⟩) (Cert.LossHeadRefIdeal.Value.run m g)
  obtain ⟨_, _, k⟩ := h c
  exact k

end Cert.Elementwise.LossHead

end
-- ==== Proof.AdamSmallPack.lean ====
/- The twelve small arrays of the optimiser's last call, laid one under another in rows of 128, and what an entrywise
   function does to that layout. -/
module

public import proofs.«01_k».proof.Proof.Gen.AdamSmallIdeal
public import Idealize.ShloMosaic.Lib.Pipeline.ValueKit
public import proofs.«01_k».proof.Proof.Adam

@[expose] public section

set_option maxRecDepth 16384

noncomputable section

open Idealize.ShloMosaic Idealize.ShloMosaic.TcCoe

namespace Cert.Adam.Small
open Cert.AdamSmallIdeal Cert.AdamSmallIdeal.Gen

/-- One array for each of the twelve small weights. -/
structure Arrays where
  a0 : FVec Ideal S4x6144 .f32
  a1 : FVec Ideal S4x1024 .f32
  a2 : FVec Ideal S4x1024 .f32
  a3 : FVec Ideal S4x4 .f32
  a4 : FVec Ideal S4x4 .f32
  a5 : FVec Ideal S4x128 .f32
  a6 : FVec Ideal S4x256 .f32
  a7 : FVec Ideal S4x256 .f32
  a8 : FVec Ideal S4x4x128x128 .f32
  a9 : FVec Ideal S4x4x128 .f32
  a10 : FVec Ideal S4x64 .f32
  a11 : FVec Ideal S4x64 .f32

/-- The parts of the twelve gradients, eight of each. -/
structure Parts where
  p0 : FVec Ideal S8x4x6144 .f32
  p1 : FVec Ideal S8x4x1024 .f32
  p2 : FVec Ideal S8x4x1024 .f32
  p3 : FVec Ideal S8x4x4 .f32
  p4 : FVec Ideal S8x4x4 .f32
  p5 : FVec Ideal S8x4x128 .f32
  p6 : FVec Ideal S8x4x256 .f32
  p7 : FVec Ideal S8x4x256 .f32
  p8 : FVec Ideal S8x4x4x128x128 .f32
  p9 : FVec Ideal S8x4x4x128 .f32
  p10 : FVec Ideal S8x4x64 .f32
  p11 : FVec Ideal S8x4x64 .f32

/-- The layout: every array flattened, padded to whole rows, and all of them one under another. -/
def tower (a : Arrays) : FVec Ideal S2400x128 .f32 :=
  concatenate S2400x128 0 [
    ⟨S192x128, (shapeCast S192x128 (pad S24576 ![0] ![0] ![0] (shapeCast S24576 a.a0 shapeCasts_S4x6144_S24576) (sitofp .f32 (constantI S_ 32 0#32) : FVec Ideal S_ .f32) pads_S24576_S24576_000 h_S_) shapeCasts_S24576_S192x128 : FVec Ideal S192x128 .f32)⟩,
    ⟨S32x128, (shapeCast S32x128 (pad S4096 ![0] ![0] ![0] (shapeCast S4096 a.a1 shapeCasts_S4x1024_S4096) (sitofp .f32 (constantI S_ 32 0#32) : FVec Ideal S_ .f32) pads_S4096_S4096_000 h_S_) shapeCasts_S4096_S32x128 : FVec Ideal S32x128 .f32)⟩,
    ⟨S32x128, (shapeCast S32x128 (pad S4096 ![0] ![0] ![0] (shapeCast S4096 a.a2 shapeCasts_S4x1024_S4096) (sitofp .f32 (constantI S_ 32 0#32) : FVec Ideal S_ .f32) pads_S4096_S4096_000 h_S_) shapeCasts_S4096_S32x128 : FVec Ideal S32x128 .f32)⟩,
    ⟨S8x128, (shapeCast S8x128 (pad S1024 ![0] ![1008] ![0] (shapeCast S16 a.a3 shapeCasts_S4x4_S16) (sitofp .f32 (constantI S_ 32 0#32) : FVec Ideal S_ .f32) pads_S16_S1024_010080 h_S_) shapeCasts_S1024_S8x128 : FVec Ideal S8x128 .f32)⟩,
    ⟨S8x128, (shapeCast S8x128 (pad S1024 ![0] ![1008] ![0] (shapeCast S16 a.a4 shapeCasts_S4x4_S16) (sitofp .f32 (constantI S_ 32 0#32) : FVec Ideal S_ .f32) pads_S16_S1024_010080 h_S_) shapeCasts_S1024_S8x128 : FVec Ideal S8x128 .f32)⟩,
    ⟨S8x128, (shapeCast S8x128 (pad S1024 ![0] ![512] ![0] (shapeCast S512 a.a5 shapeCasts_S4x128_S512) (sitofp .f32 (constantI S_ 32 0#32) : FVec Ideal S_ .f32) pads_S512_S1024_05120 h_S_) shapeCasts_S1024_S8x128 : FVec Ideal S8x128 .f32)⟩,
    ⟨S8x128, (shapeCast S8x128 (pad S1024 ![0] ![0] ![0] (shapeCast S1024 a.a6 shapeCasts_S4x256_S1024) (sitofp .f32 (constantI S_ 32 0#32) : FVec Ideal S_ .f32) pads_S1024_S1024_000 h_S_) shapeCasts_S1024_S8x128 : FVec Ideal S8x128 .f32)⟩,
    ⟨S8x128, (shapeCast S8x128 (pad S1024 ![0] ![0] ![0] (shapeCast S1024 a.a7 shapeCasts_S4x256_S1024) (sitofp .f32 (constantI S_ 32 0#32) : FVec Ideal S_ .f32) pads_S1024_S1024_000 h_S_) shapeCasts_S1024_S8x128 : FVec Ideal S8x128 .f32)⟩,
    ⟨S2048x128, (shapeCast S2048x128 (pad S262144 ![0] ![0] ![0] (shapeCast S262144 a.a8 shapeCasts_S4x4x128x128_S262144) (sitofp .f32 (constantI S_ 32 0#32) : FVec Ideal S_ .f32) pads_S262144_S262144_000 h_S_) shapeCasts_S262144_S2048x128 : FVec Ideal S2048x128 .f32)⟩,
    ⟨S16x128, (shapeCast S16x128 (pad S2048 ![0] ![0] ![0] (shapeCast S2048 a.a9 shapeCasts_S4x4x128_S2048) (sitofp .f32 (constantI S_ 32 0#32) : FVec Ideal S_ .f32) pads_S2048_S2048_000 h_S_) shapeCasts_S2048_S16x128 : FVec Ideal S16x128 .f32)⟩,
    ⟨S8x128, (shapeCast S8x128 (pad S1024 ![0] ![768] ![0] (shapeCast S256 a.a10 shapeCasts_S4x64_S256) (sitofp .f32 (constantI S_ 32 0#32) : FVec Ideal S_ .f32) pads_S256_S1024_07680 h_S_) shapeCasts_S1024_S8x128 : FVec Ideal S8x128 .f32)⟩,
    ⟨S8x128, (shapeCast S8x128 (pad S1024 ![0] ![768] ![0] (shapeCast S256 a.a11 shapeCasts_S4x64_S256) (sitofp .f32 (constantI S_ 32 0#32) : FVec Ideal S_ .f32) pads_S256_S1024_07680 h_S_) shapeCasts_S1024_S8x128 : FVec Ideal S8x128 .f32)⟩,
    ⟨S24x128, (broadcastInDim S24x128 ![] bcast_S_S24x128 (constant S_ .f32 0x00000000#32 : FVec Ideal S_ .f32) : FVec Ideal S24x128 .f32)⟩]
    concatenates_S192x128_S32x128_S32x128_S8x128_S8x128_S8x128_S8x128_S8x128_S2048x128_S16x128_S8x128_S8x128_S24x128_S2400x128_d0

/-- An entrywise function of four sets of arrays. -/
def Arrays.map (g : EReal → EReal → EReal → EReal → EReal) (w m v d : Arrays) : Arrays where
  a0 := fun j => g (w.a0 j) (m.a0 j) (v.a0 j) (d.a0 j)
  a1 := fun j => g (w.a1 j) (m.a1 j) (v.a1 j) (d.a1 j)
  a2 := fun j => g (w.a2 j) (m.a2 j) (v.a2 j) (d.a2 j)
  a3 := fun j => g (w.a3 j) (m.a3 j) (v.a3 j) (d.a3 j)
  a4 := fun j => g (w.a4 j) (m.a4 j) (v.a4 j) (d.a4 j)
  a5 := fun j => g (w.a5 j) (m.a5 j) (v.a5 j) (d.a5 j)
  a6 := fun j => g (w.a6 j) (m.a6 j) (v.a6 j) (d.a6 j)
  a7 := fun j => g (w.a7 j) (m.a7 j) (v.a7 j) (d.a7 j)
  a8 := fun j => g (w.a8 j) (m.a8 j) (v.a8 j) (d.a8 j)
  a9 := fun j => g (w.a9 j) (m.a9 j) (v.a9 j) (d.a9 j)
  a10 := fun j => g (w.a10 j) (m.a10 j) (v.a10 j) (d.a10 j)
  a11 := fun j => g (w.a11 j) (m.a11 j) (v.a11 j) (d.a11 j)

/-- One of the eight parts of every gradient. -/
def Parts.part (p : Parts) (s : Fin 8) : Arrays where
  a0 := fun j => p.p0 (ix3 s (j 0) (j 1))
  a1 := fun j => p.p1 (ix3 s (j 0) (j 1))
  a2 := fun j => p.p2 (ix3 s (j 0) (j 1))
  a3 := fun j => p.p3 (ix3 s (j 0) (j 1))
  a4 := fun j => p.p4 (ix3 s (j 0) (j 1))
  a5 := fun j => p.p5 (ix3 s (j 0) (j 1))
  a6 := fun j => p.p6 (ix3 s (j 0) (j 1))
  a7 := fun j => p.p7 (ix3 s (j 0) (j 1))
  a8 := fun j => p.p8 (ix5 s (j 0) (j 1) (j 2) (j 3))
  a9 := fun j => p.p9 (ix4 s (j 0) (j 1) (j 2))
  a10 := fun j => p.p10 (ix3 s (j 0) (j 1))
  a11 := fun j => p.p11 (ix3 s (j 0) (j 1))

/-- The sum of the eight parts. -/
def Parts.total (p : Parts) : Arrays where
  a0 := fun j => @Finset.sum (Fin 8) EReal _ Finset.univ fun s => p.p0 (ix3 s (j 0) (j 1))
  a1 := fun j => @Finset.sum (Fin 8) EReal _ Finset.univ fun s => p.p1 (ix3 s (j 0) (j 1))
  a2 := fun j => @Finset.sum (Fin 8) EReal _ Finset.univ fun s => p.p2 (ix3 s (j 0) (j 1))
  a3 := fun j => @Finset.sum (Fin 8) EReal _ Finset.univ fun s => p.p3 (ix3 s (j 0) (j 1))
  a4 := fun j => @Finset.sum (Fin 8) EReal _ Finset.univ fun s => p.p4 (ix3 s (j 0) (j 1))
  a5 := fun j => @Finset.sum (Fin 8) EReal _ Finset.univ fun s => p.p5 (ix3 s (j 0) (j 1))
  a6 := fun j => @Finset.sum (Fin 8) EReal _ Finset.univ fun s => p.p6 (ix3 s (j 0) (j 1))
  a7 := fun j => @Finset.sum (Fin 8) EReal _ Finset.univ fun s => p.p7 (ix3 s (j 0) (j 1))
  a8 := fun j => @Finset.sum (Fin 8) EReal _ Finset.univ fun s => p.p8 (ix5 s (j 0) (j 1) (j 2) (j 3))
  a9 := fun j => @Finset.sum (Fin 8) EReal _ Finset.univ fun s => p.p9 (ix4 s (j 0) (j 1) (j 2))
  a10 := fun j => @Finset.sum (Fin 8) EReal _ Finset.univ fun s => p.p10 (ix3 s (j 0) (j 1))
  a11 := fun j => @Finset.sum (Fin 8) EReal _ Finset.univ fun s => p.p11 (ix3 s (j 0) (j 1))

/-- The entry of the layout at a row and a column. -/
def entry (a : Arrays) (i : Fin 2400) (j : Fin 128) : EReal :=
  if h0 : i.val < 192 then
    if q0 : i.val * 128 + j.val < 24576 then a.a0 (ix2 ⟨(i.val * 128 + j.val) / 6144, by omega⟩ ⟨(i.val * 128 + j.val) % 6144, by omega⟩) else 0
  else
  if h1 : i.val - 192 < 32 then
    if q1 : (i.val - 192) * 128 + j.val < 4096 then a.a1 (ix2 ⟨((i.val - 192) * 128 + j.val) / 1024, by omega⟩ ⟨((i.val - 192) * 128 + j.val) % 1024, by omega⟩) else 0
  else
  if h2 : i.val - 192 - 32 < 32 then
    if q2 : (i.val - 192 - 32) * 128 + j.val < 4096 then a.a2 (ix2 ⟨((i.val - 192 - 32) * 128 + j.val) / 1024, by omega⟩ ⟨((i.val - 192 - 32) * 128 + j.val) % 1024, by omega⟩) else 0
  else
  if h3 : i.val - 192 - 32 - 32 < 8 then
    if q3 : (i.val - 192 - 32 - 32) * 128 + j.val < 16 then a.a3 (ix2 ⟨((i.val - 192 - 32 - 32) * 128 + j.val) / 4, by omega⟩ ⟨((i.val - 192 - 32 - 32) * 128 + j.val) % 4, by omega⟩) else 0
  else
  if h4 : i.val - 192 - 32 - 32 - 8 < 8 then
    if q4 : (i.val - 192 - 32 - 32 - 8) * 128 + j.val < 16 then a.a4 (ix2 ⟨((i.val - 192 - 32 - 32 - 8) * 128 + j.val) / 4, by omega⟩ ⟨((i.val - 192 - 32 - 32 - 8) * 128 + j.val) % 4, by omega⟩) else 0
  else
  if h5 : i.val - 192 - 32 - 32 - 8 - 8 < 8 then
    if q5 : (i.val - 192 - 32 - 32 - 8 - 8) * 128 + j.val < 512 then a.a5 (ix2 ⟨((i.val - 192 - 32 - 32 - 8 - 8) * 128 + j.val) / 128, by omega⟩ j) else 0
  else
  if h6 : i.val - 192 - 32 - 32 - 8 - 8 - 8 < 8 then
    if q6 : (i.val - 192 - 32 - 32 - 8 - 8 - 8) * 128 + j.val < 1024 then a.a6 (ix2 ⟨((i.val - 192 - 32 - 32 - 8 - 8 - 8) * 128 + j.val) / 256, by omega⟩ ⟨((i.val - 192 - 32 - 32 - 8 - 8 - 8) * 128 + j.val) % 256, by omega⟩) else 0
  else
  if h7 : i.val - 192 - 32 - 32 - 8 - 8 - 8 - 8 < 8 then
    if q7 : (i.val - 192 - 32 - 32 - 8 - 8 - 8 - 8) * 128 + j.val < 1024 then a.a7 (ix2 ⟨((i.val - 192 - 32 - 32 - 8 - 8 - 8 - 8) * 128 + j.val) / 256, by omega⟩ ⟨((i.val - 192 - 32 - 32 - 8 - 8 - 8 - 8) * 128 + j.val) % 256, by omega⟩) else 0
  else
  if h8 : i.val - 192 - 32 - 32 - 8 - 8 - 8 - 8 - 8 < 2048 then
    if q8 : (i.val - 192 - 32 - 32 - 8 - 8 - 8 - 8 - 8) * 128 + j.val < 262144 then a.a8 (ix4 ⟨((i.val - 192 - 32 - 32 - 8 - 8 - 8 - 8 - 8) * 128 + j.val) / 65536, by omega⟩ ⟨((i.val - 192 - 32 - 32 - 8 - 8 - 8 - 8 - 8) * 128 + j.val) / 16384 % 4, by omega⟩ ⟨((i.val - 192 - 32 - 32 - 8 - 8 - 8 - 8 - 8) * 128 + j.val) / 128 % 128, by omega⟩ j) else 0
  else
  if h9 : i.val - 192 - 32 - 32 - 8 - 8 - 8 - 8 - 8 - 2048 < 16 then
    if q9 : (i.val - 192 - 32 - 32 - 8 - 8 - 8 - 8 - 8 - 2048) * 128 + j.val < 2048 then a.a9 (ix3 ⟨((i.val - 192 - 32 - 32 - 8 - 8 - 8 - 8 - 8 - 2048) * 128 + j.val) / 512, by omega⟩ ⟨((i.val - 192 - 32 - 32 - 8 - 8 - 8 - 8 - 8 - 2048) * 128 + j.val) / 128 % 4, by omega⟩ j) else 0
  else
  if h10 : i.val - 192 - 32 - 32 - 8 - 8 - 8 - 8 - 8 - 2048 - 16 < 8 then
    if q10 : (i.val - 192 - 32 - 32 - 8 - 8 - 8 - 8 - 8 - 2048 - 16) * 128 + j.val < 256 then a.a10 (ix2 ⟨((i.val - 192 - 32 - 32 - 8 - 8 - 8 - 8 - 8 - 2048 - 16) * 128 + j.val) / 64, by omega⟩ ⟨((i.val - 192 - 32 - 32 - 8 - 8 - 8 - 8 - 8 - 2048 - 16) * 128 + j.val) % 64, by omega⟩) else 0
  else
  if h11 : i.val - 192 - 32 - 32 - 8 - 8 - 8 - 8 - 8 - 2048 - 16 - 8 < 8 then
    if q11 : (i.val - 192 - 32 - 32 - 8 - 8 - 8 - 8 - 8 - 2048 - 16 - 8) * 128 + j.val < 256 then a.a11 (ix2 ⟨((i.val - 192 - 32 - 32 - 8 - 8 - 8 - 8 - 8 - 2048 - 16 - 8) * 128 + j.val) / 64, by omega⟩ ⟨((i.val - 192 - 32 - 32 - 8 - 8 - 8 - 8 - 8 - 2048 - 16 - 8) * 128 + j.val) % 64, by omega⟩) else 0
  else
  0

theorem tower_entry (a : Arrays) (i : Fin 2400) (j : Fin 128) : tower a (ix2 i j) = entry a i j := by
  unfold entry
  pointwise [tower, Cert.Adam.int_zero]

theorem dite_map (g : EReal → EReal → EReal → EReal → EReal) (c : Prop) [Decidable c] (x1 x2 x3 x4 : c → EReal) (y1 y2 y3 y4 : ¬c → EReal) :
    g (dite c x1 y1) (dite c x2 y2) (dite c x3 y3) (dite c x4 y4)
      = dite c (fun h => g (x1 h) (x2 h) (x3 h) (x4 h)) (fun h => g (y1 h) (y2 h) (y3 h) (y4 h)) := by
  by_cases h : c <;> simp [h]

/-- An entrywise function that keeps the padding zero may be applied before or after the layout. -/
theorem entry_map (g : EReal → EReal → EReal → EReal → EReal) (hg : g 0 0 0 0 = 0) (w m v d : Arrays) (i : Fin 2400) (j : Fin 128) :
    entry (Arrays.map g w m v d) i j = g (entry w i j) (entry m i j) (entry v i j) (entry d i j) := by
  unfold entry
  simp only [dite_map g, hg]
  rfl

/-- The sum over the parts may be taken before or after the layout. -/
theorem entry_total (p : Parts) (i : Fin 2400) (j : Fin 128) :
    entry p.total i j = @Finset.sum (Fin 8) EReal _ Finset.univ fun s => entry (p.part s) i j := by
  unfold entry
  simp only [Finset.sum_dite_irrel, Finset.sum_const_zero]
  rfl

/-- The layout of the parts. -/
def towerP (p : Parts) : FVec Ideal S8x2400x128 .f32 :=
  concatenate S8x2400x128 1 [
    ⟨S8x192x128, (shapeCast S8x192x128 (pad S8x24576 ![0, 0] ![0, 0] ![0, 0] (shapeCast S8x24576 p.p0 shapeCasts_S8x4x6144_S8x24576) (sitofp .f32 (constantI S_ 32 0#32) : FVec Ideal S_ .f32) pads_S8x24576_S8x24576_000_000 h_S_) shapeCasts_S8x24576_S8x192x128 : FVec Ideal S8x192x128 .f32)⟩,
    ⟨S8x32x128, (shapeCast S8x32x128 (pad S8x4096 ![0, 0] ![0, 0] ![0, 0] (shapeCast S8x4096 p.p1 shapeCasts_S8x4x1024_S8x4096) (sitofp .f32 (constantI S_ 32 0#32) : FVec Ideal S_ .f32) pads_S8x4096_S8x4096_000_000 h_S_) shapeCasts_S8x4096_S8x32x128 : FVec Ideal S8x32x128 .f32)⟩,
    ⟨S8x32x128, (shapeCast S8x32x128 (pad S8x4096 ![0, 0] ![0, 0] ![0, 0] (shapeCast S8x4096 p.p2 shapeCasts_S8x4x1024_S8x4096) (sitofp .f32 (constantI S_ 32 0#32) : FVec Ideal S_ .f32) pads_S8x4096_S8x4096_000_000 h_S_) shapeCasts_S8x4096_S8x32x128 : FVec Ideal S8x32x128 .f32)⟩,
    ⟨S8x8x128, (shapeCast S8x8x128 (pad S8x1024 ![0, 0] ![0, 1008] ![0, 0] (shapeCast S8x16 p.p3 shapeCasts_S8x4x4_S8x16) (sitofp .f32 (constantI S_ 32 0#32) : FVec Ideal S_ .f32) pads_S8x16_S8x1024_000_010080 h_S_) shapeCasts_S8x1024_S8x8x128 : FVec Ideal S8x8x128 .f32)⟩,
    ⟨S8x8x128, (shapeCast S8x8x128 (pad S8x1024 ![0, 0] ![0, 1008] ![0, 0] (shapeCast S8x16 p.p4 shapeCasts_S8x4x4_S8x16) (sitofp .f32 (constantI S_ 32 0#32) : FVec Ideal S_ .f32) pads_S8x16_S8x1024_000_010080 h_S_) shapeCasts_S8x1024_S8x8x128 : FVec Ideal S8x8x128 .f32)⟩,
    ⟨S8x8x128, (shapeCast S8x8x128 (pad S8x1024 ![0, 0] ![0, 512] ![0, 0] (shapeCast S8x512 p.p5 shapeCasts_S8x4x128_S8x512) (sitofp .f32 (constantI S_ 32 0#32) : FVec Ideal S_ .f32) pads_S8x512_S8x1024_000_05120 h_S_) shapeCasts_S8x1024_S8x8x128 : FVec Ideal S8x8x128 .f32)⟩,
    ⟨S8x8x128, (shapeCast S8x8x128 (pad S8x1024 ![0, 0] ![0, 0] ![0, 0] (shapeCast S8x1024 p.p6 shapeCasts_S8x4x256_S8x1024) (sitofp .f32 (constantI S_ 32 0#32) : FVec Ideal S_ .f32) pads_S8x1024_S8x1024_000_000 h_S_) shapeCasts_S8x1024_S8x8x128 : FVec Ideal S8x8x128 .f32)⟩,
    ⟨S8x8x128, (shapeCast S8x8x128 (pad S8x1024 ![0, 0] ![0, 0] ![0, 0] (shapeCast S8x1024 p.p7 shapeCasts_S8x4x256_S8x1024) (sitofp .f32 (constantI S_ 32 0#32) : FVec Ideal S_ .f32) pads_S8x1024_S8x1024_000_000 h_S_) shapeCasts_S8x1024_S8x8x128 : FVec Ideal S8x8x128 .f32)⟩,
    ⟨S8x2048x128, (shapeCast S8x2048x128 (pad S8x262144 ![0, 0] ![0, 0] ![0, 0] (shapeCast S8x262144 p.p8 shapeCasts_S8x4x4x128x128_S8x262144) (sitofp .f32 (constantI S_ 32 0#32) : FVec Ideal S_ .f32) pads_S8x262144_S8x262144_000_000 h_S_) shapeCasts_S8x262144_S8x2048x128 : FVec Ideal S8x2048x128 .f32)⟩,
    ⟨S8x16x128, (shapeCast S8x16x128 (pad S8x2048 ![0, 0] ![0, 0] ![0, 0] (shapeCast S8x2048 p.p9 shapeCasts_S8x4x4x128_S8x2048) (sitofp .f32 (constantI S_ 32 0#32) : FVec Ideal S_ .f32) pads_S8x2048_S8x2048_000_000 h_S_) shapeCasts_S8x2048_S8x16x128 : FVec Ideal S8x16x128 .f32)⟩,
    ⟨S8x8x128, (shapeCast S8x8x128 (pad S8x1024 ![0, 0] ![0, 768] ![0, 0] (shapeCast S8x256 p.p10 shapeCasts_S8x4x64_S8x256) (sitofp .f32 (constantI S_ 32 0#32) : FVec Ideal S_ .f32) pads_S8x256_S8x1024_000_07680 h_S_) shapeCasts_S8x1024_S8x8x128 : FVec Ideal S8x8x128 .f32)⟩,
    ⟨S8x8x128, (shapeCast S8x8x128 (pad S8x1024 ![0, 0] ![0, 768] ![0, 0] (shapeCast S8x256 p.p11 shapeCasts_S8x4x64_S8x256) (sitofp .f32 (constantI S_ 32 0#32) : FVec Ideal S_ .f32) pads_S8x256_S8x1024_000_07680 h_S_) shapeCasts_S8x1024_S8x8x128 : FVec Ideal S8x8x128 .f32)⟩,
    ⟨S8x24x128, (broadcastInDim S8x24x128 ![1, 2] bcast_S24x128_S8x24x128_1_2 (broadcastInDim S24x128 ![] bcast_S_S24x128 (constant S_ .f32 0x00000000#32 : FVec Ideal S_ .f32) : FVec Ideal S24x128 .f32) : FVec Ideal S8x24x128 .f32)⟩]
    concatenates_S8x192x128_S8x32x128_S8x32x128_S8x8x128_S8x8x128_S8x8x128_S8x8x128_S8x8x128_S8x2048x128_S8x16x128_S8x8x128_S8x8x128_S8x24x128_S8x2400x128_d1

theorem towerP_entry (p : Parts) (s : Fin 8) (i : Fin 2400) (j : Fin 128) : towerP p (ix3 s i j) = entry (p.part s) i j := by
  unfold entry Parts.part
  pointwise [towerP, Cert.Adam.int_zero]

end Cert.Adam.Small

end
-- ==== Proof.AdamSmallRef.lean ====
/- The reference for the optimiser's last call, array by array, and the four results as layouts. -/
module

public import proofs.«01_k».proof.Proof.Gen.AdamSmallRefIdeal.Read
public import proofs.«01_k».proof.Proof.AdamSmallPack

@[expose] public section

set_option maxRecDepth 16384

noncomputable section

open Idealize.ShloMosaic Idealize.ShloMosaic.TcCoe

namespace Cert.Adam.Small
open Cert.AdamSmallIdeal Cert.AdamSmallRefIdeal.Read

theorem grad0 (p : FVec Ideal S8x4x6144 .f32) : (val_main_v0 (F := Ideal) p : FVec Ideal S4x6144 .f32) = fun j => @Finset.sum (Fin 8) EReal _ Finset.univ fun s => p (ix3 s (j 0) (j 1)) := by
  funext j
  idx_vars j
  pointwise [val_main_v0, val_main_cst]

theorem first0 (x : FVec Ideal S4x6144 .f32) (p : FVec Ideal S8x4x6144 .f32) : (val_main_v5 (F := Ideal) x p : FVec Ideal S4x6144 .f32) = fun j => first (x j) ((val_main_v0 (F := Ideal) p : FVec Ideal S4x6144 .f32) j) := by
  funext j
  idx_vars j
  pointwise [val_main_v5, val_main_v4, val_main_v3, val_main_v2, val_main_v1, val_main_cst_0, val_main_cst_1, first]

theorem second0 (x : FVec Ideal S4x6144 .f32) (p : FVec Ideal S8x4x6144 .f32) : (val_main_v11 (F := Ideal) x p : FVec Ideal S4x6144 .f32) = fun j => second (x j) ((val_main_v0 (F := Ideal) p : FVec Ideal S4x6144 .f32) j) := by
  funext j
  idx_vars j
  pointwise [val_main_v11, val_main_v10, val_main_v9, val_main_v8, val_main_v7, val_main_v6, val_main_cst_2, val_main_cst_3, second]

theorem step0 (w x y : FVec Ideal S4x6144 .f32) (p : FVec Ideal S8x4x6144 .f32) : (val_main_v24 (F := Ideal) w x y p : FVec Ideal S4x6144 .f32) = fun j => step (w j) (x j) (y j) ((val_main_v0 (F := Ideal) p : FVec Ideal S4x6144 .f32) j) := by
  funext j
  idx_vars j
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst_0, val_main_cst_1, val_main_cst_2, val_main_cst_3, val_main_cst_4, val_main_cst_5, val_main_cst_6, val_main_cst_7, val_main_cst_8, step, first, second]

theorem grad1 (p : FVec Ideal S8x4x1024 .f32) : (val_main_v25 (F := Ideal) p : FVec Ideal S4x1024 .f32) = fun j => @Finset.sum (Fin 8) EReal _ Finset.univ fun s => p (ix3 s (j 0) (j 1)) := by
  funext j
  idx_vars j
  pointwise [val_main_v25, val_main_cst_9]

theorem first1 (x : FVec Ideal S4x1024 .f32) (p : FVec Ideal S8x4x1024 .f32) : (val_main_v30 (F := Ideal) x p : FVec Ideal S4x1024 .f32) = fun j => first (x j) ((val_main_v25 (F := Ideal) p : FVec Ideal S4x1024 .f32) j) := by
  funext j
  idx_vars j
  pointwise [val_main_v30, val_main_v29, val_main_v28, val_main_v27, val_main_v26, val_main_cst_10, val_main_cst_11, first]

theorem second1 (x : FVec Ideal S4x1024 .f32) (p : FVec Ideal S8x4x1024 .f32) : (val_main_v36 (F := Ideal) x p : FVec Ideal S4x1024 .f32) = fun j => second (x j) ((val_main_v25 (F := Ideal) p : FVec Ideal S4x1024 .f32) j) := by
  funext j
  idx_vars j
  pointwise [val_main_v36, val_main_v35, val_main_v34, val_main_v33, val_main_v32, val_main_v31, val_main_cst_12, val_main_cst_13, second]

theorem step1 (w x y : FVec Ideal S4x1024 .f32) (p : FVec Ideal S8x4x1024 .f32) : (val_main_v49 (F := Ideal) w x y p : FVec Ideal S4x1024 .f32) = fun j => step (w j) (x j) (y j) ((val_main_v25 (F := Ideal) p : FVec Ideal S4x1024 .f32) j) := by
  funext j
  idx_vars j
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_cst_10, val_main_cst_11, val_main_cst_12, val_main_cst_13, val_main_cst_14, val_main_cst_15, val_main_cst_16, val_main_cst_17, val_main_cst_18, step, first, second]

theorem grad2 (p : FVec Ideal S8x4x1024 .f32) : (val_main_v50 (F := Ideal) p : FVec Ideal S4x1024 .f32) = fun j => @Finset.sum (Fin 8) EReal _ Finset.univ fun s => p (ix3 s (j 0) (j 1)) := by
  funext j
  idx_vars j
  pointwise [val_main_v50, val_main_cst_19]

theorem first2 (x : FVec Ideal S4x1024 .f32) (p : FVec Ideal S8x4x1024 .f32) : (val_main_v55 (F := Ideal) x p : FVec Ideal S4x1024 .f32) = fun j => first (x j) ((val_main_v50 (F := Ideal) p : FVec Ideal S4x1024 .f32) j) := by
  funext j
  idx_vars j
  pointwise [val_main_v55, val_main_v54, val_main_v53, val_main_v52, val_main_v51, val_main_cst_20, val_main_cst_21, first]

theorem second2 (x : FVec Ideal S4x1024 .f32) (p : FVec Ideal S8x4x1024 .f32) : (val_main_v61 (F := Ideal) x p : FVec Ideal S4x1024 .f32) = fun j => second (x j) ((val_main_v50 (F := Ideal) p : FVec Ideal S4x1024 .f32) j) := by
  funext j
  idx_vars j
  pointwise [val_main_v61, val_main_v60, val_main_v59, val_main_v58, val_main_v57, val_main_v56, val_main_cst_22, val_main_cst_23, second]

theorem step2 (w x y : FVec Ideal S4x1024 .f32) (p : FVec Ideal S8x4x1024 .f32) : (val_main_v74 (F := Ideal) w x y p : FVec Ideal S4x1024 .f32) = fun j => step (w j) (x j) (y j) ((val_main_v50 (F := Ideal) p : FVec Ideal S4x1024 .f32) j) := by
  funext j
  idx_vars j
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst_20, val_main_cst_21, val_main_cst_22, val_main_cst_23, val_main_cst_24, val_main_cst_25, val_main_cst_26, val_main_cst_27, val_main_cst_28, step, first, second]

theorem grad3 (p : FVec Ideal S8x4x4 .f32) : (val_main_v75 (F := Ideal) p : FVec Ideal S4x4 .f32) = fun j => @Finset.sum (Fin 8) EReal _ Finset.univ fun s => p (ix3 s (j 0) (j 1)) := by
  funext j
  idx_vars j
  pointwise [val_main_v75, val_main_cst_29]

theorem first3 (x : FVec Ideal S4x4 .f32) (p : FVec Ideal S8x4x4 .f32) : (val_main_v80 (F := Ideal) x p : FVec Ideal S4x4 .f32) = fun j => first (x j) ((val_main_v75 (F := Ideal) p : FVec Ideal S4x4 .f32) j) := by
  funext j
  idx_vars j
  pointwise [val_main_v80, val_main_v79, val_main_v78, val_main_v77, val_main_v76, val_main_cst_30, val_main_cst_31, first]

theorem second3 (x : FVec Ideal S4x4 .f32) (p : FVec Ideal S8x4x4 .f32) : (val_main_v86 (F := Ideal) x p : FVec Ideal S4x4 .f32) = fun j => second (x j) ((val_main_v75 (F := Ideal) p : FVec Ideal S4x4 .f32) j) := by
  funext j
  idx_vars j
  pointwise [val_main_v86, val_main_v85, val_main_v84, val_main_v83, val_main_v82, val_main_v81, val_main_cst_32, val_main_cst_33, second]

theorem step3 (w x y : FVec Ideal S4x4 .f32) (p : FVec Ideal S8x4x4 .f32) : (val_main_v99 (F := Ideal) w x y p : FVec Ideal S4x4 .f32) = fun j => step (w j) (x j) (y j) ((val_main_v75 (F := Ideal) p : FVec Ideal S4x4 .f32) j) := by
  funext j
  idx_vars j
  pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_cst_30, val_main_cst_31, val_main_cst_32, val_main_cst_33, val_main_cst_34, val_main_cst_35, val_main_cst_36, val_main_cst_37, val_main_cst_38, step, first, second]

theorem grad4 (p : FVec Ideal S8x4x4 .f32) : (val_main_v100 (F := Ideal) p : FVec Ideal S4x4 .f32) = fun j => @Finset.sum (Fin 8) EReal _ Finset.univ fun s => p (ix3 s (j 0) (j 1)) := by
  funext j
  idx_vars j
  pointwise [val_main_v100, val_main_cst_39]

theorem first4 (x : FVec Ideal S4x4 .f32) (p : FVec Ideal S8x4x4 .f32) : (val_main_v105 (F := Ideal) x p : FVec Ideal S4x4 .f32) = fun j => first (x j) ((val_main_v100 (F := Ideal) p : FVec Ideal S4x4 .f32) j) := by
  funext j
  idx_vars j
  pointwise [val_main_v105, val_main_v104, val_main_v103, val_main_v102, val_main_v101, val_main_cst_40, val_main_cst_41, first]

theorem second4 (x : FVec Ideal S4x4 .f32) (p : FVec Ideal S8x4x4 .f32) : (val_main_v111 (F := Ideal) x p : FVec Ideal S4x4 .f32) = fun j => second (x j) ((val_main_v100 (F := Ideal) p : FVec Ideal S4x4 .f32) j) := by
  funext j
  idx_vars j
  pointwise [val_main_v111, val_main_v110, val_main_v109, val_main_v108, val_main_v107, val_main_v106, val_main_cst_42, val_main_cst_43, second]

theorem step4 (w x y : FVec Ideal S4x4 .f32) (p : FVec Ideal S8x4x4 .f32) : (val_main_v124 (F := Ideal) w x y p : FVec Ideal S4x4 .f32) = fun j => step (w j) (x j) (y j) ((val_main_v100 (F := Ideal) p : FVec Ideal S4x4 .f32) j) := by
  funext j
  idx_vars j
  pointwise [val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_cst_40, val_main_cst_41, val_main_cst_42, val_main_cst_43, val_main_cst_44, val_main_cst_45, val_main_cst_46, val_main_cst_47, val_main_cst_48, step, first, second]

theorem grad5 (p : FVec Ideal S8x4x128 .f32) : (val_main_v125 (F := Ideal) p : FVec Ideal S4x128 .f32) = fun j => @Finset.sum (Fin 8) EReal _ Finset.univ fun s => p (ix3 s (j 0) (j 1)) := by
  funext j
  idx_vars j
  pointwise [val_main_v125, val_main_cst_49]

theorem first5 (x : FVec Ideal S4x128 .f32) (p : FVec Ideal S8x4x128 .f32) : (val_main_v130 (F := Ideal) x p : FVec Ideal S4x128 .f32) = fun j => first (x j) ((val_main_v125 (F := Ideal) p : FVec Ideal S4x128 .f32) j) := by
  funext j
  idx_vars j
  pointwise [val_main_v130, val_main_v129, val_main_v128, val_main_v127, val_main_v126, val_main_cst_50, val_main_cst_51, first]

theorem second5 (x : FVec Ideal S4x128 .f32) (p : FVec Ideal S8x4x128 .f32) : (val_main_v136 (F := Ideal) x p : FVec Ideal S4x128 .f32) = fun j => second (x j) ((val_main_v125 (F := Ideal) p : FVec Ideal S4x128 .f32) j) := by
  funext j
  idx_vars j
  pointwise [val_main_v136, val_main_v135, val_main_v134, val_main_v133, val_main_v132, val_main_v131, val_main_cst_52, val_main_cst_53, second]

theorem step5 (w x y : FVec Ideal S4x128 .f32) (p : FVec Ideal S8x4x128 .f32) : (val_main_v149 (F := Ideal) w x y p : FVec Ideal S4x128 .f32) = fun j => step (w j) (x j) (y j) ((val_main_v125 (F := Ideal) p : FVec Ideal S4x128 .f32) j) := by
  funext j
  idx_vars j
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_cst_50, val_main_cst_51, val_main_cst_52, val_main_cst_53, val_main_cst_54, val_main_cst_55, val_main_cst_56, val_main_cst_57, val_main_cst_58, step, first, second]

theorem grad6 (p : FVec Ideal S8x4x256 .f32) : (val_main_v150 (F := Ideal) p : FVec Ideal S4x256 .f32) = fun j => @Finset.sum (Fin 8) EReal _ Finset.univ fun s => p (ix3 s (j 0) (j 1)) := by
  funext j
  idx_vars j
  pointwise [val_main_v150, val_main_cst_59]

theorem first6 (x : FVec Ideal S4x256 .f32) (p : FVec Ideal S8x4x256 .f32) : (val_main_v155 (F := Ideal) x p : FVec Ideal S4x256 .f32) = fun j => first (x j) ((val_main_v150 (F := Ideal) p : FVec Ideal S4x256 .f32) j) := by
  funext j
  idx_vars j
  pointwise [val_main_v155, val_main_v154, val_main_v153, val_main_v152, val_main_v151, val_main_cst_60, val_main_cst_61, first]

theorem second6 (x : FVec Ideal S4x256 .f32) (p : FVec Ideal S8x4x256 .f32) : (val_main_v161 (F := Ideal) x p : FVec Ideal S4x256 .f32) = fun j => second (x j) ((val_main_v150 (F := Ideal) p : FVec Ideal S4x256 .f32) j) := by
  funext j
  idx_vars j
  pointwise [val_main_v161, val_main_v160, val_main_v159, val_main_v158, val_main_v157, val_main_v156, val_main_cst_62, val_main_cst_63, second]

theorem step6 (w x y : FVec Ideal S4x256 .f32) (p : FVec Ideal S8x4x256 .f32) : (val_main_v174 (F := Ideal) w x y p : FVec Ideal S4x256 .f32) = fun j => step (w j) (x j) (y j) ((val_main_v150 (F := Ideal) p : FVec Ideal S4x256 .f32) j) := by
  funext j
  idx_vars j
  pointwise [val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_cst_60, val_main_cst_61, val_main_cst_62, val_main_cst_63, val_main_cst_64, val_main_cst_65, val_main_cst_66, val_main_cst_67, val_main_cst_68, step, first, second]

theorem grad7 (p : FVec Ideal S8x4x256 .f32) : (val_main_v175 (F := Ideal) p : FVec Ideal S4x256 .f32) = fun j => @Finset.sum (Fin 8) EReal _ Finset.univ fun s => p (ix3 s (j 0) (j 1)) := by
  funext j
  idx_vars j
  pointwise [val_main_v175, val_main_cst_69]

theorem first7 (x : FVec Ideal S4x256 .f32) (p : FVec Ideal S8x4x256 .f32) : (val_main_v180 (F := Ideal) x p : FVec Ideal S4x256 .f32) = fun j => first (x j) ((val_main_v175 (F := Ideal) p : FVec Ideal S4x256 .f32) j) := by
  funext j
  idx_vars j
  pointwise [val_main_v180, val_main_v179, val_main_v178, val_main_v177, val_main_v176, val_main_cst_70, val_main_cst_71, first]

theorem second7 (x : FVec Ideal S4x256 .f32) (p : FVec Ideal S8x4x256 .f32) : (val_main_v186 (F := Ideal) x p : FVec Ideal S4x256 .f32) = fun j => second (x j) ((val_main_v175 (F := Ideal) p : FVec Ideal S4x256 .f32) j) := by
  funext j
  idx_vars j
  pointwise [val_main_v186, val_main_v185, val_main_v184, val_main_v183, val_main_v182, val_main_v181, val_main_cst_72, val_main_cst_73, second]

theorem step7 (w x y : FVec Ideal S4x256 .f32) (p : FVec Ideal S8x4x256 .f32) : (val_main_v199 (F := Ideal) w x y p : FVec Ideal S4x256 .f32) = fun j => step (w j) (x j) (y j) ((val_main_v175 (F := Ideal) p : FVec Ideal S4x256 .f32) j) := by
  funext j
  idx_vars j
  pointwise [val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_cst_70, val_main_cst_71, val_main_cst_72, val_main_cst_73, val_main_cst_74, val_main_cst_75, val_main_cst_76, val_main_cst_77, val_main_cst_78, step, first, second]

theorem grad8 (p : FVec Ideal S8x4x4x128x128 .f32) : (val_main_v200 (F := Ideal) p : FVec Ideal S4x4x128x128 .f32) = fun j => @Finset.sum (Fin 8) EReal _ Finset.univ fun s => p (ix5 s (j 0) (j 1) (j 2) (j 3)) := by
  funext j
  idx_vars j
  pointwise [val_main_v200, val_main_cst_79]

theorem first8 (x : FVec Ideal S4x4x128x128 .f32) (p : FVec Ideal S8x4x4x128x128 .f32) : (val_main_v205 (F := Ideal) x p : FVec Ideal S4x4x128x128 .f32) = fun j => first (x j) ((val_main_v200 (F := Ideal) p : FVec Ideal S4x4x128x128 .f32) j) := by
  funext j
  idx_vars j
  pointwise [val_main_v205, val_main_v204, val_main_v203, val_main_v202, val_main_v201, val_main_cst_80, val_main_cst_81, first]

theorem second8 (x : FVec Ideal S4x4x128x128 .f32) (p : FVec Ideal S8x4x4x128x128 .f32) : (val_main_v211 (F := Ideal) x p : FVec Ideal S4x4x128x128 .f32) = fun j => second (x j) ((val_main_v200 (F := Ideal) p : FVec Ideal S4x4x128x128 .f32) j) := by
  funext j
  idx_vars j
  pointwise [val_main_v211, val_main_v210, val_main_v209, val_main_v208, val_main_v207, val_main_v206, val_main_cst_82, val_main_cst_83, second]

theorem step8 (w x y : FVec Ideal S4x4x128x128 .f32) (p : FVec Ideal S8x4x4x128x128 .f32) : (val_main_v224 (F := Ideal) w x y p : FVec Ideal S4x4x128x128 .f32) = fun j => step (w j) (x j) (y j) ((val_main_v200 (F := Ideal) p : FVec Ideal S4x4x128x128 .f32) j) := by
  funext j
  idx_vars j
  pointwise [val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_cst_80, val_main_cst_81, val_main_cst_82, val_main_cst_83, val_main_cst_84, val_main_cst_85, val_main_cst_86, val_main_cst_87, val_main_cst_88, step, first, second]

theorem grad9 (p : FVec Ideal S8x4x4x128 .f32) : (val_main_v225 (F := Ideal) p : FVec Ideal S4x4x128 .f32) = fun j => @Finset.sum (Fin 8) EReal _ Finset.univ fun s => p (ix4 s (j 0) (j 1) (j 2)) := by
  funext j
  idx_vars j
  pointwise [val_main_v225, val_main_cst_89]

theorem first9 (x : FVec Ideal S4x4x128 .f32) (p : FVec Ideal S8x4x4x128 .f32) : (val_main_v230 (F := Ideal) x p : FVec Ideal S4x4x128 .f32) = fun j => first (x j) ((val_main_v225 (F := Ideal) p : FVec Ideal S4x4x128 .f32) j) := by
  funext j
  idx_vars j
  pointwise [val_main_v230, val_main_v229, val_main_v228, val_main_v227, val_main_v226, val_main_cst_90, val_main_cst_91, first]

theorem second9 (x : FVec Ideal S4x4x128 .f32) (p : FVec Ideal S8x4x4x128 .f32) : (val_main_v236 (F := Ideal) x p : FVec Ideal S4x4x128 .f32) = fun j => second (x j) ((val_main_v225 (F := Ideal) p : FVec Ideal S4x4x128 .f32) j) := by
  funext j
  idx_vars j
  pointwise [val_main_v236, val_main_v235, val_main_v234, val_main_v233, val_main_v232, val_main_v231, val_main_cst_92, val_main_cst_93, second]

theorem step9 (w x y : FVec Ideal S4x4x128 .f32) (p : FVec Ideal S8x4x4x128 .f32) : (val_main_v249 (F := Ideal) w x y p : FVec Ideal S4x4x128 .f32) = fun j => step (w j) (x j) (y j) ((val_main_v225 (F := Ideal) p : FVec Ideal S4x4x128 .f32) j) := by
  funext j
  idx_vars j
  pointwise [val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_cst_90, val_main_cst_91, val_main_cst_92, val_main_cst_93, val_main_cst_94, val_main_cst_95, val_main_cst_96, val_main_cst_97, val_main_cst_98, step, first, second]

theorem grad10 (p : FVec Ideal S8x4x64 .f32) : (val_main_v250 (F := Ideal) p : FVec Ideal S4x64 .f32) = fun j => @Finset.sum (Fin 8) EReal _ Finset.univ fun s => p (ix3 s (j 0) (j 1)) := by
  funext j
  idx_vars j
  pointwise [val_main_v250, val_main_cst_99]

theorem first10 (x : FVec Ideal S4x64 .f32) (p : FVec Ideal S8x4x64 .f32) : (val_main_v255 (F := Ideal) x p : FVec Ideal S4x64 .f32) = fun j => first (x j) ((val_main_v250 (F := Ideal) p : FVec Ideal S4x64 .f32) j) := by
  funext j
  idx_vars j
  pointwise [val_main_v255, val_main_v254, val_main_v253, val_main_v252, val_main_v251, val_main_cst_100, val_main_cst_101, first]

theorem second10 (x : FVec Ideal S4x64 .f32) (p : FVec Ideal S8x4x64 .f32) : (val_main_v261 (F := Ideal) x p : FVec Ideal S4x64 .f32) = fun j => second (x j) ((val_main_v250 (F := Ideal) p : FVec Ideal S4x64 .f32) j) := by
  funext j
  idx_vars j
  pointwise [val_main_v261, val_main_v260, val_main_v259, val_main_v258, val_main_v257, val_main_v256, val_main_cst_102, val_main_cst_103, second]

theorem step10 (w x y : FVec Ideal S4x64 .f32) (p : FVec Ideal S8x4x64 .f32) : (val_main_v274 (F := Ideal) w x y p : FVec Ideal S4x64 .f32) = fun j => step (w j) (x j) (y j) ((val_main_v250 (F := Ideal) p : FVec Ideal S4x64 .f32) j) := by
  funext j
  idx_vars j
  pointwise [val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_cst_100, val_main_cst_101, val_main_cst_102, val_main_cst_103, val_main_cst_104, val_main_cst_105, val_main_cst_106, val_main_cst_107, val_main_cst_108, step, first, second]

theorem grad11 (p : FVec Ideal S8x4x64 .f32) : (val_main_v275 (F := Ideal) p : FVec Ideal S4x64 .f32) = fun j => @Finset.sum (Fin 8) EReal _ Finset.univ fun s => p (ix3 s (j 0) (j 1)) := by
  funext j
  idx_vars j
  pointwise [val_main_v275, val_main_cst_109]

theorem first11 (x : FVec Ideal S4x64 .f32) (p : FVec Ideal S8x4x64 .f32) : (val_main_v280 (F := Ideal) x p : FVec Ideal S4x64 .f32) = fun j => first (x j) ((val_main_v275 (F := Ideal) p : FVec Ideal S4x64 .f32) j) := by
  funext j
  idx_vars j
  pointwise [val_main_v280, val_main_v279, val_main_v278, val_main_v277, val_main_v276, val_main_cst_110, val_main_cst_111, first]

theorem second11 (x : FVec Ideal S4x64 .f32) (p : FVec Ideal S8x4x64 .f32) : (val_main_v286 (F := Ideal) x p : FVec Ideal S4x64 .f32) = fun j => second (x j) ((val_main_v275 (F := Ideal) p : FVec Ideal S4x64 .f32) j) := by
  funext j
  idx_vars j
  pointwise [val_main_v286, val_main_v285, val_main_v284, val_main_v283, val_main_v282, val_main_v281, val_main_cst_112, val_main_cst_113, second]

theorem step11 (w x y : FVec Ideal S4x64 .f32) (p : FVec Ideal S8x4x64 .f32) : (val_main_v299 (F := Ideal) w x y p : FVec Ideal S4x64 .f32) = fun j => step (w j) (x j) (y j) ((val_main_v275 (F := Ideal) p : FVec Ideal S4x64 .f32) j) := by
  funext j
  idx_vars j
  pointwise [val_main_v299, val_main_v298, val_main_v297, val_main_v296, val_main_v295, val_main_v294, val_main_v293, val_main_v292, val_main_v291, val_main_v290, val_main_v289, val_main_v288, val_main_v287, val_main_v286, val_main_v285, val_main_v284, val_main_v283, val_main_v282, val_main_v281, val_main_v280, val_main_v279, val_main_v278, val_main_v277, val_main_v276, val_main_cst_110, val_main_cst_111, val_main_cst_112, val_main_cst_113, val_main_cst_114, val_main_cst_115, val_main_cst_116, val_main_cst_117, val_main_cst_118, step, first, second]

theorem refG (p : Parts) :
    (val_main_v337 (F := Ideal) p.p0 p.p1 p.p2 p.p3 p.p4 p.p5 p.p6 p.p7 p.p8 p.p9 p.p10 p.p11 : FVec Ideal S2400x128 .f32) = tower p.total := by
  have h : p.total = ⟨val_main_v0 (F := Ideal) p.p0, val_main_v25 (F := Ideal) p.p1, val_main_v50 (F := Ideal) p.p2, val_main_v75 (F := Ideal) p.p3, val_main_v100 (F := Ideal) p.p4, val_main_v125 (F := Ideal) p.p5, val_main_v150 (F := Ideal) p.p6, val_main_v175 (F := Ideal) p.p7, val_main_v200 (F := Ideal) p.p8, val_main_v225 (F := Ideal) p.p9, val_main_v250 (F := Ideal) p.p10, val_main_v275 (F := Ideal) p.p11⟩ := by
    simp only [grad0, grad1, grad2, grad3, grad4, grad5, grad6, grad7, grad8, grad9, grad10, grad11]
    rfl
  rw [h]
  rfl

theorem refD (w m v : Arrays) (p : Parts) :
    (val_main_v375 (F := Ideal) w.a0 w.a1 w.a2 w.a3 w.a4 w.a5 w.a6 w.a7 w.a8 w.a9 w.a10 w.a11 m.a0 m.a1 m.a2 m.a3 m.a4 m.a5 m.a6 m.a7 m.a8 m.a9 m.a10 m.a11 v.a0 v.a1 v.a2 v.a3 v.a4 v.a5 v.a6 v.a7 v.a8 v.a9 v.a10 v.a11 p.p0 p.p1 p.p2 p.p3 p.p4 p.p5 p.p6 p.p7 p.p8 p.p9 p.p10 p.p11 : FVec Ideal S2400x128 .f32) = tower (Arrays.map step w m v p.total) := by
  have h : (Arrays.map step w m v p.total) = ⟨val_main_v24 (F := Ideal) w.a0 m.a0 v.a0 p.p0, val_main_v49 (F := Ideal) w.a1 m.a1 v.a1 p.p1, val_main_v74 (F := Ideal) w.a2 m.a2 v.a2 p.p2, val_main_v99 (F := Ideal) w.a3 m.a3 v.a3 p.p3, val_main_v124 (F := Ideal) w.a4 m.a4 v.a4 p.p4, val_main_v149 (F := Ideal) w.a5 m.a5 v.a5 p.p5, val_main_v174 (F := Ideal) w.a6 m.a6 v.a6 p.p6, val_main_v199 (F := Ideal) w.a7 m.a7 v.a7 p.p7, val_main_v224 (F := Ideal) w.a8 m.a8 v.a8 p.p8, val_main_v249 (F := Ideal) w.a9 m.a9 v.a9 p.p9, val_main_v274 (F := Ideal) w.a10 m.a10 v.a10 p.p10, val_main_v299 (F := Ideal) w.a11 m.a11 v.a11 p.p11⟩ := by
    simp only [step0, step1, step2, step3, step4, step5, step6, step7, step8, step9, step10, step11, grad0, grad1, grad2, grad3, grad4, grad5, grad6, grad7, grad8, grad9, grad10, grad11]
    rfl
  rw [h]
  rfl

theorem refM (m : Arrays) (p : Parts) :
    (val_main_v413 (F := Ideal) m.a0 m.a1 m.a2 m.a3 m.a4 m.a5 m.a6 m.a7 m.a8 m.a9 m.a10 m.a11 p.p0 p.p1 p.p2 p.p3 p.p4 p.p5 p.p6 p.p7 p.p8 p.p9 p.p10 p.p11 : FVec Ideal S2400x128 .f32) = tower (Arrays.map (fun _ x _ d => first x d) m m m p.total) := by
  have h : (Arrays.map (fun _ x _ d => first x d) m m m p.total) = ⟨val_main_v5 (F := Ideal) m.a0 p.p0, val_main_v30 (F := Ideal) m.a1 p.p1, val_main_v55 (F := Ideal) m.a2 p.p2, val_main_v80 (F := Ideal) m.a3 p.p3, val_main_v105 (F := Ideal) m.a4 p.p4, val_main_v130 (F := Ideal) m.a5 p.p5, val_main_v155 (F := Ideal) m.a6 p.p6, val_main_v180 (F := Ideal) m.a7 p.p7, val_main_v205 (F := Ideal) m.a8 p.p8, val_main_v230 (F := Ideal) m.a9 p.p9, val_main_v255 (F := Ideal) m.a10 p.p10, val_main_v280 (F := Ideal) m.a11 p.p11⟩ := by
    simp only [first0, first1, first2, first3, first4, first5, first6, first7, first8, first9, first10, first11, grad0, grad1, grad2, grad3, grad4, grad5, grad6, grad7, grad8, grad9, grad10, grad11]
    rfl
  rw [h]
  rfl

theorem refV (v : Arrays) (p : Parts) :
    (val_main_v451 (F := Ideal) v.a0 v.a1 v.a2 v.a3 v.a4 v.a5 v.a6 v.a7 v.a8 v.a9 v.a10 v.a11 p.p0 p.p1 p.p2 p.p3 p.p4 p.p5 p.p6 p.p7 p.p8 p.p9 p.p10 p.p11 : FVec Ideal S2400x128 .f32) = tower (Arrays.map (fun _ _ x d => second x d) v v v p.total) := by
  have h : (Arrays.map (fun _ _ x d => second x d) v v v p.total) = ⟨val_main_v11 (F := Ideal) v.a0 p.p0, val_main_v36 (F := Ideal) v.a1 p.p1, val_main_v61 (F := Ideal) v.a2 p.p2, val_main_v86 (F := Ideal) v.a3 p.p3, val_main_v111 (F := Ideal) v.a4 p.p4, val_main_v136 (F := Ideal) v.a5 p.p5, val_main_v161 (F := Ideal) v.a6 p.p6, val_main_v186 (F := Ideal) v.a7 p.p7, val_main_v211 (F := Ideal) v.a8 p.p8, val_main_v236 (F := Ideal) v.a9 p.p9, val_main_v261 (F := Ideal) v.a10 p.p10, val_main_v286 (F := Ideal) v.a11 p.p11⟩ := by
    simp only [second0, second1, second2, second3, second4, second5, second6, second7, second8, second9, second10, second11, grad0, grad1, grad2, grad3, grad4, grad5, grad6, grad7, grad8, grad9, grad10, grad11]
    rfl
  rw [h]
  rfl

end Cert.Adam.Small

end
-- ==== Proof.AdamSmall.lean ====
/- The optimiser's update of the twelve small weights, packed into one call. -/
module

public import proofs.«01_k».proof.Defs
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.AdamSmallRef
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Adam.AdamSmall
open Cert.AdamSmallIdeal Cert.AdamSmallIdeal.Gen Cert.Adam.Small

variable (m : (ℓ : Loc nD τ sig) → Buf (Elt Ideal) ℓ)

/-- The arguments: the weights, their two moments, the parts of their gradients. -/
abbrev aW (c : Dev nD) : Arrays where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)

abbrev aM (c : Dev nD) : Arrays where
  a0 := m ((c : Thread nD τ).loc main_arg12)
  a1 := m ((c : Thread nD τ).loc main_arg13)
  a2 := m ((c : Thread nD τ).loc main_arg14)
  a3 := m ((c : Thread nD τ).loc main_arg15)
  a4 := m ((c : Thread nD τ).loc main_arg16)
  a5 := m ((c : Thread nD τ).loc main_arg17)
  a6 := m ((c : Thread nD τ).loc main_arg18)
  a7 := m ((c : Thread nD τ).loc main_arg19)
  a8 := m ((c : Thread nD τ).loc main_arg20)
  a9 := m ((c : Thread nD τ).loc main_arg21)
  a10 := m ((c : Thread nD τ).loc main_arg22)
  a11 := m ((c : Thread nD τ).loc main_arg23)

abbrev aV (c : Dev nD) : Arrays where
  a0 := m ((c : Thread nD τ).loc main_arg24)
  a1 := m ((c : Thread nD τ).loc main_arg25)
  a2 := m ((c : Thread nD τ).loc main_arg26)
  a3 := m ((c : Thread nD τ).loc main_arg27)
  a4 := m ((c : Thread nD τ).loc main_arg28)
  a5 := m ((c : Thread nD τ).loc main_arg29)
  a6 := m ((c : Thread nD τ).loc main_arg30)
  a7 := m ((c : Thread nD τ).loc main_arg31)
  a8 := m ((c : Thread nD τ).loc main_arg32)
  a9 := m ((c : Thread nD τ).loc main_arg33)
  a10 := m ((c : Thread nD τ).loc main_arg34)
  a11 := m ((c : Thread nD τ).loc main_arg35)

abbrev aP (c : Dev nD) : Parts where
  p0 := m ((c : Thread nD τ).loc main_arg36)
  p1 := m ((c : Thread nD τ).loc main_arg37)
  p2 := m ((c : Thread nD τ).loc main_arg38)
  p3 := m ((c : Thread nD τ).loc main_arg39)
  p4 := m ((c : Thread nD τ).loc main_arg40)
  p5 := m ((c : Thread nD τ).loc main_arg41)
  p6 := m ((c : Thread nD τ).loc main_arg42)
  p7 := m ((c : Thread nD τ).loc main_arg43)
  p8 := m ((c : Thread nD τ).loc main_arg44)
  p9 := m ((c : Thread nD τ).loc main_arg45)
  p10 := m ((c : Thread nD τ).loc main_arg46)
  p11 := m ((c : Thread nD τ).loc main_arg47)

theorem layW (c : Dev nD) : (V m c main_v37 : FVec Ideal S2400x128 .f32) = tower (aW m c) := by
  chain_rfl

theorem hostW (c : Dev nD) (i : Fin 2400) (j : Fin 128) : (V m c main_v37 : FVec Ideal S2400x128 .f32) (ix2 i j) = entry (aW m c) i j :=
  (congrFun (layW m c) _).trans (tower_entry _ i j)

theorem layM (c : Dev nD) : (V m c main_v75 : FVec Ideal S2400x128 .f32) = tower (aM m c) := by
  chain_rfl

theorem hostM (c : Dev nD) (i : Fin 2400) (j : Fin 128) : (V m c main_v75 : FVec Ideal S2400x128 .f32) (ix2 i j) = entry (aM m c) i j :=
  (congrFun (layM m c) _).trans (tower_entry _ i j)

theorem layV (c : Dev nD) : (V m c main_v113 : FVec Ideal S2400x128 .f32) = tower (aV m c) := by
  chain_rfl

theorem hostV (c : Dev nD) (i : Fin 2400) (j : Fin 128) : (V m c main_v113 : FVec Ideal S2400x128 .f32) (ix2 i j) = entry (aV m c) i j :=
  (congrFun (layV m c) _).trans (tower_entry _ i j)

theorem layP (c : Dev nD) : (V m c main_v152 : FVec Ideal S8x2400x128 .f32) = towerP (aP m c) := by
  chain_rfl

theorem hostP (c : Dev nD) (k : Fin 8) (i : Fin 2400) (j : Fin 128) :
    (V m c main_v152 : FVec Ideal S8x2400x128 .f32) (ix3 k i j) = entry ((aP m c).part k) i j :=
  (congrFun (layP m c) _).trans (towerP_entry _ k i j)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

theorem lim (t : Fin cfg0.N) : t.val < 3 := lt_of_lt_of_eq t.isLt N_0

/-- The row of the whole array that a row of a block is. -/
def ri (t : Fin cfg0.N) (r : Fin 800) : Fin 2400 := ⟨800 * t.val + r.val, by have := lim t; have := r.isLt; omega⟩

theorem blkW (c : Dev nD) (t : Fin cfg0.N) (r : Fin 800) (q : Fin 128) :
    (iblk m c 0 t : FVec Ideal S800x128 .f32) (ix2 r q) = entry (aW m c) (ri t r) q := by
  refine Eq.trans (b := V m c main_v37 (ix2 (ri t r) q)) ?_ (hostW m c _ _)
  blk_ext [iblk, idx t, ri]

theorem blkM (c : Dev nD) (t : Fin cfg0.N) (r : Fin 800) (q : Fin 128) :
    (iblk m c 1 t : FVec Ideal S800x128 .f32) (ix2 r q) = entry (aM m c) (ri t r) q := by
  refine Eq.trans (b := V m c main_v75 (ix2 (ri t r) q)) ?_ (hostM m c _ _)
  blk_ext [iblk, idx t, ri]

theorem blkV (c : Dev nD) (t : Fin cfg0.N) (r : Fin 800) (q : Fin 128) :
    (iblk m c 2 t : FVec Ideal S800x128 .f32) (ix2 r q) = entry (aV m c) (ri t r) q := by
  refine Eq.trans (b := V m c main_v113 (ix2 (ri t r) q)) ?_ (hostV m c _ _)
  blk_ext [iblk, idx t, ri]

theorem blkP (c : Dev nD) (t : Fin cfg0.N) (k : Fin 8) (r : Fin 800) (q : Fin 128) :
    (iblk m c 3 t : FVec Ideal S8x800x128 .f32) (ix3 k r q) = entry ((aP m c).part k) (ri t r) q := by
  refine Eq.trans (b := V m c main_v152 (ix3 k (ri t r) q)) ?_ (hostP m c _ _ _)
  blk_ext [iblk, idx t, ri]

theorem out4 (w mm v : FVec Ideal S800x128 .f32) (p : FVec Ideal S8x800x128 .f32) (r : Fin 800) (q : Fin 128) :
    out0_4 (F := Ideal) w mm v p (ix2 r q) = (∑ k : Fin 8, (p (ix3 k r q) : EReal)) := by
  frame_out
  rw [Fin.sum_univ_eight]
  pointwise [k0_pay1, k0_pay2, k0_pay3, k0_pay4, k0_pay5, k0_pay6, k0_pay7, k0_pay8, step, first, second]

theorem block4 (c : Dev nD) (t : Fin cfg0.N) (r : Fin 800) (q : Fin 128) :
    out0_4 (iblk m c 0 t) (iblk m c 1 t) (iblk m c 2 t) (iblk m c 3 t) (ix2 r q)
      = (entry (aP m c).total (ri t r) q) := by
  refine (out4 _ _ _ _ r q).trans ?_
  have hp : (@Finset.sum (Fin 8) EReal _ Finset.univ fun k => iblk m c 3 t (ix3 k r q)) = entry (aP m c).total (ri t r) q :=
    (congrArg (fun f : Fin 8 → EReal => @Finset.sum (Fin 8) EReal _ Finset.univ f) (funext fun k => blkP m c t k r q)).trans (entry_total (aP m c) (ri t r) q).symm
  exact hp

theorem out5 (w mm v : FVec Ideal S800x128 .f32) (p : FVec Ideal S8x800x128 .f32) (r : Fin 800) (q : Fin 128) :
    out0_5 (F := Ideal) w mm v p (ix2 r q) = step (w (ix2 r q)) (mm (ix2 r q)) (v (ix2 r q)) (∑ k : Fin 8, (p (ix3 k r q) : EReal)) := by
  frame_out
  rw [Fin.sum_univ_eight]
  pointwise [k0_pay1, k0_pay2, k0_pay3, k0_pay4, k0_pay5, k0_pay6, k0_pay7, k0_pay8, step, first, second]

theorem block5 (c : Dev nD) (t : Fin cfg0.N) (r : Fin 800) (q : Fin 128) :
    out0_5 (iblk m c 0 t) (iblk m c 1 t) (iblk m c 2 t) (iblk m c 3 t) (ix2 r q)
      = step (entry (aW m c) (ri t r) q) (entry (aM m c) (ri t r) q) (entry (aV m c) (ri t r) q) (entry (aP m c).total (ri t r) q) := by
  refine (out5 _ _ _ _ r q).trans ?_
  have hp : (@Finset.sum (Fin 8) EReal _ Finset.univ fun k => iblk m c 3 t (ix3 k r q)) = entry (aP m c).total (ri t r) q :=
    (congrArg (fun f : Fin 8 → EReal => @Finset.sum (Fin 8) EReal _ Finset.univ f) (funext fun k => blkP m c t k r q)).trans (entry_total (aP m c) (ri t r) q).symm
  exact congr (congr (congr (congrArg step (blkW m c t r q)) (blkM m c t r q)) (blkV m c t r q)) hp

theorem out6 (w mm v : FVec Ideal S800x128 .f32) (p : FVec Ideal S8x800x128 .f32) (r : Fin 800) (q : Fin 128) :
    out0_6 (F := Ideal) w mm v p (ix2 r q) = first (mm (ix2 r q)) (∑ k : Fin 8, (p (ix3 k r q) : EReal)) := by
  frame_out
  rw [Fin.sum_univ_eight]
  pointwise [k0_pay1, k0_pay2, k0_pay3, k0_pay4, k0_pay5, k0_pay6, k0_pay7, k0_pay8, step, first, second]

theorem block6 (c : Dev nD) (t : Fin cfg0.N) (r : Fin 800) (q : Fin 128) :
    out0_6 (iblk m c 0 t) (iblk m c 1 t) (iblk m c 2 t) (iblk m c 3 t) (ix2 r q)
      = first (entry (aM m c) (ri t r) q) (entry (aP m c).total (ri t r) q) := by
  refine (out6 _ _ _ _ r q).trans ?_
  have hp : (@Finset.sum (Fin 8) EReal _ Finset.univ fun k => iblk m c 3 t (ix3 k r q)) = entry (aP m c).total (ri t r) q :=
    (congrArg (fun f : Fin 8 → EReal => @Finset.sum (Fin 8) EReal _ Finset.univ f) (funext fun k => blkP m c t k r q)).trans (entry_total (aP m c) (ri t r) q).symm
  exact congrArg₂ first (blkM m c t r q) hp

theorem out7 (w mm v : FVec Ideal S800x128 .f32) (p : FVec Ideal S8x800x128 .f32) (r : Fin 800) (q : Fin 128) :
    out0_7 (F := Ideal) w mm v p (ix2 r q) = second (v (ix2 r q)) (∑ k : Fin 8, (p (ix3 k r q) : EReal)) := by
  frame_out
  rw [Fin.sum_univ_eight]
  pointwise [k0_pay1, k0_pay2, k0_pay3, k0_pay4, k0_pay5, k0_pay6, k0_pay7, k0_pay8, step, first, second]

theorem block7 (c : Dev nD) (t : Fin cfg0.N) (r : Fin 800) (q : Fin 128) :
    out0_7 (iblk m c 0 t) (iblk m c 1 t) (iblk m c 2 t) (iblk m c 3 t) (ix2 r q)
      = second (entry (aV m c) (ri t r) q) (entry (aP m c).total (ri t r) q) := by
  refine (out7 _ _ _ _ r q).trans ?_
  have hp : (@Finset.sum (Fin 8) EReal _ Finset.univ fun k => iblk m c 3 t (ix3 k r q)) = entry (aP m c).total (ri t r) q :=
    (congrArg (fun f : Fin 8 → EReal => @Finset.sum (Fin 8) EReal _ Finset.univ f) (funext fun k => blkP m c t k r q)).trans (entry_total (aP m c) (ri t r) q).symm
  exact congrArg₂ second (blkV m c t r q) hp

/-- The reference's array for output 4, of the arguments. -/
def goal4 (c : Dev nD) : FVec Ideal S2400x128 .f32 := Cert.AdamSmallRefIdeal.Read.val_main_v337 (F := Ideal) (aP m c).p0 (aP m c).p1 (aP m c).p2 (aP m c).p3 (aP m c).p4 (aP m c).p5 (aP m c).p6 (aP m c).p7 (aP m c).p8 (aP m c).p9 (aP m c).p10 (aP m c).p11

theorem ref4 (c : Dev nD) (i : Fin 2400) (j : Fin 128) : goal4 m c (ix2 i j) = (entry (aP m c).total i j) :=
  (congrFun (refG (aP m c)) _).trans (tower_entry _ i j)

theorem after4 (c : Dev nD) : (dats m 0 c).arrAt 4 (cfgs 0).N = goal4 m c := by
  refine (dats m 0 c).arrAt_eq_of_covers 4 _ (by decide +kernel) fun t hf y => ?_
  blk_simp
  rw [after0_4]
  idx_vars y
  refine (block4 m c t _ _).trans ((ref4 m c (ri t _) _).symm.trans ?_)
  blk_ext [idx t, ri]

/-- The reference's array for output 5, of the arguments. -/
def goal5 (c : Dev nD) : FVec Ideal S2400x128 .f32 := Cert.AdamSmallRefIdeal.Read.val_main_v375 (F := Ideal) (aW m c).a0 (aW m c).a1 (aW m c).a2 (aW m c).a3 (aW m c).a4 (aW m c).a5 (aW m c).a6 (aW m c).a7 (aW m c).a8 (aW m c).a9 (aW m c).a10 (aW m c).a11 (aM m c).a0 (aM m c).a1 (aM m c).a2 (aM m c).a3 (aM m c).a4 (aM m c).a5 (aM m c).a6 (aM m c).a7 (aM m c).a8 (aM m c).a9 (aM m c).a10 (aM m c).a11 (aV m c).a0 (aV m c).a1 (aV m c).a2 (aV m c).a3 (aV m c).a4 (aV m c).a5 (aV m c).a6 (aV m c).a7 (aV m c).a8 (aV m c).a9 (aV m c).a10 (aV m c).a11 (aP m c).p0 (aP m c).p1 (aP m c).p2 (aP m c).p3 (aP m c).p4 (aP m c).p5 (aP m c).p6 (aP m c).p7 (aP m c).p8 (aP m c).p9 (aP m c).p10 (aP m c).p11

theorem ref5 (c : Dev nD) (i : Fin 2400) (j : Fin 128) : goal5 m c (ix2 i j) = step (entry (aW m c) i j) (entry (aM m c) i j) (entry (aV m c) i j) (entry (aP m c).total i j) :=
  (congrFun (refD (aW m c) (aM m c) (aV m c) (aP m c)) _).trans ((tower_entry _ i j).trans (entry_map step step_zero _ _ _ _ i j))

theorem after5 (c : Dev nD) : (dats m 0 c).arrAt 5 (cfgs 0).N = goal5 m c := by
  refine (dats m 0 c).arrAt_eq_of_covers 5 _ (by decide +kernel) fun t hf y => ?_
  blk_simp
  rw [after0_5]
  idx_vars y
  refine (block5 m c t _ _).trans ((ref5 m c (ri t _) _).symm.trans ?_)
  blk_ext [idx t, ri]

/-- The reference's array for output 6, of the arguments. -/
def goal6 (c : Dev nD) : FVec Ideal S2400x128 .f32 := Cert.AdamSmallRefIdeal.Read.val_main_v413 (F := Ideal) (aM m c).a0 (aM m c).a1 (aM m c).a2 (aM m c).a3 (aM m c).a4 (aM m c).a5 (aM m c).a6 (aM m c).a7 (aM m c).a8 (aM m c).a9 (aM m c).a10 (aM m c).a11 (aP m c).p0 (aP m c).p1 (aP m c).p2 (aP m c).p3 (aP m c).p4 (aP m c).p5 (aP m c).p6 (aP m c).p7 (aP m c).p8 (aP m c).p9 (aP m c).p10 (aP m c).p11

theorem ref6 (c : Dev nD) (i : Fin 2400) (j : Fin 128) : goal6 m c (ix2 i j) = first (entry (aM m c) i j) (entry (aP m c).total i j) :=
  (congrFun (refM (aM m c) (aP m c)) _).trans ((tower_entry _ i j).trans (entry_map (fun _ x _ d => first x d) first_zero _ _ _ _ i j))

theorem after6 (c : Dev nD) : (dats m 0 c).arrAt 6 (cfgs 0).N = goal6 m c := by
  refine (dats m 0 c).arrAt_eq_of_covers 6 _ (by decide +kernel) fun t hf y => ?_
  blk_simp
  rw [after0_6]
  idx_vars y
  refine (block6 m c t _ _).trans ((ref6 m c (ri t _) _).symm.trans ?_)
  blk_ext [idx t, ri]

/-- The reference's array for output 7, of the arguments. -/
def goal7 (c : Dev nD) : FVec Ideal S2400x128 .f32 := Cert.AdamSmallRefIdeal.Read.val_main_v451 (F := Ideal) (aV m c).a0 (aV m c).a1 (aV m c).a2 (aV m c).a3 (aV m c).a4 (aV m c).a5 (aV m c).a6 (aV m c).a7 (aV m c).a8 (aV m c).a9 (aV m c).a10 (aV m c).a11 (aP m c).p0 (aP m c).p1 (aP m c).p2 (aP m c).p3 (aP m c).p4 (aP m c).p5 (aP m c).p6 (aP m c).p7 (aP m c).p8 (aP m c).p9 (aP m c).p10 (aP m c).p11

theorem ref7 (c : Dev nD) (i : Fin 2400) (j : Fin 128) : goal7 m c (ix2 i j) = second (entry (aV m c) i j) (entry (aP m c).total i j) :=
  (congrFun (refV (aV m c) (aP m c)) _).trans ((tower_entry _ i j).trans (entry_map (fun _ _ x d => second x d) second_zero _ _ _ _ i j))

theorem after7 (c : Dev nD) : (dats m 0 c).arrAt 7 (cfgs 0).N = goal7 m c := by
  refine (dats m 0 c).arrAt_eq_of_covers 7 _ (by decide +kernel) fun t hf y => ?_
  blk_simp
  rw [after0_7]
  idx_vars y
  refine (block7 m c t _ _).trans ((ref7 m c (ri t _) _).symm.trans ?_)
  blk_ext [idx t, ri]

theorem same4 {x36 y36 : FVec Ideal S8x4x6144 .f32} {x37 y37 : FVec Ideal S8x4x1024 .f32} {x38 y38 : FVec Ideal S8x4x1024 .f32} {x39 y39 : FVec Ideal S8x4x4 .f32} {x40 y40 : FVec Ideal S8x4x4 .f32} {x41 y41 : FVec Ideal S8x4x128 .f32} {x42 y42 : FVec Ideal S8x4x256 .f32} {x43 y43 : FVec Ideal S8x4x256 .f32} {x44 y44 : FVec Ideal S8x4x4x128x128 .f32} {x45 y45 : FVec Ideal S8x4x4x128 .f32} {x46 y46 : FVec Ideal S8x4x64 .f32} {x47 y47 : FVec Ideal S8x4x64 .f32} (h36 : x36 = y36) (h37 : x37 = y37) (h38 : x38 = y38) (h39 : x39 = y39) (h40 : x40 = y40) (h41 : x41 = y41) (h42 : x42 = y42) (h43 : x43 = y43) (h44 : x44 = y44) (h45 : x45 = y45) (h46 : x46 = y46) (h47 : x47 = y47) :
    Cert.AdamSmallRefIdeal.Read.val_main_v337 (F := Ideal) x36 x37 x38 x39 x40 x41 x42 x43 x44 x45 x46 x47
      = Cert.AdamSmallRefIdeal.Read.val_main_v337 (F := Ideal) y36 y37 y38 y39 y40 y41 y42 y43 y44 y45 y46 y47 := by
  subst h36 h37 h38 h39 h40 h41 h42 h43 h44 h45 h46 h47
  rfl

theorem same5 {x0 y0 : FVec Ideal S4x6144 .f32} {x1 y1 : FVec Ideal S4x1024 .f32} {x2 y2 : FVec Ideal S4x1024 .f32} {x3 y3 : FVec Ideal S4x4 .f32} {x4 y4 : FVec Ideal S4x4 .f32} {x5 y5 : FVec Ideal S4x128 .f32} {x6 y6 : FVec Ideal S4x256 .f32} {x7 y7 : FVec Ideal S4x256 .f32} {x8 y8 : FVec Ideal S4x4x128x128 .f32} {x9 y9 : FVec Ideal S4x4x128 .f32} {x10 y10 : FVec Ideal S4x64 .f32} {x11 y11 : FVec Ideal S4x64 .f32} {x12 y12 : FVec Ideal S4x6144 .f32} {x13 y13 : FVec Ideal S4x1024 .f32} {x14 y14 : FVec Ideal S4x1024 .f32} {x15 y15 : FVec Ideal S4x4 .f32} {x16 y16 : FVec Ideal S4x4 .f32} {x17 y17 : FVec Ideal S4x128 .f32} {x18 y18 : FVec Ideal S4x256 .f32} {x19 y19 : FVec Ideal S4x256 .f32} {x20 y20 : FVec Ideal S4x4x128x128 .f32} {x21 y21 : FVec Ideal S4x4x128 .f32} {x22 y22 : FVec Ideal S4x64 .f32} {x23 y23 : FVec Ideal S4x64 .f32} {x24 y24 : FVec Ideal S4x6144 .f32} {x25 y25 : FVec Ideal S4x1024 .f32} {x26 y26 : FVec Ideal S4x1024 .f32} {x27 y27 : FVec Ideal S4x4 .f32} {x28 y28 : FVec Ideal S4x4 .f32} {x29 y29 : FVec Ideal S4x128 .f32} {x30 y30 : FVec Ideal S4x256 .f32} {x31 y31 : FVec Ideal S4x256 .f32} {x32 y32 : FVec Ideal S4x4x128x128 .f32} {x33 y33 : FVec Ideal S4x4x128 .f32} {x34 y34 : FVec Ideal S4x64 .f32} {x35 y35 : FVec Ideal S4x64 .f32} {x36 y36 : FVec Ideal S8x4x6144 .f32} {x37 y37 : FVec Ideal S8x4x1024 .f32} {x38 y38 : FVec Ideal S8x4x1024 .f32} {x39 y39 : FVec Ideal S8x4x4 .f32} {x40 y40 : FVec Ideal S8x4x4 .f32} {x41 y41 : FVec Ideal S8x4x128 .f32} {x42 y42 : FVec Ideal S8x4x256 .f32} {x43 y43 : FVec Ideal S8x4x256 .f32} {x44 y44 : FVec Ideal S8x4x4x128x128 .f32} {x45 y45 : FVec Ideal S8x4x4x128 .f32} {x46 y46 : FVec Ideal S8x4x64 .f32} {x47 y47 : FVec Ideal S8x4x64 .f32} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) (h29 : x29 = y29) (h30 : x30 = y30) (h31 : x31 = y31) (h32 : x32 = y32) (h33 : x33 = y33) (h34 : x34 = y34) (h35 : x35 = y35) (h36 : x36 = y36) (h37 : x37 = y37) (h38 : x38 = y38) (h39 : x39 = y39) (h40 : x40 = y40) (h41 : x41 = y41) (h42 : x42 = y42) (h43 : x43 = y43) (h44 : x44 = y44) (h45 : x45 = y45) (h46 : x46 = y46) (h47 : x47 = y47) :
    Cert.AdamSmallRefIdeal.Read.val_main_v375 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47
      = Cert.AdamSmallRefIdeal.Read.val_main_v375 (F := Ideal) y0 y1 y2 y3 y4 y5 y6 y7 y8 y9 y10 y11 y12 y13 y14 y15 y16 y17 y18 y19 y20 y21 y22 y23 y24 y25 y26 y27 y28 y29 y30 y31 y32 y33 y34 y35 y36 y37 y38 y39 y40 y41 y42 y43 y44 y45 y46 y47 := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47
  rfl

theorem same6 {x12 y12 : FVec Ideal S4x6144 .f32} {x13 y13 : FVec Ideal S4x1024 .f32} {x14 y14 : FVec Ideal S4x1024 .f32} {x15 y15 : FVec Ideal S4x4 .f32} {x16 y16 : FVec Ideal S4x4 .f32} {x17 y17 : FVec Ideal S4x128 .f32} {x18 y18 : FVec Ideal S4x256 .f32} {x19 y19 : FVec Ideal S4x256 .f32} {x20 y20 : FVec Ideal S4x4x128x128 .f32} {x21 y21 : FVec Ideal S4x4x128 .f32} {x22 y22 : FVec Ideal S4x64 .f32} {x23 y23 : FVec Ideal S4x64 .f32} {x36 y36 : FVec Ideal S8x4x6144 .f32} {x37 y37 : FVec Ideal S8x4x1024 .f32} {x38 y38 : FVec Ideal S8x4x1024 .f32} {x39 y39 : FVec Ideal S8x4x4 .f32} {x40 y40 : FVec Ideal S8x4x4 .f32} {x41 y41 : FVec Ideal S8x4x128 .f32} {x42 y42 : FVec Ideal S8x4x256 .f32} {x43 y43 : FVec Ideal S8x4x256 .f32} {x44 y44 : FVec Ideal S8x4x4x128x128 .f32} {x45 y45 : FVec Ideal S8x4x4x128 .f32} {x46 y46 : FVec Ideal S8x4x64 .f32} {x47 y47 : FVec Ideal S8x4x64 .f32} (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h36 : x36 = y36) (h37 : x37 = y37) (h38 : x38 = y38) (h39 : x39 = y39) (h40 : x40 = y40) (h41 : x41 = y41) (h42 : x42 = y42) (h43 : x43 = y43) (h44 : x44 = y44) (h45 : x45 = y45) (h46 : x46 = y46) (h47 : x47 = y47) :
    Cert.AdamSmallRefIdeal.Read.val_main_v413 (F := Ideal) x12 x13 x14 x15 x16 x17 x18 x19 x20 x21 x22 x23 x36 x37 x38 x39 x40 x41 x42 x43 x44 x45 x46 x47
      = Cert.AdamSmallRefIdeal.Read.val_main_v413 (F := Ideal) y12 y13 y14 y15 y16 y17 y18 y19 y20 y21 y22 y23 y36 y37 y38 y39 y40 y41 y42 y43 y44 y45 y46 y47 := by
  subst h12 h13 h14 h15 h16 h17 h18 h19 h20 h21 h22 h23 h36 h37 h38 h39 h40 h41 h42 h43 h44 h45 h46 h47
  rfl

theorem same7 {x24 y24 : FVec Ideal S4x6144 .f32} {x25 y25 : FVec Ideal S4x1024 .f32} {x26 y26 : FVec Ideal S4x1024 .f32} {x27 y27 : FVec Ideal S4x4 .f32} {x28 y28 : FVec Ideal S4x4 .f32} {x29 y29 : FVec Ideal S4x128 .f32} {x30 y30 : FVec Ideal S4x256 .f32} {x31 y31 : FVec Ideal S4x256 .f32} {x32 y32 : FVec Ideal S4x4x128x128 .f32} {x33 y33 : FVec Ideal S4x4x128 .f32} {x34 y34 : FVec Ideal S4x64 .f32} {x35 y35 : FVec Ideal S4x64 .f32} {x36 y36 : FVec Ideal S8x4x6144 .f32} {x37 y37 : FVec Ideal S8x4x1024 .f32} {x38 y38 : FVec Ideal S8x4x1024 .f32} {x39 y39 : FVec Ideal S8x4x4 .f32} {x40 y40 : FVec Ideal S8x4x4 .f32} {x41 y41 : FVec Ideal S8x4x128 .f32} {x42 y42 : FVec Ideal S8x4x256 .f32} {x43 y43 : FVec Ideal S8x4x256 .f32} {x44 y44 : FVec Ideal S8x4x4x128x128 .f32} {x45 y45 : FVec Ideal S8x4x4x128 .f32} {x46 y46 : FVec Ideal S8x4x64 .f32} {x47 y47 : FVec Ideal S8x4x64 .f32} (h24 : x24 = y24) (h25 : x25 = y25) (h26 : x26 = y26) (h27 : x27 = y27) (h28 : x28 = y28) (h29 : x29 = y29) (h30 : x30 = y30) (h31 : x31 = y31) (h32 : x32 = y32) (h33 : x33 = y33) (h34 : x34 = y34) (h35 : x35 = y35) (h36 : x36 = y36) (h37 : x37 = y37) (h38 : x38 = y38) (h39 : x39 = y39) (h40 : x40 = y40) (h41 : x41 = y41) (h42 : x42 = y42) (h43 : x43 = y43) (h44 : x44 = y44) (h45 : x45 = y45) (h46 : x46 = y46) (h47 : x47 = y47) :
    Cert.AdamSmallRefIdeal.Read.val_main_v451 (F := Ideal) x24 x25 x26 x27 x28 x29 x30 x31 x32 x33 x34 x35 x36 x37 x38 x39 x40 x41 x42 x43 x44 x45 x46 x47
      = Cert.AdamSmallRefIdeal.Read.val_main_v451 (F := Ideal) y24 y25 y26 y27 y28 y29 y30 y31 y32 y33 y34 y35 y36 y37 y38 y39 y40 y41 y42 y43 y44 y45 y46 y47 := by
  subst h24 h25 h26 h27 h28 h29 h30 h31 h32 h33 h34 h35 h36 h37 h38 h39 h40 h41 h42 h43 h44 h45 h46 h47
  rfl

/-- The kernel and the reference end with the same four arrays. -/
theorem algebraic : Cert.algebraic_AdamSmallIdeal_AdamSmallRefIdeal := by
  intro m g m' g' _ hagree
  refine ⟨_, _, _, _, Cert.AdamSmallIdeal.Value.run_blocks m g, (θ_run _ _ _).mono (fun r h c => ?_) (Cert.AdamSmallRefIdeal.Value.run m' g')⟩
  obtain ⟨r0, r1, r2, r3, k⟩ := h c
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree c
  refine ⟨r0.trans ?_, r1.trans ?_, r2.trans ?_, r3.trans ?_, k⟩
  · refine (Cert.AdamSmallRefIdeal.Read.val_main_v337_eq _).trans (Eq.trans ?_ (after4 m c).symm)
    unfold goal4
    exact same4 h36 h37 h38 h39 h40 h41 h42 h43 h44 h45 h46 h47
  · refine (Cert.AdamSmallRefIdeal.Read.val_main_v375_eq _).trans (Eq.trans ?_ (after5 m c).symm)
    unfold goal5
    exact same5 h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47
  · refine (Cert.AdamSmallRefIdeal.Read.val_main_v413_eq _).trans (Eq.trans ?_ (after6 m c).symm)
    unfold goal6
    exact same6 h12 h13 h14 h15 h16 h17 h18 h19 h20 h21 h22 h23 h36 h37 h38 h39 h40 h41 h42 h43 h44 h45 h46 h47
  · refine (Cert.AdamSmallRefIdeal.Read.val_main_v451_eq _).trans (Eq.trans ?_ (after7 m c).symm)
    unfold goal7
    exact same7 h24 h25 h26 h27 h28 h29 h30 h31 h32 h33 h34 h35 h36 h37 h38 h39 h40 h41 h42 h43 h44 h45 h46 h47

/-- The reference returns with its arguments kept; it has no counters. -/
theorem refFrame : Cert.quiescent_AdamSmallRefIdeal := by
  intro m g _
  refine (θ_run _ _ _).mono (fun r h => ⟨fun c => ?_, sem_eq_zero_of_no_sems (by decide) _⟩) (Cert.AdamSmallRefIdeal.Value.run m g)
  obtain ⟨_, _, _, _, k⟩ := h c
  exact k

end Cert.Adam.AdamSmall

end
-- ==== Proof.lean ====
/- The certificate: per program its frames and the equality of its result with the reference's. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import proofs.«01_k».proof.Proof.FfnOutDx
public import proofs.«01_k».proof.Proof.FfnOutDw
public import proofs.«01_k».proof.Proof.FfnInDx
public import proofs.«01_k».proof.Proof.FfnInDw
public import proofs.«01_k».proof.Proof.OutProjDx
public import proofs.«01_k».proof.Proof.OutProjDw
public import proofs.«01_k».proof.Proof.OutProj
public import proofs.«01_k».proof.Proof.FfnIn
public import proofs.«01_k».proof.Proof.FfnOut
public import proofs.«01_k».proof.Proof.InProjDx
public import proofs.«01_k».proof.Proof.InProjDw
public import proofs.«01_k».proof.Proof.InProj
public import proofs.«01_k».proof.Proof.AdamWIn
public import proofs.«01_k».proof.Proof.AdamWOut
public import proofs.«01_k».proof.Proof.AdamFfnIn
public import proofs.«01_k».proof.Proof.AdamFfnOut
public import proofs.«01_k».proof.Proof.AdamConv
public import proofs.«01_k».proof.Proof.AdamWMod
public import proofs.«01_k».proof.Proof.ModNorm
public import proofs.«01_k».proof.Proof.Resid
public import proofs.«01_k».proof.Proof.SwiGlu
public import proofs.«01_k».proof.Proof.WModGrad
public import proofs.«01_k».proof.Proof.DnOut
public import proofs.«01_k».proof.Proof.LossHead
public import proofs.«01_k».proof.Proof.AdamSmall
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.FfnOutDx.Gen.facts,
  Cert.FfnOutDxIdeal.Gen.facts,
  Cert.FfnOutDxRefIdeal.Gen.facts,
  Cert.FfnOutDw.Gen.facts,
  Cert.FfnOutDwIdeal.Gen.facts,
  Cert.FfnOutDwRefIdeal.Gen.facts,
  Cert.FfnInDx.Gen.facts,
  Cert.FfnInDxIdeal.Gen.facts,
  Cert.FfnInDxRefIdeal.Gen.facts,
  Cert.FfnInDw.Gen.facts,
  Cert.FfnInDwIdeal.Gen.facts,
  Cert.FfnInDwRefIdeal.Gen.facts,
  Cert.OutProjDx.Gen.facts,
  Cert.OutProjDxIdeal.Gen.facts,
  Cert.OutProjDxRefIdeal.Gen.facts,
  Cert.OutProjDw.Gen.facts,
  Cert.OutProjDwIdeal.Gen.facts,
  Cert.OutProjDwRefIdeal.Gen.facts,
  Cert.InProjDx.Gen.facts,
  Cert.InProjDxIdeal.Gen.facts,
  Cert.InProjDxRefIdeal.Gen.facts,
  Cert.InProjDw.Gen.facts,
  Cert.InProjDwIdeal.Gen.facts,
  Cert.InProjDwRefIdeal.Gen.facts,
  Cert.InProj.Gen.facts,
  Cert.InProjIdeal.Gen.facts,
  Cert.InProjRefIdeal.Gen.facts,
  Cert.OutProj.Gen.facts,
  Cert.OutProjIdeal.Gen.facts,
  Cert.OutProjRefIdeal.Gen.facts,
  Cert.FfnIn.Gen.facts,
  Cert.FfnInIdeal.Gen.facts,
  Cert.FfnInRefIdeal.Gen.facts,
  Cert.FfnOut.Gen.facts,
  Cert.FfnOutIdeal.Gen.facts,
  Cert.FfnOutRefIdeal.Gen.facts,
  Cert.AdamWIn.Gen.facts,
  Cert.AdamWInIdeal.Gen.facts,
  Cert.AdamWInRefIdeal.Gen.facts,
  Cert.AdamWOut.Gen.facts,
  Cert.AdamWOutIdeal.Gen.facts,
  Cert.AdamWOutRefIdeal.Gen.facts,
  Cert.AdamFfnIn.Gen.facts,
  Cert.AdamFfnInIdeal.Gen.facts,
  Cert.AdamFfnInRefIdeal.Gen.facts,
  Cert.AdamFfnOut.Gen.facts,
  Cert.AdamFfnOutIdeal.Gen.facts,
  Cert.AdamFfnOutRefIdeal.Gen.facts,
  Cert.AdamConv.Gen.facts,
  Cert.AdamConvIdeal.Gen.facts,
  Cert.AdamConvRefIdeal.Gen.facts,
  Cert.AdamWMod.Gen.facts,
  Cert.AdamWModIdeal.Gen.facts,
  Cert.AdamWModRefIdeal.Gen.facts,
  Cert.ModNorm.Gen.facts,
  Cert.ModNormIdeal.Gen.facts,
  Cert.ModNormRefIdeal.Gen.facts,
  Cert.Resid.Gen.facts,
  Cert.ResidIdeal.Gen.facts,
  Cert.ResidRefIdeal.Gen.facts,
  Cert.SwiGlu.Gen.facts,
  Cert.SwiGluIdeal.Gen.facts,
  Cert.SwiGluRefIdeal.Gen.facts,
  Cert.DnOut.Gen.facts,
  Cert.DnOutIdeal.Gen.facts,
  Cert.DnOutRefIdeal.Gen.facts,
  Cert.WModGrad.Gen.facts,
  Cert.WModGradIdeal.Gen.facts,
  Cert.WModGradRefIdeal.Gen.facts,
  Cert.LossHead.Gen.facts,
  Cert.LossHeadIdeal.Gen.facts,
  Cert.LossHeadRefIdeal.Gen.facts,
  Cert.AdamSmall.Gen.facts,
  Cert.AdamSmallIdeal.Gen.facts,
  Cert.AdamSmallRefIdeal.Gen.facts,
  fun m ρ _ => Cert.Kernel.Gen.frame m ρ,
  fun m ρ _ => Cert.KernelIdeal.Gen.frame m ρ,
  Cert.Gmlp.refFrame,
  fun m ρ _ => Cert.FfnOutDx.Gen.frame m ρ,
  fun m ρ _ => Cert.FfnOutDxIdeal.Gen.frame m ρ,
  Cert.Products.FfnOutDx.refFrame,
  fun m ρ _ => Cert.FfnOutDw.Gen.frame m ρ,
  fun m ρ _ => Cert.FfnOutDwIdeal.Gen.frame m ρ,
  Cert.Products.FfnOutDw.refFrame,
  fun m ρ _ => Cert.FfnInDx.Gen.frame m ρ,
  fun m ρ _ => Cert.FfnInDxIdeal.Gen.frame m ρ,
  Cert.Products.FfnInDx.refFrame,
  fun m ρ _ => Cert.FfnInDw.Gen.frame m ρ,
  fun m ρ _ => Cert.FfnInDwIdeal.Gen.frame m ρ,
  Cert.Products.FfnInDw.refFrame,
  fun m ρ _ => Cert.OutProjDx.Gen.frame m ρ,
  fun m ρ _ => Cert.OutProjDxIdeal.Gen.frame m ρ,
  Cert.Products.OutProjDx.refFrame,
  fun m ρ _ => Cert.OutProjDw.Gen.frame m ρ,
  fun m ρ _ => Cert.OutProjDwIdeal.Gen.frame m ρ,
  Cert.Products.OutProjDw.refFrame,
  fun m ρ _ => Cert.InProjDx.Gen.frame m ρ,
  fun m ρ _ => Cert.InProjDxIdeal.Gen.frame m ρ,
  Cert.Products.InProjDx.refFrame,
  fun m ρ _ => Cert.InProjDw.Gen.frame m ρ,
  fun m ρ _ => Cert.InProjDwIdeal.Gen.frame m ρ,
  Cert.Products.InProjDw.refFrame,
  fun m ρ _ => Cert.InProj.Gen.frame m ρ,
  fun m ρ _ => Cert.InProjIdeal.Gen.frame m ρ,
  Cert.Products.InProj.refFrame,
  fun m ρ _ => Cert.OutProj.Gen.frame m ρ,
  fun m ρ _ => Cert.OutProjIdeal.Gen.frame m ρ,
  Cert.Products.OutProj.refFrame,
  fun m ρ _ => Cert.FfnIn.Gen.frame m ρ,
  fun m ρ _ => Cert.FfnInIdeal.Gen.frame m ρ,
  Cert.Products.FfnIn.refFrame,
  fun m ρ _ => Cert.FfnOut.Gen.frame m ρ,
  fun m ρ _ => Cert.FfnOutIdeal.Gen.frame m ρ,
  Cert.Products.FfnOut.refFrame,
  fun m ρ _ => Cert.AdamWIn.Gen.frame m ρ,
  fun m ρ _ => Cert.AdamWInIdeal.Gen.frame m ρ,
  Cert.Adam.AdamWIn.refFrame,
  fun m ρ _ => Cert.AdamWOut.Gen.frame m ρ,
  fun m ρ _ => Cert.AdamWOutIdeal.Gen.frame m ρ,
  Cert.Adam.AdamWOut.refFrame,
  fun m ρ _ => Cert.AdamFfnIn.Gen.frame m ρ,
  fun m ρ _ => Cert.AdamFfnInIdeal.Gen.frame m ρ,
  Cert.Adam.AdamFfnIn.refFrame,
  fun m ρ _ => Cert.AdamFfnOut.Gen.frame m ρ,
  fun m ρ _ => Cert.AdamFfnOutIdeal.Gen.frame m ρ,
  Cert.Adam.AdamFfnOut.refFrame,
  fun m ρ _ => Cert.AdamConv.Gen.frame m ρ,
  fun m ρ _ => Cert.AdamConvIdeal.Gen.frame m ρ,
  Cert.Adam.AdamConv.refFrame,
  fun m ρ _ => Cert.AdamWMod.Gen.frame m ρ,
  fun m ρ _ => Cert.AdamWModIdeal.Gen.frame m ρ,
  Cert.Adam.AdamWMod.refFrame,
  fun m ρ _ => Cert.ModNorm.Gen.frame m ρ,
  fun m ρ _ => Cert.ModNormIdeal.Gen.frame m ρ,
  Cert.Elementwise.ModNorm.refFrame,
  fun m ρ _ => Cert.Resid.Gen.frame m ρ,
  fun m ρ _ => Cert.ResidIdeal.Gen.frame m ρ,
  Cert.Elementwise.Resid.refFrame,
  fun m ρ _ => Cert.SwiGlu.Gen.frame m ρ,
  fun m ρ _ => Cert.SwiGluIdeal.Gen.frame m ρ,
  Cert.Elementwise.SwiGlu.refFrame,
  fun m ρ _ => Cert.DnOut.Gen.frame m ρ,
  fun m ρ _ => Cert.DnOutIdeal.Gen.frame m ρ,
  Cert.Elementwise.DnOut.refFrame,
  fun m ρ _ => Cert.WModGrad.Gen.frame m ρ,
  fun m ρ _ => Cert.WModGradIdeal.Gen.frame m ρ,
  Cert.Elementwise.WModGrad.refFrame,
  fun m ρ _ => Cert.LossHead.Gen.frame m ρ,
  fun m ρ _ => Cert.LossHeadIdeal.Gen.frame m ρ,
  Cert.Elementwise.LossHead.refFrame,
  fun m ρ _ => Cert.AdamSmall.Gen.frame m ρ,
  fun m ρ _ => Cert.AdamSmallIdeal.Gen.frame m ρ,
  Cert.Adam.AdamSmall.refFrame,
  trivial,
  Cert.Gmlp.algebraic,
  trivial,
  Cert.Products.FfnOutDx.algebraic,
  trivial,
  Cert.Products.FfnOutDw.algebraic,
  trivial,
  Cert.Products.FfnInDx.algebraic,
  trivial,
  Cert.Products.FfnInDw.algebraic,
  trivial,
  Cert.Products.OutProjDx.algebraic,
  trivial,
  Cert.Products.OutProjDw.algebraic,
  trivial,
  Cert.Products.InProjDx.algebraic,
  trivial,
  Cert.Products.InProjDw.algebraic,
  trivial,
  Cert.Products.InProj.algebraic,
  trivial,
  Cert.Products.OutProj.algebraic,
  trivial,
  Cert.Products.FfnIn.algebraic,
  trivial,
  Cert.Products.FfnOut.algebraic,
  trivial,
  Cert.Adam.AdamWIn.algebraic,
  trivial,
  Cert.Adam.AdamWOut.algebraic,
  trivial,
  Cert.Adam.AdamFfnIn.algebraic,
  trivial,
  Cert.Adam.AdamFfnOut.algebraic,
  trivial,
  Cert.Adam.AdamConv.algebraic,
  trivial,
  Cert.Adam.AdamWMod.algebraic,
  trivial,
  Cert.Elementwise.ModNorm.algebraic,
  trivial,
  Cert.Elementwise.Resid.algebraic,
  trivial,
  Cert.Elementwise.SwiGlu.algebraic,
  trivial,
  Cert.Elementwise.DnOut.algebraic,
  trivial,
  Cert.Elementwise.WModGrad.algebraic,
  trivial,
  Cert.Elementwise.LossHead.algebraic,
  trivial,
  Cert.Adam.AdamSmall.algebraic⟩

end Cert.Proof

end
